-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v2)) (v3 : (c : Dev Cert.Kernel2Ideal.nD) → Buf (Elt Ideal) ((c.tc : Thread Cert.Kernel2Ideal.nD Cert.Kernel2Ideal.τ).loc Cert.Kernel2Ideal.main_v3)) (v4 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v2) = v2 c
          ∧ r.2.mem ((c.tc : Thread Cert.Kernel2Ideal.nD Cert.Kernel2Ideal.τ).loc Cert.Kernel2Ideal.main_v3) = v3 c
          ∧ r.2.mem ((c.tc : Thread Cert.Kernel2Ideal.nD Cert.Kernel2Ideal.τ).loc Cert.Kernel2Ideal.main_v4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v24) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v5)) (v2 : (c : Dev Cert.Kernel4Ideal.nD) → Buf (Elt Ideal) ((c.tc : Thread Cert.Kernel4Ideal.nD Cert.Kernel4Ideal.τ).loc Cert.Kernel4Ideal.main_v4_1)) (v3 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v5) = v1 c
          ∧ r.2.mem ((c.tc : Thread Cert.Kernel4Ideal.nD Cert.Kernel4Ideal.τ).loc Cert.Kernel4Ideal.main_v4_1) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v72) = v2 c
          ∧ r.2.mem ((c.tc : Thread Cert.Reference4Ideal.nD Cert.Reference4Ideal.τ).loc Cert.Reference4Ideal.main_v87) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_v15) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v1_0)) (v3 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v1_0) = v2 c
          ∧ r.2.mem ((c.tc : Thread Cert.Kernel6Ideal.nD Cert.Kernel6Ideal.τ).loc Cert.Kernel6Ideal.main_v1_1) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v33) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v1)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v1) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v53) = v1 c
          ∧ r.2.mem ((c.tc : Thread Cert.Reference9Ideal.nD Cert.Reference9Ideal.τ).loc Cert.Reference9Ideal.main_v27) = v2 c
          ∧ r.2.mem ((c.tc : Thread Cert.Reference9Ideal.nD Cert.Reference9Ideal.τ).loc Cert.Reference9Ideal.main_v36) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v35) = v0 c
          ∧ r.2.mem ((c.tc : Thread Cert.Reference10Ideal.nD Cert.Reference10Ideal.τ).loc Cert.Reference10Ideal.main_v36) = v1 c
          ∧ r.2.mem ((c.tc : Thread Cert.Reference10Ideal.nD Cert.Reference10Ideal.τ).loc Cert.Reference10Ideal.main_v18) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  IdealRules.named_const.Statement Cert.Kernel12Ideal.κ "inv_bc1" .f32 0x3FC48605#32 ((8388608 / 5463681 : ℝ) : EReal)
  ∧ IdealRules.named_const.Statement Cert.Kernel12Ideal.κ "inv_bc2" .f32 0x42C8E6D3#32 ((268435456 / 2672307 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg1) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "inv_bc1" .f32 0x3FC48605#32 ((8388608 / 5463681 : ℝ) : EReal)
  ∧ IdealRules.named_const.Statement Cert.Kernel13Ideal.κ "inv_bc2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg1) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "inv_bc1" .f32 0x3FC48605#32 ((8388608 / 5463681 : ℝ) : EReal)
  ∧ IdealRules.named_const.Statement Cert.Kernel14Ideal.κ "inv_bc2" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg1) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "inv_bc1" .f32 0x3FC48605#32 ((8388608 / 5463681 : ℝ) : EReal)
  ∧ IdealRules.named_const.Statement Cert.Kernel15Ideal.κ "inv_bc2" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg1) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "inv_bc1" .f32 0x3FC48605#32 ((8388608 / 5463681 : ℝ) : EReal)
  ∧ IdealRules.named_const.Statement Cert.Kernel16Ideal.κ "inv_bc2" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg1) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "inv_bc1" .f32 0x3FC48605#32 ((8388608 / 5463681 : ℝ) : EReal)
  ∧ IdealRules.named_const.Statement Cert.Kernel17Ideal.κ "inv_bc2" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite2.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg3 : FVec F S2048x5632 .bf16) (main_arg4 : FVec F S5632x2048 .bf16) (main_v11 : IVec S_ 1) (main_v16 : IVec S_ 1) : IVec S_ 1 :=
  let main_v17 : IVec S_ 1 := andi main_v11 main_v16
  let main_v18 : FVec F S2048x5632 .f32 := (extf .f32 · bitsLt_bf16_f32) main_arg3
  let main_v19 : FVec F S2048x5632 .f32 := Host.absf main_v18
  let main_cst_5 : FVec F S_ .f32 := constant S_ .f32 0x7F800000#32
  let main_v20 : FVec F S2048x5632 .f32 := broadcastInDim S2048x5632 ![] bcast_S_S2048x5632 main_cst_5
  let main_v21 : IVec S2048x5632 1 := cmpf .olt main_v19 main_v20
  let main_c_6 : IVec S_ 1 := constantI S_ 1 1#1
  let main_v22 : IVec S_ 1 := (fun x v => Host.reduce IntOp.andi x v reducesTo_S2048x5632_S_d0_1 h_S_) main_v21 main_c_6
  let main_v23 : IVec S_ 1 := andi main_v17 main_v22
  let main_v24 : FVec F S5632x2048 .f32 := (extf .f32 · bitsLt_bf16_f32) main_arg4
  let main_v25 : FVec F S5632x2048 .f32 := Host.absf main_v24
  let main_cst_7 : FVec F S_ .f32 := constant S_ .f32 0x7F800000#32
  let main_v26 : FVec F S5632x2048 .f32 := broadcastInDim S5632x2048 ![] bcast_S_S5632x2048 main_cst_7
  let main_v27 : IVec S5632x2048 1 := cmpf .olt main_v25 main_v26
  let main_c_8 : IVec S_ 1 := constantI S_ 1 1#1
  let main_v28 : IVec S_ 1 := (fun x v => Host.reduce IntOp.andi x v reducesTo_S5632x2048_S_d0_1 h_S_) main_v27 main_c_8
  let main_v29 : IVec S_ 1 := andi main_v23 main_v28
  main_v29

def fn {F : FTy → Type} [FloatOps F] (main_arg0 : FVec F S4096x2048 .bf16) (main_arg1 : FVec F S4096x2048 .bf16) (main_arg2 : FVec F S2048x5632 .bf16) (main_arg3 : FVec F S2048x5632 .bf16) (main_arg4 : FVec F S5632x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_c_0 : IVec S_ 1 := constantI S_ 1 1#1
  let main_v5 : IVec S_ 1 := andi main_c_0 main_v4
  let main_v6 : FVec F S4096x2048 .f32 := (extf .f32 · bitsLt_bf16_f32) main_arg1
  let main_v7 : FVec F S4096x2048 .f32 := Host.absf main_v6
  let main_cst_1 : FVec F S_ .f32 := constant S_ .f32 0x7F800000#32
  let main_v8 : FVec F S4096x2048 .f32 := broadcastInDim S4096x2048 ![] bcast_S_S4096x2048 main_cst_1
  let main_v9 : IVec S4096x2048 1 := cmpf .olt main_v7 main_v8
  let main_c_2 : IVec S_ 1 := constantI S_ 1 1#1
  let main_v10 : IVec S_ 1 := (fun x v => Host.reduce IntOp.andi x v reducesTo_S4096x2048_S_d0_1 h_S_) main_v9 main_c_2
  let main_v11 : IVec S_ 1 := andi main_v5 main_v10
  let main_v12 : FVec F S2048x5632 .f32 := (extf .f32 · bitsLt_bf16_f32) main_arg2
  let main_v13 : FVec F S2048x5632 .f32 := Host.absf main_v12
  let main_cst_3 : FVec F S_ .f32 := constant S_ .f32 0x7F800000#32
  let main_v14 : FVec F S2048x5632 .f32 := broadcastInDim S2048x5632 ![] bcast_S_S2048x5632 main_cst_3
  let main_v15 : IVec S2048x5632 1 := cmpf .olt main_v13 main_v14
  let main_c_4 : IVec S_ 1 := constantI S_ 1 1#1
  let main_v16 : IVec S_ 1 := (fun x v => Host.reduce IntOp.andi x v reducesTo_S2048x5632_S_d0_1 h_S_) main_v15 main_c_4
  fn_part1 (F := F) main_arg3 main_arg4 main_v11 main_v16
-- ==== Kernel.lean ====
abbrev S4096x2048 : Shape := ⟨2, ![4096, 2048]⟩
abbrev S4096x6144 : Shape := ⟨2, ![4096, 6144]⟩
abbrev S3x2048 : Shape := ⟨2, ![3, 2048]⟩
abbrev S256x2048 : Shape := ⟨2, ![256, 2048]⟩
abbrev S16x2048 : Shape := ⟨2, ![16, 2048]⟩
abbrev S256x6144 : Shape := ⟨2, ![256, 6144]⟩
abbrev S272x2048 : Shape := ⟨2, ![272, 2048]⟩
abbrev S1x2048 : Shape := ⟨2, ![1, 2048]⟩
abbrev S2048 : Shape := ⟨1, ![2048]⟩

abbrev nBuf : Space → Nat
  | .hbm => 5
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S3x2048, .f32⟩
  | .hbm, ⟨3, _⟩ => ⟨S4096x6144, .bf16⟩
  | .hbm, ⟨4, _⟩ => ⟨S3x2048, .f32⟩
  | .local _ .vmem, ⟨0, _⟩ => ⟨S256x2048, .bf16⟩
  | .local _ .vmem, ⟨1, _⟩ => ⟨S256x2048, .bf16⟩
  | .local _ .vmem, ⟨2, _⟩ => ⟨S16x2048, .bf16⟩
  | .local _ .vmem, ⟨3, _⟩ => ⟨S16x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S16x2048, .bf16⟩
  | .local _ .vmem, ⟨11, _⟩ => ⟨S16x2048, .bf16⟩
  | .local _ .vmem, ⟨12, _⟩ => ⟨S16x2048, .bf16⟩
  | .local _ .vmem, ⟨13, _⟩ => ⟨S16x2048, .bf16⟩
  | .local _ .vmem, ⟨14, _⟩ => ⟨S16x2048, .bf16⟩
  | .local _ .vmem, ⟨15, _⟩ => ⟨S16x2048, .bf16⟩
  | .local _ .vmem, ⟨16, _⟩ => ⟨S3x2048, .f32⟩
  | .local _ .vmem, ⟨17, _⟩ => ⟨S256x6144, .bf16⟩
  | .local _ .vmem, ⟨18, _⟩ => ⟨S256x6144, .bf16⟩
  | .local _ .vmem, ⟨19, _⟩ => ⟨S3x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x6144 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x2048 : Shape := ⟨2, ![4096, 2048]⟩
abbrev S4096x6144 : Shape := ⟨2, ![4096, 6144]⟩
abbrev S3x2048 : Shape := ⟨2, ![3, 2048]⟩
abbrev S2x2048x6144 : Shape := ⟨3, ![2, 2048, 6144]⟩
abbrev S2x2048x2048 : Shape := ⟨3, ![2, 2048, 2048]⟩
abbrev S_ : Shape := ⟨0, ![]⟩
abbrev S2x2x2048 : Shape := ⟨3, ![2, 2, 2048]⟩
abbrev S2x2050x2048 : Shape := ⟨3, ![2, 2050, 2048]⟩
abbrev S1x2048 : Shape := ⟨2, ![1, 2048]⟩
abbrev S2048 : Shape := ⟨1, ![2048]⟩
abbrev S1x1x2048 : Shape := ⟨3, ![1, 1, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S3x2048, .f32⟩
  | .hbm, ⟨3, _⟩ => ⟨S4096x6144, .f32⟩
  | .hbm, ⟨4, _⟩ => ⟨S2x2048x6144, .f32⟩
  | .hbm, ⟨5, _⟩ => ⟨S4096x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2x2048, .f32⟩
  | .hbm, ⟨13, _⟩ => ⟨S2x2050x2048, .f32⟩
  | .hbm, ⟨14, _⟩ => ⟨S_, .f32⟩
  | .hbm, ⟨15, _⟩ => ⟨S2x2x2048, .f32⟩
  | .hbm, ⟨16, _⟩ => ⟨S1x2048, .f32⟩
  | .hbm, ⟨17, _⟩ => ⟨S2048, .f32⟩
  | .hbm, ⟨18, _⟩ => ⟨S2x2048x2048, .f32⟩
  | .hbm, ⟨19, _⟩ => ⟨S1x1x2048, .f32⟩
  | .hbm, ⟨20, _⟩ => ⟨S2x2048x2048, .f32⟩
  | .hbm, ⟨21, _⟩ => ⟨S2x2048x2048, .f32⟩
  | .hbm, ⟨22, _⟩ => ⟨S1x2048, .f32⟩
  | .hbm, ⟨23, _⟩ => ⟨S2048, .f32⟩
  | .hbm, ⟨24, _⟩ => ⟨S2x2048x2048, .f32⟩
  | .hbm, ⟨25, _⟩ => ⟨S1x1x2048, .f32⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S1x2048, .f32⟩
  | .hbm, ⟨30, _⟩ => ⟨S2048, .f32⟩
  | .hbm, ⟨31, _⟩ => ⟨S2x2048x2048, .f32⟩
  | .hbm, ⟨32, _⟩ => ⟨S1x1x2048, .f32⟩
  | .hbm, ⟨33, _⟩ => ⟨S2x2048x2048, .f32⟩
  | .hbm, ⟨34, _⟩ => ⟨S2x2048x2048, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S_, .f32⟩
  | .hbm, ⟨43, _⟩ => ⟨S2048, .f32⟩
  | .hbm, ⟨44, _⟩ => ⟨S1x1x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2x2050x2048, .f32⟩
  | .hbm, ⟨49, _⟩ => ⟨S1x2048, .f32⟩
  | .hbm, ⟨50, _⟩ => ⟨S_, .f32⟩
  | .hbm, ⟨51, _⟩ => ⟨S3x2048, .f32⟩
  | .hbm, ⟨52, _⟩ => ⟨S2x2048x2048, .f32⟩
  | .hbm, ⟨53, _⟩ => ⟨S2x2048x2048, .f32⟩
  | .hbm, ⟨54, _⟩ => ⟨S2x2048x2048, .f32⟩
  | .hbm, ⟨55, _⟩ => ⟨S_, .f32⟩
  | .hbm, ⟨56, _⟩ => ⟨S2048, .f32⟩
  | .hbm, ⟨57, _⟩ => ⟨S1x1x2048, .f32⟩
  | .hbm, ⟨58, _⟩ => ⟨S_, .f32⟩
  | .hbm, ⟨59, _⟩ => ⟨S2048, .f32⟩
  | .hbm, ⟨60, _⟩ => ⟨S_, .f32⟩
  | .hbm, ⟨61, _⟩ => ⟨S2x2050x2048, .f32⟩
  | .hbm, ⟨62, _⟩ => ⟨S2x2050x2048, .f32⟩
  | .hbm, ⟨63, _⟩ => ⟨S1x2048, .f32⟩
  | .hbm, ⟨64, _⟩ => ⟨S_, .f32⟩
  | .hbm, ⟨65, _⟩ => ⟨S3x2048, .f32⟩
  | .hbm, ⟨66, _⟩ => ⟨S3x2048, .f32⟩
  | .hbm, ⟨67, _⟩ => ⟨S2x2048x2048, .f32⟩
  | .hbm, ⟨68, _⟩ => ⟨S2x2048x2048, .f32⟩
  | .hbm, ⟨69, _⟩ => ⟨S2x2048x2048, .f32⟩
  | .hbm, ⟨70, _⟩ => ⟨S_, .f32⟩
  | .hbm, ⟨71, _⟩ => ⟨S2048, .f32⟩
  | .hbm, ⟨72, _⟩ => ⟨S1x1x2048, .f32⟩
  | .hbm, ⟨73, _⟩ => ⟨S_, .f32⟩
  | .hbm, ⟨74, _⟩ => ⟨S2048, .f32⟩
  | .hbm, ⟨75, _⟩ => ⟨S_, .f32⟩
  | .hbm, ⟨76, _⟩ => ⟨S2x2050x2048, .f32⟩
  | .hbm, ⟨77, _⟩ => ⟨S2x2050x2048, .f32⟩
  | .hbm, ⟨78, _⟩ => ⟨S1x2048, .f32⟩
  | .hbm, ⟨79, _⟩ => ⟨S_, .f32⟩
  | .hbm, ⟨80, _⟩ => ⟨S3x2048, .f32⟩
  | .hbm, ⟨81, _⟩ => ⟨S3x2048, .f32⟩
  | .hbm, ⟨82, _⟩ => ⟨S2x2x2048, .f32⟩
  | .hbm, ⟨83, _⟩ => ⟨S2x2048x2048, .f32⟩
  | .hbm, ⟨84, _⟩ => ⟨S2x2048x2048, .f32⟩
  | .hbm, ⟨85, _⟩ => ⟨S2x2048x2048, .f32⟩
  | .hbm, ⟨86, _⟩ => ⟨S_, .f32⟩
  | .hbm, ⟨87, _⟩ => ⟨S2x2048x6144, .f32⟩
  | .hbm, ⟨88, _⟩ => ⟨S_, .f32⟩
  | .hbm, ⟨89, _⟩ => ⟨S2x2048x6144, .f32⟩
  | .hbm, ⟨90, _⟩ => ⟨S2x2048x6144, .f32⟩
  | .hbm, ⟨91, _⟩ => ⟨S_, .f32⟩
  | .hbm, ⟨92, _⟩ => ⟨S2x2048x6144, .f32⟩
  | .hbm, ⟨93, _⟩ => ⟨S2x2048x6144, .f32⟩
  | .hbm, ⟨94, _⟩ => ⟨S4096x6144, .f32⟩
  | .hbm, ⟨95, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_cst_14 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩

abbrev nD : Nat := 1
abbrev τ : Topo := Topo.v7x

variable {F : FTy → Type} [FloatOps F]
-- ==== Kernel2.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩
abbrev S2048x2048 : Shape := ⟨2, ![2048, 2048]⟩
abbrev S512x2048 : Shape := ⟨2, ![512, 2048]⟩
abbrev S512x512 : Shape := ⟨2, ![512, 512]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 13
  | .vmem => 42
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4096x5632, .bf16⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .hbm, ⟨10, _⟩ => ⟨S5632x2048, .bf16⟩
  | .hbm, ⟨11, _⟩ => ⟨S2048x5632, .bf16⟩
  | .hbm, ⟨12, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x2048, .bf16⟩
  | .local _ .vmem, ⟨15, _⟩ => ⟨S2048x2048, .bf16⟩
  | .local _ .vmem, ⟨16, _⟩ => ⟨S512x2048, .bf16⟩
  | .local _ .vmem, ⟨17, _⟩ => ⟨S512x2048, .bf16⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | .local _ .vmem, ⟨21, _⟩ => ⟨S2048x512, .bf16⟩
  | .local _ .vmem, ⟨22, _⟩ => ⟨S2048x512, .bf16⟩
  | .local _ .vmem, ⟨23, _⟩ => ⟨S2048x512, .bf16⟩
  | .local _ .vmem, ⟨24, _⟩ => ⟨S2048x512, .bf16⟩
  | .local _ .vmem, ⟨25, _⟩ => ⟨S2048x512, .bf16⟩
  | .local _ .vmem, ⟨26, _⟩ => ⟨S4096x512, .bf16⟩
  | .local _ .vmem, ⟨27, _⟩ => ⟨S4096x512, .bf16⟩
  | .local _ .vmem, ⟨28, _⟩ => ⟨S4096x1024, .bf16⟩
  | .local _ .vmem, ⟨29, _⟩ => ⟨S4096x1024, .bf16⟩
  | .local _ .vmem, ⟨30, _⟩ => ⟨S512x1024, .bf16⟩
  | .local _ .vmem, ⟨31, _⟩ => ⟨S512x1024, .bf16⟩
  | .local _ .vmem, ⟨32, _⟩ => ⟨S4096x2048, .bf16⟩
  | .local _ .vmem, ⟨33, _⟩ => ⟨S4096x512, .bf16⟩
  | .local _ .vmem, ⟨34, _⟩ => ⟨S4096x512, .bf16⟩
  | .local _ .vmem, ⟨35, _⟩ => ⟨S2048x512, .bf16⟩
  | .local _ .vmem, ⟨36, _⟩ => ⟨S2048x512, .bf16⟩
  | .local _ .vmem, ⟨37, _⟩ => ⟨S4096x2048, .bf16⟩
  | .local _ .vmem, ⟨38, _⟩ => ⟨S4096x512, .bf16⟩
  | .local _ .vmem, ⟨39, _⟩ => ⟨S4096x512, .bf16⟩
  | .local _ .vmem, ⟨40, _⟩ => ⟨S2048x512, .bf16⟩
  | .local _ .vmem, ⟨41, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc3_stg0_0 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc4_stg0_0 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc3_sem0_0 : DmaSem sig := 32
abbrev cc3_sem1_0 : DmaSem sig := 33
abbrev cc3_sem1_1 : DmaSem sig := 34
abbrev cc3_sem2_0 : DmaSem sig := 35
abbrev cc3_sem2_1 : DmaSem sig := 36
abbrev cc4_sem0_0 : DmaSem sig := 37
abbrev cc4_sem1_0 : DmaSem sig := 38
abbrev cc4_sem1_1 : DmaSem sig := 39
abbrev cc4_sem2_0 : DmaSem sig := 40
abbrev cc4_sem2_1 : DmaSem sig := 41

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![2, 11, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![11, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S4096x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2048x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference2Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x2048, .f32⟩
  | .hbm, ⟨27, _⟩ => ⟨S2048x5632, .f32⟩
  | .hbm, ⟨28, _⟩ => ⟨S5632x2048, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S5632x2048, .f32⟩
  | .hbm, ⟨37, _⟩ => ⟨S2048x5632, .f32⟩
  | .hbm, ⟨38, _⟩ => ⟨S5632x2048, .f32⟩
  | .hbm, ⟨39, _⟩ => ⟨S2048x5632, .f32⟩
  | .hbm, ⟨40, _⟩ => ⟨S4096x5632, .bf16⟩
  | .hbm, ⟨41, _⟩ => ⟨S4096x5632, .bf16⟩
  | .hbm, ⟨42, _⟩ => ⟨S5632x2048, .bf16⟩
  | .hbm, ⟨43, _⟩ => ⟨S2048x5632, .bf16⟩
  | .hbm, ⟨44, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v7_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v7_1 : Ref sig .tc := ⟨.hbm, 23, rfl⟩
abbrev main_v7_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Kernel3.lean ====
abbrev S4096x5632 : Shape := ⟨2, ![4096, 5632]⟩
abbrev S2048x5632 : Shape := ⟨2, ![2048, 5632]⟩
abbrev S4096x2048 : Shape := ⟨2, ![4096, 2048]⟩
abbrev S512x1408 : Shape := ⟨2, ![512, 1408]⟩
abbrev S2048x1408 : Shape := ⟨2, ![2048, 1408]⟩
abbrev S512x2048 : Shape := ⟨2, ![512, 2048]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x2048, .bf16⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S2048x1408, .bf16⟩
  | .local _ .vmem, ⟨5, _⟩ => ⟨S2048x1408, .bf16⟩
  | .local _ .vmem, ⟨6, _⟩ => ⟨S2048x1408, .bf16⟩
  | .local _ .vmem, ⟨7, _⟩ => ⟨S2048x1408, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x5632, .f32⟩
  | .hbm, ⟨5, _⟩ => ⟨S4096x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S4096x2048, .f32⟩
  | .hbm, ⟨10, _⟩ => ⟨S4096x5632, .f32⟩
  | .hbm, ⟨11, _⟩ => ⟨S4096x5632, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S4096x2048 : Shape := ⟨2, ![4096, 2048]⟩
abbrev S2048x6144 : Shape := ⟨2, ![2048, 6144]⟩
abbrev S3x2048 : Shape := ⟨2, ![3, 2048]⟩
abbrev S2048x2048 : Shape := ⟨2, ![2048, 2048]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S16x2048 : Shape := ⟨2, ![16, 2048]⟩
abbrev S272x2048 : Shape := ⟨2, ![272, 2048]⟩
abbrev S1x2048 : Shape := ⟨2, ![1, 2048]⟩
abbrev S4096x1024 : Shape := ⟨2, ![4096, 1024]⟩
abbrev S256x6144 : Shape := ⟨2, ![256, 6144]⟩
abbrev S2048 : Shape := ⟨1, ![2048]⟩

abbrev nBuf : Space → Nat
  | .hbm => 12
  | .vmem => 57
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x6144, .bf16⟩
  | .hbm, ⟨3, _⟩ => ⟨S3x2048, .f32⟩
  | .hbm, ⟨4, _⟩ => ⟨S2048x2048, .bf16⟩
  | .hbm, ⟨5, _⟩ => ⟨S4096x6144, .bf16⟩
  | .hbm, ⟨6, _⟩ => ⟨S4096x2048, .bf16⟩
  | .hbm, ⟨7, _⟩ => ⟨S4096x2048, .bf16⟩
  | .hbm, ⟨8, _⟩ => ⟨S2048x2048, .bf16⟩
  | .hbm, ⟨9, _⟩ => ⟨S4096x6144, .bf16⟩
  | .hbm, ⟨10, _⟩ => ⟨S3x2048, .f32⟩
  | .hbm, ⟨11, _⟩ => ⟨S2048x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S16x2048, .bf16⟩
  | .local _ .vmem, ⟨13, _⟩ => ⟨S16x2048, .bf16⟩
  | .local _ .vmem, ⟨14, _⟩ => ⟨S16x2048, .bf16⟩
  | .local _ .vmem, ⟨15, _⟩ => ⟨S16x2048, .bf16⟩
  | .local _ .vmem, ⟨16, _⟩ => ⟨S3x2048, .f32⟩
  | .local _ .vmem, ⟨17, _⟩ => ⟨S256x2048, .bf16⟩
  | .local _ .vmem, ⟨18, _⟩ => ⟨S256x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S1024x2048, .bf16⟩
  | .local _ .vmem, ⟨23, _⟩ => ⟨S1024x1024, .bf16⟩
  | .local _ .vmem, ⟨24, _⟩ => ⟨S1024x1024, .bf16⟩
  | .local _ .vmem, ⟨25, _⟩ => ⟨S4096x1024, .bf16⟩
  | .local _ .vmem, ⟨26, _⟩ => ⟨S4096x1024, .bf16⟩
  | .local _ .vmem, ⟨27, _⟩ => ⟨S4096x1024, .bf16⟩
  | .local _ .vmem, ⟨28, _⟩ => ⟨S4096x1024, .bf16⟩
  | .local _ .vmem, ⟨29, _⟩ => ⟨S1024x1024, .bf16⟩
  | .local _ .vmem, ⟨30, _⟩ => ⟨S1024x1024, .bf16⟩
  | .local _ .vmem, ⟨31, _⟩ => ⟨S256x2048, .bf16⟩
  | .local _ .vmem, ⟨32, _⟩ => ⟨S256x2048, .bf16⟩
  | .local _ .vmem, ⟨33, _⟩ => ⟨S16x2048, .bf16⟩
  | .local _ .vmem, ⟨34, _⟩ => ⟨S16x2048, .bf16⟩
  | .local _ .vmem, ⟨35, _⟩ => ⟨S256x2048, .bf16⟩
  | .local _ .vmem, ⟨36, _⟩ => ⟨S256x2048, .bf16⟩
  | .local _ .vmem, ⟨37, _⟩ => ⟨S256x2048, .bf16⟩
  | .local _ .vmem, ⟨38, _⟩ => ⟨S256x2048, .bf16⟩
  | .local _ .vmem, ⟨39, _⟩ => ⟨S256x2048, .bf16⟩
  | .local _ .vmem, ⟨40, _⟩ => ⟨S256x2048, .bf16⟩
  | .local _ .vmem, ⟨41, _⟩ => ⟨S16x2048, .bf16⟩
  | .local _ .vmem, ⟨42, _⟩ => ⟨S16x2048, .bf16⟩
  | .local _ .vmem, ⟨43, _⟩ => ⟨S16x2048, .bf16⟩
  | .local _ .vmem, ⟨44, _⟩ => ⟨S16x2048, .bf16⟩
  | .local _ .vmem, ⟨45, _⟩ => ⟨S16x2048, .bf16⟩
  | .local _ .vmem, ⟨46, _⟩ => ⟨S16x2048, .bf16⟩
  | .local _ .vmem, ⟨47, _⟩ => ⟨S3x2048, .f32⟩
  | .local _ .vmem, ⟨48, _⟩ => ⟨S256x6144, .bf16⟩
  | .local _ .vmem, ⟨49, _⟩ => ⟨S256x6144, .bf16⟩
  | .local _ .vmem, ⟨50, _⟩ => ⟨S3x2048, .f32⟩
  | .local _ .vmem, ⟨51, _⟩ => ⟨S4096x1024, .bf16⟩
  | .local _ .vmem, ⟨52, _⟩ => ⟨S4096x1024, .bf16⟩
  | .local _ .vmem, ⟨53, _⟩ => ⟨S4096x1024, .bf16⟩
  | .local _ .vmem, ⟨54, _⟩ => ⟨S4096x1024, .bf16⟩
  | .local _ .vmem, ⟨55, _⟩ => ⟨S1024x1024, .bf16⟩
  | .local _ .vmem, ⟨56, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc4_stg6_1 : Ref sig .tc := ⟨.vmem, 44, rfl⟩
abbrev cc4_stg7_0 : Ref sig .tc := ⟨.vmem, 45, rfl⟩
abbrev cc4_stg7_1 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc4_stg10_0 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc4_sem5_0 : DmaSem sig := 41
abbrev cc4_sem5_1 : DmaSem sig := 42
abbrev cc4_sem6_0 : DmaSem sig := 43
abbrev cc4_sem6_1 : DmaSem sig := 44
abbrev cc4_sem7_0 : DmaSem sig := 45
abbrev cc4_sem7_1 : DmaSem sig := 46
abbrev cc4_sem8_0 : DmaSem sig := 47
abbrev cc4_sem9_0 : DmaSem sig := 48
abbrev cc4_sem9_1 : DmaSem sig := 49
abbrev cc4_sem10_0 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_3 (i : grid1.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc1_transform_4 (i : grid1.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S3x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c1_i32 : BitVec 32 := 1#32
  let c0_i32 : BitVec 32 := 0#32
  ![arg0.toNat, c1_i32.toNat]

def cc4_transform_4 (i : grid4.Coords) : Fin 2 → Nat :=
  let arg0 : BitVec 32 := BitVec.ofNat 32 (i 0).val
  let c2_i32 : BitVec 32 := 2#32
  let c0_i32 : BitVec 32 := 0#32
  ![arg0.toNat, c2_i32.toNat]

def cc4_transform_5 (i : grid4.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc4_transform_6 (i : grid4.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc4_transform_7 (i : grid4.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S16x2048 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S16x2048 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S16x2048 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S3x2048 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S256x6144 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 1 → Memref sig .tc .vmem S3x2048 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev grid5 : Pipeline.Grid := ⟨3, ![2, 6, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference4Ideal.lean ====
abbrev S4096x2048 : Shape := ⟨2, ![4096, 2048]⟩
abbrev S2048x6144 : Shape := ⟨2, ![2048, 6144]⟩
abbrev S3x2048 : Shape := ⟨2, ![3, 2048]⟩
abbrev S2048x2048 : Shape := ⟨2, ![2048, 2048]⟩
abbrev S4096x6144 : Shape := ⟨2, ![4096, 6144]⟩
abbrev S2x2048x6144 : Shape := ⟨3, ![2, 2048, 6144]⟩
abbrev S2x2048x2048 : Shape := ⟨3, ![2, 2048, 2048]⟩
abbrev S_ : Shape := ⟨0, ![]⟩
abbrev S2x2x2048 : Shape := ⟨3, ![2, 2, 2048]⟩
abbrev S2x2050x2048 : Shape := ⟨3, ![2, 2050, 2048]⟩
abbrev S1x2048 : Shape := ⟨2, ![1, 2048]⟩
abbrev S2048 : Shape := ⟨1, ![2048]⟩
abbrev S1x1x2048 : Shape := ⟨3, ![1, 1, 2048]⟩
abbrev S6144x2048 : Shape := ⟨2, ![6144, 2048]⟩

abbrev nBuf : Space → Nat
  | .hbm => 110
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x6144, .bf16⟩
  | .hbm, ⟨3, _⟩ => ⟨S3x2048, .f32⟩
  | .hbm, ⟨4, _⟩ => ⟨S2048x2048, .bf16⟩
  | .hbm, ⟨5, _⟩ => ⟨S4096x2048, .f32⟩
  | .hbm, ⟨6, _⟩ => ⟨S4096x2048, .f32⟩
  | .hbm, ⟨7, _⟩ => ⟨S2048x6144, .f32⟩
  | .hbm, ⟨8, _⟩ => ⟨S2048x2048, .f32⟩
  | .hbm, ⟨9, _⟩ => ⟨S4096x6144, .f32⟩
  | .hbm, ⟨10, _⟩ => ⟨S2x2048x6144, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S_, .f32⟩
  | .hbm, ⟨16, _⟩ => ⟨S2x2x2048, .f32⟩
  | .hbm, ⟨17, _⟩ => ⟨S2x2050x2048, .f32⟩
  | .hbm, ⟨18, _⟩ => ⟨S_, .f32⟩
  | .hbm, ⟨19, _⟩ => ⟨S2x2x2048, .f32⟩
  | .hbm, ⟨20, _⟩ => ⟨S1x2048, .f32⟩
  | .hbm, ⟨21, _⟩ => ⟨S2048, .f32⟩
  | .hbm, ⟨22, _⟩ => ⟨S2x2048x2048, .f32⟩
  | .hbm, ⟨23, _⟩ => ⟨S1x1x2048, .f32⟩
  | .hbm, ⟨24, _⟩ => ⟨S2x2048x2048, .f32⟩
  | .hbm, ⟨25, _⟩ => ⟨S2x2048x2048, .f32⟩
  | .hbm, ⟨26, _⟩ => ⟨S1x2048, .f32⟩
  | .hbm, ⟨27, _⟩ => ⟨S2048, .f32⟩
  | .hbm, ⟨28, _⟩ => ⟨S2x2048x2048, .f32⟩
  | .hbm, ⟨29, _⟩ => ⟨S1x1x2048, .f32⟩
  | .hbm, ⟨30, _⟩ => ⟨S2x2048x2048, .f32⟩
  | .hbm, ⟨31, _⟩ => ⟨S2x2048x2048, .f32⟩
  | .hbm, ⟨32, _⟩ => ⟨S2x2048x2048, .f32⟩
  | .hbm, ⟨33, _⟩ => ⟨S1x2048, .f32⟩
  | .hbm, ⟨34, _⟩ => ⟨S2048, .f32⟩
  | .hbm, ⟨35, _⟩ => ⟨S2x2048x2048, .f32⟩
  | .hbm, ⟨36, _⟩ => ⟨S1x1x2048, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S4096x2048, .f32⟩
  | .hbm, ⟨42, _⟩ => ⟨S4096x2048, .f32⟩
  | .hbm, ⟨43, _⟩ => ⟨S2048x2048, .f32⟩
  | .hbm, ⟨44, _⟩ => ⟨S2048x2048, .f32⟩
  | .hbm, ⟨45, _⟩ => ⟨S4096x2048, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S_, .f32⟩
  | .hbm, ⟨53, _⟩ => ⟨S2048, .f32⟩
  | .hbm, ⟨54, _⟩ => ⟨S1x1x2048, .f32⟩
  | .hbm, ⟨55, _⟩ => ⟨S_, .f32⟩
  | .hbm, ⟨56, _⟩ => ⟨S2048, .f32⟩
  | .hbm, ⟨57, _⟩ => ⟨S_, .f32⟩
  | .hbm, ⟨58, _⟩ => ⟨S2x2050x2048, .f32⟩
  | .hbm, ⟨59, _⟩ => ⟨S1x2048, .f32⟩
  | .hbm, ⟨60, _⟩ => ⟨S_, .f32⟩
  | .hbm, ⟨61, _⟩ => ⟨S3x2048, .f32⟩
  | .hbm, ⟨62, _⟩ => ⟨S2x2048x2048, .f32⟩
  | .hbm, ⟨63, _⟩ => ⟨S2x2048x2048, .f32⟩
  | .hbm, ⟨64, _⟩ => ⟨S2x2048x2048, .f32⟩
  | .hbm, ⟨65, _⟩ => ⟨S_, .f32⟩
  | .hbm, ⟨66, _⟩ => ⟨S2048, .f32⟩
  | .hbm, ⟨67, _⟩ => ⟨S1x1x2048, .f32⟩
  | .hbm, ⟨68, _⟩ => ⟨S_, .f32⟩
  | .hbm, ⟨69, _⟩ => ⟨S2048, .f32⟩
  | .hbm, ⟨70, _⟩ => ⟨S_, .f32⟩
  | .hbm, ⟨71, _⟩ => ⟨S2x2050x2048, .f32⟩
  | .hbm, ⟨72, _⟩ => ⟨S2x2050x2048, .f32⟩
  | .hbm, ⟨73, _⟩ => ⟨S1x2048, .f32⟩
  | .hbm, ⟨74, _⟩ => ⟨S_, .f32⟩
  | .hbm, ⟨75, _⟩ => ⟨S3x2048, .f32⟩
  | .hbm, ⟨76, _⟩ => ⟨S3x2048, .f32⟩
  | .hbm, ⟨77, _⟩ => ⟨S2x2048x2048, .f32⟩
  | .hbm, ⟨78, _⟩ => ⟨S2x2048x2048, .f32⟩
  | .hbm, ⟨79, _⟩ => ⟨S2x2048x2048, .f32⟩
  | .hbm, ⟨80, _⟩ => ⟨S_, .f32⟩
  | .hbm, ⟨81, _⟩ => ⟨S2048, .f32⟩
  | .hbm, ⟨82, _⟩ => ⟨S1x1x2048, .f32⟩
  | .hbm, ⟨83, _⟩ => ⟨S_, .f32⟩
  | .hbm, ⟨84, _⟩ => ⟨S2048, .f32⟩
  | .hbm, ⟨85, _⟩ => ⟨S_, .f32⟩
  | .hbm, ⟨86, _⟩ => ⟨S2x2050x2048, .f32⟩
  | .hbm, ⟨87, _⟩ => ⟨S2x2050x2048, .f32⟩
  | .hbm, ⟨88, _⟩ => ⟨S1x2048, .f32⟩
  | .hbm, ⟨89, _⟩ => ⟨S_, .f32⟩
  | .hbm, ⟨90, _⟩ => ⟨S3x2048, .f32⟩
  | .hbm, ⟨91, _⟩ => ⟨S3x2048, .f32⟩
  | .hbm, ⟨92, _⟩ => ⟨S2x2x2048, .f32⟩
  | .hbm, ⟨93, _⟩ => ⟨S2x2048x2048, .f32⟩
  | .hbm, ⟨94, _⟩ => ⟨S2x2048x2048, .f32⟩
  | .hbm, ⟨95, _⟩ => ⟨S2x2048x2048, .f32⟩
  | .hbm, ⟨96, _⟩ => ⟨S_, .f32⟩
  | .hbm, ⟨97, _⟩ => ⟨S2x2048x6144, .f32⟩
  | .hbm, ⟨98, _⟩ => ⟨S_, .f32⟩
  | .hbm, ⟨99, _⟩ => ⟨S2x2048x6144, .f32⟩
  | .hbm, ⟨100, _⟩ => ⟨S2x2048x6144, .f32⟩
  | .hbm, ⟨101, _⟩ => ⟨S_, .f32⟩
  | .hbm, ⟨102, _⟩ => ⟨S2x2048x6144, .f32⟩
  | .hbm, ⟨103, _⟩ => ⟨S2x2048x6144, .f32⟩
  | .hbm, ⟨104, _⟩ => ⟨S4096x6144, .f32⟩
  | .hbm, ⟨105, _⟩ => ⟨S6144x2048, .f32⟩
  | .hbm, ⟨106, _⟩ => ⟨S2048x6144, .f32⟩
  | .hbm, ⟨107, _⟩ => ⟨S4096x6144, .bf16⟩
  | .hbm, ⟨108, _⟩ => ⟨S2048x6144, .bf16⟩
  | .hbm, ⟨109, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_1 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_cst_6 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_8 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_cst_14 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== Kernel5.lean ====
abbrev S4096x2048 : Shape := ⟨2, ![4096, 2048]⟩
abbrev S2048x3072 : Shape := ⟨2, ![2048, 3072]⟩
abbrev S2048x2048 : Shape := ⟨2, ![2048, 2048]⟩
abbrev S4096x3072 : Shape := ⟨2, ![4096, 3072]⟩
abbrev S1024x2048 : Shape := ⟨2, ![1024, 2048]⟩
abbrev S2048x1024 : Shape := ⟨2, ![2048, 1024]⟩
abbrev S1024x1024 : Shape := ⟨2, ![1024, 1024]⟩
abbrev S4096x1024 : Shape := ⟨2, ![4096, 1024]⟩

abbrev nBuf : Space → Nat
  | .hbm => 12
  | .vmem => 32
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .bf16⟩
  | .hbm, ⟨3, _⟩ => ⟨S2048x2048, .bf16⟩
  | .hbm, ⟨4, _⟩ => ⟨S4096x2048, .f32⟩
  | .hbm, ⟨5, _⟩ => ⟨S4096x2048, .bf16⟩
  | .hbm, ⟨6, _⟩ => ⟨S4096x3072, .bf16⟩
  | .hbm, ⟨7, _⟩ => ⟨S4096x3072, .f32⟩
  | .hbm, ⟨8, _⟩ => ⟨S4096x2048, .f32⟩
  | .hbm, ⟨9, _⟩ => ⟨S4096x2048, .f32⟩
  | .hbm, ⟨10, _⟩ => ⟨S2048x2048, .bf16⟩
  | .hbm, ⟨11, _⟩ => ⟨S2048x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .f32⟩
  | .local _ .vmem, ⟨19, _⟩ => ⟨S1024x1024, .f32⟩
  | .local _ .vmem, ⟨20, _⟩ => ⟨S4096x1024, .bf16⟩
  | .local _ .vmem, ⟨21, _⟩ => ⟨S4096x1024, .bf16⟩
  | .local _ .vmem, ⟨22, _⟩ => ⟨S4096x1024, .bf16⟩
  | .local _ .vmem, ⟨23, _⟩ => ⟨S4096x1024, .bf16⟩
  | .local _ .vmem, ⟨24, _⟩ => ⟨S1024x1024, .bf16⟩
  | .local _ .vmem, ⟨25, _⟩ => ⟨S1024x1024, .bf16⟩
  | .local _ .vmem, ⟨26, _⟩ => ⟨S4096x1024, .bf16⟩
  | .local _ .vmem, ⟨27, _⟩ => ⟨S4096x1024, .bf16⟩
  | .local _ .vmem, ⟨28, _⟩ => ⟨S4096x1024, .bf16⟩
  | .local _ .vmem, ⟨29, _⟩ => ⟨S4096x1024, .bf16⟩
  | .local _ .vmem, ⟨30, _⟩ => ⟨S1024x1024, .bf16⟩
  | .local _ .vmem, ⟨31, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 3, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== Reference5Ideal.lean ====
abbrev S4096x2048 : Shape := ⟨2, ![4096, 2048]⟩
abbrev S2048x3072 : Shape := ⟨2, ![2048, 3072]⟩
abbrev S2048x2048 : Shape := ⟨2, ![2048, 2048]⟩
abbrev S4096x3072 : Shape := ⟨2, ![4096, 3072]⟩
abbrev S3072x2048 : Shape := ⟨2, ![3072, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .bf16⟩
  | .hbm, ⟨3, _⟩ => ⟨S2048x2048, .bf16⟩
  | .hbm, ⟨4, _⟩ => ⟨S4096x2048, .f32⟩
  | .hbm, ⟨5, _⟩ => ⟨S4096x2048, .bf16⟩
  | .hbm, ⟨6, _⟩ => ⟨S4096x3072, .bf16⟩
  | .hbm, ⟨7, _⟩ => ⟨S4096x2048, .f32⟩
  | .hbm, ⟨8, _⟩ => ⟨S2048x3072, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S4096x3072, .f32⟩
  | .hbm, ⟨13, _⟩ => ⟨S4096x3072, .f32⟩
  | .hbm, ⟨14, _⟩ => ⟨S4096x2048, .f32⟩
  | .hbm, ⟨15, _⟩ => ⟨S4096x2048, .f32⟩
  | .hbm, ⟨16, _⟩ => ⟨S2048x2048, .f32⟩
  | .hbm, ⟨17, _⟩ => ⟨S2048x2048, .f32⟩
  | .hbm, ⟨18, _⟩ => ⟨S4096x2048, .f32⟩
  | .hbm, ⟨19, _⟩ => ⟨S3072x2048, .f32⟩
  | .hbm, ⟨20, _⟩ => ⟨S2048x3072, .f32⟩
  | .hbm, ⟨21, _⟩ => ⟨S2048x2048, .bf16⟩
  | .hbm, ⟨22, _⟩ => ⟨S2048x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S2048x2048 : Shape := ⟨2, ![2048, 2048]⟩
abbrev S256x5632 : Shape := ⟨2, ![256, 5632]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S512x2048 : Shape := ⟨2, ![512, 2048]⟩

abbrev nBuf : Space → Nat
  | .hbm => 11
  | .vmem => 21
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S2048x2048, .bf16⟩
  | .hbm, ⟨6, _⟩ => ⟨S1x2048, .f32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x2048, .bf16⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S512x2048, .bf16⟩
  | .local _ .vmem, ⟨12, _⟩ => ⟨S512x2048, .bf16⟩
  | .local _ .vmem, ⟨13, _⟩ => ⟨S2048x2048, .bf16⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]
-- ==== Reference6Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S2048x2048, .bf16⟩
  | .hbm, ⟨6, _⟩ => ⟨S1x2048, .f32⟩
  | .hbm, ⟨7, _⟩ => ⟨S4096x5632, .f32⟩
  | .hbm, ⟨8, _⟩ => ⟨S5632x2048, .f32⟩
  | .hbm, ⟨9, _⟩ => ⟨S4096x2048, .f32⟩
  | .hbm, ⟨10, _⟩ => ⟨S2048x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .bf16⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel7.lean ====
abbrev S4096x6144 : Shape := ⟨2, ![4096, 6144]⟩
abbrev S2048x6144 : Shape := ⟨2, ![2048, 6144]⟩
abbrev S4096x2048 : Shape := ⟨2, ![4096, 2048]⟩
abbrev S1x2048 : Shape := ⟨2, ![1, 2048]⟩
abbrev S256x6144 : Shape := ⟨2, ![256, 6144]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 8
  | .vmem => 14
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x6144, .bf16⟩
  | .local _ .vmem, ⟨1, _⟩ => ⟨S256x6144, .bf16⟩
  | .local _ .vmem, ⟨2, _⟩ => ⟨S2048x6144, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S256x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference7Ideal.lean ====
abbrev S4096x6144 : Shape := ⟨2, ![4096, 6144]⟩
abbrev S2048x6144 : Shape := ⟨2, ![2048, 6144]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x6144, .f32⟩
  | .hbm, ⟨6, _⟩ => ⟨S2048x6144, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x6144, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S256x3072 : Shape := ⟨2, ![256, 3072]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S1x2048, .f32⟩
  | .local _ .vmem, ⟨0, _⟩ => ⟨S256x3072, .bf16⟩
  | .local _ .vmem, ⟨1, _⟩ => ⟨S256x3072, .bf16⟩
  | .local _ .vmem, ⟨2, _⟩ => ⟨S2048x3072, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S4096x3072 : Shape := ⟨2, ![4096, 3072]⟩
abbrev S2048x3072 : Shape := ⟨2, ![2048, 3072]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x3072, .f32⟩
  | .hbm, ⟨6, _⟩ => ⟨S2048x3072, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x3072, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel9.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S256x5632 : Shape := ⟨2, ![256, 5632]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S_, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_cst : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference9Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 75
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x5632, .f32⟩
  | .hbm, ⟨6, _⟩ => ⟨S5632x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S_, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel11.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel12.lean ====
abbrev S2048x1536 : Shape := ⟨2, ![2048, 1536]⟩
abbrev S256x1536 : Shape := ⟨2, ![256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel12Ideal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== Reference12Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== Reference13Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4096x1408 : Shape := ⟨2, ![4096, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== Reference14Ideal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2816x2048 : Shape := ⟨2, ![2816, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S2816x2048, .f32⟩
  | .hbm, ⟨5, _⟩ => ⟨S2816x2048, .f32⟩
  | .hbm, ⟨6, _⟩ => ⟨S2816x2048, .f32⟩
  | .hbm, ⟨7, _⟩ => ⟨S2816x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2816x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel15Ideal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== Reference15Ideal.lean ====
abbrev S2816x2048 : Shape := ⟨2, ![2816, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x2048, .f32⟩
  | .hbm, ⟨1, _⟩ => ⟨S2816x2048, .f32⟩
  | .hbm, ⟨2, _⟩ => ⟨S2816x2048, .f32⟩
  | .hbm, ⟨3, _⟩ => ⟨S2816x2048, .f32⟩
  | .hbm, ⟨4, _⟩ => ⟨S_, .f32⟩
  | .hbm, ⟨5, _⟩ => ⟨S2816x2048, .f32⟩
  | .hbm, ⟨6, _⟩ => ⟨S2816x2048, .f32⟩
  | .hbm, ⟨7, _⟩ => ⟨S_, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S_, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S_, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S_, .f32⟩
  | .hbm, ⟨20, _⟩ => ⟨S2816x2048, .f32⟩
  | .hbm, ⟨21, _⟩ => ⟨S2816x2048, .f32⟩
  | .hbm, ⟨22, _⟩ => ⟨S_, .f32⟩
  | .hbm, ⟨23, _⟩ => ⟨S2816x2048, .f32⟩
  | .hbm, ⟨24, _⟩ => ⟨S2816x2048, .f32⟩
  | .hbm, ⟨25, _⟩ => ⟨S2816x2048, .f32⟩
  | .hbm, ⟨26, _⟩ => ⟨S_, .f32⟩
  | .hbm, ⟨27, _⟩ => ⟨S2816x2048, .f32⟩
  | .hbm, ⟨28, _⟩ => ⟨S2816x2048, .f32⟩
  | .hbm, ⟨29, _⟩ => ⟨S2816x2048, .f32⟩
  | .hbm, ⟨30, _⟩ => ⟨S_, .f32⟩
  | .hbm, ⟨31, _⟩ => ⟨S2816x2048, .f32⟩
  | .hbm, ⟨32, _⟩ => ⟨S2816x2048, .f32⟩
  | .hbm, ⟨33, _⟩ => ⟨S2816x2048, .f32⟩
  | .hbm, ⟨34, _⟩ => ⟨S_, .f32⟩
  | .hbm, ⟨35, _⟩ => ⟨S2816x2048, .f32⟩
  | .hbm, ⟨36, _⟩ => ⟨S2816x2048, .f32⟩
  | _, _ => ⟨S2816x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2048x768 : Shape := ⟨2, ![2048, 768]⟩
abbrev S512x768 : Shape := ⟨2, ![512, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | .local _ .vmem, ⟨14, _⟩ => ⟨S512x768, .f32⟩
  | .local _ .vmem, ⟨15, _⟩ => ⟨S512x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel16Ideal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== Reference16Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S688x128 : Shape := ⟨2, ![688, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S688x128, .f32⟩
  | .hbm, ⟨1, _⟩ => ⟨S688x128, .f32⟩
  | .hbm, ⟨2, _⟩ => ⟨S688x128, .f32⟩
  | .hbm, ⟨3, _⟩ => ⟨S688x128, .f32⟩
  | .hbm, ⟨4, _⟩ => ⟨S688x128, .f32⟩
  | .hbm, ⟨5, _⟩ => ⟨S688x128, .f32⟩
  | .hbm, ⟨6, _⟩ => ⟨S688x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S688x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== Reference17Ideal.lean ====
abbrev S688x128 : Shape := ⟨2, ![688, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S688x128, .f32⟩
  | .hbm, ⟨1, _⟩ => ⟨S688x128, .f32⟩
  | .hbm, ⟨2, _⟩ => ⟨S688x128, .f32⟩
  | .hbm, ⟨3, _⟩ => ⟨S688x128, .f32⟩
  | .hbm, ⟨4, _⟩ => ⟨S_, .f32⟩
  | .hbm, ⟨5, _⟩ => ⟨S688x128, .f32⟩
  | .hbm, ⟨6, _⟩ => ⟨S688x128, .f32⟩
  | .hbm, ⟨7, _⟩ => ⟨S_, .f32⟩
  | .hbm, ⟨8, _⟩ => ⟨S688x128, .f32⟩
  | .hbm, ⟨9, _⟩ => ⟨S688x128, .f32⟩
  | .hbm, ⟨10, _⟩ => ⟨S688x128, .f32⟩
  | .hbm, ⟨11, _⟩ => ⟨S_, .f32⟩
  | .hbm, ⟨12, _⟩ => ⟨S688x128, .f32⟩
  | .hbm, ⟨13, _⟩ => ⟨S688x128, .f32⟩
  | .hbm, ⟨14, _⟩ => ⟨S688x128, .f32⟩
  | .hbm, ⟨15, _⟩ => ⟨S_, .f32⟩
  | .hbm, ⟨16, _⟩ => ⟨S688x128, .f32⟩
  | .hbm, ⟨17, _⟩ => ⟨S688x128, .f32⟩
  | .hbm, ⟨18, _⟩ => ⟨S688x128, .f32⟩
  | .hbm, ⟨19, _⟩ => ⟨S_, .f32⟩
  | .hbm, ⟨20, _⟩ => ⟨S688x128, .f32⟩
  | .hbm, ⟨21, _⟩ => ⟨S688x128, .f32⟩
  | .hbm, ⟨22, _⟩ => ⟨S_, .f32⟩
  | .hbm, ⟨23, _⟩ => ⟨S688x128, .f32⟩
  | .hbm, ⟨24, _⟩ => ⟨S688x128, .f32⟩
  | .hbm, ⟨25, _⟩ => ⟨S688x128, .f32⟩
  | .hbm, ⟨26, _⟩ => ⟨S_, .f32⟩
  | .hbm, ⟨27, _⟩ => ⟨S688x128, .f32⟩
  | .hbm, ⟨28, _⟩ => ⟨S688x128, .f32⟩
  | .hbm, ⟨29, _⟩ => ⟨S688x128, .f32⟩
  | .hbm, ⟨30, _⟩ => ⟨S_, .f32⟩
  | .hbm, ⟨31, _⟩ => ⟨S688x128, .f32⟩
  | .hbm, ⟨32, _⟩ => ⟨S688x128, .f32⟩
  | .hbm, ⟨33, _⟩ => ⟨S688x128, .f32⟩
  | .hbm, ⟨34, _⟩ => ⟨S_, .f32⟩
  | .hbm, ⟨35, _⟩ => ⟨S688x128, .f32⟩
  | .hbm, ⟨36, _⟩ => ⟨S688x128, .f32⟩
  | _, _ => ⟨S688x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MixPayloads.lean ====
module

public import proofs.«01_k».proof.Defs
public import proofs.«01_k».proof.Proof.Gen.KernelIdeal.Value
public import Idealize.ShloMosaic.Lib.Pipeline.Value
public import Idealize.ShloMosaic.Lib.Pipeline.ReadBack
public import Idealize.ShloMosaic.Lib.Pointwise

@[expose] public section
noncomputable section
open Idealize.ShloMosaic Idealize.ShloMosaic.TcCoe Idealize.SL.Sem
open Idealize.ShloMosaic.Pipeline (Dat)

namespace Cert.Mix

/-- A matrix of extended reals read at natural-number coordinates: zero outside its bounds. -/
def rd {n0 n1 : ℕ} (x : (⟨2, ![n0, n1]⟩ : Shape).Idx → EReal) (r c : ℕ) : EReal :=
  if h : r < n0 ∧ c < n1 then x (ix2 ⟨r, h.1⟩ ⟨c, h.2⟩) else 0

/-- Inside the bounds it is the entry. -/
theorem rd_of {n0 n1 : ℕ} (x : (⟨2, ![n0, n1]⟩ : Shape).Idx → EReal) {r c : ℕ} (hr : r < n0) (hc : c < n1) :
    x (ix2 ⟨r, hr⟩ ⟨c, hc⟩) = rd x r c := by
  unfold rd; rw [dif_pos ⟨hr, hc⟩]

/-- An entry at bounded coordinates, read at their values. -/
theorem rd_ix2 {n0 n1 : ℕ} (x : (⟨2, ![n0, n1]⟩ : Shape).Idx → EReal) (r : Fin n0) (c : Fin n1) :
    x (ix2 r c) = rd x r c := rd_of x r.isLt c.isLt

open Cert.KernelIdeal Cert.KernelIdeal.Gen

/-- The products `gate_c * v` of a block with the sixteen rows before it in front, those masked by `kp`. -/
def ext (kp : EReal) (x3 x4 : FVec Ideal S256x2048 .bf16) (x5 x6 : FVec Ideal S16x2048 .bf16) (j c : ℕ) : EReal :=
  if j < 16 then rd x5 j c * rd x6 j c * kp else rd x3 (j - 16) c * rd x4 (j - 16) c

/-- The products `dy * gate_b` of a block with the sixteen rows after it behind, those masked by `kn`. -/
def extd (kn : EReal) (x0 x2 : FVec Ideal S256x2048 .bf16) (x1 x7 : FVec Ideal S16x2048 .bf16) (j c : ℕ) : EReal :=
  if j < 256 then rd x0 j c * rd x2 j c else rd x1 (j - 256) c * rd x7 (j - 256) c * kn

/-- The extended product block, entry by entry. -/
theorem pay12_apply (kp : EReal) (x3 x4 : FVec Ideal S256x2048 .bf16) (x5 x6 : FVec Ideal S16x2048 .bf16) (j : Fin 272) (c : Fin 2048) :
    k0_pay12 (F := Ideal) kp (k0_pay9 x3) x4 x5 x6 (ix2 j c) = ext kp x3 x4 x5 x6 j c := by
  unfold ext
  pointwise [k0_pay12, k0_pay9, k0_pay10]
  simp only [rd_ix2, dite_eq_ite]

/-- The extended gradient block, entry by entry. -/
theorem pay14_apply (kn : EReal) (x0 x2 : FVec Ideal S256x2048 .bf16) (x1 x7 : FVec Ideal S16x2048 .bf16) (j : Fin 272) (c : Fin 2048) :
    k0_pay14 (F := Ideal) kn (k0_pay8 x2) x0 x1 x7 (ix2 j c) = extd kn x0 x2 x1 x7 j c := by
  unfold extd
  pointwise [k0_pay14, k0_pay8, k0_pay13, k0_pay11]
  simp only [rd_ix2, dite_eq_ite]

/-- The product of the gradient by the first gate, entry by entry. -/
theorem pay13_apply (x0 x2 : FVec Ideal S256x2048 .bf16) (j : Fin 256) (c : Fin 2048) :
    k0_pay13 (F := Ideal) (k0_pay8 x2) x0 (ix2 j c) = rd x0 j c * rd x2 j c := by
  pointwise [k0_pay8, k0_pay13, k0_pay11]
  simp only [rd_ix2]

/-- The convolution's transpose of an extended block: three taps looking forward. -/
theorem pay1_apply (y : FVec Ideal S272x2048 .f32) (w0 w1 w2 : FVec Ideal S1x2048 .f32) (j : Fin 256) (c : Fin 2048) :
    k0_pay1 (F := Ideal) (k0_pay21 y k0_pay15 w0 w1) (k0_pay24 y w2) (ix2 j c)
      = rd w0 0 c * rd y (j + 2) c + rd w1 0 c * rd y (j + 1) c + rd w2 0 c * rd y j c := by
  have hj := j.isLt
  pointwise [k0_pay1, k0_pay15, k0_pay21, k0_pay24]
  simp only [rd_ix2]
  rw [show (j.val + 272 - 270) % 272 = j.val + 2 by omega, show (j.val + 272 - 271) % 272 = j.val + 1 by omega]
  rfl

/-- The convolution of an extended block: three taps looking back. -/
theorem pay22_apply (kp : EReal) (x3 x4 : FVec Ideal S256x2048 .bf16) (x5 x6 : FVec Ideal S16x2048 .bf16)
    (w0 w1 w2 : FVec Ideal S1x2048 .f32) (j : Fin 256) (c : Fin 2048) :
    rd (n0 := 272) (n1 := 2048) (k0_pay22 (F := Ideal) (k0_pay12 kp (k0_pay9 x3) x4 x5 x6) (k0_pay17 kp (k0_pay9 x3) x4 x5 x6 w0) w1 w2) (16 + j) c
      = rd w0 0 c * ext kp x3 x4 x5 x6 (14 + j) c + rd w1 0 c * ext kp x3 x4 x5 x6 (15 + j) c + rd w2 0 c * ext kp x3 x4 x5 x6 (16 + j) c := by
  have hj := j.isLt
  rw [← rd_of _ (by omega : 16 + j.val < 272) c.isLt]
  pointwise [k0_pay22, k0_pay19, k0_pay17, k0_pay16, pay12_apply]
  simp only [rd_ix2]
  rw [show (16 + j.val + 272 - 2) % 272 = 14 + j.val by omega, show (16 + j.val + 272 - 1) % 272 = 15 + j.val by omega]
  rfl

/-- The first stored column block: the gradient times the convolution. -/
theorem pay2_apply (x0 : FVec Ideal S256x2048 .bf16) (y : FVec Ideal S272x2048 .f32) (j : Fin 256) (c : Fin 2048) :
    k0_pay2 (F := Ideal) (k0_pay11 x0) y (ix2 j c) = rd x0 j c * rd y (16 + j) c := by
  pointwise [k0_pay2, k0_pay11]
  simp only [rd_ix2]

/-- The second stored column block: the convolution's transpose times the value. -/
theorem pay3_apply (x4 : FVec Ideal S256x2048 .bf16) (a b : FVec Ideal S272x2048 .f32) (j : Fin 256) (c : Fin 2048) :
    k0_pay3 (F := Ideal) (k0_pay10 x4) a b (ix2 j c) = k0_pay1 (F := Ideal) a b (ix2 j c) * rd x4 j c := by
  pointwise [k0_pay3, k0_pay10]
  simp only [rd_ix2]

/-- The third stored column block: the convolution's transpose times the second gate. -/
theorem pay4_apply (x3 : FVec Ideal S256x2048 .bf16) (a b : FVec Ideal S272x2048 .f32) (j : Fin 256) (c : Fin 2048) :
    k0_pay4 (F := Ideal) (k0_pay9 x3) a b (ix2 j c) = k0_pay1 (F := Ideal) a b (ix2 j c) * rd x3 j c := by
  pointwise [k0_pay4, k0_pay9]
  simp only [rd_ix2]

/-- The first tap's gradient row: what it held plus the block's sum. -/
theorem pay18_apply (kp : EReal) (x0 x2 x3 x4 : FVec Ideal S256x2048 .bf16) (x5 x6 : FVec Ideal S16x2048 .bf16)
    (a : FVec Ideal S1x2048 .f32) (c : Fin 2048) :
    k0_pay18 (F := Ideal) kp (k0_pay8 x2) (k0_pay9 x3) x4 x0 x5 x6 a (ix2 0 c)
      = a (ix2 0 c) + ∑ j : Fin 256, rd x0 j c * rd x2 j c * ext kp x3 x4 x5 x6 (14 + j) c := by
  pointwise [k0_pay18, k0_pay16, pay12_apply, pay13_apply]
  refine congrArg _ (Finset.sum_congr rfl fun j _ => ?_)
  have hj := j.isLt
  rw [show (16 + j.val + 272 - 2) % 272 = 14 + j.val by omega]

/-- The second tap's gradient row. -/
theorem pay20_apply (kp : EReal) (x0 x2 x3 x4 : FVec Ideal S256x2048 .bf16) (x5 x6 : FVec Ideal S16x2048 .bf16)
    (a : FVec Ideal S1x2048 .f32) (c : Fin 2048) :
    k0_pay20 (F := Ideal) (k0_pay12 kp (k0_pay9 x3) x4 x5 x6) (k0_pay13 (k0_pay8 x2) x0) a (ix2 0 c)
      = a (ix2 0 c) + ∑ j : Fin 256, rd x0 j c * rd x2 j c * ext kp x3 x4 x5 x6 (15 + j) c := by
  pointwise [k0_pay20, k0_pay19, pay12_apply, pay13_apply]
  refine congrArg _ (Finset.sum_congr rfl fun j _ => ?_)
  have hj := j.isLt
  rw [show (16 + j.val + 272 - 1) % 272 = 15 + j.val by omega]

/-- The third tap's gradient row. -/
theorem pay23_apply (kp : EReal) (x0 x2 x3 x4 : FVec Ideal S256x2048 .bf16) (x5 x6 : FVec Ideal S16x2048 .bf16)
    (a : FVec Ideal S1x2048 .f32) (c : Fin 2048) :
    k0_pay23 (F := Ideal) (k0_pay12 kp (k0_pay9 x3) x4 x5 x6) (k0_pay13 (k0_pay8 x2) x0) a (ix2 0 c)
      = a (ix2 0 c) + ∑ j : Fin 256, rd x0 j c * rd x2 j c * ext kp x3 x4 x5 x6 (16 + j) c := by
  pointwise [k0_pay23, pay12_apply, pay13_apply]

/-- The printed test of a tile number's remainder by eight, as the word it leaves. -/
def remainderWord (n : ℕ) : BitVec 32 :=
  have arg0 : BitVec 32 := BitVec.ofNat 32 n
  have v1 : BitVec 32 := Scalar.select (Scalar.cmpi .eq 8#32 0#32) 1#32 8#32
  have v2 : BitVec 32 := Scalar.remsi arg0 v1
  have v7 : BitVec 1 := Scalar.andi (Scalar.xori (Scalar.cmpi .slt v2 0#32) (Scalar.cmpi .slt v1 0#32)) (Scalar.cmpi .ne v2 0#32)
  Scalar.select v7 (Scalar.addi v2 v1) v2

/-- The first tile of a sequence is found by it. -/
theorem first_tile : ∀ n : Fin 16, Scalar.cmpi .eq (remainderWord n) 0#32 = if n.val % 8 = 0 then 1#1 else 0#1 := by
  decide +kernel

/-- The last tile of a sequence is found by it. -/
theorem last_tile : ∀ n : Fin 16, Scalar.cmpi .eq (remainderWord n) 7#32 = if n.val % 8 = 7 then 1#1 else 0#1 := by
  decide +kernel

/-- The mask of the rows before: zero at the first tile of a sequence, one elsewhere. -/
theorem pay5_eq (i : grid0.Coords) : k0_pay5 (F := Ideal) i = if (i 0).val % 8 = 0 then (0 : EReal) else 1 := by
  have hi : (i 0).val < 16 := (i 0).isLt
  show Scalar.select (Scalar.cmpi .eq (remainderWord (i 0).val) 0#32) (Scalar.ofBits (F := Ideal) .f32 0x00000000#32) (Scalar.ofBits (F := Ideal) .f32 0x3F800000#32) = _
  rw [first_tile ⟨(i 0).val, hi⟩]
  split_ifs <;> pointwise <;> rfl

/-- The mask of the rows after: zero at the last tile of a sequence, one elsewhere. -/
theorem pay6_eq (i : grid0.Coords) : k0_pay6 (F := Ideal) i = if (i 0).val % 8 = 7 then (0 : EReal) else 1 := by
  have hi : (i 0).val < 16 := (i 0).isLt
  show Scalar.select (Scalar.cmpi .eq (remainderWord (i 0).val) 7#32) (Scalar.ofBits (F := Ideal) .f32 0x00000000#32) (Scalar.ofBits (F := Ideal) .f32 0x3F800000#32) = _
  rw [last_tile ⟨(i 0).val, hi⟩]
  split_ifs <;> pointwise <;> rfl

end Cert.Mix
end
-- ==== Proof.MixBlock.lean ====
module

public import proofs.«01_k».proof.Proof.MixPayloads

@[expose] public section
noncomputable section
open Idealize.ShloMosaic Idealize.ShloMosaic.TcCoe Idealize.SL.Sem
open Idealize.ShloMosaic.Pipeline (Dat)

namespace Cert.Mix
open Cert.KernelIdeal Cert.KernelIdeal.Gen

theorem hz : (![0, 0] : Fin 2 → Nat) = fun _ => 0 := funext fun a => by fin_cases a <;> rfl

/-- One entry of the gradient of the projected input that a tile stores. -/
def duBlock (kp kn : EReal) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (j c : ℕ) : EReal :=
  if c < 2048 then
    rd x0 j c * (rd x8 0 c * ext kp x3 x4 x5 x6 (14 + j) c + rd x8 1 c * ext kp x3 x4 x5 x6 (15 + j) c + rd x8 2 c * ext kp x3 x4 x5 x6 (16 + j) c)
  else if c < 4096 then
    (rd x8 0 (c - 2048) * extd kn x0 x2 x1 x7 (j + 2) (c - 2048) + rd x8 1 (c - 2048) * extd kn x0 x2 x1 x7 (j + 1) (c - 2048)
      + rd x8 2 (c - 2048) * extd kn x0 x2 x1 x7 j (c - 2048)) * rd x4 j (c - 2048)
  else
    (rd x8 0 (c - 4096) * extd kn x0 x2 x1 x7 (j + 2) (c - 4096) + rd x8 1 (c - 4096) * extd kn x0 x2 x1 x7 (j + 1) (c - 4096)
      + rd x8 2 (c - 4096) * extd kn x0 x2 x1 x7 j (c - 4096)) * rd x3 j (c - 4096)

/-- The sum one tile adds to the gradient of tap `k`. -/
def dwBlock (kp : EReal) (x0 x2 x3 x4 : FVec Ideal S256x2048 .bf16) (x5 x6 : FVec Ideal S16x2048 .bf16) (k c : ℕ) : EReal :=
  ∑ j : Fin 256, rd x0 j c * rd x2 j c * ext kp x3 x4 x5 x6 (14 + k + j) c

/-- A one-row load of the taps reads that row. -/
theorem ld_row (k : ℕ) (x : FVec Ideal S3x2048 .f32) (inb : ∀ a, (![k, 0] : Fin 2 → ℕ) a + S1x2048.size a ≤ S3x2048.size a) (c : ℕ) (hc : c < 2048) :
    rd (n0 := 1) (n1 := 2048) (View.ld (Val := Elt Ideal) (e' := .f32) x (Rect.unit (s := S3x2048) ![k, 0] S1x2048.size inb)) 0 c = rd (n0 := 3) (n1 := 2048) x k c := by
  have hk : k + 1 ≤ 3 := inb 0
  rw [View.ld_unit, ← rd_of _ (by omega : 0 < 1) hc, ← rd_of x (by omega : k < 3) hc]
  pointwise

/-- The first column block of the store is the closed form there. -/
theorem piece0 (kp kn : EReal) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (x : S256x2048.Idx) :
    k0_pay2 (F := Ideal) (k0_pay11 x0) (k0_pay22 (k0_pay12 kp (k0_pay9 x3) x4 x5 x6)
        (k0_pay17 kp (k0_pay9 x3) x4 x5 x6 (View.ld x8 (Rect.unit (s := S3x2048) ![0, 0] S1x2048.size inb_S3x2048_S1x2048_0_0)))
        (View.ld x8 (Rect.unit (s := S3x2048) ![1, 0] S1x2048.size inb_S3x2048_S1x2048_1_0))
        (View.ld x8 (Rect.unit (s := S3x2048) ![2, 0] S1x2048.size inb_S3x2048_S1x2048_2_0))) x
      = duBlock kp kn x0 x1 x2 x3 x4 x5 x6 x7 x8 (0 + 1 * (x 0).val) (0 + 1 * (x 1).val) := by
  have h1 : (x 1).val < 2048 := (x 1).isLt
  rw [show 0 + 1 * (x 0).val = (x 0).val by omega, show 0 + 1 * (x 1).val = (x 1).val by omega]
  obtain ⟨j, c, rfl⟩ : ∃ (j : Fin 256) (c : Fin 2048), x = ix2 j c := ⟨x 0, x 1, eq_ix2 x⟩
  rw [pay2_apply, pay22_apply, ld_row _ _ _ _ c.isLt, ld_row _ _ _ _ c.isLt, ld_row _ _ _ _ c.isLt]
  unfold duBlock
  rw [if_pos h1]
  rfl

/-- The convolution's transpose over a tile, in closed form. -/
theorem dcv_apply (kn : EReal) (x0 x2 : FVec Ideal S256x2048 .bf16) (x1 x7 : FVec Ideal S16x2048 .bf16) (x8 : FVec Ideal S3x2048 .f32)
    (j : Fin 256) (c : Fin 2048) :
    k0_pay1 (F := Ideal) (k0_pay21 (k0_pay14 kn (k0_pay8 x2) x0 x1 x7) k0_pay15
        (View.ld x8 (Rect.unit (s := S3x2048) ![0, 0] S1x2048.size inb_S3x2048_S1x2048_0_0))
        (View.ld x8 (Rect.unit (s := S3x2048) ![1, 0] S1x2048.size inb_S3x2048_S1x2048_1_0)))
      (k0_pay24 (k0_pay14 kn (k0_pay8 x2) x0 x1 x7) (View.ld x8 (Rect.unit (s := S3x2048) ![2, 0] S1x2048.size inb_S3x2048_S1x2048_2_0))) (ix2 j c)
      = rd x8 0 c * extd kn x0 x2 x1 x7 (j + 2) c + rd x8 1 c * extd kn x0 x2 x1 x7 (j + 1) c + rd x8 2 c * extd kn x0 x2 x1 x7 j c := by
  have hj := j.isLt
  have hy : ∀ r : ℕ, r < 272 → rd (n0 := 272) (n1 := 2048) (k0_pay14 (F := Ideal) kn (k0_pay8 x2) x0 x1 x7) r c.val = extd kn x0 x2 x1 x7 r c := by
    intro r hr
    rw [← rd_of _ hr c.isLt]
    exact pay14_apply kn x0 x2 x1 x7 ⟨r, hr⟩ c
  rw [pay1_apply, ld_row _ _ _ _ c.isLt, ld_row _ _ _ _ c.isLt, ld_row _ _ _ _ c.isLt, hy _ (by omega), hy _ (by omega), hy _ (by omega)]

/-- The second column block of the store is the closed form there. -/
theorem piece1 (kp kn : EReal) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (x : S256x2048.Idx) :
    k0_pay3 (F := Ideal) (k0_pay10 x4) (k0_pay21 (k0_pay14 kn (k0_pay8 x2) x0 x1 x7) k0_pay15
        (View.ld x8 (Rect.unit (s := S3x2048) ![0, 0] S1x2048.size inb_S3x2048_S1x2048_0_0))
        (View.ld x8 (Rect.unit (s := S3x2048) ![1, 0] S1x2048.size inb_S3x2048_S1x2048_1_0)))
      (k0_pay24 (k0_pay14 kn (k0_pay8 x2) x0 x1 x7) (View.ld x8 (Rect.unit (s := S3x2048) ![2, 0] S1x2048.size inb_S3x2048_S1x2048_2_0))) x
      = duBlock kp kn x0 x1 x2 x3 x4 x5 x6 x7 x8 (0 + 1 * (x 0).val) (2048 + 1 * (x 1).val) := by
  have h1 : (x 1).val < 2048 := (x 1).isLt
  rw [show 0 + 1 * (x 0).val = (x 0).val by omega, show 2048 + 1 * (x 1).val = (x 1).val + 2048 by omega]
  obtain ⟨j, c, rfl⟩ : ∃ (j : Fin 256) (c : Fin 2048), x = ix2 j c := ⟨x 0, x 1, eq_ix2 x⟩
  rw [pay3_apply, dcv_apply]
  unfold duBlock
  rw [if_neg (by omega), if_pos (by omega), Nat.add_sub_cancel]
  rfl

/-- The third column block of the store is the closed form there. -/
theorem piece2 (kp kn : EReal) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (x : S256x2048.Idx) :
    k0_pay4 (F := Ideal) (k0_pay9 x3) (k0_pay21 (k0_pay14 kn (k0_pay8 x2) x0 x1 x7) k0_pay15
        (View.ld x8 (Rect.unit (s := S3x2048) ![0, 0] S1x2048.size inb_S3x2048_S1x2048_0_0))
        (View.ld x8 (Rect.unit (s := S3x2048) ![1, 0] S1x2048.size inb_S3x2048_S1x2048_1_0)))
      (k0_pay24 (k0_pay14 kn (k0_pay8 x2) x0 x1 x7) (View.ld x8 (Rect.unit (s := S3x2048) ![2, 0] S1x2048.size inb_S3x2048_S1x2048_2_0))) x
      = duBlock kp kn x0 x1 x2 x3 x4 x5 x6 x7 x8 (0 + 1 * (x 0).val) (4096 + 1 * (x 1).val) := by
  have h1 : (x 1).val < 2048 := (x 1).isLt
  rw [show 0 + 1 * (x 0).val = (x 0).val by omega, show 4096 + 1 * (x 1).val = (x 1).val + 4096 by omega]
  obtain ⟨j, c, rfl⟩ : ∃ (j : Fin 256) (c : Fin 2048), x = ix2 j c := ⟨x 0, x 1, eq_ix2 x⟩
  rw [pay4_apply, dcv_apply]
  unfold duBlock
  rw [if_neg (by omega), if_neg (by omega), Nat.add_sub_cancel]
  rfl

/-- A one-row store into the taps' gradient, from its row. -/
theorem row_piece {k : ℕ} (p : FVec Ideal S1x2048 .f32) (G : ℕ → ℕ → EReal) (h : ∀ c : Fin 2048, p (ix2 0 c) = G k c) (x : S1x2048.Idx) :
    p x = G (k + 1 * (x 0).val) (0 + 1 * (x 1).val) := by
  obtain ⟨j, c, rfl⟩ : ∃ (j : Fin 1) (c : Fin 2048), x = ix2 j c := ⟨x 0, x 1, eq_ix2 x⟩
  obtain rfl : j = 0 := Subsingleton.elim _ _
  rw [h]
  show G k c.val = G (k + 1 * 0) (0 + 1 * c.val)
  rw [Nat.mul_zero, Nat.add_zero, Nat.one_mul, Nat.zero_add]

/-- What a one-row load of the taps reads, at its row. -/
theorem ld_row_ix (k : ℕ) (x : FVec Ideal S3x2048 .f32) (inb : ∀ a, (![k, 0] : Fin 2 → ℕ) a + S1x2048.size a ≤ S3x2048.size a) (c : Fin 2048) :
    (View.ld (Val := Elt Ideal) (e' := .f32) x (Rect.unit (s := S3x2048) ![k, 0] S1x2048.size inb) : FVec Ideal S1x2048 .f32) (ix2 0 c) = rd (n0 := 3) (n1 := 2048) x k c := by
  rw [← ld_row k x inb c c.isLt]
  exact rd_of (n0 := 1) (n1 := 2048) _ (by omega) c.isLt

/-- The three one-row stores of the taps' gradient cover its block. -/
theorem rows_cover (p0 p1 p2 : FVec Ideal S1x2048 .f32) (y : S3x2048.Idx) :
    ∃ p ∈ ([⟨Rect.unit (s := S3x2048) ![2, 0] S1x2048.size inb_S3x2048_S1x2048_2_0, p2⟩,
        ⟨Rect.unit (s := S3x2048) ![1, 0] S1x2048.size inb_S3x2048_S1x2048_1_0, p1⟩,
        ⟨Rect.unit (s := S3x2048) ![0, 0] S1x2048.size inb_S3x2048_S1x2048_0_0, p0⟩] : List (View.Piece (Elt Ideal) S3x2048 .f32)), y ∈ p.1.set := by
  have h0 : (y 0).val < 3 := (y 0).isLt
  have h1 : (y 1).val < 2048 := (y 1).isLt
  have hm : ∀ (k : ℕ) (inb : ∀ a, (![k, 0] : Fin 2 → ℕ) a + S1x2048.size a ≤ S3x2048.size a), (y 0).val = k →
      y ∈ (Rect.unit (s := S3x2048) ![k, 0] S1x2048.size inb).set := by
    intro k inb hk
    refine Rect.mem_set_unit.mpr (Fin.forall_fin_two.mpr ⟨⟨?_, ?_⟩, ⟨?_, ?_⟩⟩)
    · show k ≤ (y 0).val
      omega
    · show (y 0).val < k + 1
      omega
    · exact Nat.zero_le _
    · show (y 1).val < 0 + 2048
      omega
  rcases (by omega : (y 0).val = 2 ∨ (y 0).val = 1 ∨ (y 0).val = 0) with h | h | h
  · exact ⟨_, List.mem_cons_self, hm 2 inb_S3x2048_S1x2048_2_0 h⟩
  · exact ⟨_, List.mem_cons_of_mem _ List.mem_cons_self, hm 1 inb_S3x2048_S1x2048_1_0 h⟩
  · exact ⟨_, List.mem_cons_of_mem _ (List.mem_cons_of_mem _ List.mem_cons_self), hm 0 inb_S3x2048_S1x2048_0_0 h⟩

/-- The zero fill holds zero. -/
theorem rd_pay7 (k c : ℕ) : rd (n0 := 3) (n1 := 2048) (k0_pay7 (F := Ideal)) k c = 0 := by
  unfold rd
  split_ifs
  · pointwise [k0_pay7]
  · rfl

/-- What a tile stores of the gradient of the projected input (the first tile). -/
theorem out9_A (c : Dev nD) (i : grid0.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : cond0_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) :
    out0_A_9 (F := Ideal) c i a1 h1 a2 h2 a3 h3 a4 h4 a5 h5 a6 h6 a7 h7 a8 h8 a9 h9 a10 h10 a11 h11 hc x0 x1 x2 x3 x4 x5 x6 x7 x8 = fun y => duBlock (k0_pay5 (F := Ideal) i) (k0_pay6 (F := Ideal) i) x0 x1 x2 x3 x4 x5 x6 x7 x8 (y 0).val (y 1).val := by
  unfold out0_A_9
  rw [View.read_writes_eq_canon _ _ _ (cover0_A_9 (F := Ideal) c i a1 h1 a2 h2 a3 h3 a4 h4 a5 h5 a6 h6 a7 h7 a8 h8 a9 h9 a10 h10 a11 h11 hc x0 x1 x2 x3 x4 x5 x6 x7 x8)]
  funext y
  suffices hp : View.PiecesOf (Val := Elt Ideal) (e := .bf16) (fun y : S256x6144.Idx => duBlock (k0_pay5 (F := Ideal) i) (k0_pay6 (F := Ideal) i) x0 x1 x2 x3 x4 x5 x6 x7 x8 (y 0).val (y 1).val) _ from
    View.canon_apply_of_pieces (fun y : S256x6144.Idx => duBlock (k0_pay5 (F := Ideal) i) (k0_pay6 (F := Ideal) i) x0 x1 x2 x3 x4 x5 x6 x7 x8 (y 0).val (y 1).val) _ hp.mem y (cover0_A_9 (F := Ideal) c i a1 h1 a2 h2 a3 h3 a4 h4 a5 h5 a6 h6 a7 h7 a8 h8 a9 h9 a10 h10 a11 h11 hc x0 x1 x2 x3 x4 x5 x6 x7 x8 y)
  unfold kernelRun0_A
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  exact ⟨fun x => piece2 _ _ x0 x1 x2 x3 x4 x5 x6 x7 x8 x, fun x => piece1 _ _ x0 x1 x2 x3 x4 x5 x6 x7 x8 x,
    fun x => piece0 _ _ x0 x1 x2 x3 x4 x5 x6 x7 x8 x, trivial⟩

/-- What a tile stores of the gradient of the projected input (a later tile). -/
theorem out9_B (c : Dev nD) (i : grid0.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : ¬cond0_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (xo : FVec Ideal S3x2048 .f32) :
    out0_B_9 (F := Ideal) c i a1 h1 a2 h2 a3 h3 a4 h4 a5 h5 a6 h6 a7 h7 a8 h8 a9 h9 a10 h10 a11 h11 hc x0 x1 x2 x3 x4 x5 x6 x7 x8 xo = fun y => duBlock (k0_pay5 (F := Ideal) i) (k0_pay6 (F := Ideal) i) x0 x1 x2 x3 x4 x5 x6 x7 x8 (y 0).val (y 1).val := by
  unfold out0_B_9
  rw [View.read_writes_eq_canon _ _ _ (cover0_B_9 (F := Ideal) c i a1 h1 a2 h2 a3 h3 a4 h4 a5 h5 a6 h6 a7 h7 a8 h8 a9 h9 a10 h10 a11 h11 hc x0 x1 x2 x3 x4 x5 x6 x7 x8 xo)]
  funext y
  suffices hp : View.PiecesOf (Val := Elt Ideal) (e := .bf16) (fun y : S256x6144.Idx => duBlock (k0_pay5 (F := Ideal) i) (k0_pay6 (F := Ideal) i) x0 x1 x2 x3 x4 x5 x6 x7 x8 (y 0).val (y 1).val) _ from
    View.canon_apply_of_pieces (fun y : S256x6144.Idx => duBlock (k0_pay5 (F := Ideal) i) (k0_pay6 (F := Ideal) i) x0 x1 x2 x3 x4 x5 x6 x7 x8 (y 0).val (y 1).val) _ hp.mem y (cover0_B_9 (F := Ideal) c i a1 h1 a2 h2 a3 h3 a4 h4 a5 h5 a6 h6 a7 h7 a8 h8 a9 h9 a10 h10 a11 h11 hc x0 x1 x2 x3 x4 x5 x6 x7 x8 xo y)
  unfold kernelRun0_B
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  exact ⟨fun x => piece2 _ _ x0 x1 x2 x3 x4 x5 x6 x7 x8 x, fun x => piece1 _ _ x0 x1 x2 x3 x4 x5 x6 x7 x8 x,
    fun x => piece0 _ _ x0 x1 x2 x3 x4 x5 x6 x7 x8 x, trivial⟩

/-- What a tile leaves of the taps' gradient (the first tile). -/
theorem out10_A (c : Dev nD) (i : grid0.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : cond0_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) :
    out0_A_10 (F := Ideal) c i a1 h1 a2 h2 a3 h3 a4 h4 a5 h5 a6 h6 a7 h7 a8 h8 a9 h9 a10 h10 a11 h11 hc x0 x1 x2 x3 x4 x5 x6 x7 x8 = fun y => 0 + dwBlock (k0_pay5 (F := Ideal) i) x0 x2 x3 x4 x5 x6 (y 0).val (y 1).val := by
  unfold out0_A_10
  rw [View.read_writes_eq_canon _ _ _ (cover0_A_10 (F := Ideal) c i a1 h1 a2 h2 a3 h3 a4 h4 a5 h5 a6 h6 a7 h7 a8 h8 a9 h9 a10 h10 a11 h11 hc x0 x1 x2 x3 x4 x5 x6 x7 x8)]
  funext y
  unfold kernelRun0_A
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  simp (disch := first | decide | exact fun a => congrFun hz a) only [↓View.readCov_skip, ↓View.readCov_fill]
  refine View.canon_append_of_piecesOf (Val := Elt Ideal) (e := .f32) (fun y : S3x2048.Idx => 0 + dwBlock (k0_pay5 (F := Ideal) i) x0 x2 x3 x4 x5 x6 (y 0).val (y 1).val)
    [_] [_, _, _] ?_ y (rows_cover _ _ _ y)
  exact ⟨fun x => row_piece (k := 2) _ (fun k c => 0 + dwBlock (k0_pay5 (F := Ideal) i) x0 x2 x3 x4 x5 x6 k c)
        (fun c => by dsimp only; rw [pay23_apply, ld_row_ix, rd_pay7]; rfl) x,
      fun x => row_piece (k := 1) _ (fun k c => 0 + dwBlock (k0_pay5 (F := Ideal) i) x0 x2 x3 x4 x5 x6 k c)
        (fun c => by dsimp only; rw [pay20_apply, ld_row_ix, rd_pay7]; rfl) x,
      fun x => row_piece (k := 0) _ (fun k c => 0 + dwBlock (k0_pay5 (F := Ideal) i) x0 x2 x3 x4 x5 x6 k c)
        (fun c => by dsimp only; rw [pay18_apply, ld_row_ix, rd_pay7]; rfl) x, trivial⟩

/-- What a tile leaves of the taps' gradient (a later tile). -/
theorem out10_B (c : Dev nD) (i : grid0.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : ¬cond0_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (xo : FVec Ideal S3x2048 .f32) :
    out0_B_10 (F := Ideal) c i a1 h1 a2 h2 a3 h3 a4 h4 a5 h5 a6 h6 a7 h7 a8 h8 a9 h9 a10 h10 a11 h11 hc x0 x1 x2 x3 x4 x5 x6 x7 x8 xo = fun y => rd xo (y 0).val (y 1).val + dwBlock (k0_pay5 (F := Ideal) i) x0 x2 x3 x4 x5 x6 (y 0).val (y 1).val := by
  unfold out0_B_10
  rw [View.read_writes_eq_canon _ _ _ (cover0_B_10 (F := Ideal) c i a1 h1 a2 h2 a3 h3 a4 h4 a5 h5 a6 h6 a7 h7 a8 h8 a9 h9 a10 h10 a11 h11 hc x0 x1 x2 x3 x4 x5 x6 x7 x8 xo)]
  funext y
  unfold kernelRun0_B
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  refine View.canon_append_of_piecesOf (Val := Elt Ideal) (e := .f32) (fun y : S3x2048.Idx => rd (n0 := 3) (n1 := 2048) xo (y 0).val (y 1).val + dwBlock (k0_pay5 (F := Ideal) i) x0 x2 x3 x4 x5 x6 (y 0).val (y 1).val)
    [] [_, _, _] ?_ y (rows_cover _ _ _ y)
  · exact ⟨fun x => row_piece (k := 2) _ (fun k c => rd (n0 := 3) (n1 := 2048) xo k c + dwBlock (k0_pay5 (F := Ideal) i) x0 x2 x3 x4 x5 x6 k c)
        (fun c => by dsimp only; rw [pay23_apply, ld_row_ix]; rfl) x,
      fun x => row_piece (k := 1) _ (fun k c => rd (n0 := 3) (n1 := 2048) xo k c + dwBlock (k0_pay5 (F := Ideal) i) x0 x2 x3 x4 x5 x6 k c)
        (fun c => by dsimp only; rw [pay20_apply, ld_row_ix]; rfl) x,
      fun x => row_piece (k := 0) _ (fun k c => rd (n0 := 3) (n1 := 2048) xo k c + dwBlock (k0_pay5 (F := Ideal) i) x0 x2 x3 x4 x5 x6 k c)
        (fun c => by dsimp only; rw [pay18_apply, ld_row_ix]; rfl) x, trivial⟩

end Cert.Mix
end
-- ==== Proof.MixArrays.lean ====
module

public import proofs.«01_k».proof.Proof.MixBlock
public import Idealize.ShloMosaic.Lib.Pipeline.ValueKit

@[expose] public section
noncomputable section
open Idealize.ShloMosaic Idealize.ShloMosaic.TcCoe Idealize.SL.Sem
open Idealize.ShloMosaic.Pipeline (Dat)

namespace Cert.Mix
open Cert.KernelIdeal Cert.KernelIdeal.Gen

variable (m : (ℓ : Loc nD τ sig) → Buf (Elt Ideal) ℓ)

theorem coords0 : ∀ t : Fin cfg0.N, (grid0.coords t 0).val = t.val :=
  (by decide +kernel : ∀ t : Fin grid0.N, (grid0.coords t 0).val = t.val)

theorem index0 : ∀ t : Fin cfg0.N, win0_0.index t = ![t.val, 0] :=
  (by decide +kernel : ∀ t : Fin grid0.N, win0_0.index t = ![t.val, 0])

theorem index1 : ∀ t : Fin cfg0.N, win0_1.index t = ![min ((t.val + 1) * 16) 255, 0] :=
  (by decide +kernel : ∀ t : Fin grid0.N, win0_1.index t = ![min ((t.val + 1) * 16) 255, 0])

theorem index2 : ∀ t : Fin cfg0.N, win0_2.index t = ![t.val, 0] :=
  (by decide +kernel : ∀ t : Fin grid0.N, win0_2.index t = ![t.val, 0])

theorem index3 : ∀ t : Fin cfg0.N, win0_3.index t = ![t.val, 1] :=
  (by decide +kernel : ∀ t : Fin grid0.N, win0_3.index t = ![t.val, 1])

theorem index4 : ∀ t : Fin cfg0.N, win0_4.index t = ![t.val, 2] :=
  (by decide +kernel : ∀ t : Fin grid0.N, win0_4.index t = ![t.val, 2])

theorem index5 : ∀ t : Fin cfg0.N, win0_5.index t = ![t.val * 16 - 1, 1] :=
  (by decide +kernel : ∀ t : Fin grid0.N, win0_5.index t = ![t.val * 16 - 1, 1])

theorem index6 : ∀ t : Fin cfg0.N, win0_6.index t = ![t.val * 16 - 1, 2] :=
  (by decide +kernel : ∀ t : Fin grid0.N, win0_6.index t = ![t.val * 16 - 1, 2])

theorem index7 : ∀ t : Fin cfg0.N, win0_7.index t = ![min ((t.val + 1) * 16) 255, 0] :=
  (by decide +kernel : ∀ t : Fin grid0.N, win0_7.index t = ![min ((t.val + 1) * 16) 255, 0])

theorem index8 : ∀ t : Fin cfg0.N, win0_8.index t = ![0, 0] :=
  (by decide +kernel : ∀ t : Fin grid0.N, win0_8.index t = ![0, 0])

theorem index9 : ∀ t : Fin cfg0.N, win0_9.index t = ![t.val, 0] :=
  (by decide +kernel : ∀ t : Fin grid0.N, win0_9.index t = ![t.val, 0])

/-- Window 0's block at a point, read in its array. -/
theorem block0 (c : Dev nD) (t : Fin cfg0.N) {j k : ℕ} (hj : j < 256) (hk : k < 2048) :
    rd (n0 := 256) (n1 := 2048) (iblk m c 0 t) j k = rd (n0 := 4096) (n1 := 2048) (m ((c : Thread nD τ).loc main_arg0)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg0)) (funext (Fin.forall_fin_two.mpr ⟨Fin.ext ?_, Fin.ext ?_⟩))
  · blk_simp [index0] <;> (show _ = 256 * t.val + j) <;> (try dsimp only) <;> omega
  · blk_simp [index0] <;> (show _ = k) <;> (try dsimp only) <;> omega

/-- Window 1's block at a point, read in its array. -/
theorem block1 (c : Dev nD) (t : Fin cfg0.N) {j k : ℕ} (hj : j < 16) (hk : k < 2048) :
    rd (n0 := 16) (n1 := 2048) (iblk m c 1 t) j k = rd (n0 := 4096) (n1 := 2048) (m ((c : Thread nD τ).loc main_arg0)) (min ((t.val + 1) * 16) 255 * 16 + j) k := by
  have ht : t.val < 16 := lt_of_lt_of_eq t.isLt N_0
  rw [← rd_of _ hj hk, ← rd_of _ (by omega) (by omega)]
  blk_simp [iblk]
  refine congrArg (m ((c : Thread nD τ).loc main_arg0)) (funext (Fin.forall_fin_two.mpr ⟨Fin.ext ?_, Fin.ext ?_⟩))
  · blk_simp [index1] <;> (show _ = min ((t.val + 1) * 16) 255 * 16 + j) <;> (try dsimp only) <;> omega
  · blk_simp [index1] <;> (show _ = k) <;> (try dsimp only) <;> omega

/-- Window 2's block at a point, read in its array. -/
theorem block2 (c : Dev nD) (t : Fin cfg0.N) {j k : ℕ} (hj : j < 256) (hk : k < 2048) :
    rd (n0 := 256) (n1 := 2048) (iblk m c 2 t) j k = rd (n0 := 4096) (n1 := 6144) (m ((c : Thread nD τ).loc main_arg1)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index2] <;> (show _ = 256 * t.val + j) <;> (try dsimp only) <;> omega
  · blk_simp [index2] <;> (show _ = k) <;> (try dsimp only) <;> omega

/-- Window 3's block at a point, read in its array. -/
theorem block3 (c : Dev nD) (t : Fin cfg0.N) {j k : ℕ} (hj : j < 256) (hk : k < 2048) :
    rd (n0 := 256) (n1 := 2048) (iblk m c 3 t) j k = rd (n0 := 4096) (n1 := 6144) (m ((c : Thread nD τ).loc main_arg1)) (256 * t.val + j) (2048 + k) := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index3] <;> (show _ = 256 * t.val + j) <;> (try dsimp only) <;> omega
  · blk_simp [index3] <;> (show _ = 2048 + k) <;> (try dsimp only) <;> omega

/-- Window 4's block at a point, read in its array. -/
theorem block4 (c : Dev nD) (t : Fin cfg0.N) {j k : ℕ} (hj : j < 256) (hk : k < 2048) :
    rd (n0 := 256) (n1 := 2048) (iblk m c 4 t) j k = rd (n0 := 4096) (n1 := 6144) (m ((c : Thread nD τ).loc main_arg1)) (256 * t.val + j) (4096 + k) := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index4] <;> (show _ = 256 * t.val + j) <;> (try dsimp only) <;> omega
  · blk_simp [index4] <;> (show _ = 4096 + k) <;> (try dsimp only) <;> omega

/-- Window 5's block at a point, read in its array. -/
theorem block5 (c : Dev nD) (t : Fin cfg0.N) {j k : ℕ} (hj : j < 16) (hk : k < 2048) :
    rd (n0 := 16) (n1 := 2048) (iblk m c 5 t) j k = rd (n0 := 4096) (n1 := 6144) (m ((c : Thread nD τ).loc main_arg1)) ((t.val * 16 - 1) * 16 + j) (2048 + k) := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index5] <;> (show _ = (t.val * 16 - 1) * 16 + j) <;> (try dsimp only) <;> omega
  · blk_simp [index5] <;> (show _ = 2048 + k) <;> (try dsimp only) <;> omega

/-- Window 6's block at a point, read in its array. -/
theorem block6 (c : Dev nD) (t : Fin cfg0.N) {j k : ℕ} (hj : j < 16) (hk : k < 2048) :
    rd (n0 := 16) (n1 := 2048) (iblk m c 6 t) j k = rd (n0 := 4096) (n1 := 6144) (m ((c : Thread nD τ).loc main_arg1)) ((t.val * 16 - 1) * 16 + j) (4096 + k) := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index6] <;> (show _ = (t.val * 16 - 1) * 16 + j) <;> (try dsimp only) <;> omega
  · blk_simp [index6] <;> (show _ = 4096 + k) <;> (try dsimp only) <;> omega

/-- Window 7's block at a point, read in its array. -/
theorem block7 (c : Dev nD) (t : Fin cfg0.N) {j k : ℕ} (hj : j < 16) (hk : k < 2048) :
    rd (n0 := 16) (n1 := 2048) (iblk m c 7 t) j k = rd (n0 := 4096) (n1 := 6144) (m ((c : Thread nD τ).loc main_arg1)) (min ((t.val + 1) * 16) 255 * 16 + j) k := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index7] <;> (show _ = min ((t.val + 1) * 16) 255 * 16 + j) <;> (try dsimp only) <;> omega
  · blk_simp [index7] <;> (show _ = k) <;> (try dsimp only) <;> omega

/-- Window 8's block at a point, read in its array. -/
theorem block8 (c : Dev nD) (t : Fin cfg0.N) {j k : ℕ} (hj : j < 3) (hk : k < 2048) :
    rd (n0 := 3) (n1 := 2048) (iblk m c 8 t) j k = rd (n0 := 3) (n1 := 2048) (m ((c : Thread nD τ).loc main_arg2)) (0 + j) k := by
  have ht : t.val < 16 := lt_of_lt_of_eq t.isLt N_0
  rw [← rd_of _ hj hk, ← rd_of _ (by omega) (by omega)]
  blk_simp [iblk]
  refine congrArg (m ((c : Thread nD τ).loc main_arg2)) (funext (Fin.forall_fin_two.mpr ⟨Fin.ext ?_, Fin.ext ?_⟩))
  · blk_simp [index8] <;> (show _ = 0 + j) <;> (try dsimp only) <;> omega
  · blk_simp [index8] <;> (show _ = k) <;> (try dsimp only) <;> omega

/-! ## The two results over the whole arrays -/

/-- The product `gate_c * v` of the projected input at a row and a column. -/
def gv (u : (⟨2, ![4096, 6144]⟩ : Shape).Idx → EReal) (r c : ℕ) : EReal := rd u r (2048 + c) * rd u r (4096 + c)

/-- The product `dy * gate_b` at a row and a column. -/
def gq (dy : (⟨2, ![4096, 2048]⟩ : Shape).Idx → EReal) (u : (⟨2, ![4096, 6144]⟩ : Shape).Idx → EReal) (r c : ℕ) : EReal := rd dy r c * rd u r c

/-- `gate_c * v`, `s` rows earlier in the same sequence of 2048 rows: zero before its start. -/
def gvBack (u : (⟨2, ![4096, 6144]⟩ : Shape).Idx → EReal) (s r c : ℕ) : EReal := if s ≤ r % 2048 then gv u (r - s) c else 0

/-- `dy * gate_b`, `s` rows later in the same sequence of 2048 rows: zero after its end. -/
def gqAhead (dy : (⟨2, ![4096, 2048]⟩ : Shape).Idx → EReal) (u : (⟨2, ![4096, 6144]⟩ : Shape).Idx → EReal) (s r c : ℕ) : EReal :=
  if r % 2048 + s < 2048 then gq dy u (r + s) c else 0

/-- The gradient of the projected input: in its three column blocks that of `gate_b`, `gate_c` and `v`. -/
def duArr (dy : (⟨2, ![4096, 2048]⟩ : Shape).Idx → EReal) (u : (⟨2, ![4096, 6144]⟩ : Shape).Idx → EReal) (w : (⟨2, ![3, 2048]⟩ : Shape).Idx → EReal)
    (r c : ℕ) : EReal :=
  if c < 2048 then rd dy r c * (rd w 0 c * gvBack u 2 r c + rd w 1 c * gvBack u 1 r c + rd w 2 c * gvBack u 0 r c)
  else if c < 4096 then
    (rd w 0 (c - 2048) * gqAhead dy u 2 r (c - 2048) + rd w 1 (c - 2048) * gqAhead dy u 1 r (c - 2048)
      + rd w 2 (c - 2048) * gqAhead dy u 0 r (c - 2048)) * rd u r (4096 + (c - 2048))
  else
    (rd w 0 (c - 4096) * gqAhead dy u 2 r (c - 4096) + rd w 1 (c - 4096) * gqAhead dy u 1 r (c - 4096)
      + rd w 2 (c - 4096) * gqAhead dy u 0 r (c - 4096)) * rd u r (2048 + (c - 4096))

/-- What row `r` adds to the gradient of tap `k`. -/
def dwRow (dy : (⟨2, ![4096, 2048]⟩ : Shape).Idx → EReal) (u : (⟨2, ![4096, 6144]⟩ : Shape).Idx → EReal) (k c r : ℕ) : EReal :=
  gq dy u r c * gvBack u (2 - k) r c

/-- The gradient of tap `k`: the sum over all rows. -/
def dwArr (dy : (⟨2, ![4096, 2048]⟩ : Shape).Idx → EReal) (u : (⟨2, ![4096, 6144]⟩ : Shape).Idx → EReal) (k c : ℕ) : EReal :=
  ∑ r ∈ Finset.range 4096, dwRow dy u k c r

abbrev dyOf (c : Dev nD) : (⟨2, ![4096, 2048]⟩ : Shape).Idx → EReal := m ((c : Thread nD τ).loc main_arg0)
abbrev uOf (c : Dev nD) : (⟨2, ![4096, 6144]⟩ : Shape).Idx → EReal := m ((c : Thread nD τ).loc main_arg1)
abbrev wOf (c : Dev nD) : (⟨2, ![3, 2048]⟩ : Shape).Idx → EReal := m ((c : Thread nD τ).loc main_arg2)

/-- A tile's extended `gate_c * v` is the array's, shifted back within the sequence. -/
theorem ext_block (c : Dev nD) (t : Fin cfg0.N) {s j k : ℕ} (hs : s ≤ 2) (hj : j < 256) (hk : k < 2048) :
    ext (k0_pay5 (F := Ideal) (grid0.coords t)) (iblk m c 3 t) (iblk m c 4 t) (iblk m c 5 t) (iblk m c 6 t) (16 - s + j) k
      = gvBack (uOf m c) s (256 * t.val + j) k := by
  have ht : t.val < 16 := lt_of_lt_of_eq t.isLt N_0
  unfold ext gvBack gv
  by_cases h : 16 - s + j < 16
  · rw [if_pos h, block5 m c t h hk, block6 m c t h hk, pay5_eq, coords0]
    by_cases h0 : t.val % 8 = 0
    · rw [if_pos h0, if_neg (by omega), mul_zero]
    · rw [if_neg h0, if_pos (by omega), mul_one, show (t.val * 16 - 1) * 16 + (16 - s + j) = 256 * t.val + j - s by omega]
  · rw [if_neg h, if_pos (by omega), block3 m c t (by omega) hk, block4 m c t (by omega) hk,
      show 256 * t.val + (16 - s + j - 16) = 256 * t.val + j - s by omega]

/-- A tile's extended `dy * gate_b` is the array's, shifted ahead within the sequence. -/
theorem extd_block (c : Dev nD) (t : Fin cfg0.N) {s j k : ℕ} (hs : s ≤ 2) (hj : j < 256) (hk : k < 2048) :
    extd (k0_pay6 (F := Ideal) (grid0.coords t)) (iblk m c 0 t) (iblk m c 2 t) (iblk m c 1 t) (iblk m c 7 t) (j + s) k
      = gqAhead (dyOf m c) (uOf m c) s (256 * t.val + j) k := by
  have ht : t.val < 16 := lt_of_lt_of_eq t.isLt N_0
  unfold extd gqAhead gq
  by_cases h : j + s < 256
  · rw [if_pos h, block0 m c t h hk, block2 m c t h hk, if_pos (by omega), show 256 * t.val + j + s = 256 * t.val + (j + s) by omega]
  · rw [if_neg h, block1 m c t (by omega) hk, block7 m c t (by omega) hk, pay6_eq, coords0]
    by_cases h7 : t.val % 8 = 7
    · rw [if_pos h7, if_neg (by omega), mul_zero]
    · rw [if_neg h7, if_pos (by omega), mul_one, show min ((t.val + 1) * 16) 255 * 16 + (j + s - 256) = 256 * t.val + j + s by omega]

/-- What a tile stores of the gradient of the projected input is its rows of the array's. -/
theorem duBlock_eq (c : Dev nD) (t : Fin cfg0.N) {j k : ℕ} (hj : j < 256) (hk : k < 6144) :
    duBlock (k0_pay5 (F := Ideal) (grid0.coords t)) (k0_pay6 (F := Ideal) (grid0.coords t)) (iblk m c 0 t) (iblk m c 1 t) (iblk m c 2 t) (iblk m c 3 t)
      (iblk m c 4 t) (iblk m c 5 t) (iblk m c 6 t) (iblk m c 7 t) (iblk m c 8 t) j k
      = duArr (dyOf m c) (uOf m c) (wOf m c) (256 * t.val + j) k := by
  have hw : ∀ i k : ℕ, i < 3 → k < 2048 → rd (n0 := 3) (n1 := 2048) (iblk m c 8 t) i k = rd (wOf m c) i k := by
    intro i k hi hk
    rw [block8 m c t hi hk, Nat.zero_add]
  have e0 := fun {k : ℕ} (h : k < 2048) => extd_block m c t (s := 0) (by omega) hj h
  simp only [Nat.add_zero] at e0
  unfold duBlock duArr
  by_cases h1 : k < 2048
  · rw [if_pos h1, if_pos h1, block0 m c t hj h1, hw 0 k (by omega) h1, hw 1 k (by omega) h1, hw 2 k (by omega) h1,
      show 14 + j = 16 - 2 + j by omega, show 15 + j = 16 - 1 + j by omega, show 16 + j = 16 - 0 + j by omega,
      ext_block m c t (by omega) hj h1, ext_block m c t (by omega) hj h1, ext_block m c t (by omega) hj h1]
  · rw [if_neg h1, if_neg h1]
    by_cases h2 : k < 4096
    · have h3 : k - 2048 < 2048 := by omega
      rw [if_pos h2, if_pos h2, hw 0 _ (by omega) h3, hw 1 _ (by omega) h3, hw 2 _ (by omega) h3, block4 m c t hj h3,
        extd_block m c t (s := 2) (by omega) hj h3, extd_block m c t (s := 1) (by omega) hj h3,
        e0 h3]
    · have h3 : k - 4096 < 2048 := by omega
      rw [if_neg h2, if_neg h2, hw 0 _ (by omega) h3, hw 1 _ (by omega) h3, hw 2 _ (by omega) h3, block3 m c t hj h3,
        extd_block m c t (s := 2) (by omega) hj h3, extd_block m c t (s := 1) (by omega) hj h3,
        e0 h3]

/-- The sum a tile adds to the gradient of tap `k` is that of its rows. -/
theorem dwBlock_eq (c : Dev nD) (t : Fin cfg0.N) {k col : ℕ} (hk : k < 3) (hc : col < 2048) :
    dwBlock (k0_pay5 (F := Ideal) (grid0.coords t)) (iblk m c 0 t) (iblk m c 2 t) (iblk m c 3 t) (iblk m c 4 t) (iblk m c 5 t) (iblk m c 6 t) k col
      = ∑ j ∈ Finset.range 256, dwRow (dyOf m c) (uOf m c) k col (256 * t.val + j) := by
  rw [Finset.sum_range]
  refine Finset.sum_congr rfl fun j _ => ?_
  rw [block0 m c t j.isLt hc, block2 m c t j.isLt hc, show 14 + k + j.val = 16 - (2 - k) + j.val by omega, ext_block m c t (by omega) j.isLt hc]
  rfl

/-- The taps' gradient after a point: the sum over the rows of the tiles so far. -/
theorem acc_eq (c : Dev nD) : ∀ (n : ℕ) (hn : n < cfg0.N) (k : Fin 3) (col : Fin 2048),
    (outsAt0 m c n hn).2 (ix2 k col) = ∑ r ∈ Finset.range (256 * n + 256), dwRow (dyOf m c) (uOf m c) k col r := by
  intro n
  induction n with
  | zero =>
    intro hn k col
    have e := outsAt0_A m c ⟨0, hn⟩ rfl
    dsimp only at e
    rw [e]
    dsimp only
    rw [out10_A]
    show 0 + dwBlock _ _ _ _ _ _ _ k.val col.val = _
    rw [zero_add, dwBlock_eq m c ⟨0, hn⟩ k.isLt col.isLt]
    simp only [Nat.mul_zero, Nat.zero_add]
  | succ n ih =>
    intro hn k col
    have hN : n + 1 < 16 := lt_of_lt_of_eq hn N_0
    have e := outsAt0_B m c ⟨n + 1, hn⟩ (show ¬(n + 1) % 16 = 0 by omega)
    dsimp only at e
    rw [e]
    dsimp only
    rw [out10_B]
    show rd (n0 := 3) (n1 := 2048) (outsAt0 m c (n + 1 - 1) _).2 k.val col.val + dwBlock _ _ _ _ _ _ _ k.val col.val = _
    rw [← rd_ix2 (n0 := 3) (n1 := 2048) _ k col, dwBlock_eq m c ⟨n + 1, hn⟩ k.isLt col.isLt]
    have e1 := ih (by omega) k col
    simp only [Nat.add_sub_cancel]
    rw [e1, show 256 * (n + 1) = 256 * n + 256 by omega, Finset.sum_range_add _ (256 * n + 256) 256]

/-- The kernel's first result: the gradient of the projected input. -/
theorem final9 (c : Dev nD) : (dats m 0 c).arrAt 9 cfg0.N = fun y : S4096x6144.Idx => duArr (dyOf m c) (uOf m c) (wOf m c) (y 0).val (y 1).val := by
  refine (dats m 0 c).arrAt_eq_of_covers 9 _ (by decide +kernel) fun t hf y => ?_
  have h0 : (y 0).val < 256 := (y 0).isLt
  have h1 : (y 1).val < 6144 := (y 1).isLt
  blk_simp [index9]
  rw [after0_9]
  obtain ⟨j, k, rfl⟩ : ∃ (j : Fin 256) (k : Fin 6144), y = ix2 j k := ⟨y 0, y 1, eq_ix2 y⟩
  have hO : (outsAt0 m c t.val t.isLt).1 (ix2 j k) = duArr (dyOf m c) (uOf m c) (wOf m c) (256 * t.val + j.val) k.val := by
    rw [← duBlock_eq m c t j.isLt k.isLt]
    by_cases h : t.val % 16 = 0
    · rw [outsAt0_A m c t h]
      dsimp only
      rw [out9_A]
      rfl
    · rw [outsAt0_B m c t h]
      dsimp only
      rw [out9_B]
      rfl
  rw [hO, Nat.mul_comm]
  rfl

/-- The kernel's second result: the gradient of the taps. -/
theorem final10 (c : Dev nD) : (dats m 0 c).arrAt 10 cfg0.N = fun y : S3x2048.Idx => dwArr (dyOf m c) (uOf m c) (y 0).val (y 1).val := by
  refine (dats m 0 c).arrAt_eq_of_after_last 10 t0_15 (by decide +kernel) _ fun y => ?_
  blk_simp
  rw [after0_10]
  obtain ⟨j, k, rfl⟩ : ∃ (j : Fin 3) (k : Fin 2048), y = ix2 j k := ⟨y 0, y 1, eq_ix2 y⟩
  exact acc_eq m c 15 _ j k

end Cert.Mix
-- ==== Proof.MixReference.lean ====
module

public import proofs.«01_k».proof.Proof.MixArrays
public import proofs.«01_k».proof.Proof.Gen.ReferenceIdeal.Read

@[expose] public section
noncomputable section
open Idealize.ShloMosaic Idealize.ShloMosaic.TcCoe Idealize.SL.Sem

namespace Cert.Mix
open Cert.ReferenceIdeal Cert.ReferenceIdeal.Read

/-- The host's sum over the first two axes of a rank-three array, at an entry. -/
theorem host_sum_front {n0 n1 n2 : ℕ} (h : (⟨3, ![n0, n1, n2]⟩ : Shape).ReducesTo [0, 1] ⟨1, ![n2]⟩) (v : (⟨3, ![n0, n1, n2]⟩ : Shape).Idx → EReal)
    (init : EReal) (c : Fin n2) :
    Ideal.hostReduceAdd h v init (ix1 c) = init + ∑ a : Fin n0, ∑ b : Fin n1, v (ix3 a b c) := by
  unfold Ideal.hostReduceAdd
  refine congrArg (init + ·) ?_
  rw [← Fintype.sum_prod_type' (fun a b => v (ix3 a b c))]
  refine Finset.sum_bij' (fun i _ => ((i 0, i 1) : Fin n0 × Fin n1)) (fun p _ => ix3 p.1 p.2 c) (fun _ _ => Finset.mem_univ _) ?_ ?_ (fun _ _ => rfl) ?_
  · intro p _
    refine Finset.mem_filter.mpr ⟨Finset.mem_univ _, ?_⟩
    funext a
    obtain rfl : a = 0 := Subsingleton.elim _ _
    rfl
  · intro i hi
    have e : (i 2).val = c.val := congrArg Fin.val (congrFun (Finset.mem_filter.mp hi).2 0)
    funext a
    match a with
    | ⟨0, _⟩ => rfl
    | ⟨1, _⟩ => rfl
    | ⟨2, _⟩ => exact Fin.ext e.symm
  · intro i hi
    have e : (i 2).val = c.val := congrArg Fin.val (congrFun (Finset.mem_filter.mp hi).2 0)
    refine congrArg v ?_
    funext a
    match a with
    | ⟨0, _⟩ => rfl
    | ⟨1, _⟩ => rfl
    | ⟨2, _⟩ => exact Fin.ext e

variable (x0 : (⟨S4096x2048, .bf16⟩ : BufTy).Contents (Elt Ideal)) (x1 : (⟨S4096x6144, .bf16⟩ : BufTy).Contents (Elt Ideal))
  (x2 : (⟨S3x2048, .f32⟩ : BufTy).Contents (Elt Ideal))

/-- The upstream gradient as the reference holds it. -/
theorem ref3 (b : Fin 2) (s : Fin 2048) (c : Fin 2048) :
    val_main_v3 (F := Ideal) x0 (ix3 b s c) = rd (n0 := 4096) (n1 := 2048) x0 (b * 2048 + s) c := by
  have hb := b.isLt
  have hs := s.isLt
  rw [← rd_of _ (by omega : b.val * 2048 + s.val < 4096) c.isLt]
  pointwise [val_main_v3, val_main_v2]

/-- The gate `gate_b` as the reference holds it. -/
theorem ref4 (b : Fin 2) (s : Fin 2048) (c : Fin 2048) :
    val_main_v4 (F := Ideal) x1 (ix3 b s c) = rd (n0 := 4096) (n1 := 6144) x1 (b * 2048 + s) c := by
  have hb := b.isLt
  have hs := s.isLt
  have hc := c.isLt
  rw [← rd_of _ (by omega : b.val * 2048 + s.val < 4096) (by omega)]
  pointwise [val_main_v4, val_main_v1, val_main_v0]

/-- The gate `gate_c`. -/
theorem ref5 (b : Fin 2) (s : Fin 2048) (c : Fin 2048) :
    val_main_v5 (F := Ideal) x1 (ix3 b s c) = rd (n0 := 4096) (n1 := 6144) x1 (b * 2048 + s) (2048 + c) := by
  have hb := b.isLt
  have hs := s.isLt
  have hc := c.isLt
  rw [← rd_of _ (by omega : b.val * 2048 + s.val < 4096) (by omega)]
  pointwise [val_main_v5, val_main_v1, val_main_v0]

/-- The value `v`. -/
theorem ref6 (b : Fin 2) (s : Fin 2048) (c : Fin 2048) :
    val_main_v6 (F := Ideal) x1 (ix3 b s c) = rd (n0 := 4096) (n1 := 6144) x1 (b * 2048 + s) (4096 + c) := by
  have hb := b.isLt
  have hs := s.isLt
  have hc := c.isLt
  rw [← rd_of _ (by omega : b.val * 2048 + s.val < 4096) (by omega)]
  pointwise [val_main_v6, val_main_v1, val_main_v0]

/-- The convolution's input with two rows of zeros in front. -/
theorem ref9 (b : Fin 2) (s : Fin 2050) (c : Fin 2048) :
    val_main_v9 (F := Ideal) x1 (ix3 b s c) = if s.val < 2 then 0 else gv x1 (b * 2048 + (s - 2)) c := by
  pointwise [val_main_v9, val_main_v8, val_main_cst]
  by_cases h : s.val < 2
  · rw [dif_pos h, if_pos h]
  · rw [dif_neg h, if_neg h]
    pointwise [val_main_v7]
    rw [ref5, ref6]
    rfl

/-- The three shifts of it that the convolution weighs. -/
theorem ref13 (b : Fin 2) (s : Fin 2048) (c : Fin 2048) : val_main_v13 (F := Ideal) x1 (ix3 b s c) = gvBack x1 2 (b * 2048 + s) c := by
  have hs := s.isLt
  pointwise [val_main_v13]
  rw [ref9]
  unfold gvBack
  dsimp only
  split_ifs <;> first | rfl | (exfalso; omega) | (congr 1; omega)

theorem ref19 (b : Fin 2) (s : Fin 2048) (c : Fin 2048) : val_main_v19 (F := Ideal) x1 (ix3 b s c) = gvBack x1 1 (b * 2048 + s) c := by
  have hs := s.isLt
  pointwise [val_main_v19]
  rw [ref9]
  unfold gvBack
  dsimp only
  split_ifs <;> first | rfl | (exfalso; omega) | (congr 1; omega)

theorem ref26 (b : Fin 2) (s : Fin 2048) (c : Fin 2048) : val_main_v26 (F := Ideal) x1 (ix3 b s c) = gvBack x1 0 (b * 2048 + s) c := by
  have hs := s.isLt
  pointwise [val_main_v26]
  rw [ref9]
  unfold gvBack
  dsimp only
  split_ifs <;> first | rfl | (exfalso; omega) | (congr 1; omega)

/-- The taps, spread over the rows. -/
theorem ref15 (b : Fin 2) (s : Fin 2048) (c : Fin 2048) : val_main_v15 (F := Ideal) x2 (ix3 b s c) = rd (n0 := 3) (n1 := 2048) x2 0 c := by
  rw [← rd_of _ (by omega) c.isLt]
  pointwise [val_main_v15, val_main_v14, val_main_v12, val_main_v11]
theorem ref21 (b : Fin 2) (s : Fin 2048) (c : Fin 2048) : val_main_v21 (F := Ideal) x2 (ix3 b s c) = rd (n0 := 3) (n1 := 2048) x2 1 c := by
  rw [← rd_of _ (by omega) c.isLt]
  pointwise [val_main_v21, val_main_v20, val_main_v18, val_main_v17]
theorem ref28 (b : Fin 2) (s : Fin 2048) (c : Fin 2048) : val_main_v28 (F := Ideal) x2 (ix3 b s c) = rd (n0 := 3) (n1 := 2048) x2 2 c := by
  rw [← rd_of _ (by omega) c.isLt]
  pointwise [val_main_v28, val_main_v27, val_main_v25, val_main_v24]

/-- The gradient of `gate_b`. -/
theorem ref33 (b : Fin 2) (s : Fin 2048) (c : Fin 2048) :
    val_main_v33 (F := Ideal) x0 x1 x2 (ix3 b s c) = rd (n0 := 4096) (n1 := 2048) x0 (b * 2048 + s) c
      * (rd (n0 := 3) (n1 := 2048) x2 0 c * gvBack x1 2 (b * 2048 + s) c + rd (n0 := 3) (n1 := 2048) x2 1 c * gvBack x1 1 (b * 2048 + s) c
        + rd (n0 := 3) (n1 := 2048) x2 2 c * gvBack x1 0 (b * 2048 + s) c) := by
  pointwise [val_main_v33, val_main_v30, val_main_v23, val_main_v16, val_main_v22, val_main_v29]
  rw [ref3, ref13, ref15, ref19, ref21, ref26, ref28]

/-- The gradient of the convolution's output. -/
theorem ref32 (b : Fin 2) (s : Fin 2048) (c : Fin 2048) : val_main_v32 (F := Ideal) x0 x1 (ix3 b s c) = gq x0 x1 (b * 2048 + s) c := by
  pointwise [val_main_v32]
  rw [ref3, ref4, mul_comm]
  rfl

/-- The gradient of the convolution's input. -/
theorem ref66 (b : Fin 2) (s : Fin 2048) (c : Fin 2048) :
    val_main_v66 (F := Ideal) x0 x1 x2 (ix3 b s c) = rd (n0 := 3) (n1 := 2048) x2 0 c * gqAhead x0 x1 2 (b * 2048 + s) c
      + rd (n0 := 3) (n1 := 2048) x2 1 c * gqAhead x0 x1 1 (b * 2048 + s) c + rd (n0 := 3) (n1 := 2048) x2 2 c * gqAhead x0 x1 0 (b * 2048 + s) c := by
  have hs := s.isLt
  have e34 : ∀ (b : Fin 2) (s : Fin 2048) (c : Fin 2048), val_main_v34 (F := Ideal) x2 (ix3 b s c) = rd (n0 := 3) (n1 := 2048) x2 2 c := ref28 x2
  have e43 : ∀ (b : Fin 2) (s : Fin 2048) (c : Fin 2048), val_main_v43 (F := Ideal) x2 (ix3 b s c) = rd (n0 := 3) (n1 := 2048) x2 1 c := ref21 x2
  have e54 : ∀ (b : Fin 2) (s : Fin 2048) (c : Fin 2048), val_main_v54 (F := Ideal) x2 (ix3 b s c) = rd (n0 := 3) (n1 := 2048) x2 0 c := ref15 x2
  pointwise [val_main_v66, val_main_v61, val_main_v60, val_main_v50, val_main_v49, val_main_v40, val_main_cst_3, val_main_cst_7, val_main_cst_11,
    val_main_v35, val_main_v44, val_main_v55]
  simp only [e34, e43, e54, ref32]
  have h0 : gqAhead x0 x1 0 (b * 2048 + s) c = gq x0 x1 (b * 2048 + s) c := by
    unfold gqAhead
    rw [if_pos (by omega), Nat.add_zero]
  have h1 : (if h : 1 ≤ 2 + s.val ∧ 2 + s.val - 1 < 2048 then rd (n0 := 3) (n1 := 2048) x2 1 c * gq x0 x1 (b * 2048 + (2 + s.val - 1)) c else 0)
      = rd (n0 := 3) (n1 := 2048) x2 1 c * gqAhead x0 x1 1 (b * 2048 + s) c := by
    unfold gqAhead
    by_cases h : s.val + 1 < 2048
    · rw [dif_pos (by omega), if_pos (by omega), show b.val * 2048 + (2 + s.val - 1) = b.val * 2048 + s.val + 1 by omega]
    · rw [dif_neg (by omega), if_neg (by omega), mul_zero]
  have h2 : (if h : 2 + s.val < 2048 then rd (n0 := 3) (n1 := 2048) x2 0 c * gq x0 x1 (b * 2048 + (2 + s.val)) c else 0)
      = rd (n0 := 3) (n1 := 2048) x2 0 c * gqAhead x0 x1 2 (b * 2048 + s) c := by
    unfold gqAhead
    by_cases h : s.val + 2 < 2048
    · rw [dif_pos (by omega), if_pos (by omega), show b.val * 2048 + (2 + s.val) = b.val * 2048 + s.val + 2 by omega]
    · rw [dif_neg (by omega), if_neg (by omega), mul_zero]
  rw [h0, h1, h2]
  abel

/-- The gradient of the projected input, at an entry. -/
theorem ref75 (r : Fin 4096) (c : Fin 6144) : val_main_v75 (F := Ideal) x0 x1 x2 (ix2 r c) = duArr x0 x1 x2 r c := by
  have hr := r.isLt
  have hc := c.isLt
  pointwise [val_main_v75, val_main_v74, val_main_v73, val_main_v72, val_main_v71, val_main_v70, val_main_v69, val_main_cst_13, val_main_cst_14, val_main_cst_15,
    val_main_v67, val_main_v68]
  simp only [ref33, ref66, ref5, ref6, show r.val / 2048 * 2048 + r.val % 2048 = r.val by omega]
  unfold duArr
  by_cases h1 : c.val < 2048
  · rw [dif_neg (by omega), dif_neg (by omega), dif_pos (by omega), if_pos h1, zero_add, zero_add]
  · by_cases h2 : c.val < 4096
    · rw [dif_neg (by omega), dif_pos (by omega), dif_neg (by omega), if_neg h1, if_pos h2, zero_add, add_zero]
    · rw [dif_pos (by omega), dif_neg (by omega), dif_neg (by omega), if_neg h1, if_neg h2, add_zero, add_zero, mul_comm]

/-- The rows of the two sequences are the rows of the array. -/
theorem sum_rows (f : ℕ → EReal) : ∑ b : Fin 2, ∑ s : Fin 2048, f (b * 2048 + s) = ∑ r ∈ Finset.range 4096, f r := by
  rw [Fin.sum_univ_two, ← Finset.sum_range (fun s => f ((0 : Fin 2).val * 2048 + s)), ← Finset.sum_range (fun s => f ((1 : Fin 2).val * 2048 + s)),
    show (4096 : ℕ) = 2048 + 2048 by rfl, Finset.sum_range_add]
  simp only [Fin.val_zero, Fin.val_one, Nat.zero_mul, Nat.zero_add, Nat.one_mul]

/-- The gradient of tap 2: the sum over all rows. -/
theorem ref39 (c : Fin 2048) : val_main_v39 (F := Ideal) x0 x1 (ix1 c) = dwArr x0 x1 2 c := by
  pointwise [val_main_v39, val_main_v38, val_main_v37, val_main_cst_1, val_main_cst_2]
  rw [host_sum_front]
  pointwise
  rw [Fin.sum_univ_one, Fin.sum_univ_one, host_sum_front, zero_add]
  refine Eq.trans ?_ (sum_rows (dwRow x0 x1 2 c))
  refine Finset.sum_congr rfl fun b _ => Finset.sum_congr rfl fun s _ => ?_
  pointwise [val_main_v36]
  rw [ref32, ref26]
  rfl

/-- The gradient of tap 1: the sum over all rows. -/
theorem ref48 (c : Fin 2048) : val_main_v48 (F := Ideal) x0 x1 (ix1 c) = dwArr x0 x1 1 c := by
  pointwise [val_main_v48, val_main_v47, val_main_v46, val_main_cst_5, val_main_cst_6]
  rw [host_sum_front]
  pointwise
  rw [Fin.sum_univ_one, Fin.sum_univ_one, host_sum_front, zero_add]
  refine Eq.trans ?_ (sum_rows (dwRow x0 x1 1 c))
  refine Finset.sum_congr rfl fun b _ => Finset.sum_congr rfl fun s _ => ?_
  pointwise [val_main_v45]
  rw [ref32, ref19]
  rfl

/-- The gradient of tap 0: the sum over all rows. -/
theorem ref59 (c : Fin 2048) : val_main_v59 (F := Ideal) x0 x1 (ix1 c) = dwArr x0 x1 0 c := by
  pointwise [val_main_v59, val_main_v58, val_main_v57, val_main_cst_9, val_main_cst_10]
  rw [host_sum_front]
  pointwise
  rw [Fin.sum_univ_one, Fin.sum_univ_one, host_sum_front, zero_add]
  refine Eq.trans ?_ (sum_rows (dwRow x0 x1 0 c))
  refine Finset.sum_congr rfl fun b _ => Finset.sum_congr rfl fun s _ => ?_
  pointwise [val_main_v56]
  rw [ref32, ref13]
  rfl

/-- The gradient of the taps, at an entry. -/
theorem ref64 (k : Fin 3) (c : Fin 2048) : val_main_v64 (F := Ideal) x0 x1 (ix2 k c) = dwArr x0 x1 k c := by
  have hk := k.isLt
  pointwise [val_main_v64, val_main_v63, val_main_v53, val_main_v52, val_main_v42, val_main_v62, val_main_v51, val_main_v41, val_main_cst_4, val_main_cst_8, val_main_cst_12]
  simp only [ref39, ref48, ref59]
  rcases (by omega : k.val = 0 ∨ k.val = 1 ∨ k.val = 2) with h | h | h
  · rw [dif_neg (by omega), dif_neg (by omega), dif_pos (by omega), zero_add, zero_add, h]
  · rw [dif_neg (by omega), dif_pos (by omega), dif_neg (by omega), zero_add, add_zero, h]
  · rw [dif_pos (by omega), dif_neg (by omega), dif_neg (by omega), add_zero, add_zero, h]

end Cert.Mix
-- ==== Proof.MixClaim.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.MixReference

/-! The two gradients of the short gated convolution: what the launch writes is what the reference's backward pass computes. -/

@[expose] public section

noncomputable section

namespace Cert.Mix

open Idealize.ShloMosaic Idealize.SL.Sem

/-- The reference runs, keeps its arguments and leaves no semaphore counted. -/
theorem quiescent_reference : quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Over the reals the launch and the reference's backward pass give the same two gradients. -/
theorem algebraic : algebraic_KernelIdeal_ReferenceIdeal (hKernelIdeal := Cert.KernelIdeal.Gen.facts) (hReferenceIdeal := Cert.ReferenceIdeal.Gen.facts) := by
  intro m g m' g' _ hargs
  refine ⟨fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨a0, a1, a2⟩ := hargs c
  refine ⟨(h c).1.trans ?_, (h c).2.1.trans ?_, (h c).2.2⟩
  · rw [Cert.ReferenceIdeal.Read.val_main_v75_eq, a0, a1, a2]
    refine Eq.trans (funext fun y => ?_) (final9 m c).symm
    exact (congrArg _ (eq_ix2 y)).trans (ref75 _ _ _ (y 0) (y 1))
  · rw [Cert.ReferenceIdeal.Read.val_main_v64_eq, a0, a1]
    refine Eq.trans (funext fun y => ?_) (final10 m c).symm
    exact (congrArg _ (eq_ix2 y)).trans (ref64 _ _ (y 0) (y 1))

end Cert.Mix

end
-- ==== Proof.FfnBase.lean ====
module

public import proofs.«01_k».proof.Proof.MixPayloads

/-! Matrix products of extended reals at natural-number coordinates. -/

@[expose] public section
noncomputable section
open Idealize.ShloMosaic
open Cert.Mix (rd rd_of rd_ix2)

namespace Cert.Ffn

/-- The product of a matrix by a matrix over `K` terms, at a row and a column. -/
def nn (K : ℕ) (x w : ℕ → ℕ → EReal) (r c : ℕ) : EReal := ∑ k : Fin K, x r k * w k c

/-- The product of a matrix by the transpose of a matrix. -/
def nt (K : ℕ) (x w : ℕ → ℕ → EReal) (r c : ℕ) : EReal := ∑ k : Fin K, x r k * w c k

/-- The product of the transpose of a matrix by a matrix. -/
def tn (K : ℕ) (x w : ℕ → ℕ → EReal) (r c : ℕ) : EReal := ∑ k : Fin K, x k r * w k c

/-- Two products agree where their factors do. -/
theorem nn_congr {K : ℕ} {x x' w w' : ℕ → ℕ → EReal} {r c r' c' : ℕ}
    (hx : ∀ k, k < K → x r k = x' r' k) (hw : ∀ k, k < K → w k c = w' k c') : nn K x w r c = nn K x' w' r' c' :=
  Finset.sum_congr rfl fun k _ => by rw [hx k k.isLt, hw k k.isLt]

/-- Two products by a transpose agree where their factors do. -/
theorem nt_congr {K : ℕ} {x x' w w' : ℕ → ℕ → EReal} {r c r' c' : ℕ}
    (hx : ∀ k, k < K → x r k = x' r' k) (hw : ∀ k, k < K → w c k = w' c' k) : nt K x w r c = nt K x' w' r' c' :=
  Finset.sum_congr rfl fun k _ => by rw [hx k k.isLt, hw k k.isLt]

/-- Two products of a transpose agree where their factors do. -/
theorem tn_congr {K : ℕ} {x x' w w' : ℕ → ℕ → EReal} {r c r' c' : ℕ}
    (hx : ∀ k, k < K → x k r = x' k r') (hw : ∀ k, k < K → w k c = w' k c') : tn K x w r c = tn K x' w' r' c' :=
  Finset.sum_congr rfl fun k _ => by rw [hx k k.isLt, hw k k.isLt]

end Cert.Ffn

end
-- ==== Proof.FfnDn.lean ====
module

public import proofs.«01_k».proof.Proof.MixPayloads
public import proofs.«01_k».proof.Proof.Gen.Kernel3Ideal.Value
public import proofs.«01_k».proof.Proof.Gen.Reference3Ideal.Run
public import proofs.«01_k».proof.Proof.Gen.Reference3Ideal.Read
public import proofs.«01_k».proof.Proof.FfnBase
public import Idealize.ShloMosaic.Lib.Pipeline.ValueKit

/-! The gradient at the block's input: two products with transposed weights, summed over four column tiles in a carried block. -/

@[expose] public section
set_option maxRecDepth 16384
noncomputable section
open Idealize.ShloMosaic Idealize.ShloMosaic.TcCoe Idealize.SL.Sem Idealize.ShloMosaic.Tactic
open Idealize.ShloMosaic.Pipeline (Dat)
open Cert.Mix (rd rd_of rd_ix2)

namespace Cert.Dn
open Cert.Ffn (nt nt_congr)
open Cert.Kernel3Ideal Cert.Kernel3Ideal.Gen

theorem zeros : (![0, 0] : Fin 2 → Nat) = fun _ => 0 := funext fun a => by fin_cases a <;> rfl

/-- What one column tile adds to an entry. -/
def part (x0 x1 : FVec Ideal S512x1408 .bf16) (x2 x3 : FVec Ideal S2048x1408 .bf16) (r c : ℕ) : EReal :=
  nt 1408 (rd x0) (rd x2) r c + nt 1408 (rd x1) (rd x3) r c

/-- The zero fill. -/
theorem pay1_apply (r : Fin 512) (c : Fin 2048) : k0_pay1 (F := Ideal) (ix2 r c) = 0 := by
  pointwise [k0_pay1]

/-- A step of the accumulation. -/
theorem pay2_apply (x0 : FVec Ideal S512x1408 .bf16) (x2 : FVec Ideal S2048x1408 .bf16) (x1 : FVec Ideal S512x1408 .bf16) (x3 : FVec Ideal S2048x1408 .bf16)
    (s : FVec Ideal S512x2048 .f32) (r : Fin 512) (c : Fin 2048) :
    k0_pay2 (F := Ideal) x0 x2 x1 x3 s (ix2 r c) = s (ix2 r c) + part x0 x1 x2 x3 r c := by
  unfold part nt
  pointwise [k0_pay2]
  simp only [rd_ix2]

/-- The store of the result: over the reals the cast is the identity. -/
theorem pay3_apply (s : FVec Ideal S512x2048 .f32) (r : Fin 512) (c : Fin 2048) : k0_pay3 (F := Ideal) s (ix2 r c) = s (ix2 r c) := by
  pointwise [k0_pay3]

/-- What the carried block holds after the first tile of a row of tiles: from zero. -/
theorem sout_A (c : Dev nD) (i : grid0.Coords) (a1 : Memref sig .tc .vmem S512x1408 .bf16) (h1 : a1.IsWhole)
    (a2 : Memref sig .tc .vmem S512x1408 .bf16) (h2 : a2.IsWhole) (a3 : Memref sig .tc .vmem S2048x1408 .bf16) (h3 : a3.IsWhole)
    (a4 : Memref sig .tc .vmem S2048x1408 .bf16) (h4 : a4.IsWhole) (a5 : Memref sig .tc .vmem S512x2048 .bf16) (h5 : a5.IsWhole)
    (a6 : Memref sig .tc .vmem S512x2048 .f32) (h6 : a6.IsWhole)
    (hc0 : cond0_0 i) (hc1 : ¬cond0_1 i) (x0 x1 : FVec Ideal S512x1408 .bf16) (x2 x3 : FVec Ideal S2048x1408 .bf16) :
    sout0_A_0 (F := Ideal) c i a1 h1 a2 h2 a3 h3 a4 h4 a5 h5 a6 h6 hc0 hc1 x0 x1 x2 x3 = k0_pay2 (F := Ideal) x0 x2 x1 x3 (k0_pay1 (F := Ideal)) := by
  unfold sout0_A_0
  rw [View.read_writes_eq_canon _ _ _ (scover0_A_0 (F := Ideal) c i a1 h1 a2 h2 a3 h3 a4 h4 a5 h5 a6 h6 hc0 hc1 x0 x1 x2 x3)]
  unfold kernelRun0_A
  dsimp only
  sl_unfold_words
  rw [View.canon_cons_unit_zero zeros]
  simp only [View.readAt_eq_ld, h1.read_unread, h2.read_unread, h3.read_unread, h4.read_unread, h6.read_unread, View.ld_unit_zero (S := S512x1408) zeros, View.ld_unit_zero (S := S2048x1408) zeros, View.ld_unit_zero (S := S512x2048) zeros]
  simp (disch := first | decide | exact fun a => congrFun zeros a) only [↓View.readCov_skip, ↓View.readCov_fill]
  rw [View.ld_unit_zero (S := S512x2048) zeros]

/-- What the carried block holds after a middle tile: from what the tile before left. -/
theorem sout_B (c : Dev nD) (i : grid0.Coords) (a1 : Memref sig .tc .vmem S512x1408 .bf16) (h1 : a1.IsWhole)
    (a2 : Memref sig .tc .vmem S512x1408 .bf16) (h2 : a2.IsWhole) (a3 : Memref sig .tc .vmem S2048x1408 .bf16) (h3 : a3.IsWhole)
    (a4 : Memref sig .tc .vmem S2048x1408 .bf16) (h4 : a4.IsWhole) (a5 : Memref sig .tc .vmem S512x2048 .bf16) (h5 : a5.IsWhole)
    (a6 : Memref sig .tc .vmem S512x2048 .f32) (h6 : a6.IsWhole)
    (hc0 : ¬cond0_0 i) (hc1 : ¬cond0_1 i) (x0 x1 : FVec Ideal S512x1408 .bf16) (x2 x3 : FVec Ideal S2048x1408 .bf16) (xs : FVec Ideal S512x2048 .f32) :
    sout0_B_0 (F := Ideal) c i a1 h1 a2 h2 a3 h3 a4 h4 a5 h5 a6 h6 hc0 hc1 x0 x1 x2 x3 xs = k0_pay2 (F := Ideal) x0 x2 x1 x3 xs := by
  unfold sout0_B_0
  rw [View.read_writes_eq_canon _ _ _ (scover0_B_0 (F := Ideal) c i a1 h1 a2 h2 a3 h3 a4 h4 a5 h5 a6 h6 hc0 hc1 x0 x1 x2 x3 xs)]
  unfold kernelRun0_B
  dsimp only
  sl_unfold_words
  rw [View.canon_cons_unit_zero zeros]
  simp only [View.readAt_eq_ld, h1.read_unread, h2.read_unread, h3.read_unread, h4.read_unread, h6.read_unread, View.ld_unit_zero (S := S512x1408) zeros, View.ld_unit_zero (S := S2048x1408) zeros, View.ld_unit_zero (S := S512x2048) zeros]

/-- What the carried block holds after the last tile: from what the tile before left. -/
theorem sout_C (c : Dev nD) (i : grid0.Coords) (a1 : Memref sig .tc .vmem S512x1408 .bf16) (h1 : a1.IsWhole)
    (a2 : Memref sig .tc .vmem S512x1408 .bf16) (h2 : a2.IsWhole) (a3 : Memref sig .tc .vmem S2048x1408 .bf16) (h3 : a3.IsWhole)
    (a4 : Memref sig .tc .vmem S2048x1408 .bf16) (h4 : a4.IsWhole) (a5 : Memref sig .tc .vmem S512x2048 .bf16) (h5 : a5.IsWhole)
    (a6 : Memref sig .tc .vmem S512x2048 .f32) (h6 : a6.IsWhole)
    (hc0 : ¬cond0_0 i) (hc1 : cond0_1 i) (x0 x1 : FVec Ideal S512x1408 .bf16) (x2 x3 : FVec Ideal S2048x1408 .bf16) (xs : FVec Ideal S512x2048 .f32) :
    sout0_C_0 (F := Ideal) c i a1 h1 a2 h2 a3 h3 a4 h4 a5 h5 a6 h6 hc0 hc1 x0 x1 x2 x3 xs = k0_pay2 (F := Ideal) x0 x2 x1 x3 xs := by
  unfold sout0_C_0
  rw [View.read_writes_eq_canon _ _ _ (scover0_C_0 (F := Ideal) c i a1 h1 a2 h2 a3 h3 a4 h4 a5 h5 a6 h6 hc0 hc1 x0 x1 x2 x3 xs)]
  unfold kernelRun0_C
  dsimp only
  sl_unfold_words
  rw [View.canon_cons_unit_zero zeros]
  simp only [View.readAt_eq_ld, h1.read_unread, h2.read_unread, h3.read_unread, h4.read_unread, h6.read_unread, View.ld_unit_zero (S := S512x1408) zeros, View.ld_unit_zero (S := S2048x1408) zeros, View.ld_unit_zero (S := S512x2048) zeros]

/-- What the last tile of a row of tiles writes out. -/
theorem out_C (c : Dev nD) (i : grid0.Coords) (a1 : Memref sig .tc .vmem S512x1408 .bf16) (h1 : a1.IsWhole)
    (a2 : Memref sig .tc .vmem S512x1408 .bf16) (h2 : a2.IsWhole) (a3 : Memref sig .tc .vmem S2048x1408 .bf16) (h3 : a3.IsWhole)
    (a4 : Memref sig .tc .vmem S2048x1408 .bf16) (h4 : a4.IsWhole) (a5 : Memref sig .tc .vmem S512x2048 .bf16) (h5 : a5.IsWhole)
    (a6 : Memref sig .tc .vmem S512x2048 .f32) (h6 : a6.IsWhole)
    (hc0 : ¬cond0_0 i) (hc1 : cond0_1 i) (x0 x1 : FVec Ideal S512x1408 .bf16) (x2 x3 : FVec Ideal S2048x1408 .bf16) (xs : FVec Ideal S512x2048 .f32) :
    out0_C_4 (F := Ideal) c i a1 h1 a2 h2 a3 h3 a4 h4 a5 h5 a6 h6 hc0 hc1 x0 x1 x2 x3 xs = k0_pay3 (F := Ideal) (k0_pay2 (F := Ideal) x0 x2 x1 x3 xs) := by
  unfold out0_C_4
  rw [View.read_writes_eq_canon _ _ _ (cover0_C_4 (F := Ideal) c i a1 h1 a2 h2 a3 h3 a4 h4 a5 h5 a6 h6 hc0 hc1 x0 x1 x2 x3 xs)]
  unfold kernelRun0_C
  dsimp only
  sl_unfold_words
  rw [View.canon_unit_zero zeros]
  simp only [View.readAt_eq_ld, h1.read_unread, h2.read_unread, h3.read_unread, h4.read_unread, h6.read_unread, View.ld_unit_zero (S := S512x1408) zeros, View.ld_unit_zero (S := S2048x1408) zeros, View.ld_unit_zero (S := S512x2048) zeros]
  simp (disch := first | decide | exact fun a => congrFun zeros a) only [↓View.readCov_skip, ↓View.readCov_fill]
  rw [View.ld_unit_zero (S := S512x2048) zeros]

/-! ## The blocks -/

variable (m : (ℓ : Loc nD τ sig) → Buf (Elt Ideal) ℓ)

theorem index_0 : ∀ t : Fin cfg0.N, win0_0.index t = ![t.val / 4, t.val % 4] :=
  (by decide +kernel : ∀ t : Fin grid0.N, win0_0.index t = ![t.val / 4, t.val % 4])

/-- Window 0's block at a point, read in its array. -/
theorem block_0 (c : Dev nD) (t : Fin cfg0.N) {j k : ℕ} (hj : j < 512) (hk : k < 1408) :
    rd (n0 := 512) (n1 := 1408) (iblk m c 0 t) j k = rd (n0 := 4096) (n1 := 5632) (m ((c.tc : Thread nD τ).loc main_arg0)) (t.val / 4 * 512 + j) (t.val % 4 * 1408 + k) := by
  have ht : t.val < 32 := lt_of_lt_of_eq t.isLt N_0
  rw [← rd_of _ hj hk, ← rd_of _ (by omega) (by omega)]
  blk_simp [iblk]
  refine congrArg (m ((c.tc : Thread nD τ).loc main_arg0)) (funext (Fin.forall_fin_two.mpr ⟨Fin.ext ?_, Fin.ext ?_⟩))
  · blk_simp [index_0] <;> (show _ = t.val / 4 * 512 + j) <;> (try dsimp only) <;> omega
  · blk_simp [index_0] <;> (show _ = t.val % 4 * 1408 + k) <;> (try dsimp only) <;> omega

theorem index_1 : ∀ t : Fin cfg0.N, win0_1.index t = ![t.val / 4, t.val % 4] :=
  (by decide +kernel : ∀ t : Fin grid0.N, win0_1.index t = ![t.val / 4, t.val % 4])

/-- Window 1's block at a point, read in its array. -/
theorem block_1 (c : Dev nD) (t : Fin cfg0.N) {j k : ℕ} (hj : j < 512) (hk : k < 1408) :
    rd (n0 := 512) (n1 := 1408) (iblk m c 1 t) j k = rd (n0 := 4096) (n1 := 5632) (m ((c.tc : Thread nD τ).loc main_arg1)) (t.val / 4 * 512 + j) (t.val % 4 * 1408 + k) := by
  have ht : t.val < 32 := lt_of_lt_of_eq t.isLt N_0
  rw [← rd_of _ hj hk, ← rd_of _ (by omega) (by omega)]
  blk_simp [iblk]
  refine congrArg (m ((c.tc : Thread nD τ).loc main_arg1)) (funext (Fin.forall_fin_two.mpr ⟨Fin.ext ?_, Fin.ext ?_⟩))
  · blk_simp [index_1] <;> (show _ = t.val / 4 * 512 + j) <;> (try dsimp only) <;> omega
  · blk_simp [index_1] <;> (show _ = t.val % 4 * 1408 + k) <;> (try dsimp only) <;> omega

theorem index_2 : ∀ t : Fin cfg0.N, win0_2.index t = ![0, t.val % 4] :=
  (by decide +kernel : ∀ t : Fin grid0.N, win0_2.index t = ![0, t.val % 4])

/-- Window 2's block at a point, read in its array. -/
theorem block_2 (c : Dev nD) (t : Fin cfg0.N) {j k : ℕ} (hj : j < 2048) (hk : k < 1408) :
    rd (n0 := 2048) (n1 := 1408) (iblk m c 2 t) j k = rd (n0 := 2048) (n1 := 5632) (m ((c.tc : Thread nD τ).loc main_arg2)) (j) (t.val % 4 * 1408 + k) := by
  have ht : t.val < 32 := lt_of_lt_of_eq t.isLt N_0
  rw [← rd_of _ hj hk, ← rd_of _ (by omega) (by omega)]
  blk_simp [iblk]
  refine congrArg (m ((c.tc : Thread nD τ).loc main_arg2)) (funext (Fin.forall_fin_two.mpr ⟨Fin.ext ?_, Fin.ext ?_⟩))
  · blk_simp [index_2] <;> (show _ = j) <;> (try dsimp only) <;> omega
  · blk_simp [index_2] <;> (show _ = t.val % 4 * 1408 + k) <;> (try dsimp only) <;> omega

theorem index_3 : ∀ t : Fin cfg0.N, win0_3.index t = ![0, t.val % 4] :=
  (by decide +kernel : ∀ t : Fin grid0.N, win0_3.index t = ![0, t.val % 4])

/-- Window 3's block at a point, read in its array. -/
theorem block_3 (c : Dev nD) (t : Fin cfg0.N) {j k : ℕ} (hj : j < 2048) (hk : k < 1408) :
    rd (n0 := 2048) (n1 := 1408) (iblk m c 3 t) j k = rd (n0 := 2048) (n1 := 5632) (m ((c.tc : Thread nD τ).loc main_arg3)) (j) (t.val % 4 * 1408 + k) := by
  have ht : t.val < 32 := lt_of_lt_of_eq t.isLt N_0
  rw [← rd_of _ hj hk, ← rd_of _ (by omega) (by omega)]
  blk_simp [iblk]
  refine congrArg (m ((c.tc : Thread nD τ).loc main_arg3)) (funext (Fin.forall_fin_two.mpr ⟨Fin.ext ?_, Fin.ext ?_⟩))
  · blk_simp [index_3] <;> (show _ = j) <;> (try dsimp only) <;> omega
  · blk_simp [index_3] <;> (show _ = t.val % 4 * 1408 + k) <;> (try dsimp only) <;> omega

theorem index_4 : ∀ t : Fin cfg0.N, win0_4.index t = ![t.val / 4, 0] :=
  (by decide +kernel : ∀ t : Fin grid0.N, win0_4.index t = ![t.val / 4, 0])

/-! ## The carried block -/

/-- The four arguments. -/
abbrev B0 (c : Dev nD) : ℕ → ℕ → EReal := rd (n0 := 4096) (n1 := 5632) (m ((c.tc : Thread nD τ).loc main_arg0))
abbrev B1 (c : Dev nD) : ℕ → ℕ → EReal := rd (n0 := 4096) (n1 := 5632) (m ((c.tc : Thread nD τ).loc main_arg1))
abbrev B2 (c : Dev nD) : ℕ → ℕ → EReal := rd (n0 := 2048) (n1 := 5632) (m ((c.tc : Thread nD τ).loc main_arg2))
abbrev B3 (c : Dev nD) : ℕ → ℕ → EReal := rd (n0 := 2048) (n1 := 5632) (m ((c.tc : Thread nD τ).loc main_arg3))

/-- What column tile `q` adds to row `r`, column `k` of the result. -/
def tile (c : Dev nD) (q r k : ℕ) : EReal :=
  (∑ p : Fin 1408, B0 m c r (q * 1408 + p) * B2 m c k (q * 1408 + p)) + ∑ p : Fin 1408, B1 m c r (q * 1408 + p) * B3 m c k (q * 1408 + p)

theorem part_eq (c : Dev nD) (t : Fin cfg0.N) (r : Fin 512) (k : Fin 2048) :
    part (iblk m c 0 t) (iblk m c 1 t) (iblk m c 2 t) (iblk m c 3 t) r k = tile m c (t.val % 4) (t.val / 4 * 512 + r) k := by
  unfold part tile
  exact congrArg₂ (· + ·)
    (Finset.sum_congr rfl fun p _ => congrArg₂ (· * ·) (block_0 m c t r.isLt p.isLt) (block_2 m c t k.isLt p.isLt))
    (Finset.sum_congr rfl fun p _ => congrArg₂ (· * ·) (block_1 m c t r.isLt p.isLt) (block_3 m c t k.isLt p.isLt))

/-- The carried block after a point: the sum of the column tiles met so far. -/
theorem carried (c : Dev nD) : ∀ (n : ℕ) (hn : n < cfg0.N) (r : Fin 512) (k : Fin 2048),
    (outsAt0 m c n hn).2 (ix2 r k) = ∑ q ∈ Finset.range (n % 4 + 1), tile m c q (n / 4 * 512 + r) k := by
  intro n
  induction n with
  | zero =>
    intro hn r k
    rw [outsAt0_A m c ⟨0, hn⟩ (Nat.zero_mod 4) (by dsimp only; omega)]
    dsimp only
    rw [sout_A, pay2_apply, pay1_apply, part_eq, zero_add]
    simp
  | succ n ih =>
    intro hn r k
    have hN : n + 1 < 32 := lt_of_lt_of_eq hn N_0
    by_cases h0 : (n + 1) % 4 = 0
    · rw [outsAt0_A m c ⟨n + 1, hn⟩ h0 (by dsimp only; omega)]
      dsimp only
      rw [sout_A, pay2_apply, pay1_apply, part_eq, zero_add]
      dsimp only
      rw [h0]
      simp
    · have e1 : (n + 1) % 4 = n % 4 + 1 := by omega
      have e2 : (n + 1) / 4 = n / 4 := by omega
      by_cases h1 : (n + 1) % 4 = 3
      · rw [outsAt0_C m c ⟨n + 1, hn⟩ h0 h1]
        dsimp only
        rw [sout_C, pay2_apply, part_eq, Finset.sum_range_succ]
        refine congrArg₂ (· + ·) ((ih (Nat.lt_of_succ_lt hn) r k).trans ?_) rfl
        rw [e1, e2]
      · rw [outsAt0_B m c ⟨n + 1, hn⟩ h0 h1]
        dsimp only
        rw [sout_B, pay2_apply, part_eq, Finset.sum_range_succ]
        refine congrArg₂ (· + ·) ((ih (Nat.lt_of_succ_lt hn) r k).trans ?_) rfl
        rw [e1, e2]

/-- At a point that writes out, the block written is the carried one. -/
theorem written (c : Dev nD) (t : Fin cfg0.N) (h1 : t.val % 4 = 3) (r : Fin 512) (k : Fin 2048) :
    (outsAt0 m c t.val t.isLt).1 (ix2 r k) = ∑ q ∈ Finset.range 4, tile m c q (t.val / 4 * 512 + r) k := by
  have e := carried m c t.val t.isLt r k
  rw [h1] at e
  rw [← e, outsAt0_C m c t (by omega) h1]
  dsimp only
  rw [sout_C, out_C, pay3_apply]

/-- Tiles of columns one after another are all the columns. -/
theorem tiles_range (f : ℕ → EReal) (w : ℕ) : ∀ n : ℕ, (∑ q ∈ Finset.range n, ∑ p ∈ Finset.range w, f (q * w + p)) = ∑ p ∈ Finset.range (n * w), f p
  | 0 => by simp
  | n + 1 => by rw [Finset.sum_range_succ, tiles_range f w n, Nat.succ_mul, Finset.sum_range_add]

theorem tiles (f : ℕ → EReal) : (∑ q ∈ Finset.range 4, ∑ p : Fin 1408, f (q * 1408 + p)) = ∑ p : Fin 5632, f p := by
  rw [Fin.sum_univ_eq_sum_range (fun p => f p) 5632, Finset.sum_congr rfl fun q _ => Fin.sum_univ_eq_sum_range (fun p => f (q * 1408 + p)) 1408]
  exact tiles_range f 1408 4

/-- What the launch leaves in the whole array. -/
theorem final4 (c : Dev nD) : (dats m 0 c).arrAt 4 cfg0.N = fun y : S4096x2048.Idx =>
    nt 5632 (B0 m c) (B2 m c) (y 0).val (y 1).val + nt 5632 (B1 m c) (B3 m c) (y 0).val (y 1).val := by
  refine (dats m 0 c).arrAt_eq_of_covers 4 _ (by decide +kernel) fun t hf y => ?_
  have ht : t.val < 32 := lt_of_lt_of_eq t.isLt N_0
  have h3 : t.val % 4 = 3 := (by decide +kernel : ∀ t : Fin cfg0.N, (cfg0.win 4).flush t = true → t.val % 4 = 3) t hf
  have h0 : (y 0).val < 512 := (y 0).isLt
  have h1 : (y 1).val < 2048 := (y 1).isLt
  blk_simp [index_4]
  rw [after0_4]
  obtain ⟨j, k, rfl⟩ : ∃ (j : Fin 512) (k : Fin 2048), y = ix2 j k := ⟨y 0, y 1, eq_ix2 y⟩
  refine (written m c t h3 j k).trans ?_
  unfold tile
  rw [Finset.sum_add_distrib, tiles (fun p => B0 m c (t.val / 4 * 512 + j) p * B2 m c k p), tiles (fun p => B1 m c (t.val / 4 * 512 + j) p * B3 m c k p)]
  rfl

/-! ## The reference -/

open Cert.Reference3Ideal.Read in
/-- The reference's sum of two products, entry by entry. -/
theorem ref10 (x0 x1 : FVec Ideal S4096x5632 .bf16) (x2 x3 : FVec Ideal S2048x5632 .bf16) (r : Fin 4096) (c : Fin 2048) :
    val_main_v10 (F := Ideal) x0 x1 x2 x3 (ix2 r c) = nt 5632 (rd x0) (rd x2) r c + nt 5632 (rd x1) (rd x3) r c := by
  unfold nt
  pointwise [val_main_v10, val_main_v9, val_main_v8, val_main_v7, val_main_v0, val_main_v1, val_main_v2, val_main_v3]
  simp only [rd_ix2]
  exact add_comm _ _

end Cert.Dn

end
-- ==== Proof.FfnPay.lean ====
module

public import proofs.«01_k».proof.Proof.FfnBase
public import proofs.«01_k».proof.Proof.Gen.Kernel2Ideal.Skeleton

/-! What each store of the feed-forward backward pass writes, entry by entry. -/

@[expose] public section
noncomputable section
open Idealize.ShloMosaic Idealize.ShloMosaic.TcCoe Idealize.SL.Sem
open Idealize.ShloMosaic.Pipeline (Dat)
open Cert.Mix (rd rd_of rd_ix2)

namespace Cert.Ffn
open Cert.Kernel2Ideal Cert.Kernel2Ideal.Gen

/-- The derivative factor of `silu g * u` in `g`, as the forward call stores it. -/
def gtOf (g u : EReal) : EReal := u * (Ideal.logistic g * (1 + g * (1 - Ideal.logistic g)))

/-- The gate's product of a block. -/
theorem pay0_1 (a : FVec Ideal S1024x2048 .bf16) (b : FVec Ideal S2048x512 .bf16) (r : Fin 1024) (c : Fin 512) :
    k0_pay1 (F := Ideal) a b (ix2 r c) = nn 2048 (rd a) (rd b) r c := by
  unfold nn
  pointwise [k0_pay1]
  simp only [rd_ix2]

/-- The other product of a block. -/
theorem pay0_2 (a : FVec Ideal S1024x2048 .bf16) (b : FVec Ideal S2048x512 .bf16) (r : Fin 1024) (c : Fin 512) :
    k0_pay2 (F := Ideal) a b (ix2 r c) = nn 2048 (rd a) (rd b) r c := by
  unfold nn
  pointwise [k0_pay2]
  simp only [rd_ix2]

/-- The first store of the forward call: the derivative factor. -/
theorem pay0_5 (a a' : FVec Ideal S1024x2048 .bf16) (b b' : FVec Ideal S2048x512 .bf16) (r : Fin 1024) (c : Fin 512) :
    k0_pay5 (F := Ideal) a b a' b' (ix2 r c) = gtOf (nn 2048 (rd a) (rd b) r c) (nn 2048 (rd a') (rd b') r c) := by
  unfold gtOf
  pointwise [k0_pay5, k0_pay3, pay0_1, pay0_2]

/-- The second store of the forward call: the gate's `silu`. -/
theorem pay0_6 (a : FVec Ideal S1024x2048 .bf16) (b : FVec Ideal S2048x512 .bf16) (r : Fin 1024) (c : Fin 512) :
    k0_pay6 (F := Ideal) a b (ix2 r c) = nn 2048 (rd a) (rd b) r c * Ideal.logistic (nn 2048 (rd a) (rd b) r c) := by
  pointwise [k0_pay6, k0_pay4, k0_pay3, pay0_1]

/-- The third store of the forward call: `silu` of the gate times the other product. -/
theorem pay0_7 (a a' : FVec Ideal S1024x2048 .bf16) (b b' : FVec Ideal S2048x512 .bf16) (r : Fin 1024) (c : Fin 512) :
    k0_pay7 (F := Ideal) a b a' b' (ix2 r c)
      = nn 2048 (rd a) (rd b) r c * Ideal.logistic (nn 2048 (rd a) (rd b) r c) * nn 2048 (rd a') (rd b') r c := by
  pointwise [k0_pay7, k0_pay4, k0_pay3, pay0_1, pay0_2]

/-- A store of row chunk 0 of the gradient call: the product by the transposed weight times the saved factor. -/
theorem pay1_2 (a b : FVec Ideal S512x2048 .bf16) (x : FVec Ideal S512x512 .bf16) (r c : Fin 512) :
    k1_pay2 (F := Ideal) a b x (ix2 r c) = nt 2048 (rd a) (rd b) r c * rd x r c := by
  unfold nt
  pointwise [k1_pay2, k1_pay1]
  simp only [rd_ix2]

/-- A store of row chunk 0 of the gradient call: the product by the transposed weight times the saved factor. -/
theorem pay1_3 (a b : FVec Ideal S512x2048 .bf16) (x : FVec Ideal S512x512 .bf16) (r c : Fin 512) :
    k1_pay3 (F := Ideal) a b x (ix2 r c) = nt 2048 (rd a) (rd b) r c * rd x r c := by
  unfold nt
  pointwise [k1_pay3, k1_pay1]
  simp only [rd_ix2]

/-- A store of row chunk 1 of the gradient call: the product by the transposed weight times the saved factor. -/
theorem pay1_5 (a b : FVec Ideal S512x2048 .bf16) (x : FVec Ideal S512x512 .bf16) (r c : Fin 512) :
    k1_pay5 (F := Ideal) a b x (ix2 r c) = nt 2048 (rd a) (rd b) r c * rd x r c := by
  unfold nt
  pointwise [k1_pay5, k1_pay4]
  simp only [rd_ix2]

/-- A store of row chunk 1 of the gradient call: the product by the transposed weight times the saved factor. -/
theorem pay1_6 (a b : FVec Ideal S512x2048 .bf16) (x : FVec Ideal S512x512 .bf16) (r c : Fin 512) :
    k1_pay6 (F := Ideal) a b x (ix2 r c) = nt 2048 (rd a) (rd b) r c * rd x r c := by
  unfold nt
  pointwise [k1_pay6, k1_pay4]
  simp only [rd_ix2]

/-- A store of row chunk 2 of the gradient call: the product by the transposed weight times the saved factor. -/
theorem pay1_8 (a b : FVec Ideal S512x2048 .bf16) (x : FVec Ideal S512x512 .bf16) (r c : Fin 512) :
    k1_pay8 (F := Ideal) a b x (ix2 r c) = nt 2048 (rd a) (rd b) r c * rd x r c := by
  unfold nt
  pointwise [k1_pay8, k1_pay7]
  simp only [rd_ix2]

/-- A store of row chunk 2 of the gradient call: the product by the transposed weight times the saved factor. -/
theorem pay1_9 (a b : FVec Ideal S512x2048 .bf16) (x : FVec Ideal S512x512 .bf16) (r c : Fin 512) :
    k1_pay9 (F := Ideal) a b x (ix2 r c) = nt 2048 (rd a) (rd b) r c * rd x r c := by
  unfold nt
  pointwise [k1_pay9, k1_pay7]
  simp only [rd_ix2]

/-- A store of row chunk 3 of the gradient call: the product by the transposed weight times the saved factor. -/
theorem pay1_11 (a b : FVec Ideal S512x2048 .bf16) (x : FVec Ideal S512x512 .bf16) (r c : Fin 512) :
    k1_pay11 (F := Ideal) a b x (ix2 r c) = nt 2048 (rd a) (rd b) r c * rd x r c := by
  unfold nt
  pointwise [k1_pay11, k1_pay10]
  simp only [rd_ix2]

/-- A store of row chunk 3 of the gradient call: the product by the transposed weight times the saved factor. -/
theorem pay1_12 (a b : FVec Ideal S512x2048 .bf16) (x : FVec Ideal S512x512 .bf16) (r c : Fin 512) :
    k1_pay12 (F := Ideal) a b x (ix2 r c) = nt 2048 (rd a) (rd b) r c * rd x r c := by
  unfold nt
  pointwise [k1_pay12, k1_pay10]
  simp only [rd_ix2]

/-- The store of weight-gradient call 1: the transpose of the first block times the second. -/
theorem pay2_1 (a : FVec Ideal S4096x512 .bf16) (b : FVec Ideal S4096x1024 .bf16) (r : Fin 512) (c : Fin 1024) :
    k2_pay1 (F := Ideal) a b (ix2 r c) = tn 4096 (rd a) (rd b) r c := by
  unfold tn
  pointwise [k2_pay1]
  simp only [rd_ix2]

/-- The store of weight-gradient call 2: the transpose of the first block times the second. -/
theorem pay3_1 (a : FVec Ideal S4096x2048 .bf16) (b : FVec Ideal S4096x512 .bf16) (r : Fin 2048) (c : Fin 512) :
    k3_pay1 (F := Ideal) a b (ix2 r c) = tn 4096 (rd a) (rd b) r c := by
  unfold tn
  pointwise [k3_pay1]
  simp only [rd_ix2]

/-- The store of weight-gradient call 3: the transpose of the first block times the second. -/
theorem pay4_1 (a : FVec Ideal S4096x2048 .bf16) (b : FVec Ideal S4096x512 .bf16) (r : Fin 2048) (c : Fin 512) :
    k4_pay1 (F := Ideal) a b (ix2 r c) = tn 4096 (rd a) (rd b) r c := by
  unfold tn
  pointwise [k4_pay1]
  simp only [rd_ix2]

end Cert.Ffn

end
-- ==== Proof.FfnBlocks.lean ====
module

public import proofs.«01_k».proof.Proof.FfnPay
public import proofs.«01_k».proof.Proof.Gen.Kernel2Ideal.Frame
public import Idealize.ShloMosaic.Lib.Pipeline.ValueKit

/-! The blocks each call of the feed-forward backward pass reads, in the arrays they are cut from. -/

@[expose] public section
noncomputable section
open Idealize.ShloMosaic Idealize.ShloMosaic.TcCoe Idealize.SL.Sem
open Idealize.ShloMosaic.Pipeline (Dat)
open Cert.Mix (rd rd_of rd_ix2)

namespace Cert.Ffn
open Cert.Kernel2Ideal Cert.Kernel2Ideal.Gen

variable (V : (c : Dev nD) → (b : Ref sig .tc) → Buf (Elt Ideal) ((c : Thread nD τ).loc b))

theorem index0_0 : ∀ t : Fin cfg0.N, win0_0.index t = ![t.val / 11, 0] :=
  (by decide +kernel : ∀ t : Fin grid0.N, win0_0.index t = ![t.val / 11, 0])

/-- Window 0's block of call 0 at a point, read in its array. -/
theorem block0_0 (c : Dev nD) (t : Fin cfg0.N) {j k : ℕ} (hj : j < 1024) (hk : k < 2048) :
    rd (n0 := 1024) (n1 := 2048) (iblk0 V c 0 t) j k = rd (n0 := 4096) (n1 := 2048) (V c main_arg0) (t.val / 11 * 1024 + j) (k) := by
  have ht : t.val < 44 := lt_of_lt_of_eq t.isLt N_0
  rw [← rd_of _ hj hk, ← rd_of _ (by omega) (by omega)]
  blk_simp [iblk0]
  refine congrArg (V c main_arg0) (funext (Fin.forall_fin_two.mpr ⟨Fin.ext ?_, Fin.ext ?_⟩))
  · blk_simp [index0_0] <;> (show _ = t.val / 11 * 1024 + j) <;> (try dsimp only) <;> omega
  · blk_simp [index0_0] <;> (show _ = k) <;> (try dsimp only) <;> omega

theorem index0_1 : ∀ t : Fin cfg0.N, win0_1.index t = ![t.val / 11, 0] :=
  (by decide +kernel : ∀ t : Fin grid0.N, win0_1.index t = ![t.val / 11, 0])

/-- Window 1's block of call 0 at a point, read in its array. -/
theorem block0_1 (c : Dev nD) (t : Fin cfg0.N) {j k : ℕ} (hj : j < 1024) (hk : k < 2048) :
    rd (n0 := 1024) (n1 := 2048) (iblk0 V c 1 t) j k = rd (n0 := 4096) (n1 := 2048) (V c main_arg0) (t.val / 11 * 1024 + j) (k) := by
  have ht : t.val < 44 := lt_of_lt_of_eq t.isLt N_0
  rw [← rd_of _ hj hk, ← rd_of _ (by omega) (by omega)]
  blk_simp [iblk0]
  refine congrArg (V c main_arg0) (funext (Fin.forall_fin_two.mpr ⟨Fin.ext ?_, Fin.ext ?_⟩))
  · blk_simp [index0_1] <;> (show _ = t.val / 11 * 1024 + j) <;> (try dsimp only) <;> omega
  · blk_simp [index0_1] <;> (show _ = k) <;> (try dsimp only) <;> omega

theorem index0_2 : ∀ t : Fin cfg0.N, win0_2.index t = ![0, t.val % 11] :=
  (by decide +kernel : ∀ t : Fin grid0.N, win0_2.index t = ![0, t.val % 11])

/-- Window 2's block of call 0 at a point, read in its array. -/
theorem block0_2 (c : Dev nD) (t : Fin cfg0.N) {j k : ℕ} (hj : j < 2048) (hk : k < 512) :
    rd (n0 := 2048) (n1 := 512) (iblk0 V c 2 t) j k = rd (n0 := 2048) (n1 := 5632) (V c main_arg2) (j) (t.val % 11 * 512 + k) := by
  have ht : t.val < 44 := lt_of_lt_of_eq t.isLt N_0
  rw [← rd_of _ hj hk, ← rd_of _ (by omega) (by omega)]
  blk_simp [iblk0]
  refine congrArg (V c main_arg2) (funext (Fin.forall_fin_two.mpr ⟨Fin.ext ?_, Fin.ext ?_⟩))
  · blk_simp [index0_2] <;> (show _ = j) <;> (try dsimp only) <;> omega
  · blk_simp [index0_2] <;> (show _ = t.val % 11 * 512 + k) <;> (try dsimp only) <;> omega

theorem index0_3 : ∀ t : Fin cfg0.N, win0_3.index t = ![0, t.val % 11] :=
  (by decide +kernel : ∀ t : Fin grid0.N, win0_3.index t = ![0, t.val % 11])

/-- Window 3's block of call 0 at a point, read in its array. -/
theorem block0_3 (c : Dev nD) (t : Fin cfg0.N) {j k : ℕ} (hj : j < 2048) (hk : k < 512) :
    rd (n0 := 2048) (n1 := 512) (iblk0 V c 3 t) j k = rd (n0 := 2048) (n1 := 5632) (V c main_arg3) (j) (t.val % 11 * 512 + k) := by
  have ht : t.val < 44 := lt_of_lt_of_eq t.isLt N_0
  rw [← rd_of _ hj hk, ← rd_of _ (by omega) (by omega)]
  blk_simp [iblk0]
  refine congrArg (V c main_arg3) (funext (Fin.forall_fin_two.mpr ⟨Fin.ext ?_, Fin.ext ?_⟩))
  · blk_simp [index0_3] <;> (show _ = j) <;> (try dsimp only) <;> omega
  · blk_simp [index0_3] <;> (show _ = t.val % 11 * 512 + k) <;> (try dsimp only) <;> omega

theorem index0_4 : ∀ t : Fin cfg0.N, win0_4.index t = ![t.val / 11, t.val % 11] :=
  (by decide +kernel : ∀ t : Fin grid0.N, win0_4.index t = ![t.val / 11, t.val % 11])

theorem index0_5 : ∀ t : Fin cfg0.N, win0_5.index t = ![t.val / 11, t.val % 11] :=
  (by decide +kernel : ∀ t : Fin grid0.N, win0_5.index t = ![t.val / 11, t.val % 11])

theorem index0_6 : ∀ t : Fin cfg0.N, win0_6.index t = ![t.val / 11, t.val % 11] :=
  (by decide +kernel : ∀ t : Fin grid0.N, win0_6.index t = ![t.val / 11, t.val % 11])

theorem index1_0 : ∀ t : Fin cfg1.N, win1_0.index t = ![t.val / 11, 0] :=
  (by decide +kernel : ∀ t : Fin grid1.N, win1_0.index t = ![t.val / 11, 0])

/-- Window 0's block of call 1 at a point, read in its array. -/
theorem block1_0 (c : Dev nD) (t : Fin cfg1.N) {j k : ℕ} (hj : j < 2048) (hk : k < 2048) :
    rd (n0 := 2048) (n1 := 2048) (iblk1 V c 0 t) j k = rd (n0 := 4096) (n1 := 2048) (V c main_arg1) (t.val / 11 * 2048 + j) (k) := by
  have ht : t.val < 22 := lt_of_lt_of_eq t.isLt N_1
  rw [← rd_of _ hj hk, ← rd_of _ (by omega) (by omega)]
  blk_simp [iblk1]
  refine congrArg (V c main_arg1) (funext (Fin.forall_fin_two.mpr ⟨Fin.ext ?_, Fin.ext ?_⟩))
  · blk_simp [index1_0] <;> (show _ = t.val / 11 * 2048 + j) <;> (try dsimp only) <;> omega
  · blk_simp [index1_0] <;> (show _ = k) <;> (try dsimp only) <;> omega

theorem index1_1 : ∀ t : Fin cfg1.N, win1_1.index t = ![t.val % 11, 0] :=
  (by decide +kernel : ∀ t : Fin grid1.N, win1_1.index t = ![t.val % 11, 0])

/-- Window 1's block of call 1 at a point, read in its array. -/
theorem block1_1 (c : Dev nD) (t : Fin cfg1.N) {j k : ℕ} (hj : j < 512) (hk : k < 2048) :
    rd (n0 := 512) (n1 := 2048) (iblk1 V c 1 t) j k = rd (n0 := 5632) (n1 := 2048) (V c main_arg4) (t.val % 11 * 512 + j) (k) := by
  have ht : t.val < 22 := lt_of_lt_of_eq t.isLt N_1
  rw [← rd_of _ hj hk, ← rd_of _ (by omega) (by omega)]
  blk_simp [iblk1]
  refine congrArg (V c main_arg4) (funext (Fin.forall_fin_two.mpr ⟨Fin.ext ?_, Fin.ext ?_⟩))
  · blk_simp [index1_1] <;> (show _ = t.val % 11 * 512 + j) <;> (try dsimp only) <;> omega
  · blk_simp [index1_1] <;> (show _ = k) <;> (try dsimp only) <;> omega

theorem index1_2 : ∀ t : Fin cfg1.N, win1_2.index t = ![t.val / 11, t.val % 11] :=
  (by decide +kernel : ∀ t : Fin grid1.N, win1_2.index t = ![t.val / 11, t.val % 11])

/-- Window 2's block of call 1 at a point, read in its array. -/
theorem block1_2 (c : Dev nD) (t : Fin cfg1.N) {j k : ℕ} (hj : j < 2048) (hk : k < 512) :
    rd (n0 := 2048) (n1 := 512) (iblk1 V c 2 t) j k = rd (n0 := 4096) (n1 := 5632) (V c main_v0_0) (t.val / 11 * 2048 + j) (t.val % 11 * 512 + k) := by
  have ht : t.val < 22 := lt_of_lt_of_eq t.isLt N_1
  rw [← rd_of _ hj hk, ← rd_of _ (by omega) (by omega)]
  blk_simp [iblk1]
  refine congrArg (V c main_v0_0) (funext (Fin.forall_fin_two.mpr ⟨Fin.ext ?_, Fin.ext ?_⟩))
  · blk_simp [index1_2] <;> (show _ = t.val / 11 * 2048 + j) <;> (try dsimp only) <;> omega
  · blk_simp [index1_2] <;> (show _ = t.val % 11 * 512 + k) <;> (try dsimp only) <;> omega

theorem index1_3 : ∀ t : Fin cfg1.N, win1_3.index t = ![t.val / 11, t.val % 11] :=
  (by decide +kernel : ∀ t : Fin grid1.N, win1_3.index t = ![t.val / 11, t.val % 11])

/-- Window 3's block of call 1 at a point, read in its array. -/
theorem block1_3 (c : Dev nD) (t : Fin cfg1.N) {j k : ℕ} (hj : j < 2048) (hk : k < 512) :
    rd (n0 := 2048) (n1 := 512) (iblk1 V c 3 t) j k = rd (n0 := 4096) (n1 := 5632) (V c main_v0_1) (t.val / 11 * 2048 + j) (t.val % 11 * 512 + k) := by
  have ht : t.val < 22 := lt_of_lt_of_eq t.isLt N_1
  rw [← rd_of _ hj hk, ← rd_of _ (by omega) (by omega)]
  blk_simp [iblk1]
  refine congrArg (V c main_v0_1) (funext (Fin.forall_fin_two.mpr ⟨Fin.ext ?_, Fin.ext ?_⟩))
  · blk_simp [index1_3] <;> (show _ = t.val / 11 * 2048 + j) <;> (try dsimp only) <;> omega
  · blk_simp [index1_3] <;> (show _ = t.val % 11 * 512 + k) <;> (try dsimp only) <;> omega

theorem index1_4 : ∀ t : Fin cfg1.N, win1_4.index t = ![t.val / 11, t.val % 11] :=
  (by decide +kernel : ∀ t : Fin grid1.N, win1_4.index t = ![t.val / 11, t.val % 11])

theorem index1_5 : ∀ t : Fin cfg1.N, win1_5.index t = ![t.val / 11, t.val % 11] :=
  (by decide +kernel : ∀ t : Fin grid1.N, win1_5.index t = ![t.val / 11, t.val % 11])

theorem index2_0 : ∀ t : Fin cfg2.N, win2_0.index t = ![0, t.val / 2] :=
  (by decide +kernel : ∀ t : Fin grid2.N, win2_0.index t = ![0, t.val / 2])

/-- Window 0's block of call 2 at a point, read in its array. -/
theorem block2_0 (c : Dev nD) (t : Fin cfg2.N) {j k : ℕ} (hj : j < 4096) (hk : k < 512) :
    rd (n0 := 4096) (n1 := 512) (iblk2 V c 0 t) j k = rd (n0 := 4096) (n1 := 5632) (V c main_v0_2) (j) (t.val / 2 * 512 + k) := by
  have ht : t.val < 22 := lt_of_lt_of_eq t.isLt N_2
  rw [← rd_of _ hj hk, ← rd_of _ (by omega) (by omega)]
  blk_simp [iblk2]
  refine congrArg (V c main_v0_2) (funext (Fin.forall_fin_two.mpr ⟨Fin.ext ?_, Fin.ext ?_⟩))
  · blk_simp [index2_0] <;> (show _ = j) <;> (try dsimp only) <;> omega
  · blk_simp [index2_0] <;> (show _ = t.val / 2 * 512 + k) <;> (try dsimp only) <;> omega

theorem index2_1 : ∀ t : Fin cfg2.N, win2_1.index t = ![0, t.val % 2] :=
  (by decide +kernel : ∀ t : Fin grid2.N, win2_1.index t = ![0, t.val % 2])

/-- Window 1's block of call 2 at a point, read in its array. -/
theorem block2_1 (c : Dev nD) (t : Fin cfg2.N) {j k : ℕ} (hj : j < 4096) (hk : k < 1024) :
    rd (n0 := 4096) (n1 := 1024) (iblk2 V c 1 t) j k = rd (n0 := 4096) (n1 := 2048) (V c main_arg1) (j) (t.val % 2 * 1024 + k) := by
  have ht : t.val < 22 := lt_of_lt_of_eq t.isLt N_2
  rw [← rd_of _ hj hk, ← rd_of _ (by omega) (by omega)]
  blk_simp [iblk2]
  refine congrArg (V c main_arg1) (funext (Fin.forall_fin_two.mpr ⟨Fin.ext ?_, Fin.ext ?_⟩))
  · blk_simp [index2_1] <;> (show _ = j) <;> (try dsimp only) <;> omega
  · blk_simp [index2_1] <;> (show _ = t.val % 2 * 1024 + k) <;> (try dsimp only) <;> omega

theorem index2_2 : ∀ t : Fin cfg2.N, win2_2.index t = ![t.val / 2, t.val % 2] :=
  (by decide +kernel : ∀ t : Fin grid2.N, win2_2.index t = ![t.val / 2, t.val % 2])

theorem index3_0 : ∀ t : Fin cfg3.N, win3_0.index t = ![0, 0] :=
  (by decide +kernel : ∀ t : Fin grid3.N, win3_0.index t = ![0, 0])

/-- Window 0's block of call 3 at a point, read in its array. -/
theorem block3_0 (c : Dev nD) (t : Fin cfg3.N) {j k : ℕ} (hj : j < 4096) (hk : k < 2048) :
    rd (n0 := 4096) (n1 := 2048) (iblk3 V c 0 t) j k = rd (n0 := 4096) (n1 := 2048) (V c main_arg0) (j) (k) := by
  have ht : t.val < 11 := lt_of_lt_of_eq t.isLt N_3
  rw [← rd_of _ hj hk, ← rd_of _ (by omega) (by omega)]
  blk_simp [iblk3]
  refine congrArg (V c main_arg0) (funext (Fin.forall_fin_two.mpr ⟨Fin.ext ?_, Fin.ext ?_⟩))
  · blk_simp [index3_0] <;> (show _ = j) <;> (try dsimp only) <;> omega
  · blk_simp [index3_0] <;> (show _ = k) <;> (try dsimp only) <;> omega

theorem index3_1 : ∀ t : Fin cfg3.N, win3_1.index t = ![0, t.val] :=
  (by decide +kernel : ∀ t : Fin grid3.N, win3_1.index t = ![0, t.val])

/-- Window 1's block of call 3 at a point, read in its array. -/
theorem block3_1 (c : Dev nD) (t : Fin cfg3.N) {j k : ℕ} (hj : j < 4096) (hk : k < 512) :
    rd (n0 := 4096) (n1 := 512) (iblk3 V c 1 t) j k = rd (n0 := 4096) (n1 := 5632) (V c main_v1_0) (j) (t.val * 512 + k) := by
  have ht : t.val < 11 := lt_of_lt_of_eq t.isLt N_3
  rw [← rd_of _ hj hk, ← rd_of _ (by omega) (by omega)]
  blk_simp [iblk3]
  refine congrArg (V c main_v1_0) (funext (Fin.forall_fin_two.mpr ⟨Fin.ext ?_, Fin.ext ?_⟩))
  · blk_simp [index3_1] <;> (show _ = j) <;> (try dsimp only) <;> omega
  · blk_simp [index3_1] <;> (show _ = t.val * 512 + k) <;> (try dsimp only) <;> omega

theorem index3_2 : ∀ t : Fin cfg3.N, win3_2.index t = ![0, t.val] :=
  (by decide +kernel : ∀ t : Fin grid3.N, win3_2.index t = ![0, t.val])

theorem index4_0 : ∀ t : Fin cfg4.N, win4_0.index t = ![0, 0] :=
  (by decide +kernel : ∀ t : Fin grid4.N, win4_0.index t = ![0, 0])

/-- Window 0's block of call 4 at a point, read in its array. -/
theorem block4_0 (c : Dev nD) (t : Fin cfg4.N) {j k : ℕ} (hj : j < 4096) (hk : k < 2048) :
    rd (n0 := 4096) (n1 := 2048) (iblk4 V c 0 t) j k = rd (n0 := 4096) (n1 := 2048) (V c main_arg0) (j) (k) := by
  have ht : t.val < 11 := lt_of_lt_of_eq t.isLt N_4
  rw [← rd_of _ hj hk, ← rd_of _ (by omega) (by omega)]
  blk_simp [iblk4]
  refine congrArg (V c main_arg0) (funext (Fin.forall_fin_two.mpr ⟨Fin.ext ?_, Fin.ext ?_⟩))
  · blk_simp [index4_0] <;> (show _ = j) <;> (try dsimp only) <;> omega
  · blk_simp [index4_0] <;> (show _ = k) <;> (try dsimp only) <;> omega

theorem index4_1 : ∀ t : Fin cfg4.N, win4_1.index t = ![0, t.val] :=
  (by decide +kernel : ∀ t : Fin grid4.N, win4_1.index t = ![0, t.val])

/-- Window 1's block of call 4 at a point, read in its array. -/
theorem block4_1 (c : Dev nD) (t : Fin cfg4.N) {j k : ℕ} (hj : j < 4096) (hk : k < 512) :
    rd (n0 := 4096) (n1 := 512) (iblk4 V c 1 t) j k = rd (n0 := 4096) (n1 := 5632) (V c main_v1_1) (j) (t.val * 512 + k) := by
  have ht : t.val < 11 := lt_of_lt_of_eq t.isLt N_4
  rw [← rd_of _ hj hk, ← rd_of _ (by omega) (by omega)]
  blk_simp [iblk4]
  refine congrArg (V c main_v1_1) (funext (Fin.forall_fin_two.mpr ⟨Fin.ext ?_, Fin.ext ?_⟩))
  · blk_simp [index4_1] <;> (show _ = j) <;> (try dsimp only) <;> omega
  · blk_simp [index4_1] <;> (show _ = t.val * 512 + k) <;> (try dsimp only) <;> omega

theorem index4_2 : ∀ t : Fin cfg4.N, win4_2.index t = ![0, t.val] :=
  (by decide +kernel : ∀ t : Fin grid4.N, win4_2.index t = ![0, t.val])

end Cert.Ffn

end
-- ==== Proof.FfnFinal.lean ====
module

public import proofs.«01_k».proof.Proof.FfnBlocks

/-! What each call of the feed-forward backward pass leaves in its result arrays. -/

@[expose] public section
noncomputable section
open Idealize.ShloMosaic Idealize.ShloMosaic.TcCoe Idealize.SL.Sem
open Idealize.ShloMosaic.Pipeline (Dat)
open Cert.Mix (rd rd_of rd_ix2)

namespace Cert.Ffn
open Cert.Kernel2Ideal Cert.Kernel2Ideal.Gen

variable (V : (c : Dev nD) → (b : Ref sig .tc) → Buf (Elt Ideal) ((c : Thread nD τ).loc b))

theorem zero2 : (![0, 0] : Fin 2 → Nat) = fun _ => 0 := funext fun a => by fin_cases a <;> rfl

/-- A row chunk of a block, read in the block. -/
theorem ld_rows {n K W : ℕ} (o : ℕ) (x : FVec Ideal ⟨2, ![n, K]⟩ .bf16)
    (inb : ∀ a, (![o, 0] : Fin 2 → ℕ) a + (⟨2, ![W, K]⟩ : Shape).size a ≤ (⟨2, ![n, K]⟩ : Shape).size a) {r c : ℕ} (hr : r < W) (hc : c < K) :
    rd (n0 := W) (n1 := K) (View.ld (Val := Elt Ideal) (e' := .bf16) x (Rect.unit (s := ⟨2, ![n, K]⟩) ![o, 0] (⟨2, ![W, K]⟩ : Shape).size inb)) r c
      = rd (n0 := n) (n1 := K) x (o + r) c := by
  have ho : o + W ≤ n := inb 0
  rw [← rd_of _ hr hc, ← rd_of x (by omega : o + r < n) hc]
  exact View.ld_unit_apply_of (Val := Elt Ideal) (e := .bf16) x _ _ inb (ix2 (n0 := W) (n1 := K) ⟨r, hr⟩ ⟨c, hc⟩) (ix2 (n0 := n) (n1 := K) ⟨o + r, by omega⟩ ⟨c, hc⟩) (Fin.forall_fin_two.mpr ⟨rfl, (Nat.zero_add _).symm⟩)

/-- A chunk of rows of the gradient call: its store is the closed form at its rows. -/
theorem chunk_eq (o : ℕ) (x0 : FVec Ideal S2048x2048 .bf16) (x1 : FVec Ideal S512x2048 .bf16) (z : FVec Ideal S2048x512 .bf16)
    (inb0 : ∀ a, (![o, 0] : Fin 2 → ℕ) a + S512x2048.size a ≤ S2048x2048.size a) (inbz : ∀ a, (![o, 0] : Fin 2 → ℕ) a + S512x512.size a ≤ S2048x512.size a)
    (a b : Fin 512) :
    nt 2048 (rd (n0 := 512) (n1 := 2048) (View.ld (Val := Elt Ideal) (e' := .bf16) x0 (Rect.unit (s := S2048x2048) ![o, 0] S512x2048.size inb0))) (rd x1) a b
        * rd (n0 := 512) (n1 := 512) (View.ld (Val := Elt Ideal) (e' := .bf16) z (Rect.unit (s := S2048x512) ![o, 0] S512x512.size inbz)) a b
      = nt 2048 (rd x0) (rd x1) (o + 1 * a.val) (0 + 1 * b.val) * rd z (o + 1 * a.val) (0 + 1 * b.val) := by
  rw [Nat.one_mul, Nat.one_mul, Nat.zero_add]
  exact congrArg₂ (· * ·) (nt_congr (fun k hk => ld_rows o x0 inb0 a.isLt hk) fun k _ => rfl) (ld_rows o z inbz a.isLt b.isLt)

/-- The derivative factors, as call 0 stores a block of them. -/
theorem out0_4_apply (x0 : FVec Ideal S1024x2048 .bf16) (x1 : FVec Ideal S1024x2048 .bf16) (x2 : FVec Ideal S2048x512 .bf16) (x3 : FVec Ideal S2048x512 .bf16) (j : Fin 1024) (k : Fin 512) :
    out0_4 (F := Ideal) x0 x1 x2 x3 (ix2 j k) = gtOf (nn 2048 (rd x0) (rd x2) j k) (nn 2048 (rd x1) (rd x3) j k) := by
  unfold out0_4
  rw [View.canon_unit_zero zero2]
  simp only [View.ld_unit_zero (S := S1024x2048) zero2, View.ld_unit_zero (S := S2048x512) zero2]
  exact pay0_5 _ _ _ _ j k

/-- The derivative factors: what call 0 leaves in the whole array. -/
theorem final0_4 (c : Dev nD) : (dat0 V c).arrAt 4 cfg0.N = fun y : S4096x5632.Idx =>
    gtOf (nn 2048 (rd (n0 := 4096) (n1 := 2048) (V c main_arg0)) (rd (n0 := 2048) (n1 := 5632) (V c main_arg2)) (y 0).val (y 1).val) (nn 2048 (rd (n0 := 4096) (n1 := 2048) (V c main_arg0)) (rd (n0 := 2048) (n1 := 5632) (V c main_arg3)) (y 0).val (y 1).val) := by
  refine (dat0 V c).arrAt_eq_of_covers 4 _ (by decide +kernel) fun t hf y => ?_
  have ht : t.val < 44 := lt_of_lt_of_eq t.isLt N_0
  have h0 : (y 0).val < 1024 := (y 0).isLt
  have h1 : (y 1).val < 512 := (y 1).isLt
  blk_simp [index0_4]
  rw [after0_4]
  obtain ⟨j, k, rfl⟩ : ∃ (j : Fin 1024) (k : Fin 512), y = ix2 j k := ⟨y 0, y 1, eq_ix2 y⟩
  refine (out0_4_apply _ _ _ _ j k).trans ?_
  rw [nn_congr (fun k hk => block0_0 V c t j.isLt hk) (fun k_ hk => block0_2 V c t hk k.isLt), nn_congr (fun k hk => block0_1 V c t j.isLt hk) (fun k_ hk => block0_3 V c t hk k.isLt)]
  rfl

/-- The gate's `silu`, as call 0 stores a block of them. -/
theorem out0_5_apply (x0 : FVec Ideal S1024x2048 .bf16) (x1 : FVec Ideal S1024x2048 .bf16) (x2 : FVec Ideal S2048x512 .bf16) (x3 : FVec Ideal S2048x512 .bf16) (j : Fin 1024) (k : Fin 512) :
    out0_5 (F := Ideal) x0 x1 x2 x3 (ix2 j k) = nn 2048 (rd x0) (rd x2) j k * Ideal.logistic (nn 2048 (rd x0) (rd x2) j k) := by
  unfold out0_5
  rw [View.canon_unit_zero zero2]
  simp only [View.ld_unit_zero (S := S1024x2048) zero2, View.ld_unit_zero (S := S2048x512) zero2]
  exact pay0_6 _ _ j k

/-- The gate's `silu`: what call 0 leaves in the whole array. -/
theorem final0_5 (c : Dev nD) : (dat0 V c).arrAt 5 cfg0.N = fun y : S4096x5632.Idx =>
    nn 2048 (rd (n0 := 4096) (n1 := 2048) (V c main_arg0)) (rd (n0 := 2048) (n1 := 5632) (V c main_arg2)) (y 0).val (y 1).val * Ideal.logistic (nn 2048 (rd (n0 := 4096) (n1 := 2048) (V c main_arg0)) (rd (n0 := 2048) (n1 := 5632) (V c main_arg2)) (y 0).val (y 1).val) := by
  refine (dat0 V c).arrAt_eq_of_covers 5 _ (by decide +kernel) fun t hf y => ?_
  have ht : t.val < 44 := lt_of_lt_of_eq t.isLt N_0
  have h0 : (y 0).val < 1024 := (y 0).isLt
  have h1 : (y 1).val < 512 := (y 1).isLt
  blk_simp [index0_5]
  rw [after0_5]
  obtain ⟨j, k, rfl⟩ : ∃ (j : Fin 1024) (k : Fin 512), y = ix2 j k := ⟨y 0, y 1, eq_ix2 y⟩
  refine (out0_5_apply _ _ _ _ j k).trans ?_
  rw [nn_congr (fun k hk => block0_0 V c t j.isLt hk) (fun k_ hk => block0_2 V c t hk k.isLt)]
  rfl

/-- The activations, as call 0 stores a block of them. -/
theorem out0_6_apply (x0 : FVec Ideal S1024x2048 .bf16) (x1 : FVec Ideal S1024x2048 .bf16) (x2 : FVec Ideal S2048x512 .bf16) (x3 : FVec Ideal S2048x512 .bf16) (j : Fin 1024) (k : Fin 512) :
    out0_6 (F := Ideal) x0 x1 x2 x3 (ix2 j k) = nn 2048 (rd x0) (rd x2) j k * Ideal.logistic (nn 2048 (rd x0) (rd x2) j k) * nn 2048 (rd x1) (rd x3) j k := by
  unfold out0_6
  rw [View.canon_unit_zero zero2]
  simp only [View.ld_unit_zero (S := S1024x2048) zero2, View.ld_unit_zero (S := S2048x512) zero2]
  exact pay0_7 _ _ _ _ j k

/-- The activations: what call 0 leaves in the whole array. -/
theorem final0_6 (c : Dev nD) : (dat0 V c).arrAt 6 cfg0.N = fun y : S4096x5632.Idx =>
    nn 2048 (rd (n0 := 4096) (n1 := 2048) (V c main_arg0)) (rd (n0 := 2048) (n1 := 5632) (V c main_arg2)) (y 0).val (y 1).val * Ideal.logistic (nn 2048 (rd (n0 := 4096) (n1 := 2048) (V c main_arg0)) (rd (n0 := 2048) (n1 := 5632) (V c main_arg2)) (y 0).val (y 1).val) * nn 2048 (rd (n0 := 4096) (n1 := 2048) (V c main_arg0)) (rd (n0 := 2048) (n1 := 5632) (V c main_arg3)) (y 0).val (y 1).val := by
  refine (dat0 V c).arrAt_eq_of_covers 6 _ (by decide +kernel) fun t hf y => ?_
  have ht : t.val < 44 := lt_of_lt_of_eq t.isLt N_0
  have h0 : (y 0).val < 1024 := (y 0).isLt
  have h1 : (y 1).val < 512 := (y 1).isLt
  blk_simp [index0_6]
  rw [after0_6]
  obtain ⟨j, k, rfl⟩ : ∃ (j : Fin 1024) (k : Fin 512), y = ix2 j k := ⟨y 0, y 1, eq_ix2 y⟩
  refine (out0_6_apply _ _ _ _ j k).trans ?_
  rw [nn_congr (fun k hk => block0_0 V c t j.isLt hk) (fun k_ hk => block0_2 V c t hk k.isLt), nn_congr (fun k hk => block0_1 V c t j.isLt hk) (fun k_ hk => block0_3 V c t hk k.isLt)]
  rfl

/-- The gate's gradient, as call 1 stores a block of them. -/
theorem out1_4_apply (x0 : FVec Ideal S2048x2048 .bf16) (x1 : FVec Ideal S512x2048 .bf16) (x2 : FVec Ideal S2048x512 .bf16) (x3 : FVec Ideal S2048x512 .bf16) (j : Fin 2048) (k : Fin 512) :
    out1_4 (F := Ideal) x0 x1 x2 x3 (ix2 j k) = nt 2048 (rd x0) (rd x1) j k * (rd x2) j k := by
  refine (View.canon_apply_of_pieces (Val := Elt Ideal) (e := .bf16) (fun y : S2048x512.Idx => nt 2048 (rd x0) (rd x1) (y 0).val (y 1).val * rd x2 (y 0).val (y 1).val) _ ?_ (ix2 j k)
    (cover1_4 (F := Ideal) _ _ _ _ _)).trans rfl
  suffices hp : View.PiecesOf (Val := Elt Ideal) (e := .bf16) (fun y : S2048x512.Idx => nt 2048 (rd x0) (rd x1) (y 0).val (y 1).val * rd x2 (y 0).val (y 1).val) _ from hp.mem
  simp only [View.ld_unit_zero (S := S512x2048) zero2]
  refine ⟨fun x => ?_, fun x => ?_, fun x => ?_, fun x => ?_, trivial⟩
  · obtain ⟨a, b, rfl⟩ : ∃ (a b : Fin 512), x = ix2 a b := ⟨x 0, x 1, eq_ix2 x⟩
    refine (pay1_11 _ _ _ a b).trans ?_
    exact chunk_eq 1536 x0 x1 x2 _ _ a b
  · obtain ⟨a, b, rfl⟩ : ∃ (a b : Fin 512), x = ix2 a b := ⟨x 0, x 1, eq_ix2 x⟩
    refine (pay1_8 _ _ _ a b).trans ?_
    exact chunk_eq 1024 x0 x1 x2 _ _ a b
  · obtain ⟨a, b, rfl⟩ : ∃ (a b : Fin 512), x = ix2 a b := ⟨x 0, x 1, eq_ix2 x⟩
    refine (pay1_5 _ _ _ a b).trans ?_
    exact chunk_eq 512 x0 x1 x2 _ _ a b
  · obtain ⟨a, b, rfl⟩ : ∃ (a b : Fin 512), x = ix2 a b := ⟨x 0, x 1, eq_ix2 x⟩
    refine (pay1_2 _ _ _ a b).trans ?_
    exact chunk_eq 0 x0 x1 x2 _ _ a b

/-- The gate's gradient: what call 1 leaves in the whole array. -/
theorem final1_4 (c : Dev nD) : (dat1 V c).arrAt 4 cfg1.N = fun y : S4096x5632.Idx =>
    nt 2048 (rd (n0 := 4096) (n1 := 2048) (V c main_arg1)) (rd (n0 := 5632) (n1 := 2048) (V c main_arg4)) (y 0).val (y 1).val * (rd (n0 := 4096) (n1 := 5632) (V c main_v0_0)) (y 0).val (y 1).val := by
  refine (dat1 V c).arrAt_eq_of_covers 4 _ (by decide +kernel) fun t hf y => ?_
  have ht : t.val < 22 := lt_of_lt_of_eq t.isLt N_1
  have h0 : (y 0).val < 2048 := (y 0).isLt
  have h1 : (y 1).val < 512 := (y 1).isLt
  blk_simp [index1_4]
  rw [after1_4]
  obtain ⟨j, k, rfl⟩ : ∃ (j : Fin 2048) (k : Fin 512), y = ix2 j k := ⟨y 0, y 1, eq_ix2 y⟩
  refine (out1_4_apply _ _ _ _ j k).trans ?_
  rw [nt_congr (fun k hk => block1_0 V c t j.isLt hk) (fun k_ hk => block1_1 V c t k.isLt hk), block1_2 V c t j.isLt k.isLt]
  rfl

/-- The other product's gradient, as call 1 stores a block of them. -/
theorem out1_5_apply (x0 : FVec Ideal S2048x2048 .bf16) (x1 : FVec Ideal S512x2048 .bf16) (x2 : FVec Ideal S2048x512 .bf16) (x3 : FVec Ideal S2048x512 .bf16) (j : Fin 2048) (k : Fin 512) :
    out1_5 (F := Ideal) x0 x1 x2 x3 (ix2 j k) = nt 2048 (rd x0) (rd x1) j k * (rd x3) j k := by
  refine (View.canon_apply_of_pieces (Val := Elt Ideal) (e := .bf16) (fun y : S2048x512.Idx => nt 2048 (rd x0) (rd x1) (y 0).val (y 1).val * rd x3 (y 0).val (y 1).val) _ ?_ (ix2 j k)
    (cover1_5 (F := Ideal) _ _ _ _ _)).trans rfl
  suffices hp : View.PiecesOf (Val := Elt Ideal) (e := .bf16) (fun y : S2048x512.Idx => nt 2048 (rd x0) (rd x1) (y 0).val (y 1).val * rd x3 (y 0).val (y 1).val) _ from hp.mem
  simp only [View.ld_unit_zero (S := S512x2048) zero2]
  refine ⟨fun x => ?_, fun x => ?_, fun x => ?_, fun x => ?_, trivial⟩
  · obtain ⟨a, b, rfl⟩ : ∃ (a b : Fin 512), x = ix2 a b := ⟨x 0, x 1, eq_ix2 x⟩
    refine (pay1_12 _ _ _ a b).trans ?_
    exact chunk_eq 1536 x0 x1 x3 _ _ a b
  · obtain ⟨a, b, rfl⟩ : ∃ (a b : Fin 512), x = ix2 a b := ⟨x 0, x 1, eq_ix2 x⟩
    refine (pay1_9 _ _ _ a b).trans ?_
    exact chunk_eq 1024 x0 x1 x3 _ _ a b
  · obtain ⟨a, b, rfl⟩ : ∃ (a b : Fin 512), x = ix2 a b := ⟨x 0, x 1, eq_ix2 x⟩
    refine (pay1_6 _ _ _ a b).trans ?_
    exact chunk_eq 512 x0 x1 x3 _ _ a b
  · obtain ⟨a, b, rfl⟩ : ∃ (a b : Fin 512), x = ix2 a b := ⟨x 0, x 1, eq_ix2 x⟩
    refine (pay1_3 _ _ _ a b).trans ?_
    exact chunk_eq 0 x0 x1 x3 _ _ a b

/-- The other product's gradient: what call 1 leaves in the whole array. -/
theorem final1_5 (c : Dev nD) : (dat1 V c).arrAt 5 cfg1.N = fun y : S4096x5632.Idx =>
    nt 2048 (rd (n0 := 4096) (n1 := 2048) (V c main_arg1)) (rd (n0 := 5632) (n1 := 2048) (V c main_arg4)) (y 0).val (y 1).val * (rd (n0 := 4096) (n1 := 5632) (V c main_v0_1)) (y 0).val (y 1).val := by
  refine (dat1 V c).arrAt_eq_of_covers 5 _ (by decide +kernel) fun t hf y => ?_
  have ht : t.val < 22 := lt_of_lt_of_eq t.isLt N_1
  have h0 : (y 0).val < 2048 := (y 0).isLt
  have h1 : (y 1).val < 512 := (y 1).isLt
  blk_simp [index1_5]
  rw [after1_5]
  obtain ⟨j, k, rfl⟩ : ∃ (j : Fin 2048) (k : Fin 512), y = ix2 j k := ⟨y 0, y 1, eq_ix2 y⟩
  refine (out1_5_apply _ _ _ _ j k).trans ?_
  rw [nt_congr (fun k hk => block1_0 V c t j.isLt hk) (fun k_ hk => block1_1 V c t k.isLt hk), block1_3 V c t j.isLt k.isLt]
  rfl

/-- The down weight gradient, as call 2 stores a block of them. -/
theorem out2_2_apply (x0 : FVec Ideal S4096x512 .bf16) (x1 : FVec Ideal S4096x1024 .bf16) (j : Fin 512) (k : Fin 1024) :
    out2_2 (F := Ideal) x0 x1 (ix2 j k) = tn 4096 (rd x0) (rd x1) j k := by
  unfold out2_2
  rw [View.canon_unit_zero zero2]
  simp only [View.ld_unit_zero (S := S4096x1024) zero2, View.ld_unit_zero (S := S4096x512) zero2]
  exact pay2_1 _ _ j k

/-- The down weight gradient: what call 2 leaves in the whole array. -/
theorem final2_2 (c : Dev nD) : (dat2 V c).arrAt 2 cfg2.N = fun y : S5632x2048.Idx =>
    tn 4096 (rd (n0 := 4096) (n1 := 5632) (V c main_v0_2)) (rd (n0 := 4096) (n1 := 2048) (V c main_arg1)) (y 0).val (y 1).val := by
  refine (dat2 V c).arrAt_eq_of_covers 2 _ (by decide +kernel) fun t hf y => ?_
  have ht : t.val < 22 := lt_of_lt_of_eq t.isLt N_2
  have h0 : (y 0).val < 512 := (y 0).isLt
  have h1 : (y 1).val < 1024 := (y 1).isLt
  blk_simp [index2_2]
  rw [after2_2]
  obtain ⟨j, k, rfl⟩ : ∃ (j : Fin 512) (k : Fin 1024), y = ix2 j k := ⟨y 0, y 1, eq_ix2 y⟩
  refine (out2_2_apply _ _ j k).trans ?_
  rw [tn_congr (fun k hk => block2_0 V c t hk j.isLt) (fun k_ hk => block2_1 V c t hk k.isLt)]
  rfl

/-- The gate weight gradient, as call 3 stores a block of them. -/
theorem out3_2_apply (x0 : FVec Ideal S4096x2048 .bf16) (x1 : FVec Ideal S4096x512 .bf16) (j : Fin 2048) (k : Fin 512) :
    out3_2 (F := Ideal) x0 x1 (ix2 j k) = tn 4096 (rd x0) (rd x1) j k := by
  unfold out3_2
  rw [View.canon_unit_zero zero2]
  simp only [View.ld_unit_zero (S := S4096x2048) zero2, View.ld_unit_zero (S := S4096x512) zero2]
  exact pay3_1 _ _ j k

/-- The gate weight gradient: what call 3 leaves in the whole array. -/
theorem final3_2 (c : Dev nD) : (dat3 V c).arrAt 2 cfg3.N = fun y : S2048x5632.Idx =>
    tn 4096 (rd (n0 := 4096) (n1 := 2048) (V c main_arg0)) (rd (n0 := 4096) (n1 := 5632) (V c main_v1_0)) (y 0).val (y 1).val := by
  refine (dat3 V c).arrAt_eq_of_covers 2 _ (by decide +kernel) fun t hf y => ?_
  have ht : t.val < 11 := lt_of_lt_of_eq t.isLt N_3
  have h0 : (y 0).val < 2048 := (y 0).isLt
  have h1 : (y 1).val < 512 := (y 1).isLt
  blk_simp [index3_2]
  rw [after3_2]
  obtain ⟨j, k, rfl⟩ : ∃ (j : Fin 2048) (k : Fin 512), y = ix2 j k := ⟨y 0, y 1, eq_ix2 y⟩
  refine (out3_2_apply _ _ j k).trans ?_
  rw [tn_congr (fun k hk => block3_0 V c t hk j.isLt) (fun k_ hk => block3_1 V c t hk k.isLt)]
  rfl

/-- The up weight gradient, as call 4 stores a block of them. -/
theorem out4_2_apply (x0 : FVec Ideal S4096x2048 .bf16) (x1 : FVec Ideal S4096x512 .bf16) (j : Fin 2048) (k : Fin 512) :
    out4_2 (F := Ideal) x0 x1 (ix2 j k) = tn 4096 (rd x0) (rd x1) j k := by
  unfold out4_2
  rw [View.canon_unit_zero zero2]
  simp only [View.ld_unit_zero (S := S4096x2048) zero2, View.ld_unit_zero (S := S4096x512) zero2]
  exact pay4_1 _ _ j k

/-- The up weight gradient: what call 4 leaves in the whole array. -/
theorem final4_2 (c : Dev nD) : (dat4 V c).arrAt 2 cfg4.N = fun y : S2048x5632.Idx =>
    tn 4096 (rd (n0 := 4096) (n1 := 2048) (V c main_arg0)) (rd (n0 := 4096) (n1 := 5632) (V c main_v1_1)) (y 0).val (y 1).val := by
  refine (dat4 V c).arrAt_eq_of_covers 2 _ (by decide +kernel) fun t hf y => ?_
  have ht : t.val < 11 := lt_of_lt_of_eq t.isLt N_4
  have h0 : (y 0).val < 2048 := (y 0).isLt
  have h1 : (y 1).val < 512 := (y 1).isLt
  blk_simp [index4_2]
  rw [after4_2]
  obtain ⟨j, k, rfl⟩ : ∃ (j : Fin 2048) (k : Fin 512), y = ix2 j k := ⟨y 0, y 1, eq_ix2 y⟩
  refine (out4_2_apply _ _ j k).trans ?_
  rw [tn_congr (fun k hk => block4_0 V c t hk j.isLt) (fun k_ hk => block4_1 V c t hk k.isLt)]
  rfl

end Cert.Ffn

end
-- ==== Proof.FfnRun.lean ====
module

public import proofs.«01_k».proof.Proof.Gen.Kernel2Ideal.Frame
public import proofs.«01_k».proof.Proof.FfnFinal

/-! The five calls run one after another: what each result array holds at the end, in terms of the arguments at launch. -/

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen
open Cert.Mix (rd rd_of rd_ix2)

local notation "𝕄" => MT nD τ sig Unit (Elt Ideal) ℕ (UR sig nD τ) ℕ

variable (m : (ℓ : Loc nD τ sig) → Buf (Elt Ideal) ℓ) (ρ : Dev nD → PrngReg)

-- the launch theorem's conclusion is matched with the statement below by unfolding plain definitions
set_option backward.isDefEq.respectTransparency.types false in
/-- Every execution ends with each unscoped buffer at the contents the fifth call leaves; the arguments are as launched. -/
theorem run_ends : θ_run defs (onTc (τ := τ) (main (F := Ideal))) ⟨m, fun _ => 0, ρ⟩ (fun r => ∀ c : Dev nD,
      (r.2.mem ((c.tc : Thread nD τ).loc main_v1_0) = W5 m ρ c (Proc.devRef .tc main_v1_0)
      ∧ r.2.mem ((c.tc : Thread nD τ).loc main_v1_1) = W5 m ρ c (Proc.devRef .tc main_v1_1)
      ∧ r.2.mem ((c.tc : Thread nD τ).loc main_v2) = W5 m ρ c (Proc.devRef .tc main_v2)
      ∧ r.2.mem ((c.tc : Thread nD τ).loc main_v3) = W5 m ρ c (Proc.devRef .tc main_v3)
      ∧ r.2.mem ((c.tc : Thread nD τ).loc main_v4) = W5 m ρ c (Proc.devRef .tc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨⟨h c _ (mem_uc main_v1_0 (by decide)), h c _ (mem_uc main_v1_1 (by decide)), h c _ (mem_uc main_v2 (by decide)),
        h c _ (mem_uc main_v3 (by decide)), h c _ (mem_uc main_v4 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

/-! ## The arrays between the calls -/

/-- The five arguments at launch. -/
abbrev A0 (c : Dev nD) : ℕ → ℕ → EReal := rd (n0 := 4096) (n1 := 2048) (m ((c.tc : Thread nD τ).loc main_arg0))
abbrev A1 (c : Dev nD) : ℕ → ℕ → EReal := rd (n0 := 4096) (n1 := 2048) (m ((c.tc : Thread nD τ).loc main_arg1))
abbrev A2 (c : Dev nD) : ℕ → ℕ → EReal := rd (n0 := 2048) (n1 := 5632) (m ((c.tc : Thread nD τ).loc main_arg2))
abbrev A3 (c : Dev nD) : ℕ → ℕ → EReal := rd (n0 := 2048) (n1 := 5632) (m ((c.tc : Thread nD τ).loc main_arg3))
abbrev A4 (c : Dev nD) : ℕ → ℕ → EReal := rd (n0 := 5632) (n1 := 2048) (m ((c.tc : Thread nD τ).loc main_arg4))

/-- The gate's product, the other product and the gradient of the activations. -/
def gg (c : Dev nD) : ℕ → ℕ → EReal := nn 2048 (A0 m c) (A2 m c)
def uu (c : Dev nD) : ℕ → ℕ → EReal := nn 2048 (A0 m c) (A3 m c)
def dd (c : Dev nD) : ℕ → ℕ → EReal := nt 2048 (A1 m c) (A4 m c)

/-- What the first call leaves: the derivative factor, the gate and the activations. -/
theorem V1_v0_0 (c : Dev nD) : V1 m ρ c main_v0_0 = fun y : S4096x5632.Idx => gtOf (gg m c (y 0).val (y 1).val) (uu m c (y 0).val (y 1).val) :=
  (hF0 m ρ c 4).symm.trans (final0_4 (V0 m ρ) c)
theorem V1_v0_1 (c : Dev nD) : V1 m ρ c main_v0_1 = fun y : S4096x5632.Idx => gg m c (y 0).val (y 1).val * Ideal.logistic (gg m c (y 0).val (y 1).val) :=
  (hF0 m ρ c 5).symm.trans (final0_5 (V0 m ρ) c)
theorem V1_v0_2 (c : Dev nD) : V1 m ρ c main_v0_2 = fun y : S4096x5632.Idx =>
    gg m c (y 0).val (y 1).val * Ideal.logistic (gg m c (y 0).val (y 1).val) * uu m c (y 0).val (y 1).val :=
  (hF0 m ρ c 6).symm.trans (final0_6 (V0 m ρ) c)

theorem V1_arg1 (c : Dev nD) : V1 m ρ c main_arg1 = m ((c.tc : Thread nD τ).loc main_arg1) := W1_args m ρ c main_arg1 (by decide)
theorem V1_arg4 (c : Dev nD) : V1 m ρ c main_arg4 = m ((c.tc : Thread nD τ).loc main_arg4) := W1_args m ρ c main_arg4 (by decide)
theorem V2_arg1 (c : Dev nD) : V2 m ρ c main_arg1 = m ((c.tc : Thread nD τ).loc main_arg1) := W2_args m ρ c main_arg1 (by decide)
theorem V3_arg0 (c : Dev nD) : V3 m ρ c main_arg0 = m ((c.tc : Thread nD τ).loc main_arg0) := W3_args m ρ c main_arg0 (by decide)
theorem V4_arg0 (c : Dev nD) : V4 m ρ c main_arg0 = m ((c.tc : Thread nD τ).loc main_arg0) := W4_args m ρ c main_arg0 (by decide)

/-- A matrix given by its entries, read back. -/
theorem rd_fun {n0 n1 : ℕ} (f : ℕ → ℕ → EReal) {r c : ℕ} (hr : r < n0) (hc : c < n1) :
    rd (n0 := n0) (n1 := n1) (fun y => f (y 0).val (y 1).val) r c = f r c := (rd_of _ hr hc).symm

/-- What the second call leaves: the two gradients at the products. -/
theorem V2_v1_0 (c : Dev nD) : V2 m ρ c main_v1_0 = fun y : S4096x5632.Idx =>
    dd m c (y 0).val (y 1).val * gtOf (gg m c (y 0).val (y 1).val) (uu m c (y 0).val (y 1).val) := by
  refine (hF1 m ρ c 4).symm.trans ((final1_4 (V1 m ρ) c).trans (funext fun y => ?_))
  rw [V1_arg1, V1_arg4, V1_v0_0]
  exact congrArg (_ * ·) (rd_fun (n0 := 4096) (n1 := 5632) (fun r k => gtOf (gg m c r k) (uu m c r k)) (y 0).isLt (y 1).isLt)
theorem V2_v1_1 (c : Dev nD) : V2 m ρ c main_v1_1 = fun y : S4096x5632.Idx =>
    dd m c (y 0).val (y 1).val * (gg m c (y 0).val (y 1).val * Ideal.logistic (gg m c (y 0).val (y 1).val)) := by
  refine (hF1 m ρ c 5).symm.trans ((final1_5 (V1 m ρ) c).trans (funext fun y => ?_))
  rw [V1_arg1, V1_arg4, V1_v0_1]
  exact congrArg (_ * ·) (rd_fun (n0 := 4096) (n1 := 5632) (fun r k => gg m c r k * Ideal.logistic (gg m c r k)) (y 0).isLt (y 1).isLt)

theorem V2_v0_2 (c : Dev nD) : V2 m ρ c main_v0_2 = V1 m ρ c main_v0_2 := W2_of m ρ c main_v0_2 (by decide +kernel)
theorem V3_v1_0 (c : Dev nD) : V3 m ρ c main_v1_0 = V2 m ρ c main_v1_0 := W3_of m ρ c main_v1_0 (by decide +kernel)
theorem V4_v1_0 (c : Dev nD) : V4 m ρ c main_v1_0 = V3 m ρ c main_v1_0 := W4_of m ρ c main_v1_0 (by decide +kernel)
theorem V5_v1_0 (c : Dev nD) : V5 m ρ c main_v1_0 = V4 m ρ c main_v1_0 := W5_of m ρ c main_v1_0 (by decide +kernel)
theorem V3_v1_1 (c : Dev nD) : V3 m ρ c main_v1_1 = V2 m ρ c main_v1_1 := W3_of m ρ c main_v1_1 (by decide +kernel)
theorem V4_v1_1 (c : Dev nD) : V4 m ρ c main_v1_1 = V3 m ρ c main_v1_1 := W4_of m ρ c main_v1_1 (by decide +kernel)
theorem V5_v1_1 (c : Dev nD) : V5 m ρ c main_v1_1 = V4 m ρ c main_v1_1 := W5_of m ρ c main_v1_1 (by decide +kernel)
theorem V4_v2 (c : Dev nD) : V4 m ρ c main_v2 = V3 m ρ c main_v2 := W4_of m ρ c main_v2 (by decide +kernel)
theorem V5_v2 (c : Dev nD) : V5 m ρ c main_v2 = V4 m ρ c main_v2 := W5_of m ρ c main_v2 (by decide +kernel)
theorem V5_v3 (c : Dev nD) : V5 m ρ c main_v3 = V4 m ρ c main_v3 := W5_of m ρ c main_v3 (by decide +kernel)

/-- The gradient at the gate's product, at the end of the run. -/
theorem end_v1_0 (c : Dev nD) : W5 m ρ c (Proc.devRef .tc main_v1_0) = fun y : S4096x5632.Idx =>
    dd m c (y 0).val (y 1).val * gtOf (gg m c (y 0).val (y 1).val) (uu m c (y 0).val (y 1).val) :=
  (V5_v1_0 m ρ c).trans ((V4_v1_0 m ρ c).trans ((V3_v1_0 m ρ c).trans (V2_v1_0 m ρ c)))

/-- The gradient at the other product, at the end of the run. -/
theorem end_v1_1 (c : Dev nD) : W5 m ρ c (Proc.devRef .tc main_v1_1) = fun y : S4096x5632.Idx =>
    dd m c (y 0).val (y 1).val * (gg m c (y 0).val (y 1).val * Ideal.logistic (gg m c (y 0).val (y 1).val)) :=
  (V5_v1_1 m ρ c).trans ((V4_v1_1 m ρ c).trans ((V3_v1_1 m ρ c).trans (V2_v1_1 m ρ c)))

/-- The gradient of the down weights, at the end of the run. -/
theorem end_v2 (c : Dev nD) : W5 m ρ c (Proc.devRef .tc main_v2) = fun y : S5632x2048.Idx =>
    ∑ k : Fin 4096, gg m c k (y 0).val * Ideal.logistic (gg m c k (y 0).val) * uu m c k (y 0).val * A1 m c k (y 1).val := by
  refine (V5_v2 m ρ c).trans ((V4_v2 m ρ c).trans ((hF2 m ρ c 2).symm.trans ((final2_2 (V2 m ρ) c).trans (funext fun y => ?_))))
  rw [V2_arg1, V2_v0_2, V1_v0_2]
  exact Finset.sum_congr rfl fun k _ => congrArg (· * _)
    (rd_fun (n0 := 4096) (n1 := 5632) (fun r k => gg m c r k * Ideal.logistic (gg m c r k) * uu m c r k) k.isLt (y 0).isLt)

/-- The gradient of the gate weights, at the end of the run. -/
theorem end_v3 (c : Dev nD) : W5 m ρ c (Proc.devRef .tc main_v3) = fun y : S2048x5632.Idx =>
    ∑ k : Fin 4096, A0 m c k (y 0).val * (dd m c k (y 1).val * gtOf (gg m c k (y 1).val) (uu m c k (y 1).val)) := by
  refine (V5_v3 m ρ c).trans ((hF3 m ρ c 2).symm.trans ((final3_2 (V3 m ρ) c).trans (funext fun y => ?_)))
  rw [V3_arg0, V3_v1_0, V2_v1_0]
  exact Finset.sum_congr rfl fun k _ => congrArg (_ * ·)
    (rd_fun (n0 := 4096) (n1 := 5632) (fun r k => dd m c r k * gtOf (gg m c r k) (uu m c r k)) k.isLt (y 1).isLt)

/-- The gradient of the up weights, at the end of the run. -/
theorem end_v4 (c : Dev nD) : W5 m ρ c (Proc.devRef .tc main_v4) = fun y : S2048x5632.Idx =>
    ∑ k : Fin 4096, A0 m c k (y 0).val * (dd m c k (y 1).val * (gg m c k (y 1).val * Ideal.logistic (gg m c k (y 1).val))) := by
  refine (hF4 m ρ c 2).symm.trans ((final4_2 (V4 m ρ) c).trans (funext fun y => ?_))
  rw [V4_arg0, V4_v1_1, V3_v1_1, V2_v1_1]
  exact Finset.sum_congr rfl fun k _ => congrArg (_ * ·)
    (rd_fun (n0 := 4096) (n1 := 5632) (fun r k => dd m c r k * (gg m c r k * Ideal.logistic (gg m c r k))) k.isLt (y 1).isLt)

end Cert.Ffn

end
-- ==== Proof.FfnReference.lean ====
module

public import proofs.«01_k».proof.Proof.FfnBase
public import proofs.«01_k».proof.Proof.Gen.Reference2Ideal.Read

/-! The reference's backward pass of the gated feed-forward block, entry by entry. -/

@[expose] public section
noncomputable section
open Idealize.ShloMosaic Idealize.ShloMosaic.TcCoe Idealize.SL.Sem
open Cert.Mix (rd rd_of rd_ix2)

namespace Cert.Ffn
open Cert.Reference2Ideal Cert.Reference2Ideal.Gen Cert.Reference2Ideal.Read

/-- The gradient at the gate's product, as the reference associates it. -/
def dgRef (g u d : EReal) : EReal := d * u * Ideal.logistic g + g * (d * u) * (Ideal.logistic g * (1 - Ideal.logistic g))

variable (x0 x1 : FVec Ideal S4096x2048 .bf16) (x2 x3 : FVec Ideal S2048x5632 .bf16) (x4 : FVec Ideal S5632x2048 .bf16)

/-- The reference's gate product. -/
theorem ref5 (r : Fin 4096) (c : Fin 5632) : val_main_v5 (F := Ideal) x0 x2 (ix2 r c) = nn 2048 (rd x0) (rd x2) r c := by
  unfold nn
  pointwise [val_main_v5, val_main_v0, val_main_v2]
  simp only [rd_ix2]

/-- The reference's other product. -/
theorem ref6 (r : Fin 4096) (c : Fin 5632) : val_main_v6 (F := Ideal) x0 x3 (ix2 r c) = nn 2048 (rd x0) (rd x3) r c := by
  unfold nn
  pointwise [val_main_v6, val_main_v0, val_main_v3]
  simp only [rd_ix2]

/-- The reference's gradient of the activations. -/
theorem ref12 (r : Fin 4096) (c : Fin 5632) : val_main_v12 (F := Ideal) x1 x4 (ix2 r c) = nt 2048 (rd x1) (rd x4) r c := by
  unfold nt
  pointwise [val_main_v12, val_main_v1, val_main_v4]
  simp only [rd_ix2]

/-- The reference's logistic of the gate. -/
theorem ref7 (r : Fin 4096) (c : Fin 5632) : val_main_v7_2 (F := Ideal) x0 x2 (ix2 r c) = Ideal.logistic (nn 2048 (rd x0) (rd x2) r c) := by
  pointwise [val_main_v7_2, val_main_call0_v4, val_main_call0_cst_0, val_main_call0_v3, val_main_call0_v2, val_main_call0_cst, val_main_call0_v1, val_main_call0_v0, ref5]
  rfl

/-- The first result of the reference, entry by entry. -/
theorem ref20 (r : Fin 4096) (c : Fin 5632) : val_main_v20 (F := Ideal) x0 x1 x2 x3 x4 (ix2 r c)
    = dgRef (nn 2048 (rd x0) (rd x2) r c) (nn 2048 (rd x0) (rd x3) r c) (nt 2048 (rd x1) (rd x4) r c) := by
  unfold dgRef
  pointwise [val_main_v20, val_main_v15, val_main_call1_v2, val_main_call1_v1, val_main_call1_v0, val_main_v14, val_main_v7_1, val_main_call0_v7, val_main_call0_v6, val_main_call0_cst_1, ref5, ref6, ref7, ref12]

/-- The second result: the gradient at the other product. -/
theorem ref21 (r : Fin 4096) (c : Fin 5632) : val_main_v21 (F := Ideal) x0 x1 x2 x4 (ix2 r c)
    = nn 2048 (rd x0) (rd x2) r c * Ideal.logistic (nn 2048 (rd x0) (rd x2) r c) * (nt 2048 (rd x1) (rd x4) r c) := by
  pointwise [val_main_v21, val_main_v13, val_main_v7_0, ref5, ref7, ref12]

/-- The third result: the gradient of the down weights. -/
theorem ref22 (r : Fin 5632) (c : Fin 2048) : val_main_v22 (F := Ideal) x0 x1 x2 x3 (ix2 r c)
    = ∑ k : Fin 4096, rd x1 k c * (nn 2048 (rd x0) (rd x2) k r * Ideal.logistic (nn 2048 (rd x0) (rd x2) k r) * nn 2048 (rd x0) (rd x3) k r) := by
  pointwise [val_main_v22, val_main_v11, val_main_v10, val_main_v1, val_main_v8, val_main_v7_0, ref5, ref6, ref7]
  simp only [rd_ix2]

/-- The fourth result: the gradient of the gate weights. -/
theorem ref23 (r : Fin 2048) (c : Fin 5632) : val_main_v23 (F := Ideal) x0 x1 x2 x3 x4 (ix2 r c)
    = ∑ k : Fin 4096, dgRef (nn 2048 (rd x0) (rd x2) k c) (nn 2048 (rd x0) (rd x3) k c) (nt 2048 (rd x1) (rd x4) k c) * rd x0 k r := by
  have h : ∀ (k : Fin 4096), val_main_v15 (F := Ideal) x0 x1 x2 x3 x4 (ix2 k c)
    = dgRef (nn 2048 (rd x0) (rd x2) k c) (nn 2048 (rd x0) (rd x3) k c) (nt 2048 (rd x1) (rd x4) k c) := fun k => ref20 x0 x1 x2 x3 x4 k c
  pointwise [val_main_v23, val_main_v17, val_main_v16, val_main_v0, h]
  simp only [rd_ix2]

/-- The fifth result: the gradient of the up weights. -/
theorem ref24 (r : Fin 2048) (c : Fin 5632) : val_main_v24 (F := Ideal) x0 x1 x2 x4 (ix2 r c)
    = ∑ k : Fin 4096, nn 2048 (rd x0) (rd x2) k c * Ideal.logistic (nn 2048 (rd x0) (rd x2) k c) * (nt 2048 (rd x1) (rd x4) k c) * rd x0 k r := by
  have h : ∀ (k : Fin 4096), val_main_v13 (F := Ideal) x0 x1 x2 x4 (ix2 k c)
    = nn 2048 (rd x0) (rd x2) k c * Ideal.logistic (nn 2048 (rd x0) (rd x2) k c) * (nt 2048 (rd x1) (rd x4) k c) := fun k => ref21 x0 x1 x2 x4 k c
  pointwise [val_main_v24, val_main_v19, val_main_v18, val_main_v0, h]
  simp only [rd_ix2]

end Cert.Ffn

end
-- ==== Proof.FfnFinite.lean ====
module

public import proofs.«01_k».proof.Proof.FfnBase
public import proofs.«01_k».proof.Proof.FfnPay
public import proofs.«01_k».proof.Proof.FfnReference
public import proofs.«01_k».proof.Pre_finite2
public import Idealize.ShloMosaic.Lib.ReduceAll
public import Idealize.ShloMosaic.Lib.StableHlo.Predicate

/-! What the precondition says, and the one identity that needs it: the gradient at the gate's product. -/

@[expose] public section
noncomputable section
open Idealize.ShloMosaic Idealize.ShloMosaic.TcCoe Idealize.SL.Sem
open Cert.Mix (rd rd_of rd_ix2)

namespace Cert.Ffn

/-- An extended real that is a real number. -/
def IsReal (a : EReal) : Prop := ∃ x : ℝ, a = (x : EReal)

theorem fin_mul {a b : EReal} : IsReal a → IsReal b → IsReal (a * b)
  | ⟨x, hx⟩, ⟨y, hy⟩ => ⟨x * y, by rw [hx, hy, EReal.coe_mul]⟩

theorem fin_add {a b : EReal} : IsReal a → IsReal b → IsReal (a + b)
  | ⟨x, hx⟩, ⟨y, hy⟩ => ⟨x + y, by rw [hx, hy, EReal.coe_add]⟩

theorem fin_zero : IsReal 0 := ⟨0, EReal.coe_zero.symm⟩

theorem fin_sum {ι : Type} (s : Finset ι) (f : ι → EReal) (h : ∀ i ∈ s, IsReal (f i)) : IsReal (∑ i ∈ s, f i) := by
  classical
  induction s using Finset.induction_on with
  | empty => exact fin_zero
  | insert a s ha ih =>
    rw [Finset.sum_insert ha]
    exact fin_add (h a (Finset.mem_insert_self a s)) (ih fun i hi => h i (Finset.mem_insert_of_mem hi))

/-- Products of finite matrices are finite. -/
theorem fin_nn {K : ℕ} {x w : ℕ → ℕ → EReal} (hx : ∀ r c, IsReal (x r c)) (hw : ∀ r c, IsReal (w r c)) (r c : ℕ) : IsReal (nn K x w r c) :=
  fin_sum _ _ fun k _ => fin_mul (hx _ _) (hw _ _)

theorem fin_nt {K : ℕ} {x w : ℕ → ℕ → EReal} (hx : ∀ r c, IsReal (x r c)) (hw : ∀ r c, IsReal (w r c)) (r c : ℕ) : IsReal (nt K x w r c) :=
  fin_sum _ _ fun k _ => fin_mul (hx _ _) (hw _ _)

/-- An extended real whose absolute value is below infinity is a real number. -/
theorem fin_of_abs {a : EReal} (h : max a (-a) < ⊤) : IsReal a := by
  induction a with
  | bot => exact absurd h (by simp)
  | top => exact absurd h (by simp)
  | coe x => exact ⟨x, rfl⟩

/-- Over real numbers the kernel's derivative factor times the incoming gradient is the reference's sum. -/
theorem gate_eq {g u d : EReal} (hg : IsReal g) (hu : IsReal u) (hd : IsReal d) : d * gtOf g u = dgRef g u d := by
  obtain ⟨x, rfl⟩ := hg
  obtain ⟨y, rfl⟩ := hu
  obtain ⟨z, rfl⟩ := hd
  unfold gtOf dgRef
  rw [Ideal.logistic_coe, ← EReal.coe_one, ← EReal.coe_sub, ← EReal.coe_mul, ← EReal.coe_add, ← EReal.coe_mul, ← EReal.coe_mul, ← EReal.coe_mul,
    ← EReal.coe_mul, ← EReal.coe_mul, ← EReal.coe_mul, ← EReal.coe_mul, ← EReal.coe_mul, ← EReal.coe_add]
  congr 1
  ring

/-- The word of infinity, read over the extended reals. -/
theorem ofBits_inf : Ideal.ofBits .f32 0x7F800000#32 = ⊤ := by
  simp [Ideal.ofBits, Ideal.ieee]

/-- One comparison of the precondition, read back. -/
theorem fin_of_cmp {s t u : Shape} [Subsingleton t.Idx] (x : FVec Ideal s .bf16) (hb : FTy.bits .bf16 < FTy.bits .f32) (bc : Shape.BroadcastsInDim ⟨0, ![]⟩ s ![])
    {axes : List (Fin s.rank)} (init : u.Idx → BitVec 1) (h : s.ReducesTo axes t) (hu : 0 < u.numel) (j : t.Idx)
    (e : Host.reduce IntOp.andi (cmpf .olt (Host.absf ((extf .f32 · hb) x)) (broadcastInDim s ![] bc (constant (F := Ideal) ⟨0, ![]⟩ .f32 0x7F800000#32))) init h hu j = 1#1)
    (i : s.Idx) : IsReal (x i) := by
  have e' := Host.reduce_andi_all _ init h hu j e i
  have e2 : BitVec.ofBool (decide (max (x i : EReal) (-(x i : EReal)) < Ideal.ofBits .f32 0x7F800000#32)) = 1#1 := e'
  rw [StableHlo.Predicate.ofBool_eq_one_iff, decide_eq_true_eq, ofBits_inf] at e2
  exact fin_of_abs e2

/-- A finite array read at any pair of numbers is finite. -/
theorem fin_rd {n0 n1 : ℕ} (x : FVec Ideal ⟨2, ![n0, n1]⟩ .bf16) (h : ∀ i, IsReal (x i)) (r c : ℕ) : IsReal (rd x r c) := by
  unfold Cert.Mix.rd
  split
  · exact h _
  · exact fin_zero

open Cert.Pre_finite2 in
/-- The precondition: every entry of the five arrays is a real number. -/
theorem fin_args [hP : Cert.Pre_finite2.Facts] (x0 x1 : FVec Ideal S4096x2048 .bf16) (x2 x3 : FVec Ideal S2048x5632 .bf16) (x4 : FVec Ideal S5632x2048 .bf16)
    (h : fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have hj := congrFun h (fun a => a.elim0)
  unfold fn fn_part1 at hj
  dsimp only at hj
  obtain ⟨hj, h4⟩ := IntOp.andi_eq_one.1 hj
  obtain ⟨hj, h3⟩ := IntOp.andi_eq_one.1 hj
  obtain ⟨hj, h2⟩ := IntOp.andi_eq_one.1 hj
  obtain ⟨hj, h1⟩ := IntOp.andi_eq_one.1 hj
  obtain ⟨_, h0⟩ := IntOp.andi_eq_one.1 hj
  haveI : Subsingleton S_.Idx := ⟨fun a b => funext fun k => k.elim0⟩
  exact ⟨fin_of_cmp x0 _ _ _ _ _ _ h0, fin_of_cmp x1 _ _ _ _ _ _ h1, fin_of_cmp x2 _ _ _ _ _ _ h2, fin_of_cmp x3 _ _ _ _ _ _ h3, fin_of_cmp x4 _ _ _ _ _ _ h4⟩

end Cert.Ffn

end
-- ==== Proof.FfnClaim.lean ====
module

public import proofs.«01_k».proof.Defs
public import proofs.«01_k».proof.Proof.Gen.Kernel2.Frame
public import proofs.«01_k».proof.Proof.Gen.Pre_finite2
public import proofs.«01_k».proof.Proof.Gen.Reference2Ideal.Run
public import proofs.«01_k».proof.Proof.Gen.Kernel3.Frame
public import proofs.«01_k».proof.Proof.FfnDn
public import proofs.«01_k».proof.Proof.FfnRun
public import proofs.«01_k».proof.Proof.FfnFinite

/-! The backward pass of the gated feed-forward block: what the five calls leave is what the reference's backward pass computes. -/

@[expose] public section

noncomputable section

namespace Cert.Ffn

open Idealize.ShloMosaic Idealize.SL.Sem
open Cert.Mix (rd rd_of rd_ix2)

/-- The reference runs, keeps its arguments and leaves no semaphore counted. -/
theorem quiescent_reference2 : quiescent_Reference2Ideal (hReference2Ideal := Cert.Reference2Ideal.Gen.facts) :=
  fun m ρ _ => (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m ρ)

/-- Over finite arguments the five calls and the reference's backward pass give the same five gradients. -/
theorem algebraic2 : algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hargs
  refine ⟨fun c => Cert.Kernel2Ideal.Gen.W5 m g c (Proc.devRef .tc Cert.Kernel2Ideal.main_v1_0),
    fun c => Cert.Kernel2Ideal.Gen.W5 m g c (Proc.devRef .tc Cert.Kernel2Ideal.main_v1_1),
    fun c => Cert.Kernel2Ideal.Gen.W5 m g c (Proc.devRef .tc Cert.Kernel2Ideal.main_v2),
    fun c => Cert.Kernel2Ideal.Gen.W5 m g c (Proc.devRef .tc Cert.Kernel2Ideal.main_v3),
    fun c => Cert.Kernel2Ideal.Gen.W5 m g c (Proc.devRef .tc Cert.Kernel2Ideal.main_v4),
    (θ_run Cert.Kernel2Ideal.defs _ _).mono (fun r h c => ⟨(h c).1.1, (h c).1.2.1, (h c).1.2.2.1, (h c).1.2.2.2.1, (h c).1.2.2.2.2, (h c).2⟩) (run_ends m g), ?_⟩
  refine (θ_run Cert.Reference2Ideal.defs _ _).mono (fun r h c => ?_) (Cert.Reference2Ideal.Value.run (F := Ideal) m' g')
  obtain ⟨a0, a1, a2, a3, a4⟩ := hargs c
  obtain ⟨f0, f1, f2, f3, f4⟩ := fin_args _ _ _ _ _ (hpre c)
  have hg : ∀ r k, IsReal (gg m c r k) := fin_nn (fin_rd _ f0) (fin_rd _ f2)
  have hu : ∀ r k, IsReal (uu m c r k) := fin_nn (fin_rd _ f0) (fin_rd _ f3)
  have hd : ∀ r k, IsReal (dd m c r k) := fin_nt (fin_rd _ f1) (fin_rd _ f4)
  refine ⟨(h c).1.trans ?_, (h c).2.1.trans ?_, (h c).2.2.1.trans ?_, (h c).2.2.2.1.trans ?_, (h c).2.2.2.2.1.trans ?_, (h c).2.2.2.2.2⟩
  · rw [Cert.Reference2Ideal.Read.val_main_v20_eq, a0, a1, a2, a3, a4]
    refine Eq.trans (funext fun y => ?_) (end_v1_0 m g c).symm
    refine (congrArg _ (eq_ix2 y)).trans ((ref20 _ _ _ _ _ (y 0) (y 1)).trans ?_)
    exact (gate_eq (hg _ _) (hu _ _) (hd _ _)).symm
  · rw [Cert.Reference2Ideal.Read.val_main_v21_eq, a0, a1, a2, a4]
    refine Eq.trans (funext fun y => ?_) (end_v1_1 m g c).symm
    refine (congrArg _ (eq_ix2 y)).trans ((ref21 _ _ _ _ (y 0) (y 1)).trans ?_)
    exact mul_comm _ _
  · rw [Cert.Reference2Ideal.Read.val_main_v22_eq, a0, a1, a2, a3]
    refine Eq.trans (funext fun y => ?_) (end_v2 m g c).symm
    refine (congrArg _ (eq_ix2 y)).trans ((ref22 _ _ _ _ (y 0) (y 1)).trans ?_)
    exact Finset.sum_congr rfl fun k _ => mul_comm _ _
  · rw [Cert.Reference2Ideal.Read.val_main_v23_eq, a0, a1, a2, a3, a4]
    refine Eq.trans (funext fun y => ?_) (end_v3 m g c).symm
    refine (congrArg _ (eq_ix2 y)).trans ((ref23 _ _ _ _ _ (y 0) (y 1)).trans ?_)
    exact Finset.sum_congr rfl fun k _ => (mul_comm _ _).trans (congrArg (_ * ·) (gate_eq (hg _ _) (hu _ _) (hd _ _)).symm)
  · rw [Cert.Reference2Ideal.Read.val_main_v24_eq, a0, a1, a2, a4]
    refine Eq.trans (funext fun y => ?_) (end_v4 m g c).symm
    refine (congrArg _ (eq_ix2 y)).trans ((ref24 _ _ _ _ (y 0) (y 1)).trans ?_)
    exact Finset.sum_congr rfl fun k _ => (mul_comm _ _).trans (congrArg (_ * ·) (mul_comm _ _))

/-- The third reference runs, keeps its arguments and leaves no semaphore counted. -/
theorem quiescent_reference3 : quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Over the reals the launch and the reference give the same gradient at the block's input. -/
theorem algebraic3 : algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 4 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨a0, a1, a2, a3⟩ := hargs c
  refine ⟨(h c).1.trans ?_, (h c).2⟩
  rw [Cert.Reference3Ideal.Read.val_main_v10_eq, a0, a1, a2, a3]
  refine Eq.trans (funext fun y => ?_) (Cert.Dn.final4 m c).symm
  exact (congrArg _ (eq_ix2 y)).trans (Cert.Dn.ref10 _ _ _ _ (y 0) (y 1))

end Cert.Ffn

end
-- ==== Proof.ScMm.lean ====
module

public import proofs.«01_k».proof.Proof.FfnBase
public import proofs.«01_k».proof.Proof.MixBlock
public import Idealize.ShloMosaic.Lib.Pipeline.ValueKit
public import proofs.«01_k».proof.Proof.Gen.Kernel4Ideal.Frame

/-! What each of the four matrix products of the second layer's mixer leaves in its result array. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)

namespace Cert.Sc
open Cert.Kernel4Ideal Cert.Kernel4Ideal.Gen

variable (V : (c : Dev nD) → (b : Ref sig .tc) → Buf (Elt Ideal) ((c : Thread nD τ).loc b))

/-- The projected input: a block's store, entry by entry. -/
theorem pay0 (x0 : FVec Ideal S1024x2048 .bf16) (x1 : FVec Ideal S2048x1024 .bf16) (r : Fin 1024) (c : Fin 1024) :
    k0_pay1 (F := Ideal) x0 x1 (ix2 r c) = nn 2048 (rd x0) (rd x1) r c := by
  unfold nn
  pointwise [k0_pay1]
  simp only [rd_ix2]

theorem index0_0 : ∀ t : Fin cfg0.N, win0_0.index t = ![t.val / 6, 0] :=
  (by decide +kernel : ∀ t : Fin grid0.N, win0_0.index t = ![t.val / 6, 0])

/-- Window 0's block of call 0 at a point, read in its array. -/
theorem block0_0 (c : Dev nD) (t : Fin cfg0.N) {j k : ℕ} (hj : j < 1024) (hk : k < 2048) :
    rd (n0 := 1024) (n1 := 2048) (iblk0 V c 0 t) j k = rd (n0 := 4096) (n1 := 2048) (V c main_arg0) (t.val / 6 * 1024 + j) (k) := by
  have ht : t.val < 24 := lt_of_lt_of_eq t.isLt N_0
  rw [← rd_of _ hj hk, ← rd_of _ (by omega) (by omega)]
  blk_simp [iblk0]
  refine congrArg (V c main_arg0) (funext (Fin.forall_fin_two.mpr ⟨Fin.ext ?_, Fin.ext ?_⟩))
  · blk_simp [index0_0] <;> (show _ = t.val / 6 * 1024 + j) <;> (try dsimp only) <;> omega
  · blk_simp [index0_0] <;> (show _ = k) <;> (try dsimp only) <;> omega

theorem index0_1 : ∀ t : Fin cfg0.N, win0_1.index t = ![0, t.val % 6] :=
  (by decide +kernel : ∀ t : Fin grid0.N, win0_1.index t = ![0, t.val % 6])

/-- Window 1's block of call 0 at a point, read in its array. -/
theorem block0_1 (c : Dev nD) (t : Fin cfg0.N) {j k : ℕ} (hj : j < 2048) (hk : k < 1024) :
    rd (n0 := 2048) (n1 := 1024) (iblk0 V c 1 t) j k = rd (n0 := 2048) (n1 := 6144) (V c main_arg2) (j) (t.val % 6 * 1024 + k) := by
  have ht : t.val < 24 := lt_of_lt_of_eq t.isLt N_0
  rw [← rd_of _ hj hk, ← rd_of _ (by omega) (by omega)]
  blk_simp [iblk0]
  refine congrArg (V c main_arg2) (funext (Fin.forall_fin_two.mpr ⟨Fin.ext ?_, Fin.ext ?_⟩))
  · blk_simp [index0_1] <;> (show _ = j) <;> (try dsimp only) <;> omega
  · blk_simp [index0_1] <;> (show _ = t.val % 6 * 1024 + k) <;> (try dsimp only) <;> omega

theorem index0_2 : ∀ t : Fin cfg0.N, win0_2.index t = ![t.val / 6, t.val % 6] :=
  (by decide +kernel : ∀ t : Fin grid0.N, win0_2.index t = ![t.val / 6, t.val % 6])

/-- The projected input, as call 0 stores a block of it. -/
theorem out0_2_apply (x0 : FVec Ideal S1024x2048 .bf16) (x1 : FVec Ideal S2048x1024 .bf16) (j : Fin 1024) (k : Fin 1024) :
    out0_2 (F := Ideal) x0 x1 (ix2 j k) = nn 2048 (rd x0) (rd x1) j k := by
  unfold out0_2
  rw [View.canon_unit_zero hz]
  simp only [View.ld_unit_zero (S := S1024x2048) hz, View.ld_unit_zero (S := S2048x1024) hz]
  exact pay0 _ _ j k

/-- The projected input: what call 0 leaves in the whole array. -/
theorem final0 (c : Dev nD) : (dat0 V c).arrAt 2 cfg0.N = fun y : S4096x6144.Idx =>
    nn 2048 (rd (n0 := 4096) (n1 := 2048) (V c main_arg0)) (rd (n0 := 2048) (n1 := 6144) (V c main_arg2)) (y 0).val (y 1).val := by
  refine (dat0 V c).arrAt_eq_of_covers 2 _ (by decide +kernel) fun t hf y => ?_
  have ht : t.val < 24 := lt_of_lt_of_eq t.isLt N_0
  have h0 : (y 0).val < 1024 := (y 0).isLt
  have h1 : (y 1).val < 1024 := (y 1).isLt
  blk_simp [index0_2]
  rw [after0_2]
  obtain ⟨j, k, rfl⟩ : ∃ (j : Fin 1024) (k : Fin 1024), y = ix2 j k := ⟨y 0, y 1, eq_ix2 y⟩
  refine (out0_2_apply _ _ j k).trans ?_
  rw [nn_congr (fun k_ hk => block0_0 V c t j.isLt hk) (fun k_ hk => block0_1 V c t hk k.isLt)]
  rfl

/-- The gradient at the mixer's output: a block's store, entry by entry. -/
theorem pay2 (x0 : FVec Ideal S1024x2048 .bf16) (x1 : FVec Ideal S1024x2048 .bf16) (r : Fin 1024) (c : Fin 1024) :
    k2_pay1 (F := Ideal) x0 x1 (ix2 r c) = nt 2048 (rd x0) (rd x1) r c := by
  unfold nt
  pointwise [k2_pay1]
  simp only [rd_ix2]

theorem index2_0 : ∀ t : Fin cfg2.N, win2_0.index t = ![t.val / 2, 0] :=
  (by decide +kernel : ∀ t : Fin grid2.N, win2_0.index t = ![t.val / 2, 0])

/-- Window 0's block of call 2 at a point, read in its array. -/
theorem block2_0 (c : Dev nD) (t : Fin cfg2.N) {j k : ℕ} (hj : j < 1024) (hk : k < 2048) :
    rd (n0 := 1024) (n1 := 2048) (iblk2 V c 0 t) j k = rd (n0 := 4096) (n1 := 2048) (V c main_arg1) (t.val / 2 * 1024 + j) (k) := by
  have ht : t.val < 8 := lt_of_lt_of_eq t.isLt N_2
  rw [← rd_of _ hj hk, ← rd_of _ (by omega) (by omega)]
  blk_simp [iblk2]
  refine congrArg (V c main_arg1) (funext (Fin.forall_fin_two.mpr ⟨Fin.ext ?_, Fin.ext ?_⟩))
  · blk_simp [index2_0] <;> (show _ = t.val / 2 * 1024 + j) <;> (try dsimp only) <;> omega
  · blk_simp [index2_0] <;> (show _ = k) <;> (try dsimp only) <;> omega

theorem index2_1 : ∀ t : Fin cfg2.N, win2_1.index t = ![t.val % 2, 0] :=
  (by decide +kernel : ∀ t : Fin grid2.N, win2_1.index t = ![t.val % 2, 0])

/-- Window 1's block of call 2 at a point, read in its array. -/
theorem block2_1 (c : Dev nD) (t : Fin cfg2.N) {j k : ℕ} (hj : j < 1024) (hk : k < 2048) :
    rd (n0 := 1024) (n1 := 2048) (iblk2 V c 1 t) j k = rd (n0 := 2048) (n1 := 2048) (V c main_arg4) (t.val % 2 * 1024 + j) (k) := by
  have ht : t.val < 8 := lt_of_lt_of_eq t.isLt N_2
  rw [← rd_of _ hj hk, ← rd_of _ (by omega) (by omega)]
  blk_simp [iblk2]
  refine congrArg (V c main_arg4) (funext (Fin.forall_fin_two.mpr ⟨Fin.ext ?_, Fin.ext ?_⟩))
  · blk_simp [index2_1] <;> (show _ = t.val % 2 * 1024 + j) <;> (try dsimp only) <;> omega
  · blk_simp [index2_1] <;> (show _ = k) <;> (try dsimp only) <;> omega

theorem index2_2 : ∀ t : Fin cfg2.N, win2_2.index t = ![t.val / 2, t.val % 2] :=
  (by decide +kernel : ∀ t : Fin grid2.N, win2_2.index t = ![t.val / 2, t.val % 2])

/-- The gradient at the mixer's output, as call 2 stores a block of it. -/
theorem out2_2_apply (x0 : FVec Ideal S1024x2048 .bf16) (x1 : FVec Ideal S1024x2048 .bf16) (j : Fin 1024) (k : Fin 1024) :
    out2_2 (F := Ideal) x0 x1 (ix2 j k) = nt 2048 (rd x0) (rd x1) j k := by
  unfold out2_2
  rw [View.canon_unit_zero hz]
  simp only [View.ld_unit_zero (S := S1024x2048) hz]
  exact pay2 _ _ j k

/-- The gradient at the mixer's output: what call 2 leaves in the whole array. -/
theorem final2 (c : Dev nD) : (dat2 V c).arrAt 2 cfg2.N = fun y : S4096x2048.Idx =>
    nt 2048 (rd (n0 := 4096) (n1 := 2048) (V c main_arg1)) (rd (n0 := 2048) (n1 := 2048) (V c main_arg4)) (y 0).val (y 1).val := by
  refine (dat2 V c).arrAt_eq_of_covers 2 _ (by decide +kernel) fun t hf y => ?_
  have ht : t.val < 8 := lt_of_lt_of_eq t.isLt N_2
  have h0 : (y 0).val < 1024 := (y 0).isLt
  have h1 : (y 1).val < 1024 := (y 1).isLt
  blk_simp [index2_2]
  rw [after2_2]
  obtain ⟨j, k, rfl⟩ : ∃ (j : Fin 1024) (k : Fin 1024), y = ix2 j k := ⟨y 0, y 1, eq_ix2 y⟩
  refine (out2_2_apply _ _ j k).trans ?_
  rw [nt_congr (fun k_ hk => block2_0 V c t j.isLt hk) (fun k_ hk => block2_1 V c t k.isLt hk)]
  rfl

/-- The gradient of the output weights: a block's store, entry by entry. -/
theorem pay3 (x0 : FVec Ideal S4096x1024 .bf16) (x1 : FVec Ideal S4096x1024 .bf16) (r : Fin 1024) (c : Fin 1024) :
    k3_pay1 (F := Ideal) x0 x1 (ix2 r c) = tn 4096 (rd x0) (rd x1) r c := by
  unfold tn
  pointwise [k3_pay1]
  simp only [rd_ix2]

theorem index3_0 : ∀ t : Fin cfg3.N, win3_0.index t = ![0, t.val / 2] :=
  (by decide +kernel : ∀ t : Fin grid3.N, win3_0.index t = ![0, t.val / 2])

/-- Window 0's block of call 3 at a point, read in its array. -/
theorem block3_0 (c : Dev nD) (t : Fin cfg3.N) {j k : ℕ} (hj : j < 4096) (hk : k < 1024) :
    rd (n0 := 4096) (n1 := 1024) (iblk3 V c 0 t) j k = rd (n0 := 4096) (n1 := 2048) (V c main_v1) (j) (t.val / 2 * 1024 + k) := by
  have ht : t.val < 4 := lt_of_lt_of_eq t.isLt N_3
  rw [← rd_of _ hj hk, ← rd_of _ (by omega) (by omega)]
  blk_simp [iblk3]
  refine congrArg (V c main_v1) (funext (Fin.forall_fin_two.mpr ⟨Fin.ext ?_, Fin.ext ?_⟩))
  · blk_simp [index3_0] <;> (show _ = j) <;> (try dsimp only) <;> omega
  · blk_simp [index3_0] <;> (show _ = t.val / 2 * 1024 + k) <;> (try dsimp only) <;> omega

theorem index3_1 : ∀ t : Fin cfg3.N, win3_1.index t = ![0, t.val % 2] :=
  (by decide +kernel : ∀ t : Fin grid3.N, win3_1.index t = ![0, t.val % 2])

/-- Window 1's block of call 3 at a point, read in its array. -/
theorem block3_1 (c : Dev nD) (t : Fin cfg3.N) {j k : ℕ} (hj : j < 4096) (hk : k < 1024) :
    rd (n0 := 4096) (n1 := 1024) (iblk3 V c 1 t) j k = rd (n0 := 4096) (n1 := 2048) (V c main_arg1) (j) (t.val % 2 * 1024 + k) := by
  have ht : t.val < 4 := lt_of_lt_of_eq t.isLt N_3
  rw [← rd_of _ hj hk, ← rd_of _ (by omega) (by omega)]
  blk_simp [iblk3]
  refine congrArg (V c main_arg1) (funext (Fin.forall_fin_two.mpr ⟨Fin.ext ?_, Fin.ext ?_⟩))
  · blk_simp [index3_1] <;> (show _ = j) <;> (try dsimp only) <;> omega
  · blk_simp [index3_1] <;> (show _ = t.val % 2 * 1024 + k) <;> (try dsimp only) <;> omega

theorem index3_2 : ∀ t : Fin cfg3.N, win3_2.index t = ![t.val / 2, t.val % 2] :=
  (by decide +kernel : ∀ t : Fin grid3.N, win3_2.index t = ![t.val / 2, t.val % 2])

/-- The gradient of the output weights, as call 3 stores a block of it. -/
theorem out3_2_apply (x0 : FVec Ideal S4096x1024 .bf16) (x1 : FVec Ideal S4096x1024 .bf16) (j : Fin 1024) (k : Fin 1024) :
    out3_2 (F := Ideal) x0 x1 (ix2 j k) = tn 4096 (rd x0) (rd x1) j k := by
  unfold out3_2
  rw [View.canon_unit_zero hz]
  simp only [View.ld_unit_zero (S := S4096x1024) hz]
  exact pay3 _ _ j k

/-- The gradient of the output weights: what call 3 leaves in the whole array. -/
theorem final3 (c : Dev nD) : (dat3 V c).arrAt 2 cfg3.N = fun y : S2048x2048.Idx =>
    tn 4096 (rd (n0 := 4096) (n1 := 2048) (V c main_v1)) (rd (n0 := 4096) (n1 := 2048) (V c main_arg1)) (y 0).val (y 1).val := by
  refine (dat3 V c).arrAt_eq_of_covers 2 _ (by decide +kernel) fun t hf y => ?_
  have ht : t.val < 4 := lt_of_lt_of_eq t.isLt N_3
  have h0 : (y 0).val < 1024 := (y 0).isLt
  have h1 : (y 1).val < 1024 := (y 1).isLt
  blk_simp [index3_2]
  rw [after3_2]
  obtain ⟨j, k, rfl⟩ : ∃ (j : Fin 1024) (k : Fin 1024), y = ix2 j k := ⟨y 0, y 1, eq_ix2 y⟩
  refine (out3_2_apply _ _ j k).trans ?_
  rw [tn_congr (fun k_ hk => block3_0 V c t hk j.isLt) (fun k_ hk => block3_1 V c t hk k.isLt)]
  rfl

/-- The gradient of the input weights: a block's store, entry by entry. -/
theorem pay5 (x0 : FVec Ideal S4096x1024 .bf16) (x1 : FVec Ideal S4096x1024 .bf16) (r : Fin 1024) (c : Fin 1024) :
    k5_pay1 (F := Ideal) x0 x1 (ix2 r c) = tn 4096 (rd x0) (rd x1) r c := by
  unfold tn
  pointwise [k5_pay1]
  simp only [rd_ix2]

theorem index5_0 : ∀ t : Fin cfg5.N, win5_0.index t = ![0, t.val / 6] :=
  (by decide +kernel : ∀ t : Fin grid5.N, win5_0.index t = ![0, t.val / 6])

/-- Window 0's block of call 5 at a point, read in its array. -/
theorem block5_0 (c : Dev nD) (t : Fin cfg5.N) {j k : ℕ} (hj : j < 4096) (hk : k < 1024) :
    rd (n0 := 4096) (n1 := 1024) (iblk5 V c 0 t) j k = rd (n0 := 4096) (n1 := 2048) (V c main_arg0) (j) (t.val / 6 * 1024 + k) := by
  have ht : t.val < 12 := lt_of_lt_of_eq t.isLt N_5
  rw [← rd_of _ hj hk, ← rd_of _ (by omega) (by omega)]
  blk_simp [iblk5]
  refine congrArg (V c main_arg0) (funext (Fin.forall_fin_two.mpr ⟨Fin.ext ?_, Fin.ext ?_⟩))
  · blk_simp [index5_0] <;> (show _ = j) <;> (try dsimp only) <;> omega
  · blk_simp [index5_0] <;> (show _ = t.val / 6 * 1024 + k) <;> (try dsimp only) <;> omega

theorem index5_1 : ∀ t : Fin cfg5.N, win5_1.index t = ![0, t.val % 6] :=
  (by decide +kernel : ∀ t : Fin grid5.N, win5_1.index t = ![0, t.val % 6])

/-- Window 1's block of call 5 at a point, read in its array. -/
theorem block5_1 (c : Dev nD) (t : Fin cfg5.N) {j k : ℕ} (hj : j < 4096) (hk : k < 1024) :
    rd (n0 := 4096) (n1 := 1024) (iblk5 V c 1 t) j k = rd (n0 := 4096) (n1 := 6144) (V c main_v4_0) (j) (t.val % 6 * 1024 + k) := by
  have ht : t.val < 12 := lt_of_lt_of_eq t.isLt N_5
  rw [← rd_of _ hj hk, ← rd_of _ (by omega) (by omega)]
  blk_simp [iblk5]
  refine congrArg (V c main_v4_0) (funext (Fin.forall_fin_two.mpr ⟨Fin.ext ?_, Fin.ext ?_⟩))
  · blk_simp [index5_1] <;> (show _ = j) <;> (try dsimp only) <;> omega
  · blk_simp [index5_1] <;> (show _ = t.val % 6 * 1024 + k) <;> (try dsimp only) <;> omega

theorem index5_2 : ∀ t : Fin cfg5.N, win5_2.index t = ![t.val / 6, t.val % 6] :=
  (by decide +kernel : ∀ t : Fin grid5.N, win5_2.index t = ![t.val / 6, t.val % 6])

/-- The gradient of the input weights, as call 5 stores a block of it. -/
theorem out5_2_apply (x0 : FVec Ideal S4096x1024 .bf16) (x1 : FVec Ideal S4096x1024 .bf16) (j : Fin 1024) (k : Fin 1024) :
    out5_2 (F := Ideal) x0 x1 (ix2 j k) = tn 4096 (rd x0) (rd x1) j k := by
  unfold out5_2
  rw [View.canon_unit_zero hz]
  simp only [View.ld_unit_zero (S := S4096x1024) hz]
  exact pay5 _ _ j k

/-- The gradient of the input weights: what call 5 leaves in the whole array. -/
theorem final5 (c : Dev nD) : (dat5 V c).arrAt 2 cfg5.N = fun y : S2048x6144.Idx =>
    tn 4096 (rd (n0 := 4096) (n1 := 2048) (V c main_arg0)) (rd (n0 := 4096) (n1 := 6144) (V c main_v4_0)) (y 0).val (y 1).val := by
  refine (dat5 V c).arrAt_eq_of_covers 2 _ (by decide +kernel) fun t hf y => ?_
  have ht : t.val < 12 := lt_of_lt_of_eq t.isLt N_5
  have h0 : (y 0).val < 1024 := (y 0).isLt
  have h1 : (y 1).val < 1024 := (y 1).isLt
  blk_simp [index5_2]
  rw [after5_2]
  obtain ⟨j, k, rfl⟩ : ∃ (j : Fin 1024) (k : Fin 1024), y = ix2 j k := ⟨y 0, y 1, eq_ix2 y⟩
  refine (out5_2_apply _ _ j k).trans ?_
  rw [tn_congr (fun k_ hk => block5_0 V c t hk j.isLt) (fun k_ hk => block5_1 V c t hk k.isLt)]
  rfl

end Cert.Sc

end
-- ==== Proof.ScPay.lean ====
module

public import proofs.«01_k».proof.Proof.MixBlock
public import proofs.«01_k».proof.Proof.Gen.Kernel4Ideal.Skeleton

/-! What the short convolution's two calls store, entry by entry, when they run between the mixer's products. -/

@[expose] public section
noncomputable section
open Idealize.ShloMosaic Idealize.ShloMosaic.TcCoe Idealize.SL.Sem
open Idealize.ShloMosaic.Pipeline (Dat)

namespace Cert.Sc
open Cert.Kernel4Ideal Cert.Kernel4Ideal.Gen
open Cert.Mix (rd rd_of rd_ix2 hz ext extd duBlock dwBlock ld_row ld_row_ix row_piece)

/-! ## The forward call -/

/-- The mask of the rows before a tile: zero at the first tile of a sequence, one elsewhere. -/
def mask (n : ℕ) : EReal := if n % 8 = 0 then 0 else 1

/-- The forward call's extended product block, entry by entry. -/
theorem fpay2_apply (i : grid1.Coords) (x1 x2 : FVec Ideal S256x2048 .bf16) (x3 x4 : FVec Ideal S16x2048 .bf16) (j : Fin 272) (c : Fin 2048) :
    k1_pay2 (F := Ideal) i x3 x4 x1 x2 (ix2 j c) = ext (mask (i 0).val) x1 x2 x3 x4 j c := by
  have hi : (i 0).val < 16 := (i 0).isLt
  have hm : Scalar.select (Scalar.cmpi .eq (Cert.Mix.remainderWord (i 0).val) 0#32) (Scalar.ofBits (F := Ideal) .f32 0x00000000#32) (Scalar.ofBits (F := Ideal) .f32 0x3F800000#32)
      = mask (i 0).val := by
    rw [Cert.Mix.first_tile ⟨(i 0).val, hi⟩]
    unfold mask
    split_ifs <;> pointwise <;> rfl
  unfold ext
  rw [← hm]
  unfold Cert.Mix.remainderWord
  pointwise [k1_pay2]
  simp only [rd_ix2, dite_eq_ite]

/-- The forward call's store: `gate_b` times the convolution. -/
theorem fpay1_apply (i : grid1.Coords) (x0 x1 x2 : FVec Ideal S256x2048 .bf16) (x3 x4 : FVec Ideal S16x2048 .bf16) (w0 w1 w2 : FVec Ideal S1x2048 .f32)
    (j : Fin 256) (c : Fin 2048) :
    k1_pay1 (F := Ideal) (k1_pay2 i x3 x4 x1 x2) (k1_pay3 i x3 x4 x1 x2 w0) w1 w2 x0 (ix2 j c)
      = rd x0 j c * (rd w0 0 c * ext (mask (i 0).val) x1 x2 x3 x4 (14 + j) c + rd w1 0 c * ext (mask (i 0).val) x1 x2 x3 x4 (15 + j) c
        + rd w2 0 c * ext (mask (i 0).val) x1 x2 x3 x4 (16 + j) c) := by
  have hj := j.isLt
  pointwise [k1_pay1, k1_pay3, fpay2_apply]
  simp only [rd_ix2]
  rw [show (16 + j.val + 272 - 2) % 272 = 14 + j.val by omega, show (16 + j.val + 272 - 1) % 272 = 15 + j.val by omega]
  rfl

/-! ## The backward call -/

/-- The extended product block, entry by entry. -/
theorem pay12_apply (kp : EReal) (x3 x4 : FVec Ideal S256x2048 .bf16) (x5 x6 : FVec Ideal S16x2048 .bf16) (j : Fin 272) (c : Fin 2048) :
    k4_pay12 (F := Ideal) kp (k4_pay9 x3) x4 x5 x6 (ix2 j c) = ext kp x3 x4 x5 x6 j c := by
  unfold ext
  pointwise [k4_pay12, k4_pay9, k4_pay10]
  simp only [rd_ix2, dite_eq_ite]

/-- The extended gradient block, entry by entry. -/
theorem pay14_apply (kn : EReal) (x0 x2 : FVec Ideal S256x2048 .bf16) (x1 x7 : FVec Ideal S16x2048 .bf16) (j : Fin 272) (c : Fin 2048) :
    k4_pay14 (F := Ideal) kn (k4_pay8 x2) x0 x1 x7 (ix2 j c) = extd kn x0 x2 x1 x7 j c := by
  unfold extd
  pointwise [k4_pay14, k4_pay8, k4_pay13, k4_pay11]
  simp only [rd_ix2, dite_eq_ite]

/-- The product of the gradient by the first gate, entry by entry. -/
theorem pay13_apply (x0 x2 : FVec Ideal S256x2048 .bf16) (j : Fin 256) (c : Fin 2048) :
    k4_pay13 (F := Ideal) (k4_pay8 x2) x0 (ix2 j c) = rd x0 j c * rd x2 j c := by
  pointwise [k4_pay8, k4_pay13, k4_pay11]
  simp only [rd_ix2]

/-- The convolution's transpose of an extended block: three taps looking forward. -/
theorem pay1_apply (y : FVec Ideal S272x2048 .f32) (w0 w1 w2 : FVec Ideal S1x2048 .f32) (j : Fin 256) (c : Fin 2048) :
    k4_pay1 (F := Ideal) y (k4_pay23 y k4_pay15 w0 w1) w2 (ix2 j c)
      = rd w0 0 c * rd y (j + 2) c + rd w1 0 c * rd y (j + 1) c + rd w2 0 c * rd y j c := by
  have hj := j.isLt
  pointwise [k4_pay1, k4_pay15, k4_pay23]
  simp only [rd_ix2]
  rw [show (j.val + 272 - 270) % 272 = j.val + 2 by omega, show (j.val + 272 - 271) % 272 = j.val + 1 by omega]
  rfl

/-- The convolution of an extended block: three taps looking back. -/
theorem pay22_apply (kp : EReal) (x3 x4 : FVec Ideal S256x2048 .bf16) (x5 x6 : FVec Ideal S16x2048 .bf16)
    (w0 w1 w2 : FVec Ideal S1x2048 .f32) (j : Fin 256) (c : Fin 2048) :
    rd (n0 := 272) (n1 := 2048) (k4_pay24 (F := Ideal) (k4_pay12 kp (k4_pay9 x3) x4 x5 x6) (k4_pay17 kp (k4_pay9 x3) x4 x5 x6 w0) w1 w2) (16 + j) c
      = rd w0 0 c * ext kp x3 x4 x5 x6 (14 + j) c + rd w1 0 c * ext kp x3 x4 x5 x6 (15 + j) c + rd w2 0 c * ext kp x3 x4 x5 x6 (16 + j) c := by
  have hj := j.isLt
  rw [← rd_of _ (by omega : 16 + j.val < 272) c.isLt]
  pointwise [k4_pay24, k4_pay21, k4_pay17, k4_pay16, pay12_apply]
  simp only [rd_ix2]
  rw [show (16 + j.val + 272 - 2) % 272 = 14 + j.val by omega, show (16 + j.val + 272 - 1) % 272 = 15 + j.val by omega]
  rfl

/-- The first stored column block: the gradient times the convolution. -/
theorem pay2_apply (x0 : FVec Ideal S256x2048 .bf16) (y : FVec Ideal S272x2048 .f32) (j : Fin 256) (c : Fin 2048) :
    k4_pay2 (F := Ideal) (k4_pay11 x0) y (ix2 j c) = rd x0 j c * rd y (16 + j) c := by
  pointwise [k4_pay2, k4_pay11]
  simp only [rd_ix2]

/-- The second stored column block: the convolution's transpose times the value. -/
theorem pay3_apply (x4 : FVec Ideal S256x2048 .bf16) (y a : FVec Ideal S272x2048 .f32) (w2 : FVec Ideal S1x2048 .f32) (j : Fin 256) (c : Fin 2048) :
    k4_pay3 (F := Ideal) (k4_pay10 x4) y a w2 (ix2 j c) = k4_pay1 (F := Ideal) y a w2 (ix2 j c) * rd x4 j c := by
  pointwise [k4_pay3, k4_pay10]
  simp only [rd_ix2]

/-- The third stored column block: the convolution's transpose times the second gate. -/
theorem pay4_apply (x3 : FVec Ideal S256x2048 .bf16) (y a : FVec Ideal S272x2048 .f32) (w2 : FVec Ideal S1x2048 .f32) (j : Fin 256) (c : Fin 2048) :
    k4_pay4 (F := Ideal) (k4_pay9 x3) y a w2 (ix2 j c) = k4_pay1 (F := Ideal) y a w2 (ix2 j c) * rd x3 j c := by
  pointwise [k4_pay4, k4_pay9]
  simp only [rd_ix2]

/-- The first tap's gradient row: what it held plus the block's sum. -/
theorem pay18_apply (kp : EReal) (x0 x2 x3 x4 : FVec Ideal S256x2048 .bf16) (x5 x6 : FVec Ideal S16x2048 .bf16)
    (a : FVec Ideal S1x2048 .f32) (c : Fin 2048) :
    k4_pay20 (F := Ideal) (k4_pay18 a) (k4_pay19 kp (k4_pay8 x2) (k4_pay9 x3) x4 x0 x5 x6) (ix2 0 c)
      = a (ix2 0 c) + ∑ j : Fin 256, rd x0 j c * rd x2 j c * ext kp x3 x4 x5 x6 (14 + j) c := by
  pointwise [k4_pay20, k4_pay18, k4_pay19, k4_pay16, pay12_apply, pay13_apply]
  refine congrArg _ (Finset.sum_congr rfl fun j _ => ?_)
  have hj := j.isLt
  rw [show (16 + j.val + 272 - 2) % 272 = 14 + j.val by omega]

/-- The second tap's gradient row. -/
theorem pay20_apply (kp : EReal) (x0 x2 x3 x4 : FVec Ideal S256x2048 .bf16) (x5 x6 : FVec Ideal S16x2048 .bf16)
    (a : FVec Ideal S1x2048 .f32) (c : Fin 2048) :
    k4_pay22 (F := Ideal) (k4_pay12 kp (k4_pay9 x3) x4 x5 x6) (k4_pay13 (k4_pay8 x2) x0) a (ix2 0 c)
      = a (ix2 0 c) + ∑ j : Fin 256, rd x0 j c * rd x2 j c * ext kp x3 x4 x5 x6 (15 + j) c := by
  pointwise [k4_pay22, k4_pay21, pay12_apply, pay13_apply]
  refine congrArg _ (Finset.sum_congr rfl fun j _ => ?_)
  have hj := j.isLt
  rw [show (16 + j.val + 272 - 1) % 272 = 15 + j.val by omega]

/-- The third tap's gradient row. -/
theorem pay23_apply (kp : EReal) (x0 x2 x3 x4 : FVec Ideal S256x2048 .bf16) (x5 x6 : FVec Ideal S16x2048 .bf16)
    (a : FVec Ideal S1x2048 .f32) (c : Fin 2048) :
    k4_pay25 (F := Ideal) (k4_pay12 kp (k4_pay9 x3) x4 x5 x6) (k4_pay13 (k4_pay8 x2) x0) a (ix2 0 c)
      = a (ix2 0 c) + ∑ j : Fin 256, rd x0 j c * rd x2 j c * ext kp x3 x4 x5 x6 (16 + j) c := by
  pointwise [k4_pay25, pay12_apply, pay13_apply]

/-- The mask of the rows before: zero at the first tile of a sequence, one elsewhere. -/
theorem pay5_eq (i : grid4.Coords) : k4_pay5 (F := Ideal) i = if (i 0).val % 8 = 0 then (0 : EReal) else 1 := by
  have hi : (i 0).val < 16 := (i 0).isLt
  show Scalar.select (Scalar.cmpi .eq (Cert.Mix.remainderWord (i 0).val) 0#32) (Scalar.ofBits (F := Ideal) .f32 0x00000000#32) (Scalar.ofBits (F := Ideal) .f32 0x3F800000#32) = _
  rw [Cert.Mix.first_tile ⟨(i 0).val, hi⟩]
  split_ifs <;> pointwise <;> rfl

/-- The mask of the rows after: zero at the last tile of a sequence, one elsewhere. -/
theorem pay6_eq (i : grid4.Coords) : k4_pay6 (F := Ideal) i = if (i 0).val % 8 = 7 then (0 : EReal) else 1 := by
  have hi : (i 0).val < 16 := (i 0).isLt
  show Scalar.select (Scalar.cmpi .eq (Cert.Mix.remainderWord (i 0).val) 7#32) (Scalar.ofBits (F := Ideal) .f32 0x00000000#32) (Scalar.ofBits (F := Ideal) .f32 0x3F800000#32) = _
  rw [Cert.Mix.last_tile ⟨(i 0).val, hi⟩]
  split_ifs <;> pointwise <;> rfl

/-- The first column block of the store is the closed form there. -/
theorem piece0 (kp kn : EReal) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (x : S256x2048.Idx) :
    k4_pay2 (F := Ideal) (k4_pay11 x0) (k4_pay24 (k4_pay12 kp (k4_pay9 x3) x4 x5 x6)
        (k4_pay17 kp (k4_pay9 x3) x4 x5 x6 (View.ld x8 (Rect.unit (s := S3x2048) ![0, 0] S1x2048.size inb_S3x2048_S1x2048_0_0)))
        (View.ld x8 (Rect.unit (s := S3x2048) ![1, 0] S1x2048.size inb_S3x2048_S1x2048_1_0))
        (View.ld x8 (Rect.unit (s := S3x2048) ![2, 0] S1x2048.size inb_S3x2048_S1x2048_2_0))) x
      = duBlock kp kn x0 x1 x2 x3 x4 x5 x6 x7 x8 (0 + 1 * (x 0).val) (0 + 1 * (x 1).val) := by
  have h1 : (x 1).val < 2048 := (x 1).isLt
  rw [show 0 + 1 * (x 0).val = (x 0).val by omega, show 0 + 1 * (x 1).val = (x 1).val by omega]
  obtain ⟨j, c, rfl⟩ : ∃ (j : Fin 256) (c : Fin 2048), x = ix2 j c := ⟨x 0, x 1, eq_ix2 x⟩
  rw [pay2_apply, pay22_apply, ld_row _ _ _ _ c.isLt, ld_row _ _ _ _ c.isLt, ld_row _ _ _ _ c.isLt]
  unfold duBlock
  rw [if_pos h1]
  rfl

/-- The convolution's transpose over a tile, in closed form. -/
theorem dcv_apply (kn : EReal) (x0 x2 : FVec Ideal S256x2048 .bf16) (x1 x7 : FVec Ideal S16x2048 .bf16) (x8 : FVec Ideal S3x2048 .f32)
    (j : Fin 256) (c : Fin 2048) :
    k4_pay1 (F := Ideal) (k4_pay14 kn (k4_pay8 x2) x0 x1 x7) (k4_pay23 (k4_pay14 kn (k4_pay8 x2) x0 x1 x7) k4_pay15
        (View.ld x8 (Rect.unit (s := S3x2048) ![0, 0] S1x2048.size inb_S3x2048_S1x2048_0_0))
        (View.ld x8 (Rect.unit (s := S3x2048) ![1, 0] S1x2048.size inb_S3x2048_S1x2048_1_0)))
      (View.ld x8 (Rect.unit (s := S3x2048) ![2, 0] S1x2048.size inb_S3x2048_S1x2048_2_0)) (ix2 j c)
      = rd x8 0 c * extd kn x0 x2 x1 x7 (j + 2) c + rd x8 1 c * extd kn x0 x2 x1 x7 (j + 1) c + rd x8 2 c * extd kn x0 x2 x1 x7 j c := by
  have hj := j.isLt
  have hy : ∀ r : ℕ, r < 272 → rd (n0 := 272) (n1 := 2048) (k4_pay14 (F := Ideal) kn (k4_pay8 x2) x0 x1 x7) r c.val = extd kn x0 x2 x1 x7 r c := by
    intro r hr
    rw [← rd_of _ hr c.isLt]
    exact pay14_apply kn x0 x2 x1 x7 ⟨r, hr⟩ c
  rw [pay1_apply, ld_row _ _ _ _ c.isLt, ld_row _ _ _ _ c.isLt, ld_row _ _ _ _ c.isLt, hy _ (by omega), hy _ (by omega), hy _ (by omega)]

/-- The second column block of the store is the closed form there. -/
theorem piece1 (kp kn : EReal) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (x : S256x2048.Idx) :
    k4_pay3 (F := Ideal) (k4_pay10 x4) (k4_pay14 kn (k4_pay8 x2) x0 x1 x7) (k4_pay23 (k4_pay14 kn (k4_pay8 x2) x0 x1 x7) k4_pay15
        (View.ld x8 (Rect.unit (s := S3x2048) ![0, 0] S1x2048.size inb_S3x2048_S1x2048_0_0))
        (View.ld x8 (Rect.unit (s := S3x2048) ![1, 0] S1x2048.size inb_S3x2048_S1x2048_1_0)))
      (View.ld x8 (Rect.unit (s := S3x2048) ![2, 0] S1x2048.size inb_S3x2048_S1x2048_2_0)) x
      = duBlock kp kn x0 x1 x2 x3 x4 x5 x6 x7 x8 (0 + 1 * (x 0).val) (2048 + 1 * (x 1).val) := by
  have h1 : (x 1).val < 2048 := (x 1).isLt
  rw [show 0 + 1 * (x 0).val = (x 0).val by omega, show 2048 + 1 * (x 1).val = (x 1).val + 2048 by omega]
  obtain ⟨j, c, rfl⟩ : ∃ (j : Fin 256) (c : Fin 2048), x = ix2 j c := ⟨x 0, x 1, eq_ix2 x⟩
  rw [pay3_apply, dcv_apply]
  unfold duBlock
  rw [if_neg (by omega), if_pos (by omega), Nat.add_sub_cancel]
  rfl

/-- The third column block of the store is the closed form there. -/
theorem piece2 (kp kn : EReal) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (x : S256x2048.Idx) :
    k4_pay4 (F := Ideal) (k4_pay9 x3) (k4_pay14 kn (k4_pay8 x2) x0 x1 x7) (k4_pay23 (k4_pay14 kn (k4_pay8 x2) x0 x1 x7) k4_pay15
        (View.ld x8 (Rect.unit (s := S3x2048) ![0, 0] S1x2048.size inb_S3x2048_S1x2048_0_0))
        (View.ld x8 (Rect.unit (s := S3x2048) ![1, 0] S1x2048.size inb_S3x2048_S1x2048_1_0)))
      (View.ld x8 (Rect.unit (s := S3x2048) ![2, 0] S1x2048.size inb_S3x2048_S1x2048_2_0)) x
      = duBlock kp kn x0 x1 x2 x3 x4 x5 x6 x7 x8 (0 + 1 * (x 0).val) (4096 + 1 * (x 1).val) := by
  have h1 : (x 1).val < 2048 := (x 1).isLt
  rw [show 0 + 1 * (x 0).val = (x 0).val by omega, show 4096 + 1 * (x 1).val = (x 1).val + 4096 by omega]
  obtain ⟨j, c, rfl⟩ : ∃ (j : Fin 256) (c : Fin 2048), x = ix2 j c := ⟨x 0, x 1, eq_ix2 x⟩
  rw [pay4_apply, dcv_apply]
  unfold duBlock
  rw [if_neg (by omega), if_neg (by omega), Nat.add_sub_cancel]
  rfl

/-- The zero fill holds zero. -/
theorem rd_pay7 (k c : ℕ) : rd (n0 := 3) (n1 := 2048) (k4_pay7 (F := Ideal)) k c = 0 := by
  unfold rd
  split_ifs
  · pointwise [k4_pay7]
  · rfl

end Cert.Sc

end
-- ==== Proof.ScBlock.lean ====
module

public import proofs.«01_k».proof.Proof.ScPay
public import proofs.«01_k».proof.Proof.Gen.Kernel4Ideal.Frame

/-! What a tile of the short convolution's backward call stores, when it runs between the mixer's products. -/

@[expose] public section
noncomputable section
open Idealize.ShloMosaic Idealize.ShloMosaic.TcCoe Idealize.SL.Sem
open Idealize.ShloMosaic.Pipeline (Dat)

namespace Cert.Sc
open Cert.Kernel4Ideal Cert.Kernel4Ideal.Gen
open Cert.Mix (rd rd_of rd_ix2 hz ext extd duBlock dwBlock ld_row_ix row_piece)

/-- What a tile stores of the gradient of the projected input (the first tile). -/
theorem out9_A (c : Dev nD) (i : grid4.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : cond4_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) :
    out4_A_9 (F := Ideal) c i a1 h1 a2 h2 a3 h3 a4 h4 a5 h5 a6 h6 a7 h7 a8 h8 a9 h9 a10 h10 a11 h11 hc x0 x1 x2 x3 x4 x5 x6 x7 x8 = fun y => duBlock (k4_pay5 (F := Ideal) i) (k4_pay6 (F := Ideal) i) x0 x1 x2 x3 x4 x5 x6 x7 x8 (y 0).val (y 1).val := by
  unfold out4_A_9
  rw [View.read_writes_eq_canon _ _ _ (cover4_A_9 (F := Ideal) c i a1 h1 a2 h2 a3 h3 a4 h4 a5 h5 a6 h6 a7 h7 a8 h8 a9 h9 a10 h10 a11 h11 hc x0 x1 x2 x3 x4 x5 x6 x7 x8)]
  funext y
  suffices hp : View.PiecesOf (Val := Elt Ideal) (e := .bf16) (fun y : S256x6144.Idx => duBlock (k4_pay5 (F := Ideal) i) (k4_pay6 (F := Ideal) i) x0 x1 x2 x3 x4 x5 x6 x7 x8 (y 0).val (y 1).val) _ from
    View.canon_apply_of_pieces (fun y : S256x6144.Idx => duBlock (k4_pay5 (F := Ideal) i) (k4_pay6 (F := Ideal) i) x0 x1 x2 x3 x4 x5 x6 x7 x8 (y 0).val (y 1).val) _ hp.mem y (cover4_A_9 (F := Ideal) c i a1 h1 a2 h2 a3 h3 a4 h4 a5 h5 a6 h6 a7 h7 a8 h8 a9 h9 a10 h10 a11 h11 hc x0 x1 x2 x3 x4 x5 x6 x7 x8 y)
  unfold kernelRun4_A
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  exact ⟨fun x => piece2 _ _ x0 x1 x2 x3 x4 x5 x6 x7 x8 x, fun x => piece1 _ _ x0 x1 x2 x3 x4 x5 x6 x7 x8 x,
    fun x => piece0 _ _ x0 x1 x2 x3 x4 x5 x6 x7 x8 x, trivial⟩

/-- What a tile stores of the gradient of the projected input (a later tile). -/
theorem out9_B (c : Dev nD) (i : grid4.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : ¬cond4_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (xo : FVec Ideal S3x2048 .f32) :
    out4_B_9 (F := Ideal) c i a1 h1 a2 h2 a3 h3 a4 h4 a5 h5 a6 h6 a7 h7 a8 h8 a9 h9 a10 h10 a11 h11 hc x0 x1 x2 x3 x4 x5 x6 x7 x8 xo = fun y => duBlock (k4_pay5 (F := Ideal) i) (k4_pay6 (F := Ideal) i) x0 x1 x2 x3 x4 x5 x6 x7 x8 (y 0).val (y 1).val := by
  unfold out4_B_9
  rw [View.read_writes_eq_canon _ _ _ (cover4_B_9 (F := Ideal) c i a1 h1 a2 h2 a3 h3 a4 h4 a5 h5 a6 h6 a7 h7 a8 h8 a9 h9 a10 h10 a11 h11 hc x0 x1 x2 x3 x4 x5 x6 x7 x8 xo)]
  funext y
  suffices hp : View.PiecesOf (Val := Elt Ideal) (e := .bf16) (fun y : S256x6144.Idx => duBlock (k4_pay5 (F := Ideal) i) (k4_pay6 (F := Ideal) i) x0 x1 x2 x3 x4 x5 x6 x7 x8 (y 0).val (y 1).val) _ from
    View.canon_apply_of_pieces (fun y : S256x6144.Idx => duBlock (k4_pay5 (F := Ideal) i) (k4_pay6 (F := Ideal) i) x0 x1 x2 x3 x4 x5 x6 x7 x8 (y 0).val (y 1).val) _ hp.mem y (cover4_B_9 (F := Ideal) c i a1 h1 a2 h2 a3 h3 a4 h4 a5 h5 a6 h6 a7 h7 a8 h8 a9 h9 a10 h10 a11 h11 hc x0 x1 x2 x3 x4 x5 x6 x7 x8 xo y)
  unfold kernelRun4_B
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  exact ⟨fun x => piece2 _ _ x0 x1 x2 x3 x4 x5 x6 x7 x8 x, fun x => piece1 _ _ x0 x1 x2 x3 x4 x5 x6 x7 x8 x,
    fun x => piece0 _ _ x0 x1 x2 x3 x4 x5 x6 x7 x8 x, trivial⟩

/-- What a tile leaves of the taps' gradient (the first tile). -/
theorem out10_A (c : Dev nD) (i : grid4.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : cond4_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) :
    out4_A_10 (F := Ideal) c i a1 h1 a2 h2 a3 h3 a4 h4 a5 h5 a6 h6 a7 h7 a8 h8 a9 h9 a10 h10 a11 h11 hc x0 x1 x2 x3 x4 x5 x6 x7 x8 = fun y => 0 + dwBlock (k4_pay5 (F := Ideal) i) x0 x2 x3 x4 x5 x6 (y 0).val (y 1).val := by
  unfold out4_A_10
  rw [View.read_writes_eq_canon _ _ _ (cover4_A_10 (F := Ideal) c i a1 h1 a2 h2 a3 h3 a4 h4 a5 h5 a6 h6 a7 h7 a8 h8 a9 h9 a10 h10 a11 h11 hc x0 x1 x2 x3 x4 x5 x6 x7 x8)]
  funext y
  unfold kernelRun4_A
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  simp (disch := first | decide | exact fun a => congrFun hz a) only [↓View.readCov_skip, ↓View.readCov_fill]
  refine View.canon_append_of_piecesOf (Val := Elt Ideal) (e := .f32) (fun y : S3x2048.Idx => 0 + dwBlock (k4_pay5 (F := Ideal) i) x0 x2 x3 x4 x5 x6 (y 0).val (y 1).val)
    [_] [_, _, _] ?_ y (Cert.Mix.rows_cover _ _ _ y)
  exact ⟨fun x => row_piece (k := 2) _ (fun k c => 0 + dwBlock (k4_pay5 (F := Ideal) i) x0 x2 x3 x4 x5 x6 k c)
        (fun c => by dsimp only; refine (pay23_apply _ x0 x2 x3 x4 x5 x6 _ c).trans ?_; rw [ld_row_ix, rd_pay7]; rfl) x,
      fun x => row_piece (k := 1) _ (fun k c => 0 + dwBlock (k4_pay5 (F := Ideal) i) x0 x2 x3 x4 x5 x6 k c)
        (fun c => by dsimp only; refine (pay20_apply _ x0 x2 x3 x4 x5 x6 _ c).trans ?_; rw [ld_row_ix, rd_pay7]; rfl) x,
      fun x => row_piece (k := 0) _ (fun k c => 0 + dwBlock (k4_pay5 (F := Ideal) i) x0 x2 x3 x4 x5 x6 k c)
        (fun c => by dsimp only; refine (pay18_apply _ x0 x2 x3 x4 x5 x6 _ c).trans ?_; rw [ld_row_ix, rd_pay7]; rfl) x, trivial⟩

/-- What a tile leaves of the taps' gradient (a later tile). -/
theorem out10_B (c : Dev nD) (i : grid4.Coords) (a1 : Memref sig .tc .vmem S256x2048 .bf16) (h1 : a1.IsWhole)
    (a2 : Memref sig .tc .vmem S16x2048 .bf16) (h2 : a2.IsWhole) (a3 : Memref sig .tc .vmem S256x2048 .bf16) (h3 : a3.IsWhole)
    (a4 : Memref sig .tc .vmem S256x2048 .bf16) (h4 : a4.IsWhole) (a5 : Memref sig .tc .vmem S256x2048 .bf16) (h5 : a5.IsWhole)
    (a6 : Memref sig .tc .vmem S16x2048 .bf16) (h6 : a6.IsWhole) (a7 : Memref sig .tc .vmem S16x2048 .bf16) (h7 : a7.IsWhole)
    (a8 : Memref sig .tc .vmem S16x2048 .bf16) (h8 : a8.IsWhole) (a9 : Memref sig .tc .vmem S3x2048 .f32) (h9 : a9.IsWhole)
    (a10 : Memref sig .tc .vmem S256x6144 .bf16) (h10 : a10.IsWhole) (a11 : Memref sig .tc .vmem S3x2048 .f32) (h11 : a11.IsWhole)
    (hc : ¬cond4_0 i) (x0 : FVec Ideal S256x2048 .bf16) (x1 : FVec Ideal S16x2048 .bf16) (x2 x3 x4 : FVec Ideal S256x2048 .bf16)
    (x5 x6 x7 : FVec Ideal S16x2048 .bf16) (x8 : FVec Ideal S3x2048 .f32) (xo : FVec Ideal S3x2048 .f32) :
    out4_B_10 (F := Ideal) c i a1 h1 a2 h2 a3 h3 a4 h4 a5 h5 a6 h6 a7 h7 a8 h8 a9 h9 a10 h10 a11 h11 hc x0 x1 x2 x3 x4 x5 x6 x7 x8 xo = fun y => rd xo (y 0).val (y 1).val + dwBlock (k4_pay5 (F := Ideal) i) x0 x2 x3 x4 x5 x6 (y 0).val (y 1).val := by
  unfold out4_B_10
  rw [View.read_writes_eq_canon _ _ _ (cover4_B_10 (F := Ideal) c i a1 h1 a2 h2 a3 h3 a4 h4 a5 h5 a6 h6 a7 h7 a8 h8 a9 h9 a10 h10 a11 h11 hc x0 x1 x2 x3 x4 x5 x6 x7 x8 xo)]
  funext y
  unfold kernelRun4_B
  dsimp only
  sl_unfold_words
  simp only [View.readAt_eq_ld, h1.read_unread, h2.read_unread, h3.read_unread, h4.read_unread, h5.read_unread, h6.read_unread, h7.read_unread, h8.read_unread, h9.read_unread, h11.read_unread, View.ld_unit_zero (S := S256x2048) hz, View.ld_unit_zero (S := S16x2048) hz]
  refine View.canon_append_of_piecesOf (Val := Elt Ideal) (e := .f32) (fun y : S3x2048.Idx => rd (n0 := 3) (n1 := 2048) xo (y 0).val (y 1).val + dwBlock (k4_pay5 (F := Ideal) i) x0 x2 x3 x4 x5 x6 (y 0).val (y 1).val)
    [] [_, _, _] ?_ y (Cert.Mix.rows_cover _ _ _ y)
  · exact ⟨fun x => row_piece (k := 2) _ (fun k c => rd (n0 := 3) (n1 := 2048) xo k c + dwBlock (k4_pay5 (F := Ideal) i) x0 x2 x3 x4 x5 x6 k c)
        (fun c => by dsimp only; refine (pay23_apply _ x0 x2 x3 x4 x5 x6 _ c).trans ?_; rw [ld_row_ix]; rfl) x,
      fun x => row_piece (k := 1) _ (fun k c => rd (n0 := 3) (n1 := 2048) xo k c + dwBlock (k4_pay5 (F := Ideal) i) x0 x2 x3 x4 x5 x6 k c)
        (fun c => by dsimp only; refine (pay20_apply _ x0 x2 x3 x4 x5 x6 _ c).trans ?_; rw [ld_row_ix]; rfl) x,
      fun x => row_piece (k := 0) _ (fun k c => rd (n0 := 3) (n1 := 2048) xo k c + dwBlock (k4_pay5 (F := Ideal) i) x0 x2 x3 x4 x5 x6 k c)
        (fun c => by dsimp only; refine (pay18_apply _ x0 x2 x3 x4 x5 x6 _ c).trans ?_; rw [ld_row_ix]; rfl) x, trivial⟩

end Cert.Sc

end
-- ==== Proof.ScArrays.lean ====
module

public import proofs.«01_k».proof.Proof.ScBlock
public import proofs.«01_k».proof.Proof.MixArrays

/-! What the short convolution's two calls leave in their result arrays, in terms of the arrays they read. -/

@[expose] public section
noncomputable section
open Idealize.ShloMosaic Idealize.ShloMosaic.TcCoe Idealize.SL.Sem
open Idealize.ShloMosaic.Pipeline (Dat)

namespace Cert.Sc
open Cert.Kernel4Ideal Cert.Kernel4Ideal.Gen
open Cert.Mix (rd rd_of rd_ix2 hz ld_row ext extd duBlock dwBlock gv gq gvBack gqAhead duArr dwRow dwArr)

variable (V : (c : Dev nD) → (b : Ref sig .tc) → Buf (Elt Ideal) ((c : Thread nD τ).loc b))

theorem coords1 : ∀ t : Fin cfg1.N, (grid1.coords t 0).val = t.val :=
  (by decide +kernel : ∀ t : Fin grid1.N, (grid1.coords t 0).val = t.val)

theorem index1_0 : ∀ t : Fin cfg1.N, win1_0.index t = ![t.val, 0] :=
  (by decide +kernel : ∀ t : Fin grid1.N, win1_0.index t = ![t.val, 0])

/-- Window 0's block of call 1 at a point, read in its array. -/
theorem block1_0 (c : Dev nD) (t : Fin cfg1.N) {j k : ℕ} (hj : j < 256) (hk : k < 2048) :
    rd (n0 := 256) (n1 := 2048) (iblk1 V c 0 t) j k = rd (n0 := 4096) (n1 := 6144) (V c main_v0) (256 * t.val + j) (k) := by
  have ht : t.val < 16 := lt_of_lt_of_eq t.isLt N_1
  rw [← rd_of _ hj hk, ← rd_of _ (by omega) (by omega)]
  blk_simp [iblk1]
  refine congrArg (V c main_v0) (funext (Fin.forall_fin_two.mpr ⟨Fin.ext ?_, Fin.ext ?_⟩))
  · blk_simp [index1_0] <;> (show _ = 256 * t.val + j) <;> (try dsimp only) <;> omega
  · blk_simp [index1_0] <;> (show _ = k) <;> (try dsimp only) <;> omega

theorem index1_1 : ∀ t : Fin cfg1.N, win1_1.index t = ![t.val, 1] :=
  (by decide +kernel : ∀ t : Fin grid1.N, win1_1.index t = ![t.val, 1])

/-- Window 1's block of call 1 at a point, read in its array. -/
theorem block1_1 (c : Dev nD) (t : Fin cfg1.N) {j k : ℕ} (hj : j < 256) (hk : k < 2048) :
    rd (n0 := 256) (n1 := 2048) (iblk1 V c 1 t) j k = rd (n0 := 4096) (n1 := 6144) (V c main_v0) (256 * t.val + j) (2048 + k) := by
  have ht : t.val < 16 := lt_of_lt_of_eq t.isLt N_1
  rw [← rd_of _ hj hk, ← rd_of _ (by omega) (by omega)]
  blk_simp [iblk1]
  refine congrArg (V c main_v0) (funext (Fin.forall_fin_two.mpr ⟨Fin.ext ?_, Fin.ext ?_⟩))
  · blk_simp [index1_1] <;> (show _ = 256 * t.val + j) <;> (try dsimp only) <;> omega
  · blk_simp [index1_1] <;> (show _ = 2048 + k) <;> (try dsimp only) <;> omega

theorem index1_2 : ∀ t : Fin cfg1.N, win1_2.index t = ![t.val, 2] :=
  (by decide +kernel : ∀ t : Fin grid1.N, win1_2.index t = ![t.val, 2])

/-- Window 2's block of call 1 at a point, read in its array. -/
theorem block1_2 (c : Dev nD) (t : Fin cfg1.N) {j k : ℕ} (hj : j < 256) (hk : k < 2048) :
    rd (n0 := 256) (n1 := 2048) (iblk1 V c 2 t) j k = rd (n0 := 4096) (n1 := 6144) (V c main_v0) (256 * t.val + j) (4096 + k) := by
  have ht : t.val < 16 := lt_of_lt_of_eq t.isLt N_1
  rw [← rd_of _ hj hk, ← rd_of _ (by omega) (by omega)]
  blk_simp [iblk1]
  refine congrArg (V c main_v0) (funext (Fin.forall_fin_two.mpr ⟨Fin.ext ?_, Fin.ext ?_⟩))
  · blk_simp [index1_2] <;> (show _ = 256 * t.val + j) <;> (try dsimp only) <;> omega
  · blk_simp [index1_2] <;> (show _ = 4096 + k) <;> (try dsimp only) <;> omega

theorem index1_3 : ∀ t : Fin cfg1.N, win1_3.index t = ![t.val * 16 - 1, 1] :=
  (by decide +kernel : ∀ t : Fin grid1.N, win1_3.index t = ![t.val * 16 - 1, 1])

/-- Window 3's block of call 1 at a point, read in its array. -/
theorem block1_3 (c : Dev nD) (t : Fin cfg1.N) {j k : ℕ} (hj : j < 16) (hk : k < 2048) :
    rd (n0 := 16) (n1 := 2048) (iblk1 V c 3 t) j k = rd (n0 := 4096) (n1 := 6144) (V c main_v0) ((t.val * 16 - 1) * 16 + j) (2048 + k) := by
  have ht : t.val < 16 := lt_of_lt_of_eq t.isLt N_1
  rw [← rd_of _ hj hk, ← rd_of _ (by omega) (by omega)]
  blk_simp [iblk1]
  refine congrArg (V c main_v0) (funext (Fin.forall_fin_two.mpr ⟨Fin.ext ?_, Fin.ext ?_⟩))
  · blk_simp [index1_3] <;> (show _ = (t.val * 16 - 1) * 16 + j) <;> (try dsimp only) <;> omega
  · blk_simp [index1_3] <;> (show _ = 2048 + k) <;> (try dsimp only) <;> omega

theorem index1_4 : ∀ t : Fin cfg1.N, win1_4.index t = ![t.val * 16 - 1, 2] :=
  (by decide +kernel : ∀ t : Fin grid1.N, win1_4.index t = ![t.val * 16 - 1, 2])

/-- Window 4's block of call 1 at a point, read in its array. -/
theorem block1_4 (c : Dev nD) (t : Fin cfg1.N) {j k : ℕ} (hj : j < 16) (hk : k < 2048) :
    rd (n0 := 16) (n1 := 2048) (iblk1 V c 4 t) j k = rd (n0 := 4096) (n1 := 6144) (V c main_v0) ((t.val * 16 - 1) * 16 + j) (4096 + k) := by
  have ht : t.val < 16 := lt_of_lt_of_eq t.isLt N_1
  rw [← rd_of _ hj hk, ← rd_of _ (by omega) (by omega)]
  blk_simp [iblk1]
  refine congrArg (V c main_v0) (funext (Fin.forall_fin_two.mpr ⟨Fin.ext ?_, Fin.ext ?_⟩))
  · blk_simp [index1_4] <;> (show _ = (t.val * 16 - 1) * 16 + j) <;> (try dsimp only) <;> omega
  · blk_simp [index1_4] <;> (show _ = 4096 + k) <;> (try dsimp only) <;> omega

theorem index1_5 : ∀ t : Fin cfg1.N, win1_5.index t = ![0, 0] :=
  (by decide +kernel : ∀ t : Fin grid1.N, win1_5.index t = ![0, 0])

/-- Window 5's block of call 1 at a point, read in its array. -/
theorem block1_5 (c : Dev nD) (t : Fin cfg1.N) {j k : ℕ} (hj : j < 3) (hk : k < 2048) :
    rd (n0 := 3) (n1 := 2048) (iblk1 V c 5 t) j k = rd (n0 := 3) (n1 := 2048) (V c main_arg3) (0 + j) (k) := by
  have ht : t.val < 16 := lt_of_lt_of_eq t.isLt N_1
  rw [← rd_of _ hj hk, ← rd_of _ (by omega) (by omega)]
  blk_simp [iblk1]
  refine congrArg (V c main_arg3) (funext (Fin.forall_fin_two.mpr ⟨Fin.ext ?_, Fin.ext ?_⟩))
  · blk_simp [index1_5] <;> (show _ = 0 + j) <;> (try dsimp only) <;> omega
  · blk_simp [index1_5] <;> (show _ = k) <;> (try dsimp only) <;> omega

theorem index1_6 : ∀ t : Fin cfg1.N, win1_6.index t = ![t.val, 0] :=
  (by decide +kernel : ∀ t : Fin grid1.N, win1_6.index t = ![t.val, 0])

/-- The short convolution of `gate_c * v` times `gate_b`, at a row and a column. -/
def yArr (u : (⟨2, ![4096, 6144]⟩ : Shape).Idx → EReal) (w : (⟨2, ![3, 2048]⟩ : Shape).Idx → EReal) (r c : ℕ) : EReal :=
  rd u r c * (rd w 0 c * gvBack u 2 r c + rd w 1 c * gvBack u 1 r c + rd w 2 c * gvBack u 0 r c)

/-- What a tile stores of the mixer's output. -/
theorem out1_6_apply (i : grid1.Coords) (x0 x1 x2 : FVec Ideal S256x2048 .bf16) (x3 x4 : FVec Ideal S16x2048 .bf16) (x5 : FVec Ideal S3x2048 .f32)
    (j : Fin 256) (k : Fin 2048) :
    out1_6 (F := Ideal) i x0 x1 x2 x3 x4 x5 (ix2 j k)
      = rd x0 j k * (rd x5 0 k * ext (mask (i 0).val) x1 x2 x3 x4 (14 + j) k + rd x5 1 k * ext (mask (i 0).val) x1 x2 x3 x4 (15 + j) k
        + rd x5 2 k * ext (mask (i 0).val) x1 x2 x3 x4 (16 + j) k) := by
  unfold out1_6
  rw [View.canon_unit_zero hz]
  simp only [View.ld_unit_zero (S := S256x2048) hz, View.ld_unit_zero (S := S16x2048) hz]
  refine (fpay1_apply i x0 x1 x2 x3 x4 _ _ _ j k).trans ?_
  rw [ld_row _ _ _ _ k.isLt, ld_row _ _ _ _ k.isLt, ld_row _ _ _ _ k.isLt]

/-- A tile's extended `gate_c * v` is the array's, shifted back within the sequence. -/
theorem ext_block1 (c : Dev nD) (t : Fin cfg1.N) {s j k : ℕ} (hs : s ≤ 2) (hj : j < 256) (hk : k < 2048) :
    ext (mask (grid1.coords t 0).val) (iblk1 V c 1 t) (iblk1 V c 2 t) (iblk1 V c 3 t) (iblk1 V c 4 t) (16 - s + j) k
      = gvBack (V c main_v0) s (256 * t.val + j) k := by
  have ht : t.val < 16 := lt_of_lt_of_eq t.isLt N_1
  unfold ext gvBack gv
  by_cases h : 16 - s + j < 16
  · rw [if_pos h, block1_3 V c t h hk, block1_4 V c t h hk, mask, show (grid1.coords t 0).val = t.val from coords1 t]
    by_cases h0 : t.val % 8 = 0
    · rw [if_pos h0, if_neg (by omega), mul_zero]
    · rw [if_neg h0, if_pos (by omega), mul_one, show (t.val * 16 - 1) * 16 + (16 - s + j) = 256 * t.val + j - s by omega]
  · rw [if_neg h, if_pos (by omega), block1_1 V c t (by omega) hk, block1_2 V c t (by omega) hk,
      show 256 * t.val + (16 - s + j - 16) = 256 * t.val + j - s by omega]

/-- What call 1 leaves in its array: the mixer's output. -/
theorem final1 (c : Dev nD) : (dat1 V c).arrAt 6 cfg1.N = fun y : S4096x2048.Idx => yArr (V c main_v0) (V c main_arg3) (y 0).val (y 1).val := by
  refine (dat1 V c).arrAt_eq_of_covers 6 _ (by decide +kernel) fun t hf y => ?_
  have h0 : (y 0).val < 256 := (y 0).isLt
  have h1 : (y 1).val < 2048 := (y 1).isLt
  blk_simp [index1_6]
  rw [after1_6]
  obtain ⟨j, k, rfl⟩ : ∃ (j : Fin 256) (k : Fin 2048), y = ix2 j k := ⟨y 0, y 1, eq_ix2 y⟩
  refine (out1_6_apply _ _ _ _ _ _ _ j k).trans ?_
  rw [block1_0 V c t j.isLt k.isLt, block1_5 V c t (by omega) k.isLt, block1_5 V c t (by omega) k.isLt, block1_5 V c t (by omega) k.isLt,
    show 14 + j.val = 16 - 2 + j.val by omega, show 15 + j.val = 16 - 1 + j.val by omega, show 16 + j.val = 16 - 0 + j.val by omega,
    ext_block1 V c t (by omega) j.isLt k.isLt, ext_block1 V c t (by omega) j.isLt k.isLt, ext_block1 V c t (by omega) j.isLt k.isLt,
    Nat.mul_comm 256 t.val]
  rfl

theorem coords4 : ∀ t : Fin cfg4.N, (grid4.coords t 0).val = t.val :=
  (by decide +kernel : ∀ t : Fin grid4.N, (grid4.coords t 0).val = t.val)

theorem index4_0 : ∀ t : Fin cfg4.N, win4_0.index t = ![t.val, 0] :=
  (by decide +kernel : ∀ t : Fin grid4.N, win4_0.index t = ![t.val, 0])

theorem index4_1 : ∀ t : Fin cfg4.N, win4_1.index t = ![min ((t.val + 1) * 16) 255, 0] :=
  (by decide +kernel : ∀ t : Fin grid4.N, win4_1.index t = ![min ((t.val + 1) * 16) 255, 0])

theorem index4_2 : ∀ t : Fin cfg4.N, win4_2.index t = ![t.val, 0] :=
  (by decide +kernel : ∀ t : Fin grid4.N, win4_2.index t = ![t.val, 0])

theorem index4_3 : ∀ t : Fin cfg4.N, win4_3.index t = ![t.val, 1] :=
  (by decide +kernel : ∀ t : Fin grid4.N, win4_3.index t = ![t.val, 1])

theorem index4_4 : ∀ t : Fin cfg4.N, win4_4.index t = ![t.val, 2] :=
  (by decide +kernel : ∀ t : Fin grid4.N, win4_4.index t = ![t.val, 2])

theorem index4_5 : ∀ t : Fin cfg4.N, win4_5.index t = ![t.val * 16 - 1, 1] :=
  (by decide +kernel : ∀ t : Fin grid4.N, win4_5.index t = ![t.val * 16 - 1, 1])

theorem index4_6 : ∀ t : Fin cfg4.N, win4_6.index t = ![t.val * 16 - 1, 2] :=
  (by decide +kernel : ∀ t : Fin grid4.N, win4_6.index t = ![t.val * 16 - 1, 2])

theorem index4_7 : ∀ t : Fin cfg4.N, win4_7.index t = ![min ((t.val + 1) * 16) 255, 0] :=
  (by decide +kernel : ∀ t : Fin grid4.N, win4_7.index t = ![min ((t.val + 1) * 16) 255, 0])

theorem index4_8 : ∀ t : Fin cfg4.N, win4_8.index t = ![0, 0] :=
  (by decide +kernel : ∀ t : Fin grid4.N, win4_8.index t = ![0, 0])

theorem index4_9 : ∀ t : Fin cfg4.N, win4_9.index t = ![t.val, 0] :=
  (by decide +kernel : ∀ t : Fin grid4.N, win4_9.index t = ![t.val, 0])

/-- Window 0's block of call 4 at a point, read in its array. -/
theorem block4_0 (c : Dev nD) (t : Fin cfg4.N) {j k : ℕ} (hj : j < 256) (hk : k < 2048) :
    rd (n0 := 256) (n1 := 2048) (iblk4 V c 0 t) j k = rd (n0 := 4096) (n1 := 2048) (V c main_v2) (256 * t.val + j) k := by
  have ht : t.val < 16 := lt_of_lt_of_eq t.isLt N_4
  rw [← rd_of _ hj hk, ← rd_of _ (by omega) (by omega)]
  blk_simp [iblk4]
  refine congrArg (V c main_v2) (funext (Fin.forall_fin_two.mpr ⟨Fin.ext ?_, Fin.ext ?_⟩))
  · blk_simp [index4_0] <;> (show _ = 256 * t.val + j) <;> (try dsimp only) <;> omega
  · blk_simp [index4_0] <;> (show _ = k) <;> (try dsimp only) <;> omega

/-- Window 1's block of call 4 at a point, read in its array. -/
theorem block4_1 (c : Dev nD) (t : Fin cfg4.N) {j k : ℕ} (hj : j < 16) (hk : k < 2048) :
    rd (n0 := 16) (n1 := 2048) (iblk4 V c 1 t) j k = rd (n0 := 4096) (n1 := 2048) (V c main_v2) (min ((t.val + 1) * 16) 255 * 16 + j) k := by
  have ht : t.val < 16 := lt_of_lt_of_eq t.isLt N_4
  rw [← rd_of _ hj hk, ← rd_of _ (by omega) (by omega)]
  blk_simp [iblk4]
  refine congrArg (V c main_v2) (funext (Fin.forall_fin_two.mpr ⟨Fin.ext ?_, Fin.ext ?_⟩))
  · blk_simp [index4_1] <;> (show _ = min ((t.val + 1) * 16) 255 * 16 + j) <;> (try dsimp only) <;> omega
  · blk_simp [index4_1] <;> (show _ = k) <;> (try dsimp only) <;> omega

/-- Window 2's block of call 4 at a point, read in its array. -/
theorem block4_2 (c : Dev nD) (t : Fin cfg4.N) {j k : ℕ} (hj : j < 256) (hk : k < 2048) :
    rd (n0 := 256) (n1 := 2048) (iblk4 V c 2 t) j k = rd (n0 := 4096) (n1 := 6144) (V c main_v0) (256 * t.val + j) k := by
  have ht : t.val < 16 := lt_of_lt_of_eq t.isLt N_4
  rw [← rd_of _ hj hk, ← rd_of _ (by omega) (by omega)]
  blk_simp [iblk4]
  refine congrArg (V c main_v0) (funext (Fin.forall_fin_two.mpr ⟨Fin.ext ?_, Fin.ext ?_⟩))
  · blk_simp [index4_2] <;> (show _ = 256 * t.val + j) <;> (try dsimp only) <;> omega
  · blk_simp [index4_2] <;> (show _ = k) <;> (try dsimp only) <;> omega

/-- Window 3's block of call 4 at a point, read in its array. -/
theorem block4_3 (c : Dev nD) (t : Fin cfg4.N) {j k : ℕ} (hj : j < 256) (hk : k < 2048) :
    rd (n0 := 256) (n1 := 2048) (iblk4 V c 3 t) j k = rd (n0 := 4096) (n1 := 6144) (V c main_v0) (256 * t.val + j) (2048 + k) := by
  have ht : t.val < 16 := lt_of_lt_of_eq t.isLt N_4
  rw [← rd_of _ hj hk, ← rd_of _ (by omega) (by omega)]
  blk_simp [iblk4]
  refine congrArg (V c main_v0) (funext (Fin.forall_fin_two.mpr ⟨Fin.ext ?_, Fin.ext ?_⟩))
  · blk_simp [index4_3] <;> (show _ = 256 * t.val + j) <;> (try dsimp only) <;> omega
  · blk_simp [index4_3] <;> (show _ = 2048 + k) <;> (try dsimp only) <;> omega

/-- Window 4's block of call 4 at a point, read in its array. -/
theorem block4_4 (c : Dev nD) (t : Fin cfg4.N) {j k : ℕ} (hj : j < 256) (hk : k < 2048) :
    rd (n0 := 256) (n1 := 2048) (iblk4 V c 4 t) j k = rd (n0 := 4096) (n1 := 6144) (V c main_v0) (256 * t.val + j) (4096 + k) := by
  have ht : t.val < 16 := lt_of_lt_of_eq t.isLt N_4
  rw [← rd_of _ hj hk, ← rd_of _ (by omega) (by omega)]
  blk_simp [iblk4]
  refine congrArg (V c main_v0) (funext (Fin.forall_fin_two.mpr ⟨Fin.ext ?_, Fin.ext ?_⟩))
  · blk_simp [index4_4] <;> (show _ = 256 * t.val + j) <;> (try dsimp only) <;> omega
  · blk_simp [index4_4] <;> (show _ = 4096 + k) <;> (try dsimp only) <;> omega

/-- Window 5's block of call 4 at a point, read in its array. -/
theorem block4_5 (c : Dev nD) (t : Fin cfg4.N) {j k : ℕ} (hj : j < 16) (hk : k < 2048) :
    rd (n0 := 16) (n1 := 2048) (iblk4 V c 5 t) j k = rd (n0 := 4096) (n1 := 6144) (V c main_v0) ((t.val * 16 - 1) * 16 + j) (2048 + k) := by
  have ht : t.val < 16 := lt_of_lt_of_eq t.isLt N_4
  rw [← rd_of _ hj hk, ← rd_of _ (by omega) (by omega)]
  blk_simp [iblk4]
  refine congrArg (V c main_v0) (funext (Fin.forall_fin_two.mpr ⟨Fin.ext ?_, Fin.ext ?_⟩))
  · blk_simp [index4_5] <;> (show _ = (t.val * 16 - 1) * 16 + j) <;> (try dsimp only) <;> omega
  · blk_simp [index4_5] <;> (show _ = 2048 + k) <;> (try dsimp only) <;> omega

/-- Window 6's block of call 4 at a point, read in its array. -/
theorem block4_6 (c : Dev nD) (t : Fin cfg4.N) {j k : ℕ} (hj : j < 16) (hk : k < 2048) :
    rd (n0 := 16) (n1 := 2048) (iblk4 V c 6 t) j k = rd (n0 := 4096) (n1 := 6144) (V c main_v0) ((t.val * 16 - 1) * 16 + j) (4096 + k) := by
  have ht : t.val < 16 := lt_of_lt_of_eq t.isLt N_4
  rw [← rd_of _ hj hk, ← rd_of _ (by omega) (by omega)]
  blk_simp [iblk4]
  refine congrArg (V c main_v0) (funext (Fin.forall_fin_two.mpr ⟨Fin.ext ?_, Fin.ext ?_⟩))
  · blk_simp [index4_6] <;> (show _ = (t.val * 16 - 1) * 16 + j) <;> (try dsimp only) <;> omega
  · blk_simp [index4_6] <;> (show _ = 4096 + k) <;> (try dsimp only) <;> omega

/-- Window 7's block of call 4 at a point, read in its array. -/
theorem block4_7 (c : Dev nD) (t : Fin cfg4.N) {j k : ℕ} (hj : j < 16) (hk : k < 2048) :
    rd (n0 := 16) (n1 := 2048) (iblk4 V c 7 t) j k = rd (n0 := 4096) (n1 := 6144) (V c main_v0) (min ((t.val + 1) * 16) 255 * 16 + j) k := by
  have ht : t.val < 16 := lt_of_lt_of_eq t.isLt N_4
  rw [← rd_of _ hj hk, ← rd_of _ (by omega) (by omega)]
  blk_simp [iblk4]
  refine congrArg (V c main_v0) (funext (Fin.forall_fin_two.mpr ⟨Fin.ext ?_, Fin.ext ?_⟩))
  · blk_simp [index4_7] <;> (show _ = min ((t.val + 1) * 16) 255 * 16 + j) <;> (try dsimp only) <;> omega
  · blk_simp [index4_7] <;> (show _ = k) <;> (try dsimp only) <;> omega

/-- Window 8's block of call 4 at a point, read in its array. -/
theorem block4_8 (c : Dev nD) (t : Fin cfg4.N) {j k : ℕ} (hj : j < 3) (hk : k < 2048) :
    rd (n0 := 3) (n1 := 2048) (iblk4 V c 8 t) j k = rd (n0 := 3) (n1 := 2048) (V c main_arg3) (0 + j) k := by
  have ht : t.val < 16 := lt_of_lt_of_eq t.isLt N_4
  rw [← rd_of _ hj hk, ← rd_of _ (by omega) (by omega)]
  blk_simp [iblk4]
  refine congrArg (V c main_arg3) (funext (Fin.forall_fin_two.mpr ⟨Fin.ext ?_, Fin.ext ?_⟩))
  · blk_simp [index4_8] <;> (show _ = 0 + j) <;> (try dsimp only) <;> omega
  · blk_simp [index4_8] <;> (show _ = k) <;> (try dsimp only) <;> omega

abbrev dyOf (c : Dev nD) : (⟨2, ![4096, 2048]⟩ : Shape).Idx → EReal := V c main_v2
abbrev uOf (c : Dev nD) : (⟨2, ![4096, 6144]⟩ : Shape).Idx → EReal := V c main_v0
abbrev wOf (c : Dev nD) : (⟨2, ![3, 2048]⟩ : Shape).Idx → EReal := V c main_arg3

/-- A tile's extended `gate_c * v` is the array's, shifted back within the sequence. -/
theorem ext_block (c : Dev nD) (t : Fin cfg4.N) {s j k : ℕ} (hs : s ≤ 2) (hj : j < 256) (hk : k < 2048) :
    ext (k4_pay5 (F := Ideal) (grid4.coords t)) (iblk4 V c 3 t) (iblk4 V c 4 t) (iblk4 V c 5 t) (iblk4 V c 6 t) (16 - s + j) k
      = gvBack (uOf V c) s (256 * t.val + j) k := by
  have ht : t.val < 16 := lt_of_lt_of_eq t.isLt N_4
  unfold ext gvBack gv
  by_cases h : 16 - s + j < 16
  · rw [if_pos h, block4_5 V c t h hk, block4_6 V c t h hk, pay5_eq, coords4]
    by_cases h0 : t.val % 8 = 0
    · rw [if_pos h0, if_neg (by omega), mul_zero]
    · rw [if_neg h0, if_pos (by omega), mul_one, show (t.val * 16 - 1) * 16 + (16 - s + j) = 256 * t.val + j - s by omega]
  · rw [if_neg h, if_pos (by omega), block4_3 V c t (by omega) hk, block4_4 V c t (by omega) hk,
      show 256 * t.val + (16 - s + j - 16) = 256 * t.val + j - s by omega]

/-- A tile's extended `dy * gate_b` is the array's, shifted ahead within the sequence. -/
theorem extd_block (c : Dev nD) (t : Fin cfg4.N) {s j k : ℕ} (hs : s ≤ 2) (hj : j < 256) (hk : k < 2048) :
    extd (k4_pay6 (F := Ideal) (grid4.coords t)) (iblk4 V c 0 t) (iblk4 V c 2 t) (iblk4 V c 1 t) (iblk4 V c 7 t) (j + s) k
      = gqAhead (dyOf V c) (uOf V c) s (256 * t.val + j) k := by
  have ht : t.val < 16 := lt_of_lt_of_eq t.isLt N_4
  unfold extd gqAhead gq
  by_cases h : j + s < 256
  · rw [if_pos h, block4_0 V c t h hk, block4_2 V c t h hk, if_pos (by omega), show 256 * t.val + j + s = 256 * t.val + (j + s) by omega]
  · rw [if_neg h, block4_1 V c t (by omega) hk, block4_7 V c t (by omega) hk, pay6_eq, coords4]
    by_cases h7 : t.val % 8 = 7
    · rw [if_pos h7, if_neg (by omega), mul_zero]
    · rw [if_neg h7, if_pos (by omega), mul_one, show min ((t.val + 1) * 16) 255 * 16 + (j + s - 256) = 256 * t.val + j + s by omega]

/-- What a tile stores of the gradient of the projected input is its rows of the array's. -/
theorem duBlock_eq (c : Dev nD) (t : Fin cfg4.N) {j k : ℕ} (hj : j < 256) (hk : k < 6144) :
    duBlock (k4_pay5 (F := Ideal) (grid4.coords t)) (k4_pay6 (F := Ideal) (grid4.coords t)) (iblk4 V c 0 t) (iblk4 V c 1 t) (iblk4 V c 2 t) (iblk4 V c 3 t)
      (iblk4 V c 4 t) (iblk4 V c 5 t) (iblk4 V c 6 t) (iblk4 V c 7 t) (iblk4 V c 8 t) j k
      = duArr (dyOf V c) (uOf V c) (wOf V c) (256 * t.val + j) k := by
  have hw : ∀ i k : ℕ, i < 3 → k < 2048 → rd (n0 := 3) (n1 := 2048) (iblk4 V c 8 t) i k = rd (wOf V c) i k := by
    intro i k hi hk
    rw [block4_8 V c t hi hk, Nat.zero_add]
  have e0 := fun {k : ℕ} (h : k < 2048) => extd_block V c t (s := 0) (by omega) hj h
  simp only [Nat.add_zero] at e0
  unfold duBlock duArr
  by_cases h1 : k < 2048
  · rw [if_pos h1, if_pos h1, block4_0 V c t hj h1, hw 0 k (by omega) h1, hw 1 k (by omega) h1, hw 2 k (by omega) h1,
      show 14 + j = 16 - 2 + j by omega, show 15 + j = 16 - 1 + j by omega, show 16 + j = 16 - 0 + j by omega,
      ext_block V c t (by omega) hj h1, ext_block V c t (by omega) hj h1, ext_block V c t (by omega) hj h1]
  · rw [if_neg h1, if_neg h1]
    by_cases h2 : k < 4096
    · have h3 : k - 2048 < 2048 := by omega
      rw [if_pos h2, if_pos h2, hw 0 _ (by omega) h3, hw 1 _ (by omega) h3, hw 2 _ (by omega) h3, block4_4 V c t hj h3,
        extd_block V c t (s := 2) (by omega) hj h3, extd_block V c t (s := 1) (by omega) hj h3,
        e0 h3]
    · have h3 : k - 4096 < 2048 := by omega
      rw [if_neg h2, if_neg h2, hw 0 _ (by omega) h3, hw 1 _ (by omega) h3, hw 2 _ (by omega) h3, block4_3 V c t hj h3,
        extd_block V c t (s := 2) (by omega) hj h3, extd_block V c t (s := 1) (by omega) hj h3,
        e0 h3]

/-- The sum a tile adds to the gradient of tap `k` is that of its rows. -/
theorem dwBlock_eq (c : Dev nD) (t : Fin cfg4.N) {k col : ℕ} (hk : k < 3) (hc : col < 2048) :
    dwBlock (k4_pay5 (F := Ideal) (grid4.coords t)) (iblk4 V c 0 t) (iblk4 V c 2 t) (iblk4 V c 3 t) (iblk4 V c 4 t) (iblk4 V c 5 t) (iblk4 V c 6 t) k col
      = ∑ j ∈ Finset.range 256, dwRow (dyOf V c) (uOf V c) k col (256 * t.val + j) := by
  rw [Finset.sum_range]
  refine Finset.sum_congr rfl fun j _ => ?_
  rw [block4_0 V c t j.isLt hc, block4_2 V c t j.isLt hc, show 14 + k + j.val = 16 - (2 - k) + j.val by omega, ext_block V c t (by omega) j.isLt hc]
  rfl

/-- The taps' gradient after a point: the sum over the rows of the tiles so far. -/
theorem acc_eq (c : Dev nD) : ∀ (n : ℕ) (hn : n < cfg4.N) (k : Fin 3) (col : Fin 2048),
    (outsAt4 V c n hn).2 (ix2 k col) = ∑ r ∈ Finset.range (256 * n + 256), dwRow (dyOf V c) (uOf V c) k col r := by
  intro n
  induction n with
  | zero =>
    intro hn k col
    have e := outsAt4_A V c ⟨0, hn⟩ rfl
    dsimp only at e
    rw [e]
    dsimp only
    rw [out10_A]
    show 0 + dwBlock _ _ _ _ _ _ _ k.val col.val = _
    rw [zero_add, dwBlock_eq V c ⟨0, hn⟩ k.isLt col.isLt]
    simp only [Nat.mul_zero, Nat.zero_add]
  | succ n ih =>
    intro hn k col
    have hN : n + 1 < 16 := lt_of_lt_of_eq hn N_4
    have e := outsAt4_B V c ⟨n + 1, hn⟩ (show ¬(n + 1) % 16 = 0 by omega)
    dsimp only at e
    rw [e]
    dsimp only
    rw [out10_B]
    show rd (n0 := 3) (n1 := 2048) (outsAt4 V c (n + 1 - 1) _).2 k.val col.val + dwBlock _ _ _ _ _ _ _ k.val col.val = _
    rw [← rd_ix2 (n0 := 3) (n1 := 2048) _ k col, dwBlock_eq V c ⟨n + 1, hn⟩ k.isLt col.isLt]
    have e1 := ih (by omega) k col
    simp only [Nat.add_sub_cancel]
    rw [e1, show 256 * (n + 1) = 256 * n + 256 by omega, Finset.sum_range_add _ (256 * n + 256) 256]

/-- What call 4 leaves in its first array: the gradient of the projected input. -/
theorem final4_9 (c : Dev nD) : (dat4 V c).arrAt 9 cfg4.N = fun y : S4096x6144.Idx => duArr (dyOf V c) (uOf V c) (wOf V c) (y 0).val (y 1).val := by
  refine (dat4 V c).arrAt_eq_of_covers 9 _ (by decide +kernel) fun t hf y => ?_
  have h0 : (y 0).val < 256 := (y 0).isLt
  have h1 : (y 1).val < 6144 := (y 1).isLt
  blk_simp [index4_9]
  rw [after4_9]
  obtain ⟨j, k, rfl⟩ : ∃ (j : Fin 256) (k : Fin 6144), y = ix2 j k := ⟨y 0, y 1, eq_ix2 y⟩
  have hO : (outsAt4 V c t.val t.isLt).1 (ix2 j k) = duArr (dyOf V c) (uOf V c) (wOf V c) (256 * t.val + j.val) k.val := by
    rw [← duBlock_eq V c t j.isLt k.isLt]
    by_cases h : t.val % 16 = 0
    · rw [outsAt4_A V c t h]
      dsimp only
      rw [out9_A]
      rfl
    · rw [outsAt4_B V c t h]
      dsimp only
      rw [out9_B]
      rfl
  rw [hO, Nat.mul_comm]
  rfl

/-- What call 4 leaves in its second array: the gradient of the taps. -/
theorem final4_10 (c : Dev nD) : (dat4 V c).arrAt 10 cfg4.N = fun y : S3x2048.Idx => dwArr (dyOf V c) (uOf V c) (y 0).val (y 1).val := by
  refine (dat4 V c).arrAt_eq_of_after_last 10 t4_15 (by decide +kernel) _ fun y => ?_
  blk_simp
  rw [after4_10]
  obtain ⟨j, k, rfl⟩ : ∃ (j : Fin 3) (k : Fin 2048), y = ix2 j k := ⟨y 0, y 1, eq_ix2 y⟩
  exact acc_eq V c 15 _ j k

end Cert.Sc

end
-- ==== Proof.ScReference.lean ====
module

public import proofs.«01_k».proof.Proof.MixReference
public import proofs.«01_k».proof.Proof.ScArrays
public import proofs.«01_k».proof.Proof.FfnBase
public import proofs.«01_k».proof.Proof.Gen.Reference4Ideal.Read

/-! The reference of the second layer's mixer, forward and backward, entry by entry. -/

@[expose] public section
noncomputable section
open Idealize.ShloMosaic Idealize.ShloMosaic.TcCoe Idealize.SL.Sem

namespace Cert.Sc
open Cert.Reference4Ideal Cert.Reference4Ideal.Read
open Cert.Mix (rd rd_of rd_ix2 gv gq gvBack gqAhead duArr dwRow dwArr host_sum_front sum_rows)
open Cert.Ffn (nn nt tn)

variable (x0 x1 : (⟨S4096x2048, .bf16⟩ : BufTy).Contents (Elt Ideal)) (x2 : (⟨S2048x6144, .bf16⟩ : BufTy).Contents (Elt Ideal))
  (x3 : (⟨S3x2048, .f32⟩ : BufTy).Contents (Elt Ideal)) (x4 : (⟨S2048x2048, .bf16⟩ : BufTy).Contents (Elt Ideal))

/-- The projected input. -/
def uF : (⟨2, ![4096, 6144]⟩ : Shape).Idx → EReal := fun y => nn 2048 (rd (n0 := 4096) (n1 := 2048) x0) (rd (n0 := 2048) (n1 := 6144) x2) (y 0).val (y 1).val

/-- The gradient at the mixer's output before its last product. -/
def dyF : (⟨2, ![4096, 2048]⟩ : Shape).Idx → EReal := fun y => nt 2048 (rd (n0 := 4096) (n1 := 2048) x1) (rd (n0 := 2048) (n1 := 2048) x4) (y 0).val (y 1).val

/-- The projected input as the reference computes it. -/
theorem refU (r : Fin 4096) (c : Fin 6144) : val_main_v4 (F := Ideal) x0 x2 (ix2 r c) = rd (uF x0 x2) r c := by
  rw [← rd_ix2 (uF x0 x2) r c]
  show _ = nn 2048 (rd (n0 := 4096) (n1 := 2048) x0) (rd (n0 := 2048) (n1 := 6144) x2) r c
  unfold nn
  pointwise [val_main_v4, val_main_v0, val_main_v2]
  simp only [rd_ix2]

/-- The gradient before the last product as the reference computes it. -/
theorem refDy (r : Fin 4096) (c : Fin 2048) : val_main_v38 (F := Ideal) x1 x4 (ix2 r c) = rd (dyF x1 x4) r c := by
  rw [← rd_ix2 (dyF x1 x4) r c]
  show _ = nt 2048 (rd (n0 := 4096) (n1 := 2048) x1) (rd (n0 := 2048) (n1 := 2048) x4) r c
  unfold nt
  pointwise [val_main_v38, val_main_v1, val_main_v3]
  simp only [rd_ix2]

/-- The gradient at the mixer's output as the reference holds it. -/
theorem ref39 (b : Fin 2) (s : Fin 2048) (c : Fin 2048) :
    val_main_v39 (F := Ideal) x1 x4 (ix3 b s c) = rd (dyF x1 x4) (b * 2048 + s) c := by
  pointwise [val_main_v39, refDy]

/-- The gate `gate_b` as the reference holds it. -/
theorem ref6 (b : Fin 2) (s : Fin 2048) (c : Fin 2048) :
    val_main_v6 (F := Ideal) x0 x2 (ix3 b s c) = rd (uF x0 x2) (b * 2048 + s) c := by
  pointwise [val_main_v6, val_main_v5, refU]

/-- The gate `gate_c`. -/
theorem ref7 (b : Fin 2) (s : Fin 2048) (c : Fin 2048) :
    val_main_v7 (F := Ideal) x0 x2 (ix3 b s c) = rd (uF x0 x2) (b * 2048 + s) (2048 + c) := by
  pointwise [val_main_v7, val_main_v5, refU]

/-- The value `v`. -/
theorem ref8 (b : Fin 2) (s : Fin 2048) (c : Fin 2048) :
    val_main_v8 (F := Ideal) x0 x2 (ix3 b s c) = rd (uF x0 x2) (b * 2048 + s) (4096 + c) := by
  pointwise [val_main_v8, val_main_v5, refU]

/-- The convolution's input with two rows of zeros in front. -/
theorem ref11 (b : Fin 2) (s : Fin 2050) (c : Fin 2048) :
    val_main_v11 (F := Ideal) x0 x2 (ix3 b s c) = if s.val < 2 then 0 else gv (uF x0 x2) (b * 2048 + (s - 2)) c := by
  pointwise [val_main_v11, val_main_v10, val_main_cst]
  by_cases h : s.val < 2
  · rw [dif_pos h, if_pos h]
  · rw [dif_neg h, if_neg h]
    pointwise [val_main_v9]
    rw [ref7, ref8]
    rfl

/-- The three shifts of it that the convolution weighs. -/
theorem ref15 (b : Fin 2) (s : Fin 2048) (c : Fin 2048) : val_main_v15 (F := Ideal) x0 x2 (ix3 b s c) = gvBack (uF x0 x2) 2 (b * 2048 + s) c := by
  have hs := s.isLt
  pointwise [val_main_v15]
  rw [ref11]
  unfold gvBack
  dsimp only
  split_ifs <;> first | rfl | (exfalso; omega) | (congr 1; omega)

theorem ref21 (b : Fin 2) (s : Fin 2048) (c : Fin 2048) : val_main_v21 (F := Ideal) x0 x2 (ix3 b s c) = gvBack (uF x0 x2) 1 (b * 2048 + s) c := by
  have hs := s.isLt
  pointwise [val_main_v21]
  rw [ref11]
  unfold gvBack
  dsimp only
  split_ifs <;> first | rfl | (exfalso; omega) | (congr 1; omega)

theorem ref28 (b : Fin 2) (s : Fin 2048) (c : Fin 2048) : val_main_v28 (F := Ideal) x0 x2 (ix3 b s c) = gvBack (uF x0 x2) 0 (b * 2048 + s) c := by
  have hs := s.isLt
  pointwise [val_main_v28]
  rw [ref11]
  unfold gvBack
  dsimp only
  split_ifs <;> first | rfl | (exfalso; omega) | (congr 1; omega)

/-- The taps, spread over the rows. -/
theorem ref17 (b : Fin 2) (s : Fin 2048) (c : Fin 2048) : val_main_v17 (F := Ideal) x3 (ix3 b s c) = rd (n0 := 3) (n1 := 2048) x3 0 c := by
  rw [← rd_of _ (by omega) c.isLt]
  pointwise [val_main_v17, val_main_v16, val_main_v14, val_main_v13]
theorem ref23 (b : Fin 2) (s : Fin 2048) (c : Fin 2048) : val_main_v23 (F := Ideal) x3 (ix3 b s c) = rd (n0 := 3) (n1 := 2048) x3 1 c := by
  rw [← rd_of _ (by omega) c.isLt]
  pointwise [val_main_v23, val_main_v22, val_main_v20, val_main_v19]
theorem ref30 (b : Fin 2) (s : Fin 2048) (c : Fin 2048) : val_main_v30 (F := Ideal) x3 (ix3 b s c) = rd (n0 := 3) (n1 := 2048) x3 2 c := by
  rw [← rd_of _ (by omega) c.isLt]
  pointwise [val_main_v30, val_main_v29, val_main_v27, val_main_v26]

/-- The gradient of `gate_b`. -/
theorem ref41 (b : Fin 2) (s : Fin 2048) (c : Fin 2048) :
    val_main_v41 (F := Ideal) x0 x1 x2 x3 x4 (ix3 b s c) = rd (n0 := 4096) (n1 := 2048) (dyF x1 x4) (b * 2048 + s) c
      * (rd (n0 := 3) (n1 := 2048) x3 0 c * gvBack (uF x0 x2) 2 (b * 2048 + s) c + rd (n0 := 3) (n1 := 2048) x3 1 c * gvBack (uF x0 x2) 1 (b * 2048 + s) c
        + rd (n0 := 3) (n1 := 2048) x3 2 c * gvBack (uF x0 x2) 0 (b * 2048 + s) c) := by
  pointwise [val_main_v41, val_main_v32, val_main_v25, val_main_v18, val_main_v24, val_main_v31]
  rw [ref39, ref15, ref17, ref21, ref23, ref28, ref30]

/-- The gradient of the convolution's output. -/
theorem ref40 (b : Fin 2) (s : Fin 2048) (c : Fin 2048) : val_main_v40 (F := Ideal) x0 x1 x2 x4 (ix3 b s c) = gq (dyF x1 x4) (uF x0 x2) (b * 2048 + s) c := by
  pointwise [val_main_v40]
  rw [ref39, ref6, mul_comm]
  rfl

/-- The gradient of the convolution's input. -/
theorem ref74 (b : Fin 2) (s : Fin 2048) (c : Fin 2048) :
    val_main_v74 (F := Ideal) x0 x1 x2 x3 x4 (ix3 b s c) = rd (n0 := 3) (n1 := 2048) x3 0 c * gqAhead (dyF x1 x4) (uF x0 x2) 2 (b * 2048 + s) c
      + rd (n0 := 3) (n1 := 2048) x3 1 c * gqAhead (dyF x1 x4) (uF x0 x2) 1 (b * 2048 + s) c + rd (n0 := 3) (n1 := 2048) x3 2 c * gqAhead (dyF x1 x4) (uF x0 x2) 0 (b * 2048 + s) c := by
  have hs := s.isLt
  have e42 : ∀ (b : Fin 2) (s : Fin 2048) (c : Fin 2048), val_main_v42 (F := Ideal) x3 (ix3 b s c) = rd (n0 := 3) (n1 := 2048) x3 2 c := ref30 x3
  have e51 : ∀ (b : Fin 2) (s : Fin 2048) (c : Fin 2048), val_main_v51 (F := Ideal) x3 (ix3 b s c) = rd (n0 := 3) (n1 := 2048) x3 1 c := ref23 x3
  have e62 : ∀ (b : Fin 2) (s : Fin 2048) (c : Fin 2048), val_main_v62 (F := Ideal) x3 (ix3 b s c) = rd (n0 := 3) (n1 := 2048) x3 0 c := ref17 x3
  pointwise [val_main_v74, val_main_v69, val_main_v68, val_main_v58, val_main_v57, val_main_v48, val_main_cst_3, val_main_cst_7, val_main_cst_11,
    val_main_v43, val_main_v52, val_main_v63]
  simp only [e42, e51, e62, ref40]
  have h0 : gqAhead (dyF x1 x4) (uF x0 x2) 0 (b * 2048 + s) c = gq (dyF x1 x4) (uF x0 x2) (b * 2048 + s) c := by
    unfold gqAhead
    rw [if_pos (by omega), Nat.add_zero]
  have h1 : (if h : 1 ≤ 2 + s.val ∧ 2 + s.val - 1 < 2048 then rd (n0 := 3) (n1 := 2048) x3 1 c * gq (dyF x1 x4) (uF x0 x2) (b * 2048 + (2 + s.val - 1)) c else 0)
      = rd (n0 := 3) (n1 := 2048) x3 1 c * gqAhead (dyF x1 x4) (uF x0 x2) 1 (b * 2048 + s) c := by
    unfold gqAhead
    by_cases h : s.val + 1 < 2048
    · rw [dif_pos (by omega), if_pos (by omega), show b.val * 2048 + (2 + s.val - 1) = b.val * 2048 + s.val + 1 by omega]
    · rw [dif_neg (by omega), if_neg (by omega), mul_zero]
  have h2 : (if h : 2 + s.val < 2048 then rd (n0 := 3) (n1 := 2048) x3 0 c * gq (dyF x1 x4) (uF x0 x2) (b * 2048 + (2 + s.val)) c else 0)
      = rd (n0 := 3) (n1 := 2048) x3 0 c * gqAhead (dyF x1 x4) (uF x0 x2) 2 (b * 2048 + s) c := by
    unfold gqAhead
    by_cases h : s.val + 2 < 2048
    · rw [dif_pos (by omega), if_pos (by omega), show b.val * 2048 + (2 + s.val) = b.val * 2048 + s.val + 2 by omega]
    · rw [dif_neg (by omega), if_neg (by omega), mul_zero]
  rw [h0, h1, h2]
  abel

/-- The gradient of the projected input, at an entry. -/
theorem ref85 (r : Fin 4096) (c : Fin 6144) : val_main_v85 (F := Ideal) x0 x1 x2 x3 x4 (ix2 r c) = duArr (dyF x1 x4) (uF x0 x2) x3 r c := by
  have hr := r.isLt
  have hc := c.isLt
  pointwise [val_main_v85, val_main_v82, val_main_v81, val_main_v80, val_main_v79, val_main_v78, val_main_v77, val_main_cst_13, val_main_cst_14, val_main_cst_15,
    val_main_v75, val_main_v76]
  simp only [ref41, ref74, ref7, ref8, show r.val / 2048 * 2048 + r.val % 2048 = r.val by omega]
  unfold duArr
  by_cases h1 : c.val < 2048
  · rw [dif_neg (by omega), dif_neg (by omega), dif_pos (by omega), if_pos h1, zero_add, zero_add]
  · by_cases h2 : c.val < 4096
    · rw [dif_neg (by omega), dif_pos (by omega), dif_neg (by omega), if_neg h1, if_pos h2, zero_add, add_zero]
    · rw [dif_pos (by omega), dif_neg (by omega), dif_neg (by omega), if_neg h1, if_neg h2, add_zero, add_zero, mul_comm]

/-- The gradient of tap 2: the sum over all rows. -/
theorem ref47 (c : Fin 2048) : val_main_v47 (F := Ideal) x0 x1 x2 x4 (ix1 c) = dwArr (dyF x1 x4) (uF x0 x2) 2 c := by
  pointwise [val_main_v47, val_main_v46, val_main_v45, val_main_cst_1, val_main_cst_2]
  rw [host_sum_front]
  pointwise
  rw [Fin.sum_univ_one, Fin.sum_univ_one, host_sum_front, zero_add]
  refine Eq.trans ?_ (sum_rows (dwRow (dyF x1 x4) (uF x0 x2) 2 c))
  refine Finset.sum_congr rfl fun b _ => Finset.sum_congr rfl fun s _ => ?_
  pointwise [val_main_v44]
  rw [ref40, ref28]
  rfl

/-- The gradient of tap 1: the sum over all rows. -/
theorem ref56 (c : Fin 2048) : val_main_v56 (F := Ideal) x0 x1 x2 x4 (ix1 c) = dwArr (dyF x1 x4) (uF x0 x2) 1 c := by
  pointwise [val_main_v56, val_main_v55, val_main_v54, val_main_cst_5, val_main_cst_6]
  rw [host_sum_front]
  pointwise
  rw [Fin.sum_univ_one, Fin.sum_univ_one, host_sum_front, zero_add]
  refine Eq.trans ?_ (sum_rows (dwRow (dyF x1 x4) (uF x0 x2) 1 c))
  refine Finset.sum_congr rfl fun b _ => Finset.sum_congr rfl fun s _ => ?_
  pointwise [val_main_v53]
  rw [ref40, ref21]
  rfl

/-- The gradient of tap 0: the sum over all rows. -/
theorem ref67 (c : Fin 2048) : val_main_v67 (F := Ideal) x0 x1 x2 x4 (ix1 c) = dwArr (dyF x1 x4) (uF x0 x2) 0 c := by
  pointwise [val_main_v67, val_main_v66, val_main_v65, val_main_cst_9, val_main_cst_10]
  rw [host_sum_front]
  pointwise
  rw [Fin.sum_univ_one, Fin.sum_univ_one, host_sum_front, zero_add]
  refine Eq.trans ?_ (sum_rows (dwRow (dyF x1 x4) (uF x0 x2) 0 c))
  refine Finset.sum_congr rfl fun b _ => Finset.sum_congr rfl fun s _ => ?_
  pointwise [val_main_v64]
  rw [ref40, ref15]
  rfl

/-- The gradient of the taps, at an entry. -/
theorem ref72 (k : Fin 3) (c : Fin 2048) : val_main_v72 (F := Ideal) x0 x1 x2 x4 (ix2 k c) = dwArr (dyF x1 x4) (uF x0 x2) k c := by
  have hk := k.isLt
  pointwise [val_main_v72, val_main_v71, val_main_v61, val_main_v60, val_main_v50, val_main_v70, val_main_v59, val_main_v49, val_main_cst_4, val_main_cst_8, val_main_cst_12]
  simp only [ref47, ref56, ref67]
  rcases (by omega : k.val = 0 ∨ k.val = 1 ∨ k.val = 2) with h | h | h
  · rw [dif_neg (by omega), dif_neg (by omega), dif_pos (by omega), zero_add, zero_add, h]
  · rw [dif_neg (by omega), dif_pos (by omega), dif_neg (by omega), zero_add, add_zero, h]
  · rw [dif_pos (by omega), dif_neg (by omega), dif_neg (by omega), add_zero, add_zero, h]

/-- The mixer's output before its last product. -/
theorem ref34 (r : Fin 4096) (c : Fin 2048) : val_main_v34 (F := Ideal) x0 x2 x3 (ix2 r c) = yArr (uF x0 x2) x3 r c := by
  have hr := r.isLt
  pointwise [val_main_v34, val_main_v33, val_main_v32, val_main_v25, val_main_v18, val_main_v24, val_main_v31]
  simp only [ref6, ref15, ref17, ref21, ref23, ref28, ref30, show r.val / 2048 * 2048 + r.val % 2048 = r.val by omega]
  rfl

/-- The gradient of the output weights. -/
theorem ref87 (r c : Fin 2048) : val_main_v87 (F := Ideal) x0 x1 x2 x3 (ix2 r c)
    = ∑ k : Fin 4096, yArr (uF x0 x2) x3 k r * rd (n0 := 4096) (n1 := 2048) x1 k c := by
  pointwise [val_main_v87, val_main_v37, val_main_v36, val_main_v1, ref34]
  simp only [rd_ix2, mul_comm]

/-- The gradient of the input weights. -/
theorem ref86 (r : Fin 2048) (c : Fin 6144) : val_main_v86 (F := Ideal) x0 x1 x2 x3 x4 (ix2 r c)
    = ∑ k : Fin 4096, rd (n0 := 4096) (n1 := 2048) x0 k r * duArr (dyF x1 x4) (uF x0 x2) x3 k c := by
  have h : ∀ k : Fin 4096, val_main_v82 (F := Ideal) x0 x1 x2 x3 x4 (ix2 k c) = duArr (dyF x1 x4) (uF x0 x2) x3 k c := fun k => ref85 x0 x1 x2 x3 x4 k c
  pointwise [val_main_v86, val_main_v84, val_main_v83, val_main_v0, h]
  simp only [rd_ix2, mul_comm]

end Cert.Sc

end
-- ==== Proof.ScRun.lean ====
module

public import proofs.«01_k».proof.Proof.ScMm
public import proofs.«01_k».proof.Proof.ScReference

/-! The six calls of the second layer's mixer run one after another: what each result array holds at the end, in terms of the arguments at launch. -/

@[expose] public section

set_option maxRecDepth 16384

noncomputable section

namespace Cert.Sc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen
open Cert.Mix (rd rd_of rd_ix2 duArr dwArr)

local notation "𝕄" => MT nD τ sig Unit (Elt Ideal) ℕ (UR sig nD τ) ℕ

variable (m : (ℓ : Loc nD τ sig) → Buf (Elt Ideal) ℓ) (ρ : Dev nD → PrngReg)

-- the launch theorem's conclusion is matched with the statement below by unfolding plain definitions
set_option backward.isDefEq.respectTransparency.types false in
/-- Every execution ends with each result array at the contents the last call leaves there; the arguments are as launched. -/
theorem run_ends : θ_run defs (onTc (τ := τ) (main (F := Ideal))) ⟨m, fun _ => 0, ρ⟩ (fun r => ∀ c : Dev nD,
      (r.2.mem ((c.tc : Thread nD τ).loc main_v4_0) = W6 m ρ c (Proc.devRef .tc main_v4_0)
      ∧ r.2.mem ((c.tc : Thread nD τ).loc main_v5) = W6 m ρ c (Proc.devRef .tc main_v5)
      ∧ r.2.mem ((c.tc : Thread nD τ).loc main_v4_1) = W6 m ρ c (Proc.devRef .tc main_v4_1)
      ∧ r.2.mem ((c.tc : Thread nD τ).loc main_v3) = W6 m ρ c (Proc.devRef .tc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨⟨h c _ (mem_uc main_v4_0 (by decide)), h c _ (mem_uc main_v5 (by decide)), h c _ (mem_uc main_v4_1 (by decide)), h c _ (mem_uc main_v3 (by decide))⟩,
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

/-! ## The arrays between the calls -/

/-- The five arguments at launch. -/
abbrev M0 (c : Dev nD) : (⟨S4096x2048, .bf16⟩ : BufTy).Contents (Elt Ideal) := m ((c.tc : Thread nD τ).loc main_arg0)
abbrev M1 (c : Dev nD) : (⟨S4096x2048, .bf16⟩ : BufTy).Contents (Elt Ideal) := m ((c.tc : Thread nD τ).loc main_arg1)
abbrev M2 (c : Dev nD) : (⟨S2048x6144, .bf16⟩ : BufTy).Contents (Elt Ideal) := m ((c.tc : Thread nD τ).loc main_arg2)
abbrev M3 (c : Dev nD) : (⟨S3x2048, .f32⟩ : BufTy).Contents (Elt Ideal) := m ((c.tc : Thread nD τ).loc main_arg3)
abbrev M4 (c : Dev nD) : (⟨S2048x2048, .bf16⟩ : BufTy).Contents (Elt Ideal) := m ((c.tc : Thread nD τ).loc main_arg4)

theorem V1_arg3 (c : Dev nD) : V1 m ρ c main_arg3 = m ((c.tc : Thread nD τ).loc main_arg3) := W1_args m ρ c main_arg3 (by decide)
theorem V2_arg1 (c : Dev nD) : V2 m ρ c main_arg1 = m ((c.tc : Thread nD τ).loc main_arg1) := W2_args m ρ c main_arg1 (by decide)
theorem V2_arg4 (c : Dev nD) : V2 m ρ c main_arg4 = m ((c.tc : Thread nD τ).loc main_arg4) := W2_args m ρ c main_arg4 (by decide)
theorem V3_arg1 (c : Dev nD) : V3 m ρ c main_arg1 = m ((c.tc : Thread nD τ).loc main_arg1) := W3_args m ρ c main_arg1 (by decide)
theorem V4_arg3 (c : Dev nD) : V4 m ρ c main_arg3 = m ((c.tc : Thread nD τ).loc main_arg3) := W4_args m ρ c main_arg3 (by decide)
theorem V5_arg0 (c : Dev nD) : V5 m ρ c main_arg0 = m ((c.tc : Thread nD τ).loc main_arg0) := W5_args m ρ c main_arg0 (by decide)
theorem V2_v0 (c : Dev nD) : V2 m ρ c main_v0 = V1 m ρ c main_v0 := W2_of m ρ c main_v0 (by decide +kernel)
theorem V3_v0 (c : Dev nD) : V3 m ρ c main_v0 = V2 m ρ c main_v0 := W3_of m ρ c main_v0 (by decide +kernel)
theorem V4_v0 (c : Dev nD) : V4 m ρ c main_v0 = V3 m ρ c main_v0 := W4_of m ρ c main_v0 (by decide +kernel)
theorem V3_v1 (c : Dev nD) : V3 m ρ c main_v1 = V2 m ρ c main_v1 := W3_of m ρ c main_v1 (by decide +kernel)
theorem V4_v2 (c : Dev nD) : V4 m ρ c main_v2 = V3 m ρ c main_v2 := W4_of m ρ c main_v2 (by decide +kernel)
theorem V5_v3 (c : Dev nD) : V5 m ρ c main_v3 = V4 m ρ c main_v3 := W5_of m ρ c main_v3 (by decide +kernel)
theorem V6_v3 (c : Dev nD) : V6 m ρ c main_v3 = V5 m ρ c main_v3 := W6_of m ρ c main_v3 (by decide +kernel)
theorem V6_v4_0 (c : Dev nD) : V6 m ρ c main_v4_0 = V5 m ρ c main_v4_0 := W6_of m ρ c main_v4_0 (by decide +kernel)
theorem V6_v4_1 (c : Dev nD) : V6 m ρ c main_v4_1 = V5 m ρ c main_v4_1 := W6_of m ρ c main_v4_1 (by decide +kernel)

/-- After the first call: the projected input. -/
theorem V1_v0 (c : Dev nD) : V1 m ρ c main_v0 = uF (M0 m c) (M2 m c) := (hF0 m ρ c 2).symm.trans (final0 (V0 m ρ) c)

/-- After the second call: the short convolution's output. -/
theorem V2_v1 (c : Dev nD) : V2 m ρ c main_v1 = fun y : S4096x2048.Idx => yArr (uF (M0 m c) (M2 m c)) (M3 m c) (y 0).val (y 1).val := by
  refine (hF1 m ρ c 6).symm.trans ((final1 (V1 m ρ) c).trans ?_)
  rw [V1_v0, V1_arg3]

/-- After the third call: the gradient before the last product. -/
theorem V3_v2 (c : Dev nD) : V3 m ρ c main_v2 = dyF (M1 m c) (M4 m c) := by
  refine (hF2 m ρ c 2).symm.trans ((final2 (V2 m ρ) c).trans ?_)
  rw [V2_arg1, V2_arg4]
  rfl

/-- The gradient of the output weights, at the end of the run. -/
theorem end_v3 (c : Dev nD) : W6 m ρ c (Proc.devRef .tc main_v3) = fun y : S2048x2048.Idx =>
    ∑ k : Fin 4096, yArr (uF (M0 m c) (M2 m c)) (M3 m c) k (y 0).val * rd (n0 := 4096) (n1 := 2048) (M1 m c) k (y 1).val := by
  refine (V6_v3 m ρ c).trans ((V5_v3 m ρ c).trans ((hF3 m ρ c 2).symm.trans ((final3 (V3 m ρ) c).trans (funext fun y => ?_))))
  rw [V3_v1, V2_v1, V3_arg1]
  exact Finset.sum_congr rfl fun k _ => congrArg (· * _)
    (rd_of (n0 := 4096) (n1 := 2048) (fun y => yArr (uF (M0 m c) (M2 m c)) (M3 m c) (y 0).val (y 1).val) k.isLt (y 0).isLt).symm

theorem V4_v0' (c : Dev nD) : V4 m ρ c main_v0 = uF (M0 m c) (M2 m c) :=
  (V4_v0 m ρ c).trans ((V3_v0 m ρ c).trans ((V2_v0 m ρ c).trans (V1_v0 m ρ c)))
theorem V4_v2' (c : Dev nD) : V4 m ρ c main_v2 = dyF (M1 m c) (M4 m c) := (V4_v2 m ρ c).trans (V3_v2 m ρ c)

/-- After the fifth call: the gradient of the projected input. -/
theorem V5_v4_0 (c : Dev nD) : V5 m ρ c main_v4_0 = fun y : S4096x6144.Idx =>
    duArr (dyF (M1 m c) (M4 m c)) (uF (M0 m c) (M2 m c)) (M3 m c) (y 0).val (y 1).val := by
  refine (hF4 m ρ c 9).symm.trans ((final4_9 (V4 m ρ) c).trans ?_)
  unfold dyOf uOf wOf
  rw [V4_v0', V4_v2', V4_arg3]

/-- The gradient of the projected input, at the end of the run. -/
theorem end_v4_0 (c : Dev nD) : W6 m ρ c (Proc.devRef .tc main_v4_0) = fun y : S4096x6144.Idx =>
    duArr (dyF (M1 m c) (M4 m c)) (uF (M0 m c) (M2 m c)) (M3 m c) (y 0).val (y 1).val := (V6_v4_0 m ρ c).trans (V5_v4_0 m ρ c)

/-- The gradient of the taps, at the end of the run. -/
theorem end_v4_1 (c : Dev nD) : W6 m ρ c (Proc.devRef .tc main_v4_1) = fun y : S3x2048.Idx =>
    dwArr (dyF (M1 m c) (M4 m c)) (uF (M0 m c) (M2 m c)) (y 0).val (y 1).val := by
  refine (V6_v4_1 m ρ c).trans ((hF4 m ρ c 10).symm.trans ((final4_10 (V4 m ρ) c).trans ?_))
  unfold dyOf uOf
  rw [V4_v0', V4_v2']

/-- The gradient of the input weights, at the end of the run. -/
theorem end_v5 (c : Dev nD) : W6 m ρ c (Proc.devRef .tc main_v5) = fun y : S2048x6144.Idx =>
    ∑ k : Fin 4096, rd (n0 := 4096) (n1 := 2048) (M0 m c) k (y 0).val * duArr (dyF (M1 m c) (M4 m c)) (uF (M0 m c) (M2 m c)) (M3 m c) k (y 1).val := by
  refine (hF5 m ρ c 2).symm.trans ((final5 (V5 m ρ) c).trans (funext fun y => ?_))
  rw [V5_arg0, V5_v4_0]
  exact Finset.sum_congr rfl fun k _ => congrArg (_ * ·)
    (rd_of (n0 := 4096) (n1 := 6144) (fun y => duArr (dyF (M1 m c) (M4 m c)) (uF (M0 m c) (M2 m c)) (M3 m c) (y 0).val (y 1).val) k.isLt (y 1).isLt).symm

end Cert.Sc

end
-- ==== Proof.ScClaim.lean ====
module

public import proofs.«01_k».proof.Proof.ScRun
public import proofs.«01_k».proof.Proof.Gen.Reference4Ideal.Run

/-! The claims about the second layer's mixer. -/

@[expose] public section

noncomputable section

namespace Cert.Sc

open Idealize.ShloMosaic Idealize.SL.Sem

/-- The reference of the second layer's mixer runs, keeps its arguments and leaves no semaphore counted. -/
theorem quiescent_reference4 : quiescent_Reference4Ideal (hReference4Ideal := Cert.Reference4Ideal.Gen.facts) :=
  fun m ρ _ => (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

/-- Over the reals the six launches and the reference give the same four gradients of the second layer's mixer. -/
theorem algebraic4 : algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Gen.W6 m g c (Proc.devRef .tc Cert.Kernel4Ideal.main_v4_0), fun c => Cert.Kernel4Ideal.Gen.W6 m g c (Proc.devRef .tc Cert.Kernel4Ideal.main_v5),
    fun c => Cert.Kernel4Ideal.Gen.W6 m g c (Proc.devRef .tc Cert.Kernel4Ideal.main_v4_1), fun c => Cert.Kernel4Ideal.Gen.W6 m g c (Proc.devRef .tc Cert.Kernel4Ideal.main_v3),
    (θ_run Cert.Kernel4Ideal.defs _ _).mono (fun r h c => ⟨(h c).1.1, (h c).1.2.1, (h c).1.2.2.1, (h c).1.2.2.2, (h c).2⟩) (run_ends m g), ?_⟩
  refine (θ_run Cert.Reference4Ideal.defs _ _).mono (fun r h c => ?_) (Cert.Reference4Ideal.Value.run (F := Ideal) m' g')
  obtain ⟨a0, a1, a2, a3, a4⟩ := hargs c
  refine ⟨(h c).1.trans ?_, (h c).2.1.trans ?_, (h c).2.2.1.trans ?_, (h c).2.2.2.1.trans ?_, (h c).2.2.2.2⟩
  · rw [Cert.Reference4Ideal.Read.val_main_v85_eq, a0, a1, a2, a3, a4]
    refine Eq.trans (funext fun y => ?_) (end_v4_0 m g c).symm
    exact (congrArg _ (eq_ix2 y)).trans (ref85 _ _ _ _ _ (y 0) (y 1))
  · rw [Cert.Reference4Ideal.Read.val_main_v86_eq, a0, a1, a2, a3, a4]
    refine Eq.trans (funext fun y => ?_) (end_v5 m g c).symm
    exact (congrArg _ (eq_ix2 y)).trans (ref86 _ _ _ _ _ (y 0) (y 1))
  · rw [Cert.Reference4Ideal.Read.val_main_v72_eq, a0, a1, a2, a4]
    refine Eq.trans (funext fun y => ?_) (end_v4_1 m g c).symm
    exact (congrArg _ (eq_ix2 y)).trans (ref72 _ _ _ _ (y 0) (y 1))
  · rw [Cert.Reference4Ideal.Read.val_main_v87_eq, a0, a1, a2, a3]
    refine Eq.trans (funext fun y => ?_) (end_v3 m g c).symm
    exact (congrArg _ (eq_ix2 y)).trans (ref87 _ _ _ _ (y 0) (y 1))

end Cert.Sc

end
-- ==== Proof.FirstMm.lean ====
module

public import proofs.«01_k».proof.Proof.FfnBase
public import proofs.«01_k».proof.Proof.MixBlock
public import Idealize.ShloMosaic.Lib.Pipeline.ValueKit
public import proofs.«01_k».proof.Proof.Gen.Kernel5Ideal.Frame

/-! What each of the five matrix products of the first layer's mixer leaves in its result array. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)

namespace Cert.First
open Cert.Kernel5Ideal Cert.Kernel5Ideal.Gen

variable (V : (c : Dev nD) → (b : Ref sig .tc) → Buf (Elt Ideal) ((c : Thread nD τ).loc b))

/-- The projected input: a block's store, entry by entry. -/
theorem pay0 (x0 : FVec Ideal S1024x2048 .bf16) (x1 : FVec Ideal S2048x1024 .bf16) (r : Fin 1024) (c : Fin 1024) :
    k0_pay1 (F := Ideal) x0 x1 (ix2 r c) = nn 2048 (rd x0) (rd x1) r c := by
  unfold nn
  pointwise [k0_pay1]
  simp only [rd_ix2]

theorem index0_0 : ∀ t : Fin cfg0.N, win0_0.index t = ![t.val / 3, 0] :=
  (by decide +kernel : ∀ t : Fin grid0.N, win0_0.index t = ![t.val / 3, 0])

/-- Window 0's block of call 0 at a point, read in its array. -/
theorem block0_0 (c : Dev nD) (t : Fin cfg0.N) {j k : ℕ} (hj : j < 1024) (hk : k < 2048) :
    rd (n0 := 1024) (n1 := 2048) (iblk0 V c 0 t) j k = rd (n0 := 4096) (n1 := 2048) (V c main_arg0) (t.val / 3 * 1024 + j) (k) := by
  have ht : t.val < 12 := lt_of_lt_of_eq t.isLt N_0
  rw [← rd_of _ hj hk, ← rd_of _ (by omega) (by omega)]
  blk_simp [iblk0]
  refine congrArg (V c main_arg0) (funext (Fin.forall_fin_two.mpr ⟨Fin.ext ?_, Fin.ext ?_⟩))
  · blk_simp [index0_0] <;> (show _ = t.val / 3 * 1024 + j) <;> (try dsimp only) <;> omega
  · blk_simp [index0_0] <;> (show _ = k) <;> (try dsimp only) <;> omega

theorem index0_1 : ∀ t : Fin cfg0.N, win0_1.index t = ![0, t.val % 3] :=
  (by decide +kernel : ∀ t : Fin grid0.N, win0_1.index t = ![0, t.val % 3])

/-- Window 1's block of call 0 at a point, read in its array. -/
theorem block0_1 (c : Dev nD) (t : Fin cfg0.N) {j k : ℕ} (hj : j < 2048) (hk : k < 1024) :
    rd (n0 := 2048) (n1 := 1024) (iblk0 V c 1 t) j k = rd (n0 := 2048) (n1 := 3072) (V c main_arg1) (j) (t.val % 3 * 1024 + k) := by
  have ht : t.val < 12 := lt_of_lt_of_eq t.isLt N_0
  rw [← rd_of _ hj hk, ← rd_of _ (by omega) (by omega)]
  blk_simp [iblk0]
  refine congrArg (V c main_arg1) (funext (Fin.forall_fin_two.mpr ⟨Fin.ext ?_, Fin.ext ?_⟩))
  · blk_simp [index0_1] <;> (show _ = j) <;> (try dsimp only) <;> omega
  · blk_simp [index0_1] <;> (show _ = t.val % 3 * 1024 + k) <;> (try dsimp only) <;> omega

theorem index0_2 : ∀ t : Fin cfg0.N, win0_2.index t = ![t.val / 3, t.val % 3] :=
  (by decide +kernel : ∀ t : Fin grid0.N, win0_2.index t = ![t.val / 3, t.val % 3])

/-- The projected input, as call 0 stores a block of it. -/
theorem out0_2_apply (x0 : FVec Ideal S1024x2048 .bf16) (x1 : FVec Ideal S2048x1024 .bf16) (j : Fin 1024) (k : Fin 1024) :
    out0_2 (F := Ideal) x0 x1 (ix2 j k) = nn 2048 (rd x0) (rd x1) j k := by
  unfold out0_2
  rw [View.canon_unit_zero hz]
  simp only [View.ld_unit_zero (S := S1024x2048) hz, View.ld_unit_zero (S := S2048x1024) hz]
  exact pay0 _ _ j k

/-- The projected input: what call 0 leaves in the whole array. -/
theorem final0 (c : Dev nD) : (dat0 V c).arrAt 2 cfg0.N = fun y : S4096x3072.Idx =>
    nn 2048 (rd (n0 := 4096) (n1 := 2048) (V c main_arg0)) (rd (n0 := 2048) (n1 := 3072) (V c main_arg1)) (y 0).val (y 1).val := by
  refine (dat0 V c).arrAt_eq_of_covers 2 _ (by decide +kernel) fun t hf y => ?_
  have ht : t.val < 12 := lt_of_lt_of_eq t.isLt N_0
  have h0 : (y 0).val < 1024 := (y 0).isLt
  have h1 : (y 1).val < 1024 := (y 1).isLt
  blk_simp [index0_2]
  rw [after0_2]
  obtain ⟨j, k, rfl⟩ : ∃ (j : Fin 1024) (k : Fin 1024), y = ix2 j k := ⟨y 0, y 1, eq_ix2 y⟩
  refine (out0_2_apply _ _ j k).trans ?_
  rw [nn_congr (fun k_ hk => block0_0 V c t j.isLt hk) (fun k_ hk => block0_1 V c t hk k.isLt)]
  rfl

/-- The residual plus the projected output: a block's store, entry by entry. -/
theorem pay1 (x0 : FVec Ideal S1024x2048 .bf16) (x1 : FVec Ideal S2048x1024 .bf16) (x2 : FVec Ideal S1024x1024 .f32) (r : Fin 1024) (c : Fin 1024) :
    k1_pay1 (F := Ideal) x0 x1 x2 (ix2 r c) = (rd x2) r c + nn 2048 (rd x0) (rd x1) r c := by
  unfold nn
  pointwise [k1_pay1]
  simp only [rd_ix2]

theorem index1_0 : ∀ t : Fin cfg1.N, win1_0.index t = ![t.val / 2, 0] :=
  (by decide +kernel : ∀ t : Fin grid1.N, win1_0.index t = ![t.val / 2, 0])

/-- Window 0's block of call 1 at a point, read in its array. -/
theorem block1_0 (c : Dev nD) (t : Fin cfg1.N) {j k : ℕ} (hj : j < 1024) (hk : k < 2048) :
    rd (n0 := 1024) (n1 := 2048) (iblk1 V c 0 t) j k = rd (n0 := 4096) (n1 := 2048) (V c main_arg2) (t.val / 2 * 1024 + j) (k) := by
  have ht : t.val < 8 := lt_of_lt_of_eq t.isLt N_1
  rw [← rd_of _ hj hk, ← rd_of _ (by omega) (by omega)]
  blk_simp [iblk1]
  refine congrArg (V c main_arg2) (funext (Fin.forall_fin_two.mpr ⟨Fin.ext ?_, Fin.ext ?_⟩))
  · blk_simp [index1_0] <;> (show _ = t.val / 2 * 1024 + j) <;> (try dsimp only) <;> omega
  · blk_simp [index1_0] <;> (show _ = k) <;> (try dsimp only) <;> omega

theorem index1_1 : ∀ t : Fin cfg1.N, win1_1.index t = ![0, t.val % 2] :=
  (by decide +kernel : ∀ t : Fin grid1.N, win1_1.index t = ![0, t.val % 2])

/-- Window 1's block of call 1 at a point, read in its array. -/
theorem block1_1 (c : Dev nD) (t : Fin cfg1.N) {j k : ℕ} (hj : j < 2048) (hk : k < 1024) :
    rd (n0 := 2048) (n1 := 1024) (iblk1 V c 1 t) j k = rd (n0 := 2048) (n1 := 2048) (V c main_arg3) (j) (t.val % 2 * 1024 + k) := by
  have ht : t.val < 8 := lt_of_lt_of_eq t.isLt N_1
  rw [← rd_of _ hj hk, ← rd_of _ (by omega) (by omega)]
  blk_simp [iblk1]
  refine congrArg (V c main_arg3) (funext (Fin.forall_fin_two.mpr ⟨Fin.ext ?_, Fin.ext ?_⟩))
  · blk_simp [index1_1] <;> (show _ = j) <;> (try dsimp only) <;> omega
  · blk_simp [index1_1] <;> (show _ = t.val % 2 * 1024 + k) <;> (try dsimp only) <;> omega

theorem index1_2 : ∀ t : Fin cfg1.N, win1_2.index t = ![t.val / 2, t.val % 2] :=
  (by decide +kernel : ∀ t : Fin grid1.N, win1_2.index t = ![t.val / 2, t.val % 2])

/-- Window 2's block of call 1 at a point, read in its array. -/
theorem block1_2 (c : Dev nD) (t : Fin cfg1.N) {j k : ℕ} (hj : j < 1024) (hk : k < 1024) :
    rd (n0 := 1024) (n1 := 1024) (iblk1 V c 2 t) j k = rd (n0 := 4096) (n1 := 2048) (V c main_arg4) (t.val / 2 * 1024 + j) (t.val % 2 * 1024 + k) := by
  have ht : t.val < 8 := lt_of_lt_of_eq t.isLt N_1
  rw [← rd_of _ hj hk, ← rd_of _ (by omega) (by omega)]
  blk_simp [iblk1]
  refine congrArg (V c main_arg4) (funext (Fin.forall_fin_two.mpr ⟨Fin.ext ?_, Fin.ext ?_⟩))
  · blk_simp [index1_2] <;> (show _ = t.val / 2 * 1024 + j) <;> (try dsimp only) <;> omega
  · blk_simp [index1_2] <;> (show _ = t.val % 2 * 1024 + k) <;> (try dsimp only) <;> omega

theorem index1_3 : ∀ t : Fin cfg1.N, win1_3.index t = ![t.val / 2, t.val % 2] :=
  (by decide +kernel : ∀ t : Fin grid1.N, win1_3.index t = ![t.val / 2, t.val % 2])

/-- The residual plus the projected output, as call 1 stores a block of it. -/
theorem out1_3_apply (x0 : FVec Ideal S1024x2048 .bf16) (x1 : FVec Ideal S2048x1024 .bf16) (x2 : FVec Ideal S1024x1024 .f32) (j : Fin 1024) (k : Fin 1024) :
    out1_3 (F := Ideal) x0 x1 x2 (ix2 j k) = (rd x2) j k + nn 2048 (rd x0) (rd x1) j k := by
  unfold out1_3
  rw [View.canon_unit_zero hz]
  simp only [View.ld_unit_zero (S := S1024x1024) hz, View.ld_unit_zero (S := S1024x2048) hz, View.ld_unit_zero (S := S2048x1024) hz]
  exact pay1 _ _ _ j k

/-- The residual plus the projected output: what call 1 leaves in the whole array. -/
theorem final1 (c : Dev nD) : (dat1 V c).arrAt 3 cfg1.N = fun y : S4096x2048.Idx =>
    (rd (n0 := 4096) (n1 := 2048) (V c main_arg4)) (y 0).val (y 1).val + nn 2048 (rd (n0 := 4096) (n1 := 2048) (V c main_arg2)) (rd (n0 := 2048) (n1 := 2048) (V c main_arg3)) (y 0).val (y 1).val := by
  refine (dat1 V c).arrAt_eq_of_covers 3 _ (by decide +kernel) fun t hf y => ?_
  have ht : t.val < 8 := lt_of_lt_of_eq t.isLt N_1
  have h0 : (y 0).val < 1024 := (y 0).isLt
  have h1 : (y 1).val < 1024 := (y 1).isLt
  blk_simp [index1_3]
  rw [after1_3]
  obtain ⟨j, k, rfl⟩ : ∃ (j : Fin 1024) (k : Fin 1024), y = ix2 j k := ⟨y 0, y 1, eq_ix2 y⟩
  refine (out1_3_apply _ _ _ j k).trans ?_
  rw [nn_congr (fun k_ hk => block1_0 V c t j.isLt hk) (fun k_ hk => block1_1 V c t hk k.isLt), block1_2 V c t j.isLt k.isLt]
  rfl

/-- The gradient at the mixer's output: a block's store, entry by entry. -/
theorem pay2 (x0 : FVec Ideal S1024x2048 .bf16) (x1 : FVec Ideal S1024x2048 .bf16) (r : Fin 1024) (c : Fin 1024) :
    k2_pay1 (F := Ideal) x0 x1 (ix2 r c) = nt 2048 (rd x0) (rd x1) r c := by
  unfold nt
  pointwise [k2_pay1]
  simp only [rd_ix2]

theorem index2_0 : ∀ t : Fin cfg2.N, win2_0.index t = ![t.val / 2, 0] :=
  (by decide +kernel : ∀ t : Fin grid2.N, win2_0.index t = ![t.val / 2, 0])

/-- Window 0's block of call 2 at a point, read in its array. -/
theorem block2_0 (c : Dev nD) (t : Fin cfg2.N) {j k : ℕ} (hj : j < 1024) (hk : k < 2048) :
    rd (n0 := 1024) (n1 := 2048) (iblk2 V c 0 t) j k = rd (n0 := 4096) (n1 := 2048) (V c main_arg5) (t.val / 2 * 1024 + j) (k) := by
  have ht : t.val < 8 := lt_of_lt_of_eq t.isLt N_2
  rw [← rd_of _ hj hk, ← rd_of _ (by omega) (by omega)]
  blk_simp [iblk2]
  refine congrArg (V c main_arg5) (funext (Fin.forall_fin_two.mpr ⟨Fin.ext ?_, Fin.ext ?_⟩))
  · blk_simp [index2_0] <;> (show _ = t.val / 2 * 1024 + j) <;> (try dsimp only) <;> omega
  · blk_simp [index2_0] <;> (show _ = k) <;> (try dsimp only) <;> omega

theorem index2_1 : ∀ t : Fin cfg2.N, win2_1.index t = ![t.val % 2, 0] :=
  (by decide +kernel : ∀ t : Fin grid2.N, win2_1.index t = ![t.val % 2, 0])

/-- Window 1's block of call 2 at a point, read in its array. -/
theorem block2_1 (c : Dev nD) (t : Fin cfg2.N) {j k : ℕ} (hj : j < 1024) (hk : k < 2048) :
    rd (n0 := 1024) (n1 := 2048) (iblk2 V c 1 t) j k = rd (n0 := 2048) (n1 := 2048) (V c main_arg3) (t.val % 2 * 1024 + j) (k) := by
  have ht : t.val < 8 := lt_of_lt_of_eq t.isLt N_2
  rw [← rd_of _ hj hk, ← rd_of _ (by omega) (by omega)]
  blk_simp [iblk2]
  refine congrArg (V c main_arg3) (funext (Fin.forall_fin_two.mpr ⟨Fin.ext ?_, Fin.ext ?_⟩))
  · blk_simp [index2_1] <;> (show _ = t.val % 2 * 1024 + j) <;> (try dsimp only) <;> omega
  · blk_simp [index2_1] <;> (show _ = k) <;> (try dsimp only) <;> omega

theorem index2_2 : ∀ t : Fin cfg2.N, win2_2.index t = ![t.val / 2, t.val % 2] :=
  (by decide +kernel : ∀ t : Fin grid2.N, win2_2.index t = ![t.val / 2, t.val % 2])

/-- The gradient at the mixer's output, as call 2 stores a block of it. -/
theorem out2_2_apply (x0 : FVec Ideal S1024x2048 .bf16) (x1 : FVec Ideal S1024x2048 .bf16) (j : Fin 1024) (k : Fin 1024) :
    out2_2 (F := Ideal) x0 x1 (ix2 j k) = nt 2048 (rd x0) (rd x1) j k := by
  unfold out2_2
  rw [View.canon_unit_zero hz]
  simp only [View.ld_unit_zero (S := S1024x2048) hz]
  exact pay2 _ _ j k

/-- The gradient at the mixer's output: what call 2 leaves in the whole array. -/
theorem final2 (c : Dev nD) : (dat2 V c).arrAt 2 cfg2.N = fun y : S4096x2048.Idx =>
    nt 2048 (rd (n0 := 4096) (n1 := 2048) (V c main_arg5)) (rd (n0 := 2048) (n1 := 2048) (V c main_arg3)) (y 0).val (y 1).val := by
  refine (dat2 V c).arrAt_eq_of_covers 2 _ (by decide +kernel) fun t hf y => ?_
  have ht : t.val < 8 := lt_of_lt_of_eq t.isLt N_2
  have h0 : (y 0).val < 1024 := (y 0).isLt
  have h1 : (y 1).val < 1024 := (y 1).isLt
  blk_simp [index2_2]
  rw [after2_2]
  obtain ⟨j, k, rfl⟩ : ∃ (j : Fin 1024) (k : Fin 1024), y = ix2 j k := ⟨y 0, y 1, eq_ix2 y⟩
  refine (out2_2_apply _ _ j k).trans ?_
  rw [nt_congr (fun k_ hk => block2_0 V c t j.isLt hk) (fun k_ hk => block2_1 V c t k.isLt hk)]
  rfl

/-- The gradient of the output weights: a block's store, entry by entry. -/
theorem pay3 (x0 : FVec Ideal S4096x1024 .bf16) (x1 : FVec Ideal S4096x1024 .bf16) (r : Fin 1024) (c : Fin 1024) :
    k3_pay1 (F := Ideal) x0 x1 (ix2 r c) = tn 4096 (rd x0) (rd x1) r c := by
  unfold tn
  pointwise [k3_pay1]
  simp only [rd_ix2]

theorem index3_0 : ∀ t : Fin cfg3.N, win3_0.index t = ![0, t.val / 2] :=
  (by decide +kernel : ∀ t : Fin grid3.N, win3_0.index t = ![0, t.val / 2])

/-- Window 0's block of call 3 at a point, read in its array. -/
theorem block3_0 (c : Dev nD) (t : Fin cfg3.N) {j k : ℕ} (hj : j < 4096) (hk : k < 1024) :
    rd (n0 := 4096) (n1 := 1024) (iblk3 V c 0 t) j k = rd (n0 := 4096) (n1 := 2048) (V c main_arg2) (j) (t.val / 2 * 1024 + k) := by
  have ht : t.val < 4 := lt_of_lt_of_eq t.isLt N_3
  rw [← rd_of _ hj hk, ← rd_of _ (by omega) (by omega)]
  blk_simp [iblk3]
  refine congrArg (V c main_arg2) (funext (Fin.forall_fin_two.mpr ⟨Fin.ext ?_, Fin.ext ?_⟩))
  · blk_simp [index3_0] <;> (show _ = j) <;> (try dsimp only) <;> omega
  · blk_simp [index3_0] <;> (show _ = t.val / 2 * 1024 + k) <;> (try dsimp only) <;> omega

theorem index3_1 : ∀ t : Fin cfg3.N, win3_1.index t = ![0, t.val % 2] :=
  (by decide +kernel : ∀ t : Fin grid3.N, win3_1.index t = ![0, t.val % 2])

/-- Window 1's block of call 3 at a point, read in its array. -/
theorem block3_1 (c : Dev nD) (t : Fin cfg3.N) {j k : ℕ} (hj : j < 4096) (hk : k < 1024) :
    rd (n0 := 4096) (n1 := 1024) (iblk3 V c 1 t) j k = rd (n0 := 4096) (n1 := 2048) (V c main_arg5) (j) (t.val % 2 * 1024 + k) := by
  have ht : t.val < 4 := lt_of_lt_of_eq t.isLt N_3
  rw [← rd_of _ hj hk, ← rd_of _ (by omega) (by omega)]
  blk_simp [iblk3]
  refine congrArg (V c main_arg5) (funext (Fin.forall_fin_two.mpr ⟨Fin.ext ?_, Fin.ext ?_⟩))
  · blk_simp [index3_1] <;> (show _ = j) <;> (try dsimp only) <;> omega
  · blk_simp [index3_1] <;> (show _ = t.val % 2 * 1024 + k) <;> (try dsimp only) <;> omega

theorem index3_2 : ∀ t : Fin cfg3.N, win3_2.index t = ![t.val / 2, t.val % 2] :=
  (by decide +kernel : ∀ t : Fin grid3.N, win3_2.index t = ![t.val / 2, t.val % 2])

/-- The gradient of the output weights, as call 3 stores a block of it. -/
theorem out3_2_apply (x0 : FVec Ideal S4096x1024 .bf16) (x1 : FVec Ideal S4096x1024 .bf16) (j : Fin 1024) (k : Fin 1024) :
    out3_2 (F := Ideal) x0 x1 (ix2 j k) = tn 4096 (rd x0) (rd x1) j k := by
  unfold out3_2
  rw [View.canon_unit_zero hz]
  simp only [View.ld_unit_zero (S := S4096x1024) hz]
  exact pay3 _ _ j k

/-- The gradient of the output weights: what call 3 leaves in the whole array. -/
theorem final3 (c : Dev nD) : (dat3 V c).arrAt 2 cfg3.N = fun y : S2048x2048.Idx =>
    tn 4096 (rd (n0 := 4096) (n1 := 2048) (V c main_arg2)) (rd (n0 := 4096) (n1 := 2048) (V c main_arg5)) (y 0).val (y 1).val := by
  refine (dat3 V c).arrAt_eq_of_covers 2 _ (by decide +kernel) fun t hf y => ?_
  have ht : t.val < 4 := lt_of_lt_of_eq t.isLt N_3
  have h0 : (y 0).val < 1024 := (y 0).isLt
  have h1 : (y 1).val < 1024 := (y 1).isLt
  blk_simp [index3_2]
  rw [after3_2]
  obtain ⟨j, k, rfl⟩ : ∃ (j : Fin 1024) (k : Fin 1024), y = ix2 j k := ⟨y 0, y 1, eq_ix2 y⟩
  refine (out3_2_apply _ _ j k).trans ?_
  rw [tn_congr (fun k_ hk => block3_0 V c t hk j.isLt) (fun k_ hk => block3_1 V c t hk k.isLt)]
  rfl

/-- The gradient of the input weights: a block's store, entry by entry. -/
theorem pay4 (x0 : FVec Ideal S4096x1024 .bf16) (x1 : FVec Ideal S4096x1024 .bf16) (r : Fin 1024) (c : Fin 1024) :
    k4_pay1 (F := Ideal) x0 x1 (ix2 r c) = tn 4096 (rd x0) (rd x1) r c := by
  unfold tn
  pointwise [k4_pay1]
  simp only [rd_ix2]

theorem index4_0 : ∀ t : Fin cfg4.N, win4_0.index t = ![0, t.val / 3] :=
  (by decide +kernel : ∀ t : Fin grid4.N, win4_0.index t = ![0, t.val / 3])

/-- Window 0's block of call 4 at a point, read in its array. -/
theorem block4_0 (c : Dev nD) (t : Fin cfg4.N) {j k : ℕ} (hj : j < 4096) (hk : k < 1024) :
    rd (n0 := 4096) (n1 := 1024) (iblk4 V c 0 t) j k = rd (n0 := 4096) (n1 := 2048) (V c main_arg0) (j) (t.val / 3 * 1024 + k) := by
  have ht : t.val < 6 := lt_of_lt_of_eq t.isLt N_4
  rw [← rd_of _ hj hk, ← rd_of _ (by omega) (by omega)]
  blk_simp [iblk4]
  refine congrArg (V c main_arg0) (funext (Fin.forall_fin_two.mpr ⟨Fin.ext ?_, Fin.ext ?_⟩))
  · blk_simp [index4_0] <;> (show _ = j) <;> (try dsimp only) <;> omega
  · blk_simp [index4_0] <;> (show _ = t.val / 3 * 1024 + k) <;> (try dsimp only) <;> omega

theorem index4_1 : ∀ t : Fin cfg4.N, win4_1.index t = ![0, t.val % 3] :=
  (by decide +kernel : ∀ t : Fin grid4.N, win4_1.index t = ![0, t.val % 3])

/-- Window 1's block of call 4 at a point, read in its array. -/
theorem block4_1 (c : Dev nD) (t : Fin cfg4.N) {j k : ℕ} (hj : j < 4096) (hk : k < 1024) :
    rd (n0 := 4096) (n1 := 1024) (iblk4 V c 1 t) j k = rd (n0 := 4096) (n1 := 3072) (V c main_arg6) (j) (t.val % 3 * 1024 + k) := by
  have ht : t.val < 6 := lt_of_lt_of_eq t.isLt N_4
  rw [← rd_of _ hj hk, ← rd_of _ (by omega) (by omega)]
  blk_simp [iblk4]
  refine congrArg (V c main_arg6) (funext (Fin.forall_fin_two.mpr ⟨Fin.ext ?_, Fin.ext ?_⟩))
  · blk_simp [index4_1] <;> (show _ = j) <;> (try dsimp only) <;> omega
  · blk_simp [index4_1] <;> (show _ = t.val % 3 * 1024 + k) <;> (try dsimp only) <;> omega

theorem index4_2 : ∀ t : Fin cfg4.N, win4_2.index t = ![t.val / 3, t.val % 3] :=
  (by decide +kernel : ∀ t : Fin grid4.N, win4_2.index t = ![t.val / 3, t.val % 3])

/-- The gradient of the input weights, as call 4 stores a block of it. -/
theorem out4_2_apply (x0 : FVec Ideal S4096x1024 .bf16) (x1 : FVec Ideal S4096x1024 .bf16) (j : Fin 1024) (k : Fin 1024) :
    out4_2 (F := Ideal) x0 x1 (ix2 j k) = tn 4096 (rd x0) (rd x1) j k := by
  unfold out4_2
  rw [View.canon_unit_zero hz]
  simp only [View.ld_unit_zero (S := S4096x1024) hz]
  exact pay4 _ _ j k

/-- The gradient of the input weights: what call 4 leaves in the whole array. -/
theorem final4 (c : Dev nD) : (dat4 V c).arrAt 2 cfg4.N = fun y : S2048x3072.Idx =>
    tn 4096 (rd (n0 := 4096) (n1 := 2048) (V c main_arg0)) (rd (n0 := 4096) (n1 := 3072) (V c main_arg6)) (y 0).val (y 1).val := by
  refine (dat4 V c).arrAt_eq_of_covers 2 _ (by decide +kernel) fun t hf y => ?_
  have ht : t.val < 6 := lt_of_lt_of_eq t.isLt N_4
  have h0 : (y 0).val < 1024 := (y 0).isLt
  have h1 : (y 1).val < 1024 := (y 1).isLt
  blk_simp [index4_2]
  rw [after4_2]
  obtain ⟨j, k, rfl⟩ : ∃ (j : Fin 1024) (k : Fin 1024), y = ix2 j k := ⟨y 0, y 1, eq_ix2 y⟩
  refine (out4_2_apply _ _ j k).trans ?_
  rw [tn_congr (fun k_ hk => block4_0 V c t hk j.isLt) (fun k_ hk => block4_1 V c t hk k.isLt)]
  rfl

end Cert.First

end
-- ==== Proof.FirstRun.lean ====
module

public import proofs.«01_k».proof.Proof.FirstMm

/-! The five products of the first layer's mixer run one after another: what each result array holds at the end, in terms of the arguments. -/

@[expose] public section

set_option maxRecDepth 16384

noncomputable section

namespace Cert.First

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen
open Cert.Mix (rd)
open Cert.Ffn (nn nt tn)

local notation "𝕄" => MT nD τ sig Unit (Elt Ideal) ℕ (UR sig nD τ) ℕ

variable (m : (ℓ : Loc nD τ sig) → Buf (Elt Ideal) ℓ) (ρ : Dev nD → PrngReg)

-- the launch theorem's conclusion is matched with the statement below by unfolding plain definitions
set_option backward.isDefEq.respectTransparency.types false in
/-- Every execution ends with each result array at the contents the last call leaves there; the arguments are as launched. -/
theorem run_ends : θ_run defs (onTc (τ := τ) (main (F := Ideal))) ⟨m, fun _ => 0, ρ⟩ (fun r => ∀ c : Dev nD,
      (r.2.mem ((c.tc : Thread nD τ).loc main_v0) = W5 m ρ c (Proc.devRef .tc main_v0)
      ∧ r.2.mem ((c.tc : Thread nD τ).loc main_v1) = W5 m ρ c (Proc.devRef .tc main_v1)
      ∧ r.2.mem ((c.tc : Thread nD τ).loc main_v2) = W5 m ρ c (Proc.devRef .tc main_v2)
      ∧ r.2.mem ((c.tc : Thread nD τ).loc main_v3) = W5 m ρ c (Proc.devRef .tc main_v3)
      ∧ r.2.mem ((c.tc : Thread nD τ).loc main_v4) = W5 m ρ c (Proc.devRef .tc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨⟨h c _ (mem_uc main_v0 (by decide)), h c _ (mem_uc main_v1 (by decide)), h c _ (mem_uc main_v2 (by decide)), h c _ (mem_uc main_v3 (by decide)), h c _ (mem_uc main_v4 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

/-! ## The arrays between the calls -/

/-- The seven arguments at launch. -/
abbrev M0 (c : Dev nD) : (⟨S4096x2048, .bf16⟩ : BufTy).Contents (Elt Ideal) := m ((c.tc : Thread nD τ).loc main_arg0)
abbrev M1 (c : Dev nD) : (⟨S2048x3072, .bf16⟩ : BufTy).Contents (Elt Ideal) := m ((c.tc : Thread nD τ).loc main_arg1)
abbrev M2 (c : Dev nD) : (⟨S4096x2048, .bf16⟩ : BufTy).Contents (Elt Ideal) := m ((c.tc : Thread nD τ).loc main_arg2)
abbrev M3 (c : Dev nD) : (⟨S2048x2048, .bf16⟩ : BufTy).Contents (Elt Ideal) := m ((c.tc : Thread nD τ).loc main_arg3)
abbrev M4 (c : Dev nD) : (⟨S4096x2048, .f32⟩ : BufTy).Contents (Elt Ideal) := m ((c.tc : Thread nD τ).loc main_arg4)
abbrev M5 (c : Dev nD) : (⟨S4096x2048, .bf16⟩ : BufTy).Contents (Elt Ideal) := m ((c.tc : Thread nD τ).loc main_arg5)
abbrev M6 (c : Dev nD) : (⟨S4096x3072, .bf16⟩ : BufTy).Contents (Elt Ideal) := m ((c.tc : Thread nD τ).loc main_arg6)

theorem V1_arg2 (c : Dev nD) : V1 m ρ c main_arg2 = m ((c.tc : Thread nD τ).loc main_arg2) := W1_args m ρ c main_arg2 (by decide)
theorem V1_arg3 (c : Dev nD) : V1 m ρ c main_arg3 = m ((c.tc : Thread nD τ).loc main_arg3) := W1_args m ρ c main_arg3 (by decide)
theorem V1_arg4 (c : Dev nD) : V1 m ρ c main_arg4 = m ((c.tc : Thread nD τ).loc main_arg4) := W1_args m ρ c main_arg4 (by decide)
theorem V2_arg5 (c : Dev nD) : V2 m ρ c main_arg5 = m ((c.tc : Thread nD τ).loc main_arg5) := W2_args m ρ c main_arg5 (by decide)
theorem V2_arg3 (c : Dev nD) : V2 m ρ c main_arg3 = m ((c.tc : Thread nD τ).loc main_arg3) := W2_args m ρ c main_arg3 (by decide)
theorem V3_arg2 (c : Dev nD) : V3 m ρ c main_arg2 = m ((c.tc : Thread nD τ).loc main_arg2) := W3_args m ρ c main_arg2 (by decide)
theorem V3_arg5 (c : Dev nD) : V3 m ρ c main_arg5 = m ((c.tc : Thread nD τ).loc main_arg5) := W3_args m ρ c main_arg5 (by decide)
theorem V4_arg0 (c : Dev nD) : V4 m ρ c main_arg0 = m ((c.tc : Thread nD τ).loc main_arg0) := W4_args m ρ c main_arg0 (by decide)
theorem V4_arg6 (c : Dev nD) : V4 m ρ c main_arg6 = m ((c.tc : Thread nD τ).loc main_arg6) := W4_args m ρ c main_arg6 (by decide)
theorem V2_v0 (c : Dev nD) : V2 m ρ c main_v0 = V1 m ρ c main_v0 := W2_of m ρ c main_v0 (by decide +kernel)
theorem V3_v0 (c : Dev nD) : V3 m ρ c main_v0 = V2 m ρ c main_v0 := W3_of m ρ c main_v0 (by decide +kernel)
theorem V4_v0 (c : Dev nD) : V4 m ρ c main_v0 = V3 m ρ c main_v0 := W4_of m ρ c main_v0 (by decide +kernel)
theorem V5_v0 (c : Dev nD) : V5 m ρ c main_v0 = V4 m ρ c main_v0 := W5_of m ρ c main_v0 (by decide +kernel)
theorem V3_v1 (c : Dev nD) : V3 m ρ c main_v1 = V2 m ρ c main_v1 := W3_of m ρ c main_v1 (by decide +kernel)
theorem V4_v1 (c : Dev nD) : V4 m ρ c main_v1 = V3 m ρ c main_v1 := W4_of m ρ c main_v1 (by decide +kernel)
theorem V5_v1 (c : Dev nD) : V5 m ρ c main_v1 = V4 m ρ c main_v1 := W5_of m ρ c main_v1 (by decide +kernel)
theorem V4_v2 (c : Dev nD) : V4 m ρ c main_v2 = V3 m ρ c main_v2 := W4_of m ρ c main_v2 (by decide +kernel)
theorem V5_v2 (c : Dev nD) : V5 m ρ c main_v2 = V4 m ρ c main_v2 := W5_of m ρ c main_v2 (by decide +kernel)
theorem V5_v3 (c : Dev nD) : V5 m ρ c main_v3 = V4 m ρ c main_v3 := W5_of m ρ c main_v3 (by decide +kernel)
/-- The projected input, at the end of the run. -/
theorem end_v0 (c : Dev nD) : W5 m ρ c (Proc.devRef .tc main_v0) = fun y : S4096x3072.Idx => nn 2048 (rd (n0 := 4096) (n1 := 2048) (M0 m c)) (rd (n0 := 2048) (n1 := 3072) (M1 m c)) (y 0).val (y 1).val :=
  ((V5_v0 m ρ c).trans ((V4_v0 m ρ c).trans ((V3_v0 m ρ c).trans ((V2_v0 m ρ c).trans ((hF0 m ρ c 2).symm.trans (final0 (V0 m ρ) c))))))

/-- The residual plus the projected output, at the end of the run. -/
theorem end_v1 (c : Dev nD) : W5 m ρ c (Proc.devRef .tc main_v1) = fun y : S4096x2048.Idx => (rd (n0 := 4096) (n1 := 2048) (M4 m c)) (y 0).val (y 1).val + nn 2048 (rd (n0 := 4096) (n1 := 2048) (M2 m c)) (rd (n0 := 2048) (n1 := 2048) (M3 m c)) (y 0).val (y 1).val :=
  ((V5_v1 m ρ c).trans ((V4_v1 m ρ c).trans ((V3_v1 m ρ c).trans ((hF1 m ρ c 3).symm.trans ((final1 (V1 m ρ) c).trans (by rw [V1_arg2, V1_arg3, V1_arg4]))))))

/-- The gradient at the mixer's output, at the end of the run. -/
theorem end_v2 (c : Dev nD) : W5 m ρ c (Proc.devRef .tc main_v2) = fun y : S4096x2048.Idx => nt 2048 (rd (n0 := 4096) (n1 := 2048) (M5 m c)) (rd (n0 := 2048) (n1 := 2048) (M3 m c)) (y 0).val (y 1).val :=
  ((V5_v2 m ρ c).trans ((V4_v2 m ρ c).trans ((hF2 m ρ c 2).symm.trans ((final2 (V2 m ρ) c).trans (by rw [V2_arg5, V2_arg3])))))

/-- The gradient of the output weights, at the end of the run. -/
theorem end_v3 (c : Dev nD) : W5 m ρ c (Proc.devRef .tc main_v3) = fun y : S2048x2048.Idx => tn 4096 (rd (n0 := 4096) (n1 := 2048) (M2 m c)) (rd (n0 := 4096) (n1 := 2048) (M5 m c)) (y 0).val (y 1).val :=
  ((V5_v3 m ρ c).trans ((hF3 m ρ c 2).symm.trans ((final3 (V3 m ρ) c).trans (by rw [V3_arg2, V3_arg5]))))

/-- The gradient of the input weights, at the end of the run. -/
theorem end_v4 (c : Dev nD) : W5 m ρ c (Proc.devRef .tc main_v4) = fun y : S2048x3072.Idx => tn 4096 (rd (n0 := 4096) (n1 := 2048) (M0 m c)) (rd (n0 := 4096) (n1 := 3072) (M6 m c)) (y 0).val (y 1).val :=
  ((hF4 m ρ c 2).symm.trans ((final4 (V4 m ρ) c).trans (by rw [V4_arg0, V4_arg6])))

end Cert.First

end
-- ==== Proof.FirstClaim.lean ====
module

public import proofs.«01_k».proof.Proof.FirstRun
public import proofs.«01_k».proof.Proof.Gen.Reference5Ideal.Run
public import proofs.«01_k».proof.Proof.Gen.Reference5Ideal.Read

/-! The claims about the products of the first layer's mixer. -/

@[expose] public section

noncomputable section

namespace Cert.First

open Idealize.ShloMosaic Idealize.ShloMosaic.TcCoe Idealize.SL.Sem
open Cert.Mix (rd rd_of rd_ix2)
open Cert.Ffn (nn nt tn)

section
open Cert.Reference5Ideal Cert.Reference5Ideal.Read

/-- The projected input, as the reference computes it. -/
theorem ref6 (x0 : (⟨S4096x2048, .bf16⟩ : BufTy).Contents (Elt Ideal)) (x1 : (⟨S2048x3072, .bf16⟩ : BufTy).Contents (Elt Ideal)) (r : Fin 4096) (c : Fin 3072) :
    val_main_v6 (F := Ideal) x0 x1 (ix2 r c) = nn 2048 (rd (n0 := 4096) (n1 := 2048) x0) (rd (n0 := 2048) (n1 := 3072) x1) r c := by
  unfold nn
  pointwise [val_main_v6, val_main_v0, val_main_v1]
  simp only [rd_ix2]

/-- The residual plus the projected output, as the reference computes it. -/
theorem ref8 (x2 : (⟨S4096x2048, .bf16⟩ : BufTy).Contents (Elt Ideal)) (x3 : (⟨S2048x2048, .bf16⟩ : BufTy).Contents (Elt Ideal)) (x4 : (⟨S4096x2048, .f32⟩ : BufTy).Contents (Elt Ideal)) (r : Fin 4096) (c : Fin 2048) :
    val_main_v8 (F := Ideal) x2 x3 x4 (ix2 r c) = (rd (n0 := 4096) (n1 := 2048) x4) r c + nn 2048 (rd (n0 := 4096) (n1 := 2048) x2) (rd (n0 := 2048) (n1 := 2048) x3) r c := by
  unfold nn
  pointwise [val_main_v8, val_main_v7, val_main_v2, val_main_v3]
  simp only [rd_ix2]

/-- The gradient at the mixer's output, as the reference computes it. -/
theorem ref11 (x3 : (⟨S2048x2048, .bf16⟩ : BufTy).Contents (Elt Ideal)) (x5 : (⟨S4096x2048, .bf16⟩ : BufTy).Contents (Elt Ideal)) (r : Fin 4096) (c : Fin 2048) :
    val_main_v11 (F := Ideal) x3 x5 (ix2 r c) = nt 2048 (rd (n0 := 4096) (n1 := 2048) x5) (rd (n0 := 2048) (n1 := 2048) x3) r c := by
  unfold nt
  pointwise [val_main_v11, val_main_v4, val_main_v3]
  simp only [rd_ix2]

/-- The gradient of the output weights, as the reference computes it. -/
theorem ref14 (x2 : (⟨S4096x2048, .bf16⟩ : BufTy).Contents (Elt Ideal)) (x5 : (⟨S4096x2048, .bf16⟩ : BufTy).Contents (Elt Ideal)) (r : Fin 2048) (c : Fin 2048) :
    val_main_v14 (F := Ideal) x2 x5 (ix2 r c) = tn 4096 (rd (n0 := 4096) (n1 := 2048) x2) (rd (n0 := 4096) (n1 := 2048) x5) r c := by
  unfold tn
  pointwise [val_main_v14, val_main_v10, val_main_v9, val_main_v4, val_main_v2]
  simp only [rd_ix2, mul_comm]

/-- The gradient of the input weights, as the reference computes it. -/
theorem ref15 (x0 : (⟨S4096x2048, .bf16⟩ : BufTy).Contents (Elt Ideal)) (x6 : (⟨S4096x3072, .bf16⟩ : BufTy).Contents (Elt Ideal)) (r : Fin 2048) (c : Fin 3072) :
    val_main_v15 (F := Ideal) x0 x6 (ix2 r c) = tn 4096 (rd (n0 := 4096) (n1 := 2048) x0) (rd (n0 := 4096) (n1 := 3072) x6) r c := by
  unfold tn
  pointwise [val_main_v15, val_main_v13, val_main_v12, val_main_v5, val_main_v0]
  simp only [rd_ix2, mul_comm]

end

/-- The reference of the first layer's products runs, keeps its arguments and leaves no semaphore counted. -/
theorem quiescent_reference5 : quiescent_Reference5Ideal (hReference5Ideal := Cert.Reference5Ideal.Gen.facts) :=
  fun m ρ _ => (θ_run Cert.Reference5Ideal.defs _ _).mono
    (fun r h => ⟨fun c => (h c).2.2.2.2.2, Idealize.ShloMosaic.sem_eq_zero_of_no_sems (by decide) r.2⟩)
    (Cert.Reference5Ideal.Value.run (F := Ideal) m ρ)

/-- Over the reals the five launches and the reference give the same five products of the first layer's mixer. -/
theorem algebraic5 : algebraic_Kernel5Ideal_Reference5Ideal (hKernel5Ideal := Cert.Kernel5Ideal.Gen.facts) (hReference5Ideal := Cert.Reference5Ideal.Gen.facts) := by
  intro m g m' g' _ hargs
  refine ⟨fun c => Cert.Kernel5Ideal.Gen.W5 m g c (Proc.devRef .tc Cert.Kernel5Ideal.main_v0),
    fun c => Cert.Kernel5Ideal.Gen.W5 m g c (Proc.devRef .tc Cert.Kernel5Ideal.main_v1),
    fun c => Cert.Kernel5Ideal.Gen.W5 m g c (Proc.devRef .tc Cert.Kernel5Ideal.main_v2),
    fun c => Cert.Kernel5Ideal.Gen.W5 m g c (Proc.devRef .tc Cert.Kernel5Ideal.main_v3),
    fun c => Cert.Kernel5Ideal.Gen.W5 m g c (Proc.devRef .tc Cert.Kernel5Ideal.main_v4),
    (θ_run Cert.Kernel5Ideal.defs _ _).mono (fun r h c => ⟨(h c).1.1, (h c).1.2.1, (h c).1.2.2.1, (h c).1.2.2.2.1, (h c).1.2.2.2.2, (h c).2⟩) (run_ends m g), ?_⟩
  refine (θ_run Cert.Reference5Ideal.defs _ _).mono (fun r h c => ?_) (Cert.Reference5Ideal.Value.run (F := Ideal) m' g')
  obtain ⟨a0, a1, a2, a3, a4, a5, a6⟩ := hargs c
  refine ⟨(h c).1.trans ?_, (h c).2.1.trans ?_, (h c).2.2.1.trans ?_, (h c).2.2.2.1.trans ?_, (h c).2.2.2.2.1.trans ?_, (h c).2.2.2.2.2⟩
  · rw [Cert.Reference5Ideal.Read.val_main_v6_eq, a0, a1]
    refine Eq.trans (funext fun y => ?_) (end_v0 m g c).symm
    exact (congrArg _ (eq_ix2 y)).trans (ref6 _ _ (y 0) (y 1))
  · rw [Cert.Reference5Ideal.Read.val_main_v8_eq, a2, a3, a4]
    refine Eq.trans (funext fun y => ?_) (end_v1 m g c).symm
    exact (congrArg _ (eq_ix2 y)).trans (ref8 _ _ _ (y 0) (y 1))
  · rw [Cert.Reference5Ideal.Read.val_main_v11_eq, a3, a5]
    refine Eq.trans (funext fun y => ?_) (end_v2 m g c).symm
    exact (congrArg _ (eq_ix2 y)).trans (ref11 _ _ (y 0) (y 1))
  · rw [Cert.Reference5Ideal.Read.val_main_v14_eq, a2, a5]
    refine Eq.trans (funext fun y => ?_) (end_v3 m g c).symm
    exact (congrArg _ (eq_ix2 y)).trans (ref14 _ _ (y 0) (y 1))
  · rw [Cert.Reference5Ideal.Read.val_main_v15_eq, a0, a6]
    refine Eq.trans (funext fun y => ?_) (end_v4 m g c).symm
    exact (congrArg _ (eq_ix2 y)).trans (ref15 _ _ (y 0) (y 1))

end Cert.First

end
-- ==== Proof.RowsBase.lean ====
module

public import proofs.«01_k».proof.Proof.FfnBase
public import Idealize.ShloMosaic.Lib.Pipeline.ValueKit

/-! Rows scaled by the root of their mean square, over the extended reals. -/

@[expose] public section
noncomputable section
open Idealize.ShloMosaic
open Cert.Mix (rd rd_of rd_ix2)
open Cert.Ffn (nn nt tn nn_congr nt_congr)

namespace Cert.Rows

theorem zeros : (![0, 0] : Fin 2 → Nat) = fun _ => 0 := funext fun a => by fin_cases a <;> rfl

/-- The mean of the squares of a row of 2048 entries plus the small constant. -/
def meanSq (h : ℕ → ℕ → EReal) (r : ℕ) : EReal :=
  Ideal.div (∑ k : Fin 2048, h r k * h r k) (Ideal.ofBits .f32 0x45000000#32) + Ideal.ofBits .f32 0x358637BD#32

/-- A row over the root of its mean square, times a gain. -/
def norm (h g : ℕ → ℕ → EReal) (r c : ℕ) : EReal := h r c * Ideal.rsqrt (meanSq h r) * g 0 c

theorem meanSq_congr {h h' : ℕ → ℕ → EReal} {r r' : ℕ} (e : ∀ k, k < 2048 → h r k = h' r' k) : meanSq h r = meanSq h' r' := by
  unfold meanSq
  rw [Finset.sum_congr rfl fun (k : Fin 2048) _ => by rw [e k k.isLt]]

theorem norm_congr {h h' g g' : ℕ → ℕ → EReal} {r r' c : ℕ} (hc : c < 2048) (e : ∀ k, k < 2048 → h r k = h' r' k) (eg : g 0 c = g' 0 c) :
    norm h g r c = norm h' g' r' c := by
  unfold norm
  rw [e c hc, meanSq_congr e, eg]

/-- Rows loaded from an offset on are those rows. -/
theorem ld_rows {n W K : ℕ} (o : ℕ) (x : FVec Ideal ⟨2, ![n, K]⟩ .bf16)
    (inb : ∀ a, (![o, 0] : Fin 2 → ℕ) a + (![W, K] : Fin 2 → ℕ) a ≤ (![n, K] : Fin 2 → ℕ) a) {r c : ℕ} (hr : r < W) (hc : c < K) :
    rd (n0 := W) (n1 := K) (View.ld (Val := Elt Ideal) (e' := .bf16) x (Rect.unit (s := ⟨2, ![n, K]⟩) ![o, 0] ![W, K] inb)) r c = rd x (o + r) c := by
  have hn : o + W ≤ n := inb 0
  rw [← rd_of _ hr hc, ← rd_of x (by omega : o + r < n) hc]
  exact View.ld_unit_apply_of (Val := Elt Ideal) (e := .bf16) x _ _ inb (ix2 (n0 := W) (n1 := K) ⟨r, hr⟩ ⟨c, hc⟩) (ix2 (n0 := n) (n1 := K) ⟨o + r, by omega⟩ ⟨c, hc⟩) (Fin.forall_fin_two.mpr ⟨rfl, (Nat.zero_add _).symm⟩)

/-- The same of single-precision rows. -/
theorem ld_rows32 {n W K : ℕ} (o : ℕ) (x : FVec Ideal ⟨2, ![n, K]⟩ .f32)
    (inb : ∀ a, (![o, 0] : Fin 2 → ℕ) a + (![W, K] : Fin 2 → ℕ) a ≤ (![n, K] : Fin 2 → ℕ) a) {r c : ℕ} (hr : r < W) (hc : c < K) :
    rd (n0 := W) (n1 := K) (View.ld (Val := Elt Ideal) (e' := .f32) x (Rect.unit (s := ⟨2, ![n, K]⟩) ![o, 0] ![W, K] inb)) r c = rd x (o + r) c := by
  have hn : o + W ≤ n := inb 0
  rw [← rd_of _ hr hc, ← rd_of x (by omega : o + r < n) hc]
  exact View.ld_unit_apply_of (Val := Elt Ideal) (e := .f32) x _ _ inb (ix2 (n0 := W) (n1 := K) ⟨r, hr⟩ ⟨c, hc⟩) (ix2 (n0 := n) (n1 := K) ⟨o + r, by omega⟩ ⟨c, hc⟩) (Fin.forall_fin_two.mpr ⟨rfl, (Nat.zero_add _).symm⟩)

end Cert.Rows

end
-- ==== Proof.RowsPay.lean ====
module

public import proofs.«01_k».proof.Proof.RowsBase
public import proofs.«01_k».proof.Proof.Gen.Kernel6Ideal.Skeleton

/-! What each store of the two forward calls with a normed result writes, entry by entry. -/

@[expose] public section
noncomputable section
open Idealize.ShloMosaic Idealize.ShloMosaic.TcCoe Idealize.SL.Sem
open Cert.Mix (rd rd_of rd_ix2)
open Cert.Ffn (nn nt tn)

namespace Cert.Rows
open Cert.Kernel6Ideal Cert.Kernel6Ideal.Gen

/-- The product of a block of rows. -/
theorem pay0_2 (a : FVec Ideal S256x5632 .bf16) (b : FVec Ideal S5632x2048 .bf16) (r : Fin 256) (c : Fin 2048) :
    k0_pay2 (F := Ideal) a b (ix2 r c) = nn 5632 (rd a) (rd b) r c := by
  unfold nn
  pointwise [k0_pay2]
  simp only [rd_ix2]

/-- The residual added to the product, for a chunk of rows. -/
theorem pay0_3 (a e : FVec Ideal S128x2048 .f32) (r : Fin 128) (c : Fin 2048) : k0_pay3 (F := Ideal) a e (ix2 r c) = rd e r c + rd a r c := by
  pointwise [k0_pay3]
  simp only [rd_ix2]
theorem pay0_5 (a e : FVec Ideal S128x2048 .f32) (r : Fin 128) (c : Fin 2048) : k0_pay5 (F := Ideal) a e (ix2 r c) = rd e r c + rd a r c := by
  pointwise [k0_pay5]
  simp only [rd_ix2]

/-- The normed rows of a chunk. -/
theorem pay0_1 (h : FVec Ideal S128x2048 .f32) (g : FVec Ideal S1x2048 .f32) (r : Fin 128) (c : Fin 2048) :
    k0_pay1 (F := Ideal) h g (ix2 r c) = norm (rd h) (rd g) r c := by
  unfold norm meanSq
  pointwise [k0_pay1]
  simp only [rd_ix2]
  rfl
theorem pay0_4 (a e : FVec Ideal S128x2048 .f32) (g : FVec Ideal S1x2048 .f32) (r : Fin 128) (c : Fin 2048) :
    k0_pay4 (F := Ideal) a e g (ix2 r c) = norm (fun r c => rd e r c + rd a r c) (rd g) r c := by
  unfold norm meanSq
  pointwise [k0_pay4, pay0_3]
  simp only [rd_ix2]
  rfl

/-- The residual plus a product, for the four chunks of rows of the second call. -/
def res (a : FVec Ideal S128x2048 .bf16) (b : FVec Ideal S2048x2048 .bf16) (e : FVec Ideal S128x2048 .f32) (r c : ℕ) : EReal :=
  rd e r c + nn 2048 (rd a) (rd b) r c
theorem pay1_3 (a : FVec Ideal S128x2048 .bf16) (b : FVec Ideal S2048x2048 .bf16) (e : FVec Ideal S128x2048 .f32) (r : Fin 128) (c : Fin 2048) :
    k1_pay3 (F := Ideal) a b e (ix2 r c) = res a b e r c := by
  unfold res nn
  pointwise [k1_pay3]
  simp only [rd_ix2]
theorem pay1_5 (a : FVec Ideal S128x2048 .bf16) (b : FVec Ideal S2048x2048 .bf16) (e : FVec Ideal S128x2048 .f32) (r : Fin 128) (c : Fin 2048) :
    k1_pay5 (F := Ideal) a b e (ix2 r c) = res a b e r c := by
  unfold res nn
  pointwise [k1_pay5]
  simp only [rd_ix2]
theorem pay1_8 (a : FVec Ideal S128x2048 .bf16) (b : FVec Ideal S2048x2048 .bf16) (e : FVec Ideal S128x2048 .f32) (r : Fin 128) (c : Fin 2048) :
    k1_pay8 (F := Ideal) a b e (ix2 r c) = res a b e r c := by
  unfold res nn
  pointwise [k1_pay8]
  simp only [rd_ix2]
theorem pay1_1 (a : FVec Ideal S128x2048 .bf16) (b : FVec Ideal S2048x2048 .bf16) (e : FVec Ideal S128x2048 .f32) (r : Fin 128) (c : Fin 2048) :
    k1_pay1 (F := Ideal) a b e (ix2 r c) = res a b e r c := by
  unfold res nn
  pointwise [k1_pay1]
  simp only [rd_ix2]

/-- The normed rows of the four chunks. -/
theorem pay1_4 (a : FVec Ideal S128x2048 .bf16) (b : FVec Ideal S2048x2048 .bf16) (e : FVec Ideal S128x2048 .f32) (g : FVec Ideal S1x2048 .f32) (r : Fin 128) (c : Fin 2048) :
    k1_pay4 (F := Ideal) a b e g (ix2 r c) = norm (res a b e) (rd g) r c := by
  unfold norm meanSq
  pointwise [k1_pay4, pay1_3]
  simp only [rd_ix2]
  rfl
theorem pay1_7 (a : FVec Ideal S128x2048 .bf16) (b : FVec Ideal S2048x2048 .bf16) (e : FVec Ideal S128x2048 .f32) (g : FVec Ideal S1x2048 .f32) (r : Fin 128) (c : Fin 2048) :
    k1_pay7 (F := Ideal) (k1_pay5 (F := Ideal) a b e) (k1_pay6 (F := Ideal) a b e) g (ix2 r c) = norm (res a b e) (rd g) r c := by
  unfold norm meanSq
  pointwise [k1_pay7, k1_pay6, pay1_5]
  simp only [rd_ix2]
  rfl
theorem pay1_9 (a : FVec Ideal S128x2048 .bf16) (b : FVec Ideal S2048x2048 .bf16) (e : FVec Ideal S128x2048 .f32) (g : FVec Ideal S1x2048 .f32) (r : Fin 128) (c : Fin 2048) :
    k1_pay9 (F := Ideal) a b e g (ix2 r c) = norm (res a b e) (rd g) r c := by
  unfold norm meanSq
  pointwise [k1_pay9, pay1_8]
  simp only [rd_ix2]
  rfl
theorem pay1_2 (a : FVec Ideal S128x2048 .bf16) (b : FVec Ideal S2048x2048 .bf16) (e : FVec Ideal S128x2048 .f32) (g : FVec Ideal S1x2048 .f32) (r : Fin 128) (c : Fin 2048) :
    k1_pay2 (F := Ideal) a b e g (ix2 r c) = norm (res a b e) (rd g) r c := by
  unfold norm meanSq
  pointwise [k1_pay2, pay1_1]
  simp only [rd_ix2]
  rfl

end Cert.Rows

end
-- ==== Proof.RowsBlock.lean ====
module

public import proofs.«01_k».proof.Proof.RowsPay
public import proofs.«01_k».proof.Proof.MixBlock
public import proofs.«01_k».proof.Proof.Gen.Kernel6Ideal.Frame

/-! What the two forward calls with a normed result leave in their result arrays. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)

namespace Cert.Rows
open Cert.Kernel6Ideal Cert.Kernel6Ideal.Gen

/-- A chunk of a buffer stored whole, loaded back, is the chunk of what was stored. -/
theorem readCov_chunk (v : View sig .tc .vmem S256x2048 .f32) (off : Fin S256x2048.rank → ℕ)
    (inb : ∀ a, (![0, 0] : Fin 2 → ℕ) a + S256x2048.size a ≤ S256x2048.size a) (inb' : ∀ a, off a + S128x2048.size a ≤ S256x2048.size a) (w : S256x2048.Idx → Elt Ideal .f32) :
    v.readCov [(⟨Rect.unit ![0, 0] S256x2048.size inb, w⟩ : View.Piece (Elt Ideal) S256x2048 .f32)] (Rect.unit (s := S256x2048) off S128x2048.size inb').toLoadRect
      = View.ld (Val := Elt Ideal) w (Rect.unit (s := S256x2048) off S128x2048.size inb') := by
  rw [View.readCov_eq_canon']
  have h := View.canon_unit_zero (Val := Elt Ideal) (S := S256x2048) (e := .f32) hz inb w
  funext j
  exact congrFun h _

/-- The residual plus the product of a 256-row block. -/
def down (x0 : FVec Ideal S256x5632 .bf16) (x1 : FVec Ideal S5632x2048 .bf16) (x2 : FVec Ideal S256x2048 .f32) (r c : ℕ) : EReal :=
  rd x2 r c + nn 5632 (rd x0) (rd x1) r c

theorem down_chunk (o : ℕ) (x0 : FVec Ideal S256x5632 .bf16) (x1 : FVec Ideal S5632x2048 .bf16) (x2 : FVec Ideal S256x2048 .f32)
    (inb inb' : ∀ a, (![o, 0] : Fin 2 → ℕ) a + S128x2048.size a ≤ S256x2048.size a) {r c : ℕ} (hr : r < 128) (hc : c < 2048) (ho : o + 128 ≤ 256) :
    rd (n0 := 128) (n1 := 2048) (View.ld (Val := Elt Ideal) (e' := .f32) x2 (Rect.unit (s := S256x2048) ![o, 0] S128x2048.size inb)) r c
      + rd (n0 := 128) (n1 := 2048) (View.ld (Val := Elt Ideal) (e' := .f32) (k0_pay2 (F := Ideal) x0 x1) (Rect.unit (s := S256x2048) ![o, 0] S128x2048.size inb')) r c = down x0 x1 x2 (o + r) c := by
  refine congrArg₂ (· + ·) (ld_rows32 o x2 inb hr hc) ((ld_rows32 o (k0_pay2 (F := Ideal) x0 x1) inb' hr hc).trans ?_)
  rw [← rd_of _ (by omega : o + r < 256) hc]
  exact pay0_2 x0 x1 ⟨o + r, by omega⟩ ⟨c, hc⟩

/-- What a step of the first call stores of the residual stream. -/
theorem out0_4 (c : Dev nD) (i : grid0.Coords) (a2 : Memref sig .tc .vmem S256x5632 .bf16) (h2 : a2.IsWhole) (a3 : Memref sig .tc .vmem S5632x2048 .bf16) (h3 : a3.IsWhole)
    (a4 : Memref sig .tc .vmem S256x2048 .f32) (h4 : a4.IsWhole) (a5 : Memref sig .tc .vmem S1x2048 .f32) (h5 : a5.IsWhole) (a6 : Memref sig .tc .vmem S256x2048 .f32) (h6 : a6.IsWhole)
    (a7 : Memref sig .tc .vmem S256x2048 .bf16) (h7 : a7.IsWhole) (a8 : Memref sig .tc .vmem S256x2048 .f32) (h8 : a8.IsWhole)
    (x0 : FVec Ideal S256x5632 .bf16) (x1 : FVec Ideal S5632x2048 .bf16) (x2 : FVec Ideal S256x2048 .f32) (x3 : FVec Ideal S1x2048 .f32) :
    out0_A_4 (F := Ideal) c i a2 h2 a3 h3 a4 h4 a5 h5 a6 h6 a7 h7 a8 h8 x0 x1 x2 x3 = fun y => down x0 x1 x2 (y 0).val (y 1).val := by
  unfold out0_A_4
  rw [View.read_writes_eq_canon _ _ _ (cover0_A_4 (F := Ideal) c i a2 h2 a3 h3 a4 h4 a5 h5 a6 h6 a7 h7 a8 h8 x0 x1 x2 x3)]
  funext y
  suffices hp : View.PiecesOf (Val := Elt Ideal) (e := .f32) (fun y : S256x2048.Idx => down x0 x1 x2 (y 0).val (y 1).val) _ from
    View.canon_apply_of_pieces (fun y : S256x2048.Idx => down x0 x1 x2 (y 0).val (y 1).val) _ hp.mem y (cover0_A_4 (F := Ideal) c i a2 h2 a3 h3 a4 h4 a5 h5 a6 h6 a7 h7 a8 h8 x0 x1 x2 x3 y)
  unfold kernelRun0_A
  dsimp only
  sl_unfold_words
  simp only [View.readAt_eq_ld, h2.read_unread, h3.read_unread, h4.read_unread, h5.read_unread, View.ld_unit_zero (S := S256x5632) hz, View.ld_unit_zero (S := S5632x2048) hz, View.ld_unit_zero (S := S1x2048) hz]
  refine ⟨fun x => ?_, fun x => ?_, trivial⟩
  · obtain ⟨a, b, rfl⟩ : ∃ (a : Fin 128) (b : Fin 2048), x = ix2 a b := ⟨x 0, x 1, eq_ix2 x⟩
    rw [readCov_chunk]
    refine (pay0_5 _ _ a b).trans ?_
    show _ = down x0 x1 x2 (128 + 1 * a.val) (0 + 1 * b.val)
    rw [Nat.one_mul, Nat.one_mul, Nat.zero_add b.val]
    exact down_chunk 128 x0 x1 x2 _ _ a.isLt b.isLt (by decide)
  · obtain ⟨a, b, rfl⟩ : ∃ (a : Fin 128) (b : Fin 2048), x = ix2 a b := ⟨x 0, x 1, eq_ix2 x⟩
    rw [readCov_chunk]
    refine (pay0_3 _ _ a b).trans ?_
    show _ = down x0 x1 x2 (0 + 1 * a.val) (0 + 1 * b.val)
    rw [Nat.one_mul, Nat.one_mul, Nat.zero_add b.val]
    exact down_chunk 0 x0 x1 x2 _ _ a.isLt b.isLt (by decide)

/-- What a step of the first call stores of the normed rows. -/
theorem out0_5 (c : Dev nD) (i : grid0.Coords) (a2 : Memref sig .tc .vmem S256x5632 .bf16) (h2 : a2.IsWhole) (a3 : Memref sig .tc .vmem S5632x2048 .bf16) (h3 : a3.IsWhole)
    (a4 : Memref sig .tc .vmem S256x2048 .f32) (h4 : a4.IsWhole) (a5 : Memref sig .tc .vmem S1x2048 .f32) (h5 : a5.IsWhole) (a6 : Memref sig .tc .vmem S256x2048 .f32) (h6 : a6.IsWhole)
    (a7 : Memref sig .tc .vmem S256x2048 .bf16) (h7 : a7.IsWhole) (a8 : Memref sig .tc .vmem S256x2048 .f32) (h8 : a8.IsWhole)
    (x0 : FVec Ideal S256x5632 .bf16) (x1 : FVec Ideal S5632x2048 .bf16) (x2 : FVec Ideal S256x2048 .f32) (x3 : FVec Ideal S1x2048 .f32) :
    out0_A_5 (F := Ideal) c i a2 h2 a3 h3 a4 h4 a5 h5 a6 h6 a7 h7 a8 h8 x0 x1 x2 x3 = fun y => norm (down x0 x1 x2) (rd x3) (y 0).val (y 1).val := by
  unfold out0_A_5
  rw [View.read_writes_eq_canon _ _ _ (cover0_A_5 (F := Ideal) c i a2 h2 a3 h3 a4 h4 a5 h5 a6 h6 a7 h7 a8 h8 x0 x1 x2 x3)]
  funext y
  suffices hp : View.PiecesOf (Val := Elt Ideal) (e := .bf16) (fun y : S256x2048.Idx => norm (down x0 x1 x2) (rd x3) (y 0).val (y 1).val) _ from
    View.canon_apply_of_pieces (fun y : S256x2048.Idx => norm (down x0 x1 x2) (rd x3) (y 0).val (y 1).val) _ hp.mem y (cover0_A_5 (F := Ideal) c i a2 h2 a3 h3 a4 h4 a5 h5 a6 h6 a7 h7 a8 h8 x0 x1 x2 x3 y)
  unfold kernelRun0_A
  dsimp only
  sl_unfold_words
  simp only [View.readAt_eq_ld, h2.read_unread, h3.read_unread, h4.read_unread, h5.read_unread, View.ld_unit_zero (S := S256x5632) hz, View.ld_unit_zero (S := S5632x2048) hz, View.ld_unit_zero (S := S1x2048) hz]
  refine ⟨fun x => ?_, fun x => ?_, trivial⟩
  · obtain ⟨a, b, rfl⟩ : ∃ (a : Fin 128) (b : Fin 2048), x = ix2 a b := ⟨x 0, x 1, eq_ix2 x⟩
    rw [readCov_chunk]
    refine (pay0_1 _ _ a b).trans ?_
    show _ = norm (down x0 x1 x2) (rd x3) (128 + 1 * a.val) (0 + 1 * b.val)
    rw [Nat.one_mul, Nat.one_mul, Nat.zero_add b.val]
    refine norm_congr b.isLt (fun k hk => ?_) rfl
    refine (rd_of _ a.isLt hk).symm.trans ((pay0_5 _ _ a ⟨k, hk⟩).trans ?_)
    exact down_chunk 128 x0 x1 x2 _ _ a.isLt hk (by decide)
  · obtain ⟨a, b, rfl⟩ : ∃ (a : Fin 128) (b : Fin 2048), x = ix2 a b := ⟨x 0, x 1, eq_ix2 x⟩
    rw [readCov_chunk]
    refine (pay0_4 _ _ _ a b).trans ?_
    show _ = norm (down x0 x1 x2) (rd x3) (0 + 1 * a.val) (0 + 1 * b.val)
    rw [Nat.one_mul, Nat.one_mul, Nat.zero_add b.val]
    exact norm_congr b.isLt (fun k hk => down_chunk 0 x0 x1 x2 _ _ a.isLt hk (by decide)) rfl

/-- The residual plus the product of a 512-row block. -/
def outp (x0 : FVec Ideal S512x2048 .bf16) (x1 : FVec Ideal S2048x2048 .bf16) (x2 : FVec Ideal S512x2048 .f32) (r c : ℕ) : EReal :=
  rd x2 r c + nn 2048 (rd x0) (rd x1) r c

theorem res_chunk (o : ℕ) (x0 : FVec Ideal S512x2048 .bf16) (x1 : FVec Ideal S2048x2048 .bf16) (x2 : FVec Ideal S512x2048 .f32)
    (inb inb' : ∀ a, (![o, 0] : Fin 2 → ℕ) a + S128x2048.size a ≤ S512x2048.size a) {r c : ℕ} (hr : r < 128) (hc : c < 2048) :
    res (View.ld (Val := Elt Ideal) (e' := .bf16) x0 (Rect.unit (s := S512x2048) ![o, 0] S128x2048.size inb)) x1
      (View.ld (Val := Elt Ideal) (e' := .f32) x2 (Rect.unit (s := S512x2048) ![o, 0] S128x2048.size inb')) r c = outp x0 x1 x2 (o + r) c :=
  congrArg₂ (· + ·) (ld_rows32 o x2 inb' hr hc) (nn_congr (fun k hk => ld_rows o x0 inb hr hk) fun k _ => rfl)

/-- What a step of the second call stores of the residual stream. -/
theorem out1_4_apply (x0 : FVec Ideal S512x2048 .bf16) (x1 : FVec Ideal S2048x2048 .bf16) (x2 : FVec Ideal S512x2048 .f32) (x3 : FVec Ideal S1x2048 .f32) (j : Fin 512) (k : Fin 2048) :
    out1_4 (F := Ideal) x0 x1 x2 x3 (ix2 j k) = outp x0 x1 x2 j k := by
  refine (View.canon_apply_of_pieces (Val := Elt Ideal) (e := .f32) (fun y : S512x2048.Idx => outp x0 x1 x2 (y 0).val (y 1).val) _ ?_ (ix2 j k)
    (cover1_4 (F := Ideal) _ _ _ _ _)).trans rfl
  suffices hp : View.PiecesOf (Val := Elt Ideal) (e := .f32) (fun y : S512x2048.Idx => outp x0 x1 x2 (y 0).val (y 1).val) _ from hp.mem
  simp only [View.ld_unit_zero (S := S2048x2048) hz, View.ld_unit_zero (S := S1x2048) hz]
  refine ⟨fun x => ?_, fun x => ?_, fun x => ?_, fun x => ?_, trivial⟩
  · obtain ⟨a, b, rfl⟩ : ∃ (a : Fin 128) (b : Fin 2048), x = ix2 a b := ⟨x 0, x 1, eq_ix2 x⟩
    refine (pay1_1 _ _ _ a b).trans ?_
    show _ = outp x0 x1 x2 (384 + 1 * a.val) (0 + 1 * b.val)
    rw [Nat.one_mul, Nat.one_mul, Nat.zero_add b.val]
    exact res_chunk 384 x0 x1 x2 _ _ a.isLt b.isLt
  · obtain ⟨a, b, rfl⟩ : ∃ (a : Fin 128) (b : Fin 2048), x = ix2 a b := ⟨x 0, x 1, eq_ix2 x⟩
    refine (pay1_8 _ _ _ a b).trans ?_
    show _ = outp x0 x1 x2 (256 + 1 * a.val) (0 + 1 * b.val)
    rw [Nat.one_mul, Nat.one_mul, Nat.zero_add b.val]
    exact res_chunk 256 x0 x1 x2 _ _ a.isLt b.isLt
  · obtain ⟨a, b, rfl⟩ : ∃ (a : Fin 128) (b : Fin 2048), x = ix2 a b := ⟨x 0, x 1, eq_ix2 x⟩
    refine (pay1_5 _ _ _ a b).trans ?_
    show _ = outp x0 x1 x2 (128 + 1 * a.val) (0 + 1 * b.val)
    rw [Nat.one_mul, Nat.one_mul, Nat.zero_add b.val]
    exact res_chunk 128 x0 x1 x2 _ _ a.isLt b.isLt
  · obtain ⟨a, b, rfl⟩ : ∃ (a : Fin 128) (b : Fin 2048), x = ix2 a b := ⟨x 0, x 1, eq_ix2 x⟩
    refine (pay1_3 _ _ _ a b).trans ?_
    show _ = outp x0 x1 x2 (0 + 1 * a.val) (0 + 1 * b.val)
    rw [Nat.one_mul, Nat.one_mul, Nat.zero_add b.val]
    exact res_chunk 0 x0 x1 x2 _ _ a.isLt b.isLt

/-- What a step of the second call stores of the normed rows. -/
theorem out1_5_apply (x0 : FVec Ideal S512x2048 .bf16) (x1 : FVec Ideal S2048x2048 .bf16) (x2 : FVec Ideal S512x2048 .f32) (x3 : FVec Ideal S1x2048 .f32) (j : Fin 512) (k : Fin 2048) :
    out1_5 (F := Ideal) x0 x1 x2 x3 (ix2 j k) = norm (outp x0 x1 x2) (rd x3) j k := by
  refine (View.canon_apply_of_pieces (Val := Elt Ideal) (e := .bf16) (fun y : S512x2048.Idx => norm (outp x0 x1 x2) (rd x3) (y 0).val (y 1).val) _ ?_ (ix2 j k)
    (cover1_5 (F := Ideal) _ _ _ _ _)).trans rfl
  suffices hp : View.PiecesOf (Val := Elt Ideal) (e := .bf16) (fun y : S512x2048.Idx => norm (outp x0 x1 x2) (rd x3) (y 0).val (y 1).val) _ from hp.mem
  simp only [View.ld_unit_zero (S := S2048x2048) hz, View.ld_unit_zero (S := S1x2048) hz]
  refine ⟨fun x => ?_, fun x => ?_, fun x => ?_, fun x => ?_, trivial⟩
  · obtain ⟨a, b, rfl⟩ : ∃ (a : Fin 128) (b : Fin 2048), x = ix2 a b := ⟨x 0, x 1, eq_ix2 x⟩
    refine (pay1_2 _ _ _ _ a b).trans ?_
    show _ = norm (outp x0 x1 x2) (rd x3) (384 + 1 * a.val) (0 + 1 * b.val)
    rw [Nat.one_mul, Nat.one_mul, Nat.zero_add b.val]
    exact norm_congr b.isLt (fun k hk => res_chunk 384 x0 x1 x2 _ _ a.isLt hk) rfl
  · obtain ⟨a, b, rfl⟩ : ∃ (a : Fin 128) (b : Fin 2048), x = ix2 a b := ⟨x 0, x 1, eq_ix2 x⟩
    refine (pay1_9 _ _ _ _ a b).trans ?_
    show _ = norm (outp x0 x1 x2) (rd x3) (256 + 1 * a.val) (0 + 1 * b.val)
    rw [Nat.one_mul, Nat.one_mul, Nat.zero_add b.val]
    exact norm_congr b.isLt (fun k hk => res_chunk 256 x0 x1 x2 _ _ a.isLt hk) rfl
  · obtain ⟨a, b, rfl⟩ : ∃ (a : Fin 128) (b : Fin 2048), x = ix2 a b := ⟨x 0, x 1, eq_ix2 x⟩
    refine (pay1_7 _ _ _ _ a b).trans ?_
    show _ = norm (outp x0 x1 x2) (rd x3) (128 + 1 * a.val) (0 + 1 * b.val)
    rw [Nat.one_mul, Nat.one_mul, Nat.zero_add b.val]
    exact norm_congr b.isLt (fun k hk => res_chunk 128 x0 x1 x2 _ _ a.isLt hk) rfl
  · obtain ⟨a, b, rfl⟩ : ∃ (a : Fin 128) (b : Fin 2048), x = ix2 a b := ⟨x 0, x 1, eq_ix2 x⟩
    refine (pay1_4 _ _ _ _ a b).trans ?_
    show _ = norm (outp x0 x1 x2) (rd x3) (0 + 1 * a.val) (0 + 1 * b.val)
    rw [Nat.one_mul, Nat.one_mul, Nat.zero_add b.val]
    exact norm_congr b.isLt (fun k hk => res_chunk 0 x0 x1 x2 _ _ a.isLt hk) rfl

end Cert.Rows

end
-- ==== Proof.RowsFinal.lean ====
module

public import proofs.«01_k».proof.Proof.RowsBlock

/-! The result arrays of the two forward calls with a normed result, from their argument arrays. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)

namespace Cert.Rows
open Cert.Kernel6Ideal Cert.Kernel6Ideal.Gen

variable (V : (c : Dev nD) → (b : Ref sig .tc) → Buf (Elt Ideal) ((c : Thread nD τ).loc b))

/-- The residual plus the product, of whole arrays. -/
def full (K : ℕ) (a b e : ℕ → ℕ → EReal) (r c : ℕ) : EReal := e r c + nn K a b r c

theorem index0_0 : ∀ t : Fin cfg0.N, win0_0.index t = ![t.val, 0] :=
  (by decide +kernel : ∀ t : Fin grid0.N, win0_0.index t = ![t.val, 0])

/-- Window 0's block of call 0 at a point, read in its array. -/
theorem block0_0 (c : Dev nD) (t : Fin cfg0.N) {j k : ℕ} (hj : j < 256) (hk : k < 5632) :
    rd (n0 := 256) (n1 := 5632) (iblk0 V c 0 t) j k = rd (n0 := 4096) (n1 := 5632) (V c main_arg0) (t.val * 256 + j) (k) := by
  have ht : t.val < 16 := lt_of_lt_of_eq t.isLt N_0
  rw [← rd_of _ hj hk, ← rd_of _ (by omega) (by omega)]
  blk_simp [iblk0]
  refine congrArg (V c main_arg0) (funext (Fin.forall_fin_two.mpr ⟨Fin.ext ?_, Fin.ext ?_⟩))
  · blk_simp [index0_0] <;> (show _ = t.val * 256 + j) <;> (try dsimp only) <;> omega
  · blk_simp [index0_0] <;> (show _ = k) <;> (try dsimp only) <;> omega

theorem index0_1 : ∀ t : Fin cfg0.N, win0_1.index t = ![0, 0] :=
  (by decide +kernel : ∀ t : Fin grid0.N, win0_1.index t = ![0, 0])

/-- Window 1's block of call 0 at a point, read in its array. -/
theorem block0_1 (c : Dev nD) (t : Fin cfg0.N) {j k : ℕ} (hj : j < 5632) (hk : k < 2048) :
    rd (n0 := 5632) (n1 := 2048) (iblk0 V c 1 t) j k = rd (n0 := 5632) (n1 := 2048) (V c main_arg1) (j) (k) := by
  have ht : t.val < 16 := lt_of_lt_of_eq t.isLt N_0
  rw [← rd_of _ hj hk, ← rd_of _ (by omega) (by omega)]
  blk_simp [iblk0]
  refine congrArg (V c main_arg1) (funext (Fin.forall_fin_two.mpr ⟨Fin.ext ?_, Fin.ext ?_⟩))
  · blk_simp [index0_1] <;> (show _ = j) <;> (try dsimp only) <;> omega
  · blk_simp [index0_1] <;> (show _ = k) <;> (try dsimp only) <;> omega

theorem index0_2 : ∀ t : Fin cfg0.N, win0_2.index t = ![t.val, 0] :=
  (by decide +kernel : ∀ t : Fin grid0.N, win0_2.index t = ![t.val, 0])

/-- Window 2's block of call 0 at a point, read in its array. -/
theorem block0_2 (c : Dev nD) (t : Fin cfg0.N) {j k : ℕ} (hj : j < 256) (hk : k < 2048) :
    rd (n0 := 256) (n1 := 2048) (iblk0 V c 2 t) j k = rd (n0 := 4096) (n1 := 2048) (V c main_arg2) (t.val * 256 + j) (k) := by
  have ht : t.val < 16 := lt_of_lt_of_eq t.isLt N_0
  rw [← rd_of _ hj hk, ← rd_of _ (by omega) (by omega)]
  blk_simp [iblk0]
  refine congrArg (V c main_arg2) (funext (Fin.forall_fin_two.mpr ⟨Fin.ext ?_, Fin.ext ?_⟩))
  · blk_simp [index0_2] <;> (show _ = t.val * 256 + j) <;> (try dsimp only) <;> omega
  · blk_simp [index0_2] <;> (show _ = k) <;> (try dsimp only) <;> omega

theorem index0_3 : ∀ t : Fin cfg0.N, win0_3.index t = ![0, 0] :=
  (by decide +kernel : ∀ t : Fin grid0.N, win0_3.index t = ![0, 0])

/-- Window 3's block of call 0 at a point, read in its array. -/
theorem block0_3 (c : Dev nD) (t : Fin cfg0.N) {j k : ℕ} (hj : j < 1) (hk : k < 2048) :
    rd (n0 := 1) (n1 := 2048) (iblk0 V c 3 t) j k = rd (n0 := 1) (n1 := 2048) (V c main_arg3) (j) (k) := by
  have ht : t.val < 16 := lt_of_lt_of_eq t.isLt N_0
  rw [← rd_of _ hj hk, ← rd_of _ (by omega) (by omega)]
  blk_simp [iblk0]
  refine congrArg (V c main_arg3) (funext (Fin.forall_fin_two.mpr ⟨Fin.ext ?_, Fin.ext ?_⟩))
  · blk_simp [index0_3] <;> (show _ = j) <;> (try dsimp only) <;> omega
  · blk_simp [index0_3] <;> (show _ = k) <;> (try dsimp only) <;> omega

theorem index0_4 : ∀ t : Fin cfg0.N, win0_4.index t = ![t.val, 0] :=
  (by decide +kernel : ∀ t : Fin grid0.N, win0_4.index t = ![t.val, 0])

theorem index0_5 : ∀ t : Fin cfg0.N, win0_5.index t = ![t.val, 0] :=
  (by decide +kernel : ∀ t : Fin grid0.N, win0_5.index t = ![t.val, 0])

theorem block0 (c : Dev nD) (t : Fin cfg0.N) {j k : ℕ} (hj : j < 256) (hk : k < 2048) :
    down (iblk0 V c 0 t) (iblk0 V c 1 t) (iblk0 V c 2 t) j k = full 5632 (rd (n0 := 4096) (n1 := 5632) (V c main_arg0)) (rd (n0 := 5632) (n1 := 2048) (V c main_arg1)) (rd (n0 := 4096) (n1 := 2048) (V c main_arg2)) (t.val * 256 + j) k :=
  congrArg₂ (· + ·) (block0_2 V c t hj hk) (nn_congr (fun k_ hk_ => block0_0 V c t hj hk_) fun k_ hk_ => block0_1 V c t hk_ hk)

/-- The residual stream: what call 0 leaves in the whole array. -/
theorem final0_4 (c : Dev nD) : (dat0 V c).arrAt 4 cfg0.N = fun y : S4096x2048.Idx => full 5632 (rd (n0 := 4096) (n1 := 5632) (V c main_arg0)) (rd (n0 := 5632) (n1 := 2048) (V c main_arg1)) (rd (n0 := 4096) (n1 := 2048) (V c main_arg2)) (y 0).val (y 1).val := by
  refine (dat0 V c).arrAt_eq_of_covers 4 _ (by decide +kernel) fun t hf y => ?_
  have ht : t.val < 16 := lt_of_lt_of_eq t.isLt N_0
  have h0 : (y 0).val < 256 := (y 0).isLt
  have h1 : (y 1).val < 2048 := (y 1).isLt
  blk_simp [index0_4]
  rw [after0_4]
  unfold outsAt0
  dsimp only
  rw [out0_4]
  obtain ⟨j, k, rfl⟩ : ∃ (j : Fin 256) (k : Fin 2048), y = ix2 j k := ⟨y 0, y 1, eq_ix2 y⟩
  refine (block0 V c t j.isLt k.isLt).trans ?_
  rfl

/-- The normed rows: what call 0 leaves in the whole array. -/
theorem final0_5 (c : Dev nD) : (dat0 V c).arrAt 5 cfg0.N = fun y : S4096x2048.Idx => norm (full 5632 (rd (n0 := 4096) (n1 := 5632) (V c main_arg0)) (rd (n0 := 5632) (n1 := 2048) (V c main_arg1)) (rd (n0 := 4096) (n1 := 2048) (V c main_arg2))) (rd (n0 := 1) (n1 := 2048) (V c main_arg3)) (y 0).val (y 1).val := by
  refine (dat0 V c).arrAt_eq_of_covers 5 _ (by decide +kernel) fun t hf y => ?_
  have ht : t.val < 16 := lt_of_lt_of_eq t.isLt N_0
  have h0 : (y 0).val < 256 := (y 0).isLt
  have h1 : (y 1).val < 2048 := (y 1).isLt
  blk_simp [index0_5]
  rw [after0_5]
  unfold outsAt0
  dsimp only
  rw [out0_5]
  obtain ⟨j, k, rfl⟩ : ∃ (j : Fin 256) (k : Fin 2048), y = ix2 j k := ⟨y 0, y 1, eq_ix2 y⟩
  refine (norm_congr k.isLt (fun k_ hk => block0 V c t j.isLt hk) (block0_3 V c t (by decide) k.isLt)).trans ?_
  rfl

theorem index1_0 : ∀ t : Fin cfg1.N, win1_0.index t = ![t.val, 0] :=
  (by decide +kernel : ∀ t : Fin grid1.N, win1_0.index t = ![t.val, 0])

/-- Window 0's block of call 1 at a point, read in its array. -/
theorem block1_0 (c : Dev nD) (t : Fin cfg1.N) {j k : ℕ} (hj : j < 512) (hk : k < 2048) :
    rd (n0 := 512) (n1 := 2048) (iblk1 V c 0 t) j k = rd (n0 := 4096) (n1 := 2048) (V c main_arg4) (t.val * 512 + j) (k) := by
  have ht : t.val < 8 := lt_of_lt_of_eq t.isLt N_1
  rw [← rd_of _ hj hk, ← rd_of _ (by omega) (by omega)]
  blk_simp [iblk1]
  refine congrArg (V c main_arg4) (funext (Fin.forall_fin_two.mpr ⟨Fin.ext ?_, Fin.ext ?_⟩))
  · blk_simp [index1_0] <;> (show _ = t.val * 512 + j) <;> (try dsimp only) <;> omega
  · blk_simp [index1_0] <;> (show _ = k) <;> (try dsimp only) <;> omega

theorem index1_1 : ∀ t : Fin cfg1.N, win1_1.index t = ![0, 0] :=
  (by decide +kernel : ∀ t : Fin grid1.N, win1_1.index t = ![0, 0])

/-- Window 1's block of call 1 at a point, read in its array. -/
theorem block1_1 (c : Dev nD) (t : Fin cfg1.N) {j k : ℕ} (hj : j < 2048) (hk : k < 2048) :
    rd (n0 := 2048) (n1 := 2048) (iblk1 V c 1 t) j k = rd (n0 := 2048) (n1 := 2048) (V c main_arg5) (j) (k) := by
  have ht : t.val < 8 := lt_of_lt_of_eq t.isLt N_1
  rw [← rd_of _ hj hk, ← rd_of _ (by omega) (by omega)]
  blk_simp [iblk1]
  refine congrArg (V c main_arg5) (funext (Fin.forall_fin_two.mpr ⟨Fin.ext ?_, Fin.ext ?_⟩))
  · blk_simp [index1_1] <;> (show _ = j) <;> (try dsimp only) <;> omega
  · blk_simp [index1_1] <;> (show _ = k) <;> (try dsimp only) <;> omega

theorem index1_2 : ∀ t : Fin cfg1.N, win1_2.index t = ![t.val, 0] :=
  (by decide +kernel : ∀ t : Fin grid1.N, win1_2.index t = ![t.val, 0])

/-- Window 2's block of call 1 at a point, read in its array. -/
theorem block1_2 (c : Dev nD) (t : Fin cfg1.N) {j k : ℕ} (hj : j < 512) (hk : k < 2048) :
    rd (n0 := 512) (n1 := 2048) (iblk1 V c 2 t) j k = rd (n0 := 4096) (n1 := 2048) (V c main_v0_0) (t.val * 512 + j) (k) := by
  have ht : t.val < 8 := lt_of_lt_of_eq t.isLt N_1
  rw [← rd_of _ hj hk, ← rd_of _ (by omega) (by omega)]
  blk_simp [iblk1]
  refine congrArg (V c main_v0_0) (funext (Fin.forall_fin_two.mpr ⟨Fin.ext ?_, Fin.ext ?_⟩))
  · blk_simp [index1_2] <;> (show _ = t.val * 512 + j) <;> (try dsimp only) <;> omega
  · blk_simp [index1_2] <;> (show _ = k) <;> (try dsimp only) <;> omega

theorem index1_3 : ∀ t : Fin cfg1.N, win1_3.index t = ![0, 0] :=
  (by decide +kernel : ∀ t : Fin grid1.N, win1_3.index t = ![0, 0])

/-- Window 3's block of call 1 at a point, read in its array. -/
theorem block1_3 (c : Dev nD) (t : Fin cfg1.N) {j k : ℕ} (hj : j < 1) (hk : k < 2048) :
    rd (n0 := 1) (n1 := 2048) (iblk1 V c 3 t) j k = rd (n0 := 1) (n1 := 2048) (V c main_arg6) (j) (k) := by
  have ht : t.val < 8 := lt_of_lt_of_eq t.isLt N_1
  rw [← rd_of _ hj hk, ← rd_of _ (by omega) (by omega)]
  blk_simp [iblk1]
  refine congrArg (V c main_arg6) (funext (Fin.forall_fin_two.mpr ⟨Fin.ext ?_, Fin.ext ?_⟩))
  · blk_simp [index1_3] <;> (show _ = j) <;> (try dsimp only) <;> omega
  · blk_simp [index1_3] <;> (show _ = k) <;> (try dsimp only) <;> omega

theorem index1_4 : ∀ t : Fin cfg1.N, win1_4.index t = ![t.val, 0] :=
  (by decide +kernel : ∀ t : Fin grid1.N, win1_4.index t = ![t.val, 0])

theorem index1_5 : ∀ t : Fin cfg1.N, win1_5.index t = ![t.val, 0] :=
  (by decide +kernel : ∀ t : Fin grid1.N, win1_5.index t = ![t.val, 0])

theorem block1 (c : Dev nD) (t : Fin cfg1.N) {j k : ℕ} (hj : j < 512) (hk : k < 2048) :
    outp (iblk1 V c 0 t) (iblk1 V c 1 t) (iblk1 V c 2 t) j k = full 2048 (rd (n0 := 4096) (n1 := 2048) (V c main_arg4)) (rd (n0 := 2048) (n1 := 2048) (V c main_arg5)) (rd (n0 := 4096) (n1 := 2048) (V c main_v0_0)) (t.val * 512 + j) k :=
  congrArg₂ (· + ·) (block1_2 V c t hj hk) (nn_congr (fun k_ hk_ => block1_0 V c t hj hk_) fun k_ hk_ => block1_1 V c t hk_ hk)

/-- The residual stream: what call 1 leaves in the whole array. -/
theorem final1_4 (c : Dev nD) : (dat1 V c).arrAt 4 cfg1.N = fun y : S4096x2048.Idx => full 2048 (rd (n0 := 4096) (n1 := 2048) (V c main_arg4)) (rd (n0 := 2048) (n1 := 2048) (V c main_arg5)) (rd (n0 := 4096) (n1 := 2048) (V c main_v0_0)) (y 0).val (y 1).val := by
  refine (dat1 V c).arrAt_eq_of_covers 4 _ (by decide +kernel) fun t hf y => ?_
  have ht : t.val < 8 := lt_of_lt_of_eq t.isLt N_1
  have h0 : (y 0).val < 512 := (y 0).isLt
  have h1 : (y 1).val < 2048 := (y 1).isLt
  blk_simp [index1_4]
  rw [after1_4]
  obtain ⟨j, k, rfl⟩ : ∃ (j : Fin 512) (k : Fin 2048), y = ix2 j k := ⟨y 0, y 1, eq_ix2 y⟩
  refine (out1_4_apply _ _ _ _ j k).trans ?_
  refine (block1 V c t j.isLt k.isLt).trans ?_
  rfl

/-- The normed rows: what call 1 leaves in the whole array. -/
theorem final1_5 (c : Dev nD) : (dat1 V c).arrAt 5 cfg1.N = fun y : S4096x2048.Idx => norm (full 2048 (rd (n0 := 4096) (n1 := 2048) (V c main_arg4)) (rd (n0 := 2048) (n1 := 2048) (V c main_arg5)) (rd (n0 := 4096) (n1 := 2048) (V c main_v0_0))) (rd (n0 := 1) (n1 := 2048) (V c main_arg6)) (y 0).val (y 1).val := by
  refine (dat1 V c).arrAt_eq_of_covers 5 _ (by decide +kernel) fun t hf y => ?_
  have ht : t.val < 8 := lt_of_lt_of_eq t.isLt N_1
  have h0 : (y 0).val < 512 := (y 0).isLt
  have h1 : (y 1).val < 2048 := (y 1).isLt
  blk_simp [index1_5]
  rw [after1_5]
  obtain ⟨j, k, rfl⟩ : ∃ (j : Fin 512) (k : Fin 2048), y = ix2 j k := ⟨y 0, y 1, eq_ix2 y⟩
  refine (out1_5_apply _ _ _ _ j k).trans ?_
  refine (norm_congr k.isLt (fun k_ hk => block1 V c t j.isLt hk) (block1_3 V c t (by decide) k.isLt)).trans ?_
  rfl

end Cert.Rows

end
-- ==== Proof.RowsRun.lean ====
module

public import proofs.«01_k».proof.Proof.RowsFinal

/-! The two forward calls with a normed result run one after the other: what each result array holds at the end, in terms of the arguments. -/

@[expose] public section

set_option maxRecDepth 16384

noncomputable section

namespace Cert.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen
open Cert.Mix (rd rd_of)
open Cert.Ffn (nn)

local notation "𝕄" => MT nD τ sig Unit (Elt Ideal) ℕ (UR sig nD τ) ℕ

variable (m : (ℓ : Loc nD τ sig) → Buf (Elt Ideal) ℓ) (ρ : Dev nD → PrngReg)

-- the launch theorem's conclusion is matched with the statement below by unfolding plain definitions
set_option backward.isDefEq.respectTransparency.types false in
/-- Every execution ends with each result array at the contents the last call leaves there; the arguments are as launched. -/
theorem run_ends : θ_run defs (onTc (τ := τ) (main (F := Ideal))) ⟨m, fun _ => 0, ρ⟩ (fun r => ∀ c : Dev nD,
      (r.2.mem ((c.tc : Thread nD τ).loc main_v0_0) = W2 m ρ c (Proc.devRef .tc main_v0_0)
      ∧ r.2.mem ((c.tc : Thread nD τ).loc main_v0_1) = W2 m ρ c (Proc.devRef .tc main_v0_1)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨⟨h c _ (mem_uc main_v0_0 (by decide)), h c _ (mem_uc main_v0_1 (by decide)), h c _ (mem_uc main_v1_0 (by decide)), h c _ (mem_uc main_v1_1 (by decide))⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c)⟩)

/-! ## The arrays between the calls -/

/-- The seven arguments at launch. -/
abbrev M0 (c : Dev nD) : (⟨S4096x5632, .bf16⟩ : BufTy).Contents (Elt Ideal) := m ((c.tc : Thread nD τ).loc main_arg0)
abbrev M1 (c : Dev nD) : (⟨S5632x2048, .bf16⟩ : BufTy).Contents (Elt Ideal) := m ((c.tc : Thread nD τ).loc main_arg1)
abbrev M2 (c : Dev nD) : (⟨S4096x2048, .f32⟩ : BufTy).Contents (Elt Ideal) := m ((c.tc : Thread nD τ).loc main_arg2)
abbrev M3 (c : Dev nD) : (⟨S1x2048, .f32⟩ : BufTy).Contents (Elt Ideal) := m ((c.tc : Thread nD τ).loc main_arg3)
abbrev M4 (c : Dev nD) : (⟨S4096x2048, .bf16⟩ : BufTy).Contents (Elt Ideal) := m ((c.tc : Thread nD τ).loc main_arg4)
abbrev M5 (c : Dev nD) : (⟨S2048x2048, .bf16⟩ : BufTy).Contents (Elt Ideal) := m ((c.tc : Thread nD τ).loc main_arg5)
abbrev M6 (c : Dev nD) : (⟨S1x2048, .f32⟩ : BufTy).Contents (Elt Ideal) := m ((c.tc : Thread nD τ).loc main_arg6)

theorem V1_arg4 (c : Dev nD) : V1 m ρ c main_arg4 = m ((c.tc : Thread nD τ).loc main_arg4) := W1_args m ρ c main_arg4 (by decide)
theorem V1_arg5 (c : Dev nD) : V1 m ρ c main_arg5 = m ((c.tc : Thread nD τ).loc main_arg5) := W1_args m ρ c main_arg5 (by decide)
theorem V1_arg6 (c : Dev nD) : V1 m ρ c main_arg6 = m ((c.tc : Thread nD τ).loc main_arg6) := W1_args m ρ c main_arg6 (by decide)
theorem V2_v0_0 (c : Dev nD) : V2 m ρ c main_v0_0 = V1 m ρ c main_v0_0 := W2_of m ρ c main_v0_0 (by decide +kernel)
theorem V2_v0_1 (c : Dev nD) : V2 m ρ c main_v0_1 = V1 m ρ c main_v0_1 := W2_of m ρ c main_v0_1 (by decide +kernel)
/-- The residual stream after the first layer's feed-forward block. -/
def mid (c : Dev nD) : ℕ → ℕ → EReal := full 5632 (rd (n0 := 4096) (n1 := 5632) (M0 m c)) (rd (n0 := 5632) (n1 := 2048) (M1 m c)) (rd (n0 := 4096) (n1 := 2048) (M2 m c))
/-- The residual stream after the second layer's mixer. -/
def last (c : Dev nD) : ℕ → ℕ → EReal := full 2048 (rd (n0 := 4096) (n1 := 2048) (M4 m c)) (rd (n0 := 2048) (n1 := 2048) (M5 m c)) (mid m c)

/-- The residual stream, after the first call. -/
theorem first_v0_0 (c : Dev nD) : V1 m ρ c main_v0_0 = fun y : S4096x2048.Idx => mid m c (y 0).val (y 1).val :=
  (hF0 m ρ c 4).symm.trans (final0_4 (V0 m ρ) c)
theorem rd_first (c : Dev nD) {r k : ℕ} (hr : r < 4096) (hk : k < 2048) : rd (n0 := 4096) (n1 := 2048) (V1 m ρ c main_v0_0) r k = mid m c r k := by
  rw [first_v0_0, ← rd_of _ hr hk]
  rfl
theorem last_eq (c : Dev nD) {r k : ℕ} (hr : r < 4096) (hk : k < 2048) :
    full 2048 (rd (n0 := 4096) (n1 := 2048) (V1 m ρ c main_arg4)) (rd (n0 := 2048) (n1 := 2048) (V1 m ρ c main_arg5)) (rd (n0 := 4096) (n1 := 2048) (V1 m ρ c main_v0_0)) r k = last m c r k := by
  rw [V1_arg4, V1_arg5]
  exact congrArg (· + _) (rd_first m ρ c hr hk)

/-- The first residual stream, at the end of the run. -/
theorem end_v0_0 (c : Dev nD) : W2 m ρ c (Proc.devRef .tc main_v0_0) = fun y : S4096x2048.Idx => mid m c (y 0).val (y 1).val :=
  (V2_v0_0 m ρ c).trans (first_v0_0 m ρ c)
/-- Its normed rows, at the end of the run. -/
theorem end_v0_1 (c : Dev nD) : W2 m ρ c (Proc.devRef .tc main_v0_1) = fun y : S4096x2048.Idx => norm (mid m c) (rd (n0 := 1) (n1 := 2048) (M3 m c)) (y 0).val (y 1).val :=
  (V2_v0_1 m ρ c).trans ((hF0 m ρ c 5).symm.trans (final0_5 (V0 m ρ) c))
/-- The second residual stream, at the end of the run. -/
theorem end_v1_0 (c : Dev nD) : W2 m ρ c (Proc.devRef .tc main_v1_0) = fun y : S4096x2048.Idx => last m c (y 0).val (y 1).val :=
  (hF1 m ρ c 4).symm.trans ((final1_4 (V1 m ρ) c).trans (funext fun y => last_eq m ρ c (y 0).isLt (y 1).isLt))
/-- Its normed rows, at the end of the run. -/
theorem end_v1_1 (c : Dev nD) : W2 m ρ c (Proc.devRef .tc main_v1_1) = fun y : S4096x2048.Idx => norm (last m c) (rd (n0 := 1) (n1 := 2048) (M6 m c)) (y 0).val (y 1).val :=
  (hF1 m ρ c 5).symm.trans ((final1_5 (V1 m ρ) c).trans (funext fun y => norm_congr (y 1).isLt (fun k hk => last_eq m ρ c (y 0).isLt hk) (by rw [V1_arg6])))

end Cert.Rows

end
-- ==== Proof.RowsClaim.lean ====
module

public import proofs.«01_k».proof.Proof.RowsRun
public import proofs.«01_k».proof.Proof.Gen.Reference6Ideal.Run
public import proofs.«01_k».proof.Proof.Gen.Reference6Ideal.Read

/-! The claims about the two forward calls with a normed result. -/

@[expose] public section

noncomputable section

namespace Cert.Rows

open Idealize.ShloMosaic Idealize.ShloMosaic.TcCoe Idealize.SL.Sem
open Cert.Mix (rd rd_of rd_ix2)
open Cert.Ffn (nn)

section
open Cert.Reference6Ideal Cert.Reference6Ideal.Read

/-- The residual stream after the first layer's feed-forward block, as the reference computes it. -/
theorem ref_mid (x0 : (⟨S4096x5632, .bf16⟩ : BufTy).Contents (Elt Ideal)) (x1 : (⟨S5632x2048, .bf16⟩ : BufTy).Contents (Elt Ideal)) (x2 : (⟨S4096x2048, .f32⟩ : BufTy).Contents (Elt Ideal)) (r : Fin 4096) (c : Fin 2048) :
    val_main_v5 (F := Ideal) x0 x1 x2 (ix2 r c) = full 5632 (rd (n0 := 4096) (n1 := 5632) x0) (rd (n0 := 5632) (n1 := 2048) x1) (rd (n0 := 4096) (n1 := 2048) x2) r c := by
  rw [val_main_v5_apply, val_main_v4_apply]
  unfold full nn
  refine congrArg₂ (· + ·) (rd_ix2 x2 r c) (Finset.sum_congr rfl fun k _ => congrArg₂ (· * ·) ?_ ?_)
  · rw [val_main_v0_apply, show lidx_main_v4 (ix2 r c) k = ix2 r k from funext (Fin.forall_fin_two.mpr ⟨rfl, rfl⟩)]
    exact rd_ix2 x0 r k
  · rw [val_main_v1_apply, show ridx_main_v4 (ix2 r c) k = ix2 (n0 := 5632) (n1 := 2048) k c from funext (Fin.forall_fin_two.mpr ⟨rfl, rfl⟩)]
    exact rd_ix2 (n0 := 5632) (n1 := 2048) x1 k c

/-- The residual stream after the second layer's mixer, as the reference computes it. -/
theorem ref_last (x0 : (⟨S4096x5632, .bf16⟩ : BufTy).Contents (Elt Ideal)) (x1 : (⟨S5632x2048, .bf16⟩ : BufTy).Contents (Elt Ideal)) (x2 : (⟨S4096x2048, .f32⟩ : BufTy).Contents (Elt Ideal)) (x4 : (⟨S4096x2048, .bf16⟩ : BufTy).Contents (Elt Ideal)) (x5 : (⟨S2048x2048, .bf16⟩ : BufTy).Contents (Elt Ideal)) (r : Fin 4096) (c : Fin 2048) :
    val_main_v7 (F := Ideal) x0 x1 x2 x4 x5 (ix2 r c) = full 2048 (rd (n0 := 4096) (n1 := 2048) x4) (rd (n0 := 2048) (n1 := 2048) x5) (full 5632 (rd (n0 := 4096) (n1 := 5632) x0) (rd (n0 := 5632) (n1 := 2048) x1) (rd (n0 := 4096) (n1 := 2048) x2)) r c := by
  rw [val_main_v7_apply, ref_mid]
  unfold full
  rw [val_main_v6_apply]
  unfold nn
  refine congrArg₂ (· + ·) rfl (Finset.sum_congr rfl fun k _ => congrArg₂ (· * ·) ?_ ?_)
  · rw [val_main_v2_apply, show lidx_main_v6 (ix2 r c) k = ix2 r k from funext (Fin.forall_fin_two.mpr ⟨rfl, rfl⟩)]
    exact rd_ix2 x4 r k
  · rw [val_main_v3_apply, show ridx_main_v6 (ix2 r c) k = ix2 k c from funext (Fin.forall_fin_two.mpr ⟨rfl, rfl⟩)]
    exact rd_ix2 x5 k c

/-- A row's sum of squares, as the reference computes it. -/
theorem ref_sq_mid (x0 : (⟨S4096x5632, .bf16⟩ : BufTy).Contents (Elt Ideal)) (x1 : (⟨S5632x2048, .bf16⟩ : BufTy).Contents (Elt Ideal)) (x2 : (⟨S4096x2048, .f32⟩ : BufTy).Contents (Elt Ideal)) (r : Fin 4096) (i : S4096.Idx) (hi : (i 0).val = r.val) :
    val_main_v9 (F := Ideal) x0 x1 x2 i = ∑ k : Fin 2048, (full 5632 (rd (n0 := 4096) (n1 := 5632) x0) (rd (n0 := 5632) (n1 := 2048) x1) (rd (n0 := 4096) (n1 := 2048) x2)) r k * (full 5632 (rd (n0 := 4096) (n1 := 5632) x0) (rd (n0 := 5632) (n1 := 2048) x1) (rd (n0 := 4096) (n1 := 2048) x2)) r k := by
  rw [val_main_v9_apply, val_main_cst_apply]
  refine (congrArg (· + _) (Ideal.ofBits_zero_f32)).trans ((zero_add _).trans (Finset.sum_congr rfl fun k _ => ?_))
  rw [val_main_v8_apply, show idx_main_v9 i k = ix2 r k from funext (Fin.forall_fin_two.mpr ⟨Fin.ext hi, rfl⟩), ref_mid]
  rfl

/-- The normed rows of that stream, as the reference computes them. -/
theorem ref_norm_mid (x0 : (⟨S4096x5632, .bf16⟩ : BufTy).Contents (Elt Ideal)) (x1 : (⟨S5632x2048, .bf16⟩ : BufTy).Contents (Elt Ideal)) (x2 : (⟨S4096x2048, .f32⟩ : BufTy).Contents (Elt Ideal)) (x3 : (⟨S1x2048, .f32⟩ : BufTy).Contents (Elt Ideal)) (r : Fin 4096) (c : Fin 2048) :
    val_main_v20 (F := Ideal) x0 x1 x2 x3 (ix2 r c) = norm (full 5632 (rd (n0 := 4096) (n1 := 5632) x0) (rd (n0 := 5632) (n1 := 2048) x1) (rd (n0 := 4096) (n1 := 2048) x2)) (rd (n0 := 1) (n1 := 2048) x3) r c := by
  have e : val_main_v14 (F := Ideal) x0 x1 x2 (ix2 r 0) = meanSq (full 5632 (rd (n0 := 4096) (n1 := 5632) x0) (rd (n0 := 5632) (n1 := 2048) x1) (rd (n0 := 4096) (n1 := 2048) x2)) r := by
    unfold meanSq
    rw [val_main_v14_apply, val_main_v12_apply, val_main_v10_apply, ref_sq_mid x0 x1 x2 r _ rfl]
    rfl
  have e' : val_main_v16 (F := Ideal) x0 x1 x2 (ix2 r c) = Ideal.rsqrt (meanSq (full 5632 (rd (n0 := 4096) (n1 := 5632) x0) (rd (n0 := 5632) (n1 := 2048) x1) (rd (n0 := 4096) (n1 := 2048) x2)) r) := by
    rw [val_main_v16_apply, val_main_v15_apply, show idx_main_v16 (ix2 r c) = ix2 r 0 from funext (Fin.forall_fin_two.mpr ⟨rfl, rfl⟩), e]
    rfl
  have eg : val_main_v18 (F := Ideal) x3 (ix2 r c) = (rd (n0 := 1) (n1 := 2048) x3) 0 c := by
    rw [val_main_v18_apply, show idx_main_v18 (ix2 r c) = ix2 0 c from funext (Fin.forall_fin_two.mpr ⟨rfl, rfl⟩)]
    exact rd_ix2 x3 0 c
  rw [val_main_v20_apply, val_main_v19_apply, val_main_v17_apply, e', eg, ref_mid]
  rfl

/-- A row's sum of squares, as the reference computes it. -/
theorem ref_sq_last (x0 : (⟨S4096x5632, .bf16⟩ : BufTy).Contents (Elt Ideal)) (x1 : (⟨S5632x2048, .bf16⟩ : BufTy).Contents (Elt Ideal)) (x2 : (⟨S4096x2048, .f32⟩ : BufTy).Contents (Elt Ideal)) (x4 : (⟨S4096x2048, .bf16⟩ : BufTy).Contents (Elt Ideal)) (x5 : (⟨S2048x2048, .bf16⟩ : BufTy).Contents (Elt Ideal)) (r : Fin 4096) (i : S4096.Idx) (hi : (i 0).val = r.val) :
    val_main_v22 (F := Ideal) x0 x1 x2 x4 x5 i = ∑ k : Fin 2048, (full 2048 (rd (n0 := 4096) (n1 := 2048) x4) (rd (n0 := 2048) (n1 := 2048) x5) (full 5632 (rd (n0 := 4096) (n1 := 5632) x0) (rd (n0 := 5632) (n1 := 2048) x1) (rd (n0 := 4096) (n1 := 2048) x2))) r k * (full 2048 (rd (n0 := 4096) (n1 := 2048) x4) (rd (n0 := 2048) (n1 := 2048) x5) (full 5632 (rd (n0 := 4096) (n1 := 5632) x0) (rd (n0 := 5632) (n1 := 2048) x1) (rd (n0 := 4096) (n1 := 2048) x2))) r k := by
  rw [val_main_v22_apply, val_main_cst_2_apply]
  refine (congrArg (· + _) (Ideal.ofBits_zero_f32)).trans ((zero_add _).trans (Finset.sum_congr rfl fun k _ => ?_))
  rw [val_main_v21_apply, show idx_main_v22 i k = ix2 r k from funext (Fin.forall_fin_two.mpr ⟨Fin.ext hi, rfl⟩), ref_last]
  rfl

/-- The normed rows of that stream, as the reference computes them. -/
theorem ref_norm_last (x0 : (⟨S4096x5632, .bf16⟩ : BufTy).Contents (Elt Ideal)) (x1 : (⟨S5632x2048, .bf16⟩ : BufTy).Contents (Elt Ideal)) (x2 : (⟨S4096x2048, .f32⟩ : BufTy).Contents (Elt Ideal)) (x4 : (⟨S4096x2048, .bf16⟩ : BufTy).Contents (Elt Ideal)) (x5 : (⟨S2048x2048, .bf16⟩ : BufTy).Contents (Elt Ideal)) (x6 : (⟨S1x2048, .f32⟩ : BufTy).Contents (Elt Ideal)) (r : Fin 4096) (c : Fin 2048) :
    val_main_v33 (F := Ideal) x0 x1 x2 x4 x5 x6 (ix2 r c) = norm (full 2048 (rd (n0 := 4096) (n1 := 2048) x4) (rd (n0 := 2048) (n1 := 2048) x5) (full 5632 (rd (n0 := 4096) (n1 := 5632) x0) (rd (n0 := 5632) (n1 := 2048) x1) (rd (n0 := 4096) (n1 := 2048) x2))) (rd (n0 := 1) (n1 := 2048) x6) r c := by
  have e : val_main_v27 (F := Ideal) x0 x1 x2 x4 x5 (ix2 r 0) = meanSq (full 2048 (rd (n0 := 4096) (n1 := 2048) x4) (rd (n0 := 2048) (n1 := 2048) x5) (full 5632 (rd (n0 := 4096) (n1 := 5632) x0) (rd (n0 := 5632) (n1 := 2048) x1) (rd (n0 := 4096) (n1 := 2048) x2))) r := by
    unfold meanSq
    rw [val_main_v27_apply, val_main_v25_apply, val_main_v23_apply, ref_sq_last x0 x1 x2 x4 x5 r _ rfl]
    rfl
  have e' : val_main_v29 (F := Ideal) x0 x1 x2 x4 x5 (ix2 r c) = Ideal.rsqrt (meanSq (full 2048 (rd (n0 := 4096) (n1 := 2048) x4) (rd (n0 := 2048) (n1 := 2048) x5) (full 5632 (rd (n0 := 4096) (n1 := 5632) x0) (rd (n0 := 5632) (n1 := 2048) x1) (rd (n0 := 4096) (n1 := 2048) x2))) r) := by
    rw [val_main_v29_apply, val_main_v28_apply, show idx_main_v29 (ix2 r c) = ix2 r 0 from funext (Fin.forall_fin_two.mpr ⟨rfl, rfl⟩), e]
    rfl
  have eg : val_main_v31 (F := Ideal) x6 (ix2 r c) = (rd (n0 := 1) (n1 := 2048) x6) 0 c := by
    rw [val_main_v31_apply, show idx_main_v31 (ix2 r c) = ix2 0 c from funext (Fin.forall_fin_two.mpr ⟨rfl, rfl⟩)]
    exact rd_ix2 x6 0 c
  rw [val_main_v33_apply, val_main_v32_apply, val_main_v30_apply, e', eg, ref_last]
  rfl

end

theorem quiescent_reference6 : quiescent_Reference6Ideal (hReference6Ideal := Cert.Reference6Ideal.Gen.facts) :=
  fun m ρ _ => (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

/-- Over the reals the two launches and the reference give the same residual streams and the same normed rows. -/
theorem algebraic6 : algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.Gen.W2 m g c (Proc.devRef .tc Cert.Kernel6Ideal.main_v0_0),
    fun c => Cert.Kernel6Ideal.Gen.W2 m g c (Proc.devRef .tc Cert.Kernel6Ideal.main_v0_1),
    fun c => Cert.Kernel6Ideal.Gen.W2 m g c (Proc.devRef .tc Cert.Kernel6Ideal.main_v1_0),
    fun c => Cert.Kernel6Ideal.Gen.W2 m g c (Proc.devRef .tc Cert.Kernel6Ideal.main_v1_1),
    (θ_run Cert.Kernel6Ideal.defs _ _).mono (fun r h c => ⟨(h c).1.1, (h c).1.2.1, (h c).1.2.2.1, (h c).1.2.2.2, (h c).2⟩) (run_ends m g), ?_⟩
  refine (θ_run Cert.Reference6Ideal.defs _ _).mono (fun r h c => ?_) (Cert.Reference6Ideal.Value.run (F := Ideal) m' g')
  obtain ⟨a0, a1, a2, a3, a4, a5, a6⟩ := hargs c
  refine ⟨(h c).1.trans ?_, (h c).2.1.trans ?_, (h c).2.2.1.trans ?_, (h c).2.2.2.1.trans ?_, (h c).2.2.2.2⟩
  · rw [Cert.Reference6Ideal.Read.val_main_v5_eq, a0, a1, a2]
    refine Eq.trans (funext fun y => ?_) (end_v0_0 m g c).symm
    exact (congrArg _ (eq_ix2 y)).trans (ref_mid _ _ _ (y 0) (y 1))
  · rw [Cert.Reference6Ideal.Read.val_main_v20_eq, a0, a1, a2, a3]
    refine Eq.trans (funext fun y => ?_) (end_v0_1 m g c).symm
    exact (congrArg _ (eq_ix2 y)).trans (ref_norm_mid _ _ _ _ (y 0) (y 1))
  · rw [Cert.Reference6Ideal.Read.val_main_v7_eq, a0, a1, a2, a4, a5]
    refine Eq.trans (funext fun y => ?_) (end_v1_0 m g c).symm
    exact (congrArg _ (eq_ix2 y)).trans (ref_last _ _ _ _ _ (y 0) (y 1))
  · rw [Cert.Reference6Ideal.Read.val_main_v33_eq, a0, a1, a2, a4, a5, a6]
    refine Eq.trans (funext fun y => ?_) (end_v1_1 m g c).symm
    exact (congrArg _ (eq_ix2 y)).trans (ref_norm_last _ _ _ _ _ _ (y 0) (y 1))

end Cert.Rows

end
-- ==== Proof.NormBase.lean ====
module

public import proofs.«01_k».proof.Proof.RowsBase
public import proofs.«01_k».proof.Proof.FfnFinite

/-! The gradient of the scaling by the root mean square, as the two kernels and the two references write it, over the extended reals. -/

@[expose] public section
noncomputable section
open Idealize.ShloMosaic
open Cert.Mix (rd rd_of rd_ix2)
open Cert.Ffn (nn nt tn IsReal fin_mul fin_add fin_sum fin_zero fin_of_abs ofBits_inf)
open Cert.Rows (meanSq meanSq_congr)

namespace Cert.Norm

/-- One over the root of a row's mean square. -/
def scale (h : ℕ → ℕ → EReal) (r : ℕ) : EReal := Ideal.rsqrt (meanSq h r)

/-- A row over the root of its mean square, without a gain. -/
def unitRow (h : ℕ → ℕ → EReal) (r c : ℕ) : EReal := h r c * scale h r

/-- The gradient at the row, as the kernels compute it: `d` is the gradient at the normed row, `b` what else reaches the row, `g` the gain. -/
def back (d h b g : ℕ → ℕ → EReal) (r c : ℕ) : EReal :=
  b r c + scale h r * (d r c * g 0 c - unitRow h r c *
    Ideal.div (∑ k : Fin 2048, d r k * g 0 k * unitRow h r k) (Ideal.ofBits .f32 0x45000000#32))

/-- What the gradient at the mean square comes to, as the references compute it. -/
def through (d h g : ℕ → ℕ → EReal) (r : ℕ) : EReal :=
  Ideal.div ((∑ k : Fin 2048, h r k * (d r k * g 0 k)) * (Ideal.ofBits .f32 0xBF000000#32 * Ideal.div (scale h r) (meanSq h r)))
    (Ideal.ofBits .f32 0x45000000#32)

/-- The gradient at the row, as the references compute it. -/
def backRef (d h b g : ℕ → ℕ → EReal) (r c : ℕ) : EReal :=
  b r c + d r c * g 0 c * scale h r + h r c * through d h g r + through d h g r * h r c

/-- The gradient at the gain from the rows of one block: the sum over its rows. -/
def gainBlock (W : ℕ) (d h : ℕ → ℕ → EReal) (c : ℕ) : EReal := ∑ r : Fin W, d r c * unitRow h r c

/-- The gradient at the gain: the sum over the rows up to `n`. -/
def gainArr (n : ℕ) (d h : ℕ → ℕ → EReal) (c : ℕ) : EReal := ∑ r ∈ Finset.range n, d r c * unitRow h r c

theorem unitRow_congr {h h' : ℕ → ℕ → EReal} {r r' c : ℕ} (hc : c < 2048) (e : ∀ k, k < 2048 → h r k = h' r' k) : unitRow h r c = unitRow h' r' c := by
  unfold unitRow scale
  rw [e c hc, meanSq_congr e]

theorem back_congr {d d' h h' b b' g g' : ℕ → ℕ → EReal} {r r' c : ℕ} (hc : c < 2048) (ed : ∀ k, k < 2048 → d r k = d' r' k)
    (e : ∀ k, k < 2048 → h r k = h' r' k) (eb : b r c = b' r' c) (eg : ∀ k, k < 2048 → g 0 k = g' 0 k) : back d h b g r c = back d' h' b' g' r' c := by
  unfold back
  rw [Finset.sum_congr rfl fun (k : Fin 2048) _ => by rw [ed k k.isLt, eg k k.isLt, unitRow_congr k.isLt e], eb, ed c hc, eg c hc, unitRow_congr hc e]
  unfold scale
  rw [meanSq_congr e]

theorem gainBlock_congr {W : ℕ} {d d' h h' : ℕ → ℕ → EReal} {c : ℕ} {o : ℕ} (hc : c < 2048) (ed : ∀ r, r < W → d r c = d' (o + r) c)
    (e : ∀ r, r < W → ∀ k, k < 2048 → h r k = h' (o + r) k) : gainBlock W d h c = ∑ r ∈ Finset.range W, d' (o + r) c * unitRow h' (o + r) c := by
  unfold gainBlock
  rw [Finset.sum_range]
  exact Finset.sum_congr rfl fun r _ => by rw [ed r r.isLt, unitRow_congr hc (e r r.isLt)]

theorem gainBlock_same {W : ℕ} {d d' h h' : ℕ → ℕ → EReal} {c : ℕ} (hc : c < 2048) (ed : ∀ r, r < W → d r c = d' r c)
    (e : ∀ r, r < W → ∀ k, k < 2048 → h r k = h' r k) : gainBlock W d h c = gainBlock W d' h' c :=
  Finset.sum_congr rfl fun r _ => by rw [ed r r.isLt, unitRow_congr hc (e r r.isLt)]

/-- The rows of a block are its two chunks. -/
theorem gainBlock_two (d h : ℕ → ℕ → EReal) (c : ℕ) :
    gainBlock 256 d h c = gainBlock 128 (fun r => d (0 + r)) (fun r => h (0 + r)) c + gainBlock 128 (fun r => d (128 + r)) (fun r => h (128 + r)) c := by
  refine (Fin.sum_univ_add (a := 128) (b := 128) fun r : Fin (128 + 128) => d r c * unitRow h r c).trans ?_
  simp only [Nat.zero_add]
  rfl

/-- The number 2048 as the programs write it. -/
theorem word_2048 : Ideal.ofBits .f32 0x45000000#32 = ((2048 : ℝ) : EReal) := by
  simp [Ideal.ofBits, Ideal.ieee]
  rw [← EReal.coe_mul]
  norm_num

/-- Minus one half as the programs write it. -/
theorem word_half : Ideal.ofBits .f32 0xBF000000#32 = ((-(1 / 2) : ℝ) : EReal) := by
  simp [Ideal.ofBits, Ideal.ieee]
  rw [← EReal.coe_mul]
  norm_num

/-- The small constant is a positive real number. -/
theorem word_eps : ∃ e : ℝ, 0 < e ∧ Ideal.ofBits .f32 0x358637BD#32 = (e : EReal) := by
  refine ⟨_, ?_, by simp [Ideal.ofBits, Ideal.ieee]; rfl⟩
  norm_num

/-- A square is not negative. -/
theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- A mean square plus the small constant is a positive real number or infinite. -/
theorem meanSq_cases (h : ℕ → ℕ → EReal) (r : ℕ) : (∃ v : ℝ, 0 < v ∧ meanSq h r = (v : EReal)) ∨ meanSq h r = ⊤ := by
  obtain ⟨e, he, hw⟩ := word_eps
  unfold meanSq
  have hS : 0 ≤ ∑ k : Fin 2048, h r k * h r k := Finset.sum_nonneg fun k _ => sq_nonneg' _
  generalize (∑ k : Fin 2048, h r k * h r k) = S at hS
  rw [word_2048, hw, Ideal.div_coe (by norm_num)]
  induction S with
  | bot => exact absurd hS (by simp)
  | top =>
    right
    rw [EReal.top_mul_coe_of_pos (by norm_num), EReal.top_add_coe]
  | coe x =>
    left
    have hx : 0 ≤ x := EReal.coe_nonneg.mp hS
    exact ⟨x * (1 / 2048) + e, by positivity, by rw [EReal.coe_add, EReal.coe_mul]⟩

/-- A number added to itself is twice the number. -/
theorem add_self (x : EReal) : x + x = x * ((2 : ℝ) : EReal) := by
  induction x with
  | bot => rw [EReal.bot_mul_coe_of_pos (by norm_num)]; rfl
  | top => rw [EReal.top_mul_coe_of_pos (by norm_num)]; rfl
  | coe x => rw [← EReal.coe_add, ← EReal.coe_mul]; congr 1; ring

/-- A factor that is neither negative nor infinite comes out of a sum. -/
theorem sum_mul_coe {ι : Type} (s : Finset ι) (f : ι → EReal) {t : ℝ} (ht : 0 ≤ t) : ∑ i ∈ s, f i * (t : EReal) = (∑ i ∈ s, f i) * (t : EReal) := by
  classical
  induction s using Finset.induction_on with
  | empty => simp
  | insert a s ha ih =>
    rw [Finset.sum_insert ha, Finset.sum_insert ha, ih, EReal.right_distrib_of_nonneg_of_ne_top (EReal.coe_nonneg.mpr ht) (EReal.coe_ne_top t)]

/-- The two forms of the gradient are the same, also where entries are infinite. -/
theorem back_eq (d h b g : ℕ → ℕ → EReal) (r c : ℕ) : back d h b g r c = backRef d h b g r c := by
  rcases meanSq_cases h r with ⟨v, hv, ev⟩ | ev
  · have hs : 0 < √v := Real.sqrt_pos.mpr hv
    have hss : √v * √v = v := Real.mul_self_sqrt hv.le
    have es : scale h r = (((√v)⁻¹ : ℝ) : EReal) := by
      unfold scale
      rw [ev, Ideal.rsqrt_coe, if_neg (not_lt.mpr hv.le), if_neg hv.ne']
    have e3 : 1 / v = (√v)⁻¹ * (√v)⁻¹ := by rw [← mul_inv, hss, one_div]
    have hp : 0 < (√v)⁻¹ := inv_pos.mpr hs
    unfold back backRef through unitRow
    rw [es, ev, Ideal.div_coe hv.ne', e3]
    generalize (√v)⁻¹ = s at hp
    rw [Finset.sum_congr rfl fun (k : Fin 2048) _ => show d r k * g 0 k * (h r k * (s : EReal)) = h r k * (d r k * g 0 k) * (s : EReal) by
      rw [← mul_assoc, mul_comm (d r k * g 0 k)], sum_mul_coe _ _ hp.le, word_2048, word_half, Ideal.div_coe (by norm_num), Ideal.div_coe (by norm_num)]
    generalize (∑ k : Fin 2048, h r k * (d r k * g 0 k)) = S
    rw [sub_eq_add_neg, EReal.left_distrib_of_nonneg_of_ne_top (EReal.coe_nonneg.mpr hp.le) (EReal.coe_ne_top s), ← add_assoc, mul_comm (s : EReal) (d r c * g 0 c)]
    rw [add_assoc _ (h r c * _), mul_comm (S * _ * _) (h r c), add_self]
    refine congrArg₂ (· + ·) rfl ?_
    have l : (s : EReal) * -(h r c * (s : EReal) * (S * (s : EReal) * ((1 / 2048 : ℝ) : EReal))) = h r c * S * ((-(s * s * s * (1 / 2048)) : ℝ) : EReal) := by
      rw [EReal.coe_neg, EReal.coe_mul, EReal.coe_mul, EReal.coe_mul, mul_neg, mul_neg]
      congr 1
      ac_rfl
    rw [l]
    simp only [← EReal.coe_mul, mul_assoc]
    congr 4
    ring
  · have es : scale h r = 0 := by
      unfold scale
      rw [ev, Ideal.rsqrt_top]
    unfold back backRef through unitRow
    rw [es, ev, show Ideal.div 0 ⊤ = 0 by simp [Ideal.div], mul_zero, mul_zero, word_2048, Ideal.div_coe (by norm_num), Ideal.div_coe (by norm_num)]
    simp

end Cert.Norm

end
-- ==== Proof.NormPay.lean ====
module

public import proofs.«01_k».proof.Proof.NormBase
public import proofs.«01_k».proof.Proof.Gen.Kernel7Ideal.Skeleton

/-! What each store of the odd layer's input-gradient call writes, entry by entry. -/

@[expose] public section
noncomputable section
open Idealize.ShloMosaic Idealize.ShloMosaic.TcCoe Idealize.SL.Sem
open Cert.Mix (rd rd_of rd_ix2)
open Cert.Ffn (nn nt tn)
open Cert.Rows (meanSq)

namespace Cert.Norm
open Cert.Kernel7Ideal Cert.Kernel7Ideal.Gen

/-- The gradient at the normed rows of a block: a product. -/
theorem pay4 (a : FVec Ideal S256x6144 .bf16) (b : FVec Ideal S2048x6144 .bf16) (r : Fin 256) (c : Fin 2048) :
    k0_pay4 (F := Ideal) a b (ix2 r c) = nt 6144 (rd a) (rd b) r c := by
  unfold nt
  pointwise [k0_pay4]
  simp only [rd_ix2]

/-- One over the root of the mean square, for the two chunks of rows. -/
theorem pay5 (h : FVec Ideal S128x2048 .f32) (r : Fin 128) (c : Fin 1) : k0_pay5 (F := Ideal) h (ix2 r c) = scale (rd h) r := by
  unfold scale meanSq
  pointwise [k0_pay5]
  simp only [rd_ix2]
theorem pay10 (h : FVec Ideal S128x2048 .f32) (r : Fin 128) (c : Fin 1) : k0_pay10 (F := Ideal) h (ix2 r c) = scale (rd h) r := by
  unfold scale meanSq
  pointwise [k0_pay10]
  simp only [rd_ix2]

/-- The rows over the root of their mean square. -/
theorem pay6 (h : FVec Ideal S128x2048 .f32) (r : Fin 128) (c : Fin 2048) : k0_pay6 (F := Ideal) h (ix2 r c) = unitRow (rd h) r c := by
  unfold unitRow
  pointwise [k0_pay6, pay5]
  simp only [rd_ix2]
theorem pay11 (h : FVec Ideal S128x2048 .f32) (r : Fin 128) (c : Fin 2048) : k0_pay11 (F := Ideal) h (ix2 r c) = unitRow (rd h) r c := by
  unfold unitRow
  pointwise [k0_pay11, pay10]
  simp only [rd_ix2]

/-- The gain's gradient so far plus that of a chunk of rows. -/
theorem pay7 (a h : FVec Ideal S128x2048 .f32) (s : FVec Ideal S1x2048 .f32) (j : Fin 1) (c : Fin 2048) :
    k0_pay7 (F := Ideal) a h s (ix2 j c) = rd s j c + gainBlock 128 (rd a) (rd h) c := by
  obtain rfl : j = 0 := Subsingleton.elim _ _
  unfold gainBlock
  pointwise [k0_pay7, pay6]
  simp only [rd_ix2]
  rfl
theorem pay12 (a h : FVec Ideal S128x2048 .f32) (s : FVec Ideal S1x2048 .f32) (j : Fin 1) (c : Fin 2048) :
    k0_pay12 (F := Ideal) a h s (ix2 j c) = rd s j c + gainBlock 128 (rd a) (rd h) c := by
  obtain rfl : j = 0 := Subsingleton.elim _ _
  unfold gainBlock
  pointwise [k0_pay12, pay11]
  simp only [rd_ix2]
  rfl

/-- The gradient at a chunk of rows. -/
theorem pay8 (a h b : FVec Ideal S128x2048 .f32) (g : FVec Ideal S1x2048 .f32) (r : Fin 128) (c : Fin 2048) :
    k0_pay8 (F := Ideal) a (k0_pay5 h) (k0_pay6 h) g b (ix2 r c) = back (rd a) (rd h) (rd b) (rd g) r c := by
  unfold back
  pointwise [k0_pay8, pay5, pay6]
  simp only [rd_ix2]
  rfl
theorem pay1 (a h b : FVec Ideal S128x2048 .f32) (g : FVec Ideal S1x2048 .f32) (r : Fin 128) (c : Fin 2048) :
    k0_pay1 (F := Ideal) a (k0_pay10 h) (k0_pay11 h) g b (ix2 r c) = back (rd a) (rd h) (rd b) (rd g) r c := by
  unfold back
  pointwise [k0_pay1, pay10, pay11]
  simp only [rd_ix2]
  rfl
theorem pay9 (a h b : FVec Ideal S128x2048 .f32) (g : FVec Ideal S1x2048 .f32) (r : Fin 128) (c : Fin 2048) :
    k0_pay9 (F := Ideal) a (k0_pay5 h) (k0_pay6 h) g b (ix2 r c) = back (rd a) (rd h) (rd b) (rd g) r c := pay8 a h b g r c
theorem pay2 (a h b : FVec Ideal S128x2048 .f32) (g : FVec Ideal S1x2048 .f32) (r : Fin 128) (c : Fin 2048) :
    k0_pay2 (F := Ideal) a (k0_pay10 h) (k0_pay11 h) g b (ix2 r c) = back (rd a) (rd h) (rd b) (rd g) r c := pay1 a h b g r c

/-- The gain's gradient starts from nothing. -/
theorem pay3 (j : Fin 1) (c : Fin 2048) : k0_pay3 (F := Ideal) (ix2 j c) = 0 := by
  pointwise [k0_pay3]

end Cert.Norm

end
-- ==== Proof.NormBlock.lean ====
module

public import proofs.«01_k».proof.Proof.NormPay
public import proofs.«01_k».proof.Proof.MixBlock
public import proofs.«01_k».proof.Proof.Gen.Kernel7Ideal.Frame

/-! What one step of the odd layer's input-gradient call stores. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)
open Cert.Rows (ld_rows32)

namespace Cert.Norm
open Cert.Kernel7Ideal Cert.Kernel7Ideal.Gen

/-- The gradient at the normed rows of a 256-row block. -/
def prod (x0 : FVec Ideal S256x6144 .bf16) (x1 : FVec Ideal S2048x6144 .bf16) : ℕ → ℕ → EReal := nt 6144 (rd x0) (rd x1)

theorem chunk_prod (o : ℕ) (x0 : FVec Ideal S256x6144 .bf16) (x1 : FVec Ideal S2048x6144 .bf16)
    (inb : ∀ a, (![o, 0] : Fin 2 → ℕ) a + S128x2048.size a ≤ S256x2048.size a) {r c : ℕ} (hr : r < 128) (hc : c < 2048) :
    rd (n0 := 128) (n1 := 2048) (View.ld (Val := Elt Ideal) (e' := .f32) (k0_pay4 (F := Ideal) x0 x1) (Rect.unit (s := S256x2048) ![o, 0] S128x2048.size inb)) r c = prod x0 x1 (o + r) c := by
  have hn : o + 128 ≤ 256 := inb 0
  refine (ld_rows32 o (k0_pay4 (F := Ideal) x0 x1) inb hr hc).trans ?_
  rw [← rd_of _ (by omega : o + r < 256) hc]
  exact pay4 x0 x1 ⟨o + r, by omega⟩ ⟨c, hc⟩

/-- The gradient at a chunk of rows is that chunk of the gradient at the block. -/
theorem chunk_back (o : ℕ) (x0 : FVec Ideal S256x6144 .bf16) (x1 : FVec Ideal S2048x6144 .bf16) (x2 x3 : FVec Ideal S256x2048 .f32) (x4 : FVec Ideal S1x2048 .f32)
    (inb : ∀ a, (![o, 0] : Fin 2 → ℕ) a + S128x2048.size a ≤ S256x2048.size a) {r c : ℕ} (hr : r < 128) (hc : c < 2048) :
    back (rd (n0 := 128) (n1 := 2048) (View.ld (Val := Elt Ideal) (e' := .f32) (k0_pay4 (F := Ideal) x0 x1) (Rect.unit (s := S256x2048) ![o, 0] S128x2048.size inb)))
      (rd (n0 := 128) (n1 := 2048) (View.ld (Val := Elt Ideal) (e' := .f32) x2 (Rect.unit (s := S256x2048) ![o, 0] S128x2048.size inb)))
      (rd (n0 := 128) (n1 := 2048) (View.ld (Val := Elt Ideal) (e' := .f32) x3 (Rect.unit (s := S256x2048) ![o, 0] S128x2048.size inb))) (rd x4) r c
      = back (prod x0 x1) (rd x2) (rd x3) (rd x4) (o + r) c :=
  back_congr hc (fun k hk => chunk_prod o x0 x1 inb hr hk) (fun k hk => ld_rows32 o x2 inb hr hk) (ld_rows32 o x3 inb hr hc) fun _ _ => rfl

/-- The gain's gradient from a chunk of rows. -/
theorem chunk_gain (o : ℕ) (x0 : FVec Ideal S256x6144 .bf16) (x1 : FVec Ideal S2048x6144 .bf16) (x2 : FVec Ideal S256x2048 .f32)
    (inb inb' : ∀ a, (![o, 0] : Fin 2 → ℕ) a + S128x2048.size a ≤ S256x2048.size a) {c : ℕ} (hc : c < 2048) :
    gainBlock 128 (rd (n0 := 128) (n1 := 2048) (View.ld (Val := Elt Ideal) (e' := .f32) (k0_pay4 (F := Ideal) x0 x1) (Rect.unit (s := S256x2048) ![o, 0] S128x2048.size inb)))
      (rd (n0 := 128) (n1 := 2048) (View.ld (Val := Elt Ideal) (e' := .f32) x2 (Rect.unit (s := S256x2048) ![o, 0] S128x2048.size inb'))) c
      = gainBlock 128 (fun r => prod x0 x1 (o + r)) (fun r => rd x2 (o + r)) c :=
  gainBlock_same hc (fun r hr => chunk_prod o x0 x1 inb hr hc) fun r hr k hk => ld_rows32 o x2 inb' hr hk

/-- The gain's gradient starts from nothing. -/
theorem pay_zero (a : Fin 1) (b : Fin 2048) : rd (n0 := 1) (n1 := 2048) (k0_pay3 (F := Ideal)) a b = 0 :=
  (rd_ix2 _ a b).symm.trans (pay3 a b)

/-- What the first step stores of the gradient at the rows. -/
theorem out5_A (c : Dev nD) (i : grid0.Coords) (a2 : Memref sig .tc .vmem S256x6144 .bf16) (h2 : a2.IsWhole)
    (a3 : Memref sig .tc .vmem S2048x6144 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S256x2048 .f32) (h10 : a10.IsWhole)
    (hc : cond0_0 i) (x0 : FVec Ideal S256x6144 .bf16) (x1 : FVec Ideal S2048x6144 .bf16) (x2 x3 : FVec Ideal S256x2048 .f32) (x4 : FVec Ideal S1x2048 .f32) :
    out0_A_5 (F := Ideal) c i a2 h2 a3 h3 a4 h4 a5 h5 a6 h6 a7 h7 a8 h8 a9 h9 a10 h10 hc x0 x1 x2 x3 x4 = fun y => back (prod x0 x1) (rd x2) (rd x3) (rd x4) (y 0).val (y 1).val := by
  unfold out0_A_5
  rw [View.read_writes_eq_canon _ _ _ (cover0_A_5 (F := Ideal) c i a2 h2 a3 h3 a4 h4 a5 h5 a6 h6 a7 h7 a8 h8 a9 h9 a10 h10 hc x0 x1 x2 x3 x4)]
  funext y
  suffices hp : View.PiecesOf (Val := Elt Ideal) (e := .f32) (fun y : S256x2048.Idx => back (prod x0 x1) (rd x2) (rd x3) (rd x4) (y 0).val (y 1).val) _ from
    View.canon_apply_of_pieces (fun y : S256x2048.Idx => back (prod x0 x1) (rd x2) (rd x3) (rd x4) (y 0).val (y 1).val) _ hp.mem y (cover0_A_5 (F := Ideal) c i a2 h2 a3 h3 a4 h4 a5 h5 a6 h6 a7 h7 a8 h8 a9 h9 a10 h10 hc x0 x1 x2 x3 x4 y)
  unfold kernelRun0_A
  dsimp only
  sl_unfold_words
  simp only [View.readAt_eq_ld, h2.read_unread, h3.read_unread, h4.read_unread, h5.read_unread, h6.read_unread, h7.read_unread, h8.read_unread, h9.read_unread, h10.read_unread, View.ld_unit_zero (S := S256x6144) hz, View.ld_unit_zero (S := S2048x6144) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay1 _ _ _ _ a b).trans ?_
    show _ = back (prod x0 x1) (rd x2) (rd x3) (rd x4) (128 + 1 * a.val) (0 + 1 * b.val)
    rw [Nat.one_mul, Nat.one_mul, Nat.zero_add b.val]
    exact chunk_back 128 x0 x1 x2 x3 x4 _ a.isLt b.isLt
  · obtain ⟨a, b, rfl⟩ : ∃ (a : Fin 128) (b : Fin 2048), x = ix2 a b := ⟨x 0, x 1, eq_ix2 x⟩
    refine (pay8 _ _ _ _ a b).trans ?_
    show _ = back (prod x0 x1) (rd x2) (rd x3) (rd x4) (0 + 1 * a.val) (0 + 1 * b.val)
    rw [Nat.one_mul, Nat.one_mul, Nat.zero_add b.val]
    exact chunk_back 0 x0 x1 x2 x3 x4 _ a.isLt b.isLt

/-- What the first step stores of the gradient at the rows (the half-precision copy). -/
theorem out6_A (c : Dev nD) (i : grid0.Coords) (a2 : Memref sig .tc .vmem S256x6144 .bf16) (h2 : a2.IsWhole)
    (a3 : Memref sig .tc .vmem S2048x6144 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S256x2048 .f32) (h10 : a10.IsWhole)
    (hc : cond0_0 i) (x0 : FVec Ideal S256x6144 .bf16) (x1 : FVec Ideal S2048x6144 .bf16) (x2 x3 : FVec Ideal S256x2048 .f32) (x4 : FVec Ideal S1x2048 .f32) :
    out0_A_6 (F := Ideal) c i a2 h2 a3 h3 a4 h4 a5 h5 a6 h6 a7 h7 a8 h8 a9 h9 a10 h10 hc x0 x1 x2 x3 x4 = fun y => back (prod x0 x1) (rd x2) (rd x3) (rd x4) (y 0).val (y 1).val := by
  unfold out0_A_6
  rw [View.read_writes_eq_canon _ _ _ (cover0_A_6 (F := Ideal) c i a2 h2 a3 h3 a4 h4 a5 h5 a6 h6 a7 h7 a8 h8 a9 h9 a10 h10 hc x0 x1 x2 x3 x4)]
  funext y
  suffices hp : View.PiecesOf (Val := Elt Ideal) (e := .bf16) (fun y : S256x2048.Idx => back (prod x0 x1) (rd x2) (rd x3) (rd x4) (y 0).val (y 1).val) _ from
    View.canon_apply_of_pieces (fun y : S256x2048.Idx => back (prod x0 x1) (rd x2) (rd x3) (rd x4) (y 0).val (y 1).val) _ hp.mem y (cover0_A_6 (F := Ideal) c i a2 h2 a3 h3 a4 h4 a5 h5 a6 h6 a7 h7 a8 h8 a9 h9 a10 h10 hc x0 x1 x2 x3 x4 y)
  unfold kernelRun0_A
  dsimp only
  sl_unfold_words
  simp only [View.readAt_eq_ld, h2.read_unread, h3.read_unread, h4.read_unread, h5.read_unread, h6.read_unread, h7.read_unread, h8.read_unread, h9.read_unread, h10.read_unread, View.ld_unit_zero (S := S256x6144) hz, View.ld_unit_zero (S := S2048x6144) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay2 _ _ _ _ a b).trans ?_
    show _ = back (prod x0 x1) (rd x2) (rd x3) (rd x4) (128 + 1 * a.val) (0 + 1 * b.val)
    rw [Nat.one_mul, Nat.one_mul, Nat.zero_add b.val]
    exact chunk_back 128 x0 x1 x2 x3 x4 _ a.isLt b.isLt
  · obtain ⟨a, b, rfl⟩ : ∃ (a : Fin 128) (b : Fin 2048), x = ix2 a b := ⟨x 0, x 1, eq_ix2 x⟩
    refine (pay9 _ _ _ _ a b).trans ?_
    show _ = back (prod x0 x1) (rd x2) (rd x3) (rd x4) (0 + 1 * a.val) (0 + 1 * b.val)
    rw [Nat.one_mul, Nat.one_mul, Nat.zero_add b.val]
    exact chunk_back 0 x0 x1 x2 x3 x4 _ a.isLt b.isLt

/-- What the first step leaves of the gain's gradient. -/
theorem sums_A (c : Dev nD) (i : grid0.Coords) (a2 : Memref sig .tc .vmem S256x6144 .bf16) (h2 : a2.IsWhole)
    (a3 : Memref sig .tc .vmem S2048x6144 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S256x2048 .f32) (h10 : a10.IsWhole)
    (hc : cond0_0 i) (x0 : FVec Ideal S256x6144 .bf16) (x1 : FVec Ideal S2048x6144 .bf16) (x2 x3 : FVec Ideal S256x2048 .f32) (x4 : FVec Ideal S1x2048 .f32) :
    out0_A_7 (F := Ideal) c i a2 h2 a3 h3 a4 h4 a5 h5 a6 h6 a7 h7 a8 h8 a9 h9 a10 h10 hc x0 x1 x2 x3 x4 = fun y => 0 + gainBlock 256 (prod x0 x1) (rd x2) (y 1).val := by
  unfold out0_A_7
  rw [View.read_writes_eq_canon _ _ _ (cover0_A_7 (F := Ideal) c i a2 h2 a3 h3 a4 h4 a5 h5 a6 h6 a7 h7 a8 h8 a9 h9 a10 h10 hc x0 x1 x2 x3 x4)]
  funext y
  unfold kernelRun0_A
  dsimp only
  sl_unfold_words
  rw [View.canon_cons_unit_zero hz]
  simp only [View.readAt_eq_ld, h2.read_unread, h3.read_unread, h4.read_unread, h5.read_unread, h6.read_unread, h7.read_unread, h8.read_unread, h9.read_unread, h10.read_unread, View.ld_unit_zero (S := S256x6144) hz, View.ld_unit_zero (S := S2048x6144) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay12 _ _ _ a b).trans ?_
  refine (congrArg₂ (· + ·) ((rd_ix2 _ a b).symm.trans (pay7 _ _ _ a b)) rfl).trans ?_
  rw [gainBlock_two, chunk_gain 0 x0 x1 x2 _ _ b.isLt, chunk_gain 128 x0 x1 x2 _ _ b.isLt]
  rw [pay_zero, add_assoc]
  rfl

/-- What a later step stores of the gradient at the rows. -/
theorem out5_B (c : Dev nD) (i : grid0.Coords) (a2 : Memref sig .tc .vmem S256x6144 .bf16) (h2 : a2.IsWhole)
    (a3 : Memref sig .tc .vmem S2048x6144 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S256x2048 .f32) (h10 : a10.IsWhole)
    (hc : ¬cond0_0 i) (x0 : FVec Ideal S256x6144 .bf16) (x1 : FVec Ideal S2048x6144 .bf16) (x2 x3 : FVec Ideal S256x2048 .f32) (x4 : FVec Ideal S1x2048 .f32) (xo : FVec Ideal S1x2048 .f32) :
    out0_B_5 (F := Ideal) c i a2 h2 a3 h3 a4 h4 a5 h5 a6 h6 a7 h7 a8 h8 a9 h9 a10 h10 hc x0 x1 x2 x3 x4 xo = fun y => back (prod x0 x1) (rd x2) (rd x3) (rd x4) (y 0).val (y 1).val := by
  unfold out0_B_5
  rw [View.read_writes_eq_canon _ _ _ (cover0_B_5 (F := Ideal) c i a2 h2 a3 h3 a4 h4 a5 h5 a6 h6 a7 h7 a8 h8 a9 h9 a10 h10 hc x0 x1 x2 x3 x4 xo)]
  funext y
  suffices hp : View.PiecesOf (Val := Elt Ideal) (e := .f32) (fun y : S256x2048.Idx => back (prod x0 x1) (rd x2) (rd x3) (rd x4) (y 0).val (y 1).val) _ from
    View.canon_apply_of_pieces (fun y : S256x2048.Idx => back (prod x0 x1) (rd x2) (rd x3) (rd x4) (y 0).val (y 1).val) _ hp.mem y (cover0_B_5 (F := Ideal) c i a2 h2 a3 h3 a4 h4 a5 h5 a6 h6 a7 h7 a8 h8 a9 h9 a10 h10 hc x0 x1 x2 x3 x4 xo y)
  unfold kernelRun0_B
  dsimp only
  sl_unfold_words
  simp only [View.readAt_eq_ld, h2.read_unread, h3.read_unread, h4.read_unread, h5.read_unread, h6.read_unread, h7.read_unread, h8.read_unread, h9.read_unread, h10.read_unread, View.ld_unit_zero (S := S256x6144) hz, View.ld_unit_zero (S := S2048x6144) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay1 _ _ _ _ a b).trans ?_
    show _ = back (prod x0 x1) (rd x2) (rd x3) (rd x4) (128 + 1 * a.val) (0 + 1 * b.val)
    rw [Nat.one_mul, Nat.one_mul, Nat.zero_add b.val]
    exact chunk_back 128 x0 x1 x2 x3 x4 _ a.isLt b.isLt
  · obtain ⟨a, b, rfl⟩ : ∃ (a : Fin 128) (b : Fin 2048), x = ix2 a b := ⟨x 0, x 1, eq_ix2 x⟩
    refine (pay8 _ _ _ _ a b).trans ?_
    show _ = back (prod x0 x1) (rd x2) (rd x3) (rd x4) (0 + 1 * a.val) (0 + 1 * b.val)
    rw [Nat.one_mul, Nat.one_mul, Nat.zero_add b.val]
    exact chunk_back 0 x0 x1 x2 x3 x4 _ a.isLt b.isLt

/-- What a later step stores of the gradient at the rows (the half-precision copy). -/
theorem out6_B (c : Dev nD) (i : grid0.Coords) (a2 : Memref sig .tc .vmem S256x6144 .bf16) (h2 : a2.IsWhole)
    (a3 : Memref sig .tc .vmem S2048x6144 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S256x2048 .f32) (h10 : a10.IsWhole)
    (hc : ¬cond0_0 i) (x0 : FVec Ideal S256x6144 .bf16) (x1 : FVec Ideal S2048x6144 .bf16) (x2 x3 : FVec Ideal S256x2048 .f32) (x4 : FVec Ideal S1x2048 .f32) (xo : FVec Ideal S1x2048 .f32) :
    out0_B_6 (F := Ideal) c i a2 h2 a3 h3 a4 h4 a5 h5 a6 h6 a7 h7 a8 h8 a9 h9 a10 h10 hc x0 x1 x2 x3 x4 xo = fun y => back (prod x0 x1) (rd x2) (rd x3) (rd x4) (y 0).val (y 1).val := by
  unfold out0_B_6
  rw [View.read_writes_eq_canon _ _ _ (cover0_B_6 (F := Ideal) c i a2 h2 a3 h3 a4 h4 a5 h5 a6 h6 a7 h7 a8 h8 a9 h9 a10 h10 hc x0 x1 x2 x3 x4 xo)]
  funext y
  suffices hp : View.PiecesOf (Val := Elt Ideal) (e := .bf16) (fun y : S256x2048.Idx => back (prod x0 x1) (rd x2) (rd x3) (rd x4) (y 0).val (y 1).val) _ from
    View.canon_apply_of_pieces (fun y : S256x2048.Idx => back (prod x0 x1) (rd x2) (rd x3) (rd x4) (y 0).val (y 1).val) _ hp.mem y (cover0_B_6 (F := Ideal) c i a2 h2 a3 h3 a4 h4 a5 h5 a6 h6 a7 h7 a8 h8 a9 h9 a10 h10 hc x0 x1 x2 x3 x4 xo y)
  unfold kernelRun0_B
  dsimp only
  sl_unfold_words
  simp only [View.readAt_eq_ld, h2.read_unread, h3.read_unread, h4.read_unread, h5.read_unread, h6.read_unread, h7.read_unread, h8.read_unread, h9.read_unread, h10.read_unread, View.ld_unit_zero (S := S256x6144) hz, View.ld_unit_zero (S := S2048x6144) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay2 _ _ _ _ a b).trans ?_
    show _ = back (prod x0 x1) (rd x2) (rd x3) (rd x4) (128 + 1 * a.val) (0 + 1 * b.val)
    rw [Nat.one_mul, Nat.one_mul, Nat.zero_add b.val]
    exact chunk_back 128 x0 x1 x2 x3 x4 _ a.isLt b.isLt
  · obtain ⟨a, b, rfl⟩ : ∃ (a : Fin 128) (b : Fin 2048), x = ix2 a b := ⟨x 0, x 1, eq_ix2 x⟩
    refine (pay9 _ _ _ _ a b).trans ?_
    show _ = back (prod x0 x1) (rd x2) (rd x3) (rd x4) (0 + 1 * a.val) (0 + 1 * b.val)
    rw [Nat.one_mul, Nat.one_mul, Nat.zero_add b.val]
    exact chunk_back 0 x0 x1 x2 x3 x4 _ a.isLt b.isLt

/-- What a later step leaves of the gain's gradient. -/
theorem sums_B (c : Dev nD) (i : grid0.Coords) (a2 : Memref sig .tc .vmem S256x6144 .bf16) (h2 : a2.IsWhole)
    (a3 : Memref sig .tc .vmem S2048x6144 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S256x2048 .f32) (h10 : a10.IsWhole)
    (hc : ¬cond0_0 i) (x0 : FVec Ideal S256x6144 .bf16) (x1 : FVec Ideal S2048x6144 .bf16) (x2 x3 : FVec Ideal S256x2048 .f32) (x4 : FVec Ideal S1x2048 .f32) (xo : FVec Ideal S1x2048 .f32) :
    out0_B_7 (F := Ideal) c i a2 h2 a3 h3 a4 h4 a5 h5 a6 h6 a7 h7 a8 h8 a9 h9 a10 h10 hc x0 x1 x2 x3 x4 xo = fun y => rd xo (y 0).val (y 1).val + gainBlock 256 (prod x0 x1) (rd x2) (y 1).val := by
  unfold out0_B_7
  rw [View.read_writes_eq_canon _ _ _ (cover0_B_7 (F := Ideal) c i a2 h2 a3 h3 a4 h4 a5 h5 a6 h6 a7 h7 a8 h8 a9 h9 a10 h10 hc x0 x1 x2 x3 x4 xo)]
  funext y
  unfold kernelRun0_B
  dsimp only
  sl_unfold_words
  rw [View.canon_cons_unit_zero hz]
  simp only [View.readAt_eq_ld, h2.read_unread, h3.read_unread, h4.read_unread, h5.read_unread, h6.read_unread, h7.read_unread, h8.read_unread, h9.read_unread, h10.read_unread, View.ld_unit_zero (S := S256x6144) hz, View.ld_unit_zero (S := S2048x6144) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay12 _ _ _ a b).trans ?_
  refine (congrArg₂ (· + ·) ((rd_ix2 _ a b).symm.trans (pay7 _ _ _ a b)) rfl).trans ?_
  rw [gainBlock_two, chunk_gain 0 x0 x1 x2 _ _ b.isLt, chunk_gain 128 x0 x1 x2 _ _ b.isLt]
  rw [add_assoc]
  rfl

end Cert.Norm

end
-- ==== Proof.NormFinal.lean ====
module

public import proofs.«01_k».proof.Proof.NormBlock
public import Idealize.ShloMosaic.Lib.Pipeline.ValueKit

/-! What the odd layer's input-gradient call leaves in its result arrays. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)

namespace Cert.Norm
open Cert.Kernel7Ideal Cert.Kernel7Ideal.Gen

variable (m : (ℓ : Loc nD τ sig) → Buf (Elt Ideal) ℓ)

/-- The gradient at the normed rows. -/
def dOf (c : Dev nD) : ℕ → ℕ → EReal := nt 6144 (rd (n0 := 4096) (n1 := 6144) (m ((c : Thread nD τ).loc main_arg0))) (rd (n0 := 2048) (n1 := 6144) (m ((c : Thread nD τ).loc main_arg1)))
/-- The rows. -/
def hOf (c : Dev nD) : ℕ → ℕ → EReal := rd (n0 := 4096) (n1 := 2048) (m ((c : Thread nD τ).loc main_arg2))
/-- What else reaches the rows. -/
def bOf (c : Dev nD) : ℕ → ℕ → EReal := rd (n0 := 4096) (n1 := 2048) (m ((c : Thread nD τ).loc main_arg3))
/-- The gain. -/
def gOf (c : Dev nD) : ℕ → ℕ → EReal := rd (n0 := 1) (n1 := 2048) (m ((c : Thread nD τ).loc main_arg4))

theorem index0 : ∀ t : Fin cfg0.N, win0_0.index t = ![t.val, 0] :=
  (by decide +kernel : ∀ t : Fin grid0.N, win0_0.index t = ![t.val, 0])

/-- Window 0's block at a point, read in its array. -/
theorem block0 (c : Dev nD) (t : Fin cfg0.N) {j k : ℕ} (hj : j < 256) (hk : k < 6144) :
    rd (n0 := 256) (n1 := 6144) (iblk m c 0 t) j k = rd (n0 := 4096) (n1 := 6144) (m ((c : Thread nD τ).loc main_arg0)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg0)) (funext (Fin.forall_fin_two.mpr ⟨Fin.ext ?_, Fin.ext ?_⟩))
  · blk_simp [index0] <;> (show _ = 256 * t.val + j) <;> (try dsimp only) <;> omega
  · blk_simp [index0] <;> (show _ = k) <;> (try dsimp only) <;> omega

theorem index1 : ∀ t : Fin cfg0.N, win0_1.index t = ![0, 0] :=
  (by decide +kernel : ∀ t : Fin grid0.N, win0_1.index t = ![0, 0])

/-- Window 1's block at a point, read in its array. -/
theorem block1 (c : Dev nD) (t : Fin cfg0.N) {j k : ℕ} (hj : j < 2048) (hk : k < 6144) :
    rd (n0 := 2048) (n1 := 6144) (iblk m c 1 t) j k = rd (n0 := 2048) (n1 := 6144) (m ((c : Thread nD τ).loc main_arg1)) (j) k := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index1] <;> (show _ = j) <;> (try dsimp only) <;> omega
  · blk_simp [index1] <;> (show _ = k) <;> (try dsimp only) <;> omega

theorem index2 : ∀ t : Fin cfg0.N, win0_2.index t = ![t.val, 0] :=
  (by decide +kernel : ∀ t : Fin grid0.N, win0_2.index t = ![t.val, 0])

/-- Window 2's block at a point, read in its array. -/
theorem block2 (c : Dev nD) (t : Fin cfg0.N) {j k : ℕ} (hj : j < 256) (hk : k < 2048) :
    rd (n0 := 256) (n1 := 2048) (iblk m c 2 t) j k = rd (n0 := 4096) (n1 := 2048) (m ((c : Thread nD τ).loc main_arg2)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg2)) (funext (Fin.forall_fin_two.mpr ⟨Fin.ext ?_, Fin.ext ?_⟩))
  · blk_simp [index2] <;> (show _ = 256 * t.val + j) <;> (try dsimp only) <;> omega
  · blk_simp [index2] <;> (show _ = k) <;> (try dsimp only) <;> omega

theorem index3 : ∀ t : Fin cfg0.N, win0_3.index t = ![t.val, 0] :=
  (by decide +kernel : ∀ t : Fin grid0.N, win0_3.index t = ![t.val, 0])

/-- Window 3's block at a point, read in its array. -/
theorem block3 (c : Dev nD) (t : Fin cfg0.N) {j k : ℕ} (hj : j < 256) (hk : k < 2048) :
    rd (n0 := 256) (n1 := 2048) (iblk m c 3 t) j k = rd (n0 := 4096) (n1 := 2048) (m ((c : Thread nD τ).loc main_arg3)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg3)) (funext (Fin.forall_fin_two.mpr ⟨Fin.ext ?_, Fin.ext ?_⟩))
  · blk_simp [index3] <;> (show _ = 256 * t.val + j) <;> (try dsimp only) <;> omega
  · blk_simp [index3] <;> (show _ = k) <;> (try dsimp only) <;> omega

theorem index4 : ∀ t : Fin cfg0.N, win0_4.index t = ![0, 0] :=
  (by decide +kernel : ∀ t : Fin grid0.N, win0_4.index t = ![0, 0])

/-- Window 4's block at a point, read in its array. -/
theorem block4 (c : Dev nD) (t : Fin cfg0.N) {j k : ℕ} (hj : j < 1) (hk : k < 2048) :
    rd (n0 := 1) (n1 := 2048) (iblk m c 4 t) j k = rd (n0 := 1) (n1 := 2048) (m ((c : Thread nD τ).loc main_arg4)) (j) k := by
  have ht : t.val < 16 := lt_of_lt_of_eq t.isLt N_0
  rw [← rd_of _ hj hk, ← rd_of _ (by omega) (by omega)]
  blk_simp [iblk]
  refine congrArg (m ((c : Thread nD τ).loc main_arg4)) (funext (Fin.forall_fin_two.mpr ⟨Fin.ext ?_, Fin.ext ?_⟩))
  · blk_simp [index4] <;> (show _ = j) <;> (try dsimp only) <;> omega
  · blk_simp [index4] <;> (show _ = k) <;> (try dsimp only) <;> omega

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

theorem index7 : ∀ t : Fin cfg0.N, win0_7.index t = ![0, 0] :=
  (by decide +kernel : ∀ t : Fin grid0.N, win0_7.index t = ![0, 0])

/-- The gradient at the normed rows of a point's block. -/
theorem prod_eq (c : Dev nD) (t : Fin cfg0.N) {j k : ℕ} (hj : j < 256) (hk : k < 2048) :
    prod (iblk m c 0 t) (iblk m c 1 t) j k = dOf m c (256 * t.val + j) k :=
  nt_congr (fun q hq => block0 m c t hj hq) (fun q hq => block1 m c t hk hq)

/-- The gradient at the rows of a point's block. -/
theorem back_block (c : Dev nD) (t : Fin cfg0.N) {j k : ℕ} (hj : j < 256) (hk : k < 2048) :
    back (prod (iblk m c 0 t) (iblk m c 1 t)) (rd (n0 := 256) (n1 := 2048) (iblk m c 2 t)) (rd (n0 := 256) (n1 := 2048) (iblk m c 3 t)) (rd (n0 := 1) (n1 := 2048) (iblk m c 4 t)) j k
      = back (dOf m c) (hOf m c) (bOf m c) (gOf m c) (256 * t.val + j) k :=
  back_congr hk (fun q hq => prod_eq m c t hj hq) (fun q hq => block2 m c t hj hq) (block3 m c t hj hk) fun q hq => block4 m c t (by decide) hq

/-- The gain's gradient from the rows of a point's block. -/
theorem gain_block (c : Dev nD) (t : Fin cfg0.N) {k : ℕ} (hk : k < 2048) :
    gainBlock 256 (prod (iblk m c 0 t) (iblk m c 1 t)) (rd (n0 := 256) (n1 := 2048) (iblk m c 2 t)) k
      = ∑ r ∈ Finset.range 256, dOf m c (256 * t.val + r) k * unitRow (hOf m c) (256 * t.val + r) k :=
  gainBlock_congr hk (fun r hr => prod_eq m c t hr hk) fun r hr q hq => block2 m c t hr hq

/-- The gain's gradient after a point: the sum over the rows of the blocks so far. -/
theorem acc_eq (c : Dev nD) : ∀ (n : ℕ) (hn : n < cfg0.N) (k : Fin 1) (col : Fin 2048),
    (outsAt0 m c n hn).2.2 (ix2 k col) = gainArr (256 * n + 256) (dOf m c) (hOf m c) col := by
  intro n
  induction n with
  | zero =>
    intro hn k col
    have e := outsAt0_A m c ⟨0, hn⟩ rfl
    dsimp only at e
    rw [e]
    dsimp only
    rw [sums_A]
    show 0 + gainBlock 256 _ _ col.val = _
    rw [zero_add, gain_block m c ⟨0, hn⟩ col.isLt]
    simp only [Nat.mul_zero, Nat.zero_add]
    rfl
  | succ n ih =>
    intro hn k col
    have hN : n + 1 < 16 := lt_of_lt_of_eq hn N_0
    have e := outsAt0_B m c ⟨n + 1, hn⟩ (show ¬(n + 1) % 16 = 0 by omega)
    dsimp only at e
    rw [e]
    dsimp only
    rw [sums_B]
    show rd (n0 := 1) (n1 := 2048) (outsAt0 m c (n + 1 - 1) _).2.2 k.val col.val + gainBlock 256 _ _ col.val = _
    rw [← rd_ix2 (n0 := 1) (n1 := 2048) _ k col, gain_block m c ⟨n + 1, hn⟩ col.isLt]
    have e1 := ih (by omega) k col
    simp only [Nat.add_sub_cancel]
    unfold gainArr at e1 ⊢
    rw [e1, show 256 * (n + 1) = 256 * n + 256 by omega, Finset.sum_range_add _ (256 * n + 256) 256]

/-- The gradient at the rows: what the call leaves in the whole array. -/
theorem final5 (c : Dev nD) : (dats m 0 c).arrAt 5 cfg0.N = fun y : S4096x2048.Idx => back (dOf m c) (hOf m c) (bOf m c) (gOf m c) (y 0).val (y 1).val := by
  refine (dats m 0 c).arrAt_eq_of_covers 5 _ (by decide +kernel) fun t hf y => ?_
  have h0 : (y 0).val < 256 := (y 0).isLt
  have h1 : (y 1).val < 2048 := (y 1).isLt
  blk_simp [index5]
  rw [after0_5]
  obtain ⟨j, k, rfl⟩ : ∃ (j : Fin 256) (k : Fin 2048), y = ix2 j k := ⟨y 0, y 1, eq_ix2 y⟩
  have hO : (outsAt0 m c t.val t.isLt).1 (ix2 j k) = back (dOf m c) (hOf m c) (bOf m c) (gOf m c) (256 * t.val + j.val) k.val := by
    rw [← back_block m c t j.isLt k.isLt]
    by_cases h : t.val % 16 = 0
    · rw [outsAt0_A m c t h]
      dsimp only
      rw [out5_A]
      rfl
    · rw [outsAt0_B m c t h]
      dsimp only
      rw [out5_B]
      rfl
  rw [hO, Nat.mul_comm]
  rfl

/-- The gradient at the rows, as the half-precision copy: what the call leaves in the whole array. -/
theorem final6 (c : Dev nD) : (dats m 0 c).arrAt 6 cfg0.N = fun y : S4096x2048.Idx => back (dOf m c) (hOf m c) (bOf m c) (gOf m c) (y 0).val (y 1).val := by
  refine (dats m 0 c).arrAt_eq_of_covers 6 _ (by decide +kernel) fun t hf y => ?_
  have h0 : (y 0).val < 256 := (y 0).isLt
  have h1 : (y 1).val < 2048 := (y 1).isLt
  blk_simp [index6]
  rw [after0_6]
  obtain ⟨j, k, rfl⟩ : ∃ (j : Fin 256) (k : Fin 2048), y = ix2 j k := ⟨y 0, y 1, eq_ix2 y⟩
  have hO : (outsAt0 m c t.val t.isLt).2.1 (ix2 j k) = back (dOf m c) (hOf m c) (bOf m c) (gOf m c) (256 * t.val + j.val) k.val := by
    rw [← back_block m c t j.isLt k.isLt]
    by_cases h : t.val % 16 = 0
    · rw [outsAt0_A m c t h]
      dsimp only
      rw [out6_A]
      rfl
    · rw [outsAt0_B m c t h]
      dsimp only
      rw [out6_B]
      rfl
  rw [hO, Nat.mul_comm]
  rfl

/-- The gain's gradient: what the call leaves in the whole array. -/
theorem final7 (c : Dev nD) : (dats m 0 c).arrAt 7 cfg0.N = fun y : S1x2048.Idx => gainArr 4096 (dOf m c) (hOf m c) (y 1).val := by
  refine (dats m 0 c).arrAt_eq_of_after_last 7 t0_15 (by decide +kernel) _ fun y => ?_
  blk_simp
  rw [after0_7]
  obtain ⟨j, k, rfl⟩ : ∃ (j : Fin 1) (k : Fin 2048), y = ix2 j k := ⟨y 0, y 1, eq_ix2 y⟩
  exact acc_eq m c 15 _ j k

end Cert.Norm

end
-- ==== Proof.NormClaim.lean ====
module

public import proofs.«01_k».proof.Defs
public import proofs.«01_k».proof.Proof.NormFinal
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Quiescent

/-! The odd layer's input-gradient call: what it writes is what the reference's backward pass computes. -/

@[expose] public section
noncomputable section
open Idealize.ShloMosaic Idealize.ShloMosaic.TcCoe Idealize.SL.Sem
open Cert.Mix (rd rd_of rd_ix2)
open Cert.Ffn (nn nt tn)
open Cert.Rows (meanSq)

namespace Cert.Norm

section
open Cert.Reference7Ideal Cert.Reference7Ideal.Gen Cert.Reference7Ideal.Read

/-- The mean square of a row, as the reference computes it. -/
theorem ref_mean (x2 : (⟨S4096x2048, .f32⟩ : BufTy).Contents (Elt Ideal)) (r : Fin 4096) (j : Fin 1) : val_main_v8 (F := Ideal) x2 (ix2 r j) = meanSq (rd (n0 := 4096) (n1 := 2048) x2) r := by
  unfold meanSq
  have e : val_main_v4 (F := Ideal) x2 (ix2 r j) = ∑ k : Fin 2048, (rd (n0 := 4096) (n1 := 2048) x2) r k * (rd (n0 := 4096) (n1 := 2048) x2) r k := by
    rw [val_main_v4_apply, val_main_v3_apply, val_main_cst_apply]
    refine (congrArg (· + _) (Ideal.ofBits_zero_f32)).trans ((zero_add _).trans (Finset.sum_congr rfl fun k _ => ?_))
    rw [val_main_v2_apply, show idx_main_v3 (idx_main_v4 (ix2 r j)) k = ix2 r k from funext (Fin.forall_fin_two.mpr ⟨rfl, rfl⟩), ← rd_ix2 x2 r k]
    rfl
  rw [val_main_v8_apply, val_main_v6_apply, e]
  rfl

/-- One over its root. -/
theorem ref_scale (x2 : (⟨S4096x2048, .f32⟩ : BufTy).Contents (Elt Ideal)) (r : Fin 4096) (j : Fin 1) : val_main_v9 (F := Ideal) x2 (ix2 r j) = scale (rd (n0 := 4096) (n1 := 2048) x2) r := by
  rw [val_main_v9_apply, ref_mean]
  rfl

/-- The gradient at the normed rows, as the reference computes it. -/
theorem ref_d (x0 : (⟨S4096x6144, .bf16⟩ : BufTy).Contents (Elt Ideal)) (x1 : (⟨S2048x6144, .bf16⟩ : BufTy).Contents (Elt Ideal)) (r : Fin 4096) (c : Fin 2048) : val_main_v18 (F := Ideal) x0 x1 (ix2 r c) = (nt 6144 (rd (n0 := 4096) (n1 := 6144) x0) (rd (n0 := 2048) (n1 := 6144) x1)) r c := by
  rw [val_main_v18_apply]
  refine Finset.sum_congr rfl fun k _ => congrArg₂ (· * ·) ?_ ?_
  · rw [show lidx_main_v18 (ix2 r c) k = ix2 r k from funext (Fin.forall_fin_two.mpr ⟨rfl, rfl⟩)]
    exact rd_ix2 x0 r k
  · rw [show ridx_main_v18 (ix2 r c) k = ix2 c k from funext (Fin.forall_fin_two.mpr ⟨rfl, rfl⟩)]
    exact rd_ix2 x1 c k

/-- The rows over the root of their mean square. -/
theorem ref_unit (x2 : (⟨S4096x2048, .f32⟩ : BufTy).Contents (Elt Ideal)) (r : Fin 4096) (c : Fin 2048) : val_main_v14 (F := Ideal) x2 (ix2 r c) = unitRow (rd (n0 := 4096) (n1 := 2048) x2) r c := by
  rw [val_main_v14_apply, val_main_v13_apply, show idx_main_v13 (ix2 r c) = ix2 r 0 from funext (Fin.forall_fin_two.mpr ⟨rfl, rfl⟩), ref_scale, rd_ix2 x2 r c]
  rfl

/-- The gain's gradient, as the reference computes it. -/
theorem ref_gain (x0 : (⟨S4096x6144, .bf16⟩ : BufTy).Contents (Elt Ideal)) (x1 : (⟨S2048x6144, .bf16⟩ : BufTy).Contents (Elt Ideal)) (x2 : (⟨S4096x2048, .f32⟩ : BufTy).Contents (Elt Ideal)) (j : Fin 1) (c : Fin 2048) : val_main_v21 (F := Ideal) x0 x1 x2 (ix2 j c) = gainArr 4096 (nt 6144 (rd (n0 := 4096) (n1 := 6144) x0) (rd (n0 := 2048) (n1 := 6144) x1)) (rd (n0 := 4096) (n1 := 2048) x2) c := by
  rw [val_main_v21_apply, val_main_v20_apply, val_main_cst_3_apply]
  refine (congrArg (· + _) (Ideal.ofBits_zero_f32)).trans ((zero_add _).trans ?_)
  unfold gainArr
  rw [Finset.sum_range]
  refine Finset.sum_congr rfl fun k _ => ?_
  rw [show idx_main_v20 (idx_main_v21 (ix2 j c)) k = ix2 k c from funext (Fin.forall_fin_two.mpr ⟨rfl, Fin.ext (by show j.val * 2048 + c.val = c.val; have := j.isLt; omega)⟩), val_main_v19_apply, ref_unit, ref_d]
  exact mul_comm _ _

/-- The gradient at the scaled rows. -/
theorem ref_dg (x0 : (⟨S4096x6144, .bf16⟩ : BufTy).Contents (Elt Ideal)) (x1 : (⟨S2048x6144, .bf16⟩ : BufTy).Contents (Elt Ideal)) (x4 : (⟨S1x2048, .f32⟩ : BufTy).Contents (Elt Ideal)) (r : Fin 4096) (c : Fin 2048) : val_main_v23 (F := Ideal) x0 x1 x4 (ix2 r c) = (nt 6144 (rd (n0 := 4096) (n1 := 6144) x0) (rd (n0 := 2048) (n1 := 6144) x1)) r c * (rd (n0 := 1) (n1 := 2048) x4) 0 c := by
  rw [val_main_v23_apply, ref_d, val_main_v22_apply, show idx_main_v22 (ix2 r c) = ix2 0 c from funext (Fin.forall_fin_two.mpr ⟨rfl, rfl⟩), rd_ix2 x4 0 c]
  rfl

/-- The gradient through the mean square. -/
theorem ref_through (x0 : (⟨S4096x6144, .bf16⟩ : BufTy).Contents (Elt Ideal)) (x1 : (⟨S2048x6144, .bf16⟩ : BufTy).Contents (Elt Ideal)) (x2 : (⟨S4096x2048, .f32⟩ : BufTy).Contents (Elt Ideal)) (x4 : (⟨S1x2048, .f32⟩ : BufTy).Contents (Elt Ideal)) (r : Fin 4096) (c : Fin 2048) : val_main_v34 (F := Ideal) x0 x1 x2 x4 (ix2 r c) = through (nt 6144 (rd (n0 := 4096) (n1 := 6144) x0) (rd (n0 := 2048) (n1 := 6144) x1)) (rd (n0 := 4096) (n1 := 2048) x2) (rd (n0 := 1) (n1 := 2048) x4) r := by
  have e1 : val_main_v26 (F := Ideal) x0 x1 x2 x4 (ix2 r 0) = ∑ k : Fin 2048, (rd (n0 := 4096) (n1 := 2048) x2) r k * ((nt 6144 (rd (n0 := 4096) (n1 := 6144) x0) (rd (n0 := 2048) (n1 := 6144) x1)) r k * (rd (n0 := 1) (n1 := 2048) x4) 0 k) := by
    rw [val_main_v26_apply, val_main_v25_apply, val_main_cst_4_apply]
    refine (congrArg (· + _) (Ideal.ofBits_zero_f32)).trans ((zero_add _).trans (Finset.sum_congr rfl fun k _ => ?_))
    rw [show idx_main_v25 (idx_main_v26 (ix2 r 0)) k = ix2 r k from funext (Fin.forall_fin_two.mpr ⟨Fin.ext (by show r.val * 1 + 0 = r.val; omega), rfl⟩), val_main_v24_apply, ref_dg, ← rd_ix2 x2 r k]
    rfl
  have e2 : val_main_v12 (F := Ideal) x2 (ix2 r 0) = Ideal.ofBits .f32 0xBF000000#32 * Ideal.div (scale (rd (n0 := 4096) (n1 := 2048) x2) r) (meanSq (rd (n0 := 4096) (n1 := 2048) x2) r) := by
    rw [val_main_v12_apply, val_main_v10_apply, ref_mean, ref_scale]
    rfl
  unfold through
  rw [val_main_v34_apply, val_main_v33_apply, val_main_cst_6_apply]
  refine (congrArg (· + _) (Ideal.ofBits_zero_f32)).trans ((zero_add _).trans ?_)
  rw [Fin.sum_univ_one, show idx_main_v33 (idx_main_v34 (ix2 r c)) 0 = ix2 r 0 from funext (Fin.forall_fin_two.mpr ⟨rfl, rfl⟩), val_main_v32_apply, val_main_v30_apply, e1, e2]
  rfl

/-- The gradient at the rows, as the reference computes it. -/
theorem ref_back (x0 : (⟨S4096x6144, .bf16⟩ : BufTy).Contents (Elt Ideal)) (x1 : (⟨S2048x6144, .bf16⟩ : BufTy).Contents (Elt Ideal)) (x2 : (⟨S4096x2048, .f32⟩ : BufTy).Contents (Elt Ideal)) (x3 : (⟨S4096x2048, .f32⟩ : BufTy).Contents (Elt Ideal)) (x4 : (⟨S1x2048, .f32⟩ : BufTy).Contents (Elt Ideal)) (r : Fin 4096) (c : Fin 2048) :
    val_main_v38 (F := Ideal) x0 x1 x2 x3 x4 (ix2 r c) = backRef (nt 6144 (rd (n0 := 4096) (n1 := 6144) x0) (rd (n0 := 2048) (n1 := 6144) x1)) (rd (n0 := 4096) (n1 := 2048) x2) (rd (n0 := 4096) (n1 := 2048) x3) (rd (n0 := 1) (n1 := 2048) x4) r c := by
  have e : val_main_v27 (F := Ideal) x2 (ix2 r c) = scale (rd (n0 := 4096) (n1 := 2048) x2) r := by
    rw [val_main_v27_apply, show idx_main_v27 (ix2 r c) = ix2 r 0 from funext (Fin.forall_fin_two.mpr ⟨rfl, rfl⟩), ref_scale]
  unfold backRef
  rw [val_main_v38_apply, val_main_v36_apply, val_main_v29_apply, val_main_v28_apply, val_main_v35_apply, val_main_v37_apply, ref_through, ref_dg, e, rd_ix2 x2 r c, rd_ix2 x3 r c]
  rfl

/-- Its half-precision copy. -/
theorem ref_back_half (x0 : (⟨S4096x6144, .bf16⟩ : BufTy).Contents (Elt Ideal)) (x1 : (⟨S2048x6144, .bf16⟩ : BufTy).Contents (Elt Ideal)) (x2 : (⟨S4096x2048, .f32⟩ : BufTy).Contents (Elt Ideal)) (x3 : (⟨S4096x2048, .f32⟩ : BufTy).Contents (Elt Ideal)) (x4 : (⟨S1x2048, .f32⟩ : BufTy).Contents (Elt Ideal)) (r : Fin 4096) (c : Fin 2048) :
    val_main_v39 (F := Ideal) x0 x1 x2 x3 x4 (ix2 r c) = backRef (nt 6144 (rd (n0 := 4096) (n1 := 6144) x0) (rd (n0 := 2048) (n1 := 6144) x1)) (rd (n0 := 4096) (n1 := 2048) x2) (rd (n0 := 4096) (n1 := 2048) x3) (rd (n0 := 1) (n1 := 2048) x4) r c :=
  (val_main_v39_apply (F := Ideal) x0 x1 x2 x3 x4 (ix2 r c)).trans (ref_back x0 x1 x2 x3 x4 r c)

end

/-- The reference runs, keeps its arguments and leaves no semaphore counted. -/
theorem quiescent_reference7 : quiescent_Reference7Ideal (hReference7Ideal := Cert.Reference7Ideal.Gen.facts) :=
  fun m ρ _ => (θ_run Cert.Reference7Ideal.defs _ _).mono
    (fun r h => ⟨fun c => (h c).2.2.2, Idealize.ShloMosaic.sem_eq_zero_of_no_sems (by decide) r.2⟩)
    (Cert.Reference7Ideal.Value.run (F := Ideal) m ρ)

/-- The call and the reference give the same gradients at the rows and at the gain. -/
theorem algebraic7 : algebraic_Kernel7Ideal_Reference7Ideal (hKernel7Ideal := Cert.Kernel7Ideal.Gen.facts)
    (hReference7Ideal := Cert.Reference7Ideal.Gen.facts) := by
  intro m g m' g' _ hargs
  refine ⟨fun c => (Cert.Kernel7Ideal.Gen.dats m 0 c).arrAt 5 Cert.Kernel7Ideal.cfg0.N, fun c => (Cert.Kernel7Ideal.Gen.dats m 0 c).arrAt 6 Cert.Kernel7Ideal.cfg0.N, fun c => (Cert.Kernel7Ideal.Gen.dats m 0 c).arrAt 7 Cert.Kernel7Ideal.cfg0.N,
    Cert.Kernel7Ideal.Value.run_blocks m g, ?_⟩
  refine (θ_run Cert.Reference7Ideal.defs _ _).mono (fun r h c => ?_) (Cert.Reference7Ideal.Value.run (F := Ideal) m' g')
  obtain ⟨a0, a1, a2, a3, a4⟩ := hargs c
  refine ⟨(h c).1.trans ?_, (h c).2.1.trans ?_, (h c).2.2.1.trans ?_, (h c).2.2.2⟩
  · rw [Cert.Reference7Ideal.Read.val_main_v38_eq, a0, a1, a2, a3, a4]
    refine Eq.trans (funext fun y => ?_) (final5 m c).symm
    refine (congrArg _ (eq_ix2 y)).trans ((ref_back _ _ _ _ _ (y 0) (y 1)).trans ?_)
    exact (back_eq _ _ (bOf m c) _ _ _).symm
  · rw [Cert.Reference7Ideal.Read.val_main_v39_eq, a0, a1, a2, a3, a4]
    refine Eq.trans (funext fun y => ?_) (final6 m c).symm
    refine (congrArg _ (eq_ix2 y)).trans ((ref_back_half _ _ _ _ _ (y 0) (y 1)).trans ?_)
    exact (back_eq _ _ (bOf m c) _ _ _).symm
  · rw [Cert.Reference7Ideal.Read.val_main_v21_eq, a0, a1, a2]
    refine Eq.trans (funext fun y => ?_) (final7 m c).symm
    exact (congrArg _ (eq_ix2 y)).trans (ref_gain _ _ _ (y 0) (y 1))

end Cert.Norm

end
-- ==== Proof.ColsPay.lean ====
module

public import proofs.«01_k».proof.Proof.NormBase
public import proofs.«01_k».proof.Proof.Gen.Kernel8Ideal.Skeleton

/-! What each store of the even layer's input-gradient call writes, entry by entry. -/

@[expose] public section
noncomputable section
open Idealize.ShloMosaic Idealize.ShloMosaic.TcCoe Idealize.SL.Sem
open Cert.Mix (rd rd_of rd_ix2)
open Cert.Ffn (nn nt tn)
open Cert.Rows (meanSq)

open Cert.Norm (scale unitRow back gainBlock)

namespace Cert.Cols
open Cert.Kernel8Ideal Cert.Kernel8Ideal.Gen

/-- The gradient at the normed rows of a block: a product. -/
theorem pay3 (a : FVec Ideal S256x3072 .bf16) (b : FVec Ideal S2048x3072 .bf16) (r : Fin 256) (c : Fin 2048) :
    k0_pay3 (F := Ideal) a b (ix2 r c) = nt 3072 (rd a) (rd b) r c := by
  unfold nt
  pointwise [k0_pay3]
  simp only [rd_ix2]

/-- One over the root of the mean square, for the two chunks of rows. -/
theorem pay4 (h : FVec Ideal S128x2048 .f32) (r : Fin 128) (c : Fin 1) : k0_pay4 (F := Ideal) h (ix2 r c) = scale (rd h) r := by
  unfold scale meanSq
  pointwise [k0_pay4]
  simp only [rd_ix2]
theorem pay8 (h : FVec Ideal S128x2048 .f32) (r : Fin 128) (c : Fin 1) : k0_pay8 (F := Ideal) h (ix2 r c) = scale (rd h) r := by
  unfold scale meanSq
  pointwise [k0_pay8]
  simp only [rd_ix2]

/-- The rows over the root of their mean square. -/
theorem pay5 (h : FVec Ideal S128x2048 .f32) (r : Fin 128) (c : Fin 2048) : k0_pay5 (F := Ideal) h (ix2 r c) = unitRow (rd h) r c := by
  unfold unitRow
  pointwise [k0_pay5, pay4]
  simp only [rd_ix2]
theorem pay9 (h : FVec Ideal S128x2048 .f32) (r : Fin 128) (c : Fin 2048) : k0_pay9 (F := Ideal) h (ix2 r c) = unitRow (rd h) r c := by
  unfold unitRow
  pointwise [k0_pay9, pay8]
  simp only [rd_ix2]

/-- The gain's gradient so far plus that of a chunk of rows. -/
theorem pay6 (a h : FVec Ideal S128x2048 .f32) (s : FVec Ideal S1x2048 .f32) (j : Fin 1) (c : Fin 2048) :
    k0_pay6 (F := Ideal) a h s (ix2 j c) = rd s j c + gainBlock 128 (rd a) (rd h) c := by
  obtain rfl : j = 0 := Subsingleton.elim _ _
  unfold gainBlock
  pointwise [k0_pay6, pay5]
  simp only [rd_ix2]
  rfl
theorem pay10 (a h : FVec Ideal S128x2048 .f32) (s : FVec Ideal S1x2048 .f32) (j : Fin 1) (c : Fin 2048) :
    k0_pay10 (F := Ideal) a h s (ix2 j c) = rd s j c + gainBlock 128 (rd a) (rd h) c := by
  obtain rfl : j = 0 := Subsingleton.elim _ _
  unfold gainBlock
  pointwise [k0_pay10, pay9]
  simp only [rd_ix2]
  rfl

/-- The gradient at a chunk of rows. -/
theorem pay7 (a h b : FVec Ideal S128x2048 .f32) (g : FVec Ideal S1x2048 .f32) (r : Fin 128) (c : Fin 2048) :
    k0_pay7 (F := Ideal) a (k0_pay4 h) (k0_pay5 h) g b (ix2 r c) = back (rd a) (rd h) (rd b) (rd g) r c := by
  unfold back
  pointwise [k0_pay7, pay4, pay5]
  simp only [rd_ix2]
  rfl
theorem pay1 (a h b : FVec Ideal S128x2048 .f32) (g : FVec Ideal S1x2048 .f32) (r : Fin 128) (c : Fin 2048) :
    k0_pay1 (F := Ideal) (k0_pay8 h) (k0_pay9 h) (k0_pay11 a g) b (ix2 r c) = back (rd a) (rd h) (rd b) (rd g) r c := by
  unfold back
  pointwise [k0_pay1, k0_pay11, pay8, pay9]
  simp only [rd_ix2]
  rfl

/-- The gain's gradient starts from nothing. -/
theorem pay2 (j : Fin 1) (c : Fin 2048) : k0_pay2 (F := Ideal) (ix2 j c) = 0 := by
  pointwise [k0_pay2]

end Cert.Cols

end
-- ==== Proof.ColsBlock.lean ====
module

public import proofs.«01_k».proof.Proof.ColsPay
public import proofs.«01_k».proof.Proof.MixBlock
public import proofs.«01_k».proof.Proof.Gen.Kernel8Ideal.Frame

/-! What one step of the even layer's input-gradient call stores. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)
open Cert.Rows (ld_rows32)
open Cert.Norm (scale unitRow back gainBlock back_congr gainBlock_two gainBlock_same)
namespace Cert.Cols
open Cert.Kernel8Ideal Cert.Kernel8Ideal.Gen

/-- The gradient at the normed rows of a 256-row block. -/
def prod (x0 : FVec Ideal S256x3072 .bf16) (x1 : FVec Ideal S2048x3072 .bf16) : ℕ → ℕ → EReal := nt 3072 (rd x0) (rd x1)

theorem chunk_prod (o : ℕ) (x0 : FVec Ideal S256x3072 .bf16) (x1 : FVec Ideal S2048x3072 .bf16)
    (inb : ∀ a, (![o, 0] : Fin 2 → ℕ) a + S128x2048.size a ≤ S256x2048.size a) {r c : ℕ} (hr : r < 128) (hc : c < 2048) :
    rd (n0 := 128) (n1 := 2048) (View.ld (Val := Elt Ideal) (e' := .f32) (k0_pay3 (F := Ideal) x0 x1) (Rect.unit (s := S256x2048) ![o, 0] S128x2048.size inb)) r c = prod x0 x1 (o + r) c := by
  have hn : o + 128 ≤ 256 := inb 0
  refine (ld_rows32 o (k0_pay3 (F := Ideal) x0 x1) inb hr hc).trans ?_
  rw [← rd_of _ (by omega : o + r < 256) hc]
  exact pay3 x0 x1 ⟨o + r, by omega⟩ ⟨c, hc⟩

/-- The gradient at a chunk of rows is that chunk of the gradient at the block. -/
theorem chunk_back (o : ℕ) (x0 : FVec Ideal S256x3072 .bf16) (x1 : FVec Ideal S2048x3072 .bf16) (x2 x3 : FVec Ideal S256x2048 .f32) (x4 : FVec Ideal S1x2048 .f32)
    (inb : ∀ a, (![o, 0] : Fin 2 → ℕ) a + S128x2048.size a ≤ S256x2048.size a) {r c : ℕ} (hr : r < 128) (hc : c < 2048) :
    back (rd (n0 := 128) (n1 := 2048) (View.ld (Val := Elt Ideal) (e' := .f32) (k0_pay3 (F := Ideal) x0 x1) (Rect.unit (s := S256x2048) ![o, 0] S128x2048.size inb)))
      (rd (n0 := 128) (n1 := 2048) (View.ld (Val := Elt Ideal) (e' := .f32) x2 (Rect.unit (s := S256x2048) ![o, 0] S128x2048.size inb)))
      (rd (n0 := 128) (n1 := 2048) (View.ld (Val := Elt Ideal) (e' := .f32) x3 (Rect.unit (s := S256x2048) ![o, 0] S128x2048.size inb))) (rd x4) r c
      = back (prod x0 x1) (rd x2) (rd x3) (rd x4) (o + r) c :=
  back_congr hc (fun k hk => chunk_prod o x0 x1 inb hr hk) (fun k hk => ld_rows32 o x2 inb hr hk) (ld_rows32 o x3 inb hr hc) fun _ _ => rfl

/-- The gain's gradient from a chunk of rows. -/
theorem chunk_gain (o : ℕ) (x0 : FVec Ideal S256x3072 .bf16) (x1 : FVec Ideal S2048x3072 .bf16) (x2 : FVec Ideal S256x2048 .f32)
    (inb inb' : ∀ a, (![o, 0] : Fin 2 → ℕ) a + S128x2048.size a ≤ S256x2048.size a) {c : ℕ} (hc : c < 2048) :
    gainBlock 128 (rd (n0 := 128) (n1 := 2048) (View.ld (Val := Elt Ideal) (e' := .f32) (k0_pay3 (F := Ideal) x0 x1) (Rect.unit (s := S256x2048) ![o, 0] S128x2048.size inb)))
      (rd (n0 := 128) (n1 := 2048) (View.ld (Val := Elt Ideal) (e' := .f32) x2 (Rect.unit (s := S256x2048) ![o, 0] S128x2048.size inb'))) c
      = gainBlock 128 (fun r => prod x0 x1 (o + r)) (fun r => rd x2 (o + r)) c :=
  gainBlock_same hc (fun r hr => chunk_prod o x0 x1 inb hr hc) fun r hr k hk => ld_rows32 o x2 inb' hr hk

/-- The gain's gradient starts from nothing. -/
theorem pay_zero (a : Fin 1) (b : Fin 2048) : rd (n0 := 1) (n1 := 2048) (k0_pay2 (F := Ideal)) a b = 0 :=
  (rd_ix2 _ a b).symm.trans (pay2 a b)

/-- What the first step stores of the gradient at the rows. -/
theorem out5_A (c : Dev nD) (i : grid0.Coords) (a2 : Memref sig .tc .vmem S256x3072 .bf16) (h2 : a2.IsWhole)
    (a3 : Memref sig .tc .vmem S2048x3072 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S256x2048 .f32) (h9 : a9.IsWhole)
    (hc : cond0_0 i) (x0 : FVec Ideal S256x3072 .bf16) (x1 : FVec Ideal S2048x3072 .bf16) (x2 x3 : FVec Ideal S256x2048 .f32) (x4 : FVec Ideal S1x2048 .f32) :
    out0_A_5 (F := Ideal) c i a2 h2 a3 h3 a4 h4 a5 h5 a6 h6 a7 h7 a8 h8 a9 h9 hc x0 x1 x2 x3 x4 = fun y => back (prod x0 x1) (rd x2) (rd x3) (rd x4) (y 0).val (y 1).val := by
  unfold out0_A_5
  rw [View.read_writes_eq_canon _ _ _ (cover0_A_5 (F := Ideal) c i a2 h2 a3 h3 a4 h4 a5 h5 a6 h6 a7 h7 a8 h8 a9 h9 hc x0 x1 x2 x3 x4)]
  funext y
  suffices hp : View.PiecesOf (Val := Elt Ideal) (e := .f32) (fun y : S256x2048.Idx => back (prod x0 x1) (rd x2) (rd x3) (rd x4) (y 0).val (y 1).val) _ from
    View.canon_apply_of_pieces (fun y : S256x2048.Idx => back (prod x0 x1) (rd x2) (rd x3) (rd x4) (y 0).val (y 1).val) _ hp.mem y (cover0_A_5 (F := Ideal) c i a2 h2 a3 h3 a4 h4 a5 h5 a6 h6 a7 h7 a8 h8 a9 h9 hc x0 x1 x2 x3 x4 y)
  unfold kernelRun0_A
  dsimp only
  sl_unfold_words
  simp only [View.readAt_eq_ld, h2.read_unread, h3.read_unread, h4.read_unread, h5.read_unread, h6.read_unread, h7.read_unread, h8.read_unread, h9.read_unread, View.ld_unit_zero (S := S256x3072) hz, View.ld_unit_zero (S := S2048x3072) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay1 _ _ _ _ a b).trans ?_
    show _ = back (prod x0 x1) (rd x2) (rd x3) (rd x4) (128 + 1 * a.val) (0 + 1 * b.val)
    rw [Nat.one_mul, Nat.one_mul, Nat.zero_add b.val]
    exact chunk_back 128 x0 x1 x2 x3 x4 _ a.isLt b.isLt
  · obtain ⟨a, b, rfl⟩ : ∃ (a : Fin 128) (b : Fin 2048), x = ix2 a b := ⟨x 0, x 1, eq_ix2 x⟩
    refine (pay7 _ _ _ _ a b).trans ?_
    show _ = back (prod x0 x1) (rd x2) (rd x3) (rd x4) (0 + 1 * a.val) (0 + 1 * b.val)
    rw [Nat.one_mul, Nat.one_mul, Nat.zero_add b.val]
    exact chunk_back 0 x0 x1 x2 x3 x4 _ a.isLt b.isLt

/-- What the first step leaves of the gain's gradient. -/
theorem sums_A (c : Dev nD) (i : grid0.Coords) (a2 : Memref sig .tc .vmem S256x3072 .bf16) (h2 : a2.IsWhole)
    (a3 : Memref sig .tc .vmem S2048x3072 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S256x2048 .f32) (h9 : a9.IsWhole)
    (hc : cond0_0 i) (x0 : FVec Ideal S256x3072 .bf16) (x1 : FVec Ideal S2048x3072 .bf16) (x2 x3 : FVec Ideal S256x2048 .f32) (x4 : FVec Ideal S1x2048 .f32) :
    out0_A_6 (F := Ideal) c i a2 h2 a3 h3 a4 h4 a5 h5 a6 h6 a7 h7 a8 h8 a9 h9 hc x0 x1 x2 x3 x4 = fun y => 0 + gainBlock 256 (prod x0 x1) (rd x2) (y 1).val := by
  unfold out0_A_6
  rw [View.read_writes_eq_canon _ _ _ (cover0_A_6 (F := Ideal) c i a2 h2 a3 h3 a4 h4 a5 h5 a6 h6 a7 h7 a8 h8 a9 h9 hc x0 x1 x2 x3 x4)]
  funext y
  unfold kernelRun0_A
  dsimp only
  sl_unfold_words
  rw [View.canon_cons_unit_zero hz]
  simp only [View.readAt_eq_ld, h2.read_unread, h3.read_unread, h4.read_unread, h5.read_unread, h6.read_unread, h7.read_unread, h8.read_unread, h9.read_unread, View.ld_unit_zero (S := S256x3072) hz, View.ld_unit_zero (S := S2048x3072) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay10 _ _ _ a b).trans ?_
  refine (congrArg₂ (· + ·) ((rd_ix2 _ a b).symm.trans (pay6 _ _ _ a b)) rfl).trans ?_
  rw [gainBlock_two, chunk_gain 0 x0 x1 x2 _ _ b.isLt, chunk_gain 128 x0 x1 x2 _ _ b.isLt]
  rw [pay_zero, add_assoc]
  rfl

/-- What a later step stores of the gradient at the rows. -/
theorem out5_B (c : Dev nD) (i : grid0.Coords) (a2 : Memref sig .tc .vmem S256x3072 .bf16) (h2 : a2.IsWhole)
    (a3 : Memref sig .tc .vmem S2048x3072 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S256x2048 .f32) (h9 : a9.IsWhole)
    (hc : ¬cond0_0 i) (x0 : FVec Ideal S256x3072 .bf16) (x1 : FVec Ideal S2048x3072 .bf16) (x2 x3 : FVec Ideal S256x2048 .f32) (x4 : FVec Ideal S1x2048 .f32) (xo : FVec Ideal S1x2048 .f32) :
    out0_B_5 (F := Ideal) c i a2 h2 a3 h3 a4 h4 a5 h5 a6 h6 a7 h7 a8 h8 a9 h9 hc x0 x1 x2 x3 x4 xo = fun y => back (prod x0 x1) (rd x2) (rd x3) (rd x4) (y 0).val (y 1).val := by
  unfold out0_B_5
  rw [View.read_writes_eq_canon _ _ _ (cover0_B_5 (F := Ideal) c i a2 h2 a3 h3 a4 h4 a5 h5 a6 h6 a7 h7 a8 h8 a9 h9 hc x0 x1 x2 x3 x4 xo)]
  funext y
  suffices hp : View.PiecesOf (Val := Elt Ideal) (e := .f32) (fun y : S256x2048.Idx => back (prod x0 x1) (rd x2) (rd x3) (rd x4) (y 0).val (y 1).val) _ from
    View.canon_apply_of_pieces (fun y : S256x2048.Idx => back (prod x0 x1) (rd x2) (rd x3) (rd x4) (y 0).val (y 1).val) _ hp.mem y (cover0_B_5 (F := Ideal) c i a2 h2 a3 h3 a4 h4 a5 h5 a6 h6 a7 h7 a8 h8 a9 h9 hc x0 x1 x2 x3 x4 xo y)
  unfold kernelRun0_B
  dsimp only
  sl_unfold_words
  simp only [View.readAt_eq_ld, h2.read_unread, h3.read_unread, h4.read_unread, h5.read_unread, h6.read_unread, h7.read_unread, h8.read_unread, h9.read_unread, View.ld_unit_zero (S := S256x3072) hz, View.ld_unit_zero (S := S2048x3072) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay1 _ _ _ _ a b).trans ?_
    show _ = back (prod x0 x1) (rd x2) (rd x3) (rd x4) (128 + 1 * a.val) (0 + 1 * b.val)
    rw [Nat.one_mul, Nat.one_mul, Nat.zero_add b.val]
    exact chunk_back 128 x0 x1 x2 x3 x4 _ a.isLt b.isLt
  · obtain ⟨a, b, rfl⟩ : ∃ (a : Fin 128) (b : Fin 2048), x = ix2 a b := ⟨x 0, x 1, eq_ix2 x⟩
    refine (pay7 _ _ _ _ a b).trans ?_
    show _ = back (prod x0 x1) (rd x2) (rd x3) (rd x4) (0 + 1 * a.val) (0 + 1 * b.val)
    rw [Nat.one_mul, Nat.one_mul, Nat.zero_add b.val]
    exact chunk_back 0 x0 x1 x2 x3 x4 _ a.isLt b.isLt

/-- What a later step leaves of the gain's gradient. -/
theorem sums_B (c : Dev nD) (i : grid0.Coords) (a2 : Memref sig .tc .vmem S256x3072 .bf16) (h2 : a2.IsWhole)
    (a3 : Memref sig .tc .vmem S2048x3072 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S1x2048 .f32) (h8 : a8.IsWhole)
    (a9 : Memref sig .tc .vmem S256x2048 .f32) (h9 : a9.IsWhole)
    (hc : ¬cond0_0 i) (x0 : FVec Ideal S256x3072 .bf16) (x1 : FVec Ideal S2048x3072 .bf16) (x2 x3 : FVec Ideal S256x2048 .f32) (x4 : FVec Ideal S1x2048 .f32) (xo : FVec Ideal S1x2048 .f32) :
    out0_B_6 (F := Ideal) c i a2 h2 a3 h3 a4 h4 a5 h5 a6 h6 a7 h7 a8 h8 a9 h9 hc x0 x1 x2 x3 x4 xo = fun y => rd xo (y 0).val (y 1).val + gainBlock 256 (prod x0 x1) (rd x2) (y 1).val := by
  unfold out0_B_6
  rw [View.read_writes_eq_canon _ _ _ (cover0_B_6 (F := Ideal) c i a2 h2 a3 h3 a4 h4 a5 h5 a6 h6 a7 h7 a8 h8 a9 h9 hc x0 x1 x2 x3 x4 xo)]
  funext y
  unfold kernelRun0_B
  dsimp only
  sl_unfold_words
  rw [View.canon_cons_unit_zero hz]
  simp only [View.readAt_eq_ld, h2.read_unread, h3.read_unread, h4.read_unread, h5.read_unread, h6.read_unread, h7.read_unread, h8.read_unread, h9.read_unread, View.ld_unit_zero (S := S256x3072) hz, View.ld_unit_zero (S := S2048x3072) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay10 _ _ _ a b).trans ?_
  refine (congrArg₂ (· + ·) ((rd_ix2 _ a b).symm.trans (pay6 _ _ _ a b)) rfl).trans ?_
  rw [gainBlock_two, chunk_gain 0 x0 x1 x2 _ _ b.isLt, chunk_gain 128 x0 x1 x2 _ _ b.isLt]
  rw [add_assoc]
  rfl

end Cert.Cols

end
-- ==== Proof.ColsFinal.lean ====
module

public import proofs.«01_k».proof.Proof.ColsBlock
public import Idealize.ShloMosaic.Lib.Pipeline.ValueKit

/-! What the even layer's input-gradient call leaves in its result arrays. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)
open Cert.Norm (scale unitRow back gainBlock gainArr back_congr gainBlock_congr)
namespace Cert.Cols
open Cert.Kernel8Ideal Cert.Kernel8Ideal.Gen

variable (m : (ℓ : Loc nD τ sig) → Buf (Elt Ideal) ℓ)

/-- The gradient at the normed rows. -/
def dOf (c : Dev nD) : ℕ → ℕ → EReal := nt 3072 (rd (n0 := 4096) (n1 := 3072) (m ((c : Thread nD τ).loc main_arg0))) (rd (n0 := 2048) (n1 := 3072) (m ((c : Thread nD τ).loc main_arg1)))
/-- The rows. -/
def hOf (c : Dev nD) : ℕ → ℕ → EReal := rd (n0 := 4096) (n1 := 2048) (m ((c : Thread nD τ).loc main_arg2))
/-- What else reaches the rows. -/
def bOf (c : Dev nD) : ℕ → ℕ → EReal := rd (n0 := 4096) (n1 := 2048) (m ((c : Thread nD τ).loc main_arg3))
/-- The gain. -/
def gOf (c : Dev nD) : ℕ → ℕ → EReal := rd (n0 := 1) (n1 := 2048) (m ((c : Thread nD τ).loc main_arg4))

theorem index0 : ∀ t : Fin cfg0.N, win0_0.index t = ![t.val, 0] :=
  (by decide +kernel : ∀ t : Fin grid0.N, win0_0.index t = ![t.val, 0])

/-- Window 0's block at a point, read in its array. -/
theorem block0 (c : Dev nD) (t : Fin cfg0.N) {j k : ℕ} (hj : j < 256) (hk : k < 3072) :
    rd (n0 := 256) (n1 := 3072) (iblk m c 0 t) j k = rd (n0 := 4096) (n1 := 3072) (m ((c : Thread nD τ).loc main_arg0)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg0)) (funext (Fin.forall_fin_two.mpr ⟨Fin.ext ?_, Fin.ext ?_⟩))
  · blk_simp [index0] <;> (show _ = 256 * t.val + j) <;> (try dsimp only) <;> omega
  · blk_simp [index0] <;> (show _ = k) <;> (try dsimp only) <;> omega

theorem index1 : ∀ t : Fin cfg0.N, win0_1.index t = ![0, 0] :=
  (by decide +kernel : ∀ t : Fin grid0.N, win0_1.index t = ![0, 0])

/-- Window 1's block at a point, read in its array. -/
theorem block1 (c : Dev nD) (t : Fin cfg0.N) {j k : ℕ} (hj : j < 2048) (hk : k < 3072) :
    rd (n0 := 2048) (n1 := 3072) (iblk m c 1 t) j k = rd (n0 := 2048) (n1 := 3072) (m ((c : Thread nD τ).loc main_arg1)) (j) k := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index1] <;> (show _ = j) <;> (try dsimp only) <;> omega
  · blk_simp [index1] <;> (show _ = k) <;> (try dsimp only) <;> omega

theorem index2 : ∀ t : Fin cfg0.N, win0_2.index t = ![t.val, 0] :=
  (by decide +kernel : ∀ t : Fin grid0.N, win0_2.index t = ![t.val, 0])

/-- Window 2's block at a point, read in its array. -/
theorem block2 (c : Dev nD) (t : Fin cfg0.N) {j k : ℕ} (hj : j < 256) (hk : k < 2048) :
    rd (n0 := 256) (n1 := 2048) (iblk m c 2 t) j k = rd (n0 := 4096) (n1 := 2048) (m ((c : Thread nD τ).loc main_arg2)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg2)) (funext (Fin.forall_fin_two.mpr ⟨Fin.ext ?_, Fin.ext ?_⟩))
  · blk_simp [index2] <;> (show _ = 256 * t.val + j) <;> (try dsimp only) <;> omega
  · blk_simp [index2] <;> (show _ = k) <;> (try dsimp only) <;> omega

theorem index3 : ∀ t : Fin cfg0.N, win0_3.index t = ![t.val, 0] :=
  (by decide +kernel : ∀ t : Fin grid0.N, win0_3.index t = ![t.val, 0])

/-- Window 3's block at a point, read in its array. -/
theorem block3 (c : Dev nD) (t : Fin cfg0.N) {j k : ℕ} (hj : j < 256) (hk : k < 2048) :
    rd (n0 := 256) (n1 := 2048) (iblk m c 3 t) j k = rd (n0 := 4096) (n1 := 2048) (m ((c : Thread nD τ).loc main_arg3)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg3)) (funext (Fin.forall_fin_two.mpr ⟨Fin.ext ?_, Fin.ext ?_⟩))
  · blk_simp [index3] <;> (show _ = 256 * t.val + j) <;> (try dsimp only) <;> omega
  · blk_simp [index3] <;> (show _ = k) <;> (try dsimp only) <;> omega

theorem index4 : ∀ t : Fin cfg0.N, win0_4.index t = ![0, 0] :=
  (by decide +kernel : ∀ t : Fin grid0.N, win0_4.index t = ![0, 0])

/-- Window 4's block at a point, read in its array. -/
theorem block4 (c : Dev nD) (t : Fin cfg0.N) {j k : ℕ} (hj : j < 1) (hk : k < 2048) :
    rd (n0 := 1) (n1 := 2048) (iblk m c 4 t) j k = rd (n0 := 1) (n1 := 2048) (m ((c : Thread nD τ).loc main_arg4)) (j) k := by
  have ht : t.val < 16 := lt_of_lt_of_eq t.isLt N_0
  rw [← rd_of _ hj hk, ← rd_of _ (by omega) (by omega)]
  blk_simp [iblk]
  refine congrArg (m ((c : Thread nD τ).loc main_arg4)) (funext (Fin.forall_fin_two.mpr ⟨Fin.ext ?_, Fin.ext ?_⟩))
  · blk_simp [index4] <;> (show _ = j) <;> (try dsimp only) <;> omega
  · blk_simp [index4] <;> (show _ = k) <;> (try dsimp only) <;> omega

theorem index5 : ∀ t : Fin cfg0.N, win0_5.index t = ![t.val, 0] :=
  (by decide +kernel : ∀ t : Fin grid0.N, win0_5.index t = ![t.val, 0])

theorem index6 : ∀ t : Fin cfg0.N, win0_6.index t = ![0, 0] :=
  (by decide +kernel : ∀ t : Fin grid0.N, win0_6.index t = ![0, 0])

/-- The gradient at the normed rows of a point's block. -/
theorem prod_eq (c : Dev nD) (t : Fin cfg0.N) {j k : ℕ} (hj : j < 256) (hk : k < 2048) :
    prod (iblk m c 0 t) (iblk m c 1 t) j k = dOf m c (256 * t.val + j) k :=
  nt_congr (fun q hq => block0 m c t hj hq) (fun q hq => block1 m c t hk hq)

/-- The gradient at the rows of a point's block. -/
theorem back_block (c : Dev nD) (t : Fin cfg0.N) {j k : ℕ} (hj : j < 256) (hk : k < 2048) :
    back (prod (iblk m c 0 t) (iblk m c 1 t)) (rd (n0 := 256) (n1 := 2048) (iblk m c 2 t)) (rd (n0 := 256) (n1 := 2048) (iblk m c 3 t)) (rd (n0 := 1) (n1 := 2048) (iblk m c 4 t)) j k
      = back (dOf m c) (hOf m c) (bOf m c) (gOf m c) (256 * t.val + j) k :=
  back_congr hk (fun q hq => prod_eq m c t hj hq) (fun q hq => block2 m c t hj hq) (block3 m c t hj hk) fun q hq => block4 m c t (by decide) hq

/-- The gain's gradient from the rows of a point's block. -/
theorem gain_block (c : Dev nD) (t : Fin cfg0.N) {k : ℕ} (hk : k < 2048) :
    gainBlock 256 (prod (iblk m c 0 t) (iblk m c 1 t)) (rd (n0 := 256) (n1 := 2048) (iblk m c 2 t)) k
      = ∑ r ∈ Finset.range 256, dOf m c (256 * t.val + r) k * unitRow (hOf m c) (256 * t.val + r) k :=
  gainBlock_congr hk (fun r hr => prod_eq m c t hr hk) fun r hr q hq => block2 m c t hr hq

/-- The gain's gradient after a point: the sum over the rows of the blocks so far. -/
theorem acc_eq (c : Dev nD) : ∀ (n : ℕ) (hn : n < cfg0.N) (k : Fin 1) (col : Fin 2048),
    (outsAt0 m c n hn).2 (ix2 k col) = gainArr (256 * n + 256) (dOf m c) (hOf m c) col := by
  intro n
  induction n with
  | zero =>
    intro hn k col
    have e := outsAt0_A m c ⟨0, hn⟩ rfl
    dsimp only at e
    rw [e]
    dsimp only
    rw [sums_A]
    show 0 + gainBlock 256 _ _ col.val = _
    rw [zero_add, gain_block m c ⟨0, hn⟩ col.isLt]
    simp only [Nat.mul_zero, Nat.zero_add]
    rfl
  | succ n ih =>
    intro hn k col
    have hN : n + 1 < 16 := lt_of_lt_of_eq hn N_0
    have e := outsAt0_B m c ⟨n + 1, hn⟩ (show ¬(n + 1) % 16 = 0 by omega)
    dsimp only at e
    rw [e]
    dsimp only
    rw [sums_B]
    show rd (n0 := 1) (n1 := 2048) (outsAt0 m c (n + 1 - 1) _).2 k.val col.val + gainBlock 256 _ _ col.val = _
    rw [← rd_ix2 (n0 := 1) (n1 := 2048) _ k col, gain_block m c ⟨n + 1, hn⟩ col.isLt]
    have e1 := ih (by omega) k col
    simp only [Nat.add_sub_cancel]
    unfold gainArr at e1 ⊢
    rw [e1, show 256 * (n + 1) = 256 * n + 256 by omega, Finset.sum_range_add _ (256 * n + 256) 256]

/-- The gradient at the rows: what the call leaves in the whole array. -/
theorem final5 (c : Dev nD) : (dats m 0 c).arrAt 5 cfg0.N = fun y : S4096x2048.Idx => back (dOf m c) (hOf m c) (bOf m c) (gOf m c) (y 0).val (y 1).val := by
  refine (dats m 0 c).arrAt_eq_of_covers 5 _ (by decide +kernel) fun t hf y => ?_
  have h0 : (y 0).val < 256 := (y 0).isLt
  have h1 : (y 1).val < 2048 := (y 1).isLt
  blk_simp [index5]
  rw [after0_5]
  obtain ⟨j, k, rfl⟩ : ∃ (j : Fin 256) (k : Fin 2048), y = ix2 j k := ⟨y 0, y 1, eq_ix2 y⟩
  have hO : (outsAt0 m c t.val t.isLt).1 (ix2 j k) = back (dOf m c) (hOf m c) (bOf m c) (gOf m c) (256 * t.val + j.val) k.val := by
    rw [← back_block m c t j.isLt k.isLt]
    by_cases h : t.val % 16 = 0
    · rw [outsAt0_A m c t h]
      dsimp only
      rw [out5_A]
      rfl
    · rw [outsAt0_B m c t h]
      dsimp only
      rw [out5_B]
      rfl
  rw [hO, Nat.mul_comm]
  rfl

/-- The gain's gradient: what the call leaves in the whole array. -/
theorem final6 (c : Dev nD) : (dats m 0 c).arrAt 6 cfg0.N = fun y : S1x2048.Idx => gainArr 4096 (dOf m c) (hOf m c) (y 1).val := by
  refine (dats m 0 c).arrAt_eq_of_after_last 6 t0_15 (by decide +kernel) _ fun y => ?_
  blk_simp
  rw [after0_6]
  obtain ⟨j, k, rfl⟩ : ∃ (j : Fin 1) (k : Fin 2048), y = ix2 j k := ⟨y 0, y 1, eq_ix2 y⟩
  exact acc_eq m c 15 _ j k

end Cert.Cols

end
-- ==== Proof.ColsClaim.lean ====
module

public import proofs.«01_k».proof.Defs
public import proofs.«01_k».proof.Proof.ColsFinal
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Quiescent

/-! The even layer's input-gradient call: what it writes is what the reference's backward pass computes. -/

@[expose] public section
noncomputable section
open Idealize.ShloMosaic Idealize.ShloMosaic.TcCoe Idealize.SL.Sem
open Cert.Mix (rd rd_of rd_ix2)
open Cert.Ffn (nn nt tn)
open Cert.Rows (meanSq)
open Cert.Norm (scale unitRow back backRef through gainBlock gainArr back_eq)
namespace Cert.Cols

section
open Cert.Reference8Ideal Cert.Reference8Ideal.Gen Cert.Reference8Ideal.Read

/-- The mean square of a row, as the reference computes it. -/
theorem ref_mean (x2 : (⟨S4096x2048, .f32⟩ : BufTy).Contents (Elt Ideal)) (r : Fin 4096) (j : Fin 1) : val_main_v8 (F := Ideal) x2 (ix2 r j) = meanSq (rd (n0 := 4096) (n1 := 2048) x2) r := by
  unfold meanSq
  have e : val_main_v4 (F := Ideal) x2 (ix2 r j) = ∑ k : Fin 2048, (rd (n0 := 4096) (n1 := 2048) x2) r k * (rd (n0 := 4096) (n1 := 2048) x2) r k := by
    rw [val_main_v4_apply, val_main_v3_apply, val_main_cst_apply]
    refine (congrArg (· + _) (Ideal.ofBits_zero_f32)).trans ((zero_add _).trans (Finset.sum_congr rfl fun k _ => ?_))
    rw [val_main_v2_apply, show idx_main_v3 (idx_main_v4 (ix2 r j)) k = ix2 r k from funext (Fin.forall_fin_two.mpr ⟨rfl, rfl⟩), ← rd_ix2 x2 r k]
    rfl
  rw [val_main_v8_apply, val_main_v6_apply, e]
  rfl

/-- One over its root. -/
theorem ref_scale (x2 : (⟨S4096x2048, .f32⟩ : BufTy).Contents (Elt Ideal)) (r : Fin 4096) (j : Fin 1) : val_main_v9 (F := Ideal) x2 (ix2 r j) = scale (rd (n0 := 4096) (n1 := 2048) x2) r := by
  rw [val_main_v9_apply, ref_mean]
  rfl

/-- The gradient at the normed rows, as the reference computes it. -/
theorem ref_d (x0 : (⟨S4096x3072, .bf16⟩ : BufTy).Contents (Elt Ideal)) (x1 : (⟨S2048x3072, .bf16⟩ : BufTy).Contents (Elt Ideal)) (r : Fin 4096) (c : Fin 2048) : val_main_v18 (F := Ideal) x0 x1 (ix2 r c) = (nt 3072 (rd (n0 := 4096) (n1 := 3072) x0) (rd (n0 := 2048) (n1 := 3072) x1)) r c := by
  rw [val_main_v18_apply]
  refine Finset.sum_congr rfl fun k _ => congrArg₂ (· * ·) ?_ ?_
  · rw [show lidx_main_v18 (ix2 r c) k = ix2 r k from funext (Fin.forall_fin_two.mpr ⟨rfl, rfl⟩)]
    exact rd_ix2 x0 r k
  · rw [show ridx_main_v18 (ix2 r c) k = ix2 c k from funext (Fin.forall_fin_two.mpr ⟨rfl, rfl⟩)]
    exact rd_ix2 x1 c k

/-- The rows over the root of their mean square. -/
theorem ref_unit (x2 : (⟨S4096x2048, .f32⟩ : BufTy).Contents (Elt Ideal)) (r : Fin 4096) (c : Fin 2048) : val_main_v14 (F := Ideal) x2 (ix2 r c) = unitRow (rd (n0 := 4096) (n1 := 2048) x2) r c := by
  rw [val_main_v14_apply, val_main_v13_apply, show idx_main_v13 (ix2 r c) = ix2 r 0 from funext (Fin.forall_fin_two.mpr ⟨rfl, rfl⟩), ref_scale, rd_ix2 x2 r c]
  rfl

/-- The gain's gradient, as the reference computes it. -/
theorem ref_gain (x0 : (⟨S4096x3072, .bf16⟩ : BufTy).Contents (Elt Ideal)) (x1 : (⟨S2048x3072, .bf16⟩ : BufTy).Contents (Elt Ideal)) (x2 : (⟨S4096x2048, .f32⟩ : BufTy).Contents (Elt Ideal)) (j : Fin 1) (c : Fin 2048) : val_main_v21 (F := Ideal) x0 x1 x2 (ix2 j c) = gainArr 4096 (nt 3072 (rd (n0 := 4096) (n1 := 3072) x0) (rd (n0 := 2048) (n1 := 3072) x1)) (rd (n0 := 4096) (n1 := 2048) x2) c := by
  rw [val_main_v21_apply, val_main_v20_apply, val_main_cst_3_apply]
  refine (congrArg (· + _) (Ideal.ofBits_zero_f32)).trans ((zero_add _).trans ?_)
  unfold gainArr
  rw [Finset.sum_range]
  refine Finset.sum_congr rfl fun k _ => ?_
  rw [show idx_main_v20 (idx_main_v21 (ix2 j c)) k = ix2 k c from funext (Fin.forall_fin_two.mpr ⟨rfl, Fin.ext (by show j.val * 2048 + c.val = c.val; have := j.isLt; omega)⟩), val_main_v19_apply, ref_unit, ref_d]
  exact mul_comm _ _

/-- The gradient at the scaled rows. -/
theorem ref_dg (x0 : (⟨S4096x3072, .bf16⟩ : BufTy).Contents (Elt Ideal)) (x1 : (⟨S2048x3072, .bf16⟩ : BufTy).Contents (Elt Ideal)) (x4 : (⟨S1x2048, .f32⟩ : BufTy).Contents (Elt Ideal)) (r : Fin 4096) (c : Fin 2048) : val_main_v23 (F := Ideal) x0 x1 x4 (ix2 r c) = (nt 3072 (rd (n0 := 4096) (n1 := 3072) x0) (rd (n0 := 2048) (n1 := 3072) x1)) r c * (rd (n0 := 1) (n1 := 2048) x4) 0 c := by
  rw [val_main_v23_apply, ref_d, val_main_v22_apply, show idx_main_v22 (ix2 r c) = ix2 0 c from funext (Fin.forall_fin_two.mpr ⟨rfl, rfl⟩), rd_ix2 x4 0 c]
  rfl

/-- The gradient through the mean square. -/
theorem ref_through (x0 : (⟨S4096x3072, .bf16⟩ : BufTy).Contents (Elt Ideal)) (x1 : (⟨S2048x3072, .bf16⟩ : BufTy).Contents (Elt Ideal)) (x2 : (⟨S4096x2048, .f32⟩ : BufTy).Contents (Elt Ideal)) (x4 : (⟨S1x2048, .f32⟩ : BufTy).Contents (Elt Ideal)) (r : Fin 4096) (c : Fin 2048) : val_main_v34 (F := Ideal) x0 x1 x2 x4 (ix2 r c) = through (nt 3072 (rd (n0 := 4096) (n1 := 3072) x0) (rd (n0 := 2048) (n1 := 3072) x1)) (rd (n0 := 4096) (n1 := 2048) x2) (rd (n0 := 1) (n1 := 2048) x4) r := by
  have e1 : val_main_v26 (F := Ideal) x0 x1 x2 x4 (ix2 r 0) = ∑ k : Fin 2048, (rd (n0 := 4096) (n1 := 2048) x2) r k * ((nt 3072 (rd (n0 := 4096) (n1 := 3072) x0) (rd (n0 := 2048) (n1 := 3072) x1)) r k * (rd (n0 := 1) (n1 := 2048) x4) 0 k) := by
    rw [val_main_v26_apply, val_main_v25_apply, val_main_cst_4_apply]
    refine (congrArg (· + _) (Ideal.ofBits_zero_f32)).trans ((zero_add _).trans (Finset.sum_congr rfl fun k _ => ?_))
    rw [show idx_main_v25 (idx_main_v26 (ix2 r 0)) k = ix2 r k from funext (Fin.forall_fin_two.mpr ⟨Fin.ext (by show r.val * 1 + 0 = r.val; omega), rfl⟩), val_main_v24_apply, ref_dg, ← rd_ix2 x2 r k]
    rfl
  have e2 : val_main_v12 (F := Ideal) x2 (ix2 r 0) = Ideal.ofBits .f32 0xBF000000#32 * Ideal.div (scale (rd (n0 := 4096) (n1 := 2048) x2) r) (meanSq (rd (n0 := 4096) (n1 := 2048) x2) r) := by
    rw [val_main_v12_apply, val_main_v10_apply, ref_mean, ref_scale]
    rfl
  unfold through
  rw [val_main_v34_apply, val_main_v33_apply, val_main_cst_6_apply]
  refine (congrArg (· + _) (Ideal.ofBits_zero_f32)).trans ((zero_add _).trans ?_)
  rw [Fin.sum_univ_one, show idx_main_v33 (idx_main_v34 (ix2 r c)) 0 = ix2 r 0 from funext (Fin.forall_fin_two.mpr ⟨rfl, rfl⟩), val_main_v32_apply, val_main_v30_apply, e1, e2]
  rfl

/-- The gradient at the rows, as the reference computes it. -/
theorem ref_back (x0 : (⟨S4096x3072, .bf16⟩ : BufTy).Contents (Elt Ideal)) (x1 : (⟨S2048x3072, .bf16⟩ : BufTy).Contents (Elt Ideal)) (x2 : (⟨S4096x2048, .f32⟩ : BufTy).Contents (Elt Ideal)) (x3 : (⟨S4096x2048, .f32⟩ : BufTy).Contents (Elt Ideal)) (x4 : (⟨S1x2048, .f32⟩ : BufTy).Contents (Elt Ideal)) (r : Fin 4096) (c : Fin 2048) :
    val_main_v38 (F := Ideal) x0 x1 x2 x3 x4 (ix2 r c) = backRef (nt 3072 (rd (n0 := 4096) (n1 := 3072) x0) (rd (n0 := 2048) (n1 := 3072) x1)) (rd (n0 := 4096) (n1 := 2048) x2) (rd (n0 := 4096) (n1 := 2048) x3) (rd (n0 := 1) (n1 := 2048) x4) r c := by
  have e : val_main_v27 (F := Ideal) x2 (ix2 r c) = scale (rd (n0 := 4096) (n1 := 2048) x2) r := by
    rw [val_main_v27_apply, show idx_main_v27 (ix2 r c) = ix2 r 0 from funext (Fin.forall_fin_two.mpr ⟨rfl, rfl⟩), ref_scale]
  unfold backRef
  rw [val_main_v38_apply, val_main_v36_apply, val_main_v29_apply, val_main_v28_apply, val_main_v35_apply, val_main_v37_apply, ref_through, ref_dg, e, rd_ix2 x2 r c, rd_ix2 x3 r c]
  rfl

end

/-- The reference runs, keeps its arguments and leaves no semaphore counted. -/
theorem quiescent_reference8 : quiescent_Reference8Ideal (hReference8Ideal := Cert.Reference8Ideal.Gen.facts) :=
  fun m ρ _ => (θ_run Cert.Reference8Ideal.defs _ _).mono
    (fun r h => ⟨fun c => (h c).2.2, Idealize.ShloMosaic.sem_eq_zero_of_no_sems (by decide) r.2⟩)
    (Cert.Reference8Ideal.Value.run (F := Ideal) m ρ)

/-- The call and the reference give the same gradients at the rows and at the gain. -/
theorem algebraic8 : algebraic_Kernel8Ideal_Reference8Ideal (hKernel8Ideal := Cert.Kernel8Ideal.Gen.facts)
    (hReference8Ideal := Cert.Reference8Ideal.Gen.facts) := by
  intro m g m' g' _ hargs
  refine ⟨fun c => (Cert.Kernel8Ideal.Gen.dats m 0 c).arrAt 5 Cert.Kernel8Ideal.cfg0.N, fun c => (Cert.Kernel8Ideal.Gen.dats m 0 c).arrAt 6 Cert.Kernel8Ideal.cfg0.N,
    Cert.Kernel8Ideal.Value.run_blocks m g, ?_⟩
  refine (θ_run Cert.Reference8Ideal.defs _ _).mono (fun r h c => ?_) (Cert.Reference8Ideal.Value.run (F := Ideal) m' g')
  obtain ⟨a0, a1, a2, a3, a4⟩ := hargs c
  refine ⟨(h c).1.trans ?_, (h c).2.1.trans ?_, (h c).2.2⟩
  · rw [Cert.Reference8Ideal.Read.val_main_v38_eq, a0, a1, a2, a3, a4]
    refine Eq.trans (funext fun y => ?_) (final5 m c).symm
    refine (congrArg _ (eq_ix2 y)).trans ((ref_back _ _ _ _ _ (y 0) (y 1)).trans ?_)
    exact (back_eq _ _ (bOf m c) _ _ _).symm
  · rw [Cert.Reference8Ideal.Read.val_main_v21_eq, a0, a1, a2]
    refine Eq.trans (funext fun y => ?_) (final6 m c).symm
    exact (congrArg _ (eq_ix2 y)).trans (ref_gain _ _ _ (y 0) (y 1))

end Cert.Cols

end
-- ==== Proof.RmsPay.lean ====
module

public import proofs.«01_k».proof.Proof.NormBase
public import proofs.«01_k».proof.Proof.Gen.Kernel10Ideal.Skeleton

/-! What each store of the gradient through the norm before a SwiGLU network writes, entry by entry. -/

@[expose] public section
noncomputable section
open Idealize.ShloMosaic Idealize.ShloMosaic.TcCoe Idealize.SL.Sem
open Cert.Mix (rd rd_of rd_ix2)
open Cert.Rows (meanSq)
open Cert.Norm (scale unitRow back gainBlock)

namespace Cert.Rms
open Cert.Kernel10Ideal Cert.Kernel10Ideal.Gen

/-- One over the root of the mean square, for the four chunks of rows. -/
theorem pay4 (h : FVec Ideal S64x2048 .f32) (r : Fin 64) (c : Fin 1) : k0_pay4 (F := Ideal) h (ix2 r c) = scale (rd h) r := by
  unfold scale meanSq
  pointwise [k0_pay4]
  simp only [rd_ix2]
theorem pay11 (h : FVec Ideal S64x2048 .f32) (r : Fin 64) (c : Fin 1) : k0_pay11 (F := Ideal) h (ix2 r c) = scale (rd h) r := by
  unfold scale meanSq
  pointwise [k0_pay11]
  simp only [rd_ix2]
theorem pay19 (h : FVec Ideal S64x2048 .f32) (r : Fin 64) (c : Fin 1) : k0_pay19 (F := Ideal) h (ix2 r c) = scale (rd h) r := by
  unfold scale meanSq
  pointwise [k0_pay19]
  simp only [rd_ix2]
theorem pay28 (h : FVec Ideal S64x2048 .f32) (r : Fin 64) (c : Fin 1) : k0_pay28 (F := Ideal) h (ix2 r c) = scale (rd h) r := by
  unfold scale meanSq
  pointwise [k0_pay28]
  simp only [rd_ix2]

/-- The rows over the root of their mean square. -/
theorem pay5 (h : FVec Ideal S64x2048 .f32) (r : Fin 64) (c : Fin 2048) : k0_pay5 (F := Ideal) h (ix2 r c) = unitRow (rd h) r c := by
  unfold unitRow
  pointwise [k0_pay5, pay4]
  simp only [rd_ix2]
theorem pay12 (h : FVec Ideal S64x2048 .f32) (r : Fin 64) (c : Fin 2048) : k0_pay12 (F := Ideal) h (ix2 r c) = unitRow (rd h) r c := by
  unfold unitRow
  pointwise [k0_pay12, pay11]
  simp only [rd_ix2]
theorem pay20 (h : FVec Ideal S64x2048 .f32) (r : Fin 64) (c : Fin 2048) : k0_pay20 (F := Ideal) h (ix2 r c) = unitRow (rd h) r c := by
  unfold unitRow
  pointwise [k0_pay20, pay19]
  simp only [rd_ix2]
theorem pay29 (h : FVec Ideal S64x2048 .f32) (r : Fin 64) (c : Fin 2048) : k0_pay29 (F := Ideal) h (ix2 r c) = unitRow (rd h) r c := by
  unfold unitRow
  pointwise [k0_pay29, pay28]
  simp only [rd_ix2]

/-- The gain's gradient so far plus that of a chunk of rows. -/
theorem pay7 (h : FVec Ideal S64x2048 .f32) (a : FVec Ideal S64x2048 .bf16) (s : FVec Ideal S1x2048 .f32) (j : Fin 1) (c : Fin 2048) :
    k0_pay7 (F := Ideal) h a s (ix2 j c) = rd s j c + gainBlock 64 (rd a) (rd h) c := by
  obtain rfl : j = 0 := Subsingleton.elim _ _
  unfold gainBlock
  pointwise [k0_pay7, k0_pay6, pay5]
  simp only [rd_ix2]
  rfl
theorem pay14 (h : FVec Ideal S64x2048 .f32) (a : FVec Ideal S64x2048 .bf16) (s : FVec Ideal S1x2048 .f32) (j : Fin 1) (c : Fin 2048) :
    k0_pay14 (F := Ideal) h a s (ix2 j c) = rd s j c + gainBlock 64 (rd a) (rd h) c := by
  obtain rfl : j = 0 := Subsingleton.elim _ _
  unfold gainBlock
  pointwise [k0_pay14, k0_pay13, pay12]
  simp only [rd_ix2]
  rfl
theorem pay22 (h : FVec Ideal S64x2048 .f32) (a : FVec Ideal S64x2048 .bf16) (s : FVec Ideal S1x2048 .f32) (j : Fin 1) (c : Fin 2048) :
    k0_pay22 (F := Ideal) h a s (ix2 j c) = rd s j c + gainBlock 64 (rd a) (rd h) c := by
  obtain rfl : j = 0 := Subsingleton.elim _ _
  unfold gainBlock
  pointwise [k0_pay22, k0_pay21, pay20]
  simp only [rd_ix2]
  rfl
theorem pay31 (h : FVec Ideal S64x2048 .f32) (a : FVec Ideal S64x2048 .bf16) (s : FVec Ideal S1x2048 .f32) (j : Fin 1) (c : Fin 2048) :
    k0_pay31 (F := Ideal) h a s (ix2 j c) = rd s j c + gainBlock 64 (rd a) (rd h) c := by
  obtain rfl : j = 0 := Subsingleton.elim _ _
  unfold gainBlock
  pointwise [k0_pay31, k0_pay30, pay29]
  simp only [rd_ix2]
  rfl

/-- The gradient at a chunk of rows. -/
theorem pay9 (h : FVec Ideal S64x2048 .f32) (a : FVec Ideal S64x2048 .bf16) (b : FVec Ideal S64x2048 .f32) (g : FVec Ideal S1x2048 .f32) (r : Fin 64) (c : Fin 2048) :
    k0_pay9 (F := Ideal) b (k0_pay8 h a g) (ix2 r c) = back (rd a) (rd h) (rd b) (rd g) r c := by
  unfold back
  pointwise [k0_pay9, k0_pay8, k0_pay6, pay4, pay5]
  simp only [rd_ix2]
  rfl
theorem pay17 (h : FVec Ideal S64x2048 .f32) (a : FVec Ideal S64x2048 .bf16) (b : FVec Ideal S64x2048 .f32) (g : FVec Ideal S1x2048 .f32) (r : Fin 64) (c : Fin 2048) :
    k0_pay17 (F := Ideal) (k0_pay11 h) (k0_pay15 a g) b (k0_pay16 h a g) (ix2 r c) = back (rd a) (rd h) (rd b) (rd g) r c := by
  unfold back
  pointwise [k0_pay17, k0_pay16, k0_pay15, k0_pay13, pay11, pay12]
  simp only [rd_ix2]
  rfl
theorem pay26 (h : FVec Ideal S64x2048 .f32) (a : FVec Ideal S64x2048 .bf16) (b : FVec Ideal S64x2048 .f32) (g : FVec Ideal S1x2048 .f32) (r : Fin 64) (c : Fin 2048) :
    k0_pay26 (F := Ideal) (k0_pay19 h) (k0_pay20 h) (k0_pay23 a g) b (k0_pay24 h a g) (k0_pay25 (F := Ideal)) (ix2 r c) = back (rd a) (rd h) (rd b) (rd g) r c := by
  unfold back
  pointwise [k0_pay26, k0_pay24, k0_pay25, k0_pay23, k0_pay21, pay19, pay20]
  simp only [rd_ix2]
  rfl
theorem pay1 (h : FVec Ideal S64x2048 .f32) (a : FVec Ideal S64x2048 .bf16) (b : FVec Ideal S64x2048 .f32) (g : FVec Ideal S1x2048 .f32) (r : Fin 64) (c : Fin 2048) :
    k0_pay1 (F := Ideal) (k0_pay28 h) (k0_pay29 h) (k0_pay32 a g) b (k0_pay33 h a g) (ix2 r c) = back (rd a) (rd h) (rd b) (rd g) r c := by
  unfold back
  pointwise [k0_pay1, k0_pay33, k0_pay32, k0_pay30, pay28, pay29]
  simp only [rd_ix2]
  rfl
theorem pay10 (h : FVec Ideal S64x2048 .f32) (a : FVec Ideal S64x2048 .bf16) (b : FVec Ideal S64x2048 .f32) (g : FVec Ideal S1x2048 .f32) (r : Fin 64) (c : Fin 2048) :
    k0_pay10 (F := Ideal) b (k0_pay8 h a g) (ix2 r c) = back (rd a) (rd h) (rd b) (rd g) r c := pay9 h a b g r c
theorem pay18 (h : FVec Ideal S64x2048 .f32) (a : FVec Ideal S64x2048 .bf16) (b : FVec Ideal S64x2048 .f32) (g : FVec Ideal S1x2048 .f32) (r : Fin 64) (c : Fin 2048) :
    k0_pay18 (F := Ideal) (k0_pay11 h) (k0_pay15 a g) b (k0_pay16 h a g) (ix2 r c) = back (rd a) (rd h) (rd b) (rd g) r c := pay17 h a b g r c
theorem pay27 (h : FVec Ideal S64x2048 .f32) (a : FVec Ideal S64x2048 .bf16) (b : FVec Ideal S64x2048 .f32) (g : FVec Ideal S1x2048 .f32) (r : Fin 64) (c : Fin 2048) :
    k0_pay27 (F := Ideal) (k0_pay19 h) (k0_pay20 h) (k0_pay23 a g) b (k0_pay24 h a g) (k0_pay25 (F := Ideal)) (ix2 r c) = back (rd a) (rd h) (rd b) (rd g) r c := pay26 h a b g r c
theorem pay2 (h : FVec Ideal S64x2048 .f32) (a : FVec Ideal S64x2048 .bf16) (b : FVec Ideal S64x2048 .f32) (g : FVec Ideal S1x2048 .f32) (r : Fin 64) (c : Fin 2048) :
    k0_pay2 (F := Ideal) (k0_pay28 h) (k0_pay29 h) (k0_pay32 a g) b (k0_pay33 h a g) (ix2 r c) = back (rd a) (rd h) (rd b) (rd g) r c := pay1 h a b g r c

/-- The gain's gradient starts from nothing. -/
theorem pay3 (j : Fin 1) (c : Fin 2048) : k0_pay3 (F := Ideal) (ix2 j c) = 0 := by
  pointwise [k0_pay3]

end Cert.Rms

end
-- ==== Proof.RmsBlock.lean ====
module

public import proofs.«01_k».proof.Proof.RmsPay
public import proofs.«01_k».proof.Proof.MixBlock
public import proofs.«01_k».proof.Proof.Gen.Kernel10Ideal.Frame

/-! What one step of the gradient through the norm before a SwiGLU network stores. -/

@[expose] public section
noncomputable section
open Idealize.ShloMosaic Idealize.ShloMosaic.TcCoe Idealize.SL.Sem
open Idealize.ShloMosaic.Pipeline (Dat)
open Cert.Mix (rd rd_of rd_ix2 hz)
open Cert.Rows (ld_rows ld_rows32)
open Cert.Norm (back gainBlock unitRow back_congr gainBlock_same)

namespace Cert.Rms
open Cert.Kernel10Ideal Cert.Kernel10Ideal.Gen

/-- The rows of a block are its four chunks. -/
theorem gainBlock_four (d h : ℕ → ℕ → EReal) (c : ℕ) :
    gainBlock 256 d h c = gainBlock 64 (fun r => d (0 + r)) (fun r => h (0 + r)) c + gainBlock 64 (fun r => d (64 + r)) (fun r => h (64 + r)) c
      + gainBlock 64 (fun r => d (128 + r)) (fun r => h (128 + r)) c + gainBlock 64 (fun r => d (192 + r)) (fun r => h (192 + r)) c := by
  refine (Fin.sum_univ_add (a := 192) (b := 64) fun r : Fin (192 + 64) => d r c * unitRow h r c).trans ?_
  refine congrArg₂ (· + ·) ((Fin.sum_univ_add (a := 128) (b := 64) fun r : Fin (128 + 64) => d r c * unitRow h r c).trans ?_) rfl
  refine congrArg₂ (· + ·) ((Fin.sum_univ_add (a := 64) (b := 64) fun r : Fin (64 + 64) => d r c * unitRow h r c).trans ?_) rfl
  simp only [Nat.zero_add]
  rfl

/-- The gradient at a chunk of rows is that chunk of the gradient at the block. -/
theorem chunk_back (o : ℕ) (x0 : FVec Ideal S256x2048 .bf16) (x1 : FVec Ideal S256x2048 .f32) (x2 : FVec Ideal S1x2048 .f32) (x3 : FVec Ideal S256x2048 .f32)
    (inb : ∀ a, (![o, 0] : Fin 2 → ℕ) a + S64x2048.size a ≤ S256x2048.size a) {r c : ℕ} (hr : r < 64) (hc : c < 2048) :
    back (rd (n0 := 64) (n1 := 2048) (View.ld (Val := Elt Ideal) (e' := .bf16) x0 (Rect.unit (s := S256x2048) ![o, 0] S64x2048.size inb)))
      (rd (n0 := 64) (n1 := 2048) (View.ld (Val := Elt Ideal) (e' := .f32) x1 (Rect.unit (s := S256x2048) ![o, 0] S64x2048.size inb)))
      (rd (n0 := 64) (n1 := 2048) (View.ld (Val := Elt Ideal) (e' := .f32) x3 (Rect.unit (s := S256x2048) ![o, 0] S64x2048.size inb))) (rd x2) r c
      = back (rd x0) (rd x1) (rd x3) (rd x2) (o + r) c :=
  back_congr hc (fun k hk => ld_rows o x0 inb hr hk) (fun k hk => ld_rows32 o x1 inb hr hk) (ld_rows32 o x3 inb hr hc) fun _ _ => rfl

/-- The gain's gradient from a chunk of rows. -/
theorem chunk_gain (o : ℕ) (x0 : FVec Ideal S256x2048 .bf16) (x1 : FVec Ideal S256x2048 .f32)
    (inb inb' : ∀ a, (![o, 0] : Fin 2 → ℕ) a + S64x2048.size a ≤ S256x2048.size a) {c : ℕ} (hc : c < 2048) :
    gainBlock 64 (rd (n0 := 64) (n1 := 2048) (View.ld (Val := Elt Ideal) (e' := .bf16) x0 (Rect.unit (s := S256x2048) ![o, 0] S64x2048.size inb)))
      (rd (n0 := 64) (n1 := 2048) (View.ld (Val := Elt Ideal) (e' := .f32) x1 (Rect.unit (s := S256x2048) ![o, 0] S64x2048.size inb'))) c
      = gainBlock 64 (fun r => rd x0 (o + r)) (fun r => rd x1 (o + r)) c :=
  gainBlock_same hc (fun r hr => ld_rows o x0 inb hr hc) fun r hr k hk => ld_rows32 o x1 inb' hr hk

/-- The gain's gradient starts from nothing. -/
theorem pay_zero (a : Fin 1) (b : Fin 2048) : rd (n0 := 1) (n1 := 2048) (k0_pay3 (F := Ideal)) a b = 0 :=
  (rd_ix2 _ a b).symm.trans (pay3 a b)

/-- What the first step stores of the gradient at the rows. -/
theorem out4_A (c : Dev nD) (i : grid0.Coords) (a1 : Memref sig .tc .vmem S256x2048 .bf16) (h1 : a1.IsWhole)
    (a2 : Memref sig .tc .vmem S256x2048 .f32) (h2 : a2.IsWhole)
    (a3 : Memref sig .tc .vmem S1x2048 .f32) (h3 : a3.IsWhole)
    (a4 : Memref sig .tc .vmem S256x2048 .f32) (h4 : a4.IsWhole)
    (a5 : Memref sig .tc .vmem S256x2048 .f32) (h5 : a5.IsWhole)
    (a6 : Memref sig .tc .vmem S256x2048 .bf16) (h6 : a6.IsWhole)
    (a7 : Memref sig .tc .vmem S1x2048 .f32) (h7 : a7.IsWhole)
    (hc : cond0_0 i) (x0 : FVec Ideal S256x2048 .bf16) (x1 : FVec Ideal S256x2048 .f32) (x2 : FVec Ideal S1x2048 .f32) (x3 : FVec Ideal S256x2048 .f32) :
    out0_A_4 (F := Ideal) c i a1 h1 a2 h2 a3 h3 a4 h4 a5 h5 a6 h6 a7 h7 hc x0 x1 x2 x3 = fun y => back (rd x0) (rd x1) (rd x3) (rd x2) (y 0).val (y 1).val := by
  unfold out0_A_4
  rw [View.read_writes_eq_canon _ _ _ (cover0_A_4 (F := Ideal) c i a1 h1 a2 h2 a3 h3 a4 h4 a5 h5 a6 h6 a7 h7 hc x0 x1 x2 x3)]
  funext y
  suffices hp : View.PiecesOf (Val := Elt Ideal) (e := .f32) (fun y : S256x2048.Idx => back (rd x0) (rd x1) (rd x3) (rd x2) (y 0).val (y 1).val) _ from
    View.canon_apply_of_pieces (fun y : S256x2048.Idx => back (rd x0) (rd x1) (rd x3) (rd x2) (y 0).val (y 1).val) _ hp.mem y (cover0_A_4 (F := Ideal) c i a1 h1 a2 h2 a3 h3 a4 h4 a5 h5 a6 h6 a7 h7 hc x0 x1 x2 x3 y)
  unfold kernelRun0_A
  dsimp only
  sl_unfold_words
  simp only [View.readAt_eq_ld, h1.read_unread, h2.read_unread, h3.read_unread, h4.read_unread, h5.read_unread, h6.read_unread, h7.read_unread, View.ld_unit_zero (S := S1x2048) hz]
  refine ⟨fun x => ?_, fun x => ?_, fun x => ?_, fun x => ?_, trivial⟩
  · obtain ⟨a, b, rfl⟩ : ∃ (a : Fin 64) (b : Fin 2048), x = ix2 a b := ⟨x 0, x 1, eq_ix2 x⟩
    refine (pay1 _ _ _ _ a b).trans ?_
    show _ = back (rd x0) (rd x1) (rd x3) (rd x2) (192 + 1 * a.val) (0 + 1 * b.val)
    rw [Nat.one_mul, Nat.one_mul, Nat.zero_add b.val]
    exact chunk_back 192 x0 x1 x2 x3 _ a.isLt b.isLt
  · obtain ⟨a, b, rfl⟩ : ∃ (a : Fin 64) (b : Fin 2048), x = ix2 a b := ⟨x 0, x 1, eq_ix2 x⟩
    refine (pay26 _ _ _ _ a b).trans ?_
    show _ = back (rd x0) (rd x1) (rd x3) (rd x2) (128 + 1 * a.val) (0 + 1 * b.val)
    rw [Nat.one_mul, Nat.one_mul, Nat.zero_add b.val]
    exact chunk_back 128 x0 x1 x2 x3 _ a.isLt b.isLt
  · obtain ⟨a, b, rfl⟩ : ∃ (a : Fin 64) (b : Fin 2048), x = ix2 a b := ⟨x 0, x 1, eq_ix2 x⟩
    refine (pay17 _ _ _ _ a b).trans ?_
    show _ = back (rd x0) (rd x1) (rd x3) (rd x2) (64 + 1 * a.val) (0 + 1 * b.val)
    rw [Nat.one_mul, Nat.one_mul, Nat.zero_add b.val]
    exact chunk_back 64 x0 x1 x2 x3 _ a.isLt b.isLt
  · obtain ⟨a, b, rfl⟩ : ∃ (a : Fin 64) (b : Fin 2048), x = ix2 a b := ⟨x 0, x 1, eq_ix2 x⟩
    refine (pay9 _ _ _ _ a b).trans ?_
    show _ = back (rd x0) (rd x1) (rd x3) (rd x2) (0 + 1 * a.val) (0 + 1 * b.val)
    rw [Nat.one_mul, Nat.one_mul, Nat.zero_add b.val]
    exact chunk_back 0 x0 x1 x2 x3 _ a.isLt b.isLt

/-- What the first step stores of the gradient at the rows (the half-precision copy). -/
theorem out5_A (c : Dev nD) (i : grid0.Coords) (a1 : Memref sig .tc .vmem S256x2048 .bf16) (h1 : a1.IsWhole)
    (a2 : Memref sig .tc .vmem S256x2048 .f32) (h2 : a2.IsWhole)
    (a3 : Memref sig .tc .vmem S1x2048 .f32) (h3 : a3.IsWhole)
    (a4 : Memref sig .tc .vmem S256x2048 .f32) (h4 : a4.IsWhole)
    (a5 : Memref sig .tc .vmem S256x2048 .f32) (h5 : a5.IsWhole)
    (a6 : Memref sig .tc .vmem S256x2048 .bf16) (h6 : a6.IsWhole)
    (a7 : Memref sig .tc .vmem S1x2048 .f32) (h7 : a7.IsWhole)
    (hc : cond0_0 i) (x0 : FVec Ideal S256x2048 .bf16) (x1 : FVec Ideal S256x2048 .f32) (x2 : FVec Ideal S1x2048 .f32) (x3 : FVec Ideal S256x2048 .f32) :
    out0_A_5 (F := Ideal) c i a1 h1 a2 h2 a3 h3 a4 h4 a5 h5 a6 h6 a7 h7 hc x0 x1 x2 x3 = fun y => back (rd x0) (rd x1) (rd x3) (rd x2) (y 0).val (y 1).val := by
  unfold out0_A_5
  rw [View.read_writes_eq_canon _ _ _ (cover0_A_5 (F := Ideal) c i a1 h1 a2 h2 a3 h3 a4 h4 a5 h5 a6 h6 a7 h7 hc x0 x1 x2 x3)]
  funext y
  suffices hp : View.PiecesOf (Val := Elt Ideal) (e := .bf16) (fun y : S256x2048.Idx => back (rd x0) (rd x1) (rd x3) (rd x2) (y 0).val (y 1).val) _ from
    View.canon_apply_of_pieces (fun y : S256x2048.Idx => back (rd x0) (rd x1) (rd x3) (rd x2) (y 0).val (y 1).val) _ hp.mem y (cover0_A_5 (F := Ideal) c i a1 h1 a2 h2 a3 h3 a4 h4 a5 h5 a6 h6 a7 h7 hc x0 x1 x2 x3 y)
  unfold kernelRun0_A
  dsimp only
  sl_unfold_words
  simp only [View.readAt_eq_ld, h1.read_unread, h2.read_unread, h3.read_unread, h4.read_unread, h5.read_unread, h6.read_unread, h7.read_unread, View.ld_unit_zero (S := S1x2048) hz]
  refine ⟨fun x => ?_, fun x => ?_, fun x => ?_, fun x => ?_, trivial⟩
  · obtain ⟨a, b, rfl⟩ : ∃ (a : Fin 64) (b : Fin 2048), x = ix2 a b := ⟨x 0, x 1, eq_ix2 x⟩
    refine (pay2 _ _ _ _ a b).trans ?_
    show _ = back (rd x0) (rd x1) (rd x3) (rd x2) (192 + 1 * a.val) (0 + 1 * b.val)
    rw [Nat.one_mul, Nat.one_mul, Nat.zero_add b.val]
    exact chunk_back 192 x0 x1 x2 x3 _ a.isLt b.isLt
  · obtain ⟨a, b, rfl⟩ : ∃ (a : Fin 64) (b : Fin 2048), x = ix2 a b := ⟨x 0, x 1, eq_ix2 x⟩
    refine (pay27 _ _ _ _ a b).trans ?_
    show _ = back (rd x0) (rd x1) (rd x3) (rd x2) (128 + 1 * a.val) (0 + 1 * b.val)
    rw [Nat.one_mul, Nat.one_mul, Nat.zero_add b.val]
    exact chunk_back 128 x0 x1 x2 x3 _ a.isLt b.isLt
  · obtain ⟨a, b, rfl⟩ : ∃ (a : Fin 64) (b : Fin 2048), x = ix2 a b := ⟨x 0, x 1, eq_ix2 x⟩
    refine (pay18 _ _ _ _ a b).trans ?_
    show _ = back (rd x0) (rd x1) (rd x3) (rd x2) (64 + 1 * a.val) (0 + 1 * b.val)
    rw [Nat.one_mul, Nat.one_mul, Nat.zero_add b.val]
    exact chunk_back 64 x0 x1 x2 x3 _ a.isLt b.isLt
  · obtain ⟨a, b, rfl⟩ : ∃ (a : Fin 64) (b : Fin 2048), x = ix2 a b := ⟨x 0, x 1, eq_ix2 x⟩
    refine (pay10 _ _ _ _ a b).trans ?_
    show _ = back (rd x0) (rd x1) (rd x3) (rd x2) (0 + 1 * a.val) (0 + 1 * b.val)
    rw [Nat.one_mul, Nat.one_mul, Nat.zero_add b.val]
    exact chunk_back 0 x0 x1 x2 x3 _ a.isLt b.isLt

/-- What the first step leaves of the gain's gradient. -/
theorem sums_A (c : Dev nD) (i : grid0.Coords) (a1 : Memref sig .tc .vmem S256x2048 .bf16) (h1 : a1.IsWhole)
    (a2 : Memref sig .tc .vmem S256x2048 .f32) (h2 : a2.IsWhole)
    (a3 : Memref sig .tc .vmem S1x2048 .f32) (h3 : a3.IsWhole)
    (a4 : Memref sig .tc .vmem S256x2048 .f32) (h4 : a4.IsWhole)
    (a5 : Memref sig .tc .vmem S256x2048 .f32) (h5 : a5.IsWhole)
    (a6 : Memref sig .tc .vmem S256x2048 .bf16) (h6 : a6.IsWhole)
    (a7 : Memref sig .tc .vmem S1x2048 .f32) (h7 : a7.IsWhole)
    (hc : cond0_0 i) (x0 : FVec Ideal S256x2048 .bf16) (x1 : FVec Ideal S256x2048 .f32) (x2 : FVec Ideal S1x2048 .f32) (x3 : FVec Ideal S256x2048 .f32) :
    out0_A_6 (F := Ideal) c i a1 h1 a2 h2 a3 h3 a4 h4 a5 h5 a6 h6 a7 h7 hc x0 x1 x2 x3 = fun y => 0 + gainBlock 256 (rd x0) (rd x1) (y 1).val := by
  unfold out0_A_6
  rw [View.read_writes_eq_canon _ _ _ (cover0_A_6 (F := Ideal) c i a1 h1 a2 h2 a3 h3 a4 h4 a5 h5 a6 h6 a7 h7 hc x0 x1 x2 x3)]
  funext y
  unfold kernelRun0_A
  dsimp only
  sl_unfold_words
  rw [View.canon_cons_unit_zero hz]
  simp only [View.readAt_eq_ld, h1.read_unread, h2.read_unread, h3.read_unread, h4.read_unread, h5.read_unread, h6.read_unread, h7.read_unread, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay31 _ _ _ a b).trans ?_
  rw [← rd_ix2, pay22, ← rd_ix2, pay14, ← rd_ix2, pay7]
  rw [gainBlock_four, chunk_gain 0 x0 x1 _ _ b.isLt, chunk_gain 64 x0 x1 _ _ b.isLt, chunk_gain 128 x0 x1 _ _ b.isLt, chunk_gain 192 x0 x1 _ _ b.isLt]
  rw [pay_zero, add_assoc, add_assoc, add_assoc, add_assoc, add_assoc]
  rfl

/-- What a later step stores of the gradient at the rows. -/
theorem out4_B (c : Dev nD) (i : grid0.Coords) (a1 : Memref sig .tc .vmem S256x2048 .bf16) (h1 : a1.IsWhole)
    (a2 : Memref sig .tc .vmem S256x2048 .f32) (h2 : a2.IsWhole)
    (a3 : Memref sig .tc .vmem S1x2048 .f32) (h3 : a3.IsWhole)
    (a4 : Memref sig .tc .vmem S256x2048 .f32) (h4 : a4.IsWhole)
    (a5 : Memref sig .tc .vmem S256x2048 .f32) (h5 : a5.IsWhole)
    (a6 : Memref sig .tc .vmem S256x2048 .bf16) (h6 : a6.IsWhole)
    (a7 : Memref sig .tc .vmem S1x2048 .f32) (h7 : a7.IsWhole)
    (hc : ¬cond0_0 i) (x0 : FVec Ideal S256x2048 .bf16) (x1 : FVec Ideal S256x2048 .f32) (x2 : FVec Ideal S1x2048 .f32) (x3 : FVec Ideal S256x2048 .f32) (xo : FVec Ideal S1x2048 .f32) :
    out0_B_4 (F := Ideal) c i a1 h1 a2 h2 a3 h3 a4 h4 a5 h5 a6 h6 a7 h7 hc x0 x1 x2 x3 xo = fun y => back (rd x0) (rd x1) (rd x3) (rd x2) (y 0).val (y 1).val := by
  unfold out0_B_4
  rw [View.read_writes_eq_canon _ _ _ (cover0_B_4 (F := Ideal) c i a1 h1 a2 h2 a3 h3 a4 h4 a5 h5 a6 h6 a7 h7 hc x0 x1 x2 x3 xo)]
  funext y
  suffices hp : View.PiecesOf (Val := Elt Ideal) (e := .f32) (fun y : S256x2048.Idx => back (rd x0) (rd x1) (rd x3) (rd x2) (y 0).val (y 1).val) _ from
    View.canon_apply_of_pieces (fun y : S256x2048.Idx => back (rd x0) (rd x1) (rd x3) (rd x2) (y 0).val (y 1).val) _ hp.mem y (cover0_B_4 (F := Ideal) c i a1 h1 a2 h2 a3 h3 a4 h4 a5 h5 a6 h6 a7 h7 hc x0 x1 x2 x3 xo y)
  unfold kernelRun0_B
  dsimp only
  sl_unfold_words
  simp only [View.readAt_eq_ld, h1.read_unread, h2.read_unread, h3.read_unread, h4.read_unread, h5.read_unread, h6.read_unread, h7.read_unread, View.ld_unit_zero (S := S1x2048) hz]
  refine ⟨fun x => ?_, fun x => ?_, fun x => ?_, fun x => ?_, trivial⟩
  · obtain ⟨a, b, rfl⟩ : ∃ (a : Fin 64) (b : Fin 2048), x = ix2 a b := ⟨x 0, x 1, eq_ix2 x⟩
    refine (pay1 _ _ _ _ a b).trans ?_
    show _ = back (rd x0) (rd x1) (rd x3) (rd x2) (192 + 1 * a.val) (0 + 1 * b.val)
    rw [Nat.one_mul, Nat.one_mul, Nat.zero_add b.val]
    exact chunk_back 192 x0 x1 x2 x3 _ a.isLt b.isLt
  · obtain ⟨a, b, rfl⟩ : ∃ (a : Fin 64) (b : Fin 2048), x = ix2 a b := ⟨x 0, x 1, eq_ix2 x⟩
    refine (pay26 _ _ _ _ a b).trans ?_
    show _ = back (rd x0) (rd x1) (rd x3) (rd x2) (128 + 1 * a.val) (0 + 1 * b.val)
    rw [Nat.one_mul, Nat.one_mul, Nat.zero_add b.val]
    exact chunk_back 128 x0 x1 x2 x3 _ a.isLt b.isLt
  · obtain ⟨a, b, rfl⟩ : ∃ (a : Fin 64) (b : Fin 2048), x = ix2 a b := ⟨x 0, x 1, eq_ix2 x⟩
    refine (pay17 _ _ _ _ a b).trans ?_
    show _ = back (rd x0) (rd x1) (rd x3) (rd x2) (64 + 1 * a.val) (0 + 1 * b.val)
    rw [Nat.one_mul, Nat.one_mul, Nat.zero_add b.val]
    exact chunk_back 64 x0 x1 x2 x3 _ a.isLt b.isLt
  · obtain ⟨a, b, rfl⟩ : ∃ (a : Fin 64) (b : Fin 2048), x = ix2 a b := ⟨x 0, x 1, eq_ix2 x⟩
    refine (pay9 _ _ _ _ a b).trans ?_
    show _ = back (rd x0) (rd x1) (rd x3) (rd x2) (0 + 1 * a.val) (0 + 1 * b.val)
    rw [Nat.one_mul, Nat.one_mul, Nat.zero_add b.val]
    exact chunk_back 0 x0 x1 x2 x3 _ a.isLt b.isLt

/-- What a later step stores of the gradient at the rows (the half-precision copy). -/
theorem out5_B (c : Dev nD) (i : grid0.Coords) (a1 : Memref sig .tc .vmem S256x2048 .bf16) (h1 : a1.IsWhole)
    (a2 : Memref sig .tc .vmem S256x2048 .f32) (h2 : a2.IsWhole)
    (a3 : Memref sig .tc .vmem S1x2048 .f32) (h3 : a3.IsWhole)
    (a4 : Memref sig .tc .vmem S256x2048 .f32) (h4 : a4.IsWhole)
    (a5 : Memref sig .tc .vmem S256x2048 .f32) (h5 : a5.IsWhole)
    (a6 : Memref sig .tc .vmem S256x2048 .bf16) (h6 : a6.IsWhole)
    (a7 : Memref sig .tc .vmem S1x2048 .f32) (h7 : a7.IsWhole)
    (hc : ¬cond0_0 i) (x0 : FVec Ideal S256x2048 .bf16) (x1 : FVec Ideal S256x2048 .f32) (x2 : FVec Ideal S1x2048 .f32) (x3 : FVec Ideal S256x2048 .f32) (xo : FVec Ideal S1x2048 .f32) :
    out0_B_5 (F := Ideal) c i a1 h1 a2 h2 a3 h3 a4 h4 a5 h5 a6 h6 a7 h7 hc x0 x1 x2 x3 xo = fun y => back (rd x0) (rd x1) (rd x3) (rd x2) (y 0).val (y 1).val := by
  unfold out0_B_5
  rw [View.read_writes_eq_canon _ _ _ (cover0_B_5 (F := Ideal) c i a1 h1 a2 h2 a3 h3 a4 h4 a5 h5 a6 h6 a7 h7 hc x0 x1 x2 x3 xo)]
  funext y
  suffices hp : View.PiecesOf (Val := Elt Ideal) (e := .bf16) (fun y : S256x2048.Idx => back (rd x0) (rd x1) (rd x3) (rd x2) (y 0).val (y 1).val) _ from
    View.canon_apply_of_pieces (fun y : S256x2048.Idx => back (rd x0) (rd x1) (rd x3) (rd x2) (y 0).val (y 1).val) _ hp.mem y (cover0_B_5 (F := Ideal) c i a1 h1 a2 h2 a3 h3 a4 h4 a5 h5 a6 h6 a7 h7 hc x0 x1 x2 x3 xo y)
  unfold kernelRun0_B
  dsimp only
  sl_unfold_words
  simp only [View.readAt_eq_ld, h1.read_unread, h2.read_unread, h3.read_unread, h4.read_unread, h5.read_unread, h6.read_unread, h7.read_unread, View.ld_unit_zero (S := S1x2048) hz]
  refine ⟨fun x => ?_, fun x => ?_, fun x => ?_, fun x => ?_, trivial⟩
  · obtain ⟨a, b, rfl⟩ : ∃ (a : Fin 64) (b : Fin 2048), x = ix2 a b := ⟨x 0, x 1, eq_ix2 x⟩
    refine (pay2 _ _ _ _ a b).trans ?_
    show _ = back (rd x0) (rd x1) (rd x3) (rd x2) (192 + 1 * a.val) (0 + 1 * b.val)
    rw [Nat.one_mul, Nat.one_mul, Nat.zero_add b.val]
    exact chunk_back 192 x0 x1 x2 x3 _ a.isLt b.isLt
  · obtain ⟨a, b, rfl⟩ : ∃ (a : Fin 64) (b : Fin 2048), x = ix2 a b := ⟨x 0, x 1, eq_ix2 x⟩
    refine (pay27 _ _ _ _ a b).trans ?_
    show _ = back (rd x0) (rd x1) (rd x3) (rd x2) (128 + 1 * a.val) (0 + 1 * b.val)
    rw [Nat.one_mul, Nat.one_mul, Nat.zero_add b.val]
    exact chunk_back 128 x0 x1 x2 x3 _ a.isLt b.isLt
  · obtain ⟨a, b, rfl⟩ : ∃ (a : Fin 64) (b : Fin 2048), x = ix2 a b := ⟨x 0, x 1, eq_ix2 x⟩
    refine (pay18 _ _ _ _ a b).trans ?_
    show _ = back (rd x0) (rd x1) (rd x3) (rd x2) (64 + 1 * a.val) (0 + 1 * b.val)
    rw [Nat.one_mul, Nat.one_mul, Nat.zero_add b.val]
    exact chunk_back 64 x0 x1 x2 x3 _ a.isLt b.isLt
  · obtain ⟨a, b, rfl⟩ : ∃ (a : Fin 64) (b : Fin 2048), x = ix2 a b := ⟨x 0, x 1, eq_ix2 x⟩
    refine (pay10 _ _ _ _ a b).trans ?_
    show _ = back (rd x0) (rd x1) (rd x3) (rd x2) (0 + 1 * a.val) (0 + 1 * b.val)
    rw [Nat.one_mul, Nat.one_mul, Nat.zero_add b.val]
    exact chunk_back 0 x0 x1 x2 x3 _ a.isLt b.isLt

/-- What a later step leaves of the gain's gradient. -/
theorem sums_B (c : Dev nD) (i : grid0.Coords) (a1 : Memref sig .tc .vmem S256x2048 .bf16) (h1 : a1.IsWhole)
    (a2 : Memref sig .tc .vmem S256x2048 .f32) (h2 : a2.IsWhole)
    (a3 : Memref sig .tc .vmem S1x2048 .f32) (h3 : a3.IsWhole)
    (a4 : Memref sig .tc .vmem S256x2048 .f32) (h4 : a4.IsWhole)
    (a5 : Memref sig .tc .vmem S256x2048 .f32) (h5 : a5.IsWhole)
    (a6 : Memref sig .tc .vmem S256x2048 .bf16) (h6 : a6.IsWhole)
    (a7 : Memref sig .tc .vmem S1x2048 .f32) (h7 : a7.IsWhole)
    (hc : ¬cond0_0 i) (x0 : FVec Ideal S256x2048 .bf16) (x1 : FVec Ideal S256x2048 .f32) (x2 : FVec Ideal S1x2048 .f32) (x3 : FVec Ideal S256x2048 .f32) (xo : FVec Ideal S1x2048 .f32) :
    out0_B_6 (F := Ideal) c i a1 h1 a2 h2 a3 h3 a4 h4 a5 h5 a6 h6 a7 h7 hc x0 x1 x2 x3 xo = fun y => rd xo (y 0).val (y 1).val + gainBlock 256 (rd x0) (rd x1) (y 1).val := by
  unfold out0_B_6
  rw [View.read_writes_eq_canon _ _ _ (cover0_B_6 (F := Ideal) c i a1 h1 a2 h2 a3 h3 a4 h4 a5 h5 a6 h6 a7 h7 hc x0 x1 x2 x3 xo)]
  funext y
  unfold kernelRun0_B
  dsimp only
  sl_unfold_words
  rw [View.canon_cons_unit_zero hz]
  simp only [View.readAt_eq_ld, h1.read_unread, h2.read_unread, h3.read_unread, h4.read_unread, h5.read_unread, h6.read_unread, h7.read_unread, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay31 _ _ _ a b).trans ?_
  rw [← rd_ix2, pay22, ← rd_ix2, pay14, ← rd_ix2, pay7]
  rw [gainBlock_four, chunk_gain 0 x0 x1 _ _ b.isLt, chunk_gain 64 x0 x1 _ _ b.isLt, chunk_gain 128 x0 x1 _ _ b.isLt, chunk_gain 192 x0 x1 _ _ b.isLt]
  rw [add_assoc, add_assoc, add_assoc, add_assoc, add_assoc]
  rfl

end Cert.Rms

end
-- ==== Proof.RmsFinal.lean ====
module

public import proofs.«01_k».proof.Proof.RmsBlock
public import Idealize.ShloMosaic.Lib.Pipeline.ValueKit

/-! What the call of the gradient through the norm before a SwiGLU network leaves in its result arrays. -/

@[expose] public section
noncomputable section
open Idealize.ShloMosaic Idealize.ShloMosaic.TcCoe Idealize.SL.Sem
open Idealize.ShloMosaic.Pipeline (Dat)
open Cert.Mix (rd rd_of rd_ix2 hz)
open Cert.Norm (back gainBlock gainArr unitRow back_congr gainBlock_congr)

namespace Cert.Rms
open Cert.Kernel10Ideal Cert.Kernel10Ideal.Gen

variable (m : (ℓ : Loc nD τ sig) → Buf (Elt Ideal) ℓ)

/-- The gradient at the normed rows. -/
def dOf (c : Dev nD) : ℕ → ℕ → EReal := rd (n0 := 4096) (n1 := 2048) (m ((c : Thread nD τ).loc main_arg0))
/-- The rows. -/
def hOf (c : Dev nD) : ℕ → ℕ → EReal := rd (n0 := 4096) (n1 := 2048) (m ((c : Thread nD τ).loc main_arg1))
/-- The gain. -/
def gOf (c : Dev nD) : ℕ → ℕ → EReal := rd (n0 := 1) (n1 := 2048) (m ((c : Thread nD τ).loc main_arg2))
/-- What else reaches the rows. -/
def bOf (c : Dev nD) : ℕ → ℕ → EReal := rd (n0 := 4096) (n1 := 2048) (m ((c : Thread nD τ).loc main_arg3))

theorem index0 : ∀ t : Fin cfg0.N, win0_0.index t = ![t.val, 0] :=
  (by decide +kernel : ∀ t : Fin grid0.N, win0_0.index t = ![t.val, 0])

/-- Window 0's block at a point, read in its array. -/
theorem block0 (c : Dev nD) (t : Fin cfg0.N) {j k : ℕ} (hj : j < 256) (hk : k < 2048) :
    rd (n0 := 256) (n1 := 2048) (iblk m c 0 t) j k = rd (n0 := 4096) (n1 := 2048) (m ((c : Thread nD τ).loc main_arg0)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg0)) (funext (Fin.forall_fin_two.mpr ⟨Fin.ext ?_, Fin.ext ?_⟩))
  · blk_simp [index0] <;> (show _ = 256 * t.val + j) <;> (try dsimp only) <;> omega
  · blk_simp [index0] <;> (show _ = k) <;> (try dsimp only) <;> omega

theorem index1 : ∀ t : Fin cfg0.N, win0_1.index t = ![t.val, 0] :=
  (by decide +kernel : ∀ t : Fin grid0.N, win0_1.index t = ![t.val, 0])

/-- Window 1's block at a point, read in its array. -/
theorem block1 (c : Dev nD) (t : Fin cfg0.N) {j k : ℕ} (hj : j < 256) (hk : k < 2048) :
    rd (n0 := 256) (n1 := 2048) (iblk m c 1 t) j k = rd (n0 := 4096) (n1 := 2048) (m ((c : Thread nD τ).loc main_arg1)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index1] <;> (show _ = 256 * t.val + j) <;> (try dsimp only) <;> omega
  · blk_simp [index1] <;> (show _ = k) <;> (try dsimp only) <;> omega

theorem index2 : ∀ t : Fin cfg0.N, win0_2.index t = ![0, 0] :=
  (by decide +kernel : ∀ t : Fin grid0.N, win0_2.index t = ![0, 0])

/-- Window 2's block at a point, read in its array. -/
theorem block2 (c : Dev nD) (t : Fin cfg0.N) {j k : ℕ} (hj : j < 1) (hk : k < 2048) :
    rd (n0 := 1) (n1 := 2048) (iblk m c 2 t) j k = rd (n0 := 1) (n1 := 2048) (m ((c : Thread nD τ).loc main_arg2)) (j) k := by
  have ht : t.val < 16 := lt_of_lt_of_eq t.isLt N_0
  rw [← rd_of _ hj hk, ← rd_of _ (by omega) (by omega)]
  blk_simp [iblk]
  refine congrArg (m ((c : Thread nD τ).loc main_arg2)) (funext (Fin.forall_fin_two.mpr ⟨Fin.ext ?_, Fin.ext ?_⟩))
  · blk_simp [index2] <;> (show _ = j) <;> (try dsimp only) <;> omega
  · blk_simp [index2] <;> (show _ = k) <;> (try dsimp only) <;> omega

theorem index3 : ∀ t : Fin cfg0.N, win0_3.index t = ![t.val, 0] :=
  (by decide +kernel : ∀ t : Fin grid0.N, win0_3.index t = ![t.val, 0])

/-- Window 3's block at a point, read in its array. -/
theorem block3 (c : Dev nD) (t : Fin cfg0.N) {j k : ℕ} (hj : j < 256) (hk : k < 2048) :
    rd (n0 := 256) (n1 := 2048) (iblk m c 3 t) j k = rd (n0 := 4096) (n1 := 2048) (m ((c : Thread nD τ).loc main_arg3)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg3)) (funext (Fin.forall_fin_two.mpr ⟨Fin.ext ?_, Fin.ext ?_⟩))
  · blk_simp [index3] <;> (show _ = 256 * t.val + j) <;> (try dsimp only) <;> omega
  · blk_simp [index3] <;> (show _ = k) <;> (try dsimp only) <;> omega

theorem index4 : ∀ t : Fin cfg0.N, win0_4.index t = ![t.val, 0] :=
  (by decide +kernel : ∀ t : Fin grid0.N, win0_4.index t = ![t.val, 0])

theorem index5 : ∀ t : Fin cfg0.N, win0_5.index t = ![t.val, 0] :=
  (by decide +kernel : ∀ t : Fin grid0.N, win0_5.index t = ![t.val, 0])

/-- The gradient at the rows of a point's block. -/
theorem back_block (c : Dev nD) (t : Fin cfg0.N) {j k : ℕ} (hj : j < 256) (hk : k < 2048) :
    back (rd (n0 := 256) (n1 := 2048) (iblk m c 0 t)) (rd (n0 := 256) (n1 := 2048) (iblk m c 1 t)) (rd (n0 := 256) (n1 := 2048) (iblk m c 3 t)) (rd (n0 := 1) (n1 := 2048) (iblk m c 2 t)) j k
      = back (dOf m c) (hOf m c) (bOf m c) (gOf m c) (256 * t.val + j) k :=
  back_congr hk (fun q hq => block0 m c t hj hq) (fun q hq => block1 m c t hj hq) (block3 m c t hj hk) fun q hq => block2 m c t (by decide) hq

/-- The gain's gradient from the rows of a point's block. -/
theorem gain_block (c : Dev nD) (t : Fin cfg0.N) {k : ℕ} (hk : k < 2048) :
    gainBlock 256 (rd (n0 := 256) (n1 := 2048) (iblk m c 0 t)) (rd (n0 := 256) (n1 := 2048) (iblk m c 1 t)) k
      = ∑ r ∈ Finset.range 256, dOf m c (256 * t.val + r) k * unitRow (hOf m c) (256 * t.val + r) k :=
  gainBlock_congr hk (fun r hr => block0 m c t hr hk) fun r hr q hq => block1 m c t hr hq

/-- The gain's gradient after a point: the sum over the rows of the blocks so far. -/
theorem acc_eq (c : Dev nD) : ∀ (n : ℕ) (hn : n < cfg0.N) (k : Fin 1) (col : Fin 2048),
    (outsAt0 m c n hn).2.2 (ix2 k col) = gainArr (256 * n + 256) (dOf m c) (hOf m c) col := by
  intro n
  induction n with
  | zero =>
    intro hn k col
    have e := outsAt0_A m c ⟨0, hn⟩ rfl
    dsimp only at e
    rw [e]
    dsimp only
    rw [sums_A]
    show 0 + gainBlock 256 _ _ col.val = _
    rw [zero_add, gain_block m c ⟨0, hn⟩ col.isLt]
    simp only [Nat.mul_zero, Nat.zero_add]
    rfl
  | succ n ih =>
    intro hn k col
    have hN : n + 1 < 16 := lt_of_lt_of_eq hn N_0
    have e := outsAt0_B m c ⟨n + 1, hn⟩ (show ¬(n + 1) % 16 = 0 by omega)
    dsimp only at e
    rw [e]
    dsimp only
    rw [sums_B]
    show rd (n0 := 1) (n1 := 2048) (outsAt0 m c (n + 1 - 1) _).2.2 k.val col.val + gainBlock 256 _ _ col.val = _
    rw [← rd_ix2 (n0 := 1) (n1 := 2048) _ k col, gain_block m c ⟨n + 1, hn⟩ col.isLt]
    have e1 := ih (by omega) k col
    simp only [Nat.add_sub_cancel]
    unfold gainArr at e1 ⊢
    rw [e1, show 256 * (n + 1) = 256 * n + 256 by omega, Finset.sum_range_add _ (256 * n + 256) 256]

/-- The gradient at the rows: what the call leaves in the whole array. -/
theorem final4 (c : Dev nD) : (dats m 0 c).arrAt 4 cfg0.N = fun y : S4096x2048.Idx => back (dOf m c) (hOf m c) (bOf m c) (gOf m c) (y 0).val (y 1).val := by
  refine (dats m 0 c).arrAt_eq_of_covers 4 _ (by decide +kernel) fun t hf y => ?_
  have h0 : (y 0).val < 256 := (y 0).isLt
  have h1 : (y 1).val < 2048 := (y 1).isLt
  blk_simp [index4]
  rw [after0_4]
  obtain ⟨j, k, rfl⟩ : ∃ (j : Fin 256) (k : Fin 2048), y = ix2 j k := ⟨y 0, y 1, eq_ix2 y⟩
  have hO : (outsAt0 m c t.val t.isLt).1 (ix2 j k) = back (dOf m c) (hOf m c) (bOf m c) (gOf m c) (256 * t.val + j.val) k.val := by
    rw [← back_block m c t j.isLt k.isLt]
    by_cases h : t.val % 16 = 0
    · rw [outsAt0_A m c t h]
      dsimp only
      rw [out4_A]
      rfl
    · rw [outsAt0_B m c t h]
      dsimp only
      rw [out4_B]
      rfl
  rw [hO, Nat.mul_comm]
  rfl

/-- The gradient at the rows, as the half-precision copy: what the call leaves in the whole array. -/
theorem final5 (c : Dev nD) : (dats m 0 c).arrAt 5 cfg0.N = fun y : S4096x2048.Idx => back (dOf m c) (hOf m c) (bOf m c) (gOf m c) (y 0).val (y 1).val := by
  refine (dats m 0 c).arrAt_eq_of_covers 5 _ (by decide +kernel) fun t hf y => ?_
  have h0 : (y 0).val < 256 := (y 0).isLt
  have h1 : (y 1).val < 2048 := (y 1).isLt
  blk_simp [index5]
  rw [after0_5]
  obtain ⟨j, k, rfl⟩ : ∃ (j : Fin 256) (k : Fin 2048), y = ix2 j k := ⟨y 0, y 1, eq_ix2 y⟩
  have hO : (outsAt0 m c t.val t.isLt).2.1 (ix2 j k) = back (dOf m c) (hOf m c) (bOf m c) (gOf m c) (256 * t.val + j.val) k.val := by
    rw [← back_block m c t j.isLt k.isLt]
    by_cases h : t.val % 16 = 0
    · rw [outsAt0_A m c t h]
      dsimp only
      rw [out5_A]
      rfl
    · rw [outsAt0_B m c t h]
      dsimp only
      rw [out5_B]
      rfl
  rw [hO, Nat.mul_comm]
  rfl

/-- The gain's gradient: what the call leaves in the whole array. -/
theorem final6 (c : Dev nD) : (dats m 0 c).arrAt 6 cfg0.N = fun y : S1x2048.Idx => gainArr 4096 (dOf m c) (hOf m c) (y 1).val := by
  refine (dats m 0 c).arrAt_eq_of_after_last 6 t0_15 (by decide +kernel) _ fun y => ?_
  blk_simp
  rw [after0_6]
  obtain ⟨j, k, rfl⟩ : ∃ (j : Fin 1) (k : Fin 2048), y = ix2 j k := ⟨y 0, y 1, eq_ix2 y⟩
  exact acc_eq m c 15 _ j k

end Cert.Rms

end
-- ==== Proof.RmsClaim.lean ====
module

public import proofs.«01_k».proof.Defs
public import proofs.«01_k».proof.Proof.RmsFinal
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Quiescent

/-! The gradient through the norm before a SwiGLU network: what the call writes is what the reference's backward pass computes. -/

@[expose] public section
noncomputable section
open Idealize.ShloMosaic Idealize.ShloMosaic.TcCoe Idealize.SL.Sem
open Cert.Mix (rd rd_of rd_ix2)
open Cert.Rows (meanSq)
open Cert.Norm (scale unitRow through back backRef gainArr back_eq)

namespace Cert.Rms

section
open Cert.Reference10Ideal Cert.Reference10Ideal.Gen Cert.Reference10Ideal.Read

/-- The mean square of a row, as the reference computes it. -/
theorem ref_mean (x1 : (⟨S4096x2048, .f32⟩ : BufTy).Contents (Elt Ideal)) (r : Fin 4096) (j : Fin 1) : val_main_v6 (F := Ideal) x1 (ix2 r j) = meanSq (rd (n0 := 4096) (n1 := 2048) x1) r := by
  unfold meanSq
  have e : val_main_v2 (F := Ideal) x1 (ix2 r j) = ∑ k : Fin 2048, (rd (n0 := 4096) (n1 := 2048) x1) r k * (rd (n0 := 4096) (n1 := 2048) x1) r k := by
    rw [val_main_v2_apply, val_main_v1_apply, val_main_cst_apply]
    refine (congrArg (· + _) (Ideal.ofBits_zero_f32)).trans ((zero_add _).trans (Finset.sum_congr rfl fun k _ => ?_))
    rw [val_main_v0_apply, show idx_main_v1 (idx_main_v2 (ix2 r j)) k = ix2 r k from funext (Fin.forall_fin_two.mpr ⟨rfl, rfl⟩), ← rd_ix2 x1 r k]
    rfl
  rw [val_main_v6_apply, val_main_v4_apply, e]
  rfl

/-- One over its root. -/
theorem ref_scale (x1 : (⟨S4096x2048, .f32⟩ : BufTy).Contents (Elt Ideal)) (r : Fin 4096) (j : Fin 1) : val_main_v7 (F := Ideal) x1 (ix2 r j) = scale (rd (n0 := 4096) (n1 := 2048) x1) r := by
  rw [val_main_v7_apply, ref_mean]
  rfl

/-- The gradient at the normed rows, in single precision. -/
theorem ref_d (x0 : (⟨S4096x2048, .bf16⟩ : BufTy).Contents (Elt Ideal)) (r : Fin 4096) (c : Fin 2048) : val_main_v15 (F := Ideal) x0 (ix2 r c) = (rd (n0 := 4096) (n1 := 2048) x0) r c :=
  (val_main_v15_apply (F := Ideal) x0 (ix2 r c)).trans (rd_ix2 x0 r c)

/-- The rows over the root of their mean square. -/
theorem ref_unit (x1 : (⟨S4096x2048, .f32⟩ : BufTy).Contents (Elt Ideal)) (r : Fin 4096) (c : Fin 2048) : val_main_v12 (F := Ideal) x1 (ix2 r c) = unitRow (rd (n0 := 4096) (n1 := 2048) x1) r c := by
  rw [val_main_v12_apply, val_main_v11_apply, show idx_main_v11 (ix2 r c) = ix2 r 0 from funext (Fin.forall_fin_two.mpr ⟨rfl, rfl⟩), ref_scale, rd_ix2 x1 r c]
  rfl

/-- The gain's gradient, as the reference computes it. -/
theorem ref_gain (x0 : (⟨S4096x2048, .bf16⟩ : BufTy).Contents (Elt Ideal)) (x1 : (⟨S4096x2048, .f32⟩ : BufTy).Contents (Elt Ideal)) (j : Fin 1) (c : Fin 2048) : val_main_v18 (F := Ideal) x0 x1 (ix2 j c) = gainArr 4096 (rd (n0 := 4096) (n1 := 2048) x0) (rd (n0 := 4096) (n1 := 2048) x1) c := by
  rw [val_main_v18_apply, val_main_v17_apply, val_main_cst_3_apply]
  refine (congrArg (· + _) (Ideal.ofBits_zero_f32)).trans ((zero_add _).trans ?_)
  unfold gainArr
  rw [Finset.sum_range]
  refine Finset.sum_congr rfl fun k _ => ?_
  rw [show idx_main_v17 (idx_main_v18 (ix2 j c)) k = ix2 k c from funext (Fin.forall_fin_two.mpr ⟨rfl, Fin.ext (by show j.val * 2048 + c.val = c.val; have := j.isLt; omega)⟩), val_main_v16_apply, ref_unit, ref_d]
  exact mul_comm _ _

/-- The gradient at the scaled rows. -/
theorem ref_dg (x0 : (⟨S4096x2048, .bf16⟩ : BufTy).Contents (Elt Ideal)) (x2 : (⟨S1x2048, .f32⟩ : BufTy).Contents (Elt Ideal)) (r : Fin 4096) (c : Fin 2048) : val_main_v20 (F := Ideal) x0 x2 (ix2 r c) = (rd (n0 := 4096) (n1 := 2048) x0) r c * (rd (n0 := 1) (n1 := 2048) x2) 0 c := by
  rw [val_main_v20_apply, ref_d, val_main_v19_apply, show idx_main_v19 (ix2 r c) = ix2 0 c from funext (Fin.forall_fin_two.mpr ⟨rfl, rfl⟩), rd_ix2 x2 0 c]
  rfl

/-- The gradient through the mean square. -/
theorem ref_through (x0 : (⟨S4096x2048, .bf16⟩ : BufTy).Contents (Elt Ideal)) (x1 : (⟨S4096x2048, .f32⟩ : BufTy).Contents (Elt Ideal)) (x2 : (⟨S1x2048, .f32⟩ : BufTy).Contents (Elt Ideal)) (r : Fin 4096) (c : Fin 2048) : val_main_v31 (F := Ideal) x0 x1 x2 (ix2 r c) = through (rd (n0 := 4096) (n1 := 2048) x0) (rd (n0 := 4096) (n1 := 2048) x1) (rd (n0 := 1) (n1 := 2048) x2) r := by
  have e1 : val_main_v23 (F := Ideal) x0 x1 x2 (ix2 r 0) = ∑ k : Fin 2048, (rd (n0 := 4096) (n1 := 2048) x1) r k * ((rd (n0 := 4096) (n1 := 2048) x0) r k * (rd (n0 := 1) (n1 := 2048) x2) 0 k) := by
    rw [val_main_v23_apply, val_main_v22_apply, val_main_cst_4_apply]
    refine (congrArg (· + _) (Ideal.ofBits_zero_f32)).trans ((zero_add _).trans (Finset.sum_congr rfl fun k _ => ?_))
    rw [show idx_main_v22 (idx_main_v23 (ix2 r 0)) k = ix2 r k from funext (Fin.forall_fin_two.mpr ⟨Fin.ext (by show r.val * 1 + 0 = r.val; omega), rfl⟩), val_main_v21_apply, ref_dg, ← rd_ix2 x1 r k]
    rfl
  have e2 : val_main_v10 (F := Ideal) x1 (ix2 r 0) = Ideal.ofBits .f32 0xBF000000#32 * Ideal.div (scale (rd (n0 := 4096) (n1 := 2048) x1) r) (meanSq (rd (n0 := 4096) (n1 := 2048) x1) r) := by
    rw [val_main_v10_apply, val_main_v8_apply, ref_mean, ref_scale]
    rfl
  unfold through
  rw [val_main_v31_apply, val_main_v30_apply, val_main_cst_6_apply]
  refine (congrArg (· + _) (Ideal.ofBits_zero_f32)).trans ((zero_add _).trans ?_)
  rw [Fin.sum_univ_one, show idx_main_v30 (idx_main_v31 (ix2 r c)) 0 = ix2 r 0 from funext (Fin.forall_fin_two.mpr ⟨rfl, rfl⟩), val_main_v29_apply, val_main_v27_apply, e1, e2]
  rfl

/-- The gradient at the rows, as the reference computes it. -/
theorem ref_back (x0 : (⟨S4096x2048, .bf16⟩ : BufTy).Contents (Elt Ideal)) (x1 : (⟨S4096x2048, .f32⟩ : BufTy).Contents (Elt Ideal)) (x2 : (⟨S1x2048, .f32⟩ : BufTy).Contents (Elt Ideal)) (x3 : (⟨S4096x2048, .f32⟩ : BufTy).Contents (Elt Ideal)) (r : Fin 4096) (c : Fin 2048) :
    val_main_v35 (F := Ideal) x0 x1 x2 x3 (ix2 r c) = backRef (rd (n0 := 4096) (n1 := 2048) x0) (rd (n0 := 4096) (n1 := 2048) x1) (rd (n0 := 4096) (n1 := 2048) x3) (rd (n0 := 1) (n1 := 2048) x2) r c := by
  have e : val_main_v24 (F := Ideal) x1 (ix2 r c) = scale (rd (n0 := 4096) (n1 := 2048) x1) r := by
    rw [val_main_v24_apply, show idx_main_v24 (ix2 r c) = ix2 r 0 from funext (Fin.forall_fin_two.mpr ⟨rfl, rfl⟩), ref_scale]
  unfold backRef
  rw [val_main_v35_apply, val_main_v33_apply, val_main_v26_apply, val_main_v25_apply, val_main_v32_apply, val_main_v34_apply, ref_through, ref_dg, e, rd_ix2 x1 r c, rd_ix2 x3 r c]
  rfl

/-- Its half-precision copy. -/
theorem ref_back_half (x0 : (⟨S4096x2048, .bf16⟩ : BufTy).Contents (Elt Ideal)) (x1 : (⟨S4096x2048, .f32⟩ : BufTy).Contents (Elt Ideal)) (x2 : (⟨S1x2048, .f32⟩ : BufTy).Contents (Elt Ideal)) (x3 : (⟨S4096x2048, .f32⟩ : BufTy).Contents (Elt Ideal)) (r : Fin 4096) (c : Fin 2048) :
    val_main_v36 (F := Ideal) x0 x1 x2 x3 (ix2 r c) = backRef (rd (n0 := 4096) (n1 := 2048) x0) (rd (n0 := 4096) (n1 := 2048) x1) (rd (n0 := 4096) (n1 := 2048) x3) (rd (n0 := 1) (n1 := 2048) x2) r c :=
  (val_main_v36_apply (F := Ideal) x0 x1 x2 x3 (ix2 r c)).trans (ref_back x0 x1 x2 x3 r c)

end

/-- The reference runs, keeps its arguments and leaves no semaphore counted. -/
theorem quiescent_reference10 : quiescent_Reference10Ideal (hReference10Ideal := Cert.Reference10Ideal.Gen.facts) :=
  fun m ρ _ => (θ_run Cert.Reference10Ideal.defs _ _).mono
    (fun r h => ⟨fun c => (h c).2.2.2, Idealize.ShloMosaic.sem_eq_zero_of_no_sems (by decide) r.2⟩)
    (Cert.Reference10Ideal.Value.run (F := Ideal) m ρ)

/-- The call and the reference give the same gradients at the rows and at the gain. -/
theorem algebraic10 : algebraic_Kernel10Ideal_Reference10Ideal (hKernel10Ideal := Cert.Kernel10Ideal.Gen.facts)
    (hReference10Ideal := Cert.Reference10Ideal.Gen.facts) := by
  intro m g m' g' _ hargs
  refine ⟨fun c => (Cert.Kernel10Ideal.Gen.dats m 0 c).arrAt 4 Cert.Kernel10Ideal.cfg0.N, fun c => (Cert.Kernel10Ideal.Gen.dats m 0 c).arrAt 5 Cert.Kernel10Ideal.cfg0.N, fun c => (Cert.Kernel10Ideal.Gen.dats m 0 c).arrAt 6 Cert.Kernel10Ideal.cfg0.N,
    Cert.Kernel10Ideal.Value.run_blocks m g, ?_⟩
  refine (θ_run Cert.Reference10Ideal.defs _ _).mono (fun r h c => ?_) (Cert.Reference10Ideal.Value.run (F := Ideal) m' g')
  obtain ⟨a0, a1, a2, a3⟩ := hargs c
  refine ⟨(h c).1.trans ?_, (h c).2.1.trans ?_, (h c).2.2.1.trans ?_, (h c).2.2.2⟩
  · rw [Cert.Reference10Ideal.Read.val_main_v35_eq, a0, a1, a2, a3]
    refine Eq.trans (funext fun y => ?_) (final4 m c).symm
    refine (congrArg _ (eq_ix2 y)).trans ((ref_back _ _ _ _ (y 0) (y 1)).trans ?_)
    exact (back_eq _ _ (bOf m c) _ _ _).symm
  · rw [Cert.Reference10Ideal.Read.val_main_v36_eq, a0, a1, a2, a3]
    refine Eq.trans (funext fun y => ?_) (final5 m c).symm
    refine (congrArg _ (eq_ix2 y)).trans ((ref_back_half _ _ _ _ (y 0) (y 1)).trans ?_)
    exact (back_eq _ _ (bOf m c) _ _ _).symm
  · rw [Cert.Reference10Ideal.Read.val_main_v18_eq, a0, a1]
    refine Eq.trans (funext fun y => ?_) (final6 m c).symm
    exact (congrArg _ (eq_ix2 y)).trans (ref_gain _ _ (y 0) (y 1))

end Cert.Rms

end
-- ==== Proof.RmsForward.lean ====
module

public import proofs.«01_k».proof.Defs
public import proofs.«01_k».proof.Proof.RowsBase
public import proofs.«01_k».proof.Proof.MixBlock
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.Quiescent

/-! The norm before layer 0's mixer: what the call writes is what the reference computes. -/

@[expose] public section
noncomputable section
open Idealize.ShloMosaic Idealize.ShloMosaic.TcCoe Idealize.SL.Sem
open Idealize.ShloMosaic.Pipeline (Dat)
open Cert.Mix (rd rd_of rd_ix2 hz)
open Cert.Rows (meanSq norm norm_congr)

namespace Cert.RmsForward

section
open Cert.Kernel11Ideal Cert.Kernel11Ideal.Gen

variable (m : (ℓ : Loc nD τ sig) → Buf (Elt Ideal) ℓ)

/-- The normed rows of a block. -/
theorem pay1 (h : FVec Ideal S256x2048 .f32) (g : FVec Ideal S1x2048 .f32) (r : Fin 256) (c : Fin 2048) :
    k0_pay1 (F := Ideal) h g (ix2 r c) = norm (rd h) (rd g) r c := by
  unfold Cert.Rows.norm meanSq
  pointwise [k0_pay1]
  simp only [rd_ix2]
  rfl

/-- What a step stores. -/
theorem out_2 (x0 : FVec Ideal S256x2048 .f32) (x1 : FVec Ideal S1x2048 .f32) : out0_2 (F := Ideal) x0 x1 = k0_pay1 (F := Ideal) x0 x1 := by
  unfold out0_2
  rw [View.canon_cons_unit_zero hz, View.ld_unit_zero (S := S256x2048) hz, View.ld_unit_zero (S := S1x2048) hz]

theorem index0 : ∀ t : Fin cfg0.N, win0_0.index t = ![t.val, 0] :=
  (by decide +kernel : ∀ t : Fin grid0.N, win0_0.index t = ![t.val, 0])

/-- Window 0's block at a point, read in its array. -/
theorem block0 (c : Dev nD) (t : Fin cfg0.N) {j k : ℕ} (hj : j < 256) (hk : k < 2048) :
    rd (n0 := 256) (n1 := 2048) (iblk m c 0 t) j k = rd (n0 := 4096) (n1 := 2048) (m ((c : Thread nD τ).loc main_arg0)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg0)) (funext (Fin.forall_fin_two.mpr ⟨Fin.ext ?_, Fin.ext ?_⟩))
  · blk_simp [index0] <;> (show _ = 256 * t.val + j) <;> (try dsimp only) <;> omega
  · blk_simp [index0] <;> (show _ = k) <;> (try dsimp only) <;> omega

theorem index1 : ∀ t : Fin cfg0.N, win0_1.index t = ![0, 0] :=
  (by decide +kernel : ∀ t : Fin grid0.N, win0_1.index t = ![0, 0])

/-- Window 1's block at a point, read in its array. -/
theorem block1 (c : Dev nD) (t : Fin cfg0.N) {j k : ℕ} (hj : j < 1) (hk : k < 2048) :
    rd (n0 := 1) (n1 := 2048) (iblk m c 1 t) j k = rd (n0 := 1) (n1 := 2048) (m ((c : Thread nD τ).loc main_arg1)) (j) k := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index1] <;> (show _ = j) <;> (try dsimp only) <;> omega
  · blk_simp [index1] <;> (show _ = k) <;> (try dsimp only) <;> omega

theorem index2 : ∀ t : Fin cfg0.N, win0_2.index t = ![t.val, 0] :=
  (by decide +kernel : ∀ t : Fin grid0.N, win0_2.index t = ![t.val, 0])

/-- The normed rows: what the call leaves in the whole array. -/
theorem final2 (c : Dev nD) : (dats m 0 c).arrAt 2 cfg0.N = fun y : S4096x2048.Idx =>
    norm (rd (n0 := 4096) (n1 := 2048) (m ((c : Thread nD τ).loc main_arg0))) (rd (n0 := 1) (n1 := 2048) (m ((c : Thread nD τ).loc main_arg1))) (y 0).val (y 1).val := by
  refine (dats m 0 c).arrAt_eq_of_covers 2 _ (by decide +kernel) fun t hf y => ?_
  have h0 : (y 0).val < 256 := (y 0).isLt
  have h1 : (y 1).val < 2048 := (y 1).isLt
  blk_simp [index2]
  rw [after0_2, out_2]
  obtain ⟨j, k, rfl⟩ : ∃ (j : Fin 256) (k : Fin 2048), y = ix2 j k := ⟨y 0, y 1, eq_ix2 y⟩
  refine (pay1 _ _ j k).trans ((norm_congr k.isLt (fun q hq => block0 m c t j.isLt hq) (block1 m c t (by decide) k.isLt)).trans ?_)
  rw [Nat.mul_comm]
  rfl

end

section
open Cert.Reference11Ideal Cert.Reference11Ideal.Gen Cert.Reference11Ideal.Read

/-- The normed rows, as the reference computes them. -/
theorem ref_norm (x0 : (⟨S4096x2048, .f32⟩ : BufTy).Contents (Elt Ideal)) (x1 : (⟨S1x2048, .f32⟩ : BufTy).Contents (Elt Ideal)) (r : Fin 4096) (c : Fin 2048) :
    val_main_v12 (F := Ideal) x0 x1 (ix2 r c) = norm (rd (n0 := 4096) (n1 := 2048) x0) (rd (n0 := 1) (n1 := 2048) x1) r c := by
  have e : val_main_v2 (F := Ideal) x0 (ix2 r 0) = ∑ k : Fin 2048, rd (n0 := 4096) (n1 := 2048) x0 r k * rd (n0 := 4096) (n1 := 2048) x0 r k := by
    rw [val_main_v2_apply, val_main_v1_apply, val_main_cst_apply]
    refine (congrArg (· + _) (Ideal.ofBits_zero_f32)).trans ((zero_add _).trans (Finset.sum_congr rfl fun k _ => ?_))
    rw [val_main_v0_apply, show idx_main_v1 (idx_main_v2 (ix2 r 0)) k = ix2 r k from funext (Fin.forall_fin_two.mpr ⟨rfl, rfl⟩), ← rd_ix2 x0 r k]
    rfl
  unfold Cert.Rows.norm meanSq
  rw [val_main_v12_apply, val_main_v11_apply, val_main_v9_apply, val_main_v8_apply, val_main_v10_apply,
    show idx_main_v8 (ix2 r c) = ix2 r 0 from funext (Fin.forall_fin_two.mpr ⟨rfl, rfl⟩),
    show idx_main_v10 (ix2 r c) = ix2 0 c from funext (Fin.forall_fin_two.mpr ⟨rfl, rfl⟩),
    val_main_v7_apply, val_main_v6_apply, val_main_v4_apply, e, rd_ix2 x0 r c, rd_ix2 x1 0 c]
  rfl

end

/-- The reference runs, keeps its arguments and leaves no semaphore counted. -/
theorem quiescent_reference11 : quiescent_Reference11Ideal (hReference11Ideal := Cert.Reference11Ideal.Gen.facts) :=
  fun m ρ _ => (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The call and the reference give the same normed rows. -/
theorem algebraic11 : algebraic_Kernel11Ideal_Reference11Ideal (hKernel11Ideal := Cert.Kernel11Ideal.Gen.facts)
    (hReference11Ideal := Cert.Reference11Ideal.Gen.facts) := by
  intro m g m' g' _ hargs
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run (F := Ideal) m' g')
  obtain ⟨a0, a1⟩ := hargs c
  refine ⟨(h c).1.trans ?_, (h c).2⟩
  rw [Cert.Reference11Ideal.Read.val_main_v12_eq, a0, a1]
  refine Eq.trans (funext fun y => ?_) (final2 m c).symm
  exact (congrArg _ (eq_ix2 y)).trans (ref_norm _ _ (y 0) (y 1))

end Cert.RmsForward

end
-- ==== Proof.AdamBase.lean ====
module

public import Idealize.ShloMosaic.PureOps.Ideal
public import proofs.«01_k».proof.Proof.MixBlock

/-! The optimiser's update of one weight, as functions of extended reals. -/

@[expose] public section
noncomputable section
open Idealize.ShloMosaic

namespace Cert.Adam

/-- The new first moment. -/
def momOne (g m : EReal) : EReal := Ideal.ofBits .f32 0x3F666666#32 * m + Ideal.ofBits .f32 0x3DCCCCCD#32 * g

/-- The new second moment. -/
def momTwo (g v : EReal) : EReal := Ideal.ofBits .f32 0x3F7FBE77#32 * v + Ideal.ofBits .f32 0x3A83126F#32 * (g * g)

/-- The change of a weight, from the two moments with their bias taken out. -/
def change (w p q : EReal) : EReal :=
  Ideal.ofBits .f32 0xBA83126F#32 * (Ideal.div p (Ideal.sqrt q + Ideal.ofBits .f32 0x322BCC77#32) + Ideal.ofBits .f32 0x3C23D70A#32 * w)

/-- The change of a weight, from its gradient and its old moments. -/
def step (w g m v : EReal) : EReal :=
  change w (Ideal.div (momOne g m) (Ideal.ofBits .f32 0x3F26BD02#32)) (Ideal.div (momTwo g v) (Ideal.ofBits .f32 0x3C231ACC#32))

/-- The first bias correction, as the constant of the reference denotes it. -/
theorem bias_one : Ideal.ofBits .f32 0x3F26BD02#32 = ((5463681 / 8388608 : ℝ) : EReal) := by
  simp [Ideal.ofBits, Ideal.ieee, -EReal.coe_mul]; norm_num

/-- The second bias correction, as the constant of the reference denotes it. -/
theorem bias_two : Ideal.ofBits .f32 0x3C231ACC#32 = ((2672307 / 268435456 : ℝ) : EReal) := by
  simp [Ideal.ofBits, Ideal.ieee, -EReal.coe_mul]; norm_num

/-- Dividing by the bias corrections is multiplying by their reciprocals. -/
theorem step_eq (w g m v : EReal) :
    change w (momOne g m * ((8388608 / 5463681 : ℝ) : EReal)) (momTwo g v * ((268435456 / 2672307 : ℝ) : EReal)) = step w g m v := by
  unfold step
  rw [bias_one, bias_two, Ideal.div_coe (by norm_num), Ideal.div_coe (by norm_num), one_div_div, one_div_div]

/-- An index of a matrix is a row and a column. -/
theorem ix_cases {n0 n1 : ℕ} (y : (⟨2, ![n0, n1]⟩ : Shape).Idx) : ∃ (i : Fin n0) (j : Fin n1), y = ix2 i j :=
  ⟨y 0, y 1, eq_ix2 y⟩

end Cert.Adam

end
-- ==== Proof.Adam12.lean ====
module

public import proofs.«01_k».proof.Defs
public import proofs.«01_k».proof.Proof.AdamBase
public import proofs.«01_k».proof.Proof.Gen.Kernel12Ideal.Value
public import proofs.«01_k».proof.Proof.Gen.Reference12Ideal.Read
public import Idealize.ShloMosaic.Lib.Pipeline.ValueKit
public import Idealize.ShloMosaic.Lib.Quiescent

/-! The optimiser's call on w_in_o: what it writes is what the reference computes. -/

@[expose] public section
noncomputable section
open Idealize.ShloMosaic Idealize.ShloMosaic.TcCoe Idealize.SL.Sem
open Idealize.ShloMosaic.Pipeline (Dat)
open Cert.Mix (rd rd_of rd_ix2 hz)
open Cert.Adam (momOne momTwo change step step_eq ix_cases)

namespace Cert.Adam12

section
open Cert.Kernel12Ideal Cert.Kernel12Ideal.Gen

variable (m : (ℓ : Loc nD τ sig) → Buf (Elt Ideal) ℓ)

theorem inv_one : Named.named (F := Ideal) κ "inv_bc1" (φ := .f32) 0x3FC48605#32 = ((8388608 / 5463681 : ℝ) : EReal) :=
  IdealRules.named_const.ideal_named_scalar _ _ _ _ rfl

theorem inv_two : Named.named (F := Ideal) κ "inv_bc2" (φ := .f32) 0x42C8E6D3#32 = ((268435456 / 2672307 : ℝ) : EReal) :=
  IdealRules.named_const.ideal_named_scalar _ _ _ _ rfl

variable (w g p q : FVec Ideal S256x1536 .f32) (i : S256x1536.Idx)

/-- The new first moments of a block. -/
theorem pay1 : k0_pay1 (F := Ideal) g p i = momOne (g i) (p i) := by
  unfold momOne
  pointwise [k0_pay1]

/-- The new second moments of a block. -/
theorem pay2 : k0_pay2 (F := Ideal) g q i = momTwo (g i) (q i) := by
  unfold momTwo
  pointwise [k0_pay2]

/-- The changes of a block of weights. -/
theorem pay3 : k0_pay3 (F := Ideal) g p q w i = step (w i) (g i) (p i) (q i) := by
  rw [← step_eq]
  unfold change
  pointwise [k0_pay3]
  rw [pay1, pay2, inv_one, inv_two]

theorem out_4 : out0_4 (F := Ideal) w g p q = k0_pay3 (F := Ideal) g p q w := by
  unfold out0_4
  rw [View.canon_cons_unit_zero hz]
  simp only [View.ld_unit_zero (S := S256x1536) hz]

theorem out_5 : out0_5 (F := Ideal) w g p q = k0_pay1 (F := Ideal) g p := by
  unfold out0_5
  rw [View.canon_cons_unit_zero hz]
  simp only [View.ld_unit_zero (S := S256x1536) hz]

theorem out_6 : out0_6 (F := Ideal) w g p q = k0_pay2 (F := Ideal) g q := by
  unfold out0_6
  rw [View.canon_cons_unit_zero hz]
  simp only [View.ld_unit_zero (S := S256x1536) hz]

theorem out_7 : out0_7 (F := Ideal) w g p q = g := by
  unfold out0_7
  rw [View.canon_cons_unit_zero hz]
  simp only [View.ld_unit_zero (S := S256x1536) hz]

/-- The arguments of the call. -/
def a0 (c : Dev nD) : ℕ → ℕ → EReal := rd (n0 := 2048) (n1 := 1536) (m ((c : Thread nD τ).loc main_arg0))
def a1 (c : Dev nD) : ℕ → ℕ → EReal := rd (n0 := 2048) (n1 := 1536) (m ((c : Thread nD τ).loc main_arg1))
def a2 (c : Dev nD) : ℕ → ℕ → EReal := rd (n0 := 2048) (n1 := 1536) (m ((c : Thread nD τ).loc main_arg2))
def a3 (c : Dev nD) : ℕ → ℕ → EReal := rd (n0 := 2048) (n1 := 1536) (m ((c : Thread nD τ).loc main_arg3))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The arguments' blocks at a point, read in their arrays. -/
theorem block (c : Dev nD) (t : Fin cfg0.N) (j : Fin 256) (k : Fin 1536) :
    (iblk m c 0 t : FVec Ideal S256x1536 .f32) (ix2 j k) = a0 m c (256 * t.val + j.val) k.val
    ∧ (iblk m c 1 t : FVec Ideal S256x1536 .f32) (ix2 j k) = a1 m c (256 * t.val + j.val) k.val
    ∧ (iblk m c 2 t : FVec Ideal S256x1536 .f32) (ix2 j k) = a2 m c (256 * t.val + j.val) k.val
    ∧ (iblk m c 3 t : FVec Ideal S256x1536 .f32) (ix2 j k) = a3 m c (256 * t.val + j.val) k.val := by
  have ht : t.val < 8 := lt_of_lt_of_eq t.isLt N_0
  have hj : j.val < 256 := j.isLt
  unfold a0 a1 a2 a3
  rw [← rd_of _ (by omega) k.isLt, ← rd_of _ (by omega) k.isLt, ← rd_of _ (by omega) k.isLt, ← rd_of _ (by omega) k.isLt]
  refine ⟨?_, ?_, ?_, ?_⟩ <;> (blk_simp [iblk]; refine congrArg (m _) (funext (Fin.forall_fin_two.mpr ⟨Fin.ext ?_, Fin.ext ?_⟩)))
  all_goals (try (blk_simp [(idx t).1, (idx t).2.1, (idx t).2.2.1, (idx t).2.2.2.1])) <;> (first | (show _ = 256 * t.val + j.val) | (show _ = k.val)) <;> (try dsimp only) <;> omega

/-- The changes of the weights: what the call leaves in the whole array. -/
theorem final4 (c : Dev nD) : (dats m 0 c).arrAt 4 cfg0.N = fun y : S2048x1536.Idx =>
    step (a0 m c (y 0).val (y 1).val) (a1 m c (y 0).val (y 1).val) (a2 m c (y 0).val (y 1).val) (a3 m c (y 0).val (y 1).val) := by
  refine (dats m 0 c).arrAt_eq_of_covers 4 _ (by decide +kernel) fun t hf y => ?_
  blk_simp [(idx t).2.2.2.2.1]
  rw [after0_4, out_4]
  obtain ⟨j, k, rfl⟩ := ix_cases (n0 := 256) (n1 := 1536) y
  rw [pay3, (block m c t j k).1, (block m c t j k).2.1, (block m c t j k).2.2.1, (block m c t j k).2.2.2, Nat.mul_comm]
  rfl

/-- The new first moments: what the call leaves in the whole array. -/
theorem final5 (c : Dev nD) : (dats m 0 c).arrAt 5 cfg0.N = fun y : S2048x1536.Idx =>
    momOne (a1 m c (y 0).val (y 1).val) (a2 m c (y 0).val (y 1).val) := by
  refine (dats m 0 c).arrAt_eq_of_covers 5 _ (by decide +kernel) fun t hf y => ?_
  blk_simp [(idx t).2.2.2.2.2.1]
  rw [after0_5, out_5]
  obtain ⟨j, k, rfl⟩ := ix_cases (n0 := 256) (n1 := 1536) y
  rw [pay1, (block m c t j k).2.1, (block m c t j k).2.2.1, Nat.mul_comm]
  rfl

/-- The new second moments: what the call leaves in the whole array. -/
theorem final6 (c : Dev nD) : (dats m 0 c).arrAt 6 cfg0.N = fun y : S2048x1536.Idx =>
    momTwo (a1 m c (y 0).val (y 1).val) (a3 m c (y 0).val (y 1).val) := by
  refine (dats m 0 c).arrAt_eq_of_covers 6 _ (by decide +kernel) fun t hf y => ?_
  blk_simp [(idx t).2.2.2.2.2.2.1]
  rw [after0_6, out_6]
  obtain ⟨j, k, rfl⟩ := ix_cases (n0 := 256) (n1 := 1536) y
  rw [pay2, (block m c t j k).2.1, (block m c t j k).2.2.2, Nat.mul_comm]
  rfl

/-- The gradient, copied: what the call leaves in the whole array. -/
theorem final7 (c : Dev nD) : (dats m 0 c).arrAt 7 cfg0.N = fun y : S2048x1536.Idx =>
    (a1 m c (y 0).val (y 1).val) := by
  refine (dats m 0 c).arrAt_eq_of_covers 7 _ (by decide +kernel) fun t hf y => ?_
  blk_simp [(idx t).2.2.2.2.2.2.2]
  rw [after0_7, out_7]
  obtain ⟨j, k, rfl⟩ := ix_cases (n0 := 256) (n1 := 1536) y
  rw [(block m c t j k).2.1, Nat.mul_comm]
  rfl

end

section
open Cert.Reference12Ideal Cert.Reference12Ideal.Gen Cert.Reference12Ideal.Read

variable (x0 x1 x2 x3 : (⟨S2048x1536, .f32⟩ : BufTy).Contents (Elt Ideal)) (i : S2048x1536.Idx)

/-- The new first moments, as the reference computes them. -/
theorem ref_one : val_main_v4 (F := Ideal) x1 x2 i = momOne (x1 i) (x2 i) := by
  rw [val_main_v4_apply, val_main_v1_apply, val_main_v3_apply, val_main_v0_apply, val_main_v2_apply]
  rfl

/-- The new second moments, as the reference computes them. -/
theorem ref_two : val_main_v10 (F := Ideal) x1 x3 i = momTwo (x1 i) (x3 i) := by
  rw [val_main_v10_apply, val_main_v6_apply, val_main_v9_apply, val_main_v5_apply, val_main_v7_apply, val_main_v8_apply]
  rfl

/-- The changes of the weights, as the reference computes them. -/
theorem ref_step : val_main_v23 (F := Ideal) x0 x1 x2 x3 i = step (x0 i) (x1 i) (x2 i) (x3 i) := by
  rw [val_main_v23_apply, val_main_v21_apply, val_main_v18_apply, val_main_v20_apply, val_main_v12_apply, val_main_v17_apply,
    val_main_v15_apply, val_main_v14_apply, ref_one, ref_two]
  rfl

end

/-- The reference runs, keeps its arguments and leaves no semaphore counted. -/
theorem quiescent_reference12 : quiescent_Reference12Ideal (hReference12Ideal := Cert.Reference12Ideal.Gen.facts) :=
  fun m ρ _ => (θ_run Cert.Reference12Ideal.defs _ _).mono
    (fun r h => ⟨fun c => (h c).2.2.2.2, Idealize.ShloMosaic.sem_eq_zero_of_no_sems (by decide) r.2⟩)
    (Cert.Reference12Ideal.Value.run (F := Ideal) m ρ)

/-- The two named constants are the reciprocals of the bias corrections. -/
theorem preserves12 : preserves_Kernel12_Kernel12Ideal :=
  ⟨IdealRules.named_const.statement Cert.Kernel12Ideal.κ "inv_bc1" .f32 0x3FC48605#32 ((8388608 / 5463681 : ℝ) : EReal) rfl,
    IdealRules.named_const.statement Cert.Kernel12Ideal.κ "inv_bc2" .f32 0x42C8E6D3#32 ((268435456 / 2672307 : ℝ) : EReal) rfl⟩

/-- The call and the reference give the same changes and the same moments. -/
theorem algebraic12 : algebraic_Kernel12Ideal_Reference12Ideal (hKernel12Ideal := Cert.Kernel12Ideal.Gen.facts)
    (hReference12Ideal := Cert.Reference12Ideal.Gen.facts) := by
  intro m g m' g' _ hargs
  refine ⟨_, _, _, _, Cert.Kernel12Ideal.Value.run_blocks m g, ?_⟩
  refine (θ_run Cert.Reference12Ideal.defs _ _).mono (fun r h c => ?_) (Cert.Reference12Ideal.Value.run (F := Ideal) m' g')
  obtain ⟨a0, a1, a2, a3⟩ := hargs c
  refine ⟨(h c).1.trans ?_, (h c).2.1.trans ?_, (h c).2.2.1.trans ?_, (h c).2.2.2.1.trans ?_, (h c).2.2.2.2⟩
  · rw [Cert.Reference12Ideal.Read.val_main_v23_eq, a0, a1, a2, a3]
    refine Eq.trans (funext fun y => ?_) (final4 m c).symm
    obtain ⟨i, j, rfl⟩ := ix_cases (n0 := 2048) (n1 := 1536) y
    rw [ref_step]
    simp only [rd_ix2]
    rfl
  · rw [Cert.Reference12Ideal.Read.val_main_v4_eq, a1, a2]
    refine Eq.trans (funext fun y => ?_) (final5 m c).symm
    obtain ⟨i, j, rfl⟩ := ix_cases (n0 := 2048) (n1 := 1536) y
    rw [ref_one]
    simp only [rd_ix2]
    rfl
  · rw [Cert.Reference12Ideal.Read.val_main_v10_eq, a1, a3]
    refine Eq.trans (funext fun y => ?_) (final6 m c).symm
    obtain ⟨i, j, rfl⟩ := ix_cases (n0 := 2048) (n1 := 1536) y
    rw [ref_two]
    simp only [rd_ix2]
    rfl
  · rw [a1]
    refine Eq.trans (funext fun y => ?_) (final7 m c).symm
    exact (congrArg _ (eq_ix2 y)).trans (rd_ix2 _ (y 0) (y 1))

end Cert.Adam12

end
-- ==== Proof.Adam13.lean ====
module

public import proofs.«01_k».proof.Defs
public import proofs.«01_k».proof.Proof.AdamBase
public import proofs.«01_k».proof.Proof.Gen.Kernel13Ideal.Value
public import proofs.«01_k».proof.Proof.Gen.Reference13Ideal.Read
public import Idealize.ShloMosaic.Lib.Pipeline.ValueKit
public import Idealize.ShloMosaic.Lib.Quiescent

/-! The optimiser's call on w_out_o: what it writes is what the reference computes. -/

@[expose] public section
noncomputable section
open Idealize.ShloMosaic Idealize.ShloMosaic.TcCoe Idealize.SL.Sem
open Idealize.ShloMosaic.Pipeline (Dat)
open Cert.Mix (rd rd_of rd_ix2 hz)
open Cert.Adam (momOne momTwo change step step_eq ix_cases)

namespace Cert.Adam13

section
open Cert.Kernel13Ideal Cert.Kernel13Ideal.Gen

variable (m : (ℓ : Loc nD τ sig) → Buf (Elt Ideal) ℓ)

theorem inv_one : Named.named (F := Ideal) κ "inv_bc1" (φ := .f32) 0x3FC48605#32 = ((8388608 / 5463681 : ℝ) : EReal) :=
  IdealRules.named_const.ideal_named_scalar _ _ _ _ rfl

theorem inv_two : Named.named (F := Ideal) κ "inv_bc2" (φ := .f32) 0x42C8E6D3#32 = ((268435456 / 2672307 : ℝ) : EReal) :=
  IdealRules.named_const.ideal_named_scalar _ _ _ _ rfl

variable (w g p q : FVec Ideal S256x2048 .f32) (i : S256x2048.Idx)

/-- The new first moments of a block. -/
theorem pay1 : k0_pay1 (F := Ideal) g p i = momOne (g i) (p i) := by
  unfold momOne
  pointwise [k0_pay1]

/-- The new second moments of a block. -/
theorem pay2 : k0_pay2 (F := Ideal) g q i = momTwo (g i) (q i) := by
  unfold momTwo
  pointwise [k0_pay2]

/-- The changes of a block of weights. -/
theorem pay3 : k0_pay3 (F := Ideal) g p q w i = step (w i) (g i) (p i) (q i) := by
  rw [← step_eq]
  unfold change
  pointwise [k0_pay3]
  rw [pay1, pay2, inv_one, inv_two]

theorem out_4 : out0_4 (F := Ideal) w g p q = k0_pay3 (F := Ideal) g p q w := by
  unfold out0_4
  rw [View.canon_cons_unit_zero hz]
  simp only [View.ld_unit_zero (S := S256x2048) hz]

theorem out_5 : out0_5 (F := Ideal) w g p q = k0_pay1 (F := Ideal) g p := by
  unfold out0_5
  rw [View.canon_cons_unit_zero hz]
  simp only [View.ld_unit_zero (S := S256x2048) hz]

theorem out_6 : out0_6 (F := Ideal) w g p q = k0_pay2 (F := Ideal) g q := by
  unfold out0_6
  rw [View.canon_cons_unit_zero hz]
  simp only [View.ld_unit_zero (S := S256x2048) hz]

theorem out_7 : out0_7 (F := Ideal) w g p q = g := by
  unfold out0_7
  rw [View.canon_cons_unit_zero hz]
  simp only [View.ld_unit_zero (S := S256x2048) hz]

/-- The arguments of the call. -/
def a0 (c : Dev nD) : ℕ → ℕ → EReal := rd (n0 := 512) (n1 := 2048) (m ((c : Thread nD τ).loc main_arg0))
def a1 (c : Dev nD) : ℕ → ℕ → EReal := rd (n0 := 512) (n1 := 2048) (m ((c : Thread nD τ).loc main_arg1))
def a2 (c : Dev nD) : ℕ → ℕ → EReal := rd (n0 := 512) (n1 := 2048) (m ((c : Thread nD τ).loc main_arg2))
def a3 (c : Dev nD) : ℕ → ℕ → EReal := rd (n0 := 512) (n1 := 2048) (m ((c : Thread nD τ).loc main_arg3))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The arguments' blocks at a point, read in their arrays. -/
theorem block (c : Dev nD) (t : Fin cfg0.N) (j : Fin 256) (k : Fin 2048) :
    (iblk m c 0 t : FVec Ideal S256x2048 .f32) (ix2 j k) = a0 m c (256 * t.val + j.val) k.val
    ∧ (iblk m c 1 t : FVec Ideal S256x2048 .f32) (ix2 j k) = a1 m c (256 * t.val + j.val) k.val
    ∧ (iblk m c 2 t : FVec Ideal S256x2048 .f32) (ix2 j k) = a2 m c (256 * t.val + j.val) k.val
    ∧ (iblk m c 3 t : FVec Ideal S256x2048 .f32) (ix2 j k) = a3 m c (256 * t.val + j.val) k.val := by
  have ht : t.val < 2 := lt_of_lt_of_eq t.isLt N_0
  have hj : j.val < 256 := j.isLt
  unfold a0 a1 a2 a3
  rw [← rd_of _ (by omega) k.isLt, ← rd_of _ (by omega) k.isLt, ← rd_of _ (by omega) k.isLt, ← rd_of _ (by omega) k.isLt]
  refine ⟨?_, ?_, ?_, ?_⟩ <;> (blk_simp [iblk]; refine congrArg (m _) (funext (Fin.forall_fin_two.mpr ⟨Fin.ext ?_, Fin.ext ?_⟩)))
  all_goals (try (blk_simp [(idx t).1, (idx t).2.1, (idx t).2.2.1, (idx t).2.2.2.1])) <;> (first | (show _ = 256 * t.val + j.val) | (show _ = k.val)) <;> (try dsimp only) <;> omega

/-- The changes of the weights: what the call leaves in the whole array. -/
theorem final4 (c : Dev nD) : (dats m 0 c).arrAt 4 cfg0.N = fun y : S512x2048.Idx =>
    step (a0 m c (y 0).val (y 1).val) (a1 m c (y 0).val (y 1).val) (a2 m c (y 0).val (y 1).val) (a3 m c (y 0).val (y 1).val) := by
  refine (dats m 0 c).arrAt_eq_of_covers 4 _ (by decide +kernel) fun t hf y => ?_
  blk_simp [(idx t).2.2.2.2.1]
  rw [after0_4, out_4]
  obtain ⟨j, k, rfl⟩ := ix_cases (n0 := 256) (n1 := 2048) y
  rw [pay3, (block m c t j k).1, (block m c t j k).2.1, (block m c t j k).2.2.1, (block m c t j k).2.2.2, Nat.mul_comm]
  rfl

/-- The new first moments: what the call leaves in the whole array. -/
theorem final5 (c : Dev nD) : (dats m 0 c).arrAt 5 cfg0.N = fun y : S512x2048.Idx =>
    momOne (a1 m c (y 0).val (y 1).val) (a2 m c (y 0).val (y 1).val) := by
  refine (dats m 0 c).arrAt_eq_of_covers 5 _ (by decide +kernel) fun t hf y => ?_
  blk_simp [(idx t).2.2.2.2.2.1]
  rw [after0_5, out_5]
  obtain ⟨j, k, rfl⟩ := ix_cases (n0 := 256) (n1 := 2048) y
  rw [pay1, (block m c t j k).2.1, (block m c t j k).2.2.1, Nat.mul_comm]
  rfl

/-- The new second moments: what the call leaves in the whole array. -/
theorem final6 (c : Dev nD) : (dats m 0 c).arrAt 6 cfg0.N = fun y : S512x2048.Idx =>
    momTwo (a1 m c (y 0).val (y 1).val) (a3 m c (y 0).val (y 1).val) := by
  refine (dats m 0 c).arrAt_eq_of_covers 6 _ (by decide +kernel) fun t hf y => ?_
  blk_simp [(idx t).2.2.2.2.2.2.1]
  rw [after0_6, out_6]
  obtain ⟨j, k, rfl⟩ := ix_cases (n0 := 256) (n1 := 2048) y
  rw [pay2, (block m c t j k).2.1, (block m c t j k).2.2.2, Nat.mul_comm]
  rfl

/-- The gradient, copied: what the call leaves in the whole array. -/
theorem final7 (c : Dev nD) : (dats m 0 c).arrAt 7 cfg0.N = fun y : S512x2048.Idx =>
    (a1 m c (y 0).val (y 1).val) := by
  refine (dats m 0 c).arrAt_eq_of_covers 7 _ (by decide +kernel) fun t hf y => ?_
  blk_simp [(idx t).2.2.2.2.2.2.2]
  rw [after0_7, out_7]
  obtain ⟨j, k, rfl⟩ := ix_cases (n0 := 256) (n1 := 2048) y
  rw [(block m c t j k).2.1, Nat.mul_comm]
  rfl

end

section
open Cert.Reference13Ideal Cert.Reference13Ideal.Gen Cert.Reference13Ideal.Read

variable (x0 x1 x2 x3 : (⟨S512x2048, .f32⟩ : BufTy).Contents (Elt Ideal)) (i : S512x2048.Idx)

/-- The new first moments, as the reference computes them. -/
theorem ref_one : val_main_v4 (F := Ideal) x1 x2 i = momOne (x1 i) (x2 i) := by
  rw [val_main_v4_apply, val_main_v1_apply, val_main_v3_apply, val_main_v0_apply, val_main_v2_apply]
  rfl

/-- The new second moments, as the reference computes them. -/
theorem ref_two : val_main_v10 (F := Ideal) x1 x3 i = momTwo (x1 i) (x3 i) := by
  rw [val_main_v10_apply, val_main_v6_apply, val_main_v9_apply, val_main_v5_apply, val_main_v7_apply, val_main_v8_apply]
  rfl

/-- The changes of the weights, as the reference computes them. -/
theorem ref_step : val_main_v23 (F := Ideal) x0 x1 x2 x3 i = step (x0 i) (x1 i) (x2 i) (x3 i) := by
  rw [val_main_v23_apply, val_main_v21_apply, val_main_v18_apply, val_main_v20_apply, val_main_v12_apply, val_main_v17_apply,
    val_main_v15_apply, val_main_v14_apply, ref_one, ref_two]
  rfl

end

/-- The reference runs, keeps its arguments and leaves no semaphore counted. -/
theorem quiescent_reference13 : quiescent_Reference13Ideal (hReference13Ideal := Cert.Reference13Ideal.Gen.facts) :=
  fun m ρ _ => (θ_run Cert.Reference13Ideal.defs _ _).mono
    (fun r h => ⟨fun c => (h c).2.2.2.2, Idealize.ShloMosaic.sem_eq_zero_of_no_sems (by decide) r.2⟩)
    (Cert.Reference13Ideal.Value.run (F := Ideal) m ρ)

/-- The two named constants are the reciprocals of the bias corrections. -/
theorem preserves13 : preserves_Kernel13_Kernel13Ideal :=
  ⟨IdealRules.named_const.statement Cert.Kernel13Ideal.κ "inv_bc1" .f32 0x3FC48605#32 ((8388608 / 5463681 : ℝ) : EReal) rfl,
    IdealRules.named_const.statement Cert.Kernel13Ideal.κ "inv_bc2" .f32 0x42C8E6D3#32 ((268435456 / 2672307 : ℝ) : EReal) rfl⟩

/-- The call and the reference give the same changes and the same moments. -/
theorem algebraic13 : algebraic_Kernel13Ideal_Reference13Ideal (hKernel13Ideal := Cert.Kernel13Ideal.Gen.facts)
    (hReference13Ideal := Cert.Reference13Ideal.Gen.facts) := by
  intro m g m' g' _ hargs
  refine ⟨_, _, _, _, Cert.Kernel13Ideal.Value.run_blocks m g, ?_⟩
  refine (θ_run Cert.Reference13Ideal.defs _ _).mono (fun r h c => ?_) (Cert.Reference13Ideal.Value.run (F := Ideal) m' g')
  obtain ⟨a0, a1, a2, a3⟩ := hargs c
  refine ⟨(h c).1.trans ?_, (h c).2.1.trans ?_, (h c).2.2.1.trans ?_, (h c).2.2.2.1.trans ?_, (h c).2.2.2.2⟩
  · rw [Cert.Reference13Ideal.Read.val_main_v23_eq, a0, a1, a2, a3]
    refine Eq.trans (funext fun y => ?_) (final4 m c).symm
    obtain ⟨i, j, rfl⟩ := ix_cases (n0 := 512) (n1 := 2048) y
    rw [ref_step]
    simp only [rd_ix2]
    rfl
  · rw [Cert.Reference13Ideal.Read.val_main_v4_eq, a1, a2]
    refine Eq.trans (funext fun y => ?_) (final5 m c).symm
    obtain ⟨i, j, rfl⟩ := ix_cases (n0 := 512) (n1 := 2048) y
    rw [ref_one]
    simp only [rd_ix2]
    rfl
  · rw [Cert.Reference13Ideal.Read.val_main_v10_eq, a1, a3]
    refine Eq.trans (funext fun y => ?_) (final6 m c).symm
    obtain ⟨i, j, rfl⟩ := ix_cases (n0 := 512) (n1 := 2048) y
    rw [ref_two]
    simp only [rd_ix2]
    rfl
  · rw [a1]
    refine Eq.trans (funext fun y => ?_) (final7 m c).symm
    exact (congrArg _ (eq_ix2 y)).trans (rd_ix2 _ (y 0) (y 1))

end Cert.Adam13

end
-- ==== Proof.Adam14.lean ====
module

public import proofs.«01_k».proof.Defs
public import proofs.«01_k».proof.Proof.AdamBase
public import proofs.«01_k».proof.Proof.Gen.Kernel14Ideal.Value
public import proofs.«01_k».proof.Proof.Gen.Reference14Ideal.Read
public import Idealize.ShloMosaic.Lib.Pipeline.ValueKit
public import Idealize.ShloMosaic.Lib.Quiescent

/-! The optimiser's call on w_gate: what it writes is what the reference computes. -/

@[expose] public section
noncomputable section
open Idealize.ShloMosaic Idealize.ShloMosaic.TcCoe Idealize.SL.Sem
open Idealize.ShloMosaic.Pipeline (Dat)
open Cert.Mix (rd rd_of rd_ix2 hz)
open Cert.Adam (momOne momTwo change step step_eq ix_cases)

namespace Cert.Adam14

section
open Cert.Kernel14Ideal Cert.Kernel14Ideal.Gen

variable (m : (ℓ : Loc nD τ sig) → Buf (Elt Ideal) ℓ)

theorem inv_one : Named.named (F := Ideal) κ "inv_bc1" (φ := .f32) 0x3FC48605#32 = ((8388608 / 5463681 : ℝ) : EReal) :=
  IdealRules.named_const.ideal_named_scalar _ _ _ _ rfl

theorem inv_two : Named.named (F := Ideal) κ "inv_bc2" (φ := .f32) 0x42C8E6D3#32 = ((268435456 / 2672307 : ℝ) : EReal) :=
  IdealRules.named_const.ideal_named_scalar _ _ _ _ rfl

variable (w g p q : FVec Ideal S256x1408 .f32) (i : S256x1408.Idx)

/-- The new first moments of a block. -/
theorem pay1 : k0_pay1 (F := Ideal) g p i = momOne (g i) (p i) := by
  unfold momOne
  pointwise [k0_pay1]

/-- The new second moments of a block. -/
theorem pay2 : k0_pay2 (F := Ideal) g q i = momTwo (g i) (q i) := by
  unfold momTwo
  pointwise [k0_pay2]

/-- The changes of a block of weights. -/
theorem pay3 : k0_pay3 (F := Ideal) g p q w i = step (w i) (g i) (p i) (q i) := by
  rw [← step_eq]
  unfold change
  pointwise [k0_pay3]
  rw [pay1, pay2, inv_one, inv_two]

theorem out_4 : out0_4 (F := Ideal) w g p q = k0_pay3 (F := Ideal) g p q w := by
  unfold out0_4
  rw [View.canon_cons_unit_zero hz]
  simp only [View.ld_unit_zero (S := S256x1408) hz]

theorem out_5 : out0_5 (F := Ideal) w g p q = k0_pay1 (F := Ideal) g p := by
  unfold out0_5
  rw [View.canon_cons_unit_zero hz]
  simp only [View.ld_unit_zero (S := S256x1408) hz]

theorem out_6 : out0_6 (F := Ideal) w g p q = k0_pay2 (F := Ideal) g q := by
  unfold out0_6
  rw [View.canon_cons_unit_zero hz]
  simp only [View.ld_unit_zero (S := S256x1408) hz]

theorem out_7 : out0_7 (F := Ideal) w g p q = g := by
  unfold out0_7
  rw [View.canon_cons_unit_zero hz]
  simp only [View.ld_unit_zero (S := S256x1408) hz]

/-- The arguments of the call. -/
def a0 (c : Dev nD) : ℕ → ℕ → EReal := rd (n0 := 4096) (n1 := 1408) (m ((c : Thread nD τ).loc main_arg0))
def a1 (c : Dev nD) : ℕ → ℕ → EReal := rd (n0 := 4096) (n1 := 1408) (m ((c : Thread nD τ).loc main_arg1))
def a2 (c : Dev nD) : ℕ → ℕ → EReal := rd (n0 := 4096) (n1 := 1408) (m ((c : Thread nD τ).loc main_arg2))
def a3 (c : Dev nD) : ℕ → ℕ → EReal := rd (n0 := 4096) (n1 := 1408) (m ((c : Thread nD τ).loc main_arg3))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The arguments' blocks at a point, read in their arrays. -/
theorem block (c : Dev nD) (t : Fin cfg0.N) (j : Fin 256) (k : Fin 1408) :
    (iblk m c 0 t : FVec Ideal S256x1408 .f32) (ix2 j k) = a0 m c (256 * t.val + j.val) k.val
    ∧ (iblk m c 1 t : FVec Ideal S256x1408 .f32) (ix2 j k) = a1 m c (256 * t.val + j.val) k.val
    ∧ (iblk m c 2 t : FVec Ideal S256x1408 .f32) (ix2 j k) = a2 m c (256 * t.val + j.val) k.val
    ∧ (iblk m c 3 t : FVec Ideal S256x1408 .f32) (ix2 j k) = a3 m c (256 * t.val + j.val) k.val := by
  have ht : t.val < 16 := lt_of_lt_of_eq t.isLt N_0
  have hj : j.val < 256 := j.isLt
  unfold a0 a1 a2 a3
  rw [← rd_of _ (by omega) k.isLt, ← rd_of _ (by omega) k.isLt, ← rd_of _ (by omega) k.isLt, ← rd_of _ (by omega) k.isLt]
  refine ⟨?_, ?_, ?_, ?_⟩ <;> (blk_simp [iblk]; refine congrArg (m _) (funext (Fin.forall_fin_two.mpr ⟨Fin.ext ?_, Fin.ext ?_⟩)))
  all_goals (try (blk_simp [(idx t).1, (idx t).2.1, (idx t).2.2.1, (idx t).2.2.2.1])) <;> (first | (show _ = 256 * t.val + j.val) | (show _ = k.val)) <;> (try dsimp only) <;> omega

/-- The changes of the weights: what the call leaves in the whole array. -/
theorem final4 (c : Dev nD) : (dats m 0 c).arrAt 4 cfg0.N = fun y : S4096x1408.Idx =>
    step (a0 m c (y 0).val (y 1).val) (a1 m c (y 0).val (y 1).val) (a2 m c (y 0).val (y 1).val) (a3 m c (y 0).val (y 1).val) := by
  refine (dats m 0 c).arrAt_eq_of_covers 4 _ (by decide +kernel) fun t hf y => ?_
  blk_simp [(idx t).2.2.2.2.1]
  rw [after0_4, out_4]
  obtain ⟨j, k, rfl⟩ := ix_cases (n0 := 256) (n1 := 1408) y
  rw [pay3, (block m c t j k).1, (block m c t j k).2.1, (block m c t j k).2.2.1, (block m c t j k).2.2.2, Nat.mul_comm]
  rfl

/-- The new first moments: what the call leaves in the whole array. -/
theorem final5 (c : Dev nD) : (dats m 0 c).arrAt 5 cfg0.N = fun y : S4096x1408.Idx =>
    momOne (a1 m c (y 0).val (y 1).val) (a2 m c (y 0).val (y 1).val) := by
  refine (dats m 0 c).arrAt_eq_of_covers 5 _ (by decide +kernel) fun t hf y => ?_
  blk_simp [(idx t).2.2.2.2.2.1]
  rw [after0_5, out_5]
  obtain ⟨j, k, rfl⟩ := ix_cases (n0 := 256) (n1 := 1408) y
  rw [pay1, (block m c t j k).2.1, (block m c t j k).2.2.1, Nat.mul_comm]
  rfl

/-- The new second moments: what the call leaves in the whole array. -/
theorem final6 (c : Dev nD) : (dats m 0 c).arrAt 6 cfg0.N = fun y : S4096x1408.Idx =>
    momTwo (a1 m c (y 0).val (y 1).val) (a3 m c (y 0).val (y 1).val) := by
  refine (dats m 0 c).arrAt_eq_of_covers 6 _ (by decide +kernel) fun t hf y => ?_
  blk_simp [(idx t).2.2.2.2.2.2.1]
  rw [after0_6, out_6]
  obtain ⟨j, k, rfl⟩ := ix_cases (n0 := 256) (n1 := 1408) y
  rw [pay2, (block m c t j k).2.1, (block m c t j k).2.2.2, Nat.mul_comm]
  rfl

/-- The gradient, copied: what the call leaves in the whole array. -/
theorem final7 (c : Dev nD) : (dats m 0 c).arrAt 7 cfg0.N = fun y : S4096x1408.Idx =>
    (a1 m c (y 0).val (y 1).val) := by
  refine (dats m 0 c).arrAt_eq_of_covers 7 _ (by decide +kernel) fun t hf y => ?_
  blk_simp [(idx t).2.2.2.2.2.2.2]
  rw [after0_7, out_7]
  obtain ⟨j, k, rfl⟩ := ix_cases (n0 := 256) (n1 := 1408) y
  rw [(block m c t j k).2.1, Nat.mul_comm]
  rfl

end

section
open Cert.Reference14Ideal Cert.Reference14Ideal.Gen Cert.Reference14Ideal.Read

variable (x0 x1 x2 x3 : (⟨S4096x1408, .f32⟩ : BufTy).Contents (Elt Ideal)) (i : S4096x1408.Idx)

/-- The new first moments, as the reference computes them. -/
theorem ref_one : val_main_v4 (F := Ideal) x1 x2 i = momOne (x1 i) (x2 i) := by
  rw [val_main_v4_apply, val_main_v1_apply, val_main_v3_apply, val_main_v0_apply, val_main_v2_apply]
  rfl

/-- The new second moments, as the reference computes them. -/
theorem ref_two : val_main_v10 (F := Ideal) x1 x3 i = momTwo (x1 i) (x3 i) := by
  rw [val_main_v10_apply, val_main_v6_apply, val_main_v9_apply, val_main_v5_apply, val_main_v7_apply, val_main_v8_apply]
  rfl

/-- The changes of the weights, as the reference computes them. -/
theorem ref_step : val_main_v23 (F := Ideal) x0 x1 x2 x3 i = step (x0 i) (x1 i) (x2 i) (x3 i) := by
  rw [val_main_v23_apply, val_main_v21_apply, val_main_v18_apply, val_main_v20_apply, val_main_v12_apply, val_main_v17_apply,
    val_main_v15_apply, val_main_v14_apply, ref_one, ref_two]
  rfl

end

/-- The reference runs, keeps its arguments and leaves no semaphore counted. -/
theorem quiescent_reference14 : quiescent_Reference14Ideal (hReference14Ideal := Cert.Reference14Ideal.Gen.facts) :=
  fun m ρ _ => (θ_run Cert.Reference14Ideal.defs _ _).mono
    (fun r h => ⟨fun c => (h c).2.2.2.2, Idealize.ShloMosaic.sem_eq_zero_of_no_sems (by decide) r.2⟩)
    (Cert.Reference14Ideal.Value.run (F := Ideal) m ρ)

/-- The two named constants are the reciprocals of the bias corrections. -/
theorem preserves14 : preserves_Kernel14_Kernel14Ideal :=
  ⟨IdealRules.named_const.statement Cert.Kernel14Ideal.κ "inv_bc1" .f32 0x3FC48605#32 ((8388608 / 5463681 : ℝ) : EReal) rfl,
    IdealRules.named_const.statement Cert.Kernel14Ideal.κ "inv_bc2" .f32 0x42C8E6D3#32 ((268435456 / 2672307 : ℝ) : EReal) rfl⟩

/-- The call and the reference give the same changes and the same moments. -/
theorem algebraic14 : algebraic_Kernel14Ideal_Reference14Ideal (hKernel14Ideal := Cert.Kernel14Ideal.Gen.facts)
    (hReference14Ideal := Cert.Reference14Ideal.Gen.facts) := by
  intro m g m' g' _ hargs
  refine ⟨_, _, _, _, Cert.Kernel14Ideal.Value.run_blocks m g, ?_⟩
  refine (θ_run Cert.Reference14Ideal.defs _ _).mono (fun r h c => ?_) (Cert.Reference14Ideal.Value.run (F := Ideal) m' g')
  obtain ⟨a0, a1, a2, a3⟩ := hargs c
  refine ⟨(h c).1.trans ?_, (h c).2.1.trans ?_, (h c).2.2.1.trans ?_, (h c).2.2.2.1.trans ?_, (h c).2.2.2.2⟩
  · rw [Cert.Reference14Ideal.Read.val_main_v23_eq, a0, a1, a2, a3]
    refine Eq.trans (funext fun y => ?_) (final4 m c).symm
    obtain ⟨i, j, rfl⟩ := ix_cases (n0 := 4096) (n1 := 1408) y
    rw [ref_step]
    simp only [rd_ix2]
    rfl
  · rw [Cert.Reference14Ideal.Read.val_main_v4_eq, a1, a2]
    refine Eq.trans (funext fun y => ?_) (final5 m c).symm
    obtain ⟨i, j, rfl⟩ := ix_cases (n0 := 4096) (n1 := 1408) y
    rw [ref_one]
    simp only [rd_ix2]
    rfl
  · rw [Cert.Reference14Ideal.Read.val_main_v10_eq, a1, a3]
    refine Eq.trans (funext fun y => ?_) (final6 m c).symm
    obtain ⟨i, j, rfl⟩ := ix_cases (n0 := 4096) (n1 := 1408) y
    rw [ref_two]
    simp only [rd_ix2]
    rfl
  · rw [a1]
    refine Eq.trans (funext fun y => ?_) (final7 m c).symm
    exact (congrArg _ (eq_ix2 y)).trans (rd_ix2 _ (y 0) (y 1))

end Cert.Adam14

end
-- ==== Proof.Adam15.lean ====
module

public import proofs.«01_k».proof.Defs
public import proofs.«01_k».proof.Proof.AdamBase
public import proofs.«01_k».proof.Proof.Gen.Kernel15Ideal.Value
public import proofs.«01_k».proof.Proof.Gen.Reference15Ideal.Read
public import Idealize.ShloMosaic.Lib.Pipeline.ValueKit
public import Idealize.ShloMosaic.Lib.Quiescent

/-! The optimiser's call on w_down: what it writes is what the reference computes. -/

@[expose] public section
noncomputable section
open Idealize.ShloMosaic Idealize.ShloMosaic.TcCoe Idealize.SL.Sem
open Idealize.ShloMosaic.Pipeline (Dat)
open Cert.Mix (rd rd_of rd_ix2 hz)
open Cert.Adam (momOne momTwo change step step_eq ix_cases)

namespace Cert.Adam15

section
open Cert.Kernel15Ideal Cert.Kernel15Ideal.Gen

variable (m : (ℓ : Loc nD τ sig) → Buf (Elt Ideal) ℓ)

theorem inv_one : Named.named (F := Ideal) κ "inv_bc1" (φ := .f32) 0x3FC48605#32 = ((8388608 / 5463681 : ℝ) : EReal) :=
  IdealRules.named_const.ideal_named_scalar _ _ _ _ rfl

theorem inv_two : Named.named (F := Ideal) κ "inv_bc2" (φ := .f32) 0x42C8E6D3#32 = ((268435456 / 2672307 : ℝ) : EReal) :=
  IdealRules.named_const.ideal_named_scalar _ _ _ _ rfl

variable (w g p q : FVec Ideal S256x2048 .f32) (i : S256x2048.Idx)

/-- The new first moments of a block. -/
theorem pay1 : k0_pay1 (F := Ideal) g p i = momOne (g i) (p i) := by
  unfold momOne
  pointwise [k0_pay1]

/-- The new second moments of a block. -/
theorem pay2 : k0_pay2 (F := Ideal) g q i = momTwo (g i) (q i) := by
  unfold momTwo
  pointwise [k0_pay2]

/-- The changes of a block of weights. -/
theorem pay3 : k0_pay3 (F := Ideal) g p q w i = step (w i) (g i) (p i) (q i) := by
  rw [← step_eq]
  unfold change
  pointwise [k0_pay3]
  rw [pay1, pay2, inv_one, inv_two]

theorem out_4 : out0_4 (F := Ideal) w g p q = k0_pay3 (F := Ideal) g p q w := by
  unfold out0_4
  rw [View.canon_cons_unit_zero hz]
  simp only [View.ld_unit_zero (S := S256x2048) hz]

theorem out_5 : out0_5 (F := Ideal) w g p q = k0_pay1 (F := Ideal) g p := by
  unfold out0_5
  rw [View.canon_cons_unit_zero hz]
  simp only [View.ld_unit_zero (S := S256x2048) hz]

theorem out_6 : out0_6 (F := Ideal) w g p q = k0_pay2 (F := Ideal) g q := by
  unfold out0_6
  rw [View.canon_cons_unit_zero hz]
  simp only [View.ld_unit_zero (S := S256x2048) hz]

theorem out_7 : out0_7 (F := Ideal) w g p q = g := by
  unfold out0_7
  rw [View.canon_cons_unit_zero hz]
  simp only [View.ld_unit_zero (S := S256x2048) hz]

/-- The arguments of the call. -/
def a0 (c : Dev nD) : ℕ → ℕ → EReal := rd (n0 := 2816) (n1 := 2048) (m ((c : Thread nD τ).loc main_arg0))
def a1 (c : Dev nD) : ℕ → ℕ → EReal := rd (n0 := 2816) (n1 := 2048) (m ((c : Thread nD τ).loc main_arg1))
def a2 (c : Dev nD) : ℕ → ℕ → EReal := rd (n0 := 2816) (n1 := 2048) (m ((c : Thread nD τ).loc main_arg2))
def a3 (c : Dev nD) : ℕ → ℕ → EReal := rd (n0 := 2816) (n1 := 2048) (m ((c : Thread nD τ).loc main_arg3))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The arguments' blocks at a point, read in their arrays. -/
theorem block (c : Dev nD) (t : Fin cfg0.N) (j : Fin 256) (k : Fin 2048) :
    (iblk m c 0 t : FVec Ideal S256x2048 .f32) (ix2 j k) = a0 m c (256 * t.val + j.val) k.val
    ∧ (iblk m c 1 t : FVec Ideal S256x2048 .f32) (ix2 j k) = a1 m c (256 * t.val + j.val) k.val
    ∧ (iblk m c 2 t : FVec Ideal S256x2048 .f32) (ix2 j k) = a2 m c (256 * t.val + j.val) k.val
    ∧ (iblk m c 3 t : FVec Ideal S256x2048 .f32) (ix2 j k) = a3 m c (256 * t.val + j.val) k.val := by
  have ht : t.val < 11 := lt_of_lt_of_eq t.isLt N_0
  have hj : j.val < 256 := j.isLt
  unfold a0 a1 a2 a3
  rw [← rd_of _ (by omega) k.isLt, ← rd_of _ (by omega) k.isLt, ← rd_of _ (by omega) k.isLt, ← rd_of _ (by omega) k.isLt]
  refine ⟨?_, ?_, ?_, ?_⟩ <;> (blk_simp [iblk]; refine congrArg (m _) (funext (Fin.forall_fin_two.mpr ⟨Fin.ext ?_, Fin.ext ?_⟩)))
  all_goals (try (blk_simp [(idx t).1, (idx t).2.1, (idx t).2.2.1, (idx t).2.2.2.1])) <;> (first | (show _ = 256 * t.val + j.val) | (show _ = k.val)) <;> (try dsimp only) <;> omega

/-- The changes of the weights: what the call leaves in the whole array. -/
theorem final4 (c : Dev nD) : (dats m 0 c).arrAt 4 cfg0.N = fun y : S2816x2048.Idx =>
    step (a0 m c (y 0).val (y 1).val) (a1 m c (y 0).val (y 1).val) (a2 m c (y 0).val (y 1).val) (a3 m c (y 0).val (y 1).val) := by
  refine (dats m 0 c).arrAt_eq_of_covers 4 _ (by decide +kernel) fun t hf y => ?_
  blk_simp [(idx t).2.2.2.2.1]
  rw [after0_4, out_4]
  obtain ⟨j, k, rfl⟩ := ix_cases (n0 := 256) (n1 := 2048) y
  rw [pay3, (block m c t j k).1, (block m c t j k).2.1, (block m c t j k).2.2.1, (block m c t j k).2.2.2, Nat.mul_comm]
  rfl

/-- The new first moments: what the call leaves in the whole array. -/
theorem final5 (c : Dev nD) : (dats m 0 c).arrAt 5 cfg0.N = fun y : S2816x2048.Idx =>
    momOne (a1 m c (y 0).val (y 1).val) (a2 m c (y 0).val (y 1).val) := by
  refine (dats m 0 c).arrAt_eq_of_covers 5 _ (by decide +kernel) fun t hf y => ?_
  blk_simp [(idx t).2.2.2.2.2.1]
  rw [after0_5, out_5]
  obtain ⟨j, k, rfl⟩ := ix_cases (n0 := 256) (n1 := 2048) y
  rw [pay1, (block m c t j k).2.1, (block m c t j k).2.2.1, Nat.mul_comm]
  rfl

/-- The new second moments: what the call leaves in the whole array. -/
theorem final6 (c : Dev nD) : (dats m 0 c).arrAt 6 cfg0.N = fun y : S2816x2048.Idx =>
    momTwo (a1 m c (y 0).val (y 1).val) (a3 m c (y 0).val (y 1).val) := by
  refine (dats m 0 c).arrAt_eq_of_covers 6 _ (by decide +kernel) fun t hf y => ?_
  blk_simp [(idx t).2.2.2.2.2.2.1]
  rw [after0_6, out_6]
  obtain ⟨j, k, rfl⟩ := ix_cases (n0 := 256) (n1 := 2048) y
  rw [pay2, (block m c t j k).2.1, (block m c t j k).2.2.2, Nat.mul_comm]
  rfl

/-- The gradient, copied: what the call leaves in the whole array. -/
theorem final7 (c : Dev nD) : (dats m 0 c).arrAt 7 cfg0.N = fun y : S2816x2048.Idx =>
    (a1 m c (y 0).val (y 1).val) := by
  refine (dats m 0 c).arrAt_eq_of_covers 7 _ (by decide +kernel) fun t hf y => ?_
  blk_simp [(idx t).2.2.2.2.2.2.2]
  rw [after0_7, out_7]
  obtain ⟨j, k, rfl⟩ := ix_cases (n0 := 256) (n1 := 2048) y
  rw [(block m c t j k).2.1, Nat.mul_comm]
  rfl

end

section
open Cert.Reference15Ideal Cert.Reference15Ideal.Gen Cert.Reference15Ideal.Read

variable (x0 x1 x2 x3 : (⟨S2816x2048, .f32⟩ : BufTy).Contents (Elt Ideal)) (i : S2816x2048.Idx)

/-- The new first moments, as the reference computes them. -/
theorem ref_one : val_main_v4 (F := Ideal) x1 x2 i = momOne (x1 i) (x2 i) := by
  rw [val_main_v4_apply, val_main_v1_apply, val_main_v3_apply, val_main_v0_apply, val_main_v2_apply]
  rfl

/-- The new second moments, as the reference computes them. -/
theorem ref_two : val_main_v10 (F := Ideal) x1 x3 i = momTwo (x1 i) (x3 i) := by
  rw [val_main_v10_apply, val_main_v6_apply, val_main_v9_apply, val_main_v5_apply, val_main_v7_apply, val_main_v8_apply]
  rfl

/-- The changes of the weights, as the reference computes them. -/
theorem ref_step : val_main_v23 (F := Ideal) x0 x1 x2 x3 i = step (x0 i) (x1 i) (x2 i) (x3 i) := by
  rw [val_main_v23_apply, val_main_v21_apply, val_main_v18_apply, val_main_v20_apply, val_main_v12_apply, val_main_v17_apply,
    val_main_v15_apply, val_main_v14_apply, ref_one, ref_two]
  rfl

end

/-- The reference runs, keeps its arguments and leaves no semaphore counted. -/
theorem quiescent_reference15 : quiescent_Reference15Ideal (hReference15Ideal := Cert.Reference15Ideal.Gen.facts) :=
  fun m ρ _ => (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

/-- The two named constants are the reciprocals of the bias corrections. -/
theorem preserves15 : preserves_Kernel15_Kernel15Ideal :=
  ⟨IdealRules.named_const.statement Cert.Kernel15Ideal.κ "inv_bc1" .f32 0x3FC48605#32 ((8388608 / 5463681 : ℝ) : EReal) rfl,
    IdealRules.named_const.statement Cert.Kernel15Ideal.κ "inv_bc2" .f32 0x42C8E6D3#32 ((268435456 / 2672307 : ℝ) : EReal) rfl⟩

/-- The call and the reference give the same changes and the same moments. -/
theorem algebraic15 : algebraic_Kernel15Ideal_Reference15Ideal (hKernel15Ideal := Cert.Kernel15Ideal.Gen.facts)
    (hReference15Ideal := Cert.Reference15Ideal.Gen.facts) := by
  intro m g m' g' _ hargs
  refine ⟨_, _, _, _, Cert.Kernel15Ideal.Value.run_blocks m g, ?_⟩
  refine (θ_run Cert.Reference15Ideal.defs _ _).mono (fun r h c => ?_) (Cert.Reference15Ideal.Value.run (F := Ideal) m' g')
  obtain ⟨a0, a1, a2, a3⟩ := hargs c
  refine ⟨(h c).1.trans ?_, (h c).2.1.trans ?_, (h c).2.2.1.trans ?_, (h c).2.2.2.1.trans ?_, (h c).2.2.2.2⟩
  · rw [Cert.Reference15Ideal.Read.val_main_v23_eq, a0, a1, a2, a3]
    refine Eq.trans (funext fun y => ?_) (final4 m c).symm
    obtain ⟨i, j, rfl⟩ := ix_cases (n0 := 2816) (n1 := 2048) y
    rw [ref_step]
    simp only [rd_ix2]
    rfl
  · rw [Cert.Reference15Ideal.Read.val_main_v4_eq, a1, a2]
    refine Eq.trans (funext fun y => ?_) (final5 m c).symm
    obtain ⟨i, j, rfl⟩ := ix_cases (n0 := 2816) (n1 := 2048) y
    rw [ref_one]
    simp only [rd_ix2]
    rfl
  · rw [Cert.Reference15Ideal.Read.val_main_v10_eq, a1, a3]
    refine Eq.trans (funext fun y => ?_) (final6 m c).symm
    obtain ⟨i, j, rfl⟩ := ix_cases (n0 := 2816) (n1 := 2048) y
    rw [ref_two]
    simp only [rd_ix2]
    rfl
  · rw [a1]
    refine Eq.trans (funext fun y => ?_) (final7 m c).symm
    exact (congrArg _ (eq_ix2 y)).trans (rd_ix2 _ (y 0) (y 1))

end Cert.Adam15

end
-- ==== Proof.Adam16.lean ====
module

public import proofs.«01_k».proof.Defs
public import proofs.«01_k».proof.Proof.AdamBase
public import proofs.«01_k».proof.Proof.Gen.Kernel16Ideal.Value
public import proofs.«01_k».proof.Proof.Gen.Reference16Ideal.Read
public import Idealize.ShloMosaic.Lib.Pipeline.ValueKit
public import Idealize.ShloMosaic.Lib.Quiescent

/-! The optimiser's call on w_in_e: what it writes is what the reference computes. -/

@[expose] public section
noncomputable section
open Idealize.ShloMosaic Idealize.ShloMosaic.TcCoe Idealize.SL.Sem
open Idealize.ShloMosaic.Pipeline (Dat)
open Cert.Mix (rd rd_of rd_ix2 hz)
open Cert.Adam (momOne momTwo change step step_eq ix_cases)

namespace Cert.Adam16

section
open Cert.Kernel16Ideal Cert.Kernel16Ideal.Gen

variable (m : (ℓ : Loc nD τ sig) → Buf (Elt Ideal) ℓ)

theorem inv_one : Named.named (F := Ideal) κ "inv_bc1" (φ := .f32) 0x3FC48605#32 = ((8388608 / 5463681 : ℝ) : EReal) :=
  IdealRules.named_const.ideal_named_scalar _ _ _ _ rfl

theorem inv_two : Named.named (F := Ideal) κ "inv_bc2" (φ := .f32) 0x42C8E6D3#32 = ((268435456 / 2672307 : ℝ) : EReal) :=
  IdealRules.named_const.ideal_named_scalar _ _ _ _ rfl

variable (w g p q : FVec Ideal S512x768 .f32) (i : S512x768.Idx)

/-- The new first moments of a block. -/
theorem pay1 : k0_pay1 (F := Ideal) g p i = momOne (g i) (p i) := by
  unfold momOne
  pointwise [k0_pay1]

/-- The new second moments of a block. -/
theorem pay2 : k0_pay2 (F := Ideal) g q i = momTwo (g i) (q i) := by
  unfold momTwo
  pointwise [k0_pay2]

/-- The changes of a block of weights. -/
theorem pay3 : k0_pay3 (F := Ideal) g p q w i = step (w i) (g i) (p i) (q i) := by
  rw [← step_eq]
  unfold change
  pointwise [k0_pay3]
  rw [pay1, pay2, inv_one, inv_two]

theorem out_4 : out0_4 (F := Ideal) w g p q = k0_pay3 (F := Ideal) g p q w := by
  unfold out0_4
  rw [View.canon_cons_unit_zero hz]
  simp only [View.ld_unit_zero (S := S512x768) hz]

theorem out_5 : out0_5 (F := Ideal) w g p q = k0_pay1 (F := Ideal) g p := by
  unfold out0_5
  rw [View.canon_cons_unit_zero hz]
  simp only [View.ld_unit_zero (S := S512x768) hz]

theorem out_6 : out0_6 (F := Ideal) w g p q = k0_pay2 (F := Ideal) g q := by
  unfold out0_6
  rw [View.canon_cons_unit_zero hz]
  simp only [View.ld_unit_zero (S := S512x768) hz]

theorem out_7 : out0_7 (F := Ideal) w g p q = g := by
  unfold out0_7
  rw [View.canon_cons_unit_zero hz]
  simp only [View.ld_unit_zero (S := S512x768) hz]

/-- The arguments of the call. -/
def a0 (c : Dev nD) : ℕ → ℕ → EReal := rd (n0 := 2048) (n1 := 768) (m ((c : Thread nD τ).loc main_arg0))
def a1 (c : Dev nD) : ℕ → ℕ → EReal := rd (n0 := 2048) (n1 := 768) (m ((c : Thread nD τ).loc main_arg1))
def a2 (c : Dev nD) : ℕ → ℕ → EReal := rd (n0 := 2048) (n1 := 768) (m ((c : Thread nD τ).loc main_arg2))
def a3 (c : Dev nD) : ℕ → ℕ → EReal := rd (n0 := 2048) (n1 := 768) (m ((c : Thread nD τ).loc main_arg3))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The arguments' blocks at a point, read in their arrays. -/
theorem block (c : Dev nD) (t : Fin cfg0.N) (j : Fin 512) (k : Fin 768) :
    (iblk m c 0 t : FVec Ideal S512x768 .f32) (ix2 j k) = a0 m c (512 * t.val + j.val) k.val
    ∧ (iblk m c 1 t : FVec Ideal S512x768 .f32) (ix2 j k) = a1 m c (512 * t.val + j.val) k.val
    ∧ (iblk m c 2 t : FVec Ideal S512x768 .f32) (ix2 j k) = a2 m c (512 * t.val + j.val) k.val
    ∧ (iblk m c 3 t : FVec Ideal S512x768 .f32) (ix2 j k) = a3 m c (512 * t.val + j.val) k.val := by
  have ht : t.val < 4 := lt_of_lt_of_eq t.isLt N_0
  have hj : j.val < 512 := j.isLt
  unfold a0 a1 a2 a3
  rw [← rd_of _ (by omega) k.isLt, ← rd_of _ (by omega) k.isLt, ← rd_of _ (by omega) k.isLt, ← rd_of _ (by omega) k.isLt]
  refine ⟨?_, ?_, ?_, ?_⟩ <;> (blk_simp [iblk]; refine congrArg (m _) (funext (Fin.forall_fin_two.mpr ⟨Fin.ext ?_, Fin.ext ?_⟩)))
  all_goals (try (blk_simp [(idx t).1, (idx t).2.1, (idx t).2.2.1, (idx t).2.2.2.1])) <;> (first | (show _ = 512 * t.val + j.val) | (show _ = k.val)) <;> (try dsimp only) <;> omega

/-- The changes of the weights: what the call leaves in the whole array. -/
theorem final4 (c : Dev nD) : (dats m 0 c).arrAt 4 cfg0.N = fun y : S2048x768.Idx =>
    step (a0 m c (y 0).val (y 1).val) (a1 m c (y 0).val (y 1).val) (a2 m c (y 0).val (y 1).val) (a3 m c (y 0).val (y 1).val) := by
  refine (dats m 0 c).arrAt_eq_of_covers 4 _ (by decide +kernel) fun t hf y => ?_
  blk_simp [(idx t).2.2.2.2.1]
  rw [after0_4, out_4]
  obtain ⟨j, k, rfl⟩ := ix_cases (n0 := 512) (n1 := 768) y
  rw [pay3, (block m c t j k).1, (block m c t j k).2.1, (block m c t j k).2.2.1, (block m c t j k).2.2.2, Nat.mul_comm]
  rfl

/-- The new first moments: what the call leaves in the whole array. -/
theorem final5 (c : Dev nD) : (dats m 0 c).arrAt 5 cfg0.N = fun y : S2048x768.Idx =>
    momOne (a1 m c (y 0).val (y 1).val) (a2 m c (y 0).val (y 1).val) := by
  refine (dats m 0 c).arrAt_eq_of_covers 5 _ (by decide +kernel) fun t hf y => ?_
  blk_simp [(idx t).2.2.2.2.2.1]
  rw [after0_5, out_5]
  obtain ⟨j, k, rfl⟩ := ix_cases (n0 := 512) (n1 := 768) y
  rw [pay1, (block m c t j k).2.1, (block m c t j k).2.2.1, Nat.mul_comm]
  rfl

/-- The new second moments: what the call leaves in the whole array. -/
theorem final6 (c : Dev nD) : (dats m 0 c).arrAt 6 cfg0.N = fun y : S2048x768.Idx =>
    momTwo (a1 m c (y 0).val (y 1).val) (a3 m c (y 0).val (y 1).val) := by
  refine (dats m 0 c).arrAt_eq_of_covers 6 _ (by decide +kernel) fun t hf y => ?_
  blk_simp [(idx t).2.2.2.2.2.2.1]
  rw [after0_6, out_6]
  obtain ⟨j, k, rfl⟩ := ix_cases (n0 := 512) (n1 := 768) y
  rw [pay2, (block m c t j k).2.1, (block m c t j k).2.2.2, Nat.mul_comm]
  rfl

/-- The gradient, copied: what the call leaves in the whole array. -/
theorem final7 (c : Dev nD) : (dats m 0 c).arrAt 7 cfg0.N = fun y : S2048x768.Idx =>
    (a1 m c (y 0).val (y 1).val) := by
  refine (dats m 0 c).arrAt_eq_of_covers 7 _ (by decide +kernel) fun t hf y => ?_
  blk_simp [(idx t).2.2.2.2.2.2.2]
  rw [after0_7, out_7]
  obtain ⟨j, k, rfl⟩ := ix_cases (n0 := 512) (n1 := 768) y
  rw [(block m c t j k).2.1, Nat.mul_comm]
  rfl

end

section
open Cert.Reference16Ideal Cert.Reference16Ideal.Gen Cert.Reference16Ideal.Read

variable (x0 x1 x2 x3 : (⟨S2048x768, .f32⟩ : BufTy).Contents (Elt Ideal)) (i : S2048x768.Idx)

/-- The new first moments, as the reference computes them. -/
theorem ref_one : val_main_v4 (F := Ideal) x1 x2 i = momOne (x1 i) (x2 i) := by
  rw [val_main_v4_apply, val_main_v1_apply, val_main_v3_apply, val_main_v0_apply, val_main_v2_apply]
  rfl

/-- The new second moments, as the reference computes them. -/
theorem ref_two : val_main_v10 (F := Ideal) x1 x3 i = momTwo (x1 i) (x3 i) := by
  rw [val_main_v10_apply, val_main_v6_apply, val_main_v9_apply, val_main_v5_apply, val_main_v7_apply, val_main_v8_apply]
  rfl

/-- The changes of the weights, as the reference computes them. -/
theorem ref_step : val_main_v23 (F := Ideal) x0 x1 x2 x3 i = step (x0 i) (x1 i) (x2 i) (x3 i) := by
  rw [val_main_v23_apply, val_main_v21_apply, val_main_v18_apply, val_main_v20_apply, val_main_v12_apply, val_main_v17_apply,
    val_main_v15_apply, val_main_v14_apply, ref_one, ref_two]
  rfl

end

/-- The reference runs, keeps its arguments and leaves no semaphore counted. -/
theorem quiescent_reference16 : quiescent_Reference16Ideal (hReference16Ideal := Cert.Reference16Ideal.Gen.facts) :=
  fun m ρ _ => (θ_run Cert.Reference16Ideal.defs _ _).mono
    (fun r h => ⟨fun c => (h c).2.2.2.2, Idealize.ShloMosaic.sem_eq_zero_of_no_sems (by decide) r.2⟩)
    (Cert.Reference16Ideal.Value.run (F := Ideal) m ρ)

/-- The two named constants are the reciprocals of the bias corrections. -/
theorem preserves16 : preserves_Kernel16_Kernel16Ideal :=
  ⟨IdealRules.named_const.statement Cert.Kernel16Ideal.κ "inv_bc1" .f32 0x3FC48605#32 ((8388608 / 5463681 : ℝ) : EReal) rfl,
    IdealRules.named_const.statement Cert.Kernel16Ideal.κ "inv_bc2" .f32 0x42C8E6D3#32 ((268435456 / 2672307 : ℝ) : EReal) rfl⟩

/-- The call and the reference give the same changes and the same moments. -/
theorem algebraic16 : algebraic_Kernel16Ideal_Reference16Ideal (hKernel16Ideal := Cert.Kernel16Ideal.Gen.facts)
    (hReference16Ideal := Cert.Reference16Ideal.Gen.facts) := by
  intro m g m' g' _ hargs
  refine ⟨_, _, _, _, Cert.Kernel16Ideal.Value.run_blocks m g, ?_⟩
  refine (θ_run Cert.Reference16Ideal.defs _ _).mono (fun r h c => ?_) (Cert.Reference16Ideal.Value.run (F := Ideal) m' g')
  obtain ⟨a0, a1, a2, a3⟩ := hargs c
  refine ⟨(h c).1.trans ?_, (h c).2.1.trans ?_, (h c).2.2.1.trans ?_, (h c).2.2.2.1.trans ?_, (h c).2.2.2.2⟩
  · rw [Cert.Reference16Ideal.Read.val_main_v23_eq, a0, a1, a2, a3]
    refine Eq.trans (funext fun y => ?_) (final4 m c).symm
    obtain ⟨i, j, rfl⟩ := ix_cases (n0 := 2048) (n1 := 768) y
    rw [ref_step]
    simp only [rd_ix2]
    rfl
  · rw [Cert.Reference16Ideal.Read.val_main_v4_eq, a1, a2]
    refine Eq.trans (funext fun y => ?_) (final5 m c).symm
    obtain ⟨i, j, rfl⟩ := ix_cases (n0 := 2048) (n1 := 768) y
    rw [ref_one]
    simp only [rd_ix2]
    rfl
  · rw [Cert.Reference16Ideal.Read.val_main_v10_eq, a1, a3]
    refine Eq.trans (funext fun y => ?_) (final6 m c).symm
    obtain ⟨i, j, rfl⟩ := ix_cases (n0 := 2048) (n1 := 768) y
    rw [ref_two]
    simp only [rd_ix2]
    rfl
  · rw [a1]
    refine Eq.trans (funext fun y => ?_) (final7 m c).symm
    exact (congrArg _ (eq_ix2 y)).trans (rd_ix2 _ (y 0) (y 1))

end Cert.Adam16

end
-- ==== Proof.Adam17.lean ====
module

public import proofs.«01_k».proof.Defs
public import proofs.«01_k».proof.Proof.AdamBase
public import proofs.«01_k».proof.Proof.Gen.Kernel17Ideal.Value
public import proofs.«01_k».proof.Proof.Gen.Reference17Ideal.Read
public import Idealize.ShloMosaic.Lib.Pipeline.ValueKit
public import Idealize.ShloMosaic.Lib.Quiescent

/-! The optimiser's call on the array the small weights are packed in: what it writes is what the reference computes. -/

@[expose] public section
noncomputable section
open Idealize.ShloMosaic Idealize.ShloMosaic.TcCoe Idealize.SL.Sem
open Idealize.ShloMosaic.Pipeline (Dat)
open Cert.Mix (rd rd_of rd_ix2 hz)
open Cert.Adam (momOne momTwo change step step_eq ix_cases)

namespace Cert.Adam17

section
open Cert.Kernel17Ideal Cert.Kernel17Ideal.Gen

variable (m : (ℓ : Loc nD τ sig) → Buf (Elt Ideal) ℓ)

theorem inv_one : Named.named (F := Ideal) κ "inv_bc1" (φ := .f32) 0x3FC48605#32 = ((8388608 / 5463681 : ℝ) : EReal) :=
  IdealRules.named_const.ideal_named_scalar _ _ _ _ rfl

theorem inv_two : Named.named (F := Ideal) κ "inv_bc2" (φ := .f32) 0x42C8E6D3#32 = ((268435456 / 2672307 : ℝ) : EReal) :=
  IdealRules.named_const.ideal_named_scalar _ _ _ _ rfl

variable (w g p q : FVec Ideal S16x128 .f32) (i : S16x128.Idx)

/-- The new first moments of a block. -/
theorem pay1 : k0_pay1 (F := Ideal) g p i = momOne (g i) (p i) := by
  unfold momOne
  pointwise [k0_pay1]

/-- The new second moments of a block. -/
theorem pay2 : k0_pay2 (F := Ideal) g q i = momTwo (g i) (q i) := by
  unfold momTwo
  pointwise [k0_pay2]

/-- The changes of a block of weights. -/
theorem pay3 : k0_pay3 (F := Ideal) g p q w i = step (w i) (g i) (p i) (q i) := by
  rw [← step_eq]
  unfold change
  pointwise [k0_pay3]
  rw [pay1, pay2, inv_one, inv_two]

theorem out_4 : out0_4 (F := Ideal) w g p q = k0_pay3 (F := Ideal) g p q w := by
  unfold out0_4
  rw [View.canon_cons_unit_zero hz]
  simp only [View.ld_unit_zero (S := S16x128) hz]

theorem out_5 : out0_5 (F := Ideal) w g p q = k0_pay1 (F := Ideal) g p := by
  unfold out0_5
  rw [View.canon_cons_unit_zero hz]
  simp only [View.ld_unit_zero (S := S16x128) hz]

theorem out_6 : out0_6 (F := Ideal) w g p q = k0_pay2 (F := Ideal) g q := by
  unfold out0_6
  rw [View.canon_cons_unit_zero hz]
  simp only [View.ld_unit_zero (S := S16x128) hz]

/-- The arguments of the call. -/
def a0 (c : Dev nD) : ℕ → ℕ → EReal := rd (n0 := 688) (n1 := 128) (m ((c : Thread nD τ).loc main_arg0))
def a1 (c : Dev nD) : ℕ → ℕ → EReal := rd (n0 := 688) (n1 := 128) (m ((c : Thread nD τ).loc main_arg1))
def a2 (c : Dev nD) : ℕ → ℕ → EReal := rd (n0 := 688) (n1 := 128) (m ((c : Thread nD τ).loc main_arg2))
def a3 (c : Dev nD) : ℕ → ℕ → EReal := rd (n0 := 688) (n1 := 128) (m ((c : Thread nD τ).loc main_arg3))

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0])

/-- The arguments' blocks at a point, read in their arrays. -/
theorem block (c : Dev nD) (t : Fin cfg0.N) (j : Fin 16) (k : Fin 128) :
    (iblk m c 0 t : FVec Ideal S16x128 .f32) (ix2 j k) = a0 m c (16 * t.val + j.val) k.val
    ∧ (iblk m c 1 t : FVec Ideal S16x128 .f32) (ix2 j k) = a1 m c (16 * t.val + j.val) k.val
    ∧ (iblk m c 2 t : FVec Ideal S16x128 .f32) (ix2 j k) = a2 m c (16 * t.val + j.val) k.val
    ∧ (iblk m c 3 t : FVec Ideal S16x128 .f32) (ix2 j k) = a3 m c (16 * t.val + j.val) k.val := by
  have ht : t.val < 43 := lt_of_lt_of_eq t.isLt N_0
  have hj : j.val < 16 := j.isLt
  unfold a0 a1 a2 a3
  rw [← rd_of _ (by omega) k.isLt, ← rd_of _ (by omega) k.isLt, ← rd_of _ (by omega) k.isLt, ← rd_of _ (by omega) k.isLt]
  refine ⟨?_, ?_, ?_, ?_⟩ <;> (blk_simp [iblk]; refine congrArg (m _) (funext (Fin.forall_fin_two.mpr ⟨Fin.ext ?_, Fin.ext ?_⟩)))
  all_goals (try (blk_simp [(idx t).1, (idx t).2.1, (idx t).2.2.1, (idx t).2.2.2.1])) <;> (first | (show _ = 16 * t.val + j.val) | (show _ = k.val)) <;> (try dsimp only) <;> omega

/-- The changes of the weights: what the call leaves in the whole array. -/
theorem final4 (c : Dev nD) : (dats m 0 c).arrAt 4 cfg0.N = fun y : S688x128.Idx =>
    step (a0 m c (y 0).val (y 1).val) (a1 m c (y 0).val (y 1).val) (a2 m c (y 0).val (y 1).val) (a3 m c (y 0).val (y 1).val) := by
  refine (dats m 0 c).arrAt_eq_of_covers 4 _ (by decide +kernel) fun t hf y => ?_
  blk_simp [(idx t).2.2.2.2.1]
  rw [after0_4, out_4]
  obtain ⟨j, k, rfl⟩ := ix_cases (n0 := 16) (n1 := 128) y
  rw [pay3, (block m c t j k).1, (block m c t j k).2.1, (block m c t j k).2.2.1, (block m c t j k).2.2.2, Nat.mul_comm]
  rfl

/-- The new first moments: what the call leaves in the whole array. -/
theorem final5 (c : Dev nD) : (dats m 0 c).arrAt 5 cfg0.N = fun y : S688x128.Idx =>
    momOne (a1 m c (y 0).val (y 1).val) (a2 m c (y 0).val (y 1).val) := by
  refine (dats m 0 c).arrAt_eq_of_covers 5 _ (by decide +kernel) fun t hf y => ?_
  blk_simp [(idx t).2.2.2.2.2.1]
  rw [after0_5, out_5]
  obtain ⟨j, k, rfl⟩ := ix_cases (n0 := 16) (n1 := 128) y
  rw [pay1, (block m c t j k).2.1, (block m c t j k).2.2.1, Nat.mul_comm]
  rfl

/-- The new second moments: what the call leaves in the whole array. -/
theorem final6 (c : Dev nD) : (dats m 0 c).arrAt 6 cfg0.N = fun y : S688x128.Idx =>
    momTwo (a1 m c (y 0).val (y 1).val) (a3 m c (y 0).val (y 1).val) := by
  refine (dats m 0 c).arrAt_eq_of_covers 6 _ (by decide +kernel) fun t hf y => ?_
  blk_simp [(idx t).2.2.2.2.2.2]
  rw [after0_6, out_6]
  obtain ⟨j, k, rfl⟩ := ix_cases (n0 := 16) (n1 := 128) y
  rw [pay2, (block m c t j k).2.1, (block m c t j k).2.2.2, Nat.mul_comm]
  rfl

end

section
open Cert.Reference17Ideal Cert.Reference17Ideal.Gen Cert.Reference17Ideal.Read

variable (x0 x1 x2 x3 : (⟨S688x128, .f32⟩ : BufTy).Contents (Elt Ideal)) (i : S688x128.Idx)

/-- The new first moments, as the reference computes them. -/
theorem ref_one : val_main_v4 (F := Ideal) x1 x2 i = momOne (x1 i) (x2 i) := by
  rw [val_main_v4_apply, val_main_v1_apply, val_main_v3_apply, val_main_v0_apply, val_main_v2_apply]
  rfl

/-- The new second moments, as the reference computes them. -/
theorem ref_two : val_main_v10 (F := Ideal) x1 x3 i = momTwo (x1 i) (x3 i) := by
  rw [val_main_v10_apply, val_main_v6_apply, val_main_v9_apply, val_main_v5_apply, val_main_v7_apply, val_main_v8_apply]
  rfl

/-- The changes of the weights, as the reference computes them. -/
theorem ref_step : val_main_v23 (F := Ideal) x0 x1 x2 x3 i = step (x0 i) (x1 i) (x2 i) (x3 i) := by
  rw [val_main_v23_apply, val_main_v21_apply, val_main_v18_apply, val_main_v20_apply, val_main_v12_apply, val_main_v17_apply,
    val_main_v15_apply, val_main_v14_apply, ref_one, ref_two]
  rfl

end

/-- The reference runs, keeps its arguments and leaves no semaphore counted. -/
theorem quiescent_reference17 : quiescent_Reference17Ideal (hReference17Ideal := Cert.Reference17Ideal.Gen.facts) :=
  fun m ρ _ => (θ_run Cert.Reference17Ideal.defs _ _).mono
    (fun r h => ⟨fun c => (h c).2.2.2, Idealize.ShloMosaic.sem_eq_zero_of_no_sems (by decide) r.2⟩)
    (Cert.Reference17Ideal.Value.run (F := Ideal) m ρ)

/-- The two named constants are the reciprocals of the bias corrections. -/
theorem preserves17 : preserves_Kernel17_Kernel17Ideal :=
  ⟨IdealRules.named_const.statement Cert.Kernel17Ideal.κ "inv_bc1" .f32 0x3FC48605#32 ((8388608 / 5463681 : ℝ) : EReal) rfl,
    IdealRules.named_const.statement Cert.Kernel17Ideal.κ "inv_bc2" .f32 0x42C8E6D3#32 ((268435456 / 2672307 : ℝ) : EReal) rfl⟩

/-- The call and the reference give the same changes and the same moments. -/
theorem algebraic17 : algebraic_Kernel17Ideal_Reference17Ideal (hKernel17Ideal := Cert.Kernel17Ideal.Gen.facts)
    (hReference17Ideal := Cert.Reference17Ideal.Gen.facts) := by
  intro m g m' g' _ hargs
  refine ⟨_, _, _, Cert.Kernel17Ideal.Value.run_blocks m g, ?_⟩
  refine (θ_run Cert.Reference17Ideal.defs _ _).mono (fun r h c => ?_) (Cert.Reference17Ideal.Value.run (F := Ideal) m' g')
  obtain ⟨a0, a1, a2, a3⟩ := hargs c
  refine ⟨(h c).1.trans ?_, (h c).2.1.trans ?_, (h c).2.2.1.trans ?_, (h c).2.2.2⟩
  · rw [Cert.Reference17Ideal.Read.val_main_v23_eq, a0, a1, a2, a3]
    refine Eq.trans (funext fun y => ?_) (final4 m c).symm
    obtain ⟨i, j, rfl⟩ := ix_cases (n0 := 688) (n1 := 128) y
    rw [ref_step]
    simp only [rd_ix2]
    rfl
  · rw [Cert.Reference17Ideal.Read.val_main_v4_eq, a1, a2]
    refine Eq.trans (funext fun y => ?_) (final5 m c).symm
    obtain ⟨i, j, rfl⟩ := ix_cases (n0 := 688) (n1 := 128) y
    rw [ref_one]
    simp only [rd_ix2]
    rfl
  · rw [Cert.Reference17Ideal.Read.val_main_v10_eq, a1, a3]
    refine Eq.trans (funext fun y => ?_) (final6 m c).symm
    obtain ⟨i, j, rfl⟩ := ix_cases (n0 := 688) (n1 := 128) y
    rw [ref_two]
    simp only [rd_ix2]
    rfl

end Cert.Adam17

end
-- ==== Proof.LossPay.lean ====
module

public import proofs.«01_k».proof.Proof.NormBase
public import proofs.«01_k».proof.Proof.Gen.Kernel9Ideal.Skeleton

/-! The loss head after the last product: the error of the normed rows against the target, its squares and its gradients; what each store of the call writes, entry by entry. -/

@[expose] public section
noncomputable section
open Idealize.ShloMosaic Idealize.ShloMosaic.TcCoe Idealize.SL.Sem
open Cert.Mix (rd rd_of rd_ix2)
open Cert.Ffn (nn nt tn)
open Cert.Rows (meanSq)
open Cert.Norm (scale unitRow back gainBlock unitRow_congr)

namespace Cert.Loss

/-- The residual stream after the product: what was there plus the product. -/
def stream (a h : ℕ → ℕ → EReal) (r c : ℕ) : EReal := h r c + a r c

/-- The normed rows less the target. -/
def err (x t g : ℕ → ℕ → EReal) (r c : ℕ) : EReal := unitRow x r c * g 0 c - t r c

/-- The gradient of the loss at the normed rows: the error over the width. -/
def dy (x t g : ℕ → ℕ → EReal) (r c : ℕ) : EReal := err x t g r c * Ideal.ofBits .f32 0x3A000000#32

/-- The squared errors of a block of rows, summed over the rows. -/
def sqBlock (W : ℕ) (x t g : ℕ → ℕ → EReal) (c : ℕ) : EReal := ∑ r : Fin W, err x t g r c * err x t g r c

/-- The squared errors of the rows up to `n`. -/
def sqArr (n : ℕ) (x t g : ℕ → ℕ → EReal) (c : ℕ) : EReal := ∑ r ∈ Finset.range n, err x t g r c * err x t g r c

/-- Half of one over the width, as the call writes it. -/
def half : EReal := Ideal.ofBits .f32 0x39800000#32

theorem err_congr {x x' t t' g g' : ℕ → ℕ → EReal} {r r' c : ℕ} (hc : c < 2048) (ex : ∀ k, k < 2048 → x r k = x' r' k)
    (et : ∀ k, k < 2048 → t r k = t' r' k) (eg : ∀ k, k < 2048 → g 0 k = g' 0 k) : err x t g r c = err x' t' g' r' c := by
  unfold err
  rw [unitRow_congr hc ex, et c hc, eg c hc]

theorem dy_congr {x x' t t' g g' : ℕ → ℕ → EReal} {r r' c : ℕ} (hc : c < 2048) (ex : ∀ k, k < 2048 → x r k = x' r' k)
    (et : ∀ k, k < 2048 → t r k = t' r' k) (eg : ∀ k, k < 2048 → g 0 k = g' 0 k) : dy x t g r c = dy x' t' g' r' c := by
  unfold dy
  rw [err_congr hc ex et eg]

/-- It is a real number. -/
theorem half_eq : half = ((1 / 4096 : ℝ) : EReal) := by
  unfold half
  simp [Ideal.ofBits, Ideal.ieee]
  rw [← EReal.coe_mul]
  norm_num

/-- It multiplies a sum term by term. -/
theorem half_distrib (a b : EReal) : half * (a + b) = half * a + half * b := by
  rw [half_eq]
  exact EReal.left_distrib_of_nonneg_of_ne_top (EReal.coe_nonneg.mpr (by norm_num)) (EReal.coe_ne_top _) a b

open Cert.Kernel9Ideal Cert.Kernel9Ideal.Gen

/-- The product of a block. -/
theorem pay5 (a : FVec Ideal S256x5632 .bf16) (b : FVec Ideal S5632x2048 .bf16) (r : Fin 256) (c : Fin 2048) :
    k0_pay5 (F := Ideal) a b (ix2 r c) = nn 5632 (rd a) (rd b) r c := by
  unfold nn
  pointwise [k0_pay5]
  simp only [rd_ix2]

/-- The residual stream of a chunk of rows. -/
theorem pay6 (a h : FVec Ideal S128x2048 .f32) (r : Fin 128) (c : Fin 2048) : k0_pay6 (F := Ideal) a h (ix2 r c) = stream (rd a) (rd h) r c := by
  unfold stream
  pointwise [k0_pay6]
  simp only [rd_ix2]
theorem pay17 (a h : FVec Ideal S128x2048 .f32) (r : Fin 128) (c : Fin 2048) : k0_pay17 (F := Ideal) a h (ix2 r c) = stream (rd a) (rd h) r c := by
  unfold stream
  pointwise [k0_pay17]
  simp only [rd_ix2]

/-- One over the root of its mean square. -/
theorem pay7 (a h : FVec Ideal S128x2048 .f32) (r : Fin 128) (c : Fin 1) : k0_pay7 (F := Ideal) a h (ix2 r c) = scale (stream (rd a) (rd h)) r := by
  unfold scale meanSq
  pointwise [k0_pay7, pay6]
theorem pay19 (a h : FVec Ideal S128x2048 .f32) (r : Fin 128) (c : Fin 1) : k0_pay19 (F := Ideal) (k0_pay18 a h) (ix2 r c) = scale (stream (rd a) (rd h)) r := by
  unfold scale meanSq
  pointwise [k0_pay19, k0_pay18, pay17]

/-- The rows over the root of their mean square. -/
theorem pay8 (a h : FVec Ideal S128x2048 .f32) (r : Fin 128) (c : Fin 2048) : k0_pay8 (F := Ideal) a h (ix2 r c) = unitRow (stream (rd a) (rd h)) r c := by
  unfold unitRow
  pointwise [k0_pay8, pay6, pay7]
theorem pay20 (a h : FVec Ideal S128x2048 .f32) (r : Fin 128) (c : Fin 2048) : k0_pay20 (F := Ideal) (k0_pay17 a h) (k0_pay18 a h) (ix2 r c) = unitRow (stream (rd a) (rd h)) r c := by
  unfold unitRow
  pointwise [k0_pay20, pay17, pay19]

/-- The error. -/
theorem pay9 (a h t : FVec Ideal S128x2048 .f32) (g : FVec Ideal S1x2048 .f32) (r : Fin 128) (c : Fin 2048) : k0_pay9 (F := Ideal) a h g t (ix2 r c) = err (stream (rd a) (rd h)) (rd t) (rd g) r c := by
  unfold err
  pointwise [k0_pay9, pay8]
  simp only [rd_ix2]
  rfl
theorem pay21 (a h t : FVec Ideal S128x2048 .f32) (g : FVec Ideal S1x2048 .f32) (r : Fin 128) (c : Fin 2048) : k0_pay21 (F := Ideal) (k0_pay17 a h) g (k0_pay18 a h) t (ix2 r c) = err (stream (rd a) (rd h)) (rd t) (rd g) r c := by
  unfold err
  pointwise [k0_pay21, pay20]
  simp only [rd_ix2]
  rfl

/-- The loss so far plus that of a chunk of rows, column by column. -/
theorem pay12 (a h t : FVec Ideal S128x2048 .f32) (g s : FVec Ideal S1x2048 .f32) (j : Fin 1) (c : Fin 2048) :
    k0_pay12 (F := Ideal) (k0_pay10 s) (k0_pay11 a h g t) (ix2 j c) = rd s j c + half * sqBlock 128 (stream (rd a) (rd h)) (rd t) (rd g) c := by
  obtain rfl : j = 0 := Subsingleton.elim _ _
  unfold sqBlock half
  pointwise [k0_pay12, k0_pay10, k0_pay11, pay9]
  simp only [rd_ix2]
  rfl
theorem pay22 (a h t : FVec Ideal S128x2048 .f32) (g s : FVec Ideal S1x2048 .f32) (j : Fin 1) (c : Fin 2048) :
    k0_pay22 (F := Ideal) (k0_pay17 a h) g (k0_pay18 a h) t s (ix2 j c) = rd s j c + half * sqBlock 128 (stream (rd a) (rd h)) (rd t) (rd g) c := by
  obtain rfl : j = 0 := Subsingleton.elim _ _
  unfold sqBlock half
  pointwise [k0_pay22, pay21]
  simp only [rd_ix2]
  rfl

/-- The gradient at the normed rows. -/
theorem pay13 (a h t : FVec Ideal S128x2048 .f32) (g : FVec Ideal S1x2048 .f32) (r : Fin 128) (c : Fin 2048) : k0_pay13 (F := Ideal) (k0_pay9 a h g t) (ix2 r c) = dy (stream (rd a) (rd h)) (rd t) (rd g) r c := by
  unfold dy
  pointwise [k0_pay13, pay9]
theorem pay23 (a h t : FVec Ideal S128x2048 .f32) (g : FVec Ideal S1x2048 .f32) (r : Fin 128) (c : Fin 2048) : k0_pay23 (F := Ideal) (k0_pay17 a h) g (k0_pay18 a h) t (ix2 r c) = dy (stream (rd a) (rd h)) (rd t) (rd g) r c := by
  unfold dy
  pointwise [k0_pay23, pay21]

/-- The gain's gradient so far plus that of a chunk of rows. -/
theorem pay14 (a h t : FVec Ideal S128x2048 .f32) (g s : FVec Ideal S1x2048 .f32) (j : Fin 1) (c : Fin 2048) :
    k0_pay14 (F := Ideal) (k0_pay8 a h) (k0_pay9 a h g t) s (ix2 j c) = rd s j c + gainBlock 128 (dy (stream (rd a) (rd h)) (rd t) (rd g)) (stream (rd a) (rd h)) c := by
  obtain rfl : j = 0 := Subsingleton.elim _ _
  unfold gainBlock
  pointwise [k0_pay14, pay13, pay8]
  simp only [rd_ix2]
  rfl
theorem pay24 (a h t : FVec Ideal S128x2048 .f32) (g s : FVec Ideal S1x2048 .f32) (j : Fin 1) (c : Fin 2048) :
    k0_pay24 (F := Ideal) (k0_pay17 a h) g (k0_pay18 a h) t s (ix2 j c) = rd s j c + gainBlock 128 (dy (stream (rd a) (rd h)) (rd t) (rd g)) (stream (rd a) (rd h)) c := by
  obtain rfl : j = 0 := Subsingleton.elim _ _
  unfold gainBlock
  pointwise [k0_pay24, pay23, pay20]
  simp only [rd_ix2]
  rfl

/-- The gradient at a chunk of rows. -/
theorem pay15 (a h t : FVec Ideal S128x2048 .f32) (g : FVec Ideal S1x2048 .f32) (r : Fin 128) (c : Fin 2048) :
    k0_pay15 (F := Ideal) g (k0_pay7 a h) (k0_pay8 a h) (k0_pay9 a h g t) (ix2 r c)
      = back (dy (stream (rd a) (rd h)) (rd t) (rd g)) (stream (rd a) (rd h)) (fun _ _ => 0) (rd g) r c := by
  unfold back
  rw [zero_add]
  pointwise [k0_pay15, pay7, pay8, pay13]
  simp only [rd_ix2]
  rfl
theorem pay1 (a h t : FVec Ideal S128x2048 .f32) (g : FVec Ideal S1x2048 .f32) (r : Fin 128) (c : Fin 2048) :
    k0_pay1 (F := Ideal) (k0_pay19 (k0_pay18 a h)) (k0_pay20 (k0_pay17 a h) (k0_pay18 a h)) (k0_pay25 (k0_pay17 a h) g (k0_pay18 a h) t) (k0_pay26 (k0_pay17 a h) g (k0_pay18 a h) t) (ix2 r c)
      = back (dy (stream (rd a) (rd h)) (rd t) (rd g)) (stream (rd a) (rd h)) (fun _ _ => 0) (rd g) r c := by
  unfold back
  rw [zero_add]
  pointwise [k0_pay1, k0_pay25, k0_pay26, pay19, pay20, pay23]
  simp only [rd_ix2]
  rfl
theorem pay16 (a h t : FVec Ideal S128x2048 .f32) (g : FVec Ideal S1x2048 .f32) (r : Fin 128) (c : Fin 2048) :
    k0_pay16 (F := Ideal) g (k0_pay7 a h) (k0_pay8 a h) (k0_pay9 a h g t) (ix2 r c)
      = back (dy (stream (rd a) (rd h)) (rd t) (rd g)) (stream (rd a) (rd h)) (fun _ _ => 0) (rd g) r c := pay15 a h t g r c
theorem pay2 (a h t : FVec Ideal S128x2048 .f32) (g : FVec Ideal S1x2048 .f32) (r : Fin 128) (c : Fin 2048) :
    k0_pay2 (F := Ideal) (k0_pay19 (k0_pay18 a h)) (k0_pay20 (k0_pay17 a h) (k0_pay18 a h)) (k0_pay25 (k0_pay17 a h) g (k0_pay18 a h) t) (k0_pay26 (k0_pay17 a h) g (k0_pay18 a h) t) (ix2 r c)
      = back (dy (stream (rd a) (rd h)) (rd t) (rd g)) (stream (rd a) (rd h)) (fun _ _ => 0) (rd g) r c := pay1 a h t g r c

/-- Both sums start from nothing. -/
theorem pay3 (j : Fin 1) (c : Fin 2048) : k0_pay3 (F := Ideal) (ix2 j c) = 0 := by
  pointwise [k0_pay3]
theorem pay4 (j : Fin 1) (c : Fin 2048) : k0_pay4 (F := Ideal) (ix2 j c) = 0 := by
  pointwise [k0_pay4]

end Cert.Loss

end
-- ==== Proof.LossBlock.lean ====
module

public import proofs.«01_k».proof.Proof.LossPay
public import proofs.«01_k».proof.Proof.MixBlock
public import proofs.«01_k».proof.Proof.Gen.Kernel9Ideal.Frame

/-! What one step of the last product's call with the loss head stores. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)
open Cert.Rows (ld_rows32)
open Cert.Norm (scale unitRow back gainBlock unitRow_congr back_congr gainBlock_two gainBlock_same)

namespace Cert.Loss
open Cert.Kernel9Ideal Cert.Kernel9Ideal.Gen

/-- The residual stream of a 256-row block. -/
def rows (x0 : FVec Ideal S256x5632 .bf16) (x1 : FVec Ideal S5632x2048 .bf16) (x2 : FVec Ideal S256x2048 .f32) : ℕ → ℕ → EReal :=
  stream (nn 5632 (rd x0) (rd x1)) (rd x2)

/-- The rows of a block are its two chunks. -/
theorem sqBlock_two (x t g : ℕ → ℕ → EReal) (c : ℕ) :
    half * sqBlock 256 x t g c = half * sqBlock 128 (fun r => x (0 + r)) (fun r => t (0 + r)) g c + half * sqBlock 128 (fun r => x (128 + r)) (fun r => t (128 + r)) g c := by
  have e : sqBlock 256 x t g c = sqBlock 128 (fun r => x (0 + r)) (fun r => t (0 + r)) g c + sqBlock 128 (fun r => x (128 + r)) (fun r => t (128 + r)) g c := by
    refine (Fin.sum_univ_add (a := 128) (b := 128) fun r : Fin (128 + 128) => err x t g r c * err x t g r c).trans ?_
    simp only [Nat.zero_add]
    rfl
  rw [e, half_distrib]

/-- The residual stream of a chunk is that chunk of the block's. -/
theorem chunk_rows (o : ℕ) (x0 : FVec Ideal S256x5632 .bf16) (x1 : FVec Ideal S5632x2048 .bf16) (x2 : FVec Ideal S256x2048 .f32)
    (inb inb' : ∀ a, (![o, 0] : Fin 2 → ℕ) a + S128x2048.size a ≤ S256x2048.size a) {r c : ℕ} (hr : r < 128) (hc : c < 2048) :
    stream (rd (n0 := 128) (n1 := 2048) (View.ld (Val := Elt Ideal) (e' := .f32) (k0_pay5 (F := Ideal) x0 x1) (Rect.unit (s := S256x2048) ![o, 0] S128x2048.size inb))) (rd (n0 := 128) (n1 := 2048) (View.ld (Val := Elt Ideal) (e' := .f32) x2 (Rect.unit (s := S256x2048) ![o, 0] S128x2048.size inb'))) r c = rows x0 x1 x2 (o + r) c := by
  have hn : o + 128 ≤ 256 := inb 0
  unfold rows stream
  rw [ld_rows32 o x2 inb' hr hc, ld_rows32 o (k0_pay5 (F := Ideal) x0 x1) inb hr hc, ← rd_of (k0_pay5 (F := Ideal) x0 x1) (by omega : o + r < 256) hc, pay5]

/-- The gradient at a chunk of rows is that chunk of the gradient at the block. -/
theorem chunk_back (o : ℕ) (x0 : FVec Ideal S256x5632 .bf16) (x1 : FVec Ideal S5632x2048 .bf16) (x2 x3 : FVec Ideal S256x2048 .f32) (x4 : FVec Ideal S1x2048 .f32)
    (inb inb' inb'' : ∀ a, (![o, 0] : Fin 2 → ℕ) a + S128x2048.size a ≤ S256x2048.size a) {r c : ℕ} (hr : r < 128) (hc : c < 2048) :
    back (dy (stream (rd (n0 := 128) (n1 := 2048) (View.ld (Val := Elt Ideal) (e' := .f32) (k0_pay5 (F := Ideal) x0 x1) (Rect.unit (s := S256x2048) ![o, 0] S128x2048.size inb))) (rd (n0 := 128) (n1 := 2048) (View.ld (Val := Elt Ideal) (e' := .f32) x2 (Rect.unit (s := S256x2048) ![o, 0] S128x2048.size inb')))) (rd (n0 := 128) (n1 := 2048) (View.ld (Val := Elt Ideal) (e' := .f32) x3 (Rect.unit (s := S256x2048) ![o, 0] S128x2048.size inb''))) (rd x4)) (stream (rd (n0 := 128) (n1 := 2048) (View.ld (Val := Elt Ideal) (e' := .f32) (k0_pay5 (F := Ideal) x0 x1) (Rect.unit (s := S256x2048) ![o, 0] S128x2048.size inb))) (rd (n0 := 128) (n1 := 2048) (View.ld (Val := Elt Ideal) (e' := .f32) x2 (Rect.unit (s := S256x2048) ![o, 0] S128x2048.size inb')))) (fun _ _ => 0) (rd x4) r c
      = back (dy (rows x0 x1 x2) (rd x3) (rd x4)) (rows x0 x1 x2) (fun _ _ => 0) (rd x4) (o + r) c :=
  back_congr hc (fun k hk => dy_congr hk (fun q hq => chunk_rows o x0 x1 x2 inb inb' hr hq) (fun q hq => ld_rows32 o x3 inb'' hr hq) fun _ _ => rfl)
    (fun k hk => chunk_rows o x0 x1 x2 inb inb' hr hk) rfl fun _ _ => rfl

/-- The gain's gradient from a chunk of rows. -/
theorem chunk_gain (o : ℕ) (x0 : FVec Ideal S256x5632 .bf16) (x1 : FVec Ideal S5632x2048 .bf16) (x2 x3 : FVec Ideal S256x2048 .f32) (x4 : FVec Ideal S1x2048 .f32)
    (inb inb' inb'' : ∀ a, (![o, 0] : Fin 2 → ℕ) a + S128x2048.size a ≤ S256x2048.size a) {c : ℕ} (hc : c < 2048) :
    gainBlock 128 (dy (stream (rd (n0 := 128) (n1 := 2048) (View.ld (Val := Elt Ideal) (e' := .f32) (k0_pay5 (F := Ideal) x0 x1) (Rect.unit (s := S256x2048) ![o, 0] S128x2048.size inb))) (rd (n0 := 128) (n1 := 2048) (View.ld (Val := Elt Ideal) (e' := .f32) x2 (Rect.unit (s := S256x2048) ![o, 0] S128x2048.size inb')))) (rd (n0 := 128) (n1 := 2048) (View.ld (Val := Elt Ideal) (e' := .f32) x3 (Rect.unit (s := S256x2048) ![o, 0] S128x2048.size inb''))) (rd x4)) (stream (rd (n0 := 128) (n1 := 2048) (View.ld (Val := Elt Ideal) (e' := .f32) (k0_pay5 (F := Ideal) x0 x1) (Rect.unit (s := S256x2048) ![o, 0] S128x2048.size inb))) (rd (n0 := 128) (n1 := 2048) (View.ld (Val := Elt Ideal) (e' := .f32) x2 (Rect.unit (s := S256x2048) ![o, 0] S128x2048.size inb')))) c
      = gainBlock 128 (fun r => dy (rows x0 x1 x2) (rd x3) (rd x4) (o + r)) (fun r => rows x0 x1 x2 (o + r)) c :=
  gainBlock_same hc (fun r hr => dy_congr hc (fun q hq => chunk_rows o x0 x1 x2 inb inb' hr hq) (fun q hq => ld_rows32 o x3 inb'' hr hq) fun _ _ => rfl)
    fun r hr k hk => chunk_rows o x0 x1 x2 inb inb' hr hk

/-- The squared errors of a chunk of rows. -/
theorem chunk_sq (o : ℕ) (x0 : FVec Ideal S256x5632 .bf16) (x1 : FVec Ideal S5632x2048 .bf16) (x2 x3 : FVec Ideal S256x2048 .f32) (x4 : FVec Ideal S1x2048 .f32)
    (inb inb' inb'' : ∀ a, (![o, 0] : Fin 2 → ℕ) a + S128x2048.size a ≤ S256x2048.size a) {c : ℕ} (hc : c < 2048) :
    sqBlock 128 (stream (rd (n0 := 128) (n1 := 2048) (View.ld (Val := Elt Ideal) (e' := .f32) (k0_pay5 (F := Ideal) x0 x1) (Rect.unit (s := S256x2048) ![o, 0] S128x2048.size inb))) (rd (n0 := 128) (n1 := 2048) (View.ld (Val := Elt Ideal) (e' := .f32) x2 (Rect.unit (s := S256x2048) ![o, 0] S128x2048.size inb')))) (rd (n0 := 128) (n1 := 2048) (View.ld (Val := Elt Ideal) (e' := .f32) x3 (Rect.unit (s := S256x2048) ![o, 0] S128x2048.size inb''))) (rd x4) c
      = sqBlock 128 (fun r => rows x0 x1 x2 (o + r)) (fun r => rd x3 (o + r)) (rd x4) c :=
  Finset.sum_congr rfl fun r _ => by
    have e : err (stream (rd (n0 := 128) (n1 := 2048) (View.ld (Val := Elt Ideal) (e' := .f32) (k0_pay5 (F := Ideal) x0 x1) (Rect.unit (s := S256x2048) ![o, 0] S128x2048.size inb))) (rd (n0 := 128) (n1 := 2048) (View.ld (Val := Elt Ideal) (e' := .f32) x2 (Rect.unit (s := S256x2048) ![o, 0] S128x2048.size inb')))) (rd (n0 := 128) (n1 := 2048) (View.ld (Val := Elt Ideal) (e' := .f32) x3 (Rect.unit (s := S256x2048) ![o, 0] S128x2048.size inb''))) (rd x4) r c = err (fun r => rows x0 x1 x2 (o + r)) (fun r => rd x3 (o + r)) (rd x4) r c :=
      err_congr hc (fun q hq => chunk_rows o x0 x1 x2 inb inb' r.isLt hq) (fun q hq => ld_rows32 o x3 inb'' r.isLt hq) fun _ _ => rfl
    rw [e]

/-- Both sums start from nothing. -/
theorem zero7 (a : Fin 1) (b : Fin 2048) : rd (n0 := 1) (n1 := 2048) (k0_pay3 (F := Ideal)) a b = 0 := (rd_ix2 _ a b).symm.trans (pay3 a b)
theorem zero8 (a : Fin 1) (b : Fin 2048) : rd (n0 := 1) (n1 := 2048) (k0_pay4 (F := Ideal)) a b = 0 := (rd_ix2 _ a b).symm.trans (pay4 a b)

/-- What the first step stores of the gradient at the rows. -/
theorem out5_A (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : cond0_0 i) (x0 : FVec Ideal S256x5632 .bf16) (x1 : FVec Ideal S5632x2048 .bf16) (x2 x3 : FVec Ideal S256x2048 .f32) (x4 : FVec Ideal S1x2048 .f32) :
    out0_A_5 (F := Ideal) c i a2 h2 a3 h3 a4 h4 a5 h5 a6 h6 a7 h7 a8 h8 a9 h9 a10 h10 a11 h11 hc x0 x1 x2 x3 x4 = fun y => back (dy (rows x0 x1 x2) (rd x3) (rd x4)) (rows x0 x1 x2) (fun _ _ => 0) (rd x4) (y 0).val (y 1).val := by
  unfold out0_A_5
  rw [View.read_writes_eq_canon _ _ _ (cover0_A_5 (F := Ideal) c i a2 h2 a3 h3 a4 h4 a5 h5 a6 h6 a7 h7 a8 h8 a9 h9 a10 h10 a11 h11 hc x0 x1 x2 x3 x4)]
  funext y
  suffices hp : View.PiecesOf (Val := Elt Ideal) (e := .f32) (fun y : S256x2048.Idx => back (dy (rows x0 x1 x2) (rd x3) (rd x4)) (rows x0 x1 x2) (fun _ _ => 0) (rd x4) (y 0).val (y 1).val) _ from
    View.canon_apply_of_pieces (fun y : S256x2048.Idx => back (dy (rows x0 x1 x2) (rd x3) (rd x4)) (rows x0 x1 x2) (fun _ _ => 0) (rd x4) (y 0).val (y 1).val) _ hp.mem y (cover0_A_5 (F := Ideal) c i a2 h2 a3 h3 a4 h4 a5 h5 a6 h6 a7 h7 a8 h8 a9 h9 a10 h10 a11 h11 hc x0 x1 x2 x3 x4 y)
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay1 _ _ _ _ a b).trans ?_
    show _ = back (dy (rows x0 x1 x2) (rd x3) (rd x4)) (rows x0 x1 x2) (fun _ _ => 0) (rd x4) (128 + 1 * a.val) (0 + 1 * b.val)
    rw [Nat.one_mul, Nat.one_mul, Nat.zero_add b.val]
    exact chunk_back 128 x0 x1 x2 x3 x4 _ _ _ a.isLt b.isLt
  · obtain ⟨a, b, rfl⟩ : ∃ (a : Fin 128) (b : Fin 2048), x = ix2 a b := ⟨x 0, x 1, eq_ix2 x⟩
    refine (pay15 _ _ _ _ a b).trans ?_
    show _ = back (dy (rows x0 x1 x2) (rd x3) (rd x4)) (rows x0 x1 x2) (fun _ _ => 0) (rd x4) (0 + 1 * a.val) (0 + 1 * b.val)
    rw [Nat.one_mul, Nat.one_mul, Nat.zero_add b.val]
    exact chunk_back 0 x0 x1 x2 x3 x4 _ _ _ a.isLt b.isLt

/-- What the first step stores of the gradient at the rows (the half-precision copy). -/
theorem out6_A (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : cond0_0 i) (x0 : FVec Ideal S256x5632 .bf16) (x1 : FVec Ideal S5632x2048 .bf16) (x2 x3 : FVec Ideal S256x2048 .f32) (x4 : FVec Ideal S1x2048 .f32) :
    out0_A_6 (F := Ideal) c i a2 h2 a3 h3 a4 h4 a5 h5 a6 h6 a7 h7 a8 h8 a9 h9 a10 h10 a11 h11 hc x0 x1 x2 x3 x4 = fun y => back (dy (rows x0 x1 x2) (rd x3) (rd x4)) (rows x0 x1 x2) (fun _ _ => 0) (rd x4) (y 0).val (y 1).val := by
  unfold out0_A_6
  rw [View.read_writes_eq_canon _ _ _ (cover0_A_6 (F := Ideal) c i a2 h2 a3 h3 a4 h4 a5 h5 a6 h6 a7 h7 a8 h8 a9 h9 a10 h10 a11 h11 hc x0 x1 x2 x3 x4)]
  funext y
  suffices hp : View.PiecesOf (Val := Elt Ideal) (e := .bf16) (fun y : S256x2048.Idx => back (dy (rows x0 x1 x2) (rd x3) (rd x4)) (rows x0 x1 x2) (fun _ _ => 0) (rd x4) (y 0).val (y 1).val) _ from
    View.canon_apply_of_pieces (fun y : S256x2048.Idx => back (dy (rows x0 x1 x2) (rd x3) (rd x4)) (rows x0 x1 x2) (fun _ _ => 0) (rd x4) (y 0).val (y 1).val) _ hp.mem y (cover0_A_6 (F := Ideal) c i a2 h2 a3 h3 a4 h4 a5 h5 a6 h6 a7 h7 a8 h8 a9 h9 a10 h10 a11 h11 hc x0 x1 x2 x3 x4 y)
  unfold kernelRun0_A
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay2 _ _ _ _ a b).trans ?_
    show _ = back (dy (rows x0 x1 x2) (rd x3) (rd x4)) (rows x0 x1 x2) (fun _ _ => 0) (rd x4) (128 + 1 * a.val) (0 + 1 * b.val)
    rw [Nat.one_mul, Nat.one_mul, Nat.zero_add b.val]
    exact chunk_back 128 x0 x1 x2 x3 x4 _ _ _ a.isLt b.isLt
  · obtain ⟨a, b, rfl⟩ : ∃ (a : Fin 128) (b : Fin 2048), x = ix2 a b := ⟨x 0, x 1, eq_ix2 x⟩
    refine (pay16 _ _ _ _ a b).trans ?_
    show _ = back (dy (rows x0 x1 x2) (rd x3) (rd x4)) (rows x0 x1 x2) (fun _ _ => 0) (rd x4) (0 + 1 * a.val) (0 + 1 * b.val)
    rw [Nat.one_mul, Nat.one_mul, Nat.zero_add b.val]
    exact chunk_back 0 x0 x1 x2 x3 x4 _ _ _ a.isLt b.isLt

/-- What the first step leaves of the loss, column by column. -/
theorem loss_A (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : cond0_0 i) (x0 : FVec Ideal S256x5632 .bf16) (x1 : FVec Ideal S5632x2048 .bf16) (x2 x3 : FVec Ideal S256x2048 .f32) (x4 : FVec Ideal S1x2048 .f32) :
    out0_A_7 (F := Ideal) c i a2 h2 a3 h3 a4 h4 a5 h5 a6 h6 a7 h7 a8 h8 a9 h9 a10 h10 a11 h11 hc x0 x1 x2 x3 x4 = fun y => 0 + half * sqBlock 256 (rows x0 x1 x2) (rd x3) (rd x4) (y 1).val := by
  unfold out0_A_7
  rw [View.read_writes_eq_canon _ _ _ (cover0_A_7 (F := Ideal) c i a2 h2 a3 h3 a4 h4 a5 h5 a6 h6 a7 h7 a8 h8 a9 h9 a10 h10 a11 h11 hc x0 x1 x2 x3 x4)]
  funext y
  unfold kernelRun0_A
  dsimp only
  sl_unfold_words
  rw [View.canon_cons_unit_zero hz]
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay22 _ _ _ _ _ a b).trans ?_
  refine (congrArg₂ (· + ·) ((rd_ix2 _ a b).symm.trans (pay12 _ _ _ _ _ a b)) rfl).trans ?_
  rw [sqBlock_two, chunk_sq 0 x0 x1 x2 x3 x4 _ _ _ b.isLt, chunk_sq 128 x0 x1 x2 x3 x4 _ _ _ b.isLt]
  rw [zero7, add_assoc]
  rfl

/-- What the first step leaves of the gain's gradient. -/
theorem sums_A (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : cond0_0 i) (x0 : FVec Ideal S256x5632 .bf16) (x1 : FVec Ideal S5632x2048 .bf16) (x2 x3 : FVec Ideal S256x2048 .f32) (x4 : FVec Ideal S1x2048 .f32) :
    out0_A_8 (F := Ideal) c i a2 h2 a3 h3 a4 h4 a5 h5 a6 h6 a7 h7 a8 h8 a9 h9 a10 h10 a11 h11 hc x0 x1 x2 x3 x4 = fun y => 0 + gainBlock 256 (dy (rows x0 x1 x2) (rd x3) (rd x4)) (rows x0 x1 x2) (y 1).val := by
  unfold out0_A_8
  rw [View.read_writes_eq_canon _ _ _ (cover0_A_8 (F := Ideal) c i a2 h2 a3 h3 a4 h4 a5 h5 a6 h6 a7 h7 a8 h8 a9 h9 a10 h10 a11 h11 hc x0 x1 x2 x3 x4)]
  funext y
  unfold kernelRun0_A
  dsimp only
  sl_unfold_words
  rw [View.canon_cons_unit_zero hz]
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay24 _ _ _ _ _ a b).trans ?_
  refine (congrArg₂ (· + ·) ((rd_ix2 _ a b).symm.trans (pay14 _ _ _ _ _ a b)) rfl).trans ?_
  rw [gainBlock_two, chunk_gain 0 x0 x1 x2 x3 x4 _ _ _ b.isLt, chunk_gain 128 x0 x1 x2 x3 x4 _ _ _ b.isLt]
  rw [zero8, add_assoc]
  rfl

/-- What a later step stores of the gradient at the rows. -/
theorem out5_B (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : ¬cond0_0 i) (x0 : FVec Ideal S256x5632 .bf16) (x1 : FVec Ideal S5632x2048 .bf16) (x2 x3 : FVec Ideal S256x2048 .f32) (x4 : FVec Ideal S1x2048 .f32) (xo7 xo8 : FVec Ideal S1x2048 .f32) :
    out0_B_5 (F := Ideal) c i a2 h2 a3 h3 a4 h4 a5 h5 a6 h6 a7 h7 a8 h8 a9 h9 a10 h10 a11 h11 hc x0 x1 x2 x3 x4 xo7 xo8 = fun y => back (dy (rows x0 x1 x2) (rd x3) (rd x4)) (rows x0 x1 x2) (fun _ _ => 0) (rd x4) (y 0).val (y 1).val := by
  unfold out0_B_5
  rw [View.read_writes_eq_canon _ _ _ (cover0_B_5 (F := Ideal) c i a2 h2 a3 h3 a4 h4 a5 h5 a6 h6 a7 h7 a8 h8 a9 h9 a10 h10 a11 h11 hc x0 x1 x2 x3 x4 xo7 xo8)]
  funext y
  suffices hp : View.PiecesOf (Val := Elt Ideal) (e := .f32) (fun y : S256x2048.Idx => back (dy (rows x0 x1 x2) (rd x3) (rd x4)) (rows x0 x1 x2) (fun _ _ => 0) (rd x4) (y 0).val (y 1).val) _ from
    View.canon_apply_of_pieces (fun y : S256x2048.Idx => back (dy (rows x0 x1 x2) (rd x3) (rd x4)) (rows x0 x1 x2) (fun _ _ => 0) (rd x4) (y 0).val (y 1).val) _ hp.mem y (cover0_B_5 (F := Ideal) c i a2 h2 a3 h3 a4 h4 a5 h5 a6 h6 a7 h7 a8 h8 a9 h9 a10 h10 a11 h11 hc x0 x1 x2 x3 x4 xo7 xo8 y)
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay1 _ _ _ _ a b).trans ?_
    show _ = back (dy (rows x0 x1 x2) (rd x3) (rd x4)) (rows x0 x1 x2) (fun _ _ => 0) (rd x4) (128 + 1 * a.val) (0 + 1 * b.val)
    rw [Nat.one_mul, Nat.one_mul, Nat.zero_add b.val]
    exact chunk_back 128 x0 x1 x2 x3 x4 _ _ _ a.isLt b.isLt
  · obtain ⟨a, b, rfl⟩ : ∃ (a : Fin 128) (b : Fin 2048), x = ix2 a b := ⟨x 0, x 1, eq_ix2 x⟩
    refine (pay15 _ _ _ _ a b).trans ?_
    show _ = back (dy (rows x0 x1 x2) (rd x3) (rd x4)) (rows x0 x1 x2) (fun _ _ => 0) (rd x4) (0 + 1 * a.val) (0 + 1 * b.val)
    rw [Nat.one_mul, Nat.one_mul, Nat.zero_add b.val]
    exact chunk_back 0 x0 x1 x2 x3 x4 _ _ _ a.isLt b.isLt

/-- What a later step stores of the gradient at the rows (the half-precision copy). -/
theorem out6_B (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : ¬cond0_0 i) (x0 : FVec Ideal S256x5632 .bf16) (x1 : FVec Ideal S5632x2048 .bf16) (x2 x3 : FVec Ideal S256x2048 .f32) (x4 : FVec Ideal S1x2048 .f32) (xo7 xo8 : FVec Ideal S1x2048 .f32) :
    out0_B_6 (F := Ideal) c i a2 h2 a3 h3 a4 h4 a5 h5 a6 h6 a7 h7 a8 h8 a9 h9 a10 h10 a11 h11 hc x0 x1 x2 x3 x4 xo7 xo8 = fun y => back (dy (rows x0 x1 x2) (rd x3) (rd x4)) (rows x0 x1 x2) (fun _ _ => 0) (rd x4) (y 0).val (y 1).val := by
  unfold out0_B_6
  rw [View.read_writes_eq_canon _ _ _ (cover0_B_6 (F := Ideal) c i a2 h2 a3 h3 a4 h4 a5 h5 a6 h6 a7 h7 a8 h8 a9 h9 a10 h10 a11 h11 hc x0 x1 x2 x3 x4 xo7 xo8)]
  funext y
  suffices hp : View.PiecesOf (Val := Elt Ideal) (e := .bf16) (fun y : S256x2048.Idx => back (dy (rows x0 x1 x2) (rd x3) (rd x4)) (rows x0 x1 x2) (fun _ _ => 0) (rd x4) (y 0).val (y 1).val) _ from
    View.canon_apply_of_pieces (fun y : S256x2048.Idx => back (dy (rows x0 x1 x2) (rd x3) (rd x4)) (rows x0 x1 x2) (fun _ _ => 0) (rd x4) (y 0).val (y 1).val) _ hp.mem y (cover0_B_6 (F := Ideal) c i a2 h2 a3 h3 a4 h4 a5 h5 a6 h6 a7 h7 a8 h8 a9 h9 a10 h10 a11 h11 hc x0 x1 x2 x3 x4 xo7 xo8 y)
  unfold kernelRun0_B
  dsimp only
  sl_unfold_words
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  refine ⟨fun x => ?_, fun x => ?_, trivial⟩
  · obtain ⟨a, b, rfl⟩ : ∃ (a : Fin 128) (b : Fin 2048), x = ix2 a b := ⟨x 0, x 1, eq_ix2 x⟩
    refine (pay2 _ _ _ _ a b).trans ?_
    show _ = back (dy (rows x0 x1 x2) (rd x3) (rd x4)) (rows x0 x1 x2) (fun _ _ => 0) (rd x4) (128 + 1 * a.val) (0 + 1 * b.val)
    rw [Nat.one_mul, Nat.one_mul, Nat.zero_add b.val]
    exact chunk_back 128 x0 x1 x2 x3 x4 _ _ _ a.isLt b.isLt
  · obtain ⟨a, b, rfl⟩ : ∃ (a : Fin 128) (b : Fin 2048), x = ix2 a b := ⟨x 0, x 1, eq_ix2 x⟩
    refine (pay16 _ _ _ _ a b).trans ?_
    show _ = back (dy (rows x0 x1 x2) (rd x3) (rd x4)) (rows x0 x1 x2) (fun _ _ => 0) (rd x4) (0 + 1 * a.val) (0 + 1 * b.val)
    rw [Nat.one_mul, Nat.one_mul, Nat.zero_add b.val]
    exact chunk_back 0 x0 x1 x2 x3 x4 _ _ _ a.isLt b.isLt

/-- What a later step leaves of the loss, column by column. -/
theorem loss_B (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : ¬cond0_0 i) (x0 : FVec Ideal S256x5632 .bf16) (x1 : FVec Ideal S5632x2048 .bf16) (x2 x3 : FVec Ideal S256x2048 .f32) (x4 : FVec Ideal S1x2048 .f32) (xo7 xo8 : FVec Ideal S1x2048 .f32) :
    out0_B_7 (F := Ideal) c i a2 h2 a3 h3 a4 h4 a5 h5 a6 h6 a7 h7 a8 h8 a9 h9 a10 h10 a11 h11 hc x0 x1 x2 x3 x4 xo7 xo8 = fun y => rd xo7 (y 0).val (y 1).val + half * sqBlock 256 (rows x0 x1 x2) (rd x3) (rd x4) (y 1).val := by
  unfold out0_B_7
  rw [View.read_writes_eq_canon _ _ _ (cover0_B_7 (F := Ideal) c i a2 h2 a3 h3 a4 h4 a5 h5 a6 h6 a7 h7 a8 h8 a9 h9 a10 h10 a11 h11 hc x0 x1 x2 x3 x4 xo7 xo8)]
  funext y
  unfold kernelRun0_B
  dsimp only
  sl_unfold_words
  rw [View.canon_cons_unit_zero hz]
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay22 _ _ _ _ _ a b).trans ?_
  refine (congrArg₂ (· + ·) ((rd_ix2 _ a b).symm.trans (pay12 _ _ _ _ _ a b)) rfl).trans ?_
  rw [sqBlock_two, chunk_sq 0 x0 x1 x2 x3 x4 _ _ _ b.isLt, chunk_sq 128 x0 x1 x2 x3 x4 _ _ _ b.isLt]
  rw [add_assoc]
  rfl

/-- What a later step leaves of the gain's gradient. -/
theorem sums_B (c : Dev nD) (i : grid0.Coords) (a2 : Memref sig .tc .vmem S256x5632 .bf16) (h2 : a2.IsWhole)
    (a3 : Memref sig .tc .vmem S5632x2048 .bf16) (h3 : a3.IsWhole)
    (a4 : Memref sig .tc .vmem S256x2048 .f32) (h4 : a4.IsWhole)
    (a5 : Memref sig .tc .vmem S256x2048 .f32) (h5 : a5.IsWhole)
    (a6 : Memref sig .tc .vmem S1x2048 .f32) (h6 : a6.IsWhole)
    (a7 : Memref sig .tc .vmem S256x2048 .f32) (h7 : a7.IsWhole)
    (a8 : Memref sig .tc .vmem S256x2048 .bf16) (h8 : a8.IsWhole)
    (a9 : Memref sig .tc .vmem S1x2048 .f32) (h9 : a9.IsWhole)
    (a10 : Memref sig .tc .vmem S1x2048 .f32) (h10 : a10.IsWhole)
    (a11 : Memref sig .tc .vmem S256x2048 .f32) (h11 : a11.IsWhole)
    (hc : ¬cond0_0 i) (x0 : FVec Ideal S256x5632 .bf16) (x1 : FVec Ideal S5632x2048 .bf16) (x2 x3 : FVec Ideal S256x2048 .f32) (x4 : FVec Ideal S1x2048 .f32) (xo7 xo8 : FVec Ideal S1x2048 .f32) :
    out0_B_8 (F := Ideal) c i a2 h2 a3 h3 a4 h4 a5 h5 a6 h6 a7 h7 a8 h8 a9 h9 a10 h10 a11 h11 hc x0 x1 x2 x3 x4 xo7 xo8 = fun y => rd xo8 (y 0).val (y 1).val + gainBlock 256 (dy (rows x0 x1 x2) (rd x3) (rd x4)) (rows x0 x1 x2) (y 1).val := by
  unfold out0_B_8
  rw [View.read_writes_eq_canon _ _ _ (cover0_B_8 (F := Ideal) c i a2 h2 a3 h3 a4 h4 a5 h5 a6 h6 a7 h7 a8 h8 a9 h9 a10 h10 a11 h11 hc x0 x1 x2 x3 x4 xo7 xo8)]
  funext y
  unfold kernelRun0_B
  dsimp only
  sl_unfold_words
  rw [View.canon_cons_unit_zero hz]
  simp only [View.readAt_eq_ld, h2.read_unread, h3.read_unread, h4.read_unread, h5.read_unread, h6.read_unread, h7.read_unread, h8.read_unread, h9.read_unread, h10.read_unread, h11.read_unread, View.ld_unit_zero (S := S256x5632) hz, View.ld_unit_zero (S := S5632x2048) hz, View.ld_unit_zero (S := S1x2048) hz]
  simp (disch := first | decide | exact fun a => congrFun hz a) only [↓View.readCov_skip, ↓View.readCov_fill]
  simp only [View.ld_unit_zero (S := S1x2048) hz]
  obtain ⟨a, b, rfl⟩ : ∃ (a : Fin 1) (b : Fin 2048), y = ix2 a b := ⟨y 0, y 1, eq_ix2 y⟩
  refine (pay24 _ _ _ _ _ a b).trans ?_
  refine (congrArg₂ (· + ·) ((rd_ix2 _ a b).symm.trans (pay14 _ _ _ _ _ a b)) rfl).trans ?_
  rw [gainBlock_two, chunk_gain 0 x0 x1 x2 x3 x4 _ _ _ b.isLt, chunk_gain 128 x0 x1 x2 x3 x4 _ _ _ b.isLt]
  rw [add_assoc]
  rfl

end Cert.Loss

end
-- ==== Proof.LossFinal.lean ====
module

public import proofs.«01_k».proof.Proof.LossBlock
public import Idealize.ShloMosaic.Lib.Pipeline.ValueKit

/-! What the call with the loss head leaves in its result arrays. -/

@[expose] public section
noncomputable section
open Idealize.ShloMosaic Idealize.ShloMosaic.TcCoe Idealize.SL.Sem
open Idealize.ShloMosaic.Pipeline (Dat)
open Cert.Mix (rd rd_of rd_ix2 hz)
open Cert.Ffn (nn nt tn nn_congr nt_congr tn_congr)
open Cert.Norm (unitRow back gainBlock gainArr unitRow_congr back_congr gainBlock_congr)

namespace Cert.Loss
open Cert.Kernel9Ideal Cert.Kernel9Ideal.Gen

variable (m : (ℓ : Loc nD τ sig) → Buf (Elt Ideal) ℓ)

/-- The residual stream. -/
def xOf (c : Dev nD) : ℕ → ℕ → EReal :=
  stream (nn 5632 (rd (n0 := 4096) (n1 := 5632) (m ((c : Thread nD τ).loc main_arg0))) (rd (n0 := 5632) (n1 := 2048) (m ((c : Thread nD τ).loc main_arg1))))
    (rd (n0 := 4096) (n1 := 2048) (m ((c : Thread nD τ).loc main_arg2)))
/-- The target. -/
def tOf (c : Dev nD) : ℕ → ℕ → EReal := rd (n0 := 4096) (n1 := 2048) (m ((c : Thread nD τ).loc main_arg3))
/-- The gain. -/
def gOf (c : Dev nD) : ℕ → ℕ → EReal := rd (n0 := 1) (n1 := 2048) (m ((c : Thread nD τ).loc main_arg4))
/-- The gradient of the loss at the normed rows. -/
def dOf (c : Dev nD) : ℕ → ℕ → EReal := dy (xOf m c) (tOf m c) (gOf m c)

theorem index0 : ∀ t : Fin cfg0.N, win0_0.index t = ![t.val, 0] :=
  (by decide +kernel : ∀ t : Fin grid0.N, win0_0.index t = ![t.val, 0])

/-- Window 0's block at a point, read in its array. -/
theorem block0 (c : Dev nD) (t : Fin cfg0.N) {j k : ℕ} (hj : j < 256) (hk : k < 5632) :
    rd (n0 := 256) (n1 := 5632) (iblk m c 0 t) j k = rd (n0 := 4096) (n1 := 5632) (m ((c : Thread nD τ).loc main_arg0)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg0)) (funext (Fin.forall_fin_two.mpr ⟨Fin.ext ?_, Fin.ext ?_⟩))
  · blk_simp [index0] <;> (show _ = 256 * t.val + j) <;> (try dsimp only) <;> omega
  · blk_simp [index0] <;> (show _ = k) <;> (try dsimp only) <;> omega

theorem index1 : ∀ t : Fin cfg0.N, win0_1.index t = ![0, 0] :=
  (by decide +kernel : ∀ t : Fin grid0.N, win0_1.index t = ![0, 0])

/-- Window 1's block at a point, read in its array. -/
theorem block1 (c : Dev nD) (t : Fin cfg0.N) {j k : ℕ} (hj : j < 5632) (hk : k < 2048) :
    rd (n0 := 5632) (n1 := 2048) (iblk m c 1 t) j k = rd (n0 := 5632) (n1 := 2048) (m ((c : Thread nD τ).loc main_arg1)) (j) k := by
  have ht : t.val < 16 := lt_of_lt_of_eq t.isLt N_0
  rw [← rd_of _ hj hk, ← rd_of _ (by omega) (by omega)]
  blk_simp [iblk]
  refine congrArg (m ((c : Thread nD τ).loc main_arg1)) (funext (Fin.forall_fin_two.mpr ⟨Fin.ext ?_, Fin.ext ?_⟩))
  · blk_simp [index1] <;> (show _ = j) <;> (try dsimp only) <;> omega
  · blk_simp [index1] <;> (show _ = k) <;> (try dsimp only) <;> omega

theorem index2 : ∀ t : Fin cfg0.N, win0_2.index t = ![t.val, 0] :=
  (by decide +kernel : ∀ t : Fin grid0.N, win0_2.index t = ![t.val, 0])

/-- Window 2's block at a point, read in its array. -/
theorem block2 (c : Dev nD) (t : Fin cfg0.N) {j k : ℕ} (hj : j < 256) (hk : k < 2048) :
    rd (n0 := 256) (n1 := 2048) (iblk m c 2 t) j k = rd (n0 := 4096) (n1 := 2048) (m ((c : Thread nD τ).loc main_arg2)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg2)) (funext (Fin.forall_fin_two.mpr ⟨Fin.ext ?_, Fin.ext ?_⟩))
  · blk_simp [index2] <;> (show _ = 256 * t.val + j) <;> (try dsimp only) <;> omega
  · blk_simp [index2] <;> (show _ = k) <;> (try dsimp only) <;> omega

theorem index3 : ∀ t : Fin cfg0.N, win0_3.index t = ![t.val, 0] :=
  (by decide +kernel : ∀ t : Fin grid0.N, win0_3.index t = ![t.val, 0])

/-- Window 3's block at a point, read in its array. -/
theorem block3 (c : Dev nD) (t : Fin cfg0.N) {j k : ℕ} (hj : j < 256) (hk : k < 2048) :
    rd (n0 := 256) (n1 := 2048) (iblk m c 3 t) j k = rd (n0 := 4096) (n1 := 2048) (m ((c : Thread nD τ).loc main_arg3)) (256 * t.val + j) k := by
  have ht : t.val < 16 := lt_of_lt_of_eq t.isLt N_0
  rw [← rd_of _ hj hk, ← rd_of _ (by omega) (by omega)]
  blk_simp [iblk]
  refine congrArg (m ((c : Thread nD τ).loc main_arg3)) (funext (Fin.forall_fin_two.mpr ⟨Fin.ext ?_, Fin.ext ?_⟩))
  · blk_simp [index3] <;> (show _ = 256 * t.val + j) <;> (try dsimp only) <;> omega
  · blk_simp [index3] <;> (show _ = k) <;> (try dsimp only) <;> omega

theorem index4 : ∀ t : Fin cfg0.N, win0_4.index t = ![0, 0] :=
  (by decide +kernel : ∀ t : Fin grid0.N, win0_4.index t = ![0, 0])

/-- Window 4's block at a point, read in its array. -/
theorem block4 (c : Dev nD) (t : Fin cfg0.N) {j k : ℕ} (hj : j < 1) (hk : k < 2048) :
    rd (n0 := 1) (n1 := 2048) (iblk m c 4 t) j k = rd (n0 := 1) (n1 := 2048) (m ((c : Thread nD τ).loc main_arg4)) (j) k := by
  have ht : t.val < 16 := lt_of_lt_of_eq t.isLt N_0
  rw [← rd_of _ hj hk, ← rd_of _ (by omega) (by omega)]
  blk_simp [iblk]
  refine congrArg (m ((c : Thread nD τ).loc main_arg4)) (funext (Fin.forall_fin_two.mpr ⟨Fin.ext ?_, Fin.ext ?_⟩))
  · blk_simp [index4] <;> (show _ = j) <;> (try dsimp only) <;> omega
  · blk_simp [index4] <;> (show _ = k) <;> (try dsimp only) <;> omega

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

/-- The residual stream of a point's block. -/
theorem rows_eq (c : Dev nD) (t : Fin cfg0.N) {j k : ℕ} (hj : j < 256) (hk : k < 2048) :
    rows (iblk m c 0 t) (iblk m c 1 t) (iblk m c 2 t) j k = xOf m c (256 * t.val + j) k := by
  have e := nn_congr (fun q hq => block0 m c t hj hq) (fun q hq => block1 m c t hq hk)
  have e2 := block2 m c t hj hk
  unfold rows xOf stream
  rw [e2]
  exact congrArg (_ + ·) e

/-- The error of a point's block. -/
theorem err_block (c : Dev nD) (t : Fin cfg0.N) {j k : ℕ} (hj : j < 256) (hk : k < 2048) :
    err (rows (iblk m c 0 t) (iblk m c 1 t) (iblk m c 2 t)) (rd (n0 := 256) (n1 := 2048) (iblk m c 3 t)) (rd (n0 := 1) (n1 := 2048) (iblk m c 4 t)) j k = err (xOf m c) (tOf m c) (gOf m c) (256 * t.val + j) k :=
  err_congr hk (fun q hq => rows_eq m c t hj hq) (fun q hq => block3 m c t hj hq) fun q hq => block4 m c t (by decide) hq

/-- The gradient at the normed rows of a point's block. -/
theorem dy_block (c : Dev nD) (t : Fin cfg0.N) {j k : ℕ} (hj : j < 256) (hk : k < 2048) :
    dy (rows (iblk m c 0 t) (iblk m c 1 t) (iblk m c 2 t)) (rd (n0 := 256) (n1 := 2048) (iblk m c 3 t)) (rd (n0 := 1) (n1 := 2048) (iblk m c 4 t)) j k = dOf m c (256 * t.val + j) k :=
  dy_congr hk (fun q hq => rows_eq m c t hj hq) (fun q hq => block3 m c t hj hq) fun q hq => block4 m c t (by decide) hq

/-- The gradient at the rows of a point's block. -/
theorem back_block (c : Dev nD) (t : Fin cfg0.N) {j k : ℕ} (hj : j < 256) (hk : k < 2048) :
    back (dy (rows (iblk m c 0 t) (iblk m c 1 t) (iblk m c 2 t)) (rd (n0 := 256) (n1 := 2048) (iblk m c 3 t)) (rd (n0 := 1) (n1 := 2048) (iblk m c 4 t))) (rows (iblk m c 0 t) (iblk m c 1 t) (iblk m c 2 t)) (fun _ _ => 0) (rd (n0 := 1) (n1 := 2048) (iblk m c 4 t)) j k
      = back (dOf m c) (xOf m c) (fun _ _ => 0) (gOf m c) (256 * t.val + j) k :=
  back_congr hk (fun q hq => dy_block m c t hj hq) (fun q hq => rows_eq m c t hj hq) rfl fun q hq => block4 m c t (by decide) hq

/-- The gain's gradient from the rows of a point's block. -/
theorem gain_block (c : Dev nD) (t : Fin cfg0.N) {k : ℕ} (hk : k < 2048) :
    gainBlock 256 (dy (rows (iblk m c 0 t) (iblk m c 1 t) (iblk m c 2 t)) (rd (n0 := 256) (n1 := 2048) (iblk m c 3 t)) (rd (n0 := 1) (n1 := 2048) (iblk m c 4 t))) (rows (iblk m c 0 t) (iblk m c 1 t) (iblk m c 2 t)) k
      = ∑ r ∈ Finset.range 256, dOf m c (256 * t.val + r) k * unitRow (xOf m c) (256 * t.val + r) k :=
  gainBlock_congr hk (fun r hr => dy_block m c t hr hk) fun r hr q hq => rows_eq m c t hr hq

/-- The squared errors of the rows of a point's block. -/
theorem sq_block (c : Dev nD) (t : Fin cfg0.N) {k : ℕ} (hk : k < 2048) :
    sqBlock 256 (rows (iblk m c 0 t) (iblk m c 1 t) (iblk m c 2 t)) (rd (n0 := 256) (n1 := 2048) (iblk m c 3 t)) (rd (n0 := 1) (n1 := 2048) (iblk m c 4 t)) k
      = ∑ r ∈ Finset.range 256, err (xOf m c) (tOf m c) (gOf m c) (256 * t.val + r) k * err (xOf m c) (tOf m c) (gOf m c) (256 * t.val + r) k := by
  unfold sqBlock
  rw [Finset.sum_range]
  refine Finset.sum_congr rfl fun r _ => ?_
  rw [err_block m c t r.isLt hk]

/-- The gain's gradient after a point: the sum over the rows of the blocks so far. -/
theorem acc_gain (c : Dev nD) : ∀ (n : ℕ) (hn : n < cfg0.N) (k : Fin 1) (col : Fin 2048),
    (outsAt0 m c n hn).2.2.2 (ix2 k col) = gainArr (256 * n + 256) (dOf m c) (xOf m c) col := by
  intro n
  induction n with
  | zero =>
    intro hn k col
    have e := outsAt0_A m c ⟨0, hn⟩ rfl
    dsimp only at e
    rw [e]
    dsimp only
    rw [sums_A]
    show 0 + gainBlock 256 _ _ col.val = _
    rw [zero_add, gain_block m c ⟨0, hn⟩ col.isLt]
    simp only [Nat.mul_zero, Nat.zero_add]
    rfl
  | succ n ih =>
    intro hn k col
    have hN : n + 1 < 16 := lt_of_lt_of_eq hn N_0
    have e := outsAt0_B m c ⟨n + 1, hn⟩ (show ¬(n + 1) % 16 = 0 by omega)
    dsimp only at e
    rw [e]
    dsimp only
    rw [sums_B]
    show rd (n0 := 1) (n1 := 2048) (outsAt0 m c (n + 1 - 1) _).2.2.2 k.val col.val + gainBlock 256 _ _ col.val = _
    rw [← rd_ix2 (n0 := 1) (n1 := 2048) _ k col, gain_block m c ⟨n + 1, hn⟩ col.isLt]
    have e1 := ih (by omega) k col
    simp only [Nat.add_sub_cancel]
    unfold gainArr at e1 ⊢
    rw [e1, show 256 * (n + 1) = 256 * n + 256 by omega, Finset.sum_range_add _ (256 * n + 256) 256]

/-- The loss after a point, column by column: half of one over the width times the squared errors of the rows of the blocks so far. -/
theorem acc_loss (c : Dev nD) : ∀ (n : ℕ) (hn : n < cfg0.N) (k : Fin 1) (col : Fin 2048),
    (outsAt0 m c n hn).2.2.1 (ix2 k col) = half * sqArr (256 * n + 256) (xOf m c) (tOf m c) (gOf m c) col := by
  intro n
  induction n with
  | zero =>
    intro hn k col
    have e := outsAt0_A m c ⟨0, hn⟩ rfl
    dsimp only at e
    rw [e]
    dsimp only
    rw [loss_A]
    show 0 + half * sqBlock 256 _ _ _ col.val = _
    rw [zero_add, sq_block m c ⟨0, hn⟩ col.isLt]
    simp only [Nat.mul_zero, Nat.zero_add]
    rfl
  | succ n ih =>
    intro hn k col
    have hN : n + 1 < 16 := lt_of_lt_of_eq hn N_0
    have e := outsAt0_B m c ⟨n + 1, hn⟩ (show ¬(n + 1) % 16 = 0 by omega)
    dsimp only at e
    rw [e]
    dsimp only
    rw [loss_B]
    show rd (n0 := 1) (n1 := 2048) (outsAt0 m c (n + 1 - 1) _).2.2.1 k.val col.val + half * sqBlock 256 _ _ _ col.val = _
    rw [← rd_ix2 (n0 := 1) (n1 := 2048) _ k col, sq_block m c ⟨n + 1, hn⟩ col.isLt]
    have e1 := ih (by omega) k col
    simp only [Nat.add_sub_cancel]
    unfold sqArr at e1 ⊢
    rw [e1, ← half_distrib, show 256 * (n + 1) = 256 * n + 256 by omega, Finset.sum_range_add _ (256 * n + 256) 256]

/-- The gradient at the rows: what the call leaves in the whole array. -/
theorem final5 (c : Dev nD) : (dats m 0 c).arrAt 5 cfg0.N = fun y : S4096x2048.Idx => back (dOf m c) (xOf m c) (fun _ _ => 0) (gOf m c) (y 0).val (y 1).val := by
  refine (dats m 0 c).arrAt_eq_of_covers 5 _ (by decide +kernel) fun t hf y => ?_
  have h0 : (y 0).val < 256 := (y 0).isLt
  have h1 : (y 1).val < 2048 := (y 1).isLt
  blk_simp [index5]
  rw [after0_5]
  obtain ⟨j, k, rfl⟩ : ∃ (j : Fin 256) (k : Fin 2048), y = ix2 j k := ⟨y 0, y 1, eq_ix2 y⟩
  have hO : (outsAt0 m c t.val t.isLt).1 (ix2 j k) = back (dOf m c) (xOf m c) (fun _ _ => 0) (gOf m c) (256 * t.val + j.val) k.val := by
    rw [← back_block m c t j.isLt k.isLt]
    by_cases h : t.val % 16 = 0
    · rw [outsAt0_A m c t h]
      dsimp only
      rw [out5_A]
      rfl
    · rw [outsAt0_B m c t h]
      dsimp only
      rw [out5_B]
      rfl
  rw [hO, Nat.mul_comm]
  rfl

/-- The gradient at the rows, as the half-precision copy: what the call leaves in the whole array. -/
theorem final6 (c : Dev nD) : (dats m 0 c).arrAt 6 cfg0.N = fun y : S4096x2048.Idx => back (dOf m c) (xOf m c) (fun _ _ => 0) (gOf m c) (y 0).val (y 1).val := by
  refine (dats m 0 c).arrAt_eq_of_covers 6 _ (by decide +kernel) fun t hf y => ?_
  have h0 : (y 0).val < 256 := (y 0).isLt
  have h1 : (y 1).val < 2048 := (y 1).isLt
  blk_simp [index6]
  rw [after0_6]
  obtain ⟨j, k, rfl⟩ : ∃ (j : Fin 256) (k : Fin 2048), y = ix2 j k := ⟨y 0, y 1, eq_ix2 y⟩
  have hO : (outsAt0 m c t.val t.isLt).2.1 (ix2 j k) = back (dOf m c) (xOf m c) (fun _ _ => 0) (gOf m c) (256 * t.val + j.val) k.val := by
    rw [← back_block m c t j.isLt k.isLt]
    by_cases h : t.val % 16 = 0
    · rw [outsAt0_A m c t h]
      dsimp only
      rw [out6_A]
      rfl
    · rw [outsAt0_B m c t h]
      dsimp only
      rw [out6_B]
      rfl
  rw [hO, Nat.mul_comm]
  rfl

/-- The loss, column by column: what the call leaves in the whole array. -/
theorem final7 (c : Dev nD) : (dats m 0 c).arrAt 7 cfg0.N = fun y : S1x2048.Idx => half * sqArr 4096 (xOf m c) (tOf m c) (gOf m c) (y 1).val := by
  refine (dats m 0 c).arrAt_eq_of_after_last 7 t0_15 (by decide +kernel) _ fun y => ?_
  blk_simp
  rw [after0_7]
  obtain ⟨j, k, rfl⟩ : ∃ (j : Fin 1) (k : Fin 2048), y = ix2 j k := ⟨y 0, y 1, eq_ix2 y⟩
  exact acc_loss m c 15 _ j k

/-- The gain's gradient: what the call leaves in the whole array. -/
theorem final8 (c : Dev nD) : (dats m 0 c).arrAt 8 cfg0.N = fun y : S1x2048.Idx => gainArr 4096 (dOf m c) (xOf m c) (y 1).val := by
  refine (dats m 0 c).arrAt_eq_of_after_last 8 t0_15 (by decide +kernel) _ fun y => ?_
  blk_simp
  rw [after0_8]
  obtain ⟨j, k, rfl⟩ : ∃ (j : Fin 1) (k : Fin 2048), y = ix2 j k := ⟨y 0, y 1, eq_ix2 y⟩
  exact acc_gain m c 15 _ j k

end Cert.Loss

end
-- ==== Proof.LossClaim.lean ====
module

public import proofs.«01_k».proof.Defs
public import proofs.«01_k».proof.Proof.LossFinal
public import proofs.«01_k».proof.Proof.Gen.Kernel9
public import proofs.«01_k».proof.Proof.Gen.Kernel9.Frame
public import proofs.«01_k».proof.Proof.Gen.Reference9Ideal
public import proofs.«01_k».proof.Proof.Gen.Reference9Ideal.Run
public import proofs.«01_k».proof.Proof.Gen.Reference9Ideal.Read
public import Idealize.ShloMosaic.Lib.Quiescent

/-! The call with the loss head and the sum of its loss columns: what they give is what the reference's loss and backward pass give. -/

@[expose] public section
noncomputable section
open Idealize.ShloMosaic Idealize.ShloMosaic.TcCoe Idealize.SL.Sem
open Cert.Mix (rd rd_of rd_ix2)
open Cert.Ffn (nn nt tn)
open Cert.Rows (meanSq)
open Cert.Norm (scale unitRow back backRef back_eq through gainArr word_2048 sum_mul_coe)

namespace Cert.Loss

/-- One half, as the reference writes it. -/
theorem word_pos_half : Ideal.ofBits .f32 0x3F000000#32 = ((1 / 2 : ℝ) : EReal) := by
  simp [Ideal.ofBits, Ideal.ieee]
  rw [← EReal.coe_mul]
  norm_num

/-- One. -/
theorem word_one : Ideal.ofBits .f32 0x3F800000#32 = ((1 : ℝ) : EReal) := by
  simp [Ideal.ofBits, Ideal.ieee]
  rw [← EReal.coe_mul]
  norm_num

/-- Two. -/
theorem word_two : Ideal.ofBits .f32 0x40000000#32 = ((2 : ℝ) : EReal) := by
  simp [Ideal.ofBits, Ideal.ieee]
  rw [← EReal.coe_mul]
  norm_num

/-- One over the width, as the call writes it. -/
theorem word_width : Ideal.ofBits .f32 0x3A000000#32 = ((1 / 2048 : ℝ) : EReal) := by
  simp [Ideal.ofBits, Ideal.ieee]
  rw [← EReal.coe_mul]
  norm_num

/-- The gradient of half the mean square: the error over the width. -/
theorem slope_eq (e : EReal) :
    Ideal.div (Ideal.ofBits .f32 0x3F000000#32 * Ideal.ofBits .f32 0x3F800000#32) (Ideal.ofBits .f32 0x45000000#32) * (Ideal.ofBits .f32 0x40000000#32 * e)
      = e * Ideal.ofBits .f32 0x3A000000#32 := by
  rw [word_pos_half, word_one, word_2048, word_two, word_width, Ideal.div_coe (by norm_num), ← mul_assoc, ← EReal.coe_mul, ← EReal.coe_mul, ← EReal.coe_mul, mul_comm]
  congr 2
  norm_num

/-- The loss of the rows up to `n`: half of each row's mean squared error, summed. -/
def lossOf (n : ℕ) (x t g : ℕ → ℕ → EReal) : EReal :=
  Ideal.ofBits .f32 0x3F000000#32 * ∑ r : Fin n, Ideal.div (∑ c : Fin 2048, err x t g r c * err x t g r c) (Ideal.ofBits .f32 0x45000000#32)

/-- Summed column by column, each already divided, it is the same. -/
theorem loss_eq (n : ℕ) (x t g : ℕ → ℕ → EReal) : ∑ c : Fin 2048, half * sqArr n x t g c = lossOf n x t g := by
  have e1 : ∀ c : Fin 2048, half * sqArr n x t g c = sqArr n x t g c * ((1 / 4096 : ℝ) : EReal) := fun c => by rw [half_eq, mul_comm]
  have e2 : ∀ r : Fin n, Ideal.div (∑ c : Fin 2048, err x t g r c * err x t g r c) (Ideal.ofBits .f32 0x45000000#32)
      = (∑ c : Fin 2048, err x t g r c * err x t g r c) * ((1 / 2048 : ℝ) : EReal) := fun r => by rw [word_2048, Ideal.div_coe (by norm_num)]
  unfold lossOf
  rw [Finset.sum_congr rfl fun c _ => e1 c, Finset.sum_congr rfl fun r _ => e2 r, sum_mul_coe _ _ (by norm_num), sum_mul_coe _ _ (by norm_num),
    word_pos_half, mul_comm, mul_comm _ ((1 / 2048 : ℝ) : EReal), ← mul_assoc, ← EReal.coe_mul]
  unfold sqArr
  refine congrArg₂ (· * ·) (congrArg _ (by norm_num)) ?_
  rw [Finset.sum_congr rfl fun (c : Fin 2048) _ => Finset.sum_range fun r => err x t g r c * err x t g r c]
  exact Finset.sum_comm

section
open Cert.Kernel9Ideal Cert.Kernel9Ideal.Gen

variable (m : (ℓ : Loc nD τ sig) → Buf (Elt Ideal) ℓ) (ρ : Dev nD → PrngReg)

/-- The loss of one device's rows. -/
def lossEnd (c : Dev nD) : EReal := lossOf 4096 (xOf m c) (tOf m c) (gOf m c)

/-- The sum of the loss columns after the call. -/
theorem end_v1 (c : Dev nD) : Pipeline.afterTail₀ cfgs (dats m) 0 (V0 m) [hostOps1] c main_v1 = fun _ : S_.Idx => lossEnd m c := by
  have e : Pipeline.afterTail₀ cfgs (dats m) 0 (V0 m) [hostOps1] c main_v1
      = Host.reduceAdd (F := Ideal) (fun y : S1x2048.Idx => half * sqArr 4096 (xOf m c) (tOf m c) (gOf m c) (y 1).val) (constant S_ .f32 0x00000000#32) reducesTo_S1x2048_S_d0_1 h_S_ := by
    have e7 := (Pipeline.withArrays_arr_shared spec0 c (V0 m c) (fun w => (dats m 0 c).arrAt w cfg0.N)
      ((dats m 0 c).arrAt_sharedIn (by decide) (V0 m c) (A_eq m c) cfg0.N) 7).trans (final7 m c)
    unfold Pipeline.afterTail₀
    rw [← e7]
    after_results_simp <;> rfl
  rw [e]
  funext i
  refine (Ideal.hostReduceAdd_total _ (fun b => b.elim0) _ _ _).trans ?_
  refine (congrArg (· + _) (Ideal.ofBits_zero_f32)).trans ((zero_add _).trans ?_)
  refine (sum_idx2 _).trans (Fin.sum_univ_one _ |>.trans ?_)
  exact loss_eq 4096 _ _ _

/-- Every execution ends with each result at what is computed here; the arguments are as launched. -/
theorem run_ends : θ_run defs (onTc (τ := τ) (main (F := Ideal))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_v1) = (fun _ : S_.Idx => lossEnd m c)
      ∧ r.2.mem ((c.tc : Thread nD τ).loc main_v0_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c).1 5, (h.1 c).1 6,
      ((h.1 c).2 main_v1 (Pipeline.mem_restRefs_of main_v1 (by decide) (by decide))).trans (end_v1 m c), (h.1 c).1 8, h.2 c⟩)
    (θ_run_and (run_main m ρ) (unchanged m ρ))

end

section
open Cert.Reference9Ideal Cert.Reference9Ideal.Gen Cert.Reference9Ideal.Read

variable (x0 : (⟨S4096x5632, .bf16⟩ : BufTy).Contents (Elt Ideal)) (x1 : (⟨S5632x2048, .bf16⟩ : BufTy).Contents (Elt Ideal))
  (x2 x3 : (⟨S4096x2048, .f32⟩ : BufTy).Contents (Elt Ideal)) (x4 : (⟨S1x2048, .f32⟩ : BufTy).Contents (Elt Ideal))

/-- The residual stream of the arguments. -/
def xR : ℕ → ℕ → EReal := stream (nn 5632 (rd (n0 := 4096) (n1 := 5632) x0) (rd (n0 := 5632) (n1 := 2048) x1)) (rd (n0 := 4096) (n1 := 2048) x2)
/-- The target. -/
def tR : ℕ → ℕ → EReal := rd (n0 := 4096) (n1 := 2048) x3
/-- The gain. -/
def gR : ℕ → ℕ → EReal := rd (n0 := 1) (n1 := 2048) x4
/-- The gradient of the loss at the normed rows. -/
def dR : ℕ → ℕ → EReal := dy (xR x0 x1 x2) (tR x3) (gR x4)

/-- The residual stream, as the reference computes it. -/
theorem ref_x (r : Fin 4096) (c : Fin 2048) : val_main_v3 (F := Ideal) x0 x1 x2 (ix2 r c) = xR x0 x1 x2 r c := by
  have e : val_main_v2 (F := Ideal) x0 x1 (ix2 r c) = nn 5632 (rd (n0 := 4096) (n1 := 5632) x0) (rd (n0 := 5632) (n1 := 2048) x1) r c := by
    rw [val_main_v2_apply]
    refine Finset.sum_congr rfl fun k _ => congrArg₂ (· * ·) ?_ ?_
    · rw [show lidx_main_v2 (ix2 r c) k = ix2 r k from funext (Fin.forall_fin_two.mpr ⟨rfl, rfl⟩)]
      exact rd_ix2 x0 r k
    · rw [show ridx_main_v2 (ix2 r c) k = ix2 k c from funext (Fin.forall_fin_two.mpr ⟨rfl, rfl⟩)]
      exact rd_ix2 x1 k c
  rw [val_main_v3_apply, e, rd_ix2 x2 r c]
  rfl

/-- The mean square of a row. -/
theorem ref_mean (r : Fin 4096) (j : Fin 1) : val_main_v10 (F := Ideal) x0 x1 x2 (ix2 r j) = meanSq (xR x0 x1 x2) r := by
  unfold meanSq
  have e : val_main_v6 (F := Ideal) x0 x1 x2 (ix2 r j) = ∑ k : Fin 2048, xR x0 x1 x2 r k * xR x0 x1 x2 r k := by
    rw [val_main_v6_apply, val_main_v5_apply, val_main_cst_apply]
    refine (congrArg (· + _) (Ideal.ofBits_zero_f32)).trans ((zero_add _).trans (Finset.sum_congr rfl fun k _ => ?_))
    rw [val_main_v4_apply, show idx_main_v5 (idx_main_v6 (ix2 r j)) k = ix2 r k from funext (Fin.forall_fin_two.mpr ⟨rfl, rfl⟩), ref_x]
    rfl
  rw [val_main_v10_apply, val_main_v8_apply, e]
  rfl

/-- One over its root. -/
theorem ref_scale (r : Fin 4096) (j : Fin 1) : val_main_v11 (F := Ideal) x0 x1 x2 (ix2 r j) = scale (xR x0 x1 x2) r := by
  rw [val_main_v11_apply, ref_mean]
  rfl

/-- The rows over the root of their mean square. -/
theorem ref_unit (r : Fin 4096) (c : Fin 2048) : val_main_v16 (F := Ideal) x0 x1 x2 (ix2 r c) = unitRow (xR x0 x1 x2) r c := by
  rw [val_main_v16_apply, val_main_v15_apply, show idx_main_v15 (ix2 r c) = ix2 r 0 from funext (Fin.forall_fin_two.mpr ⟨rfl, rfl⟩), ref_scale, ref_x]
  rfl

/-- The error. -/
theorem ref_err (r : Fin 4096) (c : Fin 2048) : val_main_v19 (F := Ideal) x0 x1 x2 x3 x4 (ix2 r c) = err (xR x0 x1 x2) (tR x3) (gR x4) r c := by
  rw [val_main_v19_apply, val_main_v18_apply, ref_unit, val_main_v17_apply, show idx_main_v17 (ix2 r c) = ix2 0 c from funext (Fin.forall_fin_two.mpr ⟨rfl, rfl⟩), rd_ix2 x4 0 c, rd_ix2 x3 r c]
  rfl

/-- The mean squared error of a row. -/
theorem ref_row (r : Fin 4096) : val_main_v25 (F := Ideal) x0 x1 x2 x3 x4 (ix1 r) = Ideal.div (∑ c : Fin 2048, err (xR x0 x1 x2) (tR x3) (gR x4) r c * err (xR x0 x1 x2) (tR x3) (gR x4) r c) (Ideal.ofBits .f32 0x45000000#32) := by
  have e : val_main_v23 (F := Ideal) x0 x1 x2 x3 x4 (ix1 r) = ∑ c : Fin 2048, err (xR x0 x1 x2) (tR x3) (gR x4) r c * err (xR x0 x1 x2) (tR x3) (gR x4) r c := by
    rw [val_main_v23_apply, val_main_cst_4_apply]
    refine (congrArg (· + _) (Ideal.ofBits_zero_f32)).trans ((zero_add _).trans (Finset.sum_congr rfl fun k _ => ?_))
    rw [val_main_v20_apply, show idx_main_v23 (ix1 r) k = ix2 r k from funext (Fin.forall_fin_two.mpr ⟨rfl, rfl⟩), ref_err]
    rfl
  rw [val_main_v25_apply, e]
  rfl

/-- The loss. -/
theorem ref_loss : val_main_v27 (F := Ideal) x0 x1 x2 x3 x4 = fun _ : S_.Idx => lossOf 4096 (xR x0 x1 x2) (tR x3) (gR x4) := by
  funext i
  have e : val_main_v26 (F := Ideal) x0 x1 x2 x3 x4 i
      = ∑ r : Fin 4096, Ideal.div (∑ c : Fin 2048, err (xR x0 x1 x2) (tR x3) (gR x4) r c * err (xR x0 x1 x2) (tR x3) (gR x4) r c) (Ideal.ofBits .f32 0x45000000#32) := by
    rw [val_main_v26_apply, val_main_cst_6_apply]
    refine (congrArg (· + _) (Ideal.ofBits_zero_f32)).trans ((zero_add _).trans ?_)
    refine (Finset.sum_congr rfl fun j _ => congrArg (val_main_v25 (F := Ideal) x0 x1 x2 x3 x4) (eq_ix1 (n0 := 4096) j)).trans ?_
    refine (Fin.sum_idx1 ![4096] fun r => val_main_v25 (F := Ideal) x0 x1 x2 x3 x4 (ix1 r)).trans ?_
    refine Finset.sum_congr rfl fun r _ => ?_
    exact ref_row x0 x1 x2 x3 x4 r
  unfold lossOf
  rw [val_main_v27_apply, e]
  rfl

/-- The gradient of the loss at the normed rows. -/
theorem ref_d (r : Fin 4096) (c : Fin 2048) : val_main_v33 (F := Ideal) x0 x1 x2 x3 x4 (ix2 r c) = dR x0 x1 x2 x3 x4 r c := by
  rw [val_main_v33_apply, val_main_v22_apply, ref_err]
  exact slope_eq _

/-- The gain's gradient. -/
theorem ref_gain (j : Fin 1) (c : Fin 2048) : val_main_v36 (F := Ideal) x0 x1 x2 x3 x4 (ix2 j c) = gainArr 4096 (dR x0 x1 x2 x3 x4) (xR x0 x1 x2) c := by
  rw [val_main_v36_apply, val_main_v35_apply, val_main_cst_11_apply]
  refine (congrArg (· + _) (Ideal.ofBits_zero_f32)).trans ((zero_add _).trans ?_)
  unfold gainArr
  rw [Finset.sum_range]
  refine Finset.sum_congr rfl fun k _ => ?_
  rw [show idx_main_v35 (idx_main_v36 (ix2 j c)) k = ix2 k c from funext (Fin.forall_fin_two.mpr ⟨rfl, Fin.ext (by show j.val * 2048 + c.val = c.val; have := j.isLt; omega)⟩), val_main_v34_apply, ref_unit, ref_d]
  exact mul_comm _ _

/-- The gradient at the scaled rows. -/
theorem ref_dg (r : Fin 4096) (c : Fin 2048) : val_main_v38 (F := Ideal) x0 x1 x2 x3 x4 (ix2 r c) = dR x0 x1 x2 x3 x4 r c * gR x4 0 c := by
  rw [val_main_v38_apply, ref_d, val_main_v37_apply, show idx_main_v37 (ix2 r c) = ix2 0 c from funext (Fin.forall_fin_two.mpr ⟨rfl, rfl⟩), rd_ix2 x4 0 c]
  rfl

/-- The gradient through the mean square. -/
theorem ref_through (r : Fin 4096) (c : Fin 2048) : val_main_v48 (F := Ideal) x0 x1 x2 x3 x4 (ix2 r c) = through (dR x0 x1 x2 x3 x4) (xR x0 x1 x2) (gR x4) r := by
  have e1 : val_main_v41 (F := Ideal) x0 x1 x2 x3 x4 (ix2 r 0) = ∑ k : Fin 2048, xR x0 x1 x2 r k * (dR x0 x1 x2 x3 x4 r k * gR x4 0 k) := by
    rw [val_main_v41_apply, val_main_v40_apply, val_main_cst_12_apply]
    refine (congrArg (· + _) (Ideal.ofBits_zero_f32)).trans ((zero_add _).trans (Finset.sum_congr rfl fun k _ => ?_))
    rw [show idx_main_v40 (idx_main_v41 (ix2 r 0)) k = ix2 r k from funext (Fin.forall_fin_two.mpr ⟨Fin.ext (by show r.val * 1 + 0 = r.val; omega), rfl⟩), val_main_v39_apply, ref_dg, ref_x]
    rfl
  have e2 : val_main_v14 (F := Ideal) x0 x1 x2 (ix2 r 0) = Ideal.ofBits .f32 0xBF000000#32 * Ideal.div (scale (xR x0 x1 x2) r) (meanSq (xR x0 x1 x2) r) := by
    rw [val_main_v14_apply, val_main_v12_apply, ref_mean, ref_scale]
    rfl
  unfold through
  rw [val_main_v48_apply, val_main_v47_apply, val_main_cst_14_apply]
  refine (congrArg (· + _) (Ideal.ofBits_zero_f32)).trans ((zero_add _).trans ?_)
  rw [Fin.sum_univ_one, show idx_main_v47 (idx_main_v48 (ix2 r c)) 0 = ix2 r 0 from funext (Fin.forall_fin_two.mpr ⟨rfl, rfl⟩), val_main_v46_apply, val_main_v44_apply, e1, e2]
  rfl

/-- The gradient at the rows. -/
theorem ref_back (r : Fin 4096) (c : Fin 2048) :
    val_main_v52 (F := Ideal) x0 x1 x2 x3 x4 (ix2 r c) = backRef (dR x0 x1 x2 x3 x4) (xR x0 x1 x2) (fun _ _ => 0) (gR x4) r c := by
  have e : val_main_v42 (F := Ideal) x0 x1 x2 (ix2 r c) = scale (xR x0 x1 x2) r := by
    rw [val_main_v42_apply, show idx_main_v42 (ix2 r c) = ix2 r 0 from funext (Fin.forall_fin_two.mpr ⟨rfl, rfl⟩), ref_scale]
  unfold backRef
  rw [zero_add, val_main_v52_apply, val_main_v50_apply, val_main_v43_apply, val_main_v49_apply, val_main_v51_apply, ref_through, ref_dg, e, ref_x]
  rfl

/-- Its half-precision copy. -/
theorem ref_back_half (r : Fin 4096) (c : Fin 2048) :
    val_main_v53 (F := Ideal) x0 x1 x2 x3 x4 (ix2 r c) = backRef (dR x0 x1 x2 x3 x4) (xR x0 x1 x2) (fun _ _ => 0) (gR x4) r c :=
  (val_main_v53_apply (F := Ideal) x0 x1 x2 x3 x4 (ix2 r c)).trans (ref_back x0 x1 x2 x3 x4 r c)

end

/-- The reference runs, keeps its arguments and leaves no semaphore counted. -/
theorem quiescent_reference9 : quiescent_Reference9Ideal (hReference9Ideal := Cert.Reference9Ideal.Gen.facts) :=
  fun m ρ _ => (θ_run Cert.Reference9Ideal.defs _ _).mono
    (fun r h => ⟨fun c => (h c).2.2.2.2, Idealize.ShloMosaic.sem_eq_zero_of_no_sems (by decide) r.2⟩)
    (Cert.Reference9Ideal.Value.run (F := Ideal) m ρ)

/-- The call and the reference give the same gradients at the rows and at the gain and the same loss. -/
theorem algebraic9 : algebraic_Kernel9Ideal_Reference9Ideal (hKernel9Ideal := Cert.Kernel9Ideal.Gen.facts)
    (hReference9Ideal := Cert.Reference9Ideal.Gen.facts) := by
  intro m g m' g' _ hargs
  refine ⟨fun c => (Cert.Kernel9Ideal.Gen.dats m 0 c).arrAt 5 Cert.Kernel9Ideal.cfg0.N, fun c => (Cert.Kernel9Ideal.Gen.dats m 0 c).arrAt 6 Cert.Kernel9Ideal.cfg0.N,
    fun c => (fun _ : Cert.Kernel9Ideal.S_.Idx => lossEnd m c), fun c => (Cert.Kernel9Ideal.Gen.dats m 0 c).arrAt 8 Cert.Kernel9Ideal.cfg0.N,
    run_ends m g, ?_⟩
  refine (θ_run Cert.Reference9Ideal.defs _ _).mono (fun r h c => ?_) (Cert.Reference9Ideal.Value.run (F := Ideal) m' g')
  obtain ⟨a0, a1, a2, a3, a4⟩ := hargs c
  refine ⟨(h c).1.trans ?_, (h c).2.1.trans ?_, (h c).2.2.1.trans ?_, (h c).2.2.2.1.trans ?_, (h c).2.2.2.2⟩
  · rw [Cert.Reference9Ideal.Read.val_main_v52_eq, a0, a1, a2, a3, a4]
    refine Eq.trans (funext fun y => ?_) (final5 m c).symm
    refine (congrArg _ (eq_ix2 y)).trans ((ref_back _ _ _ _ _ (y 0) (y 1)).trans ?_)
    exact (back_eq _ _ (fun _ _ => 0) _ _ _).symm
  · rw [Cert.Reference9Ideal.Read.val_main_v53_eq, a0, a1, a2, a3, a4]
    refine Eq.trans (funext fun y => ?_) (final6 m c).symm
    refine (congrArg _ (eq_ix2 y)).trans ((ref_back_half _ _ _ _ _ (y 0) (y 1)).trans ?_)
    exact (back_eq _ _ (fun _ _ => 0) _ _ _).symm
  · rw [Cert.Reference9Ideal.Read.val_main_v27_eq, a0, a1, a2, a3, a4]
    exact ref_loss _ _ _ _ _
  · rw [Cert.Reference9Ideal.Read.val_main_v36_eq, a0, a1, a2, a3, a4]
    refine Eq.trans (funext fun y => ?_) (final8 m c).symm
    exact (congrArg _ (eq_ix2 y)).trans (ref_gain _ _ _ _ _ (y 0) (y 1))

end Cert.Loss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.MixClaim
public import proofs.«01_k».proof.Proof.FfnClaim
public import proofs.«01_k».proof.Proof.ScClaim
public import proofs.«01_k».proof.Proof.FirstClaim
public import proofs.«01_k».proof.Proof.RowsClaim
public import proofs.«01_k».proof.Proof.NormClaim
public import proofs.«01_k».proof.Proof.ColsClaim
public import proofs.«01_k».proof.Proof.RmsClaim
public import proofs.«01_k».proof.Proof.RmsForward
public import proofs.«01_k».proof.Proof.Adam12
public import proofs.«01_k».proof.Proof.Gen.Kernel12.Frame
public import proofs.«01_k».proof.Proof.Adam13
public import proofs.«01_k».proof.Proof.Gen.Kernel13.Frame
public import proofs.«01_k».proof.Proof.Adam14
public import proofs.«01_k».proof.Proof.Gen.Kernel14.Frame
public import proofs.«01_k».proof.Proof.Adam15
public import proofs.«01_k».proof.Proof.Gen.Kernel15.Frame
public import proofs.«01_k».proof.Proof.Adam16
public import proofs.«01_k».proof.Proof.Gen.Kernel16.Frame
public import proofs.«01_k».proof.Proof.Adam17
public import proofs.«01_k».proof.Proof.Gen.Kernel17.Frame
public import proofs.«01_k».proof.Proof.LossClaim
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel9.Frame
public import proofs.«01_k».proof.Proof.Gen.Kernel9Ideal.Frame
public import proofs.«01_k».proof.Proof.Gen.Kernel10.Frame
public import proofs.«01_k».proof.Proof.Gen.Kernel10Ideal.Frame
public import proofs.«01_k».proof.Proof.Gen.Kernel11.Frame
public import proofs.«01_k».proof.Proof.Gen.Kernel11Ideal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Pre_finite2.Gen.facts,
  fun m ρ _ => Cert.Kernel.Gen.frame m ρ, fun m ρ _ => Cert.KernelIdeal.Gen.frame m ρ, Cert.Mix.quiescent_reference,
  fun m ρ _ => Cert.Kernel2.Gen.frame m ρ, fun m ρ _ => Cert.Kernel2Ideal.Gen.frame m ρ, fun m ρ _ => Cert.Kernel2Ideal.Gen.frame m ρ,
  Cert.Ffn.quiescent_reference2, fun m ρ _ => Cert.Ffn.quiescent_reference2 m ρ trivial,
  fun m ρ _ => Cert.Kernel3.Gen.frame m ρ, fun m ρ _ => Cert.Kernel3Ideal.Gen.frame m ρ, Cert.Ffn.quiescent_reference3,
  fun m ρ _ => Cert.Kernel4.Gen.frame m ρ, fun m ρ _ => Cert.Kernel4Ideal.Gen.frame m ρ, Cert.Sc.quiescent_reference4,
  fun m ρ _ => Cert.Kernel5.Gen.frame m ρ, fun m ρ _ => Cert.Kernel5Ideal.Gen.frame m ρ, Cert.First.quiescent_reference5,
  fun m ρ _ => Cert.Kernel6.Gen.frame m ρ, fun m ρ _ => Cert.Kernel6Ideal.Gen.frame m ρ, Cert.Rows.quiescent_reference6,
  fun m ρ _ => Cert.Kernel7.Gen.frame m ρ, fun m ρ _ => Cert.Kernel7Ideal.Gen.frame m ρ, Cert.Norm.quiescent_reference7,
  fun m ρ _ => Cert.Kernel8.Gen.frame m ρ, fun m ρ _ => Cert.Kernel8Ideal.Gen.frame m ρ, Cert.Cols.quiescent_reference8,
  fun m ρ _ => Cert.Kernel9.Gen.frame m ρ, fun m ρ _ => Cert.Kernel9Ideal.Gen.frame m ρ, Cert.Loss.quiescent_reference9,
  fun m ρ _ => Cert.Kernel10.Gen.frame m ρ, fun m ρ _ => Cert.Kernel10Ideal.Gen.frame m ρ, Cert.Rms.quiescent_reference10,
  fun m ρ _ => Cert.Kernel11.Gen.frame m ρ, fun m ρ _ => Cert.Kernel11Ideal.Gen.frame m ρ, Cert.RmsForward.quiescent_reference11,
  fun m ρ _ => Cert.Kernel12.Gen.frame m ρ, fun m ρ _ => Cert.Kernel12Ideal.Gen.frame m ρ, Cert.Adam12.quiescent_reference12,
  fun m ρ _ => Cert.Kernel13.Gen.frame m ρ, fun m ρ _ => Cert.Kernel13Ideal.Gen.frame m ρ, Cert.Adam13.quiescent_reference13,
  fun m ρ _ => Cert.Kernel14.Gen.frame m ρ, fun m ρ _ => Cert.Kernel14Ideal.Gen.frame m ρ, Cert.Adam14.quiescent_reference14,
  fun m ρ _ => Cert.Kernel15.Gen.frame m ρ, fun m ρ _ => Cert.Kernel15Ideal.Gen.frame m ρ, Cert.Adam15.quiescent_reference15,
  fun m ρ _ => Cert.Kernel16.Gen.frame m ρ, fun m ρ _ => Cert.Kernel16Ideal.Gen.frame m ρ, Cert.Adam16.quiescent_reference16,
  fun m ρ _ => Cert.Kernel17.Gen.frame m ρ, fun m ρ _ => Cert.Kernel17Ideal.Gen.frame m ρ, Cert.Adam17.quiescent_reference17,
  trivial, Cert.Mix.algebraic, trivial, Cert.Ffn.algebraic2, trivial, Cert.Ffn.algebraic3,
  trivial, Cert.Sc.algebraic4, trivial, Cert.First.algebraic5, trivial, Cert.Rows.algebraic6, trivial, Cert.Norm.algebraic7, trivial, Cert.Cols.algebraic8, trivial, Cert.Loss.algebraic9,
  trivial, Cert.Rms.algebraic10, trivial, Cert.RmsForward.algebraic11,
  Cert.Adam12.preserves12, Cert.Adam12.algebraic12,
  Cert.Adam13.preserves13, Cert.Adam13.algebraic13,
  Cert.Adam14.preserves14, Cert.Adam14.algebraic14,
  Cert.Adam15.preserves15, Cert.Adam15.algebraic15,
  Cert.Adam16.preserves16, Cert.Adam16.algebraic16,
  Cert.Adam17.preserves17, Cert.Adam17.algebraic17⟩

end Cert.Proof

end
